-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_table_KernelIdeal [hPre_in_table_KernelIdeal : Cert.Pre_in_table_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_in_table_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_table_ReferenceIdeal [hPre_in_table_ReferenceIdeal : Cert.Pre_in_table_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_table_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_table_KernelIdeal [hKernelIdeal : Cert.KernelIdeal.Facts] [hPre_in_table_KernelIdeal : Cert.Pre_in_table_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_table_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_table_ReferenceIdeal [hReferenceIdeal : Cert.ReferenceIdeal.Facts] [hPre_in_table_ReferenceIdeal : Cert.Pre_in_table_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_table_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_table_KernelIdeal [hKernelIdeal : Cert.KernelIdeal.Facts] [hReferenceIdeal : Cert.ReferenceIdeal.Facts] [hPre_in_table_KernelIdeal : Cert.Pre_in_table_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_table_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![16384, 1024]⟩ ⟨2, ![65536, 1024]⟩ (Layout.meshBlock [2, 2, 4] ![[2], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_table_KernelIdeal : Cert.Pre_in_table_KernelIdeal.Facts) (hPre_in_table_ReferenceIdeal : Cert.Pre_in_table_ReferenceIdeal.Facts),
    quiescent_Kernel (hKernel := hKernel)
    ∧ quiescent_KernelIdeal (hKernelIdeal := hKernelIdeal)
    ∧ quiescent_KernelIdeal_pre_in_table_KernelIdeal (hKernelIdeal := hKernelIdeal) (hPre_in_table_KernelIdeal := hPre_in_table_KernelIdeal)
    ∧ quiescent_ReferenceIdeal (hReferenceIdeal := hReferenceIdeal)
    ∧ quiescent_ReferenceIdeal_pre_in_table_ReferenceIdeal (hReferenceIdeal := hReferenceIdeal) (hPre_in_table_ReferenceIdeal := hPre_in_table_ReferenceIdeal)
    ∧ preserves_Kernel_KernelIdeal
    ∧ algebraic_KernelIdeal_ReferenceIdeal_pre_in_table_KernelIdeal (hKernelIdeal := hKernelIdeal) (hReferenceIdeal := hReferenceIdeal) (hPre_in_table_KernelIdeal := hPre_in_table_KernelIdeal)
-- ==== Pre_in_table_KernelIdeal.lean ====
abbrev S2048 : Shape := ⟨1, ![2048]⟩
abbrev S16384x1024 : Shape := ⟨2, ![16384, 1024]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel

variable [Facts]

def fn {F : FTy → Type} [FloatOps F] (main_arg0 : IVec S2048 32) (main_arg1 : FVec F S16384x1024 .f32) : IVec S_ 1 :=
  let main_c : IVec S_ 32 := constantI S_ 32 0#32
  let main_v0 : IVec S2048 32 := broadcastInDim S2048 ![] bcast_S_S2048 main_c
  let main_v1 : IVec S2048 1 := cmpi .sge main_arg0 main_v0
  let main_c_0 : IVec S_ 32 := constantI S_ 32 65536#32
  let main_v2 : IVec S2048 32 := broadcastInDim S2048 ![] bcast_S_S2048 main_c_0
  let main_v3 : IVec S2048 1 := cmpi .slt main_arg0 main_v2
  let main_v4 : IVec S2048 1 := andi main_v1 main_v3
  let main_c_1 : IVec S_ 1 := constantI S_ 1 1#1
  let main_v5 : IVec S_ 1 := (fun x v => Host.reduce IntOp.andi x v reducesTo_S2048_S_d0 h_S_) main_v4 main_c_1
  main_v5
-- ==== Pre_in_table_ReferenceIdeal.lean ====
abbrev S2048 : Shape := ⟨1, ![2048]⟩
abbrev S65536x1024 : Shape := ⟨2, ![65536, 1024]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel

variable [Facts]

def fn {F : FTy → Type} [FloatOps F] (main_arg0 : IVec S2048 32) (main_arg1 : FVec F S65536x1024 .f32) : IVec S_ 1 :=
  let main_c : IVec S_ 32 := constantI S_ 32 0#32
  let main_v0 : IVec S2048 32 := broadcastInDim S2048 ![] bcast_S_S2048 main_c
  let main_v1 : IVec S2048 1 := cmpi .sge main_arg0 main_v0
  let main_c_0 : IVec S_ 32 := constantI S_ 32 65536#32
  let main_v2 : IVec S2048 32 := broadcastInDim S2048 ![] bcast_S_S2048 main_c_0
  let main_v3 : IVec S2048 1 := cmpi .slt main_arg0 main_v2
  let main_v4 : IVec S2048 1 := andi main_v1 main_v3
  let main_c_1 : IVec S_ 1 := constantI S_ 1 1#1
  let main_v5 : IVec S_ 1 := (fun x v => Host.reduce IntOp.andi x v reducesTo_S2048_S_d0 h_S_) main_v4 main_c_1
  main_v5
-- ==== Kernel.lean ====
abbrev S2048 : Shape := ⟨1, ![2048]⟩
abbrev S16384x1024 : Shape := ⟨2, ![16384, 1024]⟩
abbrev S2048x1024 : Shape := ⟨2, ![2048, 1024]⟩
abbrev S512x1024 : Shape := ⟨2, ![512, 1024]⟩
abbrev S16 : Shape := ⟨1, ![16]⟩
abbrev S4x128x1024 : Shape := ⟨3, ![4, 128, 1024]⟩
abbrev S3 : Shape := ⟨1, ![3]⟩
abbrev S4 : Shape := ⟨1, ![4]⟩
abbrev S256x1024 : Shape := ⟨2, ![256, 1024]⟩
abbrev S4x4 : Shape := ⟨2, ![4, 4]⟩
abbrev S_ : Shape := ⟨0, ![]⟩
abbrev S1 : Shape := ⟨1, ![1]⟩
abbrev S1x1024 : Shape := ⟨2, ![1, 1024]⟩
abbrev S1024 : Shape := ⟨1, ![1024]⟩
abbrev S1x128x1024 : Shape := ⟨3, ![1, 128, 1024]⟩
abbrev S128x1024 : Shape := ⟨2, ![128, 1024]⟩
abbrev S1x1 : Shape := ⟨2, ![1, 1]⟩
abbrev S64x1024 : Shape := ⟨2, ![64, 1024]⟩

abbrev nBuf : Space → Nat
  | .hbm => 3
  | .vmem => 8
  | .smem => 1
  | _ => 0

abbrev bufTy : (tb : Table) → Fin (tcTables nBuf tb) → BufTy
  | .hbm, ⟨0, _⟩ => ⟨S2048, .i32⟩
  | .hbm, ⟨1, _⟩ => ⟨S16384x1024, .f32⟩
  | .hbm, ⟨2, _⟩ => ⟨S2048x1024, .f32⟩
  | .local _ .vmem, ⟨0, _⟩ => ⟨S2048x1024, .f32⟩
  | .local _ .vmem, ⟨1, _⟩ => ⟨S512x1024, .f32⟩
  | .local _ .vmem, ⟨2, _⟩ => ⟨S512x1024, .f32⟩
  | .local _ .vmem, ⟨3, _⟩ => ⟨S4x128x1024, .f32⟩
  | .local _ .vmem, ⟨4, _⟩ => ⟨S512x1024, .f32⟩
  | .local _ .vmem, ⟨5, _⟩ => ⟨S512x1024, .f32⟩
  | .local _ .vmem, ⟨6, _⟩ => ⟨S256x1024, .f32⟩
  | .local _ .vmem, ⟨7, _⟩ => ⟨S256x1024, .f32⟩
  | .local _ .smem, ⟨0, _⟩ => ⟨S2048, .i32⟩
  | _, _ => ⟨S2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 2 → Bool
  | ⟨0, _⟩ => false
  | ⟨1, _⟩ => true
  | _ => false

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  (ofTc nBuf bufTy 2 64 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg1_0 : Ref sig .tc := ⟨.vmem, 0, rfl⟩
abbrev cc0_scratch0 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch8 : Ref sig .tc := ⟨.vmem, 4, rfl⟩
abbrev cc0_scratch9 : Ref sig .tc := ⟨.vmem, 5, rfl⟩
abbrev cc0_scratch10 : Ref sig .tc := ⟨.vmem, 6, rfl⟩
abbrev cc0_scratch11 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_61 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_60 : BitVec 32 := 8#32
  let v103 : BitVec 32 := Scalar.muli v2 c8_i32_60
  let v104 : BitVec 32 := Scalar.addi c0_i32_61 v103
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_62 : BitVec 32 := 4#32
  let v105 : BitVec 32 := Scalar.muli v5 c4_i32_62
  let v106 : BitVec 32 := Scalar.addi v104 v105
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_40 : BitVec 32 := 1#32
  let v80 : BitVec 32 := Scalar.addi v8 c1_i32_40
  let c4_i32_41 : BitVec 32 := 4#32
  let v81 : BitVec 32 := Scalar.remsi v80 c4_i32_41
  let c1_i32_63 : BitVec 32 := 1#32
  let v107 : BitVec 32 := Scalar.muli v81 c1_i32_63
  let v108 : BitVec 32 := Scalar.addi v106 v107
  v108.toNat
def k0_dev2 (d0 : Dev nD) : Nat :=
  let c0_i32_66 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_65 : BitVec 32 := 8#32
  let v109 : BitVec 32 := Scalar.muli v2 c8_i32_65
  let v110 : BitVec 32 := Scalar.addi c0_i32_66 v109
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_67 : BitVec 32 := 4#32
  let v111 : BitVec 32 := Scalar.muli v5 c4_i32_67
  let v112 : BitVec 32 := Scalar.addi v110 v111
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_42 : BitVec 32 := 2#32
  let v82 : BitVec 32 := Scalar.addi v8 c2_i32_42
  let c4_i32_43 : BitVec 32 := 4#32
  let v83 : BitVec 32 := Scalar.remsi v82 c4_i32_43
  let c1_i32_68 : BitVec 32 := 1#32
  let v113 : BitVec 32 := Scalar.muli v83 c1_i32_68
  let v114 : BitVec 32 := Scalar.addi v112 v113
  v114.toNat
def k0_dev3 (d0 : Dev nD) : Nat :=
  let c0_i32_71 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_70 : BitVec 32 := 8#32
  let v115 : BitVec 32 := Scalar.muli v2 c8_i32_70
  let v116 : BitVec 32 := Scalar.addi c0_i32_71 v115
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_72 : BitVec 32 := 4#32
  let v117 : BitVec 32 := Scalar.muli v5 c4_i32_72
  let v118 : BitVec 32 := Scalar.addi v116 v117
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v84 : BitVec 32 := Scalar.addi v8 c3_i32
  let c4_i32_44 : BitVec 32 := 4#32
  let v85 : BitVec 32 := Scalar.remsi v84 c4_i32_44
  let c1_i32_73 : BitVec 32 := 1#32
  let v119 : BitVec 32 := Scalar.muli v85 c1_i32_73
  let v120 : BitVec 32 := Scalar.addi v118 v119
  v120.toNat
def k0_dev4 (d0 : Dev nD) : Nat :=
  let c0_i32_76 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c4_i32_17 : BitVec 32 := 4#32
  let v42 : BitVec 32 := Scalar.addi v11 c4_i32_17
  let c1_i32_18 : BitVec 32 := 1#32
  let v43 : BitVec 32 := Scalar.subi v42 c1_i32_18
  let c4_i32_19 : BitVec 32 := 4#32
  let v44 : BitVec 32 := Scalar.remsi v43 c4_i32_19
  let c0_i32_21 : BitVec 32 := 0#32
  let v46 : BitVec 1 := Scalar.cmpi .sgt v44 c0_i32_21
  let v47 : BitVec 32 := Scalar.extui v46
  let c0_i32_22 : BitVec 32 := 0#32
  let v48 : BitVec 1 := Scalar.cmpi .slt v44 c0_i32_22
  let v49 : BitVec 32 := Scalar.extui v48
  let v50 : BitVec 32 := Scalar.subi v47 v49
  let c2_i32_20 : BitVec 32 := 2#32
  let c0_i32_23 : BitVec 32 := 0#32
  let v51 : BitVec 1 := Scalar.cmpi .sgt c2_i32_20 c0_i32_23
  let v52 : BitVec 32 := Scalar.extui v51
  let c0_i32_24 : BitVec 32 := 0#32
  let v53 : BitVec 1 := Scalar.cmpi .slt c2_i32_20 c0_i32_24
  let v54 : BitVec 32 := Scalar.extui v53
  let v55 : BitVec 32 := Scalar.subi v52 v54
  let v56 : BitVec 1 := Scalar.cmpi .ne v50 v55
  let v57 : BitVec 32 := Scalar.remsi v44 c2_i32_20
  let c0_i32_25 : BitVec 32 := 0#32
  let v58 : BitVec 1 := Scalar.cmpi .ne v57 c0_i32_25
  let v59 : BitVec 1 := Scalar.andi v56 v58
  let v45 : BitVec 32 := Scalar.divsi v44 c2_i32_20
  let c1_i32_26 : BitVec 32 := 1#32
  let v60 : BitVec 32 := Scalar.subi v45 c1_i32_26
  let v61 : BitVec 32 := Scalar.select v59 v60 v45
  let c8_i32_75 : BitVec 32 := 8#32
  let v121 : BitVec 32 := Scalar.muli v61 c8_i32_75
  let v122 : BitVec 32 := Scalar.addi c0_i32_76 v121
  let c2_i32_27 : BitVec 32 := 2#32
  let c0_i32_28 : BitVec 32 := 0#32
  let v62 : BitVec 1 := Scalar.cmpi .eq c2_i32_27 c0_i32_28
  let c1_i32_29 : BitVec 32 := 1#32
  let v63 : BitVec 32 := Scalar.select v62 c1_i32_29 c2_i32_27
  let v64 : BitVec 32 := Scalar.remsi v44 v63
  let c0_i32_31 : BitVec 32 := 0#32
  let v66 : BitVec 1 := Scalar.cmpi .slt v64 c0_i32_31
  let c0_i32_32 : BitVec 32 := 0#32
  let v67 : BitVec 1 := Scalar.cmpi .slt v63 c0_i32_32
  let v68 : BitVec 1 := Scalar.xori v66 v67
  let c0_i32_30 : BitVec 32 := 0#32
  let v65 : BitVec 1 := Scalar.cmpi .ne v64 c0_i32_30
  let v69 : BitVec 1 := Scalar.andi v68 v65
  let v70 : BitVec 32 := Scalar.addi v64 v63
  let v71 : BitVec 32 := Scalar.select v69 v70 v64
  let v72 : BitVec 32 := Scalar.xori v61 v71
  let c4_i32_77 : BitVec 32 := 4#32
  let v123 : BitVec 32 := Scalar.muli v72 c4_i32_77
  let v124 : BitVec 32 := Scalar.addi v122 v123
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_78 : BitVec 32 := 1#32
  let v125 : BitVec 32 := Scalar.muli v8 c1_i32_78
  let v126 : BitVec 32 := Scalar.addi v124 v125
  v126.toNat
def k0_dev5 (d0 : Dev nD) : Nat :=
  let c0_i32_81 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c1_i32_3 : BitVec 32 := 1#32
  let v12 : BitVec 32 := Scalar.addi v11 c1_i32_3
  let c4_i32_4 : BitVec 32 := 4#32
  let v13 : BitVec 32 := Scalar.remsi v12 c4_i32_4
  let c0_i32 : BitVec 32 := 0#32
  let v15 : BitVec 1 := Scalar.cmpi .sgt v13 c0_i32
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32_5 : BitVec 32 := 2#32
  let c0_i32_7 : BitVec 32 := 0#32
  let v20 : BitVec 1 := Scalar.cmpi .sgt c2_i32_5 c0_i32_7
  let v21 : BitVec 32 := Scalar.extui v20
  let c0_i32_8 : BitVec 32 := 0#32
  let v22 : BitVec 1 := Scalar.cmpi .slt c2_i32_5 c0_i32_8
  let v23 : BitVec 32 := Scalar.extui v22
  let v24 : BitVec 32 := Scalar.subi v21 v23
  let v25 : BitVec 1 := Scalar.cmpi .ne v19 v24
  let v26 : BitVec 32 := Scalar.remsi v13 c2_i32_5
  let c0_i32_9 : BitVec 32 := 0#32
  let v27 : BitVec 1 := Scalar.cmpi .ne v26 c0_i32_9
  let v28 : BitVec 1 := Scalar.andi v25 v27
  let v14 : BitVec 32 := Scalar.divsi v13 c2_i32_5
  let c1_i32_10 : BitVec 32 := 1#32
  let v29 : BitVec 32 := Scalar.subi v14 c1_i32_10
  let v30 : BitVec 32 := Scalar.select v28 v29 v14
  let c8_i32_80 : BitVec 32 := 8#32
  let v127 : BitVec 32 := Scalar.muli v30 c8_i32_80
  let v128 : BitVec 32 := Scalar.addi c0_i32_81 v127
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v13 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v41 : BitVec 32 := Scalar.xori v30 v40
  let c4_i32_82 : BitVec 32 := 4#32
  let v129 : BitVec 32 := Scalar.muli v41 c4_i32_82
  let v130 : BitVec 32 := Scalar.addi v128 v129
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_83 : BitVec 32 := 1#32
  let v131 : BitVec 32 := Scalar.muli v8 c1_i32_83
  let v132 : BitVec 32 := Scalar.addi v130 v131
  v132.toNat
@[reducible] def k0_t1_loop : Scf.Loop 32 :=
  let c0_i32_84 : BitVec 32 := 0#32
  let c128_i32_85 : BitVec 32 := 128#32
  let v134 : BitVec 32 := Scalar.addi c0_i32_84 c128_i32_85
  let c1_i32_86 : BitVec 32 := 1#32
  ⟨c0_i32_84, v134, c1_i32_86⟩
def k0_off1 (d0 : Dev nD) (k0_t1 : Fin k0_t1_loop.trips) : Fin 1 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c512_i32 : BitVec 32 := 512#32
  let v97 : BitVec 32 := Scalar.muli v11 c512_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_45 : BitVec 32 := 1#32
  let v86 : BitVec 1 := Scalar.cmpi .sle v8 c1_i32_45
  let c3_i32_46 : BitVec 32 := 3#32
  let c0_i32_47 : BitVec 32 := 0#32
  let v87 : BitVec 32 := Scalar.select v86 c3_i32_46 c0_i32_47
  let c128_i32 : BitVec 32 := 128#32
  let v133 : BitVec 32 := Scalar.muli v87 c128_i32
  let c0_i32_84 : BitVec 32 := 0#32
  let c1_i32_86 : BitVec 32 := 1#32
  let arg17 : BitVec 32 := Scf.iv c0_i32_84 c1_i32_86 k0_t1
  let c16_i32_709 : BitVec 32 := 16#32
  let v936 : BitVec 32 := Scalar.subi arg17 c16_i32_709
  let c0_i32_710 : BitVec 32 := 0#32
  let v937 : BitVec 32 := Scalar.maxsi v936 c0_i32_710
  let v938 : BitVec 32 := Scalar.addi v133 v937
  let v939 : BitVec 32 := Scalar.addi v97 v938
  let v940 : Index := Scalar.indexCast v939
  ![v940.toNat]
def k0_off2 (d0 : Dev nD) (k0_t1 : Fin k0_t1_loop.trips) : Fin 1 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c512_i32 : BitVec 32 := 512#32
  let v97 : BitVec 32 := Scalar.muli v11 c512_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_45 : BitVec 32 := 1#32
  let v86 : BitVec 1 := Scalar.cmpi .sle v8 c1_i32_45
  let c3_i32_46 : BitVec 32 := 3#32
  let c0_i32_47 : BitVec 32 := 0#32
  let v87 : BitVec 32 := Scalar.select v86 c3_i32_46 c0_i32_47
  let c128_i32 : BitVec 32 := 128#32
  let v133 : BitVec 32 := Scalar.muli v87 c128_i32
  let c0_i32_84 : BitVec 32 := 0#32
  let c1_i32_86 : BitVec 32 := 1#32
  let arg17 : BitVec 32 := Scf.iv c0_i32_84 c1_i32_86 k0_t1
  let c16_i32_709 : BitVec 32 := 16#32
  let v936 : BitVec 32 := Scalar.subi arg17 c16_i32_709
  let c0_i32_710 : BitVec 32 := 0#32
  let v937 : BitVec 32 := Scalar.maxsi v936 c0_i32_710
  let v938 : BitVec 32 := Scalar.addi v133 v937
  let v959 : BitVec 32 := Scalar.addi v97 v938
  let v960 : Index := Scalar.indexCast v959
  ![v960.toNat]
def k0_off3 (d0 : Dev nD) (k0_t1 : Fin k0_t1_loop.trips) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_45 : BitVec 32 := 1#32
  let v86 : BitVec 1 := Scalar.cmpi .sle v8 c1_i32_45
  let c3_i32_46 : BitVec 32 := 3#32
  let c0_i32_47 : BitVec 32 := 0#32
  let v87 : BitVec 32 := Scalar.select v86 c3_i32_46 c0_i32_47
  let c128_i32 : BitVec 32 := 128#32
  let v133 : BitVec 32 := Scalar.muli v87 c128_i32
  let c0_i32_84 : BitVec 32 := 0#32
  let c1_i32_86 : BitVec 32 := 1#32
  let arg17 : BitVec 32 := Scf.iv c0_i32_84 c1_i32_86 k0_t1
  let c16_i32_709 : BitVec 32 := 16#32
  let v936 : BitVec 32 := Scalar.subi arg17 c16_i32_709
  let c0_i32_710 : BitVec 32 := 0#32
  let v937 : BitVec 32 := Scalar.maxsi v936 c0_i32_710
  let v938 : BitVec 32 := Scalar.addi v133 v937
  let c16_i32_718 : BitVec 32 := 16#32
  let v963 : BitVec 32 := Scalar.remsi v938 c16_i32_718
  ![v963.toNat]
def k0_off4 (d0 : Dev nD) (k0_t1 : Fin k0_t1_loop.trips) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_45 : BitVec 32 := 1#32
  let v86 : BitVec 1 := Scalar.cmpi .sle v8 c1_i32_45
  let c3_i32_46 : BitVec 32 := 3#32
  let c0_i32_47 : BitVec 32 := 0#32
  let v87 : BitVec 32 := Scalar.select v86 c3_i32_46 c0_i32_47
  let c128_i32 : BitVec 32 := 128#32
  let v133 : BitVec 32 := Scalar.muli v87 c128_i32
  let c0_i32_84 : BitVec 32 := 0#32
  let c1_i32_86 : BitVec 32 := 1#32
  let arg17 : BitVec 32 := Scf.iv c0_i32_84 c1_i32_86 k0_t1
  let c16_i32_709 : BitVec 32 := 16#32
  let v936 : BitVec 32 := Scalar.subi arg17 c16_i32_709
  let c0_i32_710 : BitVec 32 := 0#32
  let v937 : BitVec 32 := Scalar.maxsi v936 c0_i32_710
  let v938 : BitVec 32 := Scalar.addi v133 v937
  let c0_i32_719 : BitVec 32 := 0#32
  ![v938.toNat, 0]
def k0_off5 (d0 : Dev nD) (v961 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c16384_i32 : BitVec 32 := 16384#32
  let v96 : BitVec 32 := Scalar.muli v8 c16384_i32
  let v962 : BitVec 32 := Scalar.subi v961 v96
  let c0_i32_720 : BitVec 32 := 0#32
  ![v962.toNat, 0]
def k0_cond1 (d0 : Dev nD) (k0_t1 : Fin k0_t1_loop.trips) (v941 : BitVec 32) : BitVec 1 :=
  let c0_i32_84 : BitVec 32 := 0#32
  let c1_i32_86 : BitVec 32 := 1#32
  let arg17 : BitVec 32 := Scf.iv c0_i32_84 c1_i32_86 k0_t1
  let c16_i32_713 : BitVec 32 := 16#32
  let v946 : BitVec 1 := Scalar.cmpi .sge arg17 c16_i32_713
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c16384_i32 : BitVec 32 := 16384#32
  let v96 : BitVec 32 := Scalar.muli v8 c16384_i32
  let v942 : BitVec 32 := Scalar.subi v941 v96
  let c0_i32_711 : BitVec 32 := 0#32
  let v943 : BitVec 1 := Scalar.cmpi .sge v942 c0_i32_711
  let c16384_i32_712 : BitVec 32 := 16384#32
  let v944 : BitVec 1 := Scalar.cmpi .slt v942 c16384_i32_712
  let v945 : BitVec 1 := Scalar.andi v943 v944
  let v947 : BitVec 1 := Scalar.andi v946 v945
  let v948 : BitVec 32 := Scalar.extui v947
  let c0_i32_714 : BitVec 32 := 0#32
  let v949 : BitVec 1 := Scalar.cmpi .ne v948 c0_i32_714
  v949

def k0_chk1 (d0 : Dev nD) (k0_t1 : Fin k0_t1_loop.trips) (v941 : BitVec 32) (v961 : BitVec 32) : Prop :=
  (∀ (k0_h1 : k0_cond1 d0 k0_t1 v941 = 1#1), ∀ a, (k0_off5 d0 v961) a + S1x1024.size a ≤ S16384x1024.size a)
theorem k0_off5_inb : ∀ (d0 : Dev nD) (k0_t1 : Fin k0_t1_loop.trips) (v941 : BitVec 32) (v961 : BitVec 32) (k0_hw1 : k0_chk1 d0 k0_t1 v941 v961), ∀ (k0_h1 : k0_cond1 d0 k0_t1 v941 = 1#1), ∀ a, (k0_off5 d0 v961) a + S1x1024.size a ≤ S16384x1024.size a := fun d0 k0_t1 v941 v961 k0_hw1 k0_h1 => k0_hw1 k0_h1

def k0_off6 (d0 : Dev nD) (k0_t1 : Fin k0_t1_loop.trips) : Fin 1 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c512_i32 : BitVec 32 := 512#32
  let v97 : BitVec 32 := Scalar.muli v11 c512_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_45 : BitVec 32 := 1#32
  let v86 : BitVec 1 := Scalar.cmpi .sle v8 c1_i32_45
  let c3_i32_46 : BitVec 32 := 3#32
  let c0_i32_47 : BitVec 32 := 0#32
  let v87 : BitVec 32 := Scalar.select v86 c3_i32_46 c0_i32_47
  let c128_i32 : BitVec 32 := 128#32
  let v133 : BitVec 32 := Scalar.muli v87 c128_i32
  let c0_i32_84 : BitVec 32 := 0#32
  let c1_i32_86 : BitVec 32 := 1#32
  let arg17 : BitVec 32 := Scf.iv c0_i32_84 c1_i32_86 k0_t1
  let v935 : BitVec 32 := Scalar.addi v133 arg17
  let v950 : BitVec 32 := Scalar.addi v97 v935
  let v951 : Index := Scalar.indexCast v950
  ![v951.toNat]
def k0_off7 (d0 : Dev nD) (k0_t1 : Fin k0_t1_loop.trips) : Fin 1 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c512_i32 : BitVec 32 := 512#32
  let v97 : BitVec 32 := Scalar.muli v11 c512_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_45 : BitVec 32 := 1#32
  let v86 : BitVec 1 := Scalar.cmpi .sle v8 c1_i32_45
  let c3_i32_46 : BitVec 32 := 3#32
  let c0_i32_47 : BitVec 32 := 0#32
  let v87 : BitVec 32 := Scalar.select v86 c3_i32_46 c0_i32_47
  let c128_i32 : BitVec 32 := 128#32
  let v133 : BitVec 32 := Scalar.muli v87 c128_i32
  let c0_i32_84 : BitVec 32 := 0#32
  let c1_i32_86 : BitVec 32 := 1#32
  let arg17 : BitVec 32 := Scf.iv c0_i32_84 c1_i32_86 k0_t1
  let v935 : BitVec 32 := Scalar.addi v133 arg17
  let v959 : BitVec 32 := Scalar.addi v97 v935
  let v960 : Index := Scalar.indexCast v959
  ![v960.toNat]
def k0_off8 (d0 : Dev nD) (k0_t1 : Fin k0_t1_loop.trips) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_45 : BitVec 32 := 1#32
  let v86 : BitVec 1 := Scalar.cmpi .sle v8 c1_i32_45
  let c3_i32_46 : BitVec 32 := 3#32
  let c0_i32_47 : BitVec 32 := 0#32
  let v87 : BitVec 32 := Scalar.select v86 c3_i32_46 c0_i32_47
  let c128_i32 : BitVec 32 := 128#32
  let v133 : BitVec 32 := Scalar.muli v87 c128_i32
  let c0_i32_84 : BitVec 32 := 0#32
  let c1_i32_86 : BitVec 32 := 1#32
  let arg17 : BitVec 32 := Scf.iv c0_i32_84 c1_i32_86 k0_t1
  let v935 : BitVec 32 := Scalar.addi v133 arg17
  let c16_i32_718 : BitVec 32 := 16#32
  let v963 : BitVec 32 := Scalar.remsi v935 c16_i32_718
  ![v963.toNat]
def k0_off9 (d0 : Dev nD) (k0_t1 : Fin k0_t1_loop.trips) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_45 : BitVec 32 := 1#32
  let v86 : BitVec 1 := Scalar.cmpi .sle v8 c1_i32_45
  let c3_i32_46 : BitVec 32 := 3#32
  let c0_i32_47 : BitVec 32 := 0#32
  let v87 : BitVec 32 := Scalar.select v86 c3_i32_46 c0_i32_47
  let c128_i32 : BitVec 32 := 128#32
  let v133 : BitVec 32 := Scalar.muli v87 c128_i32
  let c0_i32_84 : BitVec 32 := 0#32
  let c1_i32_86 : BitVec 32 := 1#32
  let arg17 : BitVec 32 := Scf.iv c0_i32_84 c1_i32_86 k0_t1
  let v935 : BitVec 32 := Scalar.addi v133 arg17
  let c0_i32_719 : BitVec 32 := 0#32
  ![v935.toNat, 0]
def k0_off10 (d0 : Dev nD) (v961 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c16384_i32 : BitVec 32 := 16384#32
  let v96 : BitVec 32 := Scalar.muli v8 c16384_i32
  let v962 : BitVec 32 := Scalar.subi v961 v96
  let c0_i32_720 : BitVec 32 := 0#32
  ![v962.toNat, 0]
def k0_cond2 (d0 : Dev nD) (v952 : BitVec 32) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c16384_i32 : BitVec 32 := 16384#32
  let v96 : BitVec 32 := Scalar.muli v8 c16384_i32
  let v953 : BitVec 32 := Scalar.subi v952 v96
  let c0_i32_715 : BitVec 32 := 0#32
  let v954 : BitVec 1 := Scalar.cmpi .sge v953 c0_i32_715
  let c16384_i32_716 : BitVec 32 := 16384#32
  let v955 : BitVec 1 := Scalar.cmpi .slt v953 c16384_i32_716
  let v956 : BitVec 1 := Scalar.andi v954 v955
  let v957 : BitVec 32 := Scalar.extui v956
  let c0_i32_717 : BitVec 32 := 0#32
  let v958 : BitVec 1 := Scalar.cmpi .ne v957 c0_i32_717
  v958

def k0_chk2 (d0 : Dev nD) (v952 : BitVec 32) (v961 : BitVec 32) : Prop :=
  (∀ (k0_h2 : k0_cond2 d0 v952 = 1#1), ∀ a, (k0_off10 d0 v961) a + S1x1024.size a ≤ S16384x1024.size a)
theorem k0_off10_inb : ∀ (d0 : Dev nD) (v952 : BitVec 32) (v961 : BitVec 32) (k0_hw2 : k0_chk2 d0 v952 v961), ∀ (k0_h2 : k0_cond2 d0 v952 = 1#1), ∀ a, (k0_off10 d0 v961) a + S1x1024.size a ≤ S16384x1024.size a := fun d0 v952 v961 k0_hw2 k0_h2 => k0_hw2 k0_h2

@[reducible] def k0_t2_loop : Scf.Loop 32 :=
  let c0_i32_88 : BitVec 32 := 0#32
  let c16_i32 : BitVec 32 := 16#32
  let v135 : BitVec 32 := Scalar.addi c0_i32_88 c16_i32
  let c1_i32_89 : BitVec 32 := 1#32
  ⟨c0_i32_88, v135, c1_i32_89⟩
def k0_off11 (d0 : Dev nD) (k0_t2 : Fin k0_t2_loop.trips) : Fin 1 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c512_i32 : BitVec 32 := 512#32
  let v97 : BitVec 32 := Scalar.muli v11 c512_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_45 : BitVec 32 := 1#32
  let v86 : BitVec 1 := Scalar.cmpi .sle v8 c1_i32_45
  let c3_i32_46 : BitVec 32 := 3#32
  let c0_i32_47 : BitVec 32 := 0#32
  let v87 : BitVec 32 := Scalar.select v86 c3_i32_46 c0_i32_47
  let c128_i32 : BitVec 32 := 128#32
  let v133 : BitVec 32 := Scalar.muli v87 c128_i32
  let c128_i32_709 : BitVec 32 := 128#32
  let v935 : BitVec 32 := Scalar.addi v133 c128_i32_709
  let c16_i32_710 : BitVec 32 := 16#32
  let v936 : BitVec 32 := Scalar.subi v935 c16_i32_710
  let c0_i32_88 : BitVec 32 := 0#32
  let c1_i32_89 : BitVec 32 := 1#32
  let arg17 : BitVec 32 := Scf.iv c0_i32_88 c1_i32_89 k0_t2
  let v937 : BitVec 32 := Scalar.addi v936 arg17
  let v938 : BitVec 32 := Scalar.addi v97 v937
  let v939 : Index := Scalar.indexCast v938
  ![v939.toNat]
def k0_off12 (d0 : Dev nD) (k0_t2 : Fin k0_t2_loop.trips) : Fin 1 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c512_i32 : BitVec 32 := 512#32
  let v97 : BitVec 32 := Scalar.muli v11 c512_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_45 : BitVec 32 := 1#32
  let v86 : BitVec 1 := Scalar.cmpi .sle v8 c1_i32_45
  let c3_i32_46 : BitVec 32 := 3#32
  let c0_i32_47 : BitVec 32 := 0#32
  let v87 : BitVec 32 := Scalar.select v86 c3_i32_46 c0_i32_47
  let c128_i32 : BitVec 32 := 128#32
  let v133 : BitVec 32 := Scalar.muli v87 c128_i32
  let c128_i32_709 : BitVec 32 := 128#32
  let v935 : BitVec 32 := Scalar.addi v133 c128_i32_709
  let c16_i32_710 : BitVec 32 := 16#32
  let v936 : BitVec 32 := Scalar.subi v935 c16_i32_710
  let c0_i32_88 : BitVec 32 := 0#32
  let c1_i32_89 : BitVec 32 := 1#32
  let arg17 : BitVec 32 := Scf.iv c0_i32_88 c1_i32_89 k0_t2
  let v937 : BitVec 32 := Scalar.addi v936 arg17
  let v947 : BitVec 32 := Scalar.addi v97 v937
  let v948 : Index := Scalar.indexCast v947
  ![v948.toNat]
def k0_off13 (d0 : Dev nD) (k0_t2 : Fin k0_t2_loop.trips) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_45 : BitVec 32 := 1#32
  let v86 : BitVec 1 := Scalar.cmpi .sle v8 c1_i32_45
  let c3_i32_46 : BitVec 32 := 3#32
  let c0_i32_47 : BitVec 32 := 0#32
  let v87 : BitVec 32 := Scalar.select v86 c3_i32_46 c0_i32_47
  let c128_i32 : BitVec 32 := 128#32
  let v133 : BitVec 32 := Scalar.muli v87 c128_i32
  let c128_i32_709 : BitVec 32 := 128#32
  let v935 : BitVec 32 := Scalar.addi v133 c128_i32_709
  let c16_i32_710 : BitVec 32 := 16#32
  let v936 : BitVec 32 := Scalar.subi v935 c16_i32_710
  let c0_i32_88 : BitVec 32 := 0#32
  let c1_i32_89 : BitVec 32 := 1#32
  let arg17 : BitVec 32 := Scf.iv c0_i32_88 c1_i32_89 k0_t2
  let v937 : BitVec 32 := Scalar.addi v936 arg17
  let c16_i32_714 : BitVec 32 := 16#32
  let v951 : BitVec 32 := Scalar.remsi v937 c16_i32_714
  ![v951.toNat]
def k0_off14 (d0 : Dev nD) (k0_t2 : Fin k0_t2_loop.trips) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_45 : BitVec 32 := 1#32
  let v86 : BitVec 1 := Scalar.cmpi .sle v8 c1_i32_45
  let c3_i32_46 : BitVec 32 := 3#32
  let c0_i32_47 : BitVec 32 := 0#32
  let v87 : BitVec 32 := Scalar.select v86 c3_i32_46 c0_i32_47
  let c128_i32 : BitVec 32 := 128#32
  let v133 : BitVec 32 := Scalar.muli v87 c128_i32
  let c128_i32_709 : BitVec 32 := 128#32
  let v935 : BitVec 32 := Scalar.addi v133 c128_i32_709
  let c16_i32_710 : BitVec 32 := 16#32
  let v936 : BitVec 32 := Scalar.subi v935 c16_i32_710
  let c0_i32_88 : BitVec 32 := 0#32
  let c1_i32_89 : BitVec 32 := 1#32
  let arg17 : BitVec 32 := Scf.iv c0_i32_88 c1_i32_89 k0_t2
  let v937 : BitVec 32 := Scalar.addi v936 arg17
  let c0_i32_715 : BitVec 32 := 0#32
  ![v937.toNat, 0]
def k0_off15 (d0 : Dev nD) (v949 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c16384_i32 : BitVec 32 := 16384#32
  let v96 : BitVec 32 := Scalar.muli v8 c16384_i32
  let v950 : BitVec 32 := Scalar.subi v949 v96
  let c0_i32_716 : BitVec 32 := 0#32
  ![v950.toNat, 0]
def k0_cond3 (d0 : Dev nD) (v940 : BitVec 32) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c16384_i32 : BitVec 32 := 16384#32
  let v96 : BitVec 32 := Scalar.muli v8 c16384_i32
  let v941 : BitVec 32 := Scalar.subi v940 v96
  let c0_i32_711 : BitVec 32 := 0#32
  let v942 : BitVec 1 := Scalar.cmpi .sge v941 c0_i32_711
  let c16384_i32_712 : BitVec 32 := 16384#32
  let v943 : BitVec 1 := Scalar.cmpi .slt v941 c16384_i32_712
  let v944 : BitVec 1 := Scalar.andi v942 v943
  let v945 : BitVec 32 := Scalar.extui v944
  let c0_i32_713 : BitVec 32 := 0#32
  let v946 : BitVec 1 := Scalar.cmpi .ne v945 c0_i32_713
  v946

def k0_chk3 (d0 : Dev nD) (v940 : BitVec 32) (v949 : BitVec 32) : Prop :=
  (∀ (k0_h3 : k0_cond3 d0 v940 = 1#1), ∀ a, (k0_off15 d0 v949) a + S1x1024.size a ≤ S16384x1024.size a)
theorem k0_off15_inb : ∀ (d0 : Dev nD) (v940 : BitVec 32) (v949 : BitVec 32) (k0_hw3 : k0_chk3 d0 v940 v949), ∀ (k0_h3 : k0_cond3 d0 v940 = 1#1), ∀ a, (k0_off15 d0 v949) a + S1x1024.size a ≤ S16384x1024.size a := fun d0 v940 v949 k0_hw3 k0_h3 => k0_hw3 k0_h3

def k0_off16 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  ![v8.toNat]
def k0_off17 (d0 : Dev nD) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_97 : BitVec 32 := 0#32
  let c0_i32_98 : BitVec 32 := 0#32
  ![v8.toNat, 0, 0]
def k0_off18 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_45 : BitVec 32 := 1#32
  let v86 : BitVec 1 := Scalar.cmpi .sle v8 c1_i32_45
  let c3_i32_46 : BitVec 32 := 3#32
  let c0_i32_47 : BitVec 32 := 0#32
  let v87 : BitVec 32 := Scalar.select v86 c3_i32_46 c0_i32_47
  let c128_i32_91 : BitVec 32 := 128#32
  let v136 : BitVec 32 := Scalar.muli v87 c128_i32_91
  let c0_i32_99 : BitVec 32 := 0#32
  ![v136.toNat, 0]
def k0_dev6 (d0 : Dev nD) : Nat :=
  let c0_i32_94 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_93 : BitVec 32 := 8#32
  let v137 : BitVec 32 := Scalar.muli v2 c8_i32_93
  let v138 : BitVec 32 := Scalar.addi c0_i32_94 v137
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_95 : BitVec 32 := 4#32
  let v139 : BitVec 32 := Scalar.muli v5 c4_i32_95
  let v140 : BitVec 32 := Scalar.addi v138 v139
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_45 : BitVec 32 := 1#32
  let v86 : BitVec 1 := Scalar.cmpi .sle v8 c1_i32_45
  let c3_i32_46 : BitVec 32 := 3#32
  let c0_i32_47 : BitVec 32 := 0#32
  let v87 : BitVec 32 := Scalar.select v86 c3_i32_46 c0_i32_47
  let c1_i32_96 : BitVec 32 := 1#32
  let v141 : BitVec 32 := Scalar.muli v87 c1_i32_96
  let v142 : BitVec 32 := Scalar.addi v140 v141
  v142.toNat
@[reducible] def k0_t3_loop : Scf.Loop 32 :=
  let c0_i32_101 : BitVec 32 := 0#32
  let c128_i32_102 : BitVec 32 := 128#32
  let v151 : BitVec 32 := Scalar.addi c0_i32_101 c128_i32_102
  let c1_i32_103 : BitVec 32 := 1#32
  ⟨c0_i32_101, v151, c1_i32_103⟩
def k0_off19 (d0 : Dev nD) (k0_t3 : Fin k0_t3_loop.trips) : Fin 1 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c512_i32 : BitVec 32 := 512#32
  let v97 : BitVec 32 := Scalar.muli v11 c512_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_48 : BitVec 32 := 1#32
  let v88 : BitVec 1 := Scalar.cmpi .sle v8 c1_i32_48
  let c2_i32_52 : BitVec 32 := 2#32
  let c2_i32_49 : BitVec 32 := 2#32
  let v89 : BitVec 1 := Scalar.cmpi .eq v8 c2_i32_49
  let c3_i32_50 : BitVec 32 := 3#32
  let c1_i32_51 : BitVec 32 := 1#32
  let v90 : BitVec 32 := Scalar.select v89 c3_i32_50 c1_i32_51
  let v91 : BitVec 32 := Scalar.select v88 c2_i32_52 v90
  let c128_i32_100 : BitVec 32 := 128#32
  let v150 : BitVec 32 := Scalar.muli v91 c128_i32_100
  let c0_i32_101 : BitVec 32 := 0#32
  let c1_i32_103 : BitVec 32 := 1#32
  let arg17 : BitVec 32 := Scf.iv c0_i32_101 c1_i32_103 k0_t3
  let c16_i32_709 : BitVec 32 := 16#32
  let v936 : BitVec 32 := Scalar.subi arg17 c16_i32_709
  let c0_i32_710 : BitVec 32 := 0#32
  let v937 : BitVec 32 := Scalar.maxsi v936 c0_i32_710
  let v938 : BitVec 32 := Scalar.addi v150 v937
  let v939 : BitVec 32 := Scalar.addi v97 v938
  let v940 : Index := Scalar.indexCast v939
  ![v940.toNat]
def k0_off20 (d0 : Dev nD) (k0_t3 : Fin k0_t3_loop.trips) : Fin 1 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c512_i32 : BitVec 32 := 512#32
  let v97 : BitVec 32 := Scalar.muli v11 c512_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_48 : BitVec 32 := 1#32
  let v88 : BitVec 1 := Scalar.cmpi .sle v8 c1_i32_48
  let c2_i32_52 : BitVec 32 := 2#32
  let c2_i32_49 : BitVec 32 := 2#32
  let v89 : BitVec 1 := Scalar.cmpi .eq v8 c2_i32_49
  let c3_i32_50 : BitVec 32 := 3#32
  let c1_i32_51 : BitVec 32 := 1#32
  let v90 : BitVec 32 := Scalar.select v89 c3_i32_50 c1_i32_51
  let v91 : BitVec 32 := Scalar.select v88 c2_i32_52 v90
  let c128_i32_100 : BitVec 32 := 128#32
  let v150 : BitVec 32 := Scalar.muli v91 c128_i32_100
  let c0_i32_101 : BitVec 32 := 0#32
  let c1_i32_103 : BitVec 32 := 1#32
  let arg17 : BitVec 32 := Scf.iv c0_i32_101 c1_i32_103 k0_t3
  let c16_i32_709 : BitVec 32 := 16#32
  let v936 : BitVec 32 := Scalar.subi arg17 c16_i32_709
  let c0_i32_710 : BitVec 32 := 0#32
  let v937 : BitVec 32 := Scalar.maxsi v936 c0_i32_710
  let v938 : BitVec 32 := Scalar.addi v150 v937
  let v959 : BitVec 32 := Scalar.addi v97 v938
  let v960 : Index := Scalar.indexCast v959
  ![v960.toNat]
def k0_off21 (d0 : Dev nD) (k0_t3 : Fin k0_t3_loop.trips) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_48 : BitVec 32 := 1#32
  let v88 : BitVec 1 := Scalar.cmpi .sle v8 c1_i32_48
  let c2_i32_52 : BitVec 32 := 2#32
  let c2_i32_49 : BitVec 32 := 2#32
  let v89 : BitVec 1 := Scalar.cmpi .eq v8 c2_i32_49
  let c3_i32_50 : BitVec 32 := 3#32
  let c1_i32_51 : BitVec 32 := 1#32
  let v90 : BitVec 32 := Scalar.select v89 c3_i32_50 c1_i32_51
  let v91 : BitVec 32 := Scalar.select v88 c2_i32_52 v90
  let c128_i32_100 : BitVec 32 := 128#32
  let v150 : BitVec 32 := Scalar.muli v91 c128_i32_100
  let c0_i32_101 : BitVec 32 := 0#32
  let c1_i32_103 : BitVec 32 := 1#32
  let arg17 : BitVec 32 := Scf.iv c0_i32_101 c1_i32_103 k0_t3
  let c16_i32_709 : BitVec 32 := 16#32
  let v936 : BitVec 32 := Scalar.subi arg17 c16_i32_709
  let c0_i32_710 : BitVec 32 := 0#32
  let v937 : BitVec 32 := Scalar.maxsi v936 c0_i32_710
  let v938 : BitVec 32 := Scalar.addi v150 v937
  let c16_i32_718 : BitVec 32 := 16#32
  let v963 : BitVec 32 := Scalar.remsi v938 c16_i32_718
  ![v963.toNat]
def k0_off22 (d0 : Dev nD) (k0_t3 : Fin k0_t3_loop.trips) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_48 : BitVec 32 := 1#32
  let v88 : BitVec 1 := Scalar.cmpi .sle v8 c1_i32_48
  let c2_i32_52 : BitVec 32 := 2#32
  let c2_i32_49 : BitVec 32 := 2#32
  let v89 : BitVec 1 := Scalar.cmpi .eq v8 c2_i32_49
  let c3_i32_50 : BitVec 32 := 3#32
  let c1_i32_51 : BitVec 32 := 1#32
  let v90 : BitVec 32 := Scalar.select v89 c3_i32_50 c1_i32_51
  let v91 : BitVec 32 := Scalar.select v88 c2_i32_52 v90
  let c128_i32_100 : BitVec 32 := 128#32
  let v150 : BitVec 32 := Scalar.muli v91 c128_i32_100
  let c0_i32_101 : BitVec 32 := 0#32
  let c1_i32_103 : BitVec 32 := 1#32
  let arg17 : BitVec 32 := Scf.iv c0_i32_101 c1_i32_103 k0_t3
  let c16_i32_709 : BitVec 32 := 16#32
  let v936 : BitVec 32 := Scalar.subi arg17 c16_i32_709
  let c0_i32_710 : BitVec 32 := 0#32
  let v937 : BitVec 32 := Scalar.maxsi v936 c0_i32_710
  let v938 : BitVec 32 := Scalar.addi v150 v937
  let c0_i32_719 : BitVec 32 := 0#32
  ![v938.toNat, 0]
def k0_off23 (d0 : Dev nD) (v961 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c16384_i32 : BitVec 32 := 16384#32
  let v96 : BitVec 32 := Scalar.muli v8 c16384_i32
  let v962 : BitVec 32 := Scalar.subi v961 v96
  let c0_i32_720 : BitVec 32 := 0#32
  ![v962.toNat, 0]
def k0_cond4 (d0 : Dev nD) (k0_t3 : Fin k0_t3_loop.trips) (v941 : BitVec 32) : BitVec 1 :=
  let c0_i32_101 : BitVec 32 := 0#32
  let c1_i32_103 : BitVec 32 := 1#32
  let arg17 : BitVec 32 := Scf.iv c0_i32_101 c1_i32_103 k0_t3
  let c16_i32_713 : BitVec 32 := 16#32
  let v946 : BitVec 1 := Scalar.cmpi .sge arg17 c16_i32_713
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c16384_i32 : BitVec 32 := 16384#32
  let v96 : BitVec 32 := Scalar.muli v8 c16384_i32
  let v942 : BitVec 32 := Scalar.subi v941 v96
  let c0_i32_711 : BitVec 32 := 0#32
  let v943 : BitVec 1 := Scalar.cmpi .sge v942 c0_i32_711
  let c16384_i32_712 : BitVec 32 := 16384#32
  let v944 : BitVec 1 := Scalar.cmpi .slt v942 c16384_i32_712
  let v945 : BitVec 1 := Scalar.andi v943 v944
  let v947 : BitVec 1 := Scalar.andi v946 v945
  let v948 : BitVec 32 := Scalar.extui v947
  let c0_i32_714 : BitVec 32 := 0#32
  let v949 : BitVec 1 := Scalar.cmpi .ne v948 c0_i32_714
  v949

def k0_chk4 (d0 : Dev nD) (k0_t3 : Fin k0_t3_loop.trips) (v941 : BitVec 32) (v961 : BitVec 32) : Prop :=
  (∀ (k0_h4 : k0_cond4 d0 k0_t3 v941 = 1#1), ∀ a, (k0_off23 d0 v961) a + S1x1024.size a ≤ S16384x1024.size a)
theorem k0_off23_inb : ∀ (d0 : Dev nD) (k0_t3 : Fin k0_t3_loop.trips) (v941 : BitVec 32) (v961 : BitVec 32) (k0_hw4 : k0_chk4 d0 k0_t3 v941 v961), ∀ (k0_h4 : k0_cond4 d0 k0_t3 v941 = 1#1), ∀ a, (k0_off23 d0 v961) a + S1x1024.size a ≤ S16384x1024.size a := fun d0 k0_t3 v941 v961 k0_hw4 k0_h4 => k0_hw4 k0_h4

def k0_off24 (d0 : Dev nD) (k0_t3 : Fin k0_t3_loop.trips) : Fin 1 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c512_i32 : BitVec 32 := 512#32
  let v97 : BitVec 32 := Scalar.muli v11 c512_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_48 : BitVec 32 := 1#32
  let v88 : BitVec 1 := Scalar.cmpi .sle v8 c1_i32_48
  let c2_i32_52 : BitVec 32 := 2#32
  let c2_i32_49 : BitVec 32 := 2#32
  let v89 : BitVec 1 := Scalar.cmpi .eq v8 c2_i32_49
  let c3_i32_50 : BitVec 32 := 3#32
  let c1_i32_51 : BitVec 32 := 1#32
  let v90 : BitVec 32 := Scalar.select v89 c3_i32_50 c1_i32_51
  let v91 : BitVec 32 := Scalar.select v88 c2_i32_52 v90
  let c128_i32_100 : BitVec 32 := 128#32
  let v150 : BitVec 32 := Scalar.muli v91 c128_i32_100
  let c0_i32_101 : BitVec 32 := 0#32
  let c1_i32_103 : BitVec 32 := 1#32
  let arg17 : BitVec 32 := Scf.iv c0_i32_101 c1_i32_103 k0_t3
  let v935 : BitVec 32 := Scalar.addi v150 arg17
  let v950 : BitVec 32 := Scalar.addi v97 v935
  let v951 : Index := Scalar.indexCast v950
  ![v951.toNat]
def k0_off25 (d0 : Dev nD) (k0_t3 : Fin k0_t3_loop.trips) : Fin 1 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c512_i32 : BitVec 32 := 512#32
  let v97 : BitVec 32 := Scalar.muli v11 c512_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_48 : BitVec 32 := 1#32
  let v88 : BitVec 1 := Scalar.cmpi .sle v8 c1_i32_48
  let c2_i32_52 : BitVec 32 := 2#32
  let c2_i32_49 : BitVec 32 := 2#32
  let v89 : BitVec 1 := Scalar.cmpi .eq v8 c2_i32_49
  let c3_i32_50 : BitVec 32 := 3#32
  let c1_i32_51 : BitVec 32 := 1#32
  let v90 : BitVec 32 := Scalar.select v89 c3_i32_50 c1_i32_51
  let v91 : BitVec 32 := Scalar.select v88 c2_i32_52 v90
  let c128_i32_100 : BitVec 32 := 128#32
  let v150 : BitVec 32 := Scalar.muli v91 c128_i32_100
  let c0_i32_101 : BitVec 32 := 0#32
  let c1_i32_103 : BitVec 32 := 1#32
  let arg17 : BitVec 32 := Scf.iv c0_i32_101 c1_i32_103 k0_t3
  let v935 : BitVec 32 := Scalar.addi v150 arg17
  let v959 : BitVec 32 := Scalar.addi v97 v935
  let v960 : Index := Scalar.indexCast v959
  ![v960.toNat]
def k0_off26 (d0 : Dev nD) (k0_t3 : Fin k0_t3_loop.trips) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_48 : BitVec 32 := 1#32
  let v88 : BitVec 1 := Scalar.cmpi .sle v8 c1_i32_48
  let c2_i32_52 : BitVec 32 := 2#32
  let c2_i32_49 : BitVec 32 := 2#32
  let v89 : BitVec 1 := Scalar.cmpi .eq v8 c2_i32_49
  let c3_i32_50 : BitVec 32 := 3#32
  let c1_i32_51 : BitVec 32 := 1#32
  let v90 : BitVec 32 := Scalar.select v89 c3_i32_50 c1_i32_51
  let v91 : BitVec 32 := Scalar.select v88 c2_i32_52 v90
  let c128_i32_100 : BitVec 32 := 128#32
  let v150 : BitVec 32 := Scalar.muli v91 c128_i32_100
  let c0_i32_101 : BitVec 32 := 0#32
  let c1_i32_103 : BitVec 32 := 1#32
  let arg17 : BitVec 32 := Scf.iv c0_i32_101 c1_i32_103 k0_t3
  let v935 : BitVec 32 := Scalar.addi v150 arg17
  let c16_i32_718 : BitVec 32 := 16#32
  let v963 : BitVec 32 := Scalar.remsi v935 c16_i32_718
  ![v963.toNat]
def k0_off27 (d0 : Dev nD) (k0_t3 : Fin k0_t3_loop.trips) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_48 : BitVec 32 := 1#32
  let v88 : BitVec 1 := Scalar.cmpi .sle v8 c1_i32_48
  let c2_i32_52 : BitVec 32 := 2#32
  let c2_i32_49 : BitVec 32 := 2#32
  let v89 : BitVec 1 := Scalar.cmpi .eq v8 c2_i32_49
  let c3_i32_50 : BitVec 32 := 3#32
  let c1_i32_51 : BitVec 32 := 1#32
  let v90 : BitVec 32 := Scalar.select v89 c3_i32_50 c1_i32_51
  let v91 : BitVec 32 := Scalar.select v88 c2_i32_52 v90
  let c128_i32_100 : BitVec 32 := 128#32
  let v150 : BitVec 32 := Scalar.muli v91 c128_i32_100
  let c0_i32_101 : BitVec 32 := 0#32
  let c1_i32_103 : BitVec 32 := 1#32
  let arg17 : BitVec 32 := Scf.iv c0_i32_101 c1_i32_103 k0_t3
  let v935 : BitVec 32 := Scalar.addi v150 arg17
  let c0_i32_719 : BitVec 32 := 0#32
  ![v935.toNat, 0]
def k0_off28 (d0 : Dev nD) (v961 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c16384_i32 : BitVec 32 := 16384#32
  let v96 : BitVec 32 := Scalar.muli v8 c16384_i32
  let v962 : BitVec 32 := Scalar.subi v961 v96
  let c0_i32_720 : BitVec 32 := 0#32
  ![v962.toNat, 0]
def k0_cond5 (d0 : Dev nD) (v952 : BitVec 32) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c16384_i32 : BitVec 32 := 16384#32
  let v96 : BitVec 32 := Scalar.muli v8 c16384_i32
  let v953 : BitVec 32 := Scalar.subi v952 v96
  let c0_i32_715 : BitVec 32 := 0#32
  let v954 : BitVec 1 := Scalar.cmpi .sge v953 c0_i32_715
  let c16384_i32_716 : BitVec 32 := 16384#32
  let v955 : BitVec 1 := Scalar.cmpi .slt v953 c16384_i32_716
  let v956 : BitVec 1 := Scalar.andi v954 v955
  let v957 : BitVec 32 := Scalar.extui v956
  let c0_i32_717 : BitVec 32 := 0#32
  let v958 : BitVec 1 := Scalar.cmpi .ne v957 c0_i32_717
  v958

def k0_chk5 (d0 : Dev nD) (v952 : BitVec 32) (v961 : BitVec 32) : Prop :=
  (∀ (k0_h5 : k0_cond5 d0 v952 = 1#1), ∀ a, (k0_off28 d0 v961) a + S1x1024.size a ≤ S16384x1024.size a)
theorem k0_off28_inb : ∀ (d0 : Dev nD) (v952 : BitVec 32) (v961 : BitVec 32) (k0_hw5 : k0_chk5 d0 v952 v961), ∀ (k0_h5 : k0_cond5 d0 v952 = 1#1), ∀ a, (k0_off28 d0 v961) a + S1x1024.size a ≤ S16384x1024.size a := fun d0 v952 v961 k0_hw5 k0_h5 => k0_hw5 k0_h5

@[reducible] def k0_t4_loop : Scf.Loop 32 :=
  let c0_i32_105 : BitVec 32 := 0#32
  let c16_i32_106 : BitVec 32 := 16#32
  let v152 : BitVec 32 := Scalar.addi c0_i32_105 c16_i32_106
  let c1_i32_107 : BitVec 32 := 1#32
  ⟨c0_i32_105, v152, c1_i32_107⟩
def k0_off29 (d0 : Dev nD) (k0_t4 : Fin k0_t4_loop.trips) : Fin 1 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c512_i32 : BitVec 32 := 512#32
  let v97 : BitVec 32 := Scalar.muli v11 c512_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_48 : BitVec 32 := 1#32
  let v88 : BitVec 1 := Scalar.cmpi .sle v8 c1_i32_48
  let c2_i32_52 : BitVec 32 := 2#32
  let c2_i32_49 : BitVec 32 := 2#32
  let v89 : BitVec 1 := Scalar.cmpi .eq v8 c2_i32_49
  let c3_i32_50 : BitVec 32 := 3#32
  let c1_i32_51 : BitVec 32 := 1#32
  let v90 : BitVec 32 := Scalar.select v89 c3_i32_50 c1_i32_51
  let v91 : BitVec 32 := Scalar.select v88 c2_i32_52 v90
  let c128_i32_100 : BitVec 32 := 128#32
  let v150 : BitVec 32 := Scalar.muli v91 c128_i32_100
  let c128_i32_709 : BitVec 32 := 128#32
  let v935 : BitVec 32 := Scalar.addi v150 c128_i32_709
  let c16_i32_710 : BitVec 32 := 16#32
  let v936 : BitVec 32 := Scalar.subi v935 c16_i32_710
  let c0_i32_105 : BitVec 32 := 0#32
  let c1_i32_107 : BitVec 32 := 1#32
  let arg17 : BitVec 32 := Scf.iv c0_i32_105 c1_i32_107 k0_t4
  let v937 : BitVec 32 := Scalar.addi v936 arg17
  let v938 : BitVec 32 := Scalar.addi v97 v937
  let v939 : Index := Scalar.indexCast v938
  ![v939.toNat]
def k0_off30 (d0 : Dev nD) (k0_t4 : Fin k0_t4_loop.trips) : Fin 1 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c512_i32 : BitVec 32 := 512#32
  let v97 : BitVec 32 := Scalar.muli v11 c512_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_48 : BitVec 32 := 1#32
  let v88 : BitVec 1 := Scalar.cmpi .sle v8 c1_i32_48
  let c2_i32_52 : BitVec 32 := 2#32
  let c2_i32_49 : BitVec 32 := 2#32
  let v89 : BitVec 1 := Scalar.cmpi .eq v8 c2_i32_49
  let c3_i32_50 : BitVec 32 := 3#32
  let c1_i32_51 : BitVec 32 := 1#32
  let v90 : BitVec 32 := Scalar.select v89 c3_i32_50 c1_i32_51
  let v91 : BitVec 32 := Scalar.select v88 c2_i32_52 v90
  let c128_i32_100 : BitVec 32 := 128#32
  let v150 : BitVec 32 := Scalar.muli v91 c128_i32_100
  let c128_i32_709 : BitVec 32 := 128#32
  let v935 : BitVec 32 := Scalar.addi v150 c128_i32_709
  let c16_i32_710 : BitVec 32 := 16#32
  let v936 : BitVec 32 := Scalar.subi v935 c16_i32_710
  let c0_i32_105 : BitVec 32 := 0#32
  let c1_i32_107 : BitVec 32 := 1#32
  let arg17 : BitVec 32 := Scf.iv c0_i32_105 c1_i32_107 k0_t4
  let v937 : BitVec 32 := Scalar.addi v936 arg17
  let v947 : BitVec 32 := Scalar.addi v97 v937
  let v948 : Index := Scalar.indexCast v947
  ![v948.toNat]
def k0_off31 (d0 : Dev nD) (k0_t4 : Fin k0_t4_loop.trips) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_48 : BitVec 32 := 1#32
  let v88 : BitVec 1 := Scalar.cmpi .sle v8 c1_i32_48
  let c2_i32_52 : BitVec 32 := 2#32
  let c2_i32_49 : BitVec 32 := 2#32
  let v89 : BitVec 1 := Scalar.cmpi .eq v8 c2_i32_49
  let c3_i32_50 : BitVec 32 := 3#32
  let c1_i32_51 : BitVec 32 := 1#32
  let v90 : BitVec 32 := Scalar.select v89 c3_i32_50 c1_i32_51
  let v91 : BitVec 32 := Scalar.select v88 c2_i32_52 v90
  let c128_i32_100 : BitVec 32 := 128#32
  let v150 : BitVec 32 := Scalar.muli v91 c128_i32_100
  let c128_i32_709 : BitVec 32 := 128#32
  let v935 : BitVec 32 := Scalar.addi v150 c128_i32_709
  let c16_i32_710 : BitVec 32 := 16#32
  let v936 : BitVec 32 := Scalar.subi v935 c16_i32_710
  let c0_i32_105 : BitVec 32 := 0#32
  let c1_i32_107 : BitVec 32 := 1#32
  let arg17 : BitVec 32 := Scf.iv c0_i32_105 c1_i32_107 k0_t4
  let v937 : BitVec 32 := Scalar.addi v936 arg17
  let c16_i32_714 : BitVec 32 := 16#32
  let v951 : BitVec 32 := Scalar.remsi v937 c16_i32_714
  ![v951.toNat]
def k0_off32 (d0 : Dev nD) (k0_t4 : Fin k0_t4_loop.trips) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_48 : BitVec 32 := 1#32
  let v88 : BitVec 1 := Scalar.cmpi .sle v8 c1_i32_48
  let c2_i32_52 : BitVec 32 := 2#32
  let c2_i32_49 : BitVec 32 := 2#32
  let v89 : BitVec 1 := Scalar.cmpi .eq v8 c2_i32_49
  let c3_i32_50 : BitVec 32 := 3#32
  let c1_i32_51 : BitVec 32 := 1#32
  let v90 : BitVec 32 := Scalar.select v89 c3_i32_50 c1_i32_51
  let v91 : BitVec 32 := Scalar.select v88 c2_i32_52 v90
  let c128_i32_100 : BitVec 32 := 128#32
  let v150 : BitVec 32 := Scalar.muli v91 c128_i32_100
  let c128_i32_709 : BitVec 32 := 128#32
  let v935 : BitVec 32 := Scalar.addi v150 c128_i32_709
  let c16_i32_710 : BitVec 32 := 16#32
  let v936 : BitVec 32 := Scalar.subi v935 c16_i32_710
  let c0_i32_105 : BitVec 32 := 0#32
  let c1_i32_107 : BitVec 32 := 1#32
  let arg17 : BitVec 32 := Scf.iv c0_i32_105 c1_i32_107 k0_t4
  let v937 : BitVec 32 := Scalar.addi v936 arg17
  let c0_i32_715 : BitVec 32 := 0#32
  ![v937.toNat, 0]
def k0_off33 (d0 : Dev nD) (v949 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c16384_i32 : BitVec 32 := 16384#32
  let v96 : BitVec 32 := Scalar.muli v8 c16384_i32
  let v950 : BitVec 32 := Scalar.subi v949 v96
  let c0_i32_716 : BitVec 32 := 0#32
  ![v950.toNat, 0]
def k0_cond6 (d0 : Dev nD) (v940 : BitVec 32) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c16384_i32 : BitVec 32 := 16384#32
  let v96 : BitVec 32 := Scalar.muli v8 c16384_i32
  let v941 : BitVec 32 := Scalar.subi v940 v96
  let c0_i32_711 : BitVec 32 := 0#32
  let v942 : BitVec 1 := Scalar.cmpi .sge v941 c0_i32_711
  let c16384_i32_712 : BitVec 32 := 16384#32
  let v943 : BitVec 1 := Scalar.cmpi .slt v941 c16384_i32_712
  let v944 : BitVec 1 := Scalar.andi v942 v943
  let v945 : BitVec 32 := Scalar.extui v944
  let c0_i32_713 : BitVec 32 := 0#32
  let v946 : BitVec 1 := Scalar.cmpi .ne v945 c0_i32_713
  v946

def k0_chk6 (d0 : Dev nD) (v940 : BitVec 32) (v949 : BitVec 32) : Prop :=
  (∀ (k0_h6 : k0_cond6 d0 v940 = 1#1), ∀ a, (k0_off33 d0 v949) a + S1x1024.size a ≤ S16384x1024.size a)
theorem k0_off33_inb : ∀ (d0 : Dev nD) (v940 : BitVec 32) (v949 : BitVec 32) (k0_hw6 : k0_chk6 d0 v940 v949), ∀ (k0_h6 : k0_cond6 d0 v940 = 1#1), ∀ a, (k0_off33 d0 v949) a + S1x1024.size a ≤ S16384x1024.size a := fun d0 v940 v949 k0_hw6 k0_h6 => k0_hw6 k0_h6

def k0_off34 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_48 : BitVec 32 := 1#32
  let v88 : BitVec 1 := Scalar.cmpi .sle v8 c1_i32_48
  let c2_i32_52 : BitVec 32 := 2#32
  let c2_i32_49 : BitVec 32 := 2#32
  let v89 : BitVec 1 := Scalar.cmpi .eq v8 c2_i32_49
  let c3_i32_50 : BitVec 32 := 3#32
  let c1_i32_51 : BitVec 32 := 1#32
  let v90 : BitVec 32 := Scalar.select v89 c3_i32_50 c1_i32_51
  let v91 : BitVec 32 := Scalar.select v88 c2_i32_52 v90
  let c128_i32_109 : BitVec 32 := 128#32
  let v153 : BitVec 32 := Scalar.muli v91 c128_i32_109
  let c0_i32_117 : BitVec 32 := 0#32
  ![v153.toNat, 0]
def k0_dev7 (d0 : Dev nD) : Nat :=
  let c0_i32_112 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_111 : BitVec 32 := 8#32
  let v154 : BitVec 32 := Scalar.muli v2 c8_i32_111
  let v155 : BitVec 32 := Scalar.addi c0_i32_112 v154
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_113 : BitVec 32 := 4#32
  let v156 : BitVec 32 := Scalar.muli v5 c4_i32_113
  let v157 : BitVec 32 := Scalar.addi v155 v156
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_48 : BitVec 32 := 1#32
  let v88 : BitVec 1 := Scalar.cmpi .sle v8 c1_i32_48
  let c2_i32_52 : BitVec 32 := 2#32
  let c2_i32_49 : BitVec 32 := 2#32
  let v89 : BitVec 1 := Scalar.cmpi .eq v8 c2_i32_49
  let c3_i32_50 : BitVec 32 := 3#32
  let c1_i32_51 : BitVec 32 := 1#32
  let v90 : BitVec 32 := Scalar.select v89 c3_i32_50 c1_i32_51
  let v91 : BitVec 32 := Scalar.select v88 c2_i32_52 v90
  let c1_i32_114 : BitVec 32 := 1#32
  let v158 : BitVec 32 := Scalar.muli v91 c1_i32_114
  let v159 : BitVec 32 := Scalar.addi v157 v158
  v159.toNat
@[reducible] def k0_t5_loop : Scf.Loop 32 :=
  let c0_i32_119 : BitVec 32 := 0#32
  let c128_i32_120 : BitVec 32 := 128#32
  let v168 : BitVec 32 := Scalar.addi c0_i32_119 c128_i32_120
  let c1_i32_121 : BitVec 32 := 1#32
  ⟨c0_i32_119, v168, c1_i32_121⟩
def k0_off35 (d0 : Dev nD) (k0_t5 : Fin k0_t5_loop.trips) : Fin 1 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c512_i32 : BitVec 32 := 512#32
  let v97 : BitVec 32 := Scalar.muli v11 c512_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_53 : BitVec 32 := 1#32
  let v92 : BitVec 1 := Scalar.cmpi .eq v8 c1_i32_53
  let c0_i32_57 : BitVec 32 := 0#32
  let c3_i32_54 : BitVec 32 := 3#32
  let v93 : BitVec 1 := Scalar.cmpi .eq v8 c3_i32_54
  let c2_i32_55 : BitVec 32 := 2#32
  let c1_i32_56 : BitVec 32 := 1#32
  let v94 : BitVec 32 := Scalar.select v93 c2_i32_55 c1_i32_56
  let v95 : BitVec 32 := Scalar.select v92 c0_i32_57 v94
  let c128_i32_118 : BitVec 32 := 128#32
  let v167 : BitVec 32 := Scalar.muli v95 c128_i32_118
  let c0_i32_119 : BitVec 32 := 0#32
  let c1_i32_121 : BitVec 32 := 1#32
  let arg17 : BitVec 32 := Scf.iv c0_i32_119 c1_i32_121 k0_t5
  let c16_i32_709 : BitVec 32 := 16#32
  let v936 : BitVec 32 := Scalar.subi arg17 c16_i32_709
  let c0_i32_710 : BitVec 32 := 0#32
  let v937 : BitVec 32 := Scalar.maxsi v936 c0_i32_710
  let v938 : BitVec 32 := Scalar.addi v167 v937
  let v939 : BitVec 32 := Scalar.addi v97 v938
  let v940 : Index := Scalar.indexCast v939
  ![v940.toNat]
def k0_off36 (d0 : Dev nD) (k0_t5 : Fin k0_t5_loop.trips) : Fin 1 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c512_i32 : BitVec 32 := 512#32
  let v97 : BitVec 32 := Scalar.muli v11 c512_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_53 : BitVec 32 := 1#32
  let v92 : BitVec 1 := Scalar.cmpi .eq v8 c1_i32_53
  let c0_i32_57 : BitVec 32 := 0#32
  let c3_i32_54 : BitVec 32 := 3#32
  let v93 : BitVec 1 := Scalar.cmpi .eq v8 c3_i32_54
  let c2_i32_55 : BitVec 32 := 2#32
  let c1_i32_56 : BitVec 32 := 1#32
  let v94 : BitVec 32 := Scalar.select v93 c2_i32_55 c1_i32_56
  let v95 : BitVec 32 := Scalar.select v92 c0_i32_57 v94
  let c128_i32_118 : BitVec 32 := 128#32
  let v167 : BitVec 32 := Scalar.muli v95 c128_i32_118
  let c0_i32_119 : BitVec 32 := 0#32
  let c1_i32_121 : BitVec 32 := 1#32
  let arg17 : BitVec 32 := Scf.iv c0_i32_119 c1_i32_121 k0_t5
  let c16_i32_709 : BitVec 32 := 16#32
  let v936 : BitVec 32 := Scalar.subi arg17 c16_i32_709
  let c0_i32_710 : BitVec 32 := 0#32
  let v937 : BitVec 32 := Scalar.maxsi v936 c0_i32_710
  let v938 : BitVec 32 := Scalar.addi v167 v937
  let v959 : BitVec 32 := Scalar.addi v97 v938
  let v960 : Index := Scalar.indexCast v959
  ![v960.toNat]
def k0_off37 (d0 : Dev nD) (k0_t5 : Fin k0_t5_loop.trips) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_53 : BitVec 32 := 1#32
  let v92 : BitVec 1 := Scalar.cmpi .eq v8 c1_i32_53
  let c0_i32_57 : BitVec 32 := 0#32
  let c3_i32_54 : BitVec 32 := 3#32
  let v93 : BitVec 1 := Scalar.cmpi .eq v8 c3_i32_54
  let c2_i32_55 : BitVec 32 := 2#32
  let c1_i32_56 : BitVec 32 := 1#32
  let v94 : BitVec 32 := Scalar.select v93 c2_i32_55 c1_i32_56
  let v95 : BitVec 32 := Scalar.select v92 c0_i32_57 v94
  let c128_i32_118 : BitVec 32 := 128#32
  let v167 : BitVec 32 := Scalar.muli v95 c128_i32_118
  let c0_i32_119 : BitVec 32 := 0#32
  let c1_i32_121 : BitVec 32 := 1#32
  let arg17 : BitVec 32 := Scf.iv c0_i32_119 c1_i32_121 k0_t5
  let c16_i32_709 : BitVec 32 := 16#32
  let v936 : BitVec 32 := Scalar.subi arg17 c16_i32_709
  let c0_i32_710 : BitVec 32 := 0#32
  let v937 : BitVec 32 := Scalar.maxsi v936 c0_i32_710
  let v938 : BitVec 32 := Scalar.addi v167 v937
  let c16_i32_718 : BitVec 32 := 16#32
  let v963 : BitVec 32 := Scalar.remsi v938 c16_i32_718
  ![v963.toNat]
def k0_off38 (d0 : Dev nD) (k0_t5 : Fin k0_t5_loop.trips) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_53 : BitVec 32 := 1#32
  let v92 : BitVec 1 := Scalar.cmpi .eq v8 c1_i32_53
  let c0_i32_57 : BitVec 32 := 0#32
  let c3_i32_54 : BitVec 32 := 3#32
  let v93 : BitVec 1 := Scalar.cmpi .eq v8 c3_i32_54
  let c2_i32_55 : BitVec 32 := 2#32
  let c1_i32_56 : BitVec 32 := 1#32
  let v94 : BitVec 32 := Scalar.select v93 c2_i32_55 c1_i32_56
  let v95 : BitVec 32 := Scalar.select v92 c0_i32_57 v94
  let c128_i32_118 : BitVec 32 := 128#32
  let v167 : BitVec 32 := Scalar.muli v95 c128_i32_118
  let c0_i32_119 : BitVec 32 := 0#32
  let c1_i32_121 : BitVec 32 := 1#32
  let arg17 : BitVec 32 := Scf.iv c0_i32_119 c1_i32_121 k0_t5
  let c16_i32_709 : BitVec 32 := 16#32
  let v936 : BitVec 32 := Scalar.subi arg17 c16_i32_709
  let c0_i32_710 : BitVec 32 := 0#32
  let v937 : BitVec 32 := Scalar.maxsi v936 c0_i32_710
  let v938 : BitVec 32 := Scalar.addi v167 v937
  let c0_i32_719 : BitVec 32 := 0#32
  ![v938.toNat, 0]
def k0_off39 (d0 : Dev nD) (v961 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c16384_i32 : BitVec 32 := 16384#32
  let v96 : BitVec 32 := Scalar.muli v8 c16384_i32
  let v962 : BitVec 32 := Scalar.subi v961 v96
  let c0_i32_720 : BitVec 32 := 0#32
  ![v962.toNat, 0]
def k0_cond7 (d0 : Dev nD) (k0_t5 : Fin k0_t5_loop.trips) (v941 : BitVec 32) : BitVec 1 :=
  let c0_i32_119 : BitVec 32 := 0#32
  let c1_i32_121 : BitVec 32 := 1#32
  let arg17 : BitVec 32 := Scf.iv c0_i32_119 c1_i32_121 k0_t5
  let c16_i32_713 : BitVec 32 := 16#32
  let v946 : BitVec 1 := Scalar.cmpi .sge arg17 c16_i32_713
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c16384_i32 : BitVec 32 := 16384#32
  let v96 : BitVec 32 := Scalar.muli v8 c16384_i32
  let v942 : BitVec 32 := Scalar.subi v941 v96
  let c0_i32_711 : BitVec 32 := 0#32
  let v943 : BitVec 1 := Scalar.cmpi .sge v942 c0_i32_711
  let c16384_i32_712 : BitVec 32 := 16384#32
  let v944 : BitVec 1 := Scalar.cmpi .slt v942 c16384_i32_712
  let v945 : BitVec 1 := Scalar.andi v943 v944
  let v947 : BitVec 1 := Scalar.andi v946 v945
  let v948 : BitVec 32 := Scalar.extui v947
  let c0_i32_714 : BitVec 32 := 0#32
  let v949 : BitVec 1 := Scalar.cmpi .ne v948 c0_i32_714
  v949

def k0_chk7 (d0 : Dev nD) (k0_t5 : Fin k0_t5_loop.trips) (v941 : BitVec 32) (v961 : BitVec 32) : Prop :=
  (∀ (k0_h7 : k0_cond7 d0 k0_t5 v941 = 1#1), ∀ a, (k0_off39 d0 v961) a + S1x1024.size a ≤ S16384x1024.size a)
theorem k0_off39_inb : ∀ (d0 : Dev nD) (k0_t5 : Fin k0_t5_loop.trips) (v941 : BitVec 32) (v961 : BitVec 32) (k0_hw7 : k0_chk7 d0 k0_t5 v941 v961), ∀ (k0_h7 : k0_cond7 d0 k0_t5 v941 = 1#1), ∀ a, (k0_off39 d0 v961) a + S1x1024.size a ≤ S16384x1024.size a := fun d0 k0_t5 v941 v961 k0_hw7 k0_h7 => k0_hw7 k0_h7

def k0_off40 (d0 : Dev nD) (k0_t5 : Fin k0_t5_loop.trips) : Fin 1 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c512_i32 : BitVec 32 := 512#32
  let v97 : BitVec 32 := Scalar.muli v11 c512_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_53 : BitVec 32 := 1#32
  let v92 : BitVec 1 := Scalar.cmpi .eq v8 c1_i32_53
  let c0_i32_57 : BitVec 32 := 0#32
  let c3_i32_54 : BitVec 32 := 3#32
  let v93 : BitVec 1 := Scalar.cmpi .eq v8 c3_i32_54
  let c2_i32_55 : BitVec 32 := 2#32
  let c1_i32_56 : BitVec 32 := 1#32
  let v94 : BitVec 32 := Scalar.select v93 c2_i32_55 c1_i32_56
  let v95 : BitVec 32 := Scalar.select v92 c0_i32_57 v94
  let c128_i32_118 : BitVec 32 := 128#32
  let v167 : BitVec 32 := Scalar.muli v95 c128_i32_118
  let c0_i32_119 : BitVec 32 := 0#32
  let c1_i32_121 : BitVec 32 := 1#32
  let arg17 : BitVec 32 := Scf.iv c0_i32_119 c1_i32_121 k0_t5
  let v935 : BitVec 32 := Scalar.addi v167 arg17
  let v950 : BitVec 32 := Scalar.addi v97 v935
  let v951 : Index := Scalar.indexCast v950
  ![v951.toNat]
def k0_off41 (d0 : Dev nD) (k0_t5 : Fin k0_t5_loop.trips) : Fin 1 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c512_i32 : BitVec 32 := 512#32
  let v97 : BitVec 32 := Scalar.muli v11 c512_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_53 : BitVec 32 := 1#32
  let v92 : BitVec 1 := Scalar.cmpi .eq v8 c1_i32_53
  let c0_i32_57 : BitVec 32 := 0#32
  let c3_i32_54 : BitVec 32 := 3#32
  let v93 : BitVec 1 := Scalar.cmpi .eq v8 c3_i32_54
  let c2_i32_55 : BitVec 32 := 2#32
  let c1_i32_56 : BitVec 32 := 1#32
  let v94 : BitVec 32 := Scalar.select v93 c2_i32_55 c1_i32_56
  let v95 : BitVec 32 := Scalar.select v92 c0_i32_57 v94
  let c128_i32_118 : BitVec 32 := 128#32
  let v167 : BitVec 32 := Scalar.muli v95 c128_i32_118
  let c0_i32_119 : BitVec 32 := 0#32
  let c1_i32_121 : BitVec 32 := 1#32
  let arg17 : BitVec 32 := Scf.iv c0_i32_119 c1_i32_121 k0_t5
  let v935 : BitVec 32 := Scalar.addi v167 arg17
  let v959 : BitVec 32 := Scalar.addi v97 v935
  let v960 : Index := Scalar.indexCast v959
  ![v960.toNat]
def k0_off42 (d0 : Dev nD) (k0_t5 : Fin k0_t5_loop.trips) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_53 : BitVec 32 := 1#32
  let v92 : BitVec 1 := Scalar.cmpi .eq v8 c1_i32_53
  let c0_i32_57 : BitVec 32 := 0#32
  let c3_i32_54 : BitVec 32 := 3#32
  let v93 : BitVec 1 := Scalar.cmpi .eq v8 c3_i32_54
  let c2_i32_55 : BitVec 32 := 2#32
  let c1_i32_56 : BitVec 32 := 1#32
  let v94 : BitVec 32 := Scalar.select v93 c2_i32_55 c1_i32_56
  let v95 : BitVec 32 := Scalar.select v92 c0_i32_57 v94
  let c128_i32_118 : BitVec 32 := 128#32
  let v167 : BitVec 32 := Scalar.muli v95 c128_i32_118
  let c0_i32_119 : BitVec 32 := 0#32
  let c1_i32_121 : BitVec 32 := 1#32
  let arg17 : BitVec 32 := Scf.iv c0_i32_119 c1_i32_121 k0_t5
  let v935 : BitVec 32 := Scalar.addi v167 arg17
  let c16_i32_718 : BitVec 32 := 16#32
  let v963 : BitVec 32 := Scalar.remsi v935 c16_i32_718
  ![v963.toNat]
def k0_off43 (d0 : Dev nD) (k0_t5 : Fin k0_t5_loop.trips) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_53 : BitVec 32 := 1#32
  let v92 : BitVec 1 := Scalar.cmpi .eq v8 c1_i32_53
  let c0_i32_57 : BitVec 32 := 0#32
  let c3_i32_54 : BitVec 32 := 3#32
  let v93 : BitVec 1 := Scalar.cmpi .eq v8 c3_i32_54
  let c2_i32_55 : BitVec 32 := 2#32
  let c1_i32_56 : BitVec 32 := 1#32
  let v94 : BitVec 32 := Scalar.select v93 c2_i32_55 c1_i32_56
  let v95 : BitVec 32 := Scalar.select v92 c0_i32_57 v94
  let c128_i32_118 : BitVec 32 := 128#32
  let v167 : BitVec 32 := Scalar.muli v95 c128_i32_118
  let c0_i32_119 : BitVec 32 := 0#32
  let c1_i32_121 : BitVec 32 := 1#32
  let arg17 : BitVec 32 := Scf.iv c0_i32_119 c1_i32_121 k0_t5
  let v935 : BitVec 32 := Scalar.addi v167 arg17
  let c0_i32_719 : BitVec 32 := 0#32
  ![v935.toNat, 0]
def k0_off44 (d0 : Dev nD) (v961 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c16384_i32 : BitVec 32 := 16384#32
  let v96 : BitVec 32 := Scalar.muli v8 c16384_i32
  let v962 : BitVec 32 := Scalar.subi v961 v96
  let c0_i32_720 : BitVec 32 := 0#32
  ![v962.toNat, 0]
def k0_cond8 (d0 : Dev nD) (v952 : BitVec 32) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c16384_i32 : BitVec 32 := 16384#32
  let v96 : BitVec 32 := Scalar.muli v8 c16384_i32
  let v953 : BitVec 32 := Scalar.subi v952 v96
  let c0_i32_715 : BitVec 32 := 0#32
  let v954 : BitVec 1 := Scalar.cmpi .sge v953 c0_i32_715
  let c16384_i32_716 : BitVec 32 := 16384#32
  let v955 : BitVec 1 := Scalar.cmpi .slt v953 c16384_i32_716
  let v956 : BitVec 1 := Scalar.andi v954 v955
  let v957 : BitVec 32 := Scalar.extui v956
  let c0_i32_717 : BitVec 32 := 0#32
  let v958 : BitVec 1 := Scalar.cmpi .ne v957 c0_i32_717
  v958

def k0_chk8 (d0 : Dev nD) (v952 : BitVec 32) (v961 : BitVec 32) : Prop :=
  (∀ (k0_h8 : k0_cond8 d0 v952 = 1#1), ∀ a, (k0_off44 d0 v961) a + S1x1024.size a ≤ S16384x1024.size a)
theorem k0_off44_inb : ∀ (d0 : Dev nD) (v952 : BitVec 32) (v961 : BitVec 32) (k0_hw8 : k0_chk8 d0 v952 v961), ∀ (k0_h8 : k0_cond8 d0 v952 = 1#1), ∀ a, (k0_off44 d0 v961) a + S1x1024.size a ≤ S16384x1024.size a := fun d0 v952 v961 k0_hw8 k0_h8 => k0_hw8 k0_h8

@[reducible] def k0_t6_loop : Scf.Loop 32 :=
  let c0_i32_123 : BitVec 32 := 0#32
  let c16_i32_124 : BitVec 32 := 16#32
  let v169 : BitVec 32 := Scalar.addi c0_i32_123 c16_i32_124
  let c1_i32_125 : BitVec 32 := 1#32
  ⟨c0_i32_123, v169, c1_i32_125⟩
def k0_off45 (d0 : Dev nD) (k0_t6 : Fin k0_t6_loop.trips) : Fin 1 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c512_i32 : BitVec 32 := 512#32
  let v97 : BitVec 32 := Scalar.muli v11 c512_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_53 : BitVec 32 := 1#32
  let v92 : BitVec 1 := Scalar.cmpi .eq v8 c1_i32_53
  let c0_i32_57 : BitVec 32 := 0#32
  let c3_i32_54 : BitVec 32 := 3#32
  let v93 : BitVec 1 := Scalar.cmpi .eq v8 c3_i32_54
  let c2_i32_55 : BitVec 32 := 2#32
  let c1_i32_56 : BitVec 32 := 1#32
  let v94 : BitVec 32 := Scalar.select v93 c2_i32_55 c1_i32_56
  let v95 : BitVec 32 := Scalar.select v92 c0_i32_57 v94
  let c128_i32_118 : BitVec 32 := 128#32
  let v167 : BitVec 32 := Scalar.muli v95 c128_i32_118
  let c128_i32_709 : BitVec 32 := 128#32
  let v935 : BitVec 32 := Scalar.addi v167 c128_i32_709
  let c16_i32_710 : BitVec 32 := 16#32
  let v936 : BitVec 32 := Scalar.subi v935 c16_i32_710
  let c0_i32_123 : BitVec 32 := 0#32
  let c1_i32_125 : BitVec 32 := 1#32
  let arg17 : BitVec 32 := Scf.iv c0_i32_123 c1_i32_125 k0_t6
  let v937 : BitVec 32 := Scalar.addi v936 arg17
  let v938 : BitVec 32 := Scalar.addi v97 v937
  let v939 : Index := Scalar.indexCast v938
  ![v939.toNat]
def k0_off46 (d0 : Dev nD) (k0_t6 : Fin k0_t6_loop.trips) : Fin 1 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c512_i32 : BitVec 32 := 512#32
  let v97 : BitVec 32 := Scalar.muli v11 c512_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_53 : BitVec 32 := 1#32
  let v92 : BitVec 1 := Scalar.cmpi .eq v8 c1_i32_53
  let c0_i32_57 : BitVec 32 := 0#32
  let c3_i32_54 : BitVec 32 := 3#32
  let v93 : BitVec 1 := Scalar.cmpi .eq v8 c3_i32_54
  let c2_i32_55 : BitVec 32 := 2#32
  let c1_i32_56 : BitVec 32 := 1#32
  let v94 : BitVec 32 := Scalar.select v93 c2_i32_55 c1_i32_56
  let v95 : BitVec 32 := Scalar.select v92 c0_i32_57 v94
  let c128_i32_118 : BitVec 32 := 128#32
  let v167 : BitVec 32 := Scalar.muli v95 c128_i32_118
  let c128_i32_709 : BitVec 32 := 128#32
  let v935 : BitVec 32 := Scalar.addi v167 c128_i32_709
  let c16_i32_710 : BitVec 32 := 16#32
  let v936 : BitVec 32 := Scalar.subi v935 c16_i32_710
  let c0_i32_123 : BitVec 32 := 0#32
  let c1_i32_125 : BitVec 32 := 1#32
  let arg17 : BitVec 32 := Scf.iv c0_i32_123 c1_i32_125 k0_t6
  let v937 : BitVec 32 := Scalar.addi v936 arg17
  let v947 : BitVec 32 := Scalar.addi v97 v937
  let v948 : Index := Scalar.indexCast v947
  ![v948.toNat]
def k0_off47 (d0 : Dev nD) (k0_t6 : Fin k0_t6_loop.trips) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_53 : BitVec 32 := 1#32
  let v92 : BitVec 1 := Scalar.cmpi .eq v8 c1_i32_53
  let c0_i32_57 : BitVec 32 := 0#32
  let c3_i32_54 : BitVec 32 := 3#32
  let v93 : BitVec 1 := Scalar.cmpi .eq v8 c3_i32_54
  let c2_i32_55 : BitVec 32 := 2#32
  let c1_i32_56 : BitVec 32 := 1#32
  let v94 : BitVec 32 := Scalar.select v93 c2_i32_55 c1_i32_56
  let v95 : BitVec 32 := Scalar.select v92 c0_i32_57 v94
  let c128_i32_118 : BitVec 32 := 128#32
  let v167 : BitVec 32 := Scalar.muli v95 c128_i32_118
  let c128_i32_709 : BitVec 32 := 128#32
  let v935 : BitVec 32 := Scalar.addi v167 c128_i32_709
  let c16_i32_710 : BitVec 32 := 16#32
  let v936 : BitVec 32 := Scalar.subi v935 c16_i32_710
  let c0_i32_123 : BitVec 32 := 0#32
  let c1_i32_125 : BitVec 32 := 1#32
  let arg17 : BitVec 32 := Scf.iv c0_i32_123 c1_i32_125 k0_t6
  let v937 : BitVec 32 := Scalar.addi v936 arg17
  let c16_i32_714 : BitVec 32 := 16#32
  let v951 : BitVec 32 := Scalar.remsi v937 c16_i32_714
  ![v951.toNat]
def k0_off48 (d0 : Dev nD) (k0_t6 : Fin k0_t6_loop.trips) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_53 : BitVec 32 := 1#32
  let v92 : BitVec 1 := Scalar.cmpi .eq v8 c1_i32_53
  let c0_i32_57 : BitVec 32 := 0#32
  let c3_i32_54 : BitVec 32 := 3#32
  let v93 : BitVec 1 := Scalar.cmpi .eq v8 c3_i32_54
  let c2_i32_55 : BitVec 32 := 2#32
  let c1_i32_56 : BitVec 32 := 1#32
  let v94 : BitVec 32 := Scalar.select v93 c2_i32_55 c1_i32_56
  let v95 : BitVec 32 := Scalar.select v92 c0_i32_57 v94
  let c128_i32_118 : BitVec 32 := 128#32
  let v167 : BitVec 32 := Scalar.muli v95 c128_i32_118
  let c128_i32_709 : BitVec 32 := 128#32
  let v935 : BitVec 32 := Scalar.addi v167 c128_i32_709
  let c16_i32_710 : BitVec 32 := 16#32
  let v936 : BitVec 32 := Scalar.subi v935 c16_i32_710
  let c0_i32_123 : BitVec 32 := 0#32
  let c1_i32_125 : BitVec 32 := 1#32
  let arg17 : BitVec 32 := Scf.iv c0_i32_123 c1_i32_125 k0_t6
  let v937 : BitVec 32 := Scalar.addi v936 arg17
  let c0_i32_715 : BitVec 32 := 0#32
  ![v937.toNat, 0]
def k0_off49 (d0 : Dev nD) (v949 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c16384_i32 : BitVec 32 := 16384#32
  let v96 : BitVec 32 := Scalar.muli v8 c16384_i32
  let v950 : BitVec 32 := Scalar.subi v949 v96
  let c0_i32_716 : BitVec 32 := 0#32
  ![v950.toNat, 0]
def k0_cond9 (d0 : Dev nD) (v940 : BitVec 32) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c16384_i32 : BitVec 32 := 16384#32
  let v96 : BitVec 32 := Scalar.muli v8 c16384_i32
  let v941 : BitVec 32 := Scalar.subi v940 v96
  let c0_i32_711 : BitVec 32 := 0#32
  let v942 : BitVec 1 := Scalar.cmpi .sge v941 c0_i32_711
  let c16384_i32_712 : BitVec 32 := 16384#32
  let v943 : BitVec 1 := Scalar.cmpi .slt v941 c16384_i32_712
  let v944 : BitVec 1 := Scalar.andi v942 v943
  let v945 : BitVec 32 := Scalar.extui v944
  let c0_i32_713 : BitVec 32 := 0#32
  let v946 : BitVec 1 := Scalar.cmpi .ne v945 c0_i32_713
  v946

def k0_chk9 (d0 : Dev nD) (v940 : BitVec 32) (v949 : BitVec 32) : Prop :=
  (∀ (k0_h9 : k0_cond9 d0 v940 = 1#1), ∀ a, (k0_off49 d0 v949) a + S1x1024.size a ≤ S16384x1024.size a)
theorem k0_off49_inb : ∀ (d0 : Dev nD) (v940 : BitVec 32) (v949 : BitVec 32) (k0_hw9 : k0_chk9 d0 v940 v949), ∀ (k0_h9 : k0_cond9 d0 v940 = 1#1), ∀ a, (k0_off49 d0 v949) a + S1x1024.size a ≤ S16384x1024.size a := fun d0 v940 v949 k0_hw9 k0_h9 => k0_hw9 k0_h9

def k0_off50 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_53 : BitVec 32 := 1#32
  let v92 : BitVec 1 := Scalar.cmpi .eq v8 c1_i32_53
  let c0_i32_57 : BitVec 32 := 0#32
  let c3_i32_54 : BitVec 32 := 3#32
  let v93 : BitVec 1 := Scalar.cmpi .eq v8 c3_i32_54
  let c2_i32_55 : BitVec 32 := 2#32
  let c1_i32_56 : BitVec 32 := 1#32
  let v94 : BitVec 32 := Scalar.select v93 c2_i32_55 c1_i32_56
  let v95 : BitVec 32 := Scalar.select v92 c0_i32_57 v94
  let c128_i32_127 : BitVec 32 := 128#32
  let v170 : BitVec 32 := Scalar.muli v95 c128_i32_127
  let c0_i32_135 : BitVec 32 := 0#32
  ![v170.toNat, 0]
def k0_dev8 (d0 : Dev nD) : Nat :=
  let c0_i32_130 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_129 : BitVec 32 := 8#32
  let v171 : BitVec 32 := Scalar.muli v2 c8_i32_129
  let v172 : BitVec 32 := Scalar.addi c0_i32_130 v171
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_131 : BitVec 32 := 4#32
  let v173 : BitVec 32 := Scalar.muli v5 c4_i32_131
  let v174 : BitVec 32 := Scalar.addi v172 v173
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_53 : BitVec 32 := 1#32
  let v92 : BitVec 1 := Scalar.cmpi .eq v8 c1_i32_53
  let c0_i32_57 : BitVec 32 := 0#32
  let c3_i32_54 : BitVec 32 := 3#32
  let v93 : BitVec 1 := Scalar.cmpi .eq v8 c3_i32_54
  let c2_i32_55 : BitVec 32 := 2#32
  let c1_i32_56 : BitVec 32 := 1#32
  let v94 : BitVec 32 := Scalar.select v93 c2_i32_55 c1_i32_56
  let v95 : BitVec 32 := Scalar.select v92 c0_i32_57 v94
  let c1_i32_132 : BitVec 32 := 1#32
  let v175 : BitVec 32 := Scalar.muli v95 c1_i32_132
  let v176 : BitVec 32 := Scalar.addi v174 v175
  v176.toNat
@[reducible] def k0_t7_loop : Scf.Loop 32 :=
  let c0_i32_137 : BitVec 32 := 0#32
  let c128_i32_138 : BitVec 32 := 128#32
  let v185 : BitVec 32 := Scalar.addi c0_i32_137 c128_i32_138
  let c1_i32_139 : BitVec 32 := 1#32
  ⟨c0_i32_137, v185, c1_i32_139⟩
def k0_off51 (d0 : Dev nD) (k0_t7 : Fin k0_t7_loop.trips) : Fin 1 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c512_i32 : BitVec 32 := 512#32
  let v97 : BitVec 32 := Scalar.muli v11 c512_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c128_i32_136 : BitVec 32 := 128#32
  let v184 : BitVec 32 := Scalar.muli v8 c128_i32_136
  let c0_i32_137 : BitVec 32 := 0#32
  let c1_i32_139 : BitVec 32 := 1#32
  let arg17 : BitVec 32 := Scf.iv c0_i32_137 c1_i32_139 k0_t7
  let c16_i32_709 : BitVec 32 := 16#32
  let v936 : BitVec 32 := Scalar.subi arg17 c16_i32_709
  let c0_i32_710 : BitVec 32 := 0#32
  let v937 : BitVec 32 := Scalar.maxsi v936 c0_i32_710
  let v938 : BitVec 32 := Scalar.addi v184 v937
  let v939 : BitVec 32 := Scalar.addi v97 v938
  let v940 : Index := Scalar.indexCast v939
  ![v940.toNat]
def k0_off52 (d0 : Dev nD) (k0_t7 : Fin k0_t7_loop.trips) : Fin 1 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c512_i32 : BitVec 32 := 512#32
  let v97 : BitVec 32 := Scalar.muli v11 c512_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c128_i32_136 : BitVec 32 := 128#32
  let v184 : BitVec 32 := Scalar.muli v8 c128_i32_136
  let c0_i32_137 : BitVec 32 := 0#32
  let c1_i32_139 : BitVec 32 := 1#32
  let arg17 : BitVec 32 := Scf.iv c0_i32_137 c1_i32_139 k0_t7
  let c16_i32_709 : BitVec 32 := 16#32
  let v936 : BitVec 32 := Scalar.subi arg17 c16_i32_709
  let c0_i32_710 : BitVec 32 := 0#32
  let v937 : BitVec 32 := Scalar.maxsi v936 c0_i32_710
  let v938 : BitVec 32 := Scalar.addi v184 v937
  let v959 : BitVec 32 := Scalar.addi v97 v938
  let v960 : Index := Scalar.indexCast v959
  ![v960.toNat]
def k0_off53 (d0 : Dev nD) (k0_t7 : Fin k0_t7_loop.trips) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c128_i32_136 : BitVec 32 := 128#32
  let v184 : BitVec 32 := Scalar.muli v8 c128_i32_136
  let c0_i32_137 : BitVec 32 := 0#32
  let c1_i32_139 : BitVec 32 := 1#32
  let arg17 : BitVec 32 := Scf.iv c0_i32_137 c1_i32_139 k0_t7
  let c16_i32_709 : BitVec 32 := 16#32
  let v936 : BitVec 32 := Scalar.subi arg17 c16_i32_709
  let c0_i32_710 : BitVec 32 := 0#32
  let v937 : BitVec 32 := Scalar.maxsi v936 c0_i32_710
  let v938 : BitVec 32 := Scalar.addi v184 v937
  let c16_i32_718 : BitVec 32 := 16#32
  let v963 : BitVec 32 := Scalar.remsi v938 c16_i32_718
  ![v963.toNat]
def k0_off54 (d0 : Dev nD) (k0_t7 : Fin k0_t7_loop.trips) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c128_i32_136 : BitVec 32 := 128#32
  let v184 : BitVec 32 := Scalar.muli v8 c128_i32_136
  let c0_i32_137 : BitVec 32 := 0#32
  let c1_i32_139 : BitVec 32 := 1#32
  let arg17 : BitVec 32 := Scf.iv c0_i32_137 c1_i32_139 k0_t7
  let c16_i32_709 : BitVec 32 := 16#32
  let v936 : BitVec 32 := Scalar.subi arg17 c16_i32_709
  let c0_i32_710 : BitVec 32 := 0#32
  let v937 : BitVec 32 := Scalar.maxsi v936 c0_i32_710
  let v938 : BitVec 32 := Scalar.addi v184 v937
  let c0_i32_719 : BitVec 32 := 0#32
  ![v938.toNat, 0]
def k0_off55 (d0 : Dev nD) (v961 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c16384_i32 : BitVec 32 := 16384#32
  let v96 : BitVec 32 := Scalar.muli v8 c16384_i32
  let v962 : BitVec 32 := Scalar.subi v961 v96
  let c0_i32_720 : BitVec 32 := 0#32
  ![v962.toNat, 0]
def k0_cond10 (d0 : Dev nD) (k0_t7 : Fin k0_t7_loop.trips) (v941 : BitVec 32) : BitVec 1 :=
  let c0_i32_137 : BitVec 32 := 0#32
  let c1_i32_139 : BitVec 32 := 1#32
  let arg17 : BitVec 32 := Scf.iv c0_i32_137 c1_i32_139 k0_t7
  let c16_i32_713 : BitVec 32 := 16#32
  let v946 : BitVec 1 := Scalar.cmpi .sge arg17 c16_i32_713
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c16384_i32 : BitVec 32 := 16384#32
  let v96 : BitVec 32 := Scalar.muli v8 c16384_i32
  let v942 : BitVec 32 := Scalar.subi v941 v96
  let c0_i32_711 : BitVec 32 := 0#32
  let v943 : BitVec 1 := Scalar.cmpi .sge v942 c0_i32_711
  let c16384_i32_712 : BitVec 32 := 16384#32
  let v944 : BitVec 1 := Scalar.cmpi .slt v942 c16384_i32_712
  let v945 : BitVec 1 := Scalar.andi v943 v944
  let v947 : BitVec 1 := Scalar.andi v946 v945
  let v948 : BitVec 32 := Scalar.extui v947
  let c0_i32_714 : BitVec 32 := 0#32
  let v949 : BitVec 1 := Scalar.cmpi .ne v948 c0_i32_714
  v949

def k0_chk10 (d0 : Dev nD) (k0_t7 : Fin k0_t7_loop.trips) (v941 : BitVec 32) (v961 : BitVec 32) : Prop :=
  (∀ (k0_h10 : k0_cond10 d0 k0_t7 v941 = 1#1), ∀ a, (k0_off55 d0 v961) a + S1x1024.size a ≤ S16384x1024.size a)
theorem k0_off55_inb : ∀ (d0 : Dev nD) (k0_t7 : Fin k0_t7_loop.trips) (v941 : BitVec 32) (v961 : BitVec 32) (k0_hw10 : k0_chk10 d0 k0_t7 v941 v961), ∀ (k0_h10 : k0_cond10 d0 k0_t7 v941 = 1#1), ∀ a, (k0_off55 d0 v961) a + S1x1024.size a ≤ S16384x1024.size a := fun d0 k0_t7 v941 v961 k0_hw10 k0_h10 => k0_hw10 k0_h10

def k0_off56 (d0 : Dev nD) (k0_t7 : Fin k0_t7_loop.trips) : Fin 1 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c512_i32 : BitVec 32 := 512#32
  let v97 : BitVec 32 := Scalar.muli v11 c512_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c128_i32_136 : BitVec 32 := 128#32
  let v184 : BitVec 32 := Scalar.muli v8 c128_i32_136
  let c0_i32_137 : BitVec 32 := 0#32
  let c1_i32_139 : BitVec 32 := 1#32
  let arg17 : BitVec 32 := Scf.iv c0_i32_137 c1_i32_139 k0_t7
  let v935 : BitVec 32 := Scalar.addi v184 arg17
  let v950 : BitVec 32 := Scalar.addi v97 v935
  let v951 : Index := Scalar.indexCast v950
  ![v951.toNat]
def k0_off57 (d0 : Dev nD) (k0_t7 : Fin k0_t7_loop.trips) : Fin 1 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c512_i32 : BitVec 32 := 512#32
  let v97 : BitVec 32 := Scalar.muli v11 c512_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c128_i32_136 : BitVec 32 := 128#32
  let v184 : BitVec 32 := Scalar.muli v8 c128_i32_136
  let c0_i32_137 : BitVec 32 := 0#32
  let c1_i32_139 : BitVec 32 := 1#32
  let arg17 : BitVec 32 := Scf.iv c0_i32_137 c1_i32_139 k0_t7
  let v935 : BitVec 32 := Scalar.addi v184 arg17
  let v959 : BitVec 32 := Scalar.addi v97 v935
  let v960 : Index := Scalar.indexCast v959
  ![v960.toNat]
def k0_off58 (d0 : Dev nD) (k0_t7 : Fin k0_t7_loop.trips) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c128_i32_136 : BitVec 32 := 128#32
  let v184 : BitVec 32 := Scalar.muli v8 c128_i32_136
  let c0_i32_137 : BitVec 32 := 0#32
  let c1_i32_139 : BitVec 32 := 1#32
  let arg17 : BitVec 32 := Scf.iv c0_i32_137 c1_i32_139 k0_t7
  let v935 : BitVec 32 := Scalar.addi v184 arg17
  let c16_i32_718 : BitVec 32 := 16#32
  let v963 : BitVec 32 := Scalar.remsi v935 c16_i32_718
  ![v963.toNat]
def k0_off59 (d0 : Dev nD) (k0_t7 : Fin k0_t7_loop.trips) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c128_i32_136 : BitVec 32 := 128#32
  let v184 : BitVec 32 := Scalar.muli v8 c128_i32_136
  let c0_i32_137 : BitVec 32 := 0#32
  let c1_i32_139 : BitVec 32 := 1#32
  let arg17 : BitVec 32 := Scf.iv c0_i32_137 c1_i32_139 k0_t7
  let v935 : BitVec 32 := Scalar.addi v184 arg17
  let c0_i32_719 : BitVec 32 := 0#32
  ![v935.toNat, 0]
def k0_off60 (d0 : Dev nD) (v961 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c16384_i32 : BitVec 32 := 16384#32
  let v96 : BitVec 32 := Scalar.muli v8 c16384_i32
  let v962 : BitVec 32 := Scalar.subi v961 v96
  let c0_i32_720 : BitVec 32 := 0#32
  ![v962.toNat, 0]
def k0_cond11 (d0 : Dev nD) (v952 : BitVec 32) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c16384_i32 : BitVec 32 := 16384#32
  let v96 : BitVec 32 := Scalar.muli v8 c16384_i32
  let v953 : BitVec 32 := Scalar.subi v952 v96
  let c0_i32_715 : BitVec 32 := 0#32
  let v954 : BitVec 1 := Scalar.cmpi .sge v953 c0_i32_715
  let c16384_i32_716 : BitVec 32 := 16384#32
  let v955 : BitVec 1 := Scalar.cmpi .slt v953 c16384_i32_716
  let v956 : BitVec 1 := Scalar.andi v954 v955
  let v957 : BitVec 32 := Scalar.extui v956
  let c0_i32_717 : BitVec 32 := 0#32
  let v958 : BitVec 1 := Scalar.cmpi .ne v957 c0_i32_717
  v958

def k0_chk11 (d0 : Dev nD) (v952 : BitVec 32) (v961 : BitVec 32) : Prop :=
  (∀ (k0_h11 : k0_cond11 d0 v952 = 1#1), ∀ a, (k0_off60 d0 v961) a + S1x1024.size a ≤ S16384x1024.size a)
theorem k0_off60_inb : ∀ (d0 : Dev nD) (v952 : BitVec 32) (v961 : BitVec 32) (k0_hw11 : k0_chk11 d0 v952 v961), ∀ (k0_h11 : k0_cond11 d0 v952 = 1#1), ∀ a, (k0_off60 d0 v961) a + S1x1024.size a ≤ S16384x1024.size a := fun d0 v952 v961 k0_hw11 k0_h11 => k0_hw11 k0_h11

@[reducible] def k0_t8_loop : Scf.Loop 32 :=
  let c0_i32_141 : BitVec 32 := 0#32
  let c16_i32_142 : BitVec 32 := 16#32
  let v186 : BitVec 32 := Scalar.addi c0_i32_141 c16_i32_142
  let c1_i32_143 : BitVec 32 := 1#32
  ⟨c0_i32_141, v186, c1_i32_143⟩
def k0_off61 (d0 : Dev nD) (k0_t8 : Fin k0_t8_loop.trips) : Fin 1 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c512_i32 : BitVec 32 := 512#32
  let v97 : BitVec 32 := Scalar.muli v11 c512_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c128_i32_136 : BitVec 32 := 128#32
  let v184 : BitVec 32 := Scalar.muli v8 c128_i32_136
  let c128_i32_709 : BitVec 32 := 128#32
  let v935 : BitVec 32 := Scalar.addi v184 c128_i32_709
  let c16_i32_710 : BitVec 32 := 16#32
  let v936 : BitVec 32 := Scalar.subi v935 c16_i32_710
  let c0_i32_141 : BitVec 32 := 0#32
  let c1_i32_143 : BitVec 32 := 1#32
  let arg17 : BitVec 32 := Scf.iv c0_i32_141 c1_i32_143 k0_t8
  let v937 : BitVec 32 := Scalar.addi v936 arg17
  let v938 : BitVec 32 := Scalar.addi v97 v937
  let v939 : Index := Scalar.indexCast v938
  ![v939.toNat]
def k0_off62 (d0 : Dev nD) (k0_t8 : Fin k0_t8_loop.trips) : Fin 1 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c512_i32 : BitVec 32 := 512#32
  let v97 : BitVec 32 := Scalar.muli v11 c512_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c128_i32_136 : BitVec 32 := 128#32
  let v184 : BitVec 32 := Scalar.muli v8 c128_i32_136
  let c128_i32_709 : BitVec 32 := 128#32
  let v935 : BitVec 32 := Scalar.addi v184 c128_i32_709
  let c16_i32_710 : BitVec 32 := 16#32
  let v936 : BitVec 32 := Scalar.subi v935 c16_i32_710
  let c0_i32_141 : BitVec 32 := 0#32
  let c1_i32_143 : BitVec 32 := 1#32
  let arg17 : BitVec 32 := Scf.iv c0_i32_141 c1_i32_143 k0_t8
  let v937 : BitVec 32 := Scalar.addi v936 arg17
  let v947 : BitVec 32 := Scalar.addi v97 v937
  let v948 : Index := Scalar.indexCast v947
  ![v948.toNat]
def k0_off63 (d0 : Dev nD) (k0_t8 : Fin k0_t8_loop.trips) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c128_i32_136 : BitVec 32 := 128#32
  let v184 : BitVec 32 := Scalar.muli v8 c128_i32_136
  let c128_i32_709 : BitVec 32 := 128#32
  let v935 : BitVec 32 := Scalar.addi v184 c128_i32_709
  let c16_i32_710 : BitVec 32 := 16#32
  let v936 : BitVec 32 := Scalar.subi v935 c16_i32_710
  let c0_i32_141 : BitVec 32 := 0#32
  let c1_i32_143 : BitVec 32 := 1#32
  let arg17 : BitVec 32 := Scf.iv c0_i32_141 c1_i32_143 k0_t8
  let v937 : BitVec 32 := Scalar.addi v936 arg17
  let c16_i32_714 : BitVec 32 := 16#32
  let v951 : BitVec 32 := Scalar.remsi v937 c16_i32_714
  ![v951.toNat]
def k0_off64 (d0 : Dev nD) (k0_t8 : Fin k0_t8_loop.trips) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c128_i32_136 : BitVec 32 := 128#32
  let v184 : BitVec 32 := Scalar.muli v8 c128_i32_136
  let c128_i32_709 : BitVec 32 := 128#32
  let v935 : BitVec 32 := Scalar.addi v184 c128_i32_709
  let c16_i32_710 : BitVec 32 := 16#32
  let v936 : BitVec 32 := Scalar.subi v935 c16_i32_710
  let c0_i32_141 : BitVec 32 := 0#32
  let c1_i32_143 : BitVec 32 := 1#32
  let arg17 : BitVec 32 := Scf.iv c0_i32_141 c1_i32_143 k0_t8
  let v937 : BitVec 32 := Scalar.addi v936 arg17
  let c0_i32_715 : BitVec 32 := 0#32
  ![v937.toNat, 0]
def k0_off65 (d0 : Dev nD) (v949 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c16384_i32 : BitVec 32 := 16384#32
  let v96 : BitVec 32 := Scalar.muli v8 c16384_i32
  let v950 : BitVec 32 := Scalar.subi v949 v96
  let c0_i32_716 : BitVec 32 := 0#32
  ![v950.toNat, 0]
def k0_cond12 (d0 : Dev nD) (v940 : BitVec 32) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c16384_i32 : BitVec 32 := 16384#32
  let v96 : BitVec 32 := Scalar.muli v8 c16384_i32
  let v941 : BitVec 32 := Scalar.subi v940 v96
  let c0_i32_711 : BitVec 32 := 0#32
  let v942 : BitVec 1 := Scalar.cmpi .sge v941 c0_i32_711
  let c16384_i32_712 : BitVec 32 := 16384#32
  let v943 : BitVec 1 := Scalar.cmpi .slt v941 c16384_i32_712
  let v944 : BitVec 1 := Scalar.andi v942 v943
  let v945 : BitVec 32 := Scalar.extui v944
  let c0_i32_713 : BitVec 32 := 0#32
  let v946 : BitVec 1 := Scalar.cmpi .ne v945 c0_i32_713
  v946

def k0_chk12 (d0 : Dev nD) (v940 : BitVec 32) (v949 : BitVec 32) : Prop :=
  (∀ (k0_h12 : k0_cond12 d0 v940 = 1#1), ∀ a, (k0_off65 d0 v949) a + S1x1024.size a ≤ S16384x1024.size a)
theorem k0_off65_inb : ∀ (d0 : Dev nD) (v940 : BitVec 32) (v949 : BitVec 32) (k0_hw12 : k0_chk12 d0 v940 v949), ∀ (k0_h12 : k0_cond12 d0 v940 = 1#1), ∀ a, (k0_off65 d0 v949) a + S1x1024.size a ≤ S16384x1024.size a := fun d0 v940 v949 k0_hw12 k0_h12 => k0_hw12 k0_h12

def k0_off66 (d0 : Dev nD) (c1_i32_40 : BitVec 32) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v80 : BitVec 32 := Scalar.addi v8 c1_i32_40
  let c4_i32_41 : BitVec 32 := 4#32
  let v81 : BitVec 32 := Scalar.remsi v80 c4_i32_41
  ![v81.toNat]
def k0_off67 (d0 : Dev nD) (c1_i32_40 : BitVec 32) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v80 : BitVec 32 := Scalar.addi v8 c1_i32_40
  let c4_i32_41 : BitVec 32 := 4#32
  let v81 : BitVec 32 := Scalar.remsi v80 c4_i32_41
  let c0_i32_150 : BitVec 32 := 0#32
  let c0_i32_151 : BitVec 32 := 0#32
  ![v81.toNat, 0, 0]
def k0_off68 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c128_i32_172 : BitVec 32 := 128#32
  let v223 : BitVec 32 := Scalar.muli v8 c128_i32_172
  let v224 : Index := Scalar.indexCast v223
  let c0_173 : Index := 0#32
  ![v224.toNat, 0]
def k0_off69 (d0 : Dev nD) (c1_i32_40 : BitVec 32) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v80 : BitVec 32 := Scalar.addi v8 c1_i32_40
  let c4_i32_41 : BitVec 32 := 4#32
  let v81 : BitVec 32 := Scalar.remsi v80 c4_i32_41
  let v226 : Index := Scalar.indexCast v81
  let c0_174 : Index := 0#32
  let c0_175 : Index := 0#32
  ![v226.toNat, 0, 0]
def k0_off70 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c128_i32_172 : BitVec 32 := 128#32
  let v223 : BitVec 32 := Scalar.muli v8 c128_i32_172
  let c0_i32_186 : BitVec 32 := 0#32
  ![v223.toNat, 0]
def k0_dev9 (d0 : Dev nD) : Nat :=
  let c0_i32_183 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_182 : BitVec 32 := 8#32
  let v242 : BitVec 32 := Scalar.muli v2 c8_i32_182
  let v243 : BitVec 32 := Scalar.addi c0_i32_183 v242
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_184 : BitVec 32 := 4#32
  let v244 : BitVec 32 := Scalar.muli v5 c4_i32_184
  let v245 : BitVec 32 := Scalar.addi v243 v244
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_45 : BitVec 32 := 1#32
  let v86 : BitVec 1 := Scalar.cmpi .sle v8 c1_i32_45
  let c3_i32_46 : BitVec 32 := 3#32
  let c0_i32_47 : BitVec 32 := 0#32
  let v87 : BitVec 32 := Scalar.select v86 c3_i32_46 c0_i32_47
  let c1_i32_185 : BitVec 32 := 1#32
  let v246 : BitVec 32 := Scalar.muli v87 c1_i32_185
  let v247 : BitVec 32 := Scalar.addi v245 v246
  v247.toNat
def k0_dev10 (d0 : Dev nD) : Nat :=
  let c0_i32_190 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_189 : BitVec 32 := 8#32
  let v254 : BitVec 32 := Scalar.muli v2 c8_i32_189
  let v255 : BitVec 32 := Scalar.addi c0_i32_190 v254
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_191 : BitVec 32 := 4#32
  let v256 : BitVec 32 := Scalar.muli v5 c4_i32_191
  let v257 : BitVec 32 := Scalar.addi v255 v256
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_48 : BitVec 32 := 1#32
  let v88 : BitVec 1 := Scalar.cmpi .sle v8 c1_i32_48
  let c2_i32_52 : BitVec 32 := 2#32
  let c2_i32_49 : BitVec 32 := 2#32
  let v89 : BitVec 1 := Scalar.cmpi .eq v8 c2_i32_49
  let c3_i32_50 : BitVec 32 := 3#32
  let c1_i32_51 : BitVec 32 := 1#32
  let v90 : BitVec 32 := Scalar.select v89 c3_i32_50 c1_i32_51
  let v91 : BitVec 32 := Scalar.select v88 c2_i32_52 v90
  let c1_i32_192 : BitVec 32 := 1#32
  let v258 : BitVec 32 := Scalar.muli v91 c1_i32_192
  let v259 : BitVec 32 := Scalar.addi v257 v258
  v259.toNat
def k0_dev11 (d0 : Dev nD) : Nat :=
  let c0_i32_197 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_196 : BitVec 32 := 8#32
  let v266 : BitVec 32 := Scalar.muli v2 c8_i32_196
  let v267 : BitVec 32 := Scalar.addi c0_i32_197 v266
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_198 : BitVec 32 := 4#32
  let v268 : BitVec 32 := Scalar.muli v5 c4_i32_198
  let v269 : BitVec 32 := Scalar.addi v267 v268
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_53 : BitVec 32 := 1#32
  let v92 : BitVec 1 := Scalar.cmpi .eq v8 c1_i32_53
  let c0_i32_57 : BitVec 32 := 0#32
  let c3_i32_54 : BitVec 32 := 3#32
  let v93 : BitVec 1 := Scalar.cmpi .eq v8 c3_i32_54
  let c2_i32_55 : BitVec 32 := 2#32
  let c1_i32_56 : BitVec 32 := 1#32
  let v94 : BitVec 32 := Scalar.select v93 c2_i32_55 c1_i32_56
  let v95 : BitVec 32 := Scalar.select v92 c0_i32_57 v94
  let c1_i32_199 : BitVec 32 := 1#32
  let v270 : BitVec 32 := Scalar.muli v95 c1_i32_199
  let v271 : BitVec 32 := Scalar.addi v269 v270
  v271.toNat
def k0_off71 (d0 : Dev nD) : Fin 2 → Nat :=
  let c0_i32_204 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  ![0, v8.toNat]
def k0_dev12 (d0 : Dev nD) : Nat :=
  let c0_i32_206 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c1_i32_3 : BitVec 32 := 1#32
  let v12 : BitVec 32 := Scalar.addi v11 c1_i32_3
  let c4_i32_4 : BitVec 32 := 4#32
  let v13 : BitVec 32 := Scalar.remsi v12 c4_i32_4
  let c0_i32 : BitVec 32 := 0#32
  let v15 : BitVec 1 := Scalar.cmpi .sgt v13 c0_i32
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32_5 : BitVec 32 := 2#32
  let c0_i32_7 : BitVec 32 := 0#32
  let v20 : BitVec 1 := Scalar.cmpi .sgt c2_i32_5 c0_i32_7
  let v21 : BitVec 32 := Scalar.extui v20
  let c0_i32_8 : BitVec 32 := 0#32
  let v22 : BitVec 1 := Scalar.cmpi .slt c2_i32_5 c0_i32_8
  let v23 : BitVec 32 := Scalar.extui v22
  let v24 : BitVec 32 := Scalar.subi v21 v23
  let v25 : BitVec 1 := Scalar.cmpi .ne v19 v24
  let v26 : BitVec 32 := Scalar.remsi v13 c2_i32_5
  let c0_i32_9 : BitVec 32 := 0#32
  let v27 : BitVec 1 := Scalar.cmpi .ne v26 c0_i32_9
  let v28 : BitVec 1 := Scalar.andi v25 v27
  let v14 : BitVec 32 := Scalar.divsi v13 c2_i32_5
  let c1_i32_10 : BitVec 32 := 1#32
  let v29 : BitVec 32 := Scalar.subi v14 c1_i32_10
  let v30 : BitVec 32 := Scalar.select v28 v29 v14
  let c8_i32_205 : BitVec 32 := 8#32
  let v279 : BitVec 32 := Scalar.muli v30 c8_i32_205
  let v280 : BitVec 32 := Scalar.addi c0_i32_206 v279
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v13 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v41 : BitVec 32 := Scalar.xori v30 v40
  let c4_i32_207 : BitVec 32 := 4#32
  let v281 : BitVec 32 := Scalar.muli v41 c4_i32_207
  let v282 : BitVec 32 := Scalar.addi v280 v281
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_208 : BitVec 32 := 1#32
  let v283 : BitVec 32 := Scalar.muli v8 c1_i32_208
  let v284 : BitVec 32 := Scalar.addi v282 v283
  v284.toNat
def k0_off72 (d0 : Dev nD) : Fin 2 → Nat :=
  let c1_i32_212 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  ![1, v8.toNat]
def k0_dev13 (d0 : Dev nD) : Nat :=
  let c0_i32_214 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c4_i32_17 : BitVec 32 := 4#32
  let v42 : BitVec 32 := Scalar.addi v11 c4_i32_17
  let c1_i32_18 : BitVec 32 := 1#32
  let v43 : BitVec 32 := Scalar.subi v42 c1_i32_18
  let c4_i32_19 : BitVec 32 := 4#32
  let v44 : BitVec 32 := Scalar.remsi v43 c4_i32_19
  let c0_i32_21 : BitVec 32 := 0#32
  let v46 : BitVec 1 := Scalar.cmpi .sgt v44 c0_i32_21
  let v47 : BitVec 32 := Scalar.extui v46
  let c0_i32_22 : BitVec 32 := 0#32
  let v48 : BitVec 1 := Scalar.cmpi .slt v44 c0_i32_22
  let v49 : BitVec 32 := Scalar.extui v48
  let v50 : BitVec 32 := Scalar.subi v47 v49
  let c2_i32_20 : BitVec 32 := 2#32
  let c0_i32_23 : BitVec 32 := 0#32
  let v51 : BitVec 1 := Scalar.cmpi .sgt c2_i32_20 c0_i32_23
  let v52 : BitVec 32 := Scalar.extui v51
  let c0_i32_24 : BitVec 32 := 0#32
  let v53 : BitVec 1 := Scalar.cmpi .slt c2_i32_20 c0_i32_24
  let v54 : BitVec 32 := Scalar.extui v53
  let v55 : BitVec 32 := Scalar.subi v52 v54
  let v56 : BitVec 1 := Scalar.cmpi .ne v50 v55
  let v57 : BitVec 32 := Scalar.remsi v44 c2_i32_20
  let c0_i32_25 : BitVec 32 := 0#32
  let v58 : BitVec 1 := Scalar.cmpi .ne v57 c0_i32_25
  let v59 : BitVec 1 := Scalar.andi v56 v58
  let v45 : BitVec 32 := Scalar.divsi v44 c2_i32_20
  let c1_i32_26 : BitVec 32 := 1#32
  let v60 : BitVec 32 := Scalar.subi v45 c1_i32_26
  let v61 : BitVec 32 := Scalar.select v59 v60 v45
  let c8_i32_213 : BitVec 32 := 8#32
  let v291 : BitVec 32 := Scalar.muli v61 c8_i32_213
  let v292 : BitVec 32 := Scalar.addi c0_i32_214 v291
  let c2_i32_27 : BitVec 32 := 2#32
  let c0_i32_28 : BitVec 32 := 0#32
  let v62 : BitVec 1 := Scalar.cmpi .eq c2_i32_27 c0_i32_28
  let c1_i32_29 : BitVec 32 := 1#32
  let v63 : BitVec 32 := Scalar.select v62 c1_i32_29 c2_i32_27
  let v64 : BitVec 32 := Scalar.remsi v44 v63
  let c0_i32_31 : BitVec 32 := 0#32
  let v66 : BitVec 1 := Scalar.cmpi .slt v64 c0_i32_31
  let c0_i32_32 : BitVec 32 := 0#32
  let v67 : BitVec 1 := Scalar.cmpi .slt v63 c0_i32_32
  let v68 : BitVec 1 := Scalar.xori v66 v67
  let c0_i32_30 : BitVec 32 := 0#32
  let v65 : BitVec 1 := Scalar.cmpi .ne v64 c0_i32_30
  let v69 : BitVec 1 := Scalar.andi v68 v65
  let v70 : BitVec 32 := Scalar.addi v64 v63
  let v71 : BitVec 32 := Scalar.select v69 v70 v64
  let v72 : BitVec 32 := Scalar.xori v61 v71
  let c4_i32_215 : BitVec 32 := 4#32
  let v293 : BitVec 32 := Scalar.muli v72 c4_i32_215
  let v294 : BitVec 32 := Scalar.addi v292 v293
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_216 : BitVec 32 := 1#32
  let v295 : BitVec 32 := Scalar.muli v8 c1_i32_216
  let v296 : BitVec 32 := Scalar.addi v294 v295
  v296.toNat
def k0_off73 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c512_i32_220 : BitVec 32 := 512#32
  let v305 : BitVec 32 := Scalar.muli v11 c512_i32_220
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c128_i32_221 : BitVec 32 := 128#32
  let v306 : BitVec 32 := Scalar.muli v8 c128_i32_221
  let v307 : BitVec 32 := Scalar.addi v305 v306
  let v308 : Index := Scalar.indexCast v307
  let c0_222 : Index := 0#32
  ![v308.toNat, 0]
def k0_off74 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_53 : BitVec 32 := 1#32
  let v92 : BitVec 1 := Scalar.cmpi .eq v8 c1_i32_53
  let c0_i32_57 : BitVec 32 := 0#32
  let c3_i32_54 : BitVec 32 := 3#32
  let v93 : BitVec 1 := Scalar.cmpi .eq v8 c3_i32_54
  let c2_i32_55 : BitVec 32 := 2#32
  let c1_i32_56 : BitVec 32 := 1#32
  let v94 : BitVec 32 := Scalar.select v93 c2_i32_55 c1_i32_56
  let v95 : BitVec 32 := Scalar.select v92 c0_i32_57 v94
  ![v95.toNat]
def k0_off75 (d0 : Dev nD) : Fin 2 → Nat :=
  let c0_i32_232 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_53 : BitVec 32 := 1#32
  let v92 : BitVec 1 := Scalar.cmpi .eq v8 c1_i32_53
  let c0_i32_57 : BitVec 32 := 0#32
  let c3_i32_54 : BitVec 32 := 3#32
  let v93 : BitVec 1 := Scalar.cmpi .eq v8 c3_i32_54
  let c2_i32_55 : BitVec 32 := 2#32
  let c1_i32_56 : BitVec 32 := 1#32
  let v94 : BitVec 32 := Scalar.select v93 c2_i32_55 c1_i32_56
  let v95 : BitVec 32 := Scalar.select v92 c0_i32_57 v94
  ![0, v95.toNat]
def k0_dev14 (d0 : Dev nD) : Nat :=
  let c0_i32_234 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c1_i32_3 : BitVec 32 := 1#32
  let v12 : BitVec 32 := Scalar.addi v11 c1_i32_3
  let c4_i32_4 : BitVec 32 := 4#32
  let v13 : BitVec 32 := Scalar.remsi v12 c4_i32_4
  let c0_i32 : BitVec 32 := 0#32
  let v15 : BitVec 1 := Scalar.cmpi .sgt v13 c0_i32
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32_5 : BitVec 32 := 2#32
  let c0_i32_7 : BitVec 32 := 0#32
  let v20 : BitVec 1 := Scalar.cmpi .sgt c2_i32_5 c0_i32_7
  let v21 : BitVec 32 := Scalar.extui v20
  let c0_i32_8 : BitVec 32 := 0#32
  let v22 : BitVec 1 := Scalar.cmpi .slt c2_i32_5 c0_i32_8
  let v23 : BitVec 32 := Scalar.extui v22
  let v24 : BitVec 32 := Scalar.subi v21 v23
  let v25 : BitVec 1 := Scalar.cmpi .ne v19 v24
  let v26 : BitVec 32 := Scalar.remsi v13 c2_i32_5
  let c0_i32_9 : BitVec 32 := 0#32
  let v27 : BitVec 1 := Scalar.cmpi .ne v26 c0_i32_9
  let v28 : BitVec 1 := Scalar.andi v25 v27
  let v14 : BitVec 32 := Scalar.divsi v13 c2_i32_5
  let c1_i32_10 : BitVec 32 := 1#32
  let v29 : BitVec 32 := Scalar.subi v14 c1_i32_10
  let v30 : BitVec 32 := Scalar.select v28 v29 v14
  let c8_i32_233 : BitVec 32 := 8#32
  let v321 : BitVec 32 := Scalar.muli v30 c8_i32_233
  let v322 : BitVec 32 := Scalar.addi c0_i32_234 v321
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v13 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v41 : BitVec 32 := Scalar.xori v30 v40
  let c4_i32_235 : BitVec 32 := 4#32
  let v323 : BitVec 32 := Scalar.muli v41 c4_i32_235
  let v324 : BitVec 32 := Scalar.addi v322 v323
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_236 : BitVec 32 := 1#32
  let v325 : BitVec 32 := Scalar.muli v8 c1_i32_236
  let v326 : BitVec 32 := Scalar.addi v324 v325
  v326.toNat
def k0_off76 (d0 : Dev nD) : Fin 2 → Nat :=
  let c1_i32_240 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_53 : BitVec 32 := 1#32
  let v92 : BitVec 1 := Scalar.cmpi .eq v8 c1_i32_53
  let c0_i32_57 : BitVec 32 := 0#32
  let c3_i32_54 : BitVec 32 := 3#32
  let v93 : BitVec 1 := Scalar.cmpi .eq v8 c3_i32_54
  let c2_i32_55 : BitVec 32 := 2#32
  let c1_i32_56 : BitVec 32 := 1#32
  let v94 : BitVec 32 := Scalar.select v93 c2_i32_55 c1_i32_56
  let v95 : BitVec 32 := Scalar.select v92 c0_i32_57 v94
  ![1, v95.toNat]
def k0_dev15 (d0 : Dev nD) : Nat :=
  let c0_i32_242 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c4_i32_17 : BitVec 32 := 4#32
  let v42 : BitVec 32 := Scalar.addi v11 c4_i32_17
  let c1_i32_18 : BitVec 32 := 1#32
  let v43 : BitVec 32 := Scalar.subi v42 c1_i32_18
  let c4_i32_19 : BitVec 32 := 4#32
  let v44 : BitVec 32 := Scalar.remsi v43 c4_i32_19
  let c0_i32_21 : BitVec 32 := 0#32
  let v46 : BitVec 1 := Scalar.cmpi .sgt v44 c0_i32_21
  let v47 : BitVec 32 := Scalar.extui v46
  let c0_i32_22 : BitVec 32 := 0#32
  let v48 : BitVec 1 := Scalar.cmpi .slt v44 c0_i32_22
  let v49 : BitVec 32 := Scalar.extui v48
  let v50 : BitVec 32 := Scalar.subi v47 v49
  let c2_i32_20 : BitVec 32 := 2#32
  let c0_i32_23 : BitVec 32 := 0#32
  let v51 : BitVec 1 := Scalar.cmpi .sgt c2_i32_20 c0_i32_23
  let v52 : BitVec 32 := Scalar.extui v51
  let c0_i32_24 : BitVec 32 := 0#32
  let v53 : BitVec 1 := Scalar.cmpi .slt c2_i32_20 c0_i32_24
  let v54 : BitVec 32 := Scalar.extui v53
  let v55 : BitVec 32 := Scalar.subi v52 v54
  let v56 : BitVec 1 := Scalar.cmpi .ne v50 v55
  let v57 : BitVec 32 := Scalar.remsi v44 c2_i32_20
  let c0_i32_25 : BitVec 32 := 0#32
  let v58 : BitVec 1 := Scalar.cmpi .ne v57 c0_i32_25
  let v59 : BitVec 1 := Scalar.andi v56 v58
  let v45 : BitVec 32 := Scalar.divsi v44 c2_i32_20
  let c1_i32_26 : BitVec 32 := 1#32
  let v60 : BitVec 32 := Scalar.subi v45 c1_i32_26
  let v61 : BitVec 32 := Scalar.select v59 v60 v45
  let c8_i32_241 : BitVec 32 := 8#32
  let v333 : BitVec 32 := Scalar.muli v61 c8_i32_241
  let v334 : BitVec 32 := Scalar.addi c0_i32_242 v333
  let c2_i32_27 : BitVec 32 := 2#32
  let c0_i32_28 : BitVec 32 := 0#32
  let v62 : BitVec 1 := Scalar.cmpi .eq c2_i32_27 c0_i32_28
  let c1_i32_29 : BitVec 32 := 1#32
  let v63 : BitVec 32 := Scalar.select v62 c1_i32_29 c2_i32_27
  let v64 : BitVec 32 := Scalar.remsi v44 v63
  let c0_i32_31 : BitVec 32 := 0#32
  let v66 : BitVec 1 := Scalar.cmpi .slt v64 c0_i32_31
  let c0_i32_32 : BitVec 32 := 0#32
  let v67 : BitVec 1 := Scalar.cmpi .slt v63 c0_i32_32
  let v68 : BitVec 1 := Scalar.xori v66 v67
  let c0_i32_30 : BitVec 32 := 0#32
  let v65 : BitVec 1 := Scalar.cmpi .ne v64 c0_i32_30
  let v69 : BitVec 1 := Scalar.andi v68 v65
  let v70 : BitVec 32 := Scalar.addi v64 v63
  let v71 : BitVec 32 := Scalar.select v69 v70 v64
  let v72 : BitVec 32 := Scalar.xori v61 v71
  let c4_i32_243 : BitVec 32 := 4#32
  let v335 : BitVec 32 := Scalar.muli v72 c4_i32_243
  let v336 : BitVec 32 := Scalar.addi v334 v335
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_244 : BitVec 32 := 1#32
  let v337 : BitVec 32 := Scalar.muli v8 c1_i32_244
  let v338 : BitVec 32 := Scalar.addi v336 v337
  v338.toNat
def k0_off77 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_53 : BitVec 32 := 1#32
  let v92 : BitVec 1 := Scalar.cmpi .eq v8 c1_i32_53
  let c0_i32_57 : BitVec 32 := 0#32
  let c3_i32_54 : BitVec 32 := 3#32
  let v93 : BitVec 1 := Scalar.cmpi .eq v8 c3_i32_54
  let c2_i32_55 : BitVec 32 := 2#32
  let c1_i32_56 : BitVec 32 := 1#32
  let v94 : BitVec 32 := Scalar.select v93 c2_i32_55 c1_i32_56
  let v95 : BitVec 32 := Scalar.select v92 c0_i32_57 v94
  let c128_i32_223 : BitVec 32 := 128#32
  let v310 : BitVec 32 := Scalar.muli v95 c128_i32_223
  let v345 : Index := Scalar.indexCast v310
  let c0_247 : Index := 0#32
  ![v345.toNat, 0]
def k0_off78 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c512_i32_248 : BitVec 32 := 512#32
  let v347 : BitVec 32 := Scalar.muli v11 c512_i32_248
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_53 : BitVec 32 := 1#32
  let v92 : BitVec 1 := Scalar.cmpi .eq v8 c1_i32_53
  let c0_i32_57 : BitVec 32 := 0#32
  let c3_i32_54 : BitVec 32 := 3#32
  let v93 : BitVec 1 := Scalar.cmpi .eq v8 c3_i32_54
  let c2_i32_55 : BitVec 32 := 2#32
  let c1_i32_56 : BitVec 32 := 1#32
  let v94 : BitVec 32 := Scalar.select v93 c2_i32_55 c1_i32_56
  let v95 : BitVec 32 := Scalar.select v92 c0_i32_57 v94
  let c128_i32_249 : BitVec 32 := 128#32
  let v348 : BitVec 32 := Scalar.muli v95 c128_i32_249
  let v349 : BitVec 32 := Scalar.addi v347 v348
  let v350 : Index := Scalar.indexCast v349
  let c0_250 : Index := 0#32
  ![v350.toNat, 0]
def k0_off79 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_48 : BitVec 32 := 1#32
  let v88 : BitVec 1 := Scalar.cmpi .sle v8 c1_i32_48
  let c2_i32_52 : BitVec 32 := 2#32
  let c2_i32_49 : BitVec 32 := 2#32
  let v89 : BitVec 1 := Scalar.cmpi .eq v8 c2_i32_49
  let c3_i32_50 : BitVec 32 := 3#32
  let c1_i32_51 : BitVec 32 := 1#32
  let v90 : BitVec 32 := Scalar.select v89 c3_i32_50 c1_i32_51
  let v91 : BitVec 32 := Scalar.select v88 c2_i32_52 v90
  ![v91.toNat]
def k0_off80 (d0 : Dev nD) : Fin 2 → Nat :=
  let c0_i32_260 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_48 : BitVec 32 := 1#32
  let v88 : BitVec 1 := Scalar.cmpi .sle v8 c1_i32_48
  let c2_i32_52 : BitVec 32 := 2#32
  let c2_i32_49 : BitVec 32 := 2#32
  let v89 : BitVec 1 := Scalar.cmpi .eq v8 c2_i32_49
  let c3_i32_50 : BitVec 32 := 3#32
  let c1_i32_51 : BitVec 32 := 1#32
  let v90 : BitVec 32 := Scalar.select v89 c3_i32_50 c1_i32_51
  let v91 : BitVec 32 := Scalar.select v88 c2_i32_52 v90
  ![0, v91.toNat]
def k0_dev16 (d0 : Dev nD) : Nat :=
  let c0_i32_262 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c1_i32_3 : BitVec 32 := 1#32
  let v12 : BitVec 32 := Scalar.addi v11 c1_i32_3
  let c4_i32_4 : BitVec 32 := 4#32
  let v13 : BitVec 32 := Scalar.remsi v12 c4_i32_4
  let c0_i32 : BitVec 32 := 0#32
  let v15 : BitVec 1 := Scalar.cmpi .sgt v13 c0_i32
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32_5 : BitVec 32 := 2#32
  let c0_i32_7 : BitVec 32 := 0#32
  let v20 : BitVec 1 := Scalar.cmpi .sgt c2_i32_5 c0_i32_7
  let v21 : BitVec 32 := Scalar.extui v20
  let c0_i32_8 : BitVec 32 := 0#32
  let v22 : BitVec 1 := Scalar.cmpi .slt c2_i32_5 c0_i32_8
  let v23 : BitVec 32 := Scalar.extui v22
  let v24 : BitVec 32 := Scalar.subi v21 v23
  let v25 : BitVec 1 := Scalar.cmpi .ne v19 v24
  let v26 : BitVec 32 := Scalar.remsi v13 c2_i32_5
  let c0_i32_9 : BitVec 32 := 0#32
  let v27 : BitVec 1 := Scalar.cmpi .ne v26 c0_i32_9
  let v28 : BitVec 1 := Scalar.andi v25 v27
  let v14 : BitVec 32 := Scalar.divsi v13 c2_i32_5
  let c1_i32_10 : BitVec 32 := 1#32
  let v29 : BitVec 32 := Scalar.subi v14 c1_i32_10
  let v30 : BitVec 32 := Scalar.select v28 v29 v14
  let c8_i32_261 : BitVec 32 := 8#32
  let v363 : BitVec 32 := Scalar.muli v30 c8_i32_261
  let v364 : BitVec 32 := Scalar.addi c0_i32_262 v363
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v13 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v41 : BitVec 32 := Scalar.xori v30 v40
  let c4_i32_263 : BitVec 32 := 4#32
  let v365 : BitVec 32 := Scalar.muli v41 c4_i32_263
  let v366 : BitVec 32 := Scalar.addi v364 v365
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_264 : BitVec 32 := 1#32
  let v367 : BitVec 32 := Scalar.muli v8 c1_i32_264
  let v368 : BitVec 32 := Scalar.addi v366 v367
  v368.toNat
def k0_off81 (d0 : Dev nD) : Fin 2 → Nat :=
  let c1_i32_268 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_48 : BitVec 32 := 1#32
  let v88 : BitVec 1 := Scalar.cmpi .sle v8 c1_i32_48
  let c2_i32_52 : BitVec 32 := 2#32
  let c2_i32_49 : BitVec 32 := 2#32
  let v89 : BitVec 1 := Scalar.cmpi .eq v8 c2_i32_49
  let c3_i32_50 : BitVec 32 := 3#32
  let c1_i32_51 : BitVec 32 := 1#32
  let v90 : BitVec 32 := Scalar.select v89 c3_i32_50 c1_i32_51
  let v91 : BitVec 32 := Scalar.select v88 c2_i32_52 v90
  ![1, v91.toNat]
def k0_dev17 (d0 : Dev nD) : Nat :=
  let c0_i32_270 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c4_i32_17 : BitVec 32 := 4#32
  let v42 : BitVec 32 := Scalar.addi v11 c4_i32_17
  let c1_i32_18 : BitVec 32 := 1#32
  let v43 : BitVec 32 := Scalar.subi v42 c1_i32_18
  let c4_i32_19 : BitVec 32 := 4#32
  let v44 : BitVec 32 := Scalar.remsi v43 c4_i32_19
  let c0_i32_21 : BitVec 32 := 0#32
  let v46 : BitVec 1 := Scalar.cmpi .sgt v44 c0_i32_21
  let v47 : BitVec 32 := Scalar.extui v46
  let c0_i32_22 : BitVec 32 := 0#32
  let v48 : BitVec 1 := Scalar.cmpi .slt v44 c0_i32_22
  let v49 : BitVec 32 := Scalar.extui v48
  let v50 : BitVec 32 := Scalar.subi v47 v49
  let c2_i32_20 : BitVec 32 := 2#32
  let c0_i32_23 : BitVec 32 := 0#32
  let v51 : BitVec 1 := Scalar.cmpi .sgt c2_i32_20 c0_i32_23
  let v52 : BitVec 32 := Scalar.extui v51
  let c0_i32_24 : BitVec 32 := 0#32
  let v53 : BitVec 1 := Scalar.cmpi .slt c2_i32_20 c0_i32_24
  let v54 : BitVec 32 := Scalar.extui v53
  let v55 : BitVec 32 := Scalar.subi v52 v54
  let v56 : BitVec 1 := Scalar.cmpi .ne v50 v55
  let v57 : BitVec 32 := Scalar.remsi v44 c2_i32_20
  let c0_i32_25 : BitVec 32 := 0#32
  let v58 : BitVec 1 := Scalar.cmpi .ne v57 c0_i32_25
  let v59 : BitVec 1 := Scalar.andi v56 v58
  let v45 : BitVec 32 := Scalar.divsi v44 c2_i32_20
  let c1_i32_26 : BitVec 32 := 1#32
  let v60 : BitVec 32 := Scalar.subi v45 c1_i32_26
  let v61 : BitVec 32 := Scalar.select v59 v60 v45
  let c8_i32_269 : BitVec 32 := 8#32
  let v375 : BitVec 32 := Scalar.muli v61 c8_i32_269
  let v376 : BitVec 32 := Scalar.addi c0_i32_270 v375
  let c2_i32_27 : BitVec 32 := 2#32
  let c0_i32_28 : BitVec 32 := 0#32
  let v62 : BitVec 1 := Scalar.cmpi .eq c2_i32_27 c0_i32_28
  let c1_i32_29 : BitVec 32 := 1#32
  let v63 : BitVec 32 := Scalar.select v62 c1_i32_29 c2_i32_27
  let v64 : BitVec 32 := Scalar.remsi v44 v63
  let c0_i32_31 : BitVec 32 := 0#32
  let v66 : BitVec 1 := Scalar.cmpi .slt v64 c0_i32_31
  let c0_i32_32 : BitVec 32 := 0#32
  let v67 : BitVec 1 := Scalar.cmpi .slt v63 c0_i32_32
  let v68 : BitVec 1 := Scalar.xori v66 v67
  let c0_i32_30 : BitVec 32 := 0#32
  let v65 : BitVec 1 := Scalar.cmpi .ne v64 c0_i32_30
  let v69 : BitVec 1 := Scalar.andi v68 v65
  let v70 : BitVec 32 := Scalar.addi v64 v63
  let v71 : BitVec 32 := Scalar.select v69 v70 v64
  let v72 : BitVec 32 := Scalar.xori v61 v71
  let c4_i32_271 : BitVec 32 := 4#32
  let v377 : BitVec 32 := Scalar.muli v72 c4_i32_271
  let v378 : BitVec 32 := Scalar.addi v376 v377
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_272 : BitVec 32 := 1#32
  let v379 : BitVec 32 := Scalar.muli v8 c1_i32_272
  let v380 : BitVec 32 := Scalar.addi v378 v379
  v380.toNat
def k0_off82 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_48 : BitVec 32 := 1#32
  let v88 : BitVec 1 := Scalar.cmpi .sle v8 c1_i32_48
  let c2_i32_52 : BitVec 32 := 2#32
  let c2_i32_49 : BitVec 32 := 2#32
  let v89 : BitVec 1 := Scalar.cmpi .eq v8 c2_i32_49
  let c3_i32_50 : BitVec 32 := 3#32
  let c1_i32_51 : BitVec 32 := 1#32
  let v90 : BitVec 32 := Scalar.select v89 c3_i32_50 c1_i32_51
  let v91 : BitVec 32 := Scalar.select v88 c2_i32_52 v90
  let c128_i32_251 : BitVec 32 := 128#32
  let v352 : BitVec 32 := Scalar.muli v91 c128_i32_251
  let v387 : Index := Scalar.indexCast v352
  let c0_275 : Index := 0#32
  ![v387.toNat, 0]
def k0_off83 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c512_i32_276 : BitVec 32 := 512#32
  let v389 : BitVec 32 := Scalar.muli v11 c512_i32_276
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_48 : BitVec 32 := 1#32
  let v88 : BitVec 1 := Scalar.cmpi .sle v8 c1_i32_48
  let c2_i32_52 : BitVec 32 := 2#32
  let c2_i32_49 : BitVec 32 := 2#32
  let v89 : BitVec 1 := Scalar.cmpi .eq v8 c2_i32_49
  let c3_i32_50 : BitVec 32 := 3#32
  let c1_i32_51 : BitVec 32 := 1#32
  let v90 : BitVec 32 := Scalar.select v89 c3_i32_50 c1_i32_51
  let v91 : BitVec 32 := Scalar.select v88 c2_i32_52 v90
  let c128_i32_277 : BitVec 32 := 128#32
  let v390 : BitVec 32 := Scalar.muli v91 c128_i32_277
  let v391 : BitVec 32 := Scalar.addi v389 v390
  let v392 : Index := Scalar.indexCast v391
  let c0_278 : Index := 0#32
  ![v392.toNat, 0]
def k0_off84 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_45 : BitVec 32 := 1#32
  let v86 : BitVec 1 := Scalar.cmpi .sle v8 c1_i32_45
  let c3_i32_46 : BitVec 32 := 3#32
  let c0_i32_47 : BitVec 32 := 0#32
  let v87 : BitVec 32 := Scalar.select v86 c3_i32_46 c0_i32_47
  ![v87.toNat]
def k0_off85 (d0 : Dev nD) : Fin 2 → Nat :=
  let c0_i32_288 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_45 : BitVec 32 := 1#32
  let v86 : BitVec 1 := Scalar.cmpi .sle v8 c1_i32_45
  let c3_i32_46 : BitVec 32 := 3#32
  let c0_i32_47 : BitVec 32 := 0#32
  let v87 : BitVec 32 := Scalar.select v86 c3_i32_46 c0_i32_47
  ![0, v87.toNat]
def k0_dev18 (d0 : Dev nD) : Nat :=
  let c0_i32_290 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c1_i32_3 : BitVec 32 := 1#32
  let v12 : BitVec 32 := Scalar.addi v11 c1_i32_3
  let c4_i32_4 : BitVec 32 := 4#32
  let v13 : BitVec 32 := Scalar.remsi v12 c4_i32_4
  let c0_i32 : BitVec 32 := 0#32
  let v15 : BitVec 1 := Scalar.cmpi .sgt v13 c0_i32
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32_5 : BitVec 32 := 2#32
  let c0_i32_7 : BitVec 32 := 0#32
  let v20 : BitVec 1 := Scalar.cmpi .sgt c2_i32_5 c0_i32_7
  let v21 : BitVec 32 := Scalar.extui v20
  let c0_i32_8 : BitVec 32 := 0#32
  let v22 : BitVec 1 := Scalar.cmpi .slt c2_i32_5 c0_i32_8
  let v23 : BitVec 32 := Scalar.extui v22
  let v24 : BitVec 32 := Scalar.subi v21 v23
  let v25 : BitVec 1 := Scalar.cmpi .ne v19 v24
  let v26 : BitVec 32 := Scalar.remsi v13 c2_i32_5
  let c0_i32_9 : BitVec 32 := 0#32
  let v27 : BitVec 1 := Scalar.cmpi .ne v26 c0_i32_9
  let v28 : BitVec 1 := Scalar.andi v25 v27
  let v14 : BitVec 32 := Scalar.divsi v13 c2_i32_5
  let c1_i32_10 : BitVec 32 := 1#32
  let v29 : BitVec 32 := Scalar.subi v14 c1_i32_10
  let v30 : BitVec 32 := Scalar.select v28 v29 v14
  let c8_i32_289 : BitVec 32 := 8#32
  let v405 : BitVec 32 := Scalar.muli v30 c8_i32_289
  let v406 : BitVec 32 := Scalar.addi c0_i32_290 v405
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v13 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v41 : BitVec 32 := Scalar.xori v30 v40
  let c4_i32_291 : BitVec 32 := 4#32
  let v407 : BitVec 32 := Scalar.muli v41 c4_i32_291
  let v408 : BitVec 32 := Scalar.addi v406 v407
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_292 : BitVec 32 := 1#32
  let v409 : BitVec 32 := Scalar.muli v8 c1_i32_292
  let v410 : BitVec 32 := Scalar.addi v408 v409
  v410.toNat
def k0_off86 (d0 : Dev nD) : Fin 2 → Nat :=
  let c1_i32_296 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_45 : BitVec 32 := 1#32
  let v86 : BitVec 1 := Scalar.cmpi .sle v8 c1_i32_45
  let c3_i32_46 : BitVec 32 := 3#32
  let c0_i32_47 : BitVec 32 := 0#32
  let v87 : BitVec 32 := Scalar.select v86 c3_i32_46 c0_i32_47
  ![1, v87.toNat]
def k0_dev19 (d0 : Dev nD) : Nat :=
  let c0_i32_298 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c4_i32_17 : BitVec 32 := 4#32
  let v42 : BitVec 32 := Scalar.addi v11 c4_i32_17
  let c1_i32_18 : BitVec 32 := 1#32
  let v43 : BitVec 32 := Scalar.subi v42 c1_i32_18
  let c4_i32_19 : BitVec 32 := 4#32
  let v44 : BitVec 32 := Scalar.remsi v43 c4_i32_19
  let c0_i32_21 : BitVec 32 := 0#32
  let v46 : BitVec 1 := Scalar.cmpi .sgt v44 c0_i32_21
  let v47 : BitVec 32 := Scalar.extui v46
  let c0_i32_22 : BitVec 32 := 0#32
  let v48 : BitVec 1 := Scalar.cmpi .slt v44 c0_i32_22
  let v49 : BitVec 32 := Scalar.extui v48
  let v50 : BitVec 32 := Scalar.subi v47 v49
  let c2_i32_20 : BitVec 32 := 2#32
  let c0_i32_23 : BitVec 32 := 0#32
  let v51 : BitVec 1 := Scalar.cmpi .sgt c2_i32_20 c0_i32_23
  let v52 : BitVec 32 := Scalar.extui v51
  let c0_i32_24 : BitVec 32 := 0#32
  let v53 : BitVec 1 := Scalar.cmpi .slt c2_i32_20 c0_i32_24
  let v54 : BitVec 32 := Scalar.extui v53
  let v55 : BitVec 32 := Scalar.subi v52 v54
  let v56 : BitVec 1 := Scalar.cmpi .ne v50 v55
  let v57 : BitVec 32 := Scalar.remsi v44 c2_i32_20
  let c0_i32_25 : BitVec 32 := 0#32
  let v58 : BitVec 1 := Scalar.cmpi .ne v57 c0_i32_25
  let v59 : BitVec 1 := Scalar.andi v56 v58
  let v45 : BitVec 32 := Scalar.divsi v44 c2_i32_20
  let c1_i32_26 : BitVec 32 := 1#32
  let v60 : BitVec 32 := Scalar.subi v45 c1_i32_26
  let v61 : BitVec 32 := Scalar.select v59 v60 v45
  let c8_i32_297 : BitVec 32 := 8#32
  let v417 : BitVec 32 := Scalar.muli v61 c8_i32_297
  let v418 : BitVec 32 := Scalar.addi c0_i32_298 v417
  let c2_i32_27 : BitVec 32 := 2#32
  let c0_i32_28 : BitVec 32 := 0#32
  let v62 : BitVec 1 := Scalar.cmpi .eq c2_i32_27 c0_i32_28
  let c1_i32_29 : BitVec 32 := 1#32
  let v63 : BitVec 32 := Scalar.select v62 c1_i32_29 c2_i32_27
  let v64 : BitVec 32 := Scalar.remsi v44 v63
  let c0_i32_31 : BitVec 32 := 0#32
  let v66 : BitVec 1 := Scalar.cmpi .slt v64 c0_i32_31
  let c0_i32_32 : BitVec 32 := 0#32
  let v67 : BitVec 1 := Scalar.cmpi .slt v63 c0_i32_32
  let v68 : BitVec 1 := Scalar.xori v66 v67
  let c0_i32_30 : BitVec 32 := 0#32
  let v65 : BitVec 1 := Scalar.cmpi .ne v64 c0_i32_30
  let v69 : BitVec 1 := Scalar.andi v68 v65
  let v70 : BitVec 32 := Scalar.addi v64 v63
  let v71 : BitVec 32 := Scalar.select v69 v70 v64
  let v72 : BitVec 32 := Scalar.xori v61 v71
  let c4_i32_299 : BitVec 32 := 4#32
  let v419 : BitVec 32 := Scalar.muli v72 c4_i32_299
  let v420 : BitVec 32 := Scalar.addi v418 v419
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_300 : BitVec 32 := 1#32
  let v421 : BitVec 32 := Scalar.muli v8 c1_i32_300
  let v422 : BitVec 32 := Scalar.addi v420 v421
  v422.toNat
def k0_off87 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_45 : BitVec 32 := 1#32
  let v86 : BitVec 1 := Scalar.cmpi .sle v8 c1_i32_45
  let c3_i32_46 : BitVec 32 := 3#32
  let c0_i32_47 : BitVec 32 := 0#32
  let v87 : BitVec 32 := Scalar.select v86 c3_i32_46 c0_i32_47
  let c128_i32_279 : BitVec 32 := 128#32
  let v394 : BitVec 32 := Scalar.muli v87 c128_i32_279
  let v429 : Index := Scalar.indexCast v394
  let c0_303 : Index := 0#32
  ![v429.toNat, 0]
def k0_off88 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c512_i32_304 : BitVec 32 := 512#32
  let v431 : BitVec 32 := Scalar.muli v11 c512_i32_304
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_45 : BitVec 32 := 1#32
  let v86 : BitVec 1 := Scalar.cmpi .sle v8 c1_i32_45
  let c3_i32_46 : BitVec 32 := 3#32
  let c0_i32_47 : BitVec 32 := 0#32
  let v87 : BitVec 32 := Scalar.select v86 c3_i32_46 c0_i32_47
  let c128_i32_305 : BitVec 32 := 128#32
  let v432 : BitVec 32 := Scalar.muli v87 c128_i32_305
  let v433 : BitVec 32 := Scalar.addi v431 v432
  let v434 : Index := Scalar.indexCast v433
  let c0_306 : Index := 0#32
  ![v434.toNat, 0]
def k0_off89 (d0 : Dev nD) : Fin 2 → Nat :=
  let c2_i32_317 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  ![2, v8.toNat]
def k0_off90 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c64_i32 : BitVec 32 := 64#32
  let v447 : BitVec 32 := Scalar.muli v8 c64_i32
  let c0_i32_322 : BitVec 32 := 0#32
  ![v447.toNat, 0]
def k0_off91 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c128_i32_315 : BitVec 32 := 128#32
  let v446 : BitVec 32 := Scalar.muli v8 c128_i32_315
  let c0_i32_323 : BitVec 32 := 0#32
  ![v446.toNat, 0]
def k0_dev20 (d0 : Dev nD) : Nat :=
  let c0_i32_319 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c1_i32_3 : BitVec 32 := 1#32
  let v12 : BitVec 32 := Scalar.addi v11 c1_i32_3
  let c4_i32_4 : BitVec 32 := 4#32
  let v13 : BitVec 32 := Scalar.remsi v12 c4_i32_4
  let c0_i32 : BitVec 32 := 0#32
  let v15 : BitVec 1 := Scalar.cmpi .sgt v13 c0_i32
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32_5 : BitVec 32 := 2#32
  let c0_i32_7 : BitVec 32 := 0#32
  let v20 : BitVec 1 := Scalar.cmpi .sgt c2_i32_5 c0_i32_7
  let v21 : BitVec 32 := Scalar.extui v20
  let c0_i32_8 : BitVec 32 := 0#32
  let v22 : BitVec 1 := Scalar.cmpi .slt c2_i32_5 c0_i32_8
  let v23 : BitVec 32 := Scalar.extui v22
  let v24 : BitVec 32 := Scalar.subi v21 v23
  let v25 : BitVec 1 := Scalar.cmpi .ne v19 v24
  let v26 : BitVec 32 := Scalar.remsi v13 c2_i32_5
  let c0_i32_9 : BitVec 32 := 0#32
  let v27 : BitVec 1 := Scalar.cmpi .ne v26 c0_i32_9
  let v28 : BitVec 1 := Scalar.andi v25 v27
  let v14 : BitVec 32 := Scalar.divsi v13 c2_i32_5
  let c1_i32_10 : BitVec 32 := 1#32
  let v29 : BitVec 32 := Scalar.subi v14 c1_i32_10
  let v30 : BitVec 32 := Scalar.select v28 v29 v14
  let c8_i32_318 : BitVec 32 := 8#32
  let v448 : BitVec 32 := Scalar.muli v30 c8_i32_318
  let v449 : BitVec 32 := Scalar.addi c0_i32_319 v448
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v13 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v41 : BitVec 32 := Scalar.xori v30 v40
  let c4_i32_320 : BitVec 32 := 4#32
  let v450 : BitVec 32 := Scalar.muli v41 c4_i32_320
  let v451 : BitVec 32 := Scalar.addi v449 v450
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_321 : BitVec 32 := 1#32
  let v452 : BitVec 32 := Scalar.muli v8 c1_i32_321
  let v453 : BitVec 32 := Scalar.addi v451 v452
  v453.toNat
def k0_off92 (d0 : Dev nD) : Fin 2 → Nat :=
  let c3_i32_336 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  ![3, v8.toNat]
def k0_off93 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c128_i32_332 : BitVec 32 := 128#32
  let v470 : BitVec 32 := Scalar.muli v8 c128_i32_332
  let c64_i32_333 : BitVec 32 := 64#32
  let v471 : BitVec 32 := Scalar.addi v470 c64_i32_333
  let c0_i32_342 : BitVec 32 := 0#32
  ![v471.toNat, 0]
def k0_dev21 (d0 : Dev nD) : Nat :=
  let c0_i32_338 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c4_i32_17 : BitVec 32 := 4#32
  let v42 : BitVec 32 := Scalar.addi v11 c4_i32_17
  let c1_i32_18 : BitVec 32 := 1#32
  let v43 : BitVec 32 := Scalar.subi v42 c1_i32_18
  let c4_i32_19 : BitVec 32 := 4#32
  let v44 : BitVec 32 := Scalar.remsi v43 c4_i32_19
  let c0_i32_21 : BitVec 32 := 0#32
  let v46 : BitVec 1 := Scalar.cmpi .sgt v44 c0_i32_21
  let v47 : BitVec 32 := Scalar.extui v46
  let c0_i32_22 : BitVec 32 := 0#32
  let v48 : BitVec 1 := Scalar.cmpi .slt v44 c0_i32_22
  let v49 : BitVec 32 := Scalar.extui v48
  let v50 : BitVec 32 := Scalar.subi v47 v49
  let c2_i32_20 : BitVec 32 := 2#32
  let c0_i32_23 : BitVec 32 := 0#32
  let v51 : BitVec 1 := Scalar.cmpi .sgt c2_i32_20 c0_i32_23
  let v52 : BitVec 32 := Scalar.extui v51
  let c0_i32_24 : BitVec 32 := 0#32
  let v53 : BitVec 1 := Scalar.cmpi .slt c2_i32_20 c0_i32_24
  let v54 : BitVec 32 := Scalar.extui v53
  let v55 : BitVec 32 := Scalar.subi v52 v54
  let v56 : BitVec 1 := Scalar.cmpi .ne v50 v55
  let v57 : BitVec 32 := Scalar.remsi v44 c2_i32_20
  let c0_i32_25 : BitVec 32 := 0#32
  let v58 : BitVec 1 := Scalar.cmpi .ne v57 c0_i32_25
  let v59 : BitVec 1 := Scalar.andi v56 v58
  let v45 : BitVec 32 := Scalar.divsi v44 c2_i32_20
  let c1_i32_26 : BitVec 32 := 1#32
  let v60 : BitVec 32 := Scalar.subi v45 c1_i32_26
  let v61 : BitVec 32 := Scalar.select v59 v60 v45
  let c8_i32_337 : BitVec 32 := 8#32
  let v473 : BitVec 32 := Scalar.muli v61 c8_i32_337
  let v474 : BitVec 32 := Scalar.addi c0_i32_338 v473
  let c2_i32_27 : BitVec 32 := 2#32
  let c0_i32_28 : BitVec 32 := 0#32
  let v62 : BitVec 1 := Scalar.cmpi .eq c2_i32_27 c0_i32_28
  let c1_i32_29 : BitVec 32 := 1#32
  let v63 : BitVec 32 := Scalar.select v62 c1_i32_29 c2_i32_27
  let v64 : BitVec 32 := Scalar.remsi v44 v63
  let c0_i32_31 : BitVec 32 := 0#32
  let v66 : BitVec 1 := Scalar.cmpi .slt v64 c0_i32_31
  let c0_i32_32 : BitVec 32 := 0#32
  let v67 : BitVec 1 := Scalar.cmpi .slt v63 c0_i32_32
  let v68 : BitVec 1 := Scalar.xori v66 v67
  let c0_i32_30 : BitVec 32 := 0#32
  let v65 : BitVec 1 := Scalar.cmpi .ne v64 c0_i32_30
  let v69 : BitVec 1 := Scalar.andi v68 v65
  let v70 : BitVec 32 := Scalar.addi v64 v63
  let v71 : BitVec 32 := Scalar.select v69 v70 v64
  let v72 : BitVec 32 := Scalar.xori v61 v71
  let c4_i32_339 : BitVec 32 := 4#32
  let v475 : BitVec 32 := Scalar.muli v72 c4_i32_339
  let v476 : BitVec 32 := Scalar.addi v474 v475
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_340 : BitVec 32 := 1#32
  let v477 : BitVec 32 := Scalar.muli v8 c1_i32_340
  let v478 : BitVec 32 := Scalar.addi v476 v477
  v478.toNat
def k0_off94 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c4_i32_33 : BitVec 32 := 4#32
  let v73 : BitVec 32 := Scalar.addi v11 c4_i32_33
  let c1_i32_34 : BitVec 32 := 1#32
  let v74 : BitVec 32 := Scalar.subi v73 c1_i32_34
  let c4_i32_35 : BitVec 32 := 4#32
  let v75 : BitVec 32 := Scalar.remsi v74 c4_i32_35
  let c512_i32_345 : BitVec 32 := 512#32
  let v488 : BitVec 32 := Scalar.muli v75 c512_i32_345
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c128_i32_346 : BitVec 32 := 128#32
  let v489 : BitVec 32 := Scalar.muli v8 c128_i32_346
  let v490 : BitVec 32 := Scalar.addi v488 v489
  let v491 : Index := Scalar.indexCast v490
  let c0_347 : Index := 0#32
  ![v491.toNat, 0]
def k0_off95 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c1_i32_36 : BitVec 32 := 1#32
  let v76 : BitVec 32 := Scalar.addi v11 c1_i32_36
  let c4_i32_37 : BitVec 32 := 4#32
  let v77 : BitVec 32 := Scalar.remsi v76 c4_i32_37
  let c512_i32_350 : BitVec 32 := 512#32
  let v496 : BitVec 32 := Scalar.muli v77 c512_i32_350
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c128_i32_351 : BitVec 32 := 128#32
  let v497 : BitVec 32 := Scalar.muli v8 c128_i32_351
  let v498 : BitVec 32 := Scalar.addi v496 v497
  let v499 : Index := Scalar.indexCast v498
  let c0_352 : Index := 0#32
  ![v499.toNat, 0]
def k0_off96 (d0 : Dev nD) : Fin 2 → Nat :=
  let c2_i32_364 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_53 : BitVec 32 := 1#32
  let v92 : BitVec 1 := Scalar.cmpi .eq v8 c1_i32_53
  let c0_i32_57 : BitVec 32 := 0#32
  let c3_i32_54 : BitVec 32 := 3#32
  let v93 : BitVec 1 := Scalar.cmpi .eq v8 c3_i32_54
  let c2_i32_55 : BitVec 32 := 2#32
  let c1_i32_56 : BitVec 32 := 1#32
  let v94 : BitVec 32 := Scalar.select v93 c2_i32_55 c1_i32_56
  let v95 : BitVec 32 := Scalar.select v92 c0_i32_57 v94
  ![2, v95.toNat]
def k0_off97 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_53 : BitVec 32 := 1#32
  let v92 : BitVec 1 := Scalar.cmpi .eq v8 c1_i32_53
  let c0_i32_57 : BitVec 32 := 0#32
  let c3_i32_54 : BitVec 32 := 3#32
  let v93 : BitVec 1 := Scalar.cmpi .eq v8 c3_i32_54
  let c2_i32_55 : BitVec 32 := 2#32
  let c1_i32_56 : BitVec 32 := 1#32
  let v94 : BitVec 32 := Scalar.select v93 c2_i32_55 c1_i32_56
  let v95 : BitVec 32 := Scalar.select v92 c0_i32_57 v94
  let c64_i32_362 : BitVec 32 := 64#32
  let v512 : BitVec 32 := Scalar.muli v95 c64_i32_362
  let c0_i32_369 : BitVec 32 := 0#32
  ![v512.toNat, 0]
def k0_off98 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_53 : BitVec 32 := 1#32
  let v92 : BitVec 1 := Scalar.cmpi .eq v8 c1_i32_53
  let c0_i32_57 : BitVec 32 := 0#32
  let c3_i32_54 : BitVec 32 := 3#32
  let v93 : BitVec 1 := Scalar.cmpi .eq v8 c3_i32_54
  let c2_i32_55 : BitVec 32 := 2#32
  let c1_i32_56 : BitVec 32 := 1#32
  let v94 : BitVec 32 := Scalar.select v93 c2_i32_55 c1_i32_56
  let v95 : BitVec 32 := Scalar.select v92 c0_i32_57 v94
  let c128_i32_361 : BitVec 32 := 128#32
  let v511 : BitVec 32 := Scalar.muli v95 c128_i32_361
  let c0_i32_370 : BitVec 32 := 0#32
  ![v511.toNat, 0]
def k0_dev22 (d0 : Dev nD) : Nat :=
  let c0_i32_366 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c1_i32_3 : BitVec 32 := 1#32
  let v12 : BitVec 32 := Scalar.addi v11 c1_i32_3
  let c4_i32_4 : BitVec 32 := 4#32
  let v13 : BitVec 32 := Scalar.remsi v12 c4_i32_4
  let c0_i32 : BitVec 32 := 0#32
  let v15 : BitVec 1 := Scalar.cmpi .sgt v13 c0_i32
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32_5 : BitVec 32 := 2#32
  let c0_i32_7 : BitVec 32 := 0#32
  let v20 : BitVec 1 := Scalar.cmpi .sgt c2_i32_5 c0_i32_7
  let v21 : BitVec 32 := Scalar.extui v20
  let c0_i32_8 : BitVec 32 := 0#32
  let v22 : BitVec 1 := Scalar.cmpi .slt c2_i32_5 c0_i32_8
  let v23 : BitVec 32 := Scalar.extui v22
  let v24 : BitVec 32 := Scalar.subi v21 v23
  let v25 : BitVec 1 := Scalar.cmpi .ne v19 v24
  let v26 : BitVec 32 := Scalar.remsi v13 c2_i32_5
  let c0_i32_9 : BitVec 32 := 0#32
  let v27 : BitVec 1 := Scalar.cmpi .ne v26 c0_i32_9
  let v28 : BitVec 1 := Scalar.andi v25 v27
  let v14 : BitVec 32 := Scalar.divsi v13 c2_i32_5
  let c1_i32_10 : BitVec 32 := 1#32
  let v29 : BitVec 32 := Scalar.subi v14 c1_i32_10
  let v30 : BitVec 32 := Scalar.select v28 v29 v14
  let c8_i32_365 : BitVec 32 := 8#32
  let v513 : BitVec 32 := Scalar.muli v30 c8_i32_365
  let v514 : BitVec 32 := Scalar.addi c0_i32_366 v513
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v13 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v41 : BitVec 32 := Scalar.xori v30 v40
  let c4_i32_367 : BitVec 32 := 4#32
  let v515 : BitVec 32 := Scalar.muli v41 c4_i32_367
  let v516 : BitVec 32 := Scalar.addi v514 v515
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_368 : BitVec 32 := 1#32
  let v517 : BitVec 32 := Scalar.muli v8 c1_i32_368
  let v518 : BitVec 32 := Scalar.addi v516 v517
  v518.toNat
def k0_off99 (d0 : Dev nD) : Fin 2 → Nat :=
  let c3_i32_383 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_53 : BitVec 32 := 1#32
  let v92 : BitVec 1 := Scalar.cmpi .eq v8 c1_i32_53
  let c0_i32_57 : BitVec 32 := 0#32
  let c3_i32_54 : BitVec 32 := 3#32
  let v93 : BitVec 1 := Scalar.cmpi .eq v8 c3_i32_54
  let c2_i32_55 : BitVec 32 := 2#32
  let c1_i32_56 : BitVec 32 := 1#32
  let v94 : BitVec 32 := Scalar.select v93 c2_i32_55 c1_i32_56
  let v95 : BitVec 32 := Scalar.select v92 c0_i32_57 v94
  ![3, v95.toNat]
def k0_off100 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_53 : BitVec 32 := 1#32
  let v92 : BitVec 1 := Scalar.cmpi .eq v8 c1_i32_53
  let c0_i32_57 : BitVec 32 := 0#32
  let c3_i32_54 : BitVec 32 := 3#32
  let v93 : BitVec 1 := Scalar.cmpi .eq v8 c3_i32_54
  let c2_i32_55 : BitVec 32 := 2#32
  let c1_i32_56 : BitVec 32 := 1#32
  let v94 : BitVec 32 := Scalar.select v93 c2_i32_55 c1_i32_56
  let v95 : BitVec 32 := Scalar.select v92 c0_i32_57 v94
  let c128_i32_379 : BitVec 32 := 128#32
  let v535 : BitVec 32 := Scalar.muli v95 c128_i32_379
  let c64_i32_380 : BitVec 32 := 64#32
  let v536 : BitVec 32 := Scalar.addi v535 c64_i32_380
  let c0_i32_389 : BitVec 32 := 0#32
  ![v536.toNat, 0]
def k0_dev23 (d0 : Dev nD) : Nat :=
  let c0_i32_385 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c4_i32_17 : BitVec 32 := 4#32
  let v42 : BitVec 32 := Scalar.addi v11 c4_i32_17
  let c1_i32_18 : BitVec 32 := 1#32
  let v43 : BitVec 32 := Scalar.subi v42 c1_i32_18
  let c4_i32_19 : BitVec 32 := 4#32
  let v44 : BitVec 32 := Scalar.remsi v43 c4_i32_19
  let c0_i32_21 : BitVec 32 := 0#32
  let v46 : BitVec 1 := Scalar.cmpi .sgt v44 c0_i32_21
  let v47 : BitVec 32 := Scalar.extui v46
  let c0_i32_22 : BitVec 32 := 0#32
  let v48 : BitVec 1 := Scalar.cmpi .slt v44 c0_i32_22
  let v49 : BitVec 32 := Scalar.extui v48
  let v50 : BitVec 32 := Scalar.subi v47 v49
  let c2_i32_20 : BitVec 32 := 2#32
  let c0_i32_23 : BitVec 32 := 0#32
  let v51 : BitVec 1 := Scalar.cmpi .sgt c2_i32_20 c0_i32_23
  let v52 : BitVec 32 := Scalar.extui v51
  let c0_i32_24 : BitVec 32 := 0#32
  let v53 : BitVec 1 := Scalar.cmpi .slt c2_i32_20 c0_i32_24
  let v54 : BitVec 32 := Scalar.extui v53
  let v55 : BitVec 32 := Scalar.subi v52 v54
  let v56 : BitVec 1 := Scalar.cmpi .ne v50 v55
  let v57 : BitVec 32 := Scalar.remsi v44 c2_i32_20
  let c0_i32_25 : BitVec 32 := 0#32
  let v58 : BitVec 1 := Scalar.cmpi .ne v57 c0_i32_25
  let v59 : BitVec 1 := Scalar.andi v56 v58
  let v45 : BitVec 32 := Scalar.divsi v44 c2_i32_20
  let c1_i32_26 : BitVec 32 := 1#32
  let v60 : BitVec 32 := Scalar.subi v45 c1_i32_26
  let v61 : BitVec 32 := Scalar.select v59 v60 v45
  let c8_i32_384 : BitVec 32 := 8#32
  let v538 : BitVec 32 := Scalar.muli v61 c8_i32_384
  let v539 : BitVec 32 := Scalar.addi c0_i32_385 v538
  let c2_i32_27 : BitVec 32 := 2#32
  let c0_i32_28 : BitVec 32 := 0#32
  let v62 : BitVec 1 := Scalar.cmpi .eq c2_i32_27 c0_i32_28
  let c1_i32_29 : BitVec 32 := 1#32
  let v63 : BitVec 32 := Scalar.select v62 c1_i32_29 c2_i32_27
  let v64 : BitVec 32 := Scalar.remsi v44 v63
  let c0_i32_31 : BitVec 32 := 0#32
  let v66 : BitVec 1 := Scalar.cmpi .slt v64 c0_i32_31
  let c0_i32_32 : BitVec 32 := 0#32
  let v67 : BitVec 1 := Scalar.cmpi .slt v63 c0_i32_32
  let v68 : BitVec 1 := Scalar.xori v66 v67
  let c0_i32_30 : BitVec 32 := 0#32
  let v65 : BitVec 1 := Scalar.cmpi .ne v64 c0_i32_30
  let v69 : BitVec 1 := Scalar.andi v68 v65
  let v70 : BitVec 32 := Scalar.addi v64 v63
  let v71 : BitVec 32 := Scalar.select v69 v70 v64
  let v72 : BitVec 32 := Scalar.xori v61 v71
  let c4_i32_386 : BitVec 32 := 4#32
  let v540 : BitVec 32 := Scalar.muli v72 c4_i32_386
  let v541 : BitVec 32 := Scalar.addi v539 v540
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_387 : BitVec 32 := 1#32
  let v542 : BitVec 32 := Scalar.muli v8 c1_i32_387
  let v543 : BitVec 32 := Scalar.addi v541 v542
  v543.toNat
def k0_off101 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c4_i32_33 : BitVec 32 := 4#32
  let v73 : BitVec 32 := Scalar.addi v11 c4_i32_33
  let c1_i32_34 : BitVec 32 := 1#32
  let v74 : BitVec 32 := Scalar.subi v73 c1_i32_34
  let c4_i32_35 : BitVec 32 := 4#32
  let v75 : BitVec 32 := Scalar.remsi v74 c4_i32_35
  let c512_i32_392 : BitVec 32 := 512#32
  let v553 : BitVec 32 := Scalar.muli v75 c512_i32_392
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_53 : BitVec 32 := 1#32
  let v92 : BitVec 1 := Scalar.cmpi .eq v8 c1_i32_53
  let c0_i32_57 : BitVec 32 := 0#32
  let c3_i32_54 : BitVec 32 := 3#32
  let v93 : BitVec 1 := Scalar.cmpi .eq v8 c3_i32_54
  let c2_i32_55 : BitVec 32 := 2#32
  let c1_i32_56 : BitVec 32 := 1#32
  let v94 : BitVec 32 := Scalar.select v93 c2_i32_55 c1_i32_56
  let v95 : BitVec 32 := Scalar.select v92 c0_i32_57 v94
  let c128_i32_393 : BitVec 32 := 128#32
  let v554 : BitVec 32 := Scalar.muli v95 c128_i32_393
  let v555 : BitVec 32 := Scalar.addi v553 v554
  let v556 : Index := Scalar.indexCast v555
  let c0_394 : Index := 0#32
  ![v556.toNat, 0]
def k0_off102 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c1_i32_36 : BitVec 32 := 1#32
  let v76 : BitVec 32 := Scalar.addi v11 c1_i32_36
  let c4_i32_37 : BitVec 32 := 4#32
  let v77 : BitVec 32 := Scalar.remsi v76 c4_i32_37
  let c512_i32_397 : BitVec 32 := 512#32
  let v561 : BitVec 32 := Scalar.muli v77 c512_i32_397
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_53 : BitVec 32 := 1#32
  let v92 : BitVec 1 := Scalar.cmpi .eq v8 c1_i32_53
  let c0_i32_57 : BitVec 32 := 0#32
  let c3_i32_54 : BitVec 32 := 3#32
  let v93 : BitVec 1 := Scalar.cmpi .eq v8 c3_i32_54
  let c2_i32_55 : BitVec 32 := 2#32
  let c1_i32_56 : BitVec 32 := 1#32
  let v94 : BitVec 32 := Scalar.select v93 c2_i32_55 c1_i32_56
  let v95 : BitVec 32 := Scalar.select v92 c0_i32_57 v94
  let c128_i32_398 : BitVec 32 := 128#32
  let v562 : BitVec 32 := Scalar.muli v95 c128_i32_398
  let v563 : BitVec 32 := Scalar.addi v561 v562
  let v564 : Index := Scalar.indexCast v563
  let c0_399 : Index := 0#32
  ![v564.toNat, 0]
def k0_off103 (d0 : Dev nD) : Fin 2 → Nat :=
  let c2_i32_411 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_48 : BitVec 32 := 1#32
  let v88 : BitVec 1 := Scalar.cmpi .sle v8 c1_i32_48
  let c2_i32_52 : BitVec 32 := 2#32
  let c2_i32_49 : BitVec 32 := 2#32
  let v89 : BitVec 1 := Scalar.cmpi .eq v8 c2_i32_49
  let c3_i32_50 : BitVec 32 := 3#32
  let c1_i32_51 : BitVec 32 := 1#32
  let v90 : BitVec 32 := Scalar.select v89 c3_i32_50 c1_i32_51
  let v91 : BitVec 32 := Scalar.select v88 c2_i32_52 v90
  ![2, v91.toNat]
def k0_off104 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_48 : BitVec 32 := 1#32
  let v88 : BitVec 1 := Scalar.cmpi .sle v8 c1_i32_48
  let c2_i32_52 : BitVec 32 := 2#32
  let c2_i32_49 : BitVec 32 := 2#32
  let v89 : BitVec 1 := Scalar.cmpi .eq v8 c2_i32_49
  let c3_i32_50 : BitVec 32 := 3#32
  let c1_i32_51 : BitVec 32 := 1#32
  let v90 : BitVec 32 := Scalar.select v89 c3_i32_50 c1_i32_51
  let v91 : BitVec 32 := Scalar.select v88 c2_i32_52 v90
  let c64_i32_409 : BitVec 32 := 64#32
  let v577 : BitVec 32 := Scalar.muli v91 c64_i32_409
  let c0_i32_416 : BitVec 32 := 0#32
  ![v577.toNat, 0]
def k0_off105 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_48 : BitVec 32 := 1#32
  let v88 : BitVec 1 := Scalar.cmpi .sle v8 c1_i32_48
  let c2_i32_52 : BitVec 32 := 2#32
  let c2_i32_49 : BitVec 32 := 2#32
  let v89 : BitVec 1 := Scalar.cmpi .eq v8 c2_i32_49
  let c3_i32_50 : BitVec 32 := 3#32
  let c1_i32_51 : BitVec 32 := 1#32
  let v90 : BitVec 32 := Scalar.select v89 c3_i32_50 c1_i32_51
  let v91 : BitVec 32 := Scalar.select v88 c2_i32_52 v90
  let c128_i32_408 : BitVec 32 := 128#32
  let v576 : BitVec 32 := Scalar.muli v91 c128_i32_408
  let c0_i32_417 : BitVec 32 := 0#32
  ![v576.toNat, 0]
def k0_dev24 (d0 : Dev nD) : Nat :=
  let c0_i32_413 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c1_i32_3 : BitVec 32 := 1#32
  let v12 : BitVec 32 := Scalar.addi v11 c1_i32_3
  let c4_i32_4 : BitVec 32 := 4#32
  let v13 : BitVec 32 := Scalar.remsi v12 c4_i32_4
  let c0_i32 : BitVec 32 := 0#32
  let v15 : BitVec 1 := Scalar.cmpi .sgt v13 c0_i32
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32_5 : BitVec 32 := 2#32
  let c0_i32_7 : BitVec 32 := 0#32
  let v20 : BitVec 1 := Scalar.cmpi .sgt c2_i32_5 c0_i32_7
  let v21 : BitVec 32 := Scalar.extui v20
  let c0_i32_8 : BitVec 32 := 0#32
  let v22 : BitVec 1 := Scalar.cmpi .slt c2_i32_5 c0_i32_8
  let v23 : BitVec 32 := Scalar.extui v22
  let v24 : BitVec 32 := Scalar.subi v21 v23
  let v25 : BitVec 1 := Scalar.cmpi .ne v19 v24
  let v26 : BitVec 32 := Scalar.remsi v13 c2_i32_5
  let c0_i32_9 : BitVec 32 := 0#32
  let v27 : BitVec 1 := Scalar.cmpi .ne v26 c0_i32_9
  let v28 : BitVec 1 := Scalar.andi v25 v27
  let v14 : BitVec 32 := Scalar.divsi v13 c2_i32_5
  let c1_i32_10 : BitVec 32 := 1#32
  let v29 : BitVec 32 := Scalar.subi v14 c1_i32_10
  let v30 : BitVec 32 := Scalar.select v28 v29 v14
  let c8_i32_412 : BitVec 32 := 8#32
  let v578 : BitVec 32 := Scalar.muli v30 c8_i32_412
  let v579 : BitVec 32 := Scalar.addi c0_i32_413 v578
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v13 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v41 : BitVec 32 := Scalar.xori v30 v40
  let c4_i32_414 : BitVec 32 := 4#32
  let v580 : BitVec 32 := Scalar.muli v41 c4_i32_414
  let v581 : BitVec 32 := Scalar.addi v579 v580
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_415 : BitVec 32 := 1#32
  let v582 : BitVec 32 := Scalar.muli v8 c1_i32_415
  let v583 : BitVec 32 := Scalar.addi v581 v582
  v583.toNat
def k0_off106 (d0 : Dev nD) : Fin 2 → Nat :=
  let c3_i32_430 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_48 : BitVec 32 := 1#32
  let v88 : BitVec 1 := Scalar.cmpi .sle v8 c1_i32_48
  let c2_i32_52 : BitVec 32 := 2#32
  let c2_i32_49 : BitVec 32 := 2#32
  let v89 : BitVec 1 := Scalar.cmpi .eq v8 c2_i32_49
  let c3_i32_50 : BitVec 32 := 3#32
  let c1_i32_51 : BitVec 32 := 1#32
  let v90 : BitVec 32 := Scalar.select v89 c3_i32_50 c1_i32_51
  let v91 : BitVec 32 := Scalar.select v88 c2_i32_52 v90
  ![3, v91.toNat]
def k0_off107 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_48 : BitVec 32 := 1#32
  let v88 : BitVec 1 := Scalar.cmpi .sle v8 c1_i32_48
  let c2_i32_52 : BitVec 32 := 2#32
  let c2_i32_49 : BitVec 32 := 2#32
  let v89 : BitVec 1 := Scalar.cmpi .eq v8 c2_i32_49
  let c3_i32_50 : BitVec 32 := 3#32
  let c1_i32_51 : BitVec 32 := 1#32
  let v90 : BitVec 32 := Scalar.select v89 c3_i32_50 c1_i32_51
  let v91 : BitVec 32 := Scalar.select v88 c2_i32_52 v90
  let c128_i32_426 : BitVec 32 := 128#32
  let v600 : BitVec 32 := Scalar.muli v91 c128_i32_426
  let c64_i32_427 : BitVec 32 := 64#32
  let v601 : BitVec 32 := Scalar.addi v600 c64_i32_427
  let c0_i32_436 : BitVec 32 := 0#32
  ![v601.toNat, 0]
def k0_dev25 (d0 : Dev nD) : Nat :=
  let c0_i32_432 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c4_i32_17 : BitVec 32 := 4#32
  let v42 : BitVec 32 := Scalar.addi v11 c4_i32_17
  let c1_i32_18 : BitVec 32 := 1#32
  let v43 : BitVec 32 := Scalar.subi v42 c1_i32_18
  let c4_i32_19 : BitVec 32 := 4#32
  let v44 : BitVec 32 := Scalar.remsi v43 c4_i32_19
  let c0_i32_21 : BitVec 32 := 0#32
  let v46 : BitVec 1 := Scalar.cmpi .sgt v44 c0_i32_21
  let v47 : BitVec 32 := Scalar.extui v46
  let c0_i32_22 : BitVec 32 := 0#32
  let v48 : BitVec 1 := Scalar.cmpi .slt v44 c0_i32_22
  let v49 : BitVec 32 := Scalar.extui v48
  let v50 : BitVec 32 := Scalar.subi v47 v49
  let c2_i32_20 : BitVec 32 := 2#32
  let c0_i32_23 : BitVec 32 := 0#32
  let v51 : BitVec 1 := Scalar.cmpi .sgt c2_i32_20 c0_i32_23
  let v52 : BitVec 32 := Scalar.extui v51
  let c0_i32_24 : BitVec 32 := 0#32
  let v53 : BitVec 1 := Scalar.cmpi .slt c2_i32_20 c0_i32_24
  let v54 : BitVec 32 := Scalar.extui v53
  let v55 : BitVec 32 := Scalar.subi v52 v54
  let v56 : BitVec 1 := Scalar.cmpi .ne v50 v55
  let v57 : BitVec 32 := Scalar.remsi v44 c2_i32_20
  let c0_i32_25 : BitVec 32 := 0#32
  let v58 : BitVec 1 := Scalar.cmpi .ne v57 c0_i32_25
  let v59 : BitVec 1 := Scalar.andi v56 v58
  let v45 : BitVec 32 := Scalar.divsi v44 c2_i32_20
  let c1_i32_26 : BitVec 32 := 1#32
  let v60 : BitVec 32 := Scalar.subi v45 c1_i32_26
  let v61 : BitVec 32 := Scalar.select v59 v60 v45
  let c8_i32_431 : BitVec 32 := 8#32
  let v603 : BitVec 32 := Scalar.muli v61 c8_i32_431
  let v604 : BitVec 32 := Scalar.addi c0_i32_432 v603
  let c2_i32_27 : BitVec 32 := 2#32
  let c0_i32_28 : BitVec 32 := 0#32
  let v62 : BitVec 1 := Scalar.cmpi .eq c2_i32_27 c0_i32_28
  let c1_i32_29 : BitVec 32 := 1#32
  let v63 : BitVec 32 := Scalar.select v62 c1_i32_29 c2_i32_27
  let v64 : BitVec 32 := Scalar.remsi v44 v63
  let c0_i32_31 : BitVec 32 := 0#32
  let v66 : BitVec 1 := Scalar.cmpi .slt v64 c0_i32_31
  let c0_i32_32 : BitVec 32 := 0#32
  let v67 : BitVec 1 := Scalar.cmpi .slt v63 c0_i32_32
  let v68 : BitVec 1 := Scalar.xori v66 v67
  let c0_i32_30 : BitVec 32 := 0#32
  let v65 : BitVec 1 := Scalar.cmpi .ne v64 c0_i32_30
  let v69 : BitVec 1 := Scalar.andi v68 v65
  let v70 : BitVec 32 := Scalar.addi v64 v63
  let v71 : BitVec 32 := Scalar.select v69 v70 v64
  let v72 : BitVec 32 := Scalar.xori v61 v71
  let c4_i32_433 : BitVec 32 := 4#32
  let v605 : BitVec 32 := Scalar.muli v72 c4_i32_433
  let v606 : BitVec 32 := Scalar.addi v604 v605
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_434 : BitVec 32 := 1#32
  let v607 : BitVec 32 := Scalar.muli v8 c1_i32_434
  let v608 : BitVec 32 := Scalar.addi v606 v607
  v608.toNat
def k0_off108 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c4_i32_33 : BitVec 32 := 4#32
  let v73 : BitVec 32 := Scalar.addi v11 c4_i32_33
  let c1_i32_34 : BitVec 32 := 1#32
  let v74 : BitVec 32 := Scalar.subi v73 c1_i32_34
  let c4_i32_35 : BitVec 32 := 4#32
  let v75 : BitVec 32 := Scalar.remsi v74 c4_i32_35
  let c512_i32_439 : BitVec 32 := 512#32
  let v618 : BitVec 32 := Scalar.muli v75 c512_i32_439
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_48 : BitVec 32 := 1#32
  let v88 : BitVec 1 := Scalar.cmpi .sle v8 c1_i32_48
  let c2_i32_52 : BitVec 32 := 2#32
  let c2_i32_49 : BitVec 32 := 2#32
  let v89 : BitVec 1 := Scalar.cmpi .eq v8 c2_i32_49
  let c3_i32_50 : BitVec 32 := 3#32
  let c1_i32_51 : BitVec 32 := 1#32
  let v90 : BitVec 32 := Scalar.select v89 c3_i32_50 c1_i32_51
  let v91 : BitVec 32 := Scalar.select v88 c2_i32_52 v90
  let c128_i32_440 : BitVec 32 := 128#32
  let v619 : BitVec 32 := Scalar.muli v91 c128_i32_440
  let v620 : BitVec 32 := Scalar.addi v618 v619
  let v621 : Index := Scalar.indexCast v620
  let c0_441 : Index := 0#32
  ![v621.toNat, 0]
def k0_off109 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c1_i32_36 : BitVec 32 := 1#32
  let v76 : BitVec 32 := Scalar.addi v11 c1_i32_36
  let c4_i32_37 : BitVec 32 := 4#32
  let v77 : BitVec 32 := Scalar.remsi v76 c4_i32_37
  let c512_i32_444 : BitVec 32 := 512#32
  let v626 : BitVec 32 := Scalar.muli v77 c512_i32_444
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_48 : BitVec 32 := 1#32
  let v88 : BitVec 1 := Scalar.cmpi .sle v8 c1_i32_48
  let c2_i32_52 : BitVec 32 := 2#32
  let c2_i32_49 : BitVec 32 := 2#32
  let v89 : BitVec 1 := Scalar.cmpi .eq v8 c2_i32_49
  let c3_i32_50 : BitVec 32 := 3#32
  let c1_i32_51 : BitVec 32 := 1#32
  let v90 : BitVec 32 := Scalar.select v89 c3_i32_50 c1_i32_51
  let v91 : BitVec 32 := Scalar.select v88 c2_i32_52 v90
  let c128_i32_445 : BitVec 32 := 128#32
  let v627 : BitVec 32 := Scalar.muli v91 c128_i32_445
  let v628 : BitVec 32 := Scalar.addi v626 v627
  let v629 : Index := Scalar.indexCast v628
  let c0_446 : Index := 0#32
  ![v629.toNat, 0]
def k0_off110 (d0 : Dev nD) : Fin 2 → Nat :=
  let c2_i32_458 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_45 : BitVec 32 := 1#32
  let v86 : BitVec 1 := Scalar.cmpi .sle v8 c1_i32_45
  let c3_i32_46 : BitVec 32 := 3#32
  let c0_i32_47 : BitVec 32 := 0#32
  let v87 : BitVec 32 := Scalar.select v86 c3_i32_46 c0_i32_47
  ![2, v87.toNat]
def k0_off111 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_45 : BitVec 32 := 1#32
  let v86 : BitVec 1 := Scalar.cmpi .sle v8 c1_i32_45
  let c3_i32_46 : BitVec 32 := 3#32
  let c0_i32_47 : BitVec 32 := 0#32
  let v87 : BitVec 32 := Scalar.select v86 c3_i32_46 c0_i32_47
  let c64_i32_456 : BitVec 32 := 64#32
  let v642 : BitVec 32 := Scalar.muli v87 c64_i32_456
  let c0_i32_463 : BitVec 32 := 0#32
  ![v642.toNat, 0]
def k0_off112 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_45 : BitVec 32 := 1#32
  let v86 : BitVec 1 := Scalar.cmpi .sle v8 c1_i32_45
  let c3_i32_46 : BitVec 32 := 3#32
  let c0_i32_47 : BitVec 32 := 0#32
  let v87 : BitVec 32 := Scalar.select v86 c3_i32_46 c0_i32_47
  let c128_i32_455 : BitVec 32 := 128#32
  let v641 : BitVec 32 := Scalar.muli v87 c128_i32_455
  let c0_i32_464 : BitVec 32 := 0#32
  ![v641.toNat, 0]
def k0_dev26 (d0 : Dev nD) : Nat :=
  let c0_i32_460 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c1_i32_3 : BitVec 32 := 1#32
  let v12 : BitVec 32 := Scalar.addi v11 c1_i32_3
  let c4_i32_4 : BitVec 32 := 4#32
  let v13 : BitVec 32 := Scalar.remsi v12 c4_i32_4
  let c0_i32 : BitVec 32 := 0#32
  let v15 : BitVec 1 := Scalar.cmpi .sgt v13 c0_i32
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32_5 : BitVec 32 := 2#32
  let c0_i32_7 : BitVec 32 := 0#32
  let v20 : BitVec 1 := Scalar.cmpi .sgt c2_i32_5 c0_i32_7
  let v21 : BitVec 32 := Scalar.extui v20
  let c0_i32_8 : BitVec 32 := 0#32
  let v22 : BitVec 1 := Scalar.cmpi .slt c2_i32_5 c0_i32_8
  let v23 : BitVec 32 := Scalar.extui v22
  let v24 : BitVec 32 := Scalar.subi v21 v23
  let v25 : BitVec 1 := Scalar.cmpi .ne v19 v24
  let v26 : BitVec 32 := Scalar.remsi v13 c2_i32_5
  let c0_i32_9 : BitVec 32 := 0#32
  let v27 : BitVec 1 := Scalar.cmpi .ne v26 c0_i32_9
  let v28 : BitVec 1 := Scalar.andi v25 v27
  let v14 : BitVec 32 := Scalar.divsi v13 c2_i32_5
  let c1_i32_10 : BitVec 32 := 1#32
  let v29 : BitVec 32 := Scalar.subi v14 c1_i32_10
  let v30 : BitVec 32 := Scalar.select v28 v29 v14
  let c8_i32_459 : BitVec 32 := 8#32
  let v643 : BitVec 32 := Scalar.muli v30 c8_i32_459
  let v644 : BitVec 32 := Scalar.addi c0_i32_460 v643
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v13 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v41 : BitVec 32 := Scalar.xori v30 v40
  let c4_i32_461 : BitVec 32 := 4#32
  let v645 : BitVec 32 := Scalar.muli v41 c4_i32_461
  let v646 : BitVec 32 := Scalar.addi v644 v645
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_462 : BitVec 32 := 1#32
  let v647 : BitVec 32 := Scalar.muli v8 c1_i32_462
  let v648 : BitVec 32 := Scalar.addi v646 v647
  v648.toNat
def k0_off113 (d0 : Dev nD) : Fin 2 → Nat :=
  let c3_i32_477 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_45 : BitVec 32 := 1#32
  let v86 : BitVec 1 := Scalar.cmpi .sle v8 c1_i32_45
  let c3_i32_46 : BitVec 32 := 3#32
  let c0_i32_47 : BitVec 32 := 0#32
  let v87 : BitVec 32 := Scalar.select v86 c3_i32_46 c0_i32_47
  ![3, v87.toNat]
def k0_off114 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_45 : BitVec 32 := 1#32
  let v86 : BitVec 1 := Scalar.cmpi .sle v8 c1_i32_45
  let c3_i32_46 : BitVec 32 := 3#32
  let c0_i32_47 : BitVec 32 := 0#32
  let v87 : BitVec 32 := Scalar.select v86 c3_i32_46 c0_i32_47
  let c128_i32_473 : BitVec 32 := 128#32
  let v665 : BitVec 32 := Scalar.muli v87 c128_i32_473
  let c64_i32_474 : BitVec 32 := 64#32
  let v666 : BitVec 32 := Scalar.addi v665 c64_i32_474
  let c0_i32_483 : BitVec 32 := 0#32
  ![v666.toNat, 0]
def k0_dev27 (d0 : Dev nD) : Nat :=
  let c0_i32_479 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c4_i32_17 : BitVec 32 := 4#32
  let v42 : BitVec 32 := Scalar.addi v11 c4_i32_17
  let c1_i32_18 : BitVec 32 := 1#32
  let v43 : BitVec 32 := Scalar.subi v42 c1_i32_18
  let c4_i32_19 : BitVec 32 := 4#32
  let v44 : BitVec 32 := Scalar.remsi v43 c4_i32_19
  let c0_i32_21 : BitVec 32 := 0#32
  let v46 : BitVec 1 := Scalar.cmpi .sgt v44 c0_i32_21
  let v47 : BitVec 32 := Scalar.extui v46
  let c0_i32_22 : BitVec 32 := 0#32
  let v48 : BitVec 1 := Scalar.cmpi .slt v44 c0_i32_22
  let v49 : BitVec 32 := Scalar.extui v48
  let v50 : BitVec 32 := Scalar.subi v47 v49
  let c2_i32_20 : BitVec 32 := 2#32
  let c0_i32_23 : BitVec 32 := 0#32
  let v51 : BitVec 1 := Scalar.cmpi .sgt c2_i32_20 c0_i32_23
  let v52 : BitVec 32 := Scalar.extui v51
  let c0_i32_24 : BitVec 32 := 0#32
  let v53 : BitVec 1 := Scalar.cmpi .slt c2_i32_20 c0_i32_24
  let v54 : BitVec 32 := Scalar.extui v53
  let v55 : BitVec 32 := Scalar.subi v52 v54
  let v56 : BitVec 1 := Scalar.cmpi .ne v50 v55
  let v57 : BitVec 32 := Scalar.remsi v44 c2_i32_20
  let c0_i32_25 : BitVec 32 := 0#32
  let v58 : BitVec 1 := Scalar.cmpi .ne v57 c0_i32_25
  let v59 : BitVec 1 := Scalar.andi v56 v58
  let v45 : BitVec 32 := Scalar.divsi v44 c2_i32_20
  let c1_i32_26 : BitVec 32 := 1#32
  let v60 : BitVec 32 := Scalar.subi v45 c1_i32_26
  let v61 : BitVec 32 := Scalar.select v59 v60 v45
  let c8_i32_478 : BitVec 32 := 8#32
  let v668 : BitVec 32 := Scalar.muli v61 c8_i32_478
  let v669 : BitVec 32 := Scalar.addi c0_i32_479 v668
  let c2_i32_27 : BitVec 32 := 2#32
  let c0_i32_28 : BitVec 32 := 0#32
  let v62 : BitVec 1 := Scalar.cmpi .eq c2_i32_27 c0_i32_28
  let c1_i32_29 : BitVec 32 := 1#32
  let v63 : BitVec 32 := Scalar.select v62 c1_i32_29 c2_i32_27
  let v64 : BitVec 32 := Scalar.remsi v44 v63
  let c0_i32_31 : BitVec 32 := 0#32
  let v66 : BitVec 1 := Scalar.cmpi .slt v64 c0_i32_31
  let c0_i32_32 : BitVec 32 := 0#32
  let v67 : BitVec 1 := Scalar.cmpi .slt v63 c0_i32_32
  let v68 : BitVec 1 := Scalar.xori v66 v67
  let c0_i32_30 : BitVec 32 := 0#32
  let v65 : BitVec 1 := Scalar.cmpi .ne v64 c0_i32_30
  let v69 : BitVec 1 := Scalar.andi v68 v65
  let v70 : BitVec 32 := Scalar.addi v64 v63
  let v71 : BitVec 32 := Scalar.select v69 v70 v64
  let v72 : BitVec 32 := Scalar.xori v61 v71
  let c4_i32_480 : BitVec 32 := 4#32
  let v670 : BitVec 32 := Scalar.muli v72 c4_i32_480
  let v671 : BitVec 32 := Scalar.addi v669 v670
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_481 : BitVec 32 := 1#32
  let v672 : BitVec 32 := Scalar.muli v8 c1_i32_481
  let v673 : BitVec 32 := Scalar.addi v671 v672
  v673.toNat
def k0_off115 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c4_i32_33 : BitVec 32 := 4#32
  let v73 : BitVec 32 := Scalar.addi v11 c4_i32_33
  let c1_i32_34 : BitVec 32 := 1#32
  let v74 : BitVec 32 := Scalar.subi v73 c1_i32_34
  let c4_i32_35 : BitVec 32 := 4#32
  let v75 : BitVec 32 := Scalar.remsi v74 c4_i32_35
  let c512_i32_486 : BitVec 32 := 512#32
  let v683 : BitVec 32 := Scalar.muli v75 c512_i32_486
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_45 : BitVec 32 := 1#32
  let v86 : BitVec 1 := Scalar.cmpi .sle v8 c1_i32_45
  let c3_i32_46 : BitVec 32 := 3#32
  let c0_i32_47 : BitVec 32 := 0#32
  let v87 : BitVec 32 := Scalar.select v86 c3_i32_46 c0_i32_47
  let c128_i32_487 : BitVec 32 := 128#32
  let v684 : BitVec 32 := Scalar.muli v87 c128_i32_487
  let v685 : BitVec 32 := Scalar.addi v683 v684
  let v686 : Index := Scalar.indexCast v685
  let c0_488 : Index := 0#32
  ![v686.toNat, 0]
def k0_off116 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c1_i32_36 : BitVec 32 := 1#32
  let v76 : BitVec 32 := Scalar.addi v11 c1_i32_36
  let c4_i32_37 : BitVec 32 := 4#32
  let v77 : BitVec 32 := Scalar.remsi v76 c4_i32_37
  let c512_i32_491 : BitVec 32 := 512#32
  let v691 : BitVec 32 := Scalar.muli v77 c512_i32_491
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_45 : BitVec 32 := 1#32
  let v86 : BitVec 1 := Scalar.cmpi .sle v8 c1_i32_45
  let c3_i32_46 : BitVec 32 := 3#32
  let c0_i32_47 : BitVec 32 := 0#32
  let v87 : BitVec 32 := Scalar.select v86 c3_i32_46 c0_i32_47
  let c128_i32_492 : BitVec 32 := 128#32
  let v692 : BitVec 32 := Scalar.muli v87 c128_i32_492
  let v693 : BitVec 32 := Scalar.addi v691 v692
  let v694 : Index := Scalar.indexCast v693
  let c0_493 : Index := 0#32
  ![v694.toNat, 0]
def k0_off117 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c64_i32_510 : BitVec 32 := 64#32
  let v716 : BitVec 32 := Scalar.muli v8 c64_i32_510
  let v717 : Index := Scalar.indexCast v716
  let c0_511 : Index := 0#32
  ![v717.toNat, 0]
def k0_off118 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c2_i32_38 : BitVec 32 := 2#32
  let v78 : BitVec 32 := Scalar.addi v11 c2_i32_38
  let c4_i32_39 : BitVec 32 := 4#32
  let v79 : BitVec 32 := Scalar.remsi v78 c4_i32_39
  let c512_i32_512 : BitVec 32 := 512#32
  let v719 : BitVec 32 := Scalar.muli v79 c512_i32_512
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c128_i32_513 : BitVec 32 := 128#32
  let v720 : BitVec 32 := Scalar.muli v8 c128_i32_513
  let v721 : BitVec 32 := Scalar.addi v719 v720
  let v722 : Index := Scalar.indexCast v721
  let c0_514 : Index := 0#32
  ![v722.toNat, 0]
def k0_off119 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c2_i32_38 : BitVec 32 := 2#32
  let v78 : BitVec 32 := Scalar.addi v11 c2_i32_38
  let c4_i32_39 : BitVec 32 := 4#32
  let v79 : BitVec 32 := Scalar.remsi v78 c4_i32_39
  let c512_i32_517 : BitVec 32 := 512#32
  let v727 : BitVec 32 := Scalar.muli v79 c512_i32_517
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c128_i32_518 : BitVec 32 := 128#32
  let v728 : BitVec 32 := Scalar.muli v8 c128_i32_518
  let v729 : BitVec 32 := Scalar.addi v727 v728
  let c64_i32_519 : BitVec 32 := 64#32
  let v730 : BitVec 32 := Scalar.addi v729 c64_i32_519
  let v731 : Index := Scalar.indexCast v730
  let c0_520 : Index := 0#32
  ![v731.toNat, 0]
def k0_off120 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_53 : BitVec 32 := 1#32
  let v92 : BitVec 1 := Scalar.cmpi .eq v8 c1_i32_53
  let c0_i32_57 : BitVec 32 := 0#32
  let c3_i32_54 : BitVec 32 := 3#32
  let v93 : BitVec 1 := Scalar.cmpi .eq v8 c3_i32_54
  let c2_i32_55 : BitVec 32 := 2#32
  let c1_i32_56 : BitVec 32 := 1#32
  let v94 : BitVec 32 := Scalar.select v93 c2_i32_55 c1_i32_56
  let v95 : BitVec 32 := Scalar.select v92 c0_i32_57 v94
  let c64_i32_537 : BitVec 32 := 64#32
  let v753 : BitVec 32 := Scalar.muli v95 c64_i32_537
  let v754 : Index := Scalar.indexCast v753
  let c0_538 : Index := 0#32
  ![v754.toNat, 0]
def k0_off121 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c2_i32_38 : BitVec 32 := 2#32
  let v78 : BitVec 32 := Scalar.addi v11 c2_i32_38
  let c4_i32_39 : BitVec 32 := 4#32
  let v79 : BitVec 32 := Scalar.remsi v78 c4_i32_39
  let c512_i32_539 : BitVec 32 := 512#32
  let v756 : BitVec 32 := Scalar.muli v79 c512_i32_539
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_53 : BitVec 32 := 1#32
  let v92 : BitVec 1 := Scalar.cmpi .eq v8 c1_i32_53
  let c0_i32_57 : BitVec 32 := 0#32
  let c3_i32_54 : BitVec 32 := 3#32
  let v93 : BitVec 1 := Scalar.cmpi .eq v8 c3_i32_54
  let c2_i32_55 : BitVec 32 := 2#32
  let c1_i32_56 : BitVec 32 := 1#32
  let v94 : BitVec 32 := Scalar.select v93 c2_i32_55 c1_i32_56
  let v95 : BitVec 32 := Scalar.select v92 c0_i32_57 v94
  let c128_i32_540 : BitVec 32 := 128#32
  let v757 : BitVec 32 := Scalar.muli v95 c128_i32_540
  let v758 : BitVec 32 := Scalar.addi v756 v757
  let v759 : Index := Scalar.indexCast v758
  let c0_541 : Index := 0#32
  ![v759.toNat, 0]
def k0_off122 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c2_i32_38 : BitVec 32 := 2#32
  let v78 : BitVec 32 := Scalar.addi v11 c2_i32_38
  let c4_i32_39 : BitVec 32 := 4#32
  let v79 : BitVec 32 := Scalar.remsi v78 c4_i32_39
  let c512_i32_544 : BitVec 32 := 512#32
  let v764 : BitVec 32 := Scalar.muli v79 c512_i32_544
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_53 : BitVec 32 := 1#32
  let v92 : BitVec 1 := Scalar.cmpi .eq v8 c1_i32_53
  let c0_i32_57 : BitVec 32 := 0#32
  let c3_i32_54 : BitVec 32 := 3#32
  let v93 : BitVec 1 := Scalar.cmpi .eq v8 c3_i32_54
  let c2_i32_55 : BitVec 32 := 2#32
  let c1_i32_56 : BitVec 32 := 1#32
  let v94 : BitVec 32 := Scalar.select v93 c2_i32_55 c1_i32_56
  let v95 : BitVec 32 := Scalar.select v92 c0_i32_57 v94
  let c128_i32_545 : BitVec 32 := 128#32
  let v765 : BitVec 32 := Scalar.muli v95 c128_i32_545
  let v766 : BitVec 32 := Scalar.addi v764 v765
  let c64_i32_546 : BitVec 32 := 64#32
  let v767 : BitVec 32 := Scalar.addi v766 c64_i32_546
  let v768 : Index := Scalar.indexCast v767
  let c0_547 : Index := 0#32
  ![v768.toNat, 0]
def k0_off123 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_48 : BitVec 32 := 1#32
  let v88 : BitVec 1 := Scalar.cmpi .sle v8 c1_i32_48
  let c2_i32_52 : BitVec 32 := 2#32
  let c2_i32_49 : BitVec 32 := 2#32
  let v89 : BitVec 1 := Scalar.cmpi .eq v8 c2_i32_49
  let c3_i32_50 : BitVec 32 := 3#32
  let c1_i32_51 : BitVec 32 := 1#32
  let v90 : BitVec 32 := Scalar.select v89 c3_i32_50 c1_i32_51
  let v91 : BitVec 32 := Scalar.select v88 c2_i32_52 v90
  let c64_i32_564 : BitVec 32 := 64#32
  let v790 : BitVec 32 := Scalar.muli v91 c64_i32_564
  let v791 : Index := Scalar.indexCast v790
  let c0_565 : Index := 0#32
  ![v791.toNat, 0]
def k0_off124 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c2_i32_38 : BitVec 32 := 2#32
  let v78 : BitVec 32 := Scalar.addi v11 c2_i32_38
  let c4_i32_39 : BitVec 32 := 4#32
  let v79 : BitVec 32 := Scalar.remsi v78 c4_i32_39
  let c512_i32_566 : BitVec 32 := 512#32
  let v793 : BitVec 32 := Scalar.muli v79 c512_i32_566
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_48 : BitVec 32 := 1#32
  let v88 : BitVec 1 := Scalar.cmpi .sle v8 c1_i32_48
  let c2_i32_52 : BitVec 32 := 2#32
  let c2_i32_49 : BitVec 32 := 2#32
  let v89 : BitVec 1 := Scalar.cmpi .eq v8 c2_i32_49
  let c3_i32_50 : BitVec 32 := 3#32
  let c1_i32_51 : BitVec 32 := 1#32
  let v90 : BitVec 32 := Scalar.select v89 c3_i32_50 c1_i32_51
  let v91 : BitVec 32 := Scalar.select v88 c2_i32_52 v90
  let c128_i32_567 : BitVec 32 := 128#32
  let v794 : BitVec 32 := Scalar.muli v91 c128_i32_567
  let v795 : BitVec 32 := Scalar.addi v793 v794
  let v796 : Index := Scalar.indexCast v795
  let c0_568 : Index := 0#32
  ![v796.toNat, 0]
def k0_off125 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c2_i32_38 : BitVec 32 := 2#32
  let v78 : BitVec 32 := Scalar.addi v11 c2_i32_38
  let c4_i32_39 : BitVec 32 := 4#32
  let v79 : BitVec 32 := Scalar.remsi v78 c4_i32_39
  let c512_i32_571 : BitVec 32 := 512#32
  let v801 : BitVec 32 := Scalar.muli v79 c512_i32_571
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_48 : BitVec 32 := 1#32
  let v88 : BitVec 1 := Scalar.cmpi .sle v8 c1_i32_48
  let c2_i32_52 : BitVec 32 := 2#32
  let c2_i32_49 : BitVec 32 := 2#32
  let v89 : BitVec 1 := Scalar.cmpi .eq v8 c2_i32_49
  let c3_i32_50 : BitVec 32 := 3#32
  let c1_i32_51 : BitVec 32 := 1#32
  let v90 : BitVec 32 := Scalar.select v89 c3_i32_50 c1_i32_51
  let v91 : BitVec 32 := Scalar.select v88 c2_i32_52 v90
  let c128_i32_572 : BitVec 32 := 128#32
  let v802 : BitVec 32 := Scalar.muli v91 c128_i32_572
  let v803 : BitVec 32 := Scalar.addi v801 v802
  let c64_i32_573 : BitVec 32 := 64#32
  let v804 : BitVec 32 := Scalar.addi v803 c64_i32_573
  let v805 : Index := Scalar.indexCast v804
  let c0_574 : Index := 0#32
  ![v805.toNat, 0]
def k0_off126 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_45 : BitVec 32 := 1#32
  let v86 : BitVec 1 := Scalar.cmpi .sle v8 c1_i32_45
  let c3_i32_46 : BitVec 32 := 3#32
  let c0_i32_47 : BitVec 32 := 0#32
  let v87 : BitVec 32 := Scalar.select v86 c3_i32_46 c0_i32_47
  let c64_i32_591 : BitVec 32 := 64#32
  let v827 : BitVec 32 := Scalar.muli v87 c64_i32_591
  let v828 : Index := Scalar.indexCast v827
  let c0_592 : Index := 0#32
  ![v828.toNat, 0]
def k0_off127 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c2_i32_38 : BitVec 32 := 2#32
  let v78 : BitVec 32 := Scalar.addi v11 c2_i32_38
  let c4_i32_39 : BitVec 32 := 4#32
  let v79 : BitVec 32 := Scalar.remsi v78 c4_i32_39
  let c512_i32_593 : BitVec 32 := 512#32
  let v830 : BitVec 32 := Scalar.muli v79 c512_i32_593
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_45 : BitVec 32 := 1#32
  let v86 : BitVec 1 := Scalar.cmpi .sle v8 c1_i32_45
  let c3_i32_46 : BitVec 32 := 3#32
  let c0_i32_47 : BitVec 32 := 0#32
  let v87 : BitVec 32 := Scalar.select v86 c3_i32_46 c0_i32_47
  let c128_i32_594 : BitVec 32 := 128#32
  let v831 : BitVec 32 := Scalar.muli v87 c128_i32_594
  let v832 : BitVec 32 := Scalar.addi v830 v831
  let v833 : Index := Scalar.indexCast v832
  let c0_595 : Index := 0#32
  ![v833.toNat, 0]
def k0_off128 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c2_i32_38 : BitVec 32 := 2#32
  let v78 : BitVec 32 := Scalar.addi v11 c2_i32_38
  let c4_i32_39 : BitVec 32 := 4#32
  let v79 : BitVec 32 := Scalar.remsi v78 c4_i32_39
  let c512_i32_598 : BitVec 32 := 512#32
  let v838 : BitVec 32 := Scalar.muli v79 c512_i32_598
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_45 : BitVec 32 := 1#32
  let v86 : BitVec 1 := Scalar.cmpi .sle v8 c1_i32_45
  let c3_i32_46 : BitVec 32 := 3#32
  let c0_i32_47 : BitVec 32 := 0#32
  let v87 : BitVec 32 := Scalar.select v86 c3_i32_46 c0_i32_47
  let c128_i32_599 : BitVec 32 := 128#32
  let v839 : BitVec 32 := Scalar.muli v87 c128_i32_599
  let v840 : BitVec 32 := Scalar.addi v838 v839
  let c64_i32_600 : BitVec 32 := 64#32
  let v841 : BitVec 32 := Scalar.addi v840 c64_i32_600
  let v842 : Index := Scalar.indexCast v841
  let c0_601 : Index := 0#32
  ![v842.toNat, 0]
def k0_dev28 (d0 : Dev nD) : Nat :=
  let c0_i32_711_r0 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_710_r0 : BitVec 32 := 8#32
  let v936_r0 : BitVec 32 := Scalar.muli v2 c8_i32_710_r0
  let v937_r0 : BitVec 32 := Scalar.addi c0_i32_711_r0 v936_r0
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_712_r0 : BitVec 32 := 4#32
  let v938_r0 : BitVec 32 := Scalar.muli v5 c4_i32_712_r0
  let v939_r0 : BitVec 32 := Scalar.addi v937_r0 v938_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_40 : BitVec 32 := 1#32
  let v80 : BitVec 32 := Scalar.addi v8 c1_i32_40
  let c4_i32_41 : BitVec 32 := 4#32
  let v81 : BitVec 32 := Scalar.remsi v80 c4_i32_41
  let c1_i32_713_r0 : BitVec 32 := 1#32
  let v940_r0 : BitVec 32 := Scalar.muli v81 c1_i32_713_r0
  let v941_r0 : BitVec 32 := Scalar.addi v939_r0 v940_r0
  v941_r0.toNat
def k0_dev29 (d0 : Dev nD) : Nat :=
  let c0_i32_716_r0 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_715_r0 : BitVec 32 := 8#32
  let v942_r0 : BitVec 32 := Scalar.muli v2 c8_i32_715_r0
  let v943_r0 : BitVec 32 := Scalar.addi c0_i32_716_r0 v942_r0
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_717_r0 : BitVec 32 := 4#32
  let v944_r0 : BitVec 32 := Scalar.muli v5 c4_i32_717_r0
  let v945_r0 : BitVec 32 := Scalar.addi v943_r0 v944_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_42 : BitVec 32 := 2#32
  let v82 : BitVec 32 := Scalar.addi v8 c2_i32_42
  let c4_i32_43 : BitVec 32 := 4#32
  let v83 : BitVec 32 := Scalar.remsi v82 c4_i32_43
  let c1_i32_718_r0 : BitVec 32 := 1#32
  let v946_r0 : BitVec 32 := Scalar.muli v83 c1_i32_718_r0
  let v947_r0 : BitVec 32 := Scalar.addi v945_r0 v946_r0
  v947_r0.toNat
def k0_dev30 (d0 : Dev nD) : Nat :=
  let c0_i32_721_r0 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_720_r0 : BitVec 32 := 8#32
  let v948_r0 : BitVec 32 := Scalar.muli v2 c8_i32_720_r0
  let v949_r0 : BitVec 32 := Scalar.addi c0_i32_721_r0 v948_r0
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_722_r0 : BitVec 32 := 4#32
  let v950_r0 : BitVec 32 := Scalar.muli v5 c4_i32_722_r0
  let v951_r0 : BitVec 32 := Scalar.addi v949_r0 v950_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v84 : BitVec 32 := Scalar.addi v8 c3_i32
  let c4_i32_44 : BitVec 32 := 4#32
  let v85 : BitVec 32 := Scalar.remsi v84 c4_i32_44
  let c1_i32_723_r0 : BitVec 32 := 1#32
  let v952_r0 : BitVec 32 := Scalar.muli v85 c1_i32_723_r0
  let v953_r0 : BitVec 32 := Scalar.addi v951_r0 v952_r0
  v953_r0.toNat
def k0_dev31 (d0 : Dev nD) : Nat :=
  let c0_i32_726_r0 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c4_i32_17 : BitVec 32 := 4#32
  let v42 : BitVec 32 := Scalar.addi v11 c4_i32_17
  let c1_i32_18 : BitVec 32 := 1#32
  let v43 : BitVec 32 := Scalar.subi v42 c1_i32_18
  let c4_i32_19 : BitVec 32 := 4#32
  let v44 : BitVec 32 := Scalar.remsi v43 c4_i32_19
  let c0_i32_21 : BitVec 32 := 0#32
  let v46 : BitVec 1 := Scalar.cmpi .sgt v44 c0_i32_21
  let v47 : BitVec 32 := Scalar.extui v46
  let c0_i32_22 : BitVec 32 := 0#32
  let v48 : BitVec 1 := Scalar.cmpi .slt v44 c0_i32_22
  let v49 : BitVec 32 := Scalar.extui v48
  let v50 : BitVec 32 := Scalar.subi v47 v49
  let c2_i32_20 : BitVec 32 := 2#32
  let c0_i32_23 : BitVec 32 := 0#32
  let v51 : BitVec 1 := Scalar.cmpi .sgt c2_i32_20 c0_i32_23
  let v52 : BitVec 32 := Scalar.extui v51
  let c0_i32_24 : BitVec 32 := 0#32
  let v53 : BitVec 1 := Scalar.cmpi .slt c2_i32_20 c0_i32_24
  let v54 : BitVec 32 := Scalar.extui v53
  let v55 : BitVec 32 := Scalar.subi v52 v54
  let v56 : BitVec 1 := Scalar.cmpi .ne v50 v55
  let v57 : BitVec 32 := Scalar.remsi v44 c2_i32_20
  let c0_i32_25 : BitVec 32 := 0#32
  let v58 : BitVec 1 := Scalar.cmpi .ne v57 c0_i32_25
  let v59 : BitVec 1 := Scalar.andi v56 v58
  let v45 : BitVec 32 := Scalar.divsi v44 c2_i32_20
  let c1_i32_26 : BitVec 32 := 1#32
  let v60 : BitVec 32 := Scalar.subi v45 c1_i32_26
  let v61 : BitVec 32 := Scalar.select v59 v60 v45
  let c8_i32_725_r0 : BitVec 32 := 8#32
  let v954_r0 : BitVec 32 := Scalar.muli v61 c8_i32_725_r0
  let v955_r0 : BitVec 32 := Scalar.addi c0_i32_726_r0 v954_r0
  let c2_i32_27 : BitVec 32 := 2#32
  let c0_i32_28 : BitVec 32 := 0#32
  let v62 : BitVec 1 := Scalar.cmpi .eq c2_i32_27 c0_i32_28
  let c1_i32_29 : BitVec 32 := 1#32
  let v63 : BitVec 32 := Scalar.select v62 c1_i32_29 c2_i32_27
  let v64 : BitVec 32 := Scalar.remsi v44 v63
  let c0_i32_31 : BitVec 32 := 0#32
  let v66 : BitVec 1 := Scalar.cmpi .slt v64 c0_i32_31
  let c0_i32_32 : BitVec 32 := 0#32
  let v67 : BitVec 1 := Scalar.cmpi .slt v63 c0_i32_32
  let v68 : BitVec 1 := Scalar.xori v66 v67
  let c0_i32_30 : BitVec 32 := 0#32
  let v65 : BitVec 1 := Scalar.cmpi .ne v64 c0_i32_30
  let v69 : BitVec 1 := Scalar.andi v68 v65
  let v70 : BitVec 32 := Scalar.addi v64 v63
  let v71 : BitVec 32 := Scalar.select v69 v70 v64
  let v72 : BitVec 32 := Scalar.xori v61 v71
  let c4_i32_727_r0 : BitVec 32 := 4#32
  let v956_r0 : BitVec 32 := Scalar.muli v72 c4_i32_727_r0
  let v957_r0 : BitVec 32 := Scalar.addi v955_r0 v956_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_728_r0 : BitVec 32 := 1#32
  let v958_r0 : BitVec 32 := Scalar.muli v8 c1_i32_728_r0
  let v959_r0 : BitVec 32 := Scalar.addi v957_r0 v958_r0
  v959_r0.toNat
def k0_dev32 (d0 : Dev nD) : Nat :=
  let c0_i32_731_r0 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c1_i32_3 : BitVec 32 := 1#32
  let v12 : BitVec 32 := Scalar.addi v11 c1_i32_3
  let c4_i32_4 : BitVec 32 := 4#32
  let v13 : BitVec 32 := Scalar.remsi v12 c4_i32_4
  let c0_i32 : BitVec 32 := 0#32
  let v15 : BitVec 1 := Scalar.cmpi .sgt v13 c0_i32
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32_5 : BitVec 32 := 2#32
  let c0_i32_7 : BitVec 32 := 0#32
  let v20 : BitVec 1 := Scalar.cmpi .sgt c2_i32_5 c0_i32_7
  let v21 : BitVec 32 := Scalar.extui v20
  let c0_i32_8 : BitVec 32 := 0#32
  let v22 : BitVec 1 := Scalar.cmpi .slt c2_i32_5 c0_i32_8
  let v23 : BitVec 32 := Scalar.extui v22
  let v24 : BitVec 32 := Scalar.subi v21 v23
  let v25 : BitVec 1 := Scalar.cmpi .ne v19 v24
  let v26 : BitVec 32 := Scalar.remsi v13 c2_i32_5
  let c0_i32_9 : BitVec 32 := 0#32
  let v27 : BitVec 1 := Scalar.cmpi .ne v26 c0_i32_9
  let v28 : BitVec 1 := Scalar.andi v25 v27
  let v14 : BitVec 32 := Scalar.divsi v13 c2_i32_5
  let c1_i32_10 : BitVec 32 := 1#32
  let v29 : BitVec 32 := Scalar.subi v14 c1_i32_10
  let v30 : BitVec 32 := Scalar.select v28 v29 v14
  let c8_i32_730_r0 : BitVec 32 := 8#32
  let v960_r0 : BitVec 32 := Scalar.muli v30 c8_i32_730_r0
  let v961_r0 : BitVec 32 := Scalar.addi c0_i32_731_r0 v960_r0
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v13 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v41 : BitVec 32 := Scalar.xori v30 v40
  let c4_i32_732_r0 : BitVec 32 := 4#32
  let v962_r0 : BitVec 32 := Scalar.muli v41 c4_i32_732_r0
  let v963_r0 : BitVec 32 := Scalar.addi v961_r0 v962_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_733_r0 : BitVec 32 := 1#32
  let v964_r0 : BitVec 32 := Scalar.muli v8 c1_i32_733_r0
  let v965_r0 : BitVec 32 := Scalar.addi v963_r0 v964_r0
  v965_r0.toNat
abbrev stage0_0 : Fin 1 → Memref sig .tc .smem S2048 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048 : Shape := ⟨1, ![2048]⟩
abbrev S65536x1024 : Shape := ⟨2, ![65536, 1024]⟩
abbrev S_ : Shape := ⟨0, ![]⟩
abbrev S2048x1 : Shape := ⟨2, ![2048, 1]⟩
abbrev S2048x1024 : Shape := ⟨2, ![2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048, .i32⟩
  | .hbm, ⟨1, _⟩ => ⟨S65536x1024, .f32⟩
  | .hbm, ⟨2, _⟩ => ⟨S_, .i32⟩
  | .hbm, ⟨3, _⟩ => ⟨S2048, .i32⟩
  | .hbm, ⟨4, _⟩ => ⟨S2048, .i1⟩
  | .hbm, ⟨5, _⟩ => ⟨S_, .i32⟩
  | .hbm, ⟨6, _⟩ => ⟨S2048, .i32⟩
  | .hbm, ⟨7, _⟩ => ⟨S2048, .i32⟩
  | .hbm, ⟨8, _⟩ => ⟨S2048, .i32⟩
  | .hbm, ⟨9, _⟩ => ⟨S2048x1, .i32⟩
  | .hbm, ⟨10, _⟩ => ⟨S2048x1024, .f32⟩
  | _, _ => ⟨S2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.Devs.lean ====
/-
The mesh and its semaphores. Device number `8x + 4y + z` sits at place `r = 2x + (x xor y)` of the ring that joins the
four `(x, y)` columns of one `z`; its right and left neighbours are the next and previous places of that ring. Its three
`z` peers are the other devices of its column. Every device number and every offset that the kernel computes is one of
these; so is every semaphore cell that it names.
-/
module

public import proofs.«01_k».proof.Proof.Gen.KernelIdeal
public import proofs.«01_k».proof.Proof.Gen.KernelIdeal.Launch

@[expose] public section

namespace Cert.EmbedProof

open Cert.KernelIdeal Cert.KernelIdeal.Gen
open Idealize.ShloMosaic
open Idealize.ShloMosaic.TcCoe

/-! ## Devices -/

/-- A device's `z` coordinate. -/
def zOf (c : Dev nD) : Fin 4 := ⟨c.val % 4, Nat.mod_lt _ (by decide)⟩
/-- A device's place on the ring of its `z`. -/
def rOf (c : Dev nD) : Fin 4 := ⟨(2 * (c.val / 8) + ((c.val / 8) ^^^ (c.val / 4 % 2))) % 4, Nat.mod_lt _ (by decide)⟩
/-- The device at place `r` of the ring of `z`. -/
def devAt (r z : Fin 4) : Dev nD := ⟨(8 * (r.val / 2) + 4 * ((r.val / 2) ^^^ (r.val % 2)) + z.val) % 16, Nat.mod_lt _ (by decide)⟩
/-- The device of `c`'s column at `z = g`. -/
def zAt (c : Dev nD) (g : Fin 4) : Dev nD := devAt (rOf c) g
/-- The next device of the ring. -/
def rt (c : Dev nD) : Dev nD := devAt (rOf c + 1) (zOf c)
/-- The previous device of the ring. -/
def lf (c : Dev nD) : Dev nD := devAt (rOf c + 3) (zOf c)

/-- The `z` of the `k`-th far segment: `p1`, `p2`, `p3`. -/
def pk (c : Dev nD) (k : Fin 3) : Fin 4 :=
  match k with
  | 0 => if c.val % 4 ≤ 1 then 3 else 0
  | 1 => if c.val % 4 ≤ 1 then 2 else (if c.val % 4 = 2 then 3 else 1)
  | 2 => if c.val % 4 = 1 then 0 else (if c.val % 4 = 3 then 2 else 1)
/-- The order in which the second half handles the segments: the own one, then `p3`, `p2`, `p1`. -/
def gk (c : Dev nD) (n : Fin 4) : Fin 4 :=
  match n with | 0 => zOf c | 1 => pk c 2 | 2 => pk c 1 | 3 => pk c 0
/-- The `z` of the `k`-th peer in the cyclic order. -/
def zp (c : Dev nD) (k : Fin 3) : Fin 4 := match k with | 0 => zOf c + 1 | 1 => zOf c + 2 | 2 => zOf c + 3
/-- The far peers as devices. -/
def pd (c : Dev nD) (k : Fin 3) : Dev nD := zAt c (pk c k)
/-- The five devices a device signals: the three peers, left, right. -/
def tgt (c : Dev nD) (j : Fin 5) : Dev nD :=
  match j with | 0 => zAt c (zOf c + 1) | 1 => zAt c (zOf c + 2) | 2 => zAt c (zOf c + 3) | 3 => lf c | 4 => rt c
/-- Under which of the target's five names the signaller is known. -/
def rev (j : Fin 5) : Fin 5 := match j with | 0 => 2 | 1 => 1 | 2 => 0 | 3 => 4 | 4 => 3

theorem tgt_rev (c : Dev nD) (j : Fin 5) : tgt (tgt c j) (rev j) = c := by revert c j; decide
theorem rev_rev (j : Fin 5) : rev (rev j) = j := by revert j; decide
theorem rt_lf (c : Dev nD) : rt (lf c) = c := by revert c; decide
theorem lf_rt (c : Dev nD) : lf (rt c) = c := by revert c; decide
theorem rt_rt (c : Dev nD) : rt (rt c) = lf (lf c) := by revert c; decide
theorem devAt_rz (c : Dev nD) : devAt (rOf c) (zOf c) = c := by revert c; decide
theorem rOf_devAt (r z : Fin 4) : rOf (devAt r z) = r := by revert r z; decide
theorem zOf_devAt (r z : Fin 4) : zOf (devAt r z) = z := by revert r z; decide
theorem zOf_zAt (c : Dev nD) (g : Fin 4) : zOf (zAt c g) = g := zOf_devAt _ _
theorem rOf_zAt (c : Dev nD) (g : Fin 4) : rOf (zAt c g) = rOf c := rOf_devAt _ _
theorem zAt_zAt (c : Dev nD) (g h : Fin 4) : zAt (zAt c g) h = zAt c h := by unfold zAt; rw [rOf_devAt]
theorem zAt_self (c : Dev nD) : zAt c (zOf c) = c := devAt_rz c
theorem zOf_rt (c : Dev nD) : zOf (rt c) = zOf c := zOf_devAt _ _
theorem zOf_lf (c : Dev nD) : zOf (lf c) = zOf c := zOf_devAt _ _
theorem rOf_rt (c : Dev nD) : rOf (rt c) = rOf c + 1 := rOf_devAt _ _
theorem rOf_lf (c : Dev nD) : rOf (lf c) = rOf c + 3 := rOf_devAt _ _
theorem zOf_pd (c : Dev nD) (k : Fin 3) : zOf (pd c k) = pk c k := zOf_zAt _ _
theorem pk_ne (c : Dev nD) (k : Fin 3) : pk c k ≠ zOf c := by revert c k; decide
theorem zp_ne (c : Dev nD) (k : Fin 3) : zp c k ≠ zOf c := by revert c k; decide
theorem gk_rt (c : Dev nD) (n : Fin 4) : gk (rt c) n = gk c n := by revert c n; decide
theorem gk_lf (c : Dev nD) (n : Fin 4) : gk (lf c) n = gk c n := by revert c n; decide
theorem gk_inj (c : Dev nD) : Function.Injective (gk c) := by revert c; decide
theorem gk_surj (c : Dev nD) (g : Fin 4) : ∃ n, gk c n = g := by revert c g; decide

/-- Which of the far peers the peer of name `j` is, and conversely. -/
def pOfJ (c : Dev nD) (j : Fin 3) : Fin 3 := if pk c 0 = zp c j then 0 else if pk c 1 = zp c j then 1 else 2
@[inherit_doc pOfJ] def jOfP (c : Dev nD) (k : Fin 3) : Fin 3 := if zp c 0 = pk c k then 0 else if zp c 1 = pk c k then 1 else 2
theorem pOfJ_jOfP (c : Dev nD) (k : Fin 3) : pOfJ c (jOfP c k) = k := by revert c k; decide
theorem jOfP_pOfJ (c : Dev nD) (j : Fin 3) : jOfP c (pOfJ c j) = j := by revert c j; decide
theorem pk_pOfJ (c : Dev nD) (j : Fin 3) : pk c (pOfJ c j) = zp c j := by revert c j; decide
/-- The two orders of the peers, as a permutation. -/
def pPerm (c : Dev nD) : Fin 3 ≃ Fin 3 := ⟨pOfJ c, jOfP c, jOfP_pOfJ c, pOfJ_jOfP c⟩

/-- The kernel's device numbers. -/
theorem dev1_eq (c : Dev nD) : (⟨k0_dev1 c, k0_dev1_lt c⟩ : Dev nD) = tgt c 0 := by revert c; decide
theorem dev2_eq (c : Dev nD) : (⟨k0_dev2 c, k0_dev2_lt c⟩ : Dev nD) = tgt c 1 := by revert c; decide
theorem dev3_eq (c : Dev nD) : (⟨k0_dev3 c, k0_dev3_lt c⟩ : Dev nD) = tgt c 2 := by revert c; decide
theorem dev4_eq (c : Dev nD) : (⟨k0_dev4 c, k0_dev4_lt c⟩ : Dev nD) = tgt c 3 := by revert c; decide
theorem dev5_eq (c : Dev nD) : (⟨k0_dev5 c, k0_dev5_lt c⟩ : Dev nD) = tgt c 4 := by revert c; decide
theorem dev28_eq (c : Dev nD) : (⟨k0_dev28 c, k0_dev28_lt c⟩ : Dev nD) = tgt c 0 := by revert c; decide
theorem dev29_eq (c : Dev nD) : (⟨k0_dev29 c, k0_dev29_lt c⟩ : Dev nD) = tgt c 1 := by revert c; decide
theorem dev30_eq (c : Dev nD) : (⟨k0_dev30 c, k0_dev30_lt c⟩ : Dev nD) = tgt c 2 := by revert c; decide
theorem dev31_eq (c : Dev nD) : (⟨k0_dev31 c, k0_dev31_lt c⟩ : Dev nD) = tgt c 3 := by revert c; decide
theorem dev32_eq (c : Dev nD) : (⟨k0_dev32 c, k0_dev32_lt c⟩ : Dev nD) = tgt c 4 := by revert c; decide
theorem dev6_eq (c : Dev nD) : (⟨k0_dev6 c, k0_dev6_lt c⟩ : Dev nD) = pd c 0 := by revert c; decide
theorem dev7_eq (c : Dev nD) : (⟨k0_dev7 c, k0_dev7_lt c⟩ : Dev nD) = pd c 1 := by revert c; decide
theorem dev8_eq (c : Dev nD) : (⟨k0_dev8 c, k0_dev8_lt c⟩ : Dev nD) = pd c 2 := by revert c; decide
theorem dev9_eq (c : Dev nD) : (⟨k0_dev9 c, k0_dev9_lt c⟩ : Dev nD) = pd c 0 := by revert c; decide
theorem dev10_eq (c : Dev nD) : (⟨k0_dev10 c, k0_dev10_lt c⟩ : Dev nD) = pd c 1 := by revert c; decide
theorem dev11_eq (c : Dev nD) : (⟨k0_dev11 c, k0_dev11_lt c⟩ : Dev nD) = pd c 2 := by revert c; decide
theorem dev12_eq (c : Dev nD) : (⟨k0_dev12 c, k0_dev12_lt c⟩ : Dev nD) = rt c := by revert c; decide
theorem dev13_eq (c : Dev nD) : (⟨k0_dev13 c, k0_dev13_lt c⟩ : Dev nD) = lf c := by revert c; decide
theorem dev14_eq (c : Dev nD) : (⟨k0_dev14 c, k0_dev14_lt c⟩ : Dev nD) = rt c := by revert c; decide
theorem dev15_eq (c : Dev nD) : (⟨k0_dev15 c, k0_dev15_lt c⟩ : Dev nD) = lf c := by revert c; decide
theorem dev16_eq (c : Dev nD) : (⟨k0_dev16 c, k0_dev16_lt c⟩ : Dev nD) = rt c := by revert c; decide
theorem dev17_eq (c : Dev nD) : (⟨k0_dev17 c, k0_dev17_lt c⟩ : Dev nD) = lf c := by revert c; decide
theorem dev18_eq (c : Dev nD) : (⟨k0_dev18 c, k0_dev18_lt c⟩ : Dev nD) = rt c := by revert c; decide
theorem dev19_eq (c : Dev nD) : (⟨k0_dev19 c, k0_dev19_lt c⟩ : Dev nD) = lf c := by revert c; decide
theorem dev20_eq (c : Dev nD) : (⟨k0_dev20 c, k0_dev20_lt c⟩ : Dev nD) = rt c := by revert c; decide
theorem dev21_eq (c : Dev nD) : (⟨k0_dev21 c, k0_dev21_lt c⟩ : Dev nD) = lf c := by revert c; decide
theorem dev22_eq (c : Dev nD) : (⟨k0_dev22 c, k0_dev22_lt c⟩ : Dev nD) = rt c := by revert c; decide
theorem dev23_eq (c : Dev nD) : (⟨k0_dev23 c, k0_dev23_lt c⟩ : Dev nD) = lf c := by revert c; decide
theorem dev24_eq (c : Dev nD) : (⟨k0_dev24 c, k0_dev24_lt c⟩ : Dev nD) = rt c := by revert c; decide
theorem dev25_eq (c : Dev nD) : (⟨k0_dev25 c, k0_dev25_lt c⟩ : Dev nD) = lf c := by revert c; decide
theorem dev26_eq (c : Dev nD) : (⟨k0_dev26 c, k0_dev26_lt c⟩ : Dev nD) = rt c := by revert c; decide
theorem dev27_eq (c : Dev nD) : (⟨k0_dev27 c, k0_dev27_lt c⟩ : Dev nD) = lf c := by revert c; decide

/-- The kernel's offsets: one row segment of 128 (or 64) rows, one slot, one semaphore. -/
theorem off16_eq (c : Dev nD) : k0_off16 c = ![(zOf c).val] := by revert c; decide
theorem off17_eq (c : Dev nD) : k0_off17 c = ![(zOf c).val, 0, 0] := by revert c; decide
theorem off18_eq (c : Dev nD) : k0_off18 c = ![128 * (pk c 0).val, 0] := by revert c; decide
theorem off34_eq (c : Dev nD) : k0_off34 c = ![128 * (pk c 1).val, 0] := by revert c; decide
theorem off50_eq (c : Dev nD) : k0_off50 c = ![128 * (pk c 2).val, 0] := by revert c; decide
theorem off68_eq (c : Dev nD) : k0_off68 c = ![128 * (zOf c).val, 0] := by revert c; decide
theorem off70_eq (c : Dev nD) : k0_off70 c = ![128 * (zOf c).val, 0] := by revert c; decide
theorem off91_eq (c : Dev nD) : k0_off91 c = ![128 * (zOf c).val, 0] := by revert c; decide
theorem off66_1_eq (c : Dev nD) : k0_off66 c 1#32 = ![(zp c 0).val] := by revert c; decide
theorem off67_1_eq (c : Dev nD) : k0_off67 c 1#32 = ![(zp c 0).val, 0, 0] := by revert c; decide
theorem off69_1_eq (c : Dev nD) : k0_off69 c 1#32 = ![(zp c 0).val, 0, 0] := by revert c; decide
theorem off66_2_eq (c : Dev nD) : k0_off66 c 2#32 = ![(zp c 1).val] := by revert c; decide
theorem off67_2_eq (c : Dev nD) : k0_off67 c 2#32 = ![(zp c 1).val, 0, 0] := by revert c; decide
theorem off69_2_eq (c : Dev nD) : k0_off69 c 2#32 = ![(zp c 1).val, 0, 0] := by revert c; decide
theorem off66_3_eq (c : Dev nD) : k0_off66 c 3#32 = ![(zp c 2).val] := by revert c; decide
theorem off67_3_eq (c : Dev nD) : k0_off67 c 3#32 = ![(zp c 2).val, 0, 0] := by revert c; decide
theorem off69_3_eq (c : Dev nD) : k0_off69 c 3#32 = ![(zp c 2).val, 0, 0] := by revert c; decide
theorem off71_eq (c : Dev nD) : k0_off71 c = ![0, (gk c 0).val] := by revert c; decide
theorem off72_eq (c : Dev nD) : k0_off72 c = ![1, (gk c 0).val] := by revert c; decide
theorem off74_eq (c : Dev nD) : k0_off74 c = ![(gk c 1).val] := by revert c; decide
theorem off75_eq (c : Dev nD) : k0_off75 c = ![0, (gk c 1).val] := by revert c; decide
theorem off76_eq (c : Dev nD) : k0_off76 c = ![1, (gk c 1).val] := by revert c; decide
theorem off77_eq (c : Dev nD) : k0_off77 c = ![128 * (gk c 1).val, 0] := by revert c; decide
theorem off79_eq (c : Dev nD) : k0_off79 c = ![(gk c 2).val] := by revert c; decide
theorem off80_eq (c : Dev nD) : k0_off80 c = ![0, (gk c 2).val] := by revert c; decide
theorem off81_eq (c : Dev nD) : k0_off81 c = ![1, (gk c 2).val] := by revert c; decide
theorem off82_eq (c : Dev nD) : k0_off82 c = ![128 * (gk c 2).val, 0] := by revert c; decide
theorem off84_eq (c : Dev nD) : k0_off84 c = ![(gk c 3).val] := by revert c; decide
theorem off85_eq (c : Dev nD) : k0_off85 c = ![0, (gk c 3).val] := by revert c; decide
theorem off86_eq (c : Dev nD) : k0_off86 c = ![1, (gk c 3).val] := by revert c; decide
theorem off87_eq (c : Dev nD) : k0_off87 c = ![128 * (gk c 3).val, 0] := by revert c; decide
theorem off89_eq (c : Dev nD) : k0_off89 c = ![2, (gk c 0).val] := by revert c; decide
theorem off90_eq (c : Dev nD) : k0_off90 c = ![64 * (gk c 0).val, 0] := by revert c; decide
theorem off92_eq (c : Dev nD) : k0_off92 c = ![3, (gk c 0).val] := by revert c; decide
theorem off93_eq (c : Dev nD) : k0_off93 c = ![128 * (gk c 0).val + 64, 0] := by revert c; decide
theorem off96_eq (c : Dev nD) : k0_off96 c = ![2, (gk c 1).val] := by revert c; decide
theorem off97_eq (c : Dev nD) : k0_off97 c = ![64 * (gk c 1).val, 0] := by revert c; decide
theorem off98_eq (c : Dev nD) : k0_off98 c = ![128 * (gk c 1).val, 0] := by revert c; decide
theorem off99_eq (c : Dev nD) : k0_off99 c = ![3, (gk c 1).val] := by revert c; decide
theorem off100_eq (c : Dev nD) : k0_off100 c = ![128 * (gk c 1).val + 64, 0] := by revert c; decide
theorem off103_eq (c : Dev nD) : k0_off103 c = ![2, (gk c 2).val] := by revert c; decide
theorem off104_eq (c : Dev nD) : k0_off104 c = ![64 * (gk c 2).val, 0] := by revert c; decide
theorem off105_eq (c : Dev nD) : k0_off105 c = ![128 * (gk c 2).val, 0] := by revert c; decide
theorem off106_eq (c : Dev nD) : k0_off106 c = ![3, (gk c 2).val] := by revert c; decide
theorem off107_eq (c : Dev nD) : k0_off107 c = ![128 * (gk c 2).val + 64, 0] := by revert c; decide
theorem off110_eq (c : Dev nD) : k0_off110 c = ![2, (gk c 3).val] := by revert c; decide
theorem off111_eq (c : Dev nD) : k0_off111 c = ![64 * (gk c 3).val, 0] := by revert c; decide
theorem off112_eq (c : Dev nD) : k0_off112 c = ![128 * (gk c 3).val, 0] := by revert c; decide
theorem off113_eq (c : Dev nD) : k0_off113 c = ![3, (gk c 3).val] := by revert c; decide
theorem off114_eq (c : Dev nD) : k0_off114 c = ![128 * (gk c 3).val + 64, 0] := by revert c; decide
theorem off117_eq (c : Dev nD) : k0_off117 c = ![64 * (gk c 0).val, 0] := by revert c; decide
theorem off120_eq (c : Dev nD) : k0_off120 c = ![64 * (gk c 1).val, 0] := by revert c; decide
theorem off123_eq (c : Dev nD) : k0_off123 c = ![64 * (gk c 2).val, 0] := by revert c; decide
theorem off126_eq (c : Dev nD) : k0_off126 c = ![64 * (gk c 3).val, 0] := by revert c; decide
theorem off73_eq (c : Dev nD) : k0_off73 c = ![512 * (rOf c).val + 128 * (gk c 0).val, 0] := by revert c; decide
theorem off78_eq (c : Dev nD) : k0_off78 c = ![512 * (rOf c).val + 128 * (gk c 1).val, 0] := by revert c; decide
theorem off83_eq (c : Dev nD) : k0_off83 c = ![512 * (rOf c).val + 128 * (gk c 2).val, 0] := by revert c; decide
theorem off88_eq (c : Dev nD) : k0_off88 c = ![512 * (rOf c).val + 128 * (gk c 3).val, 0] := by revert c; decide
theorem off94_eq (c : Dev nD) : k0_off94 c = ![512 * (rOf c + 3).val + 128 * (gk c 0).val, 0] := by revert c; decide
theorem off95_eq (c : Dev nD) : k0_off95 c = ![512 * (rOf c + 1).val + 128 * (gk c 0).val, 0] := by revert c; decide
theorem off101_eq (c : Dev nD) : k0_off101 c = ![512 * (rOf c + 3).val + 128 * (gk c 1).val, 0] := by revert c; decide
theorem off102_eq (c : Dev nD) : k0_off102 c = ![512 * (rOf c + 1).val + 128 * (gk c 1).val, 0] := by revert c; decide
theorem off108_eq (c : Dev nD) : k0_off108 c = ![512 * (rOf c + 3).val + 128 * (gk c 2).val, 0] := by revert c; decide
theorem off109_eq (c : Dev nD) : k0_off109 c = ![512 * (rOf c + 1).val + 128 * (gk c 2).val, 0] := by revert c; decide
theorem off115_eq (c : Dev nD) : k0_off115 c = ![512 * (rOf c + 3).val + 128 * (gk c 3).val, 0] := by revert c; decide
theorem off116_eq (c : Dev nD) : k0_off116 c = ![512 * (rOf c + 1).val + 128 * (gk c 3).val, 0] := by revert c; decide
theorem off118_eq (c : Dev nD) : k0_off118 c = ![512 * (rOf c + 2).val + 128 * (gk c 0).val, 0] := by revert c; decide
theorem off119_eq (c : Dev nD) : k0_off119 c = ![512 * (rOf c + 2).val + 128 * (gk c 0).val + 64, 0] := by revert c; decide
theorem off121_eq (c : Dev nD) : k0_off121 c = ![512 * (rOf c + 2).val + 128 * (gk c 1).val, 0] := by revert c; decide
theorem off122_eq (c : Dev nD) : k0_off122 c = ![512 * (rOf c + 2).val + 128 * (gk c 1).val + 64, 0] := by revert c; decide
theorem off124_eq (c : Dev nD) : k0_off124 c = ![512 * (rOf c + 2).val + 128 * (gk c 2).val, 0] := by revert c; decide
theorem off125_eq (c : Dev nD) : k0_off125 c = ![512 * (rOf c + 2).val + 128 * (gk c 2).val + 64, 0] := by revert c; decide
theorem off127_eq (c : Dev nD) : k0_off127 c = ![512 * (rOf c + 2).val + 128 * (gk c 3).val, 0] := by revert c; decide
theorem off128_eq (c : Dev nD) : k0_off128 c = ![512 * (rOf c + 2).val + 128 * (gk c 3).val + 64, 0] := by revert c; decide

/-! ## Semaphore cells -/

/-- The semaphores of the protocol: the runtime's barrier, the exit semaphore, the landing semaphores of the
    reduce-scatter (`rs`), of the all-gather over `z` (`ag`) and of the four ring transfers (`rb`), and the departure
    semaphores of the same (`ss`, `sa`, `sb`). -/
inductive CK where
  | bar | ex
  | rs (g : Fin 4) | ag (g : Fin 4) | rb (i g : Fin 4)
  | ss (k : Fin 3) | sa (k : Fin 3) | sb (i g : Fin 4)
deriving DecidableEq

namespace CK

/-- The kinds numbered. -/
def toFin : CK → Fin 48
  | bar => 0 | ex => 1
  | rs g => ⟨2 + g.val, by omega⟩ | ag g => ⟨6 + g.val, by omega⟩ | rb i g => ⟨10 + 4 * i.val + g.val, by omega⟩
  | ss k => ⟨26 + k.val, by omega⟩ | sa k => ⟨29 + k.val, by omega⟩ | sb i g => ⟨32 + 4 * i.val + g.val, by omega⟩
/-- All kinds, in the order of their numbers. -/
def all : List CK :=
  [bar, ex, rs 0, rs 1, rs 2, rs 3, ag 0, ag 1, ag 2, ag 3,
   rb 0 0, rb 0 1, rb 0 2, rb 0 3, rb 1 0, rb 1 1, rb 1 2, rb 1 3, rb 2 0, rb 2 1, rb 2 2, rb 2 3, rb 3 0, rb 3 1, rb 3 2, rb 3 3,
   ss 0, ss 1, ss 2, sa 0, sa 1, sa 2,
   sb 0 0, sb 0 1, sb 0 2, sb 0 3, sb 1 0, sb 1 1, sb 1 2, sb 1 3, sb 2 0, sb 2 1, sb 2 2, sb 2 3, sb 3 0, sb 3 1, sb 3 2, sb 3 3]
theorem nodup_all : all.Nodup := by decide
theorem mem_all (k : CK) : k ∈ all := by
  rcases k with _ | _ | g | g | ⟨i, g⟩ | k | k | ⟨i, g⟩
  · decide
  · decide
  · revert g; decide
  · revert g; decide
  · revert i g; decide
  · revert k; decide
  · revert k; decide
  · revert i g; decide

instance : Fintype CK := ⟨⟨all, nodup_all⟩, mem_all⟩
theorem univ_eq : (Finset.univ : Finset CK).val = all := rfl

end CK

/-- The barrier semaphore. -/
abbrev barS : Sem sig := (SemArray.scalar (sig.barrier 0 rfl) : Sems sig S_).sem

/-- A kind's semaphore. -/
def csem : CK → SemLoc sig
  | .bar => .reg barS
  | .ex => .reg cc0_scoped0.sem
  | .rs g => .dma ⟨21 + g.val, by have := g.isLt; show _ < 64; omega⟩
  | .ag g => .dma ⟨28 + g.val, by have := g.isLt; show _ < 64; omega⟩
  | .rb i g => .dma ⟨48 + 4 * i.val + g.val, by have := g.isLt; have := i.isLt; show _ < 64; omega⟩
  | .ss k => .dma ⟨18 + k.val, by have := k.isLt; show _ < 64; omega⟩
  | .sa k => .dma ⟨25 + k.val, by have := k.isLt; show _ < 64; omega⟩
  | .sb i g => .dma ⟨32 + 4 * i.val + g.val, by have := g.isLt; have := i.isLt; show _ < 64; omega⟩

/-- Which kind a semaphore is, if any. -/
def kindOf (sm : SemLoc sig) : Option CK := CK.all.find? fun k => csem k = sm

theorem kindOf_csem (k : CK) : kindOf (csem k) = some k := by
  rcases k with _ | _ | g | g | ⟨i, g⟩ | k | k | ⟨i, g⟩
  · decide
  · decide
  · revert g; decide
  · revert g; decide
  · revert i g; decide
  · revert k; decide
  · revert k; decide
  · revert i g; decide

theorem csem_inj : Function.Injective csem := fun a b h => by
  have := kindOf_csem a; rw [h, kindOf_csem] at this; exact (Option.some.inj this).symm

/-- A kind's cell on device `c`. -/
abbrev kcell (ck : Dev nD × CK) : GSem nD τ sig := ((ck.1 : Thread nD τ), csem ck.2)

theorem kcell_injective : Function.Injective (kcell : Dev nD × CK → GSem nD τ sig) := by
  rintro ⟨c, k⟩ ⟨c', k'⟩ h
  have h1 : c = c' := congrArg (fun g : GSem nD τ sig => g.1.1) h
  have h2 : k = k' := csem_inj (congrArg Prod.snd h)
  rw [h1, h2]

/-- The kernel's spellings of its semaphores. -/
theorem sem_rs (g : Fin 4) (inb) : SemLoc.dma (((cc0_scratch5.slice (Rect.unit (s := S4) ![g.val] S1.size inb)).squeeze S_ squeezes_S1_S_).sem) = csem (.rs g) := by revert g; decide
theorem sem_ag (g : Fin 4) (inb) : SemLoc.dma (((cc0_scratch7.slice (Rect.unit (s := S4) ![g.val] S1.size inb)).squeeze S_ squeezes_S1_S_).sem) = csem (.ag g) := by revert g; decide
theorem sem_ss (k : Fin 3) (inb) : SemLoc.dma (((cc0_scratch4.slice (Rect.unit (s := S3) ![k.val] S1.size inb)).squeeze S_ squeezes_S1_S_).sem) = csem (.ss k) := by revert k; decide
theorem sem_sa (k : Fin 3) (inb) : SemLoc.dma (((cc0_scratch6.slice (Rect.unit (s := S3) ![k.val] S1.size inb)).squeeze S_ squeezes_S1_S_).sem) = csem (.sa k) := by revert k; decide
theorem sem_rb (i g : Fin 4) (inb) : SemLoc.dma (((cc0_scratch13.slice (Rect.unit (s := S4x4) ![i.val, g.val] S1x1.size inb)).squeeze S_ squeezes_S1x1_S_).sem) = csem (.rb i g) := by revert i g; decide
theorem sem_sb (i g : Fin 4) (inb) : SemLoc.dma (((cc0_scratch12.slice (Rect.unit (s := S4x4) ![i.val, g.val] S1x1.size inb)).squeeze S_ squeezes_S1x1_S_).sem) = csem (.sb i g) := by revert i g; decide
/-- The sixteen gather semaphores. -/
def gsem (j : Fin 16) : DmaSem sig := ⟨2 + j.val, by have := j.isLt; show _ < 64; omega⟩
theorem sem_g (j : Fin 16) (inb) : ((cc0_scratch1.slice (Rect.unit (s := S16) ![j.val] S1.size inb)).squeeze S_ squeezes_S1_S_).sem = gsem j := by revert j; decide
theorem gsem_ne_csem (j : Fin 16) (k : CK) : SemLoc.dma (gsem j) ≠ csem k := by
  rcases k with _ | _ | g | g | ⟨i, g⟩ | k | k | ⟨i, g⟩
  · revert j; decide
  · revert j; decide
  · revert j g; decide
  · revert j g; decide
  · revert j i g; decide
  · revert j k; decide
  · revert j k; decide
  · revert j i g; decide

end Cert.EmbedProof
-- ==== Proof.Contents.lean ====
/-
What every buffer holds. `X c` is device `c`'s gathered quarter: row `t` is the row of `c`'s block of the table that token
`512 r + t` names, if that row is in the block, and zero otherwise. `RsV c` is the reduce-scatter buffer: slot `g` holds
segment `z` of the quarter that the column's device at `z = g` gathered. `accV c` is the quarter summed over the column, the
same on the column's four devices: segment `g` is summed by the device at `z = g`. `OutV c` is the result: quarter `q` is
`accV` of the ring's device at place `q`.
-/
module

public import proofs.«01_k».proof.Proof.Devs
public import proofs.«01_k».proof.Proof.Gen.KernelIdeal.Skeleton
public import Idealize.ShloMosaic.Lib.Pipeline.Launch
public import Idealize.ShloMosaic.Lib.Pipeline.Kit
public import Idealize.ShloMosaic.Lib.Pipeline.TalkSites
public import Idealize.ShloMosaic.Lib.Pipeline.ValueKit.Geometry
public import Idealize.ShloMosaic.Lib.Transfers
public import Idealize.ShloMosaic.Lib.Tactic

@[expose] public section

noncomputable section

namespace Cert.EmbedProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Indices and element sets -/

/-- The index of a row and a column. -/
def ix512 (a : Fin 512) (b : Fin 1024) : S512x1024.Idx := fun x => match x with | ⟨0, _⟩ => a | ⟨1, _⟩ => b
@[inherit_doc ix512] def ixE (a : Fin 16384) (b : Fin 1024) : S16384x1024.Idx := fun x => match x with | ⟨0, _⟩ => a | ⟨1, _⟩ => b
/-- The index of a slot, a row and a column. -/
def ixR (g : Fin 4) (a : Fin 128) (b : Fin 1024) : S4x128x1024.Idx := fun x => match x with | ⟨0, _⟩ => g | ⟨1, _⟩ => a | ⟨2, _⟩ => b
/-- The index of a token. -/
def ixI (a : Fin 2048) : S2048.Idx := fun x => match x with | ⟨0, _⟩ => a

/-- The rows of segment `g`, of half `h` of it, and row `t`. -/
def segA (g : Fin 4) : Finset S512x1024.Idx := Finset.univ.filter fun i => (i 0).val / 128 = g.val
@[inherit_doc segA] def halfA (g : Fin 4) (h : Fin 2) : Finset S512x1024.Idx := Finset.univ.filter fun i => (i 0).val / 64 = 2 * g.val + h.val
@[inherit_doc segA] def rowA (t : Fin 512) : Finset S512x1024.Idx := Finset.univ.filter fun i => (i 0).val = t.val
/-- The rows of segment `g` of a half-height buffer. -/
def segB (g : Fin 4) : Finset S256x1024.Idx := Finset.univ.filter fun i => (i 0).val / 64 = g.val
/-- Slot `g` of the reduce-scatter buffer. -/
def slotR (g : Fin 4) : Finset S4x128x1024.Idx := Finset.univ.filter fun i => (i 0).val = g.val

theorem set_segA (g : Fin 4) (inb) : (Rect.unit (s := S512x1024) ![128 * g.val, 0] S128x1024.size inb).set = segA g := by
  ext i
  rw [Rect.mem_set_unit, segA, Finset.mem_filter, Fin.forall_fin_two]
  have h1 := (i 1).isLt
  change (i 1).val < 1024 at h1
  show ((128 * g.val ≤ (i 0).val ∧ (i 0).val < 128 * g.val + 128) ∧ (0 ≤ (i 1).val ∧ (i 1).val < 0 + 1024)) ↔ _
  simp only [Finset.mem_univ, true_and]; omega
theorem set_halfA0 (g : Fin 4) (inb) : (Rect.unit (s := S512x1024) ![128 * g.val, 0] S64x1024.size inb).set = halfA g 0 := by
  ext i
  rw [Rect.mem_set_unit, halfA, Finset.mem_filter, Fin.forall_fin_two]
  have h1 := (i 1).isLt
  change (i 1).val < 1024 at h1
  show ((128 * g.val ≤ (i 0).val ∧ (i 0).val < 128 * g.val + 64) ∧ (0 ≤ (i 1).val ∧ (i 1).val < 0 + 1024)) ↔ _
  simp only [Finset.mem_univ, true_and, Fin.val_zero]; omega
theorem set_halfA1 (g : Fin 4) (inb) : (Rect.unit (s := S512x1024) ![128 * g.val + 64, 0] S64x1024.size inb).set = halfA g 1 := by
  ext i
  rw [Rect.mem_set_unit, halfA, Finset.mem_filter, Fin.forall_fin_two]
  have h1 := (i 1).isLt
  change (i 1).val < 1024 at h1
  show ((128 * g.val + 64 ≤ (i 0).val ∧ (i 0).val < 128 * g.val + 64 + 64) ∧ (0 ≤ (i 1).val ∧ (i 1).val < 0 + 1024)) ↔ _
  simp only [Finset.mem_univ, true_and, Fin.val_one]; omega
theorem set_rowA (t : Fin 512) (inb) : (Rect.unit (s := S512x1024) ![t.val, 0] S1x1024.size inb).set = rowA t := by
  ext i
  rw [Rect.mem_set_unit, rowA, Finset.mem_filter, Fin.forall_fin_two]
  have h1 := (i 1).isLt
  change (i 1).val < 1024 at h1
  show ((t.val ≤ (i 0).val ∧ (i 0).val < t.val + 1) ∧ (0 ≤ (i 1).val ∧ (i 1).val < 0 + 1024)) ↔ _
  simp only [Finset.mem_univ, true_and]; omega
theorem set_segB (g : Fin 4) (inb) : (Rect.unit (s := S256x1024) ![64 * g.val, 0] S64x1024.size inb).set = segB g := by
  ext i
  rw [Rect.mem_set_unit, segB, Finset.mem_filter, Fin.forall_fin_two]
  have h1 := (i 1).isLt
  change (i 1).val < 1024 at h1
  show ((64 * g.val ≤ (i 0).val ∧ (i 0).val < 64 * g.val + 64) ∧ (0 ≤ (i 1).val ∧ (i 1).val < 0 + 1024)) ↔ _
  simp only [Finset.mem_univ, true_and]; omega
theorem set_slotR (g : Fin 4) (inb) : (Rect.unit (s := S4x128x1024) ![g.val, 0, 0] S1x128x1024.size inb).set = slotR g := by
  ext i
  rw [Rect.mem_set_unit, slotR, Finset.mem_filter]
  have h1 := (i 1).isLt
  have h2 := (i 2).isLt
  change (i 1).val < 128 at h1
  change (i 2).val < 1024 at h2
  constructor
  · intro h
    have h0 := h 0
    change g.val ≤ (i 0).val ∧ (i 0).val < g.val + 1 at h0
    exact ⟨Finset.mem_univ _, by omega⟩
  · rintro ⟨-, h⟩ a
    match a with
    | ⟨0, _⟩ => show g.val ≤ (i 0).val ∧ (i 0).val < g.val + 1; omega
    | ⟨1, _⟩ => show 0 ≤ (i 1).val ∧ (i 1).val < 0 + 128; omega
    | ⟨2, _⟩ => show 0 ≤ (i 2).val ∧ (i 2).val < 0 + 1024; omega

theorem segA_disj {g h : Fin 4} (n : g ≠ h) : Disjoint (segA g) (segA h) :=
  Finset.disjoint_filter.mpr fun i _ h1 h2 => n (Fin.ext (h1.symm.trans h2))
theorem segB_disj {g h : Fin 4} (n : g ≠ h) : Disjoint (segB g) (segB h) :=
  Finset.disjoint_filter.mpr fun i _ h1 h2 => n (Fin.ext (h1.symm.trans h2))
theorem slotR_disj {g h : Fin 4} (n : g ≠ h) : Disjoint (slotR g) (slotR h) :=
  Finset.disjoint_filter.mpr fun i _ h1 h2 => n (Fin.ext (h1.symm.trans h2))
theorem halfA_disj (g : Fin 4) : Disjoint (halfA g 0) (halfA g 1) :=
  Finset.disjoint_filter.mpr fun i _ h1 h2 => by
    have := h1.symm.trans h2
    change 2 * g.val + 0 = 2 * g.val + 1 at this
    omega
theorem segA_halves (g : Fin 4) : segA g = halfA g 0 ∪ halfA g 1 := by
  ext i
  simp only [segA, halfA, Finset.mem_union, Finset.mem_filter, Finset.mem_univ, true_and, Fin.val_zero, Fin.val_one]
  omega
theorem univ_segA : (Finset.univ : Finset S512x1024.Idx) = Finset.univ.biUnion segA := by
  ext i
  simp only [Finset.mem_univ, Finset.mem_biUnion, segA, Finset.mem_filter, true_and, true_iff]
  have h := (i 0).isLt
  change (i 0).val < 512 at h
  exact ⟨⟨(i 0).val / 128, by omega⟩, rfl⟩
theorem univ_segB : (Finset.univ : Finset S256x1024.Idx) = Finset.univ.biUnion segB := by
  ext i
  simp only [Finset.mem_univ, Finset.mem_biUnion, segB, Finset.mem_filter, true_and, true_iff]
  have h := (i 0).isLt
  change (i 0).val < 256 at h
  exact ⟨⟨(i 0).val / 64, by omega⟩, rfl⟩
theorem univ_slotR : (Finset.univ : Finset S4x128x1024.Idx) = Finset.univ.biUnion slotR := by
  ext i
  simp only [Finset.mem_univ, Finset.mem_biUnion, slotR, Finset.mem_filter, true_and, true_iff]
  exact ⟨i 0, rfl⟩

/-! ## The values -/

section Values

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- Device `c`'s token numbers, as its staging buffer holds them. -/
def idsV (c : Dev nD) : S2048.Idx → BitVec 32 :=
  (win0_0.blk (0 : Fin 1)).view.read (Elt F) (m ((c : Thread nD τ).loc main_arg0))
/-- Device `c`'s block of the table. -/
def embV (c : Dev nD) : S16384x1024.Idx → F .f32 := m ((c : Thread nD τ).loc main_arg1)

/-- Whether the row that `w` names is in device `c`'s block, and which row of the block it is. -/
def Own (c : Dev nD) (w : BitVec 32) : Prop := k0_cond2 c w = 1#1
instance (c : Dev nD) (w : BitVec 32) : Decidable (Own c w) := inferInstanceAs (Decidable (_ = _))
@[inherit_doc Own] def locOf (c : Dev nD) (w : BitVec 32) : Fin 16384 := ⟨k0_off10 c w 0 % 16384, Nat.mod_lt _ (by decide)⟩

/-- The token number at row `t` of device `c`'s quarter. -/
def tokW (c : Dev nD) (t : Fin 512) : BitVec 32 := idsV m c (ixI ⟨512 * (rOf c).val + t.val, by omega⟩)

/-- Device `c`'s gathered quarter. -/
def XV (c : Dev nD) : S512x1024.Idx → F .f32 := fun i =>
  if Own c (tokW m c (i 0)) then embV m c (ixE (locOf c (tokW m c (i 0))) (i 1)) else k0_pay1 (F := F) i

/-- Device `c`'s reduce-scatter buffer. -/
def RsV (c : Dev nD) : S4x128x1024.Idx → F .f32 := fun i =>
  XV m (zAt c (i 0)) (ix512 ⟨128 * (zOf c).val + (i 1).val, by have := (i 1).isLt; change (i 1).val < 128 at this; omega⟩ (i 2))

/-- The own segment of the quarter, and a slot of the reduce-scatter buffer. -/
def xOwn (c : Dev nD) : Vec F S128x1024 .f32 := fun j =>
  XV m c (ix512 ⟨128 * (zOf c).val + (j 0).val, by have := (j 0).isLt; change (j 0).val < 128 at this; omega⟩ (j 1))
@[inherit_doc xOwn] def rsAt (c : Dev nD) (g : Fin 4) : Vec F S1x128x1024 .f32 := fun j => RsV m c (ixR g (j 1) (j 2))

/-- The segment that device `c` sums. -/
def accSeg (c : Dev nD) : FVec F S128x1024 .f32 := k0_pay2 (xOwn m c) (rsAt m c (zp c 0)) (rsAt m c (zp c 1)) (rsAt m c (zp c 2))

/-- An index within a segment. -/
def ixS (a : Fin 128) (b : Fin 1024) : S128x1024.Idx := fun x => match x with | ⟨0, _⟩ => a | ⟨1, _⟩ => b

/-- The summed quarter of `c`'s column. -/
def accV (c : Dev nD) : S512x1024.Idx → F .f32 := fun i =>
  accSeg m (zAt c ⟨(i 0).val / 128, by have := (i 0).isLt; change (i 0).val < 512 at this; omega⟩) (ixS ⟨(i 0).val % 128, Nat.mod_lt _ (by decide)⟩ (i 1))

/-- What the half-height buffers hold: one half of every segment of the opposite quarter. -/
def blV (c : Dev nD) : S256x1024.Idx → F .f32 := fun i =>
  accV m (lf (lf c)) (ix512 ⟨128 * ((i 0).val / 64) + (i 0).val % 64, by have := (i 0).isLt; change (i 0).val < 256 at this; omega⟩ (i 1))
@[inherit_doc blV] def brV (c : Dev nD) : S256x1024.Idx → F .f32 := fun i =>
  accV m (rt (rt c)) (ix512 ⟨128 * ((i 0).val / 64) + (i 0).val % 64 + 64, by have := (i 0).isLt; change (i 0).val < 256 at this; omega⟩ (i 1))

/-- The result. -/
def outV (c : Dev nD) : S2048x1024.Idx → F .f32 := fun i =>
  accV m (devAt ⟨(i 0).val / 512, by have := (i 0).isLt; change (i 0).val < 2048 at this; omega⟩ (zOf c)) (ix512 ⟨(i 0).val % 512, Nat.mod_lt _ (by decide)⟩ (i 1))

theorem accV_zAt (c : Dev nD) (g : Fin 4) : accV m (zAt c g) = accV m c := by funext i; unfold accV; rw [zAt_zAt]

end Values

/-- A word between zero and 16384, both compared as signed, is below 16384. -/
theorem range_of_cmp (v : BitVec 32)
    (h : Scalar.cmpi .ne (Scalar.extui (Scalar.andi (Scalar.cmpi .sge v (0#32)) (Scalar.cmpi .slt v (16384#32)))) (0#32) = (1#1 : BitVec 1)) :
    0 ≤ v.toInt ∧ v.toInt < 16384 := by
  by_contra hn
  have : (Scalar.andi (Scalar.cmpi .sge v (0#32)) (Scalar.cmpi .slt v (16384#32)) : BitVec 1) = 0#1 := by
    have e1 : (Scalar.cmpi .sge v (0#32) : BitVec 1) = BitVec.ofBool ((0#32).sle v) := rfl
    have e2 : (Scalar.cmpi .slt v (16384#32) : BitVec 1) = BitVec.ofBool (v.slt (16384#32)) := rfl
    rw [e1, e2]
    have h3 : ((0#32).sle v) = false ∨ (v.slt (16384#32)) = false := by
      by_contra hc
      rw [not_or, Bool.not_eq_false, Bool.not_eq_false] at hc
      exact hn ⟨by have := BitVec.sle_iff_toInt_le.mp hc.1; simpa using this, by have := BitVec.slt_iff_toInt_lt.mp hc.2; simpa using this⟩
    rcases h3 with h3 | h3 <;> rw [h3]
    · cases v.slt (16384#32) <;> rfl
    · cases (0#32).sle v <;> rfl
  rw [this] at h
  exact absurd h (by decide)

/-- An owned row is in the block. -/
theorem own_lt (c : Dev nD) (w : BitVec 32) (h : Own c w) : k0_off10 c w 0 < 16384 := by
  have h := range_of_cmp _ h
  show (Scalar.subi w (Scalar.muli (Scalar.remsi (Scalar.divsi (Dev.word c) 1#32) 4#32) 16384#32)).toNat < 16384
  generalize (Scalar.subi w (Scalar.muli (Scalar.remsi (Scalar.divsi (Dev.word c) 1#32) 4#32) 16384#32)) = v at h ⊢
  rw [BitVec.toInt_eq_toNat_cond] at h
  split at h <;> omega

end Cert.EmbedProof
-- ==== Proof.Sched.lean ====
/-
The protocol as a schedule of the rounds library: one round on every cell. The barrier and exit cells have five duties of
one unit, paid by the five neighbours; every other cell has one duty, the credit of the block that its copy moves. A
barrier signal hands over the buffers that the signalled device copies into; a landing cell hands the block with its
contents; a departure cell hands the copied block back. The exit signals hand nothing.
-/
module

public import proofs.«01_k».proof.Proof.Contents

@[expose] public section

noncomputable section

namespace Cert.EmbedProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL allPays credOf)

variable {F : FTy → Type} [FloatOps F]

/-! ## The resource algebra: the pipeline library's copy, the protocol's, the counters of the local copies -/

abbrev UB : Type := URounds (GSem nD τ sig) (Fin 5)
abbrev UU : Type := UR sig nD τ × (UB × Counters)
/-- The assertions of the proof. -/
abbrev 𝕄F (F : FTy → Type) : Type _ := MT nD τ sig ℕ (Elt F) ℕ UU ℕ
local notation "𝕄" => MT nD τ sig ℕ (Elt F) ℕ UU ℕ

def EP : Emb (UR sig nD τ) (MT nD τ sig ℕ (Elt F) ℕ UU ℕ) := embL
def ER : Emb UB (MT nD τ sig ℕ (Elt F) ℕ UU ℕ) := (Emb.inl : Emb UB (UB × Counters)).trans embR
def EC : UEmb Counters (MT nD τ sig ℕ (Elt F) ℕ UU ℕ) := countersEmb
instance EP_landsIn : (EP : Emb (UR sig nD τ) 𝕄).LandsIn (upEmb : UEmb _ 𝕄) := by unfold EP; infer_instance
instance ER_landsIn : (ER : Emb UB 𝕄).LandsIn (upEmb : UEmb _ 𝕄) := by unfold ER embR; infer_instance
instance EC_landsIn : (EC : UEmb Counters 𝕄).LandsIn (upEmb : UEmb _ 𝕄) := by unfold EC; infer_instance

/-! ## Amounts -/

/-- The credit of a segment, of half a segment, of a row. -/
def N128 : ℕ := cc0_scratch2.dmaCredit S128x1024 .f32
@[inherit_doc N128] def N64 : ℕ := cc0_scratch10.dmaCredit S64x1024 .f32
@[inherit_doc N128] def N1 : ℕ := cc0_scratch0.dmaCredit S1024 .f32
theorem N128_pos : 0 < N128 := by decide
theorem N64_pos : 0 < N64 := by decide
theorem N1_pos : 0 < N1 := by decide
theorem N128_rs : cc0_scratch3.dmaCredit S128x1024 .f32 = N128 := by decide
theorem N128_x : cc0_scratch0.dmaCredit S128x1024 .f32 = N128 := by decide
theorem N128_l : cc0_scratch8.dmaCredit S128x1024 .f32 = N128 := by decide
theorem N128_r : cc0_scratch9.dmaCredit S128x1024 .f32 = N128 := by decide
theorem N64_l0 : cc0_scratch8.dmaCredit S64x1024 .f32 = N64 := by decide
theorem N64_r0 : cc0_scratch9.dmaCredit S64x1024 .f32 = N64 := by decide
theorem N64_r1 : cc0_scratch11.dmaCredit S64x1024 .f32 = N64 := by decide

/-- What one duty of a cell pays, and what the cell's round comes to. -/
def amtK : CK → ℕ
  | .bar => 1 | .ex => 1
  | .rb i _ => if i.val < 2 then N128 else N64
  | .sb i _ => if i.val < 2 then N128 else N64
  | _ => N128
@[inherit_doc amtK] def expK : CK → ℕ
  | .bar => 5 | .ex => 5
  | k => amtK k
theorem amtK_pos (k : CK) : 0 < amtK k := by
  have := N128_pos; have := N64_pos
  unfold amtK; split <;> first | (split <;> assumption) | assumption | exact Nat.one_pos
/-- The duties of a cell's round. -/
def dutK : CK → Finset (Fin 5)
  | .bar => Finset.univ | .ex => Finset.univ
  | _ => {0}

/-! ## What the duties hand over -/

section Pay
variable (m : (ℓ : Loc nD τ sig) → Buf (Elt F) ℓ)

/-- Device `c`'s buffers, at an element set, a share and a content. -/
abbrev xAt (c : Dev nD) (S : Finset S512x1024.Idx) (q : PosShare TreeShare) (f : S512x1024.Idx → F .f32) : sProp 𝕄 :=
  ((c : Thread nD τ).loc cc0_scratch0) ↦[S]{q} f
@[inherit_doc xAt] abbrev aAt (c : Dev nD) (S : Finset S512x1024.Idx) (q : PosShare TreeShare) (f : S512x1024.Idx → F .f32) : sProp 𝕄 :=
  ((c : Thread nD τ).loc cc0_scratch2) ↦[S]{q} f
@[inherit_doc xAt] abbrev rAt (c : Dev nD) (S : Finset S4x128x1024.Idx) (q : PosShare TreeShare) (f : S4x128x1024.Idx → F .f32) : sProp 𝕄 :=
  ((c : Thread nD τ).loc cc0_scratch3) ↦[S]{q} f
@[inherit_doc xAt] abbrev l0At (c : Dev nD) (S : Finset S512x1024.Idx) (q : PosShare TreeShare) (f : S512x1024.Idx → F .f32) : sProp 𝕄 :=
  ((c : Thread nD τ).loc cc0_scratch8) ↦[S]{q} f
@[inherit_doc xAt] abbrev r0At (c : Dev nD) (S : Finset S512x1024.Idx) (q : PosShare TreeShare) (f : S512x1024.Idx → F .f32) : sProp 𝕄 :=
  ((c : Thread nD τ).loc cc0_scratch9) ↦[S]{q} f
@[inherit_doc xAt] abbrev l1At (c : Dev nD) (S : Finset S256x1024.Idx) (q : PosShare TreeShare) (f : S256x1024.Idx → F .f32) : sProp 𝕄 :=
  ((c : Thread nD τ).loc cc0_scratch10) ↦[S]{q} f
@[inherit_doc xAt] abbrev r1At (c : Dev nD) (S : Finset S256x1024.Idx) (q : PosShare TreeShare) (f : S256x1024.Idx → F .f32) : sProp 𝕄 :=
  ((c : Thread nD τ).loc cc0_scratch11) ↦[S]{q} f

/-- What device `e` hands its peer `c` of the column: the slot and the segment that `c` copies into. -/
def hndZ (e : Dev nD) (g : Fin 4) : sProp 𝕄 := iprop((∃ f, rAt e (slotR g) fullShare f) ∗ (∃ f, aAt e (segA g) fullShare f))
/-- What device `e` hands the device before it on the ring, which copies into `e`'s left buffers, segment by segment. -/
def hndL (e : Dev nD) : sProp 𝕄 :=
  iprop(((∃ f, l0At e (segA (gk e 0)) fullShare f) ∗ (∃ f, l0At e (segA (gk e 1)) fullShare f) ∗ (∃ f, l0At e (segA (gk e 2)) fullShare f) ∗ (∃ f, l0At e (segA (gk e 3)) fullShare f))
    ∗ ((∃ f, l1At e (segB (gk e 0)) fullShare f) ∗ (∃ f, l1At e (segB (gk e 1)) fullShare f) ∗ (∃ f, l1At e (segB (gk e 2)) fullShare f) ∗ (∃ f, l1At e (segB (gk e 3)) fullShare f)))
/-- What device `e` hands the device after it on the ring, which copies into `e`'s right buffers. -/
def hndR (e : Dev nD) : sProp 𝕄 :=
  iprop(((∃ f, r0At e (segA (gk e 0)) fullShare f) ∗ (∃ f, r0At e (segA (gk e 1)) fullShare f) ∗ (∃ f, r0At e (segA (gk e 2)) fullShare f) ∗ (∃ f, r0At e (segA (gk e 3)) fullShare f))
    ∗ ((∃ f, r1At e (segB (gk e 0)) fullShare f) ∗ (∃ f, r1At e (segB (gk e 1)) fullShare f) ∗ (∃ f, r1At e (segB (gk e 2)) fullShare f) ∗ (∃ f, r1At e (segB (gk e 3)) fullShare f)))

/-- The shares of an accumulator segment: lent to the copy to the right, to the copy to the left, to the `k`-th copy over
    `z`; the rest stays for reading. -/
def qR : PosShare TreeShare := fullShare.left.left
@[inherit_doc qR] def qL : PosShare TreeShare := fullShare.left.right
@[inherit_doc qR] def qZ (k : Fin 3) : PosShare TreeShare :=
  match k with | 0 => fullShare.right.left.left | 1 => fullShare.right.left.right | 2 => fullShare.right.right.left

/-- What duty `d` of device `c`'s cell of kind `k` hands over. -/
def payK (c : Dev nD) (k : CK) (d : Fin 5) : sProp 𝕄 :=
  match k with
  | .bar => match d with
    | 0 => hndZ (tgt c 0) (zOf c) | 1 => hndZ (tgt c 1) (zOf c) | 2 => hndZ (tgt c 2) (zOf c)
    | 3 => hndR (lf c) | 4 => hndL (rt c)
  | .ex => iprop(emp)
  | .rs g => rAt c (slotR g) fullShare (RsV m c)
  | .ag g => aAt c (segA g) fullShare (accV m c)
  | .rb 0 g => l0At c (segA g) fullShare (accV m (lf c))
  | .rb 1 g => r0At c (segA g) fullShare (accV m (rt c))
  | .rb 2 g => l1At c (segB g) fullShare (blV m c)
  | .rb 3 g => r1At c (segB g) fullShare (brV m c)
  | .ss k => xAt c (segA (pk c k)) fullShare (XV m c)
  | .sa k => aAt c (segA (zOf c)) (qZ k) (accV m c)
  | .sb 0 g => aAt c (segA g) qR (accV m c)
  | .sb 1 g => aAt c (segA g) qL (accV m c)
  | .sb 2 g => l0At c (halfA g 0) fullShare.left (accV m (lf c))
  | .sb 3 g => r0At c (halfA g 1) fullShare.left (accV m (rt c))

instance hndZ_storable (e : Dev nD) (g : Fin 4) : BI.Storable (upEmb : UEmb _ 𝕄) (hndZ (F := F) e g) := by unfold hndZ; infer_instance
instance hndL_storable (e : Dev nD) : BI.Storable (upEmb : UEmb _ 𝕄) (hndL (F := F) e) := by unfold hndL; infer_instance
instance hndR_storable (e : Dev nD) : BI.Storable (upEmb : UEmb _ 𝕄) (hndR (F := F) e) := by unfold hndR; infer_instance
instance payK_storable (c : Dev nD) (k : CK) (d : Fin 5) : BI.Storable (upEmb : UEmb _ 𝕄) (payK m c k d) := by
  unfold payK; (repeat' split) <;> infer_instance

/-- The schedule. -/
def sched : Rounds.Schedule (GSem nD τ sig) (Fin 5) 𝕄 where
  duties g r := if r = 0 ∧ g.1.2 = .tc then (match kindOf g.2 with | some k => dutK k | none => ∅) else ∅
  unitless _ := False
  amount g _ _ := match kindOf g.2 with | some k => amtK k | none => 1
  payload g _ d := match kindOf g.2 with | some k => payK m g.1.1 k d | none => iprop(emp)
  amount_pos g _ _ _ := by
    show 0 < (match kindOf g.2 with | some k => amtK k | none => 1)
    split
    · exact amtK_pos _
    · exact Nat.one_pos

instance sched_payload_storable (g : GSem nD τ sig) (r : ℕ) (d : Fin 5) :
    BI.Storable (upEmb : UEmb _ 𝕄) ((sched (F := F) m).payload g r d) := by
  show BI.Storable upEmb (match kindOf g.2 with | some k => payK m g.1.1 k d | none => iprop(emp))
  split <;> infer_instance

theorem duties_k (c : Dev nD) (k : CK) : (sched (F := F) m).duties (kcell (c, k)) 0 = dutK k := by
  dsimp only [sched]
  rw [if_pos ⟨rfl, rfl⟩, kindOf_csem]
theorem duties_later (g : GSem nD τ sig) : ∀ r, 1 ≤ r → (sched (F := F) m).duties g r = ∅ :=
  fun r hr => if_neg fun h => by omega
theorem amount_k (c : Dev nD) (k : CK) (d : Fin 5) : (sched (F := F) m).amount (kcell (c, k)) 0 d = amtK k := by
  show (match kindOf (csem k) with | some k => amtK k | none => 1) = _
  rw [kindOf_csem]
theorem payload_k (c : Dev nD) (k : CK) (d : Fin 5) : (sched (F := F) m).payload (kcell (c, k)) 0 d = payK m c k d := by
  show (match kindOf (csem k) with | some k => payK m c k d | none => iprop(emp)) = _
  rw [kindOf_csem]
theorem expect_k (c : Dev nD) (k : CK) : (sched (F := F) m).expect (kcell (c, k)) 0 = expK k := by
  unfold Schedule.expect Schedule.amountOf
  rw [duties_k, Finset.sum_congr rfl fun d _ => amount_k m c k d, Finset.sum_const, smul_eq_mul]
  rcases k with _ | _ | g | g | ⟨i, g⟩ | k | k | ⟨i, g⟩ <;> first | rfl | exact one_mul _
/-- Duty 0 is a duty of every cell. -/
theorem zero_mem_dutK (k : CK) : (0 : Fin 5) ∈ dutK k := by
  rcases k with _ | _ | g | g | ⟨i, g⟩ | k | k | ⟨i, g⟩ <;> first | exact Finset.mem_univ _ | exact Finset.mem_singleton_self _

/-- A whole round's payloads. -/
theorem rest_k (c : Dev nD) (k : CK) (h : dutK k = {0}) :
    bigSep ((sched (F := F) m).duties (kcell (c, k)) 0 \ ∅) (fun d => (sched (F := F) m).payload (kcell (c, k)) 0 d) = payK m c k 0 := by
  rw [Finset.sdiff_empty, duties_k, h, bigSep_singleton, payload_k]
theorem rest_5 (c : Dev nD) (k : CK) (h : dutK k = Finset.univ) :
    bigSep ((sched (F := F) m).duties (kcell (c, k)) 0 \ ∅) (fun d => (sched (F := F) m).payload (kcell (c, k)) 0 d)
      = iprop(payK m c k 0 ∗ payK m c k 1 ∗ payK m c k 2 ∗ payK m c k 3 ∗ payK m c k 4) := by
  rw [Finset.sdiff_empty, duties_k, h, bigSep_univ_eq_bigSepL [0, 1, 2, 3, 4] (by decide) (by decide)]
  simp only [bigSepL_cons_cons, bigSepL_singleton, payload_k]
  rfl

end Pay

/-! ## What a device owes; the levels -/

/-- What device `c` pays other devices' cells, in program order. -/
def duesK (c : Dev nD) : List (Dev nD × CK) :=
  [(tgt c 0, .bar), (tgt c 1, .bar), (tgt c 2, .bar), (tgt c 3, .bar), (tgt c 4, .bar),
   (pd c 0, .rs (zOf c)), (pd c 1, .rs (zOf c)), (pd c 2, .rs (zOf c)),
   (pd c 0, .ag (zOf c)), (pd c 1, .ag (zOf c)), (pd c 2, .ag (zOf c)),
   (rt c, .rb 0 (gk c 0)), (lf c, .rb 1 (gk c 0)), (rt c, .rb 0 (gk c 1)), (lf c, .rb 1 (gk c 1)),
   (rt c, .rb 0 (gk c 2)), (lf c, .rb 1 (gk c 2)), (rt c, .rb 0 (gk c 3)), (lf c, .rb 1 (gk c 3)),
   (rt c, .rb 2 (gk c 0)), (lf c, .rb 3 (gk c 0)), (rt c, .rb 2 (gk c 1)), (lf c, .rb 3 (gk c 1)),
   (rt c, .rb 2 (gk c 2)), (lf c, .rb 3 (gk c 2)), (rt c, .rb 2 (gk c 3)), (lf c, .rb 3 (gk c 3)),
   (tgt c 0, .ex), (tgt c 1, .ex), (tgt c 2, .ex), (tgt c 3, .ex), (tgt c 4, .ex)]
/-- A payment, as the machine counts it. -/
abbrev payOf (x : Dev nD × CK) : Pay nD τ sig := (kcell x, 0, amtK x.2)
/-- What device `c` still owes after `n` payments. -/
def dl (c : Dev nD) (n : ℕ) : List (Pay nD τ sig) := ((duesK c).drop n).map payOf

/-- The levels: the departure cells and the local copies' lowest, then the cells in the order in which they are waited for. -/
def lvK : CK → ℕ
  | .bar => 1 | .rs _ => 2 | .ag _ => 3
  | .rb i _ => if i.val < 2 then 4 else 5
  | .ex => 6
  | _ => 0
def L (g : GSem nD τ sig) : Finset ℕ := if g.1.2 = .tc then {0} else ∅
def lv (g : GSem nD τ sig) (_ : ℕ) : ℕ := match kindOf g.2 with | some k => lvK k | none => 0
theorem L_of_ne (g : GSem nD τ sig) (h : g.1.2 ≠ .tc) : L g = ∅ := if_neg h
theorem L_tc (c : Dev nD) (sm : SemLoc sig) : L ((c : Thread nD τ), sm) = {0} := if_pos rfl
theorem lv_k (c : Dev nD) (k : CK) (i : ℕ) : lv (kcell (c, k)) i = lvK k := by
  show (match kindOf (csem k) with | some k => lvK k | none => 0) = _
  rw [kindOf_csem]
theorem kindOf_gsem (j : Fin 16) : kindOf (.dma (gsem j)) = none := by revert j; decide

/-- The levels of the payments still owed after `n`. -/
def lvls : List ℕ := [1, 1, 1, 1, 1, 2, 2, 2, 3, 3, 3, 4, 4, 4, 4, 4, 4, 4, 4, 5, 5, 5, 5, 5, 5, 5, 5, 6, 6, 6, 6, 6]
theorem lvls_eq (c : Dev nD) : (duesK c).map (fun x => lvK x.2) = lvls := rfl

/-- A wait at level `v` while all payments owed are above it. -/
theorem mayWait_dl (c : Dev nD) (sm : SemLoc sig) (v n : ℕ) (hv : lv ((c : Thread nD τ), sm) 0 ≤ v) (h : ∀ x ∈ lvls.drop n, v < x) :
    (levAts L lv : sProp 𝕄) ⊢ MayWait (c : Thread nD τ) sm 0 (tallyL (dl c n)) := by
  have hpos : ∀ g u, 0 < tallyL (dl c n) g u → ∃ x ∈ (duesK c).drop n, g = kcell x ∧ u = 0 := fun g u hg => by
    obtain ⟨y, hy, e1, e2⟩ := TalkSites.tallyL_pos hg
    obtain ⟨x, hx, rfl⟩ := List.mem_map.mp hy
    exact ⟨x, hx, e1, e2⟩
  refine MayOwe.of_cut (L := L) (lev := lv) v (fun p hp => by rw [Finset.mem_singleton.mp hp, L_tc]; exact Finset.mem_singleton_self _)
    (fun g u hg => by
      obtain ⟨x, hx, rfl, rfl⟩ := hpos g u hg
      rw [L_tc]; exact Finset.mem_singleton_self _)
    (fun p hp => by rw [Finset.mem_singleton.mp hp]; exact hv)
    (fun g u hg => by
      obtain ⟨x, hx, rfl, rfl⟩ := hpos g u hg
      rw [lv_k]
      refine h _ ?_
      rw [← lvls_eq c, ← List.map_drop]
      exact List.mem_map_of_mem hx)

end Cert.EmbedProof
-- ==== Proof.Steps.lean ====
/-
The steps of the protocol, each once: a signal, a remote copy, a wait. Then the remote copies of the kernel, one lemma for
each kind: a segment of the gathered quarter into a peer's reduce-scatter slot, the summed segment to a peer, a segment
around the ring, half a segment one device further.
-/
module

public import proofs.«01_k».proof.Proof.Sched
public import Idealize.ShloMosaic.Lib.ViewIndex

@[expose] public section

set_option maxRecDepth 8000

noncomputable section

namespace Cert.EmbedProof

open Cert.KernelIdeal Cert.KernelIdeal.Gen
open Idealize.ShloMosaic
open Idealize.ShloMosaic.TcCoe
open Idealize.SL Idealize.SL.RA Idealize.SL.BI
open scoped Idealize.SL.BI
open Idealize.ShloMosaic.ValueKit (rect_emb_unit_val)
open Idealize.SL.BI.BIBase Idealize.SL.BI.Laws Idealize.SL.ProofMode Idealize.SL.Sem
open Idealize.ShloMosaic.Rounds
open Idealize.ShloMosaic.TalkSites (Pay tallyL allPays credOf)

variable {F : FTy → Type} [FloatOps F]

local notation "𝕄" => MT nD τ sig ℕ (Elt F) ℕ UU ℕ

abbrev 𝒱₀ : Variants := Variants.none

/-- The weakest precondition of a program of device `c`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A program that returns. -/
theorem ret_step {c : Dev nD} {α : Type} {a : α} {Q : α → sProp 𝕄} : Q a ⊢ wpc (F := F) c (.ret a) Q := by
  unfold wpc
  rw [wp_ret]
  iintro H
  imodintro
  iexact H

/-- What a copy leaves in its destination, given where it reads every element. -/
theorem write_read_eq {κ : Kind} {sp : Space} {s : Shape} {e : EltTy} (dst : View sig κ sp s e) (fd tg : dst.ty.Contents (Elt F))
    (w : s.Idx → Elt F e) (h : ∀ j, w j = dst.read (Elt F) tg j) : ∀ i ∈ dst.set, dst.write (Elt F) fd w Finset.univ i = tg i := by
  intro i hi
  obtain ⟨j, -, rfl⟩ := Finset.mem_map.mp hi
  rw [View.write_emb_of_mem fd w (Finset.mem_univ j), h j, View.read_apply, cast_cast, cast_eq]

section Steps

variable (m : (ℓ : Loc nD τ sig) → Buf (Elt F) ℓ) (K : Dev nD × CK → ℕ)

/-- The cells that are paid: a device's own landing cells of the two `z` exchanges are not. -/
def Used (ck : Dev nD × CK) : Prop := match ck.2 with | .rs g => zOf ck.1 ≠ g | .ag g => zOf ck.1 ≠ g | _ => True
instance : DecidablePred Used := fun ck => by
  obtain ⟨c, k⟩ := ck
  cases k <;> (unfold Used; infer_instance)
theorem used_of_univ {c : Dev nD} {k : CK} (h : dutK k = Finset.univ) : Used (c, k) := by
  cases k <;> first | trivial | exact absurd (show ({0} : Finset (Fin 5)) = Finset.univ from h) (by decide)

/-- What every device knows: the paid cells' invariants, that every cell has reached its round, the levels. -/
def records : sProp 𝕄 :=
  iprop((bigSep (Finset.univ.filter Used) fun ck : Dev nD × CK => cellInv ER (sched m) (K ck) (kcell ck))
    ∗ (bigSep Finset.univ fun ck : Dev nD × CK => reached ER (kcell ck) 0) ∗ levAts L lv)
instance records_persistent : BI.Persistent (records m K) := by unfold records; infer_instance

theorem inv_at (ck : Dev nD × CK) (hu : Used ck) :
    (bigSep (Finset.univ.filter Used) fun ck : Dev nD × CK => (cellInv ER (sched m) (K ck) (kcell ck) : sProp 𝕄)) ⊢ cellInv ER (sched m) (K ck) (kcell ck) :=
  bigSep_elim (Finset.mem_filter.mpr ⟨Finset.mem_univ ck, hu⟩)
omit [FloatOps F] in
theorem reached_at (ck : Dev nD × CK) :
    (bigSep Finset.univ fun ck : Dev nD × CK => (reached ER (kcell ck) 0 : sProp 𝕄)) ⊢ reached ER (kcell ck) 0 :=
  bigSep_elim (Finset.mem_univ ck)
theorem records_inv (ck : Dev nD × CK) (hu : Used ck) : records m K ⊢ cellInv ER (sched m) (K ck) (kcell ck) := by
  unfold records; iintro ⟨H, -, -⟩
  iapply (inv_at m K ck hu); iexact H
theorem records_reached (ck : Dev nD × CK) : records m K ⊢ (reached ER (kcell ck) 0 : sProp 𝕄) := by
  unfold records; iintro ⟨-, H, -⟩
  iapply (reached_at (F := F) ck); iexact H
theorem records_lev : records m K ⊢ (levAts L lv : sProp 𝕄) := by
  unfold records
  exact sep_elim_right.trans sep_elim_right
theorem records_may {c : Dev nD} (k : CK) {pos : ℕ} (hv : ∀ x ∈ lvls.drop pos, lvK k < x) :
    records m K ⊢ MayWait (c : Thread nD τ) (csem k) 0 (tallyL (dl c pos)) := by
  have hlv : lv ((c : Thread nD τ), csem k) 0 ≤ lvK k := by have h := lv_k c k 0; unfold kcell at h; exact h.le
  exact (records_lev m K).trans (mayWait_dl (F := F) c (csem k) (lvK k) pos hlv hv)

/-- What device `c` still owes after `n` payments, whatever it has waited for. -/
def Ow (c : Dev nD) (n : ℕ) : sProp 𝕄 := iprop(∃ W, owes (c : Thread nD τ) (tallyL (dl c n)) W)
/-- What a wait on a cell takes: the cell's credit and the position at its round. -/
def Wt (c : Dev nD) (k : CK) : sProp 𝕄 := iprop(cred (tallyAt (kcell (c, k)) 0 (expK k)) ∗ atPos ER (kcell (c, k)) 0 ∅ 0)
/-- A cell waited for and closed. -/
def Dn (c : Dev nD) (k : CK) : sProp 𝕄 := semVal (kcell (c, k)) 0
/-- What a remote copy takes: the tokens of both its duties, the position at the departure cell's round. -/
def Snd (c : Dev nD) (kS : CK) (c' : Dev nD) (kR : CK) : sProp 𝕄 :=
  iprop(dutyTok ER (kcell (c, kS)) 0 0 ∗ atPos ER (kcell (c, kS)) 0 ∅ 0 ∗ dutyTok ER (kcell (c', kR)) 0 0)

theorem expK_of_single {k : CK} (h : dutK k = {0}) : expK k = amtK k := by
  rcases k with _ | _ | g | g | ⟨i, g⟩ | k | k | ⟨i, g⟩ <;> first | rfl | exact absurd h (by decide)

/-- A signal of device `c` to its `j`-th neighbour's barrier or exit cell. -/
theorem sig_step {c n : Dev nD} (j : Fin 5) (hn : n = tgt c j) {k : CK} (hk : dutK k = Finset.univ) {sem : Sem sig} (hs : SemLoc.reg sem = csem k)
    {k' : ℕ} (hk' : amtK k = k') {pos : ℕ} (hj : dl c pos = payOf (tgt c j, k) :: dl c (pos + 1)) {α : Type} {Q : α → sProp 𝕄}
    {kk : PUnit → Prog (TpuEff nD τ sig (Elt F) Λ₀ .tc) α} :
    iprop(records m K ∗ dutyTok ER (kcell (tgt c j, k)) 0 (rev j) ∗ payK m (tgt c j) k (rev j) ∗ Ow c pos)
      ⊢ iprop((Ow c (pos + 1) -∗ wpc c (kk ⟨⟩) Q) -∗ wpc c (.op (.semSignal (Dev.tc n : Thread nD τ) sem k') kk) Q) := by
  subst hn
  iintro ⟨#HR, Htok, Hpay, Ho⟩ Hk
  unfold Ow
  icases Ho with ⟨%W, Ho⟩
  ihave #Hi := (records_inv m K (tgt c j, k) (used_of_univ hk)) $$ HR
  ihave #Hr := (records_reached m K (tgt c j, k)) $$ HR
  unfold kcell at *
  rw [← hs]
  have hd := duties_k m (tgt c j) k
  have ha := amount_k m (tgt c j) k (rev j)
  have hp := payload_k m (tgt c j) k (rev j)
  have hO : tallyL (dl c pos) = tallyL (dl c (pos + 1)) + tallyAt ((tgt c j : Thread nD τ), csem k) 0 k' := by
    rw [hj, ← hk']; exact add_comm _ _
  rw [← hs] at hO
  unfold kcell at hd ha hp
  rw [← hs] at hd ha hp
  iapply (Rounds.wp_signal 𝒱₀ ER (sched m) (c : Thread nD τ) none (dst := (tgt c j : Thread nD τ)) (κ := K (tgt c j, k))
      (d := rev j) (by rw [hd, hk]; exact Finset.mem_univ _) (ha.trans hk') 0 (tallyL (dl c (pos + 1)))
      hO) $$ [Ho Htok Hpay]
  · isplitr; · iexact Hi
    isplitl [Ho]; · iexact Ho
    isplitl [Htok]; · iexact Htok
    isplitl [Hpay]; · rw [hp]; iexact Hpay
    iexact Hr
  iintro Ho
  iapply Hk
  iexists W; iexact Ho

/-- A remote copy of device `c` to device `c'`. -/
theorem send_step {c c' n : Dev nD} (hn : n = c') {kS kR : CK} (huS : Used (c, kS)) (huR : Used (c', kR)) (hdS : dutK kS = {0}) {sS sR : SemLoc sig} (hS : sS = csem kS) (hR : sR = csem kR)
    {sp sp' : Space} {s : Shape} {src : Memref sig .tc sp s .f32} {dst : Memref sig (Dev.tc n : Thread nD τ).2.kind sp' s .f32}
    {hsc : dst.view.ref.isScScratch = false} {hsrc : src.view.WordExact} {hdst : dst.view.WordExact}
    {hsem : DmaTarget.Typed sp sR (.remote (Dev.tc n : Thread nD τ) dst sS hsc)}
    (N : ℕ) (hN : dst.view.amount sR = N) (h1 : amtK kS = N) (h2 : amtK kR = N) {pos : ℕ} (hj : dl c pos = payOf (c', kR) :: dl c (pos + 1))
    {q : PosShare TreeShare} {fs : Buf (Elt F) (src.view.loc (c : Thread nD τ))} {fd : Buf (Elt F) (dst.view.loc (n : Thread nD τ))}
    (hp1 : (src.view.loc (c : Thread nD τ) ↦[src.view.set]{q} fs) ⊢ payK m c kS 0)
    (tg : Buf (Elt F) (dst.view.loc (n : Thread nD τ))) (hval : ∀ j, src.view.read (Elt F) fs j = dst.view.read (Elt F) tg j)
    (hp2 : (dst.view.loc (n : Thread nD τ) ↦[dst.view.set]{fullShare} tg) ⊢ payK m c' kR 0)
    {α : Type} {Q : α → sProp 𝕄} {kk : PUnit → Prog (TpuEff nD τ sig (Elt F) Λ₀ .tc) α} :
    iprop(records m K ∗ Snd c kS c' kR ∗ (src.view.loc (c : Thread nD τ) ↦[src.view.set]{q} fs)
        ∗ (dst.view.loc (n : Thread nD τ) ↦[dst.view.set]{fullShare} fd) ∗ Ow c pos)
      ⊢ iprop(((Wt c kS ∗ Ow c (pos + 1)) -∗ wpc c (kk ⟨⟩) Q)
          -∗ wpc c (.op (.enqueueDma src (.remote (Dev.tc n : Thread nD τ) dst sS hsc) sR hsrc hdst hsem) kk) Q) := by
  subst hn hS hR
  iintro ⟨#HR, Hs, Hsrc, Hdst, Ho⟩ Hk
  unfold Ow Snd
  icases Ho with ⟨%W, Ho⟩
  icases Hs with ⟨HtS, HaS, HtR⟩
  have hO : tallyL (dl c pos) = tallyL (dl c (pos + 1)) + tallyAt ((n : Thread nD τ), csem kR) 0 N := by
    rw [hj, ← h2]; exact add_comm _ _
  ihave #HiS := (records_inv m K (c, kS) huS) $$ HR
  ihave #HrS := (records_reached m K (c, kS)) $$ HR
  ihave #HiR := (records_inv m K (n, kR) huR) $$ HR
  ihave #HrR := (records_reached m K (n, kR)) $$ HR
  iapply (Rounds.wp_send_pointsTo 𝒱₀ ER (sched m) (c : Thread nD τ) none (κ₁ := K (c, kS)) (κ₂ := K (n, kR))
    (r₁ := 0) (r₂ := 0) (d₁ := 0) (d₂ := 0) (fd := fd)
    (by rw [duties_k m c kS]; exact zero_mem_dutK _) (by rw [duties_k m n kR]; exact zero_mem_dutK _)
    0 0 N hN ((amount_k m c kS 0).trans h1) ((amount_k m n kR 0).trans h2) (tallyL (dl c (pos + 1)))
    hO (W := W)
    (by rw [payload_k m c kS 0]; exact hp1)
    (by rw [payload_k m n kR 0]; exact (Entails.of_eq (pointsTo_congr (write_read_eq dst.view fd tg _ hval))).trans hp2)) $$ [HtS HtR Hsrc Hdst Ho]
  · isplitr; · iexact HiS
    isplitr; · iexact HiR
    isplitl [Hsrc]; · iexact Hsrc
    isplitl [Hdst]; · iexact Hdst
    isplitl [Ho]; · iexact Ho
    isplitl [HtS]; · iexact HtS
    isplitr; · iexact HrS
    isplitl [HtR]; · iexact HtR
    iexact HrR
  iintro ⟨Hc, Ho⟩
  iapply Hk
  isplitl [Hc HaS]
  · unfold Wt
    rw [expK_of_single hdS, h1]
    isplitl [Hc] <;> iassumption
  · iexists W; iexact Ho

/-- A wait of device `c` for the whole round of its cell of kind `k`: the payloads, and the cell closed. -/
theorem wait_gen {c : Dev nD} (k : CK) (hu : Used (c, k)) {w : TpuEff nD τ sig (Elt F) Λ₀ .tc PUnit} {sm : SemLoc sig} (hs : sm = csem k) {k' : ℕ}
    (hw : ∀ Kt : PUnit → sProp 𝕄, wpE (defs₀ (F := F)) 𝒱₀ (c : Thread nD τ) none Set.univ w Kt = waitSpec (c : Thread nD τ) Set.univ sm k' Kt)
    (hk : k' = expK k) {pos : ℕ} (hv : ∀ x ∈ lvls.drop pos, lvK k < x)
    {α : Type} {Q : α → sProp 𝕄} {kk : PUnit → Prog (TpuEff nD τ sig (Elt F) Λ₀ .tc) α} :
    iprop(records m K ∗ Wt c k ∗ Ow c pos)
      ⊢ iprop(((bigSep ((sched (F := F) m).duties (kcell (c, k)) 0 \ ∅) (fun d => (sched (F := F) m).payload (kcell (c, k)) 0 d) ∗ Dn c k ∗ Ow c pos) -∗ wpc c (kk ⟨⟩) Q)
          -∗ wpc c (.op w kk) Q) := by
  subst hs
  iintro ⟨#HR, Hw, Ho⟩ Hk
  unfold Ow Wt
  rw [← hk]
  icases Ho with ⟨%W, Ho⟩
  icases Hw with ⟨Hc, Ha⟩
  ihave #Hi := (records_inv m K (c, k) hu) $$ HR
  iapply (Rounds.wp_wait_rest_token 𝒱₀ ER (sched m) (c : Thread nD τ) none (κ := K (c, k)) hw (Set.mem_univ _) 0
      (O := tallyL (dl c pos)) (W := W) (R := 0) (m := 0) (T := ∅) (by rw [Nat.zero_add, expect_k m c k, hk])) $$ [Hc Ha Ho]
  · isplitr; · iexact Hi
    isplitl [Hc]; · iexact Hc
    isplitl [Ho]; · iexact Ho
    isplitr; · iapply (records_may m K k hv); iexact HR
    iexact Ha
  iintro ⟨Ho, Ha, -, Hp⟩
  imod (Rounds.cell_close ER (sched m) (Set.mem_univ (K (c, k))) (fun h => h) (R := 0 + 1) (duties_later m (kcell (c, k)))) $$ [Ha] with Hz
  · isplitr; · iexact Hi
    iexact Ha
  iapply Hk
  isplitl [Hp]; · iexact Hp
  isplitl [Hz]; · unfold Dn; iexact Hz
  iexists _; iexact Ho

/-- A wait for a copy. -/
theorem wait_step {c : Dev nD} (k : CK) (hu : Used (c, k)) (hd : dutK k = {0}) {sem : DmaSem sig} (hs : SemLoc.dma sem = csem k)
    {sp sp' : Space} {s s' : Shape} {e : EltTy} {src : Memref sig .tc sp' s' e} {dst : Memref sig .tc sp s e}
    {hsrc : src.view.WordExact} {hdst : dst.view.WordExact}
    (hk : dst.view.dmaCredit = expK k) {pos : ℕ} (hv : ∀ x ∈ lvls.drop pos, lvK k < x)
    {α : Type} {Q : α → sProp 𝕄} {kk : PUnit → Prog (TpuEff nD τ sig (Elt F) Λ₀ .tc) α} :
    iprop(records m K ∗ Wt c k ∗ Ow c pos)
      ⊢ iprop(((payK m c k 0 ∗ Dn c k ∗ Ow c pos) -∗ wpc c (kk ⟨⟩) Q) -∗ wpc c (.op (.waitDma2 sem src dst hsrc hdst) kk) Q) := by
  have h := wait_gen m K (c := c) k hu (w := .waitDma2 sem src dst hsrc hdst) hs (wpE_waitDma2_eq 𝒱₀ (c : Thread nD τ) none Set.univ) hk hv (Q := Q) (kk := kk)
  rw [rest_k m c k hd] at h
  exact h

/-- A wait on the barrier or the exit semaphore. -/
theorem wait5_step {c : Dev nD} (k : CK) (hd : dutK k = Finset.univ) {sem : Sem sig} (hs : SemLoc.reg sem = csem k) {k' : ℕ}
    (hk : k' = expK k) {pos : ℕ} (hv : ∀ x ∈ lvls.drop pos, lvK k < x)
    {α : Type} {Q : α → sProp 𝕄} {kk : PUnit → Prog (TpuEff nD τ sig (Elt F) Λ₀ .tc) α} :
    iprop(records m K ∗ Wt c k ∗ Ow c pos)
      ⊢ iprop((((payK m c k 0 ∗ payK m c k 1 ∗ payK m c k 2 ∗ payK m c k 3 ∗ payK m c k 4) ∗ Dn c k ∗ Ow c pos) -∗ wpc c (kk ⟨⟩) Q)
          -∗ wpc c (.op (.semWait sem k') kk) Q) := by
  have h := wait_gen m K (c := c) k (used_of_univ hd) (w := .semWait sem k') hs (wpE_semWait_eq 𝒱₀ (c : Thread nD τ) none Set.univ) hk hv (Q := Q) (kk := kk)
  rw [rest_5 m c k hd] at h
  exact h

end Steps

/-! ## The views of the copies -/

theorem idx2_ext {d : Fin 2 → Nat} {x y : (⟨2, d⟩ : Shape).Idx} (h0 : (x 0).val = (y 0).val) (h1 : (x 1).val = (y 1).val) : x = y :=
  funext fun a => match a with | ⟨0, _⟩ => Fin.ext h0 | ⟨1, _⟩ => Fin.ext h1

section Copies

theorem used_pd (c : Dev nD) (k : Fin 3) : zOf (pd c k) ≠ zOf c := by rw [zOf_pd]; exact pk_ne c k

theorem N128_a : cc0_scratch2.dmaCredit S128x1024 .f32 = N128 := by decide
theorem N64_l1 : cc0_scratch10.dmaCredit S64x1024 .f32 = N64 := rfl

variable (m : (ℓ : Loc nD τ sig) → Buf (Elt F) ℓ) (K : Dev nD × CK → ℕ)

theorem val_rs (c : Dev nD) (k : Fin 3) (inb₁ inb₂) (j : S128x1024.Idx) :
    ((Memref.whole cc0_scratch0).slice (Rect.unit (s := S512x1024) ![128 * (pk c k).val, 0] S128x1024.size inb₁) (fun _ => rfl) : Memref sig .tc .vmem S128x1024 .f32).view.read (Elt F) (XV m c) j
      = (((Memref.whole cc0_scratch3).slice (Rect.unit (s := S4x128x1024) ![(zOf c).val, 0, 0] S1x128x1024.size inb₂) (fun _ => rfl)).squeeze S128x1024 squeezes_S1x128x1024_S128x1024 : Memref sig .tc .vmem S128x1024 .f32).view.read (Elt F) (RsV m (pd c k)) j := by
  show XV m c ((Rect.unit (s := S512x1024) ![128 * (pk c k).val, 0] S128x1024.size inb₁).emb j)
    = RsV m (pd c k) ((Rect.unit (s := S4x128x1024) ![(zOf c).val, 0, 0] S1x128x1024.size inb₂).emb (Shape.reshapeEquiv (s := S1x128x1024) (s' := S128x1024) _ j))
  rw [Shape.reshapeEquiv_cons_one]
  unfold RsV
  have e0 : ((Rect.unit (s := S4x128x1024) ![(zOf c).val, 0, 0] S1x128x1024.size inb₂).emb (Fin.cons ⟨0, Nat.one_pos⟩ j : S1x128x1024.Idx)) 0 = zOf c :=
    Fin.ext (by rw [rect_emb_unit_val]; rfl)
  rw [e0, show zAt (pd c k) (zOf c) = c from (zAt_zAt _ _ _).trans (zAt_self c)]
  refine congrArg (XV m c) (idx2_ext ?_ ?_)
  · rw [rect_emb_unit_val]
    show 128 * (pk c k).val + (j 0).val = 128 * (zOf (pd c k)).val + _
    rw [zOf_pd, rect_emb_unit_val]
    show _ = 128 * (pk c k).val + (0 + (j 0).val)
    rw [Nat.zero_add]
  · rw [rect_emb_unit_val]
    show 0 + (j 1).val = _
    refine Eq.trans ?_ (rect_emb_unit_val _ _ _ _ _).symm
    rfl

/-- The `k`-th reduce-scatter copy: segment `pk c k` of the gathered quarter into the peer's slot `z`. -/
theorem send_rs {c n : Dev nD} (k : Fin 3) (hn : n = pd c k) {o₁ : Fin 2 → ℕ} {o₂ : Fin 3 → ℕ} (h₁ : o₁ = ![128 * (pk c k).val, 0])
    (h₂ : o₂ = ![(zOf c).val, 0, 0]) {inb₁ inb₂} {sS sR : SemLoc sig} (hS : sS = csem (.ss k)) (hR : sR = csem (.rs (zOf c)))
    {hsc hsrc hdst hsem} {pos : ℕ} (hj : dl c pos = payOf (pd c k, .rs (zOf c)) :: dl c (pos + 1))
    {α : Type} {Q : α → sProp 𝕄} {kk : PUnit → Prog (TpuEff nD τ sig (Elt F) Λ₀ .tc) α} :
    iprop(records m K ∗ Snd c (.ss k) (pd c k) (.rs (zOf c)) ∗ xAt c (segA (pk c k)) fullShare (XV m c)
        ∗ (∃ f, rAt (pd c k) (slotR (zOf c)) fullShare f) ∗ Ow c pos)
      ⊢ iprop(((Wt c (.ss k) ∗ Ow c (pos + 1)) -∗ wpc c (kk ⟨⟩) Q)
          -∗ wpc c (.op (.enqueueDma ((Memref.whole cc0_scratch0).slice (Rect.unit (s := S512x1024) o₁ S128x1024.size inb₁) (fun _ => rfl) : Memref sig .tc .vmem S128x1024 .f32)
              (.remote (Dev.tc n : Thread nD τ) (((Memref.whole cc0_scratch3).slice (Rect.unit (s := S4x128x1024) o₂ S1x128x1024.size inb₂) (fun _ => rfl)).squeeze S128x1024 squeezes_S1x128x1024_S128x1024) sS hsc) sR hsrc hdst hsem) kk) Q) := by
  subst h₁ h₂ hn
  iintro ⟨#HR, Hs, Hx, ⟨%fd, Hd⟩, Ho⟩ Hk
  have e1 : ((Memref.whole cc0_scratch0).slice (Rect.unit (s := S512x1024) ![128 * (pk c k).val, 0] S128x1024.size inb₁) (fun _ => rfl) : Memref sig .tc .vmem S128x1024 .f32).view.set = segA (pk c k) := by
    exact (View.set_slice_whole _ _).trans (set_segA (pk c k) inb₁)
  have e2 : (((Memref.whole cc0_scratch3).slice (Rect.unit (s := S4x128x1024) ![(zOf c).val, 0, 0] S1x128x1024.size inb₂) (fun _ => rfl)).squeeze S128x1024 squeezes_S1x128x1024_S128x1024 : Memref sig .tc .vmem S128x1024 .f32).view.set = slotR (zOf c) := by
    exact (View.set_reshape _ _).trans ((View.set_slice_whole _ _).trans (set_slotR (zOf c) inb₂))
  iapply (send_step m K rfl (kS := .ss k) (kR := .rs (zOf c)) trivial (used_pd c k) rfl hS hR N128 (by subst hR; exact N128_rs) rfl rfl hj (q := fullShare) (fs := XV m c) (fd := fd)
    (by rw [e1]; exact BI.Entails.refl _)
    (RsV m (pd c k)) (val_rs m c k inb₁ inb₂) (by rw [e2]; exact BI.Entails.refl _)) $$ [Hs Hx Hd Ho]
  · isplitr; · iexact HR
    isplitl [Hs]; · iexact Hs
    isplitl [Hx]; · rw [e1]; iexact Hx
    isplitl [Hd]; · rw [e2]; iexact Hd
    iexact Ho
  iexact Hk

theorem val_ag (c : Dev nD) (k : Fin 3) (inb₁ inb₂) (j : S128x1024.Idx) :
    ((Memref.whole cc0_scratch2).slice (Rect.unit (s := S512x1024) ![128 * (zOf c).val, 0] S128x1024.size inb₁) (fun _ => rfl) : Memref sig .tc .vmem S128x1024 .f32).view.read (Elt F) (accV m c) j
      = ((Memref.whole cc0_scratch2).slice (Rect.unit (s := S512x1024) ![128 * (zOf c).val, 0] S128x1024.size inb₂) (fun _ => rfl) : Memref sig .tc .vmem S128x1024 .f32).view.read (Elt F) (accV m (pd c k)) j := by
  show accV m c ((Rect.unit (s := S512x1024) ![128 * (zOf c).val, 0] S128x1024.size inb₁).emb j) = accV m (pd c k) ((Rect.unit (s := S512x1024) ![128 * (zOf c).val, 0] S128x1024.size inb₂).emb j)
  rw [pd, accV_zAt]

/-- The `k`-th all-gather copy: the summed segment to the peer. -/
theorem send_ag {c n : Dev nD} (k : Fin 3) (hn : n = pd c k) {o₁ o₂ : Fin 2 → ℕ} (h₁ : o₁ = ![128 * (zOf c).val, 0])
    (h₂ : o₂ = ![128 * (zOf c).val, 0]) {inb₁ inb₂} {sS sR : SemLoc sig} (hS : sS = csem (.sa k)) (hR : sR = csem (.ag (zOf c)))
    {hsc hsrc hdst hsem} {pos : ℕ} (hj : dl c pos = payOf (pd c k, .ag (zOf c)) :: dl c (pos + 1))
    {α : Type} {Q : α → sProp 𝕄} {kk : PUnit → Prog (TpuEff nD τ sig (Elt F) Λ₀ .tc) α} :
    iprop(records m K ∗ Snd c (.sa k) (pd c k) (.ag (zOf c)) ∗ aAt c (segA (zOf c)) (qZ k) (accV m c)
        ∗ (∃ f, aAt (pd c k) (segA (zOf c)) fullShare f) ∗ Ow c pos)
      ⊢ iprop(((Wt c (.sa k) ∗ Ow c (pos + 1)) -∗ wpc c (kk ⟨⟩) Q)
          -∗ wpc c (.op (.enqueueDma ((Memref.whole cc0_scratch2).slice (Rect.unit (s := S512x1024) o₁ S128x1024.size inb₁) (fun _ => rfl) : Memref sig .tc .vmem S128x1024 .f32)
              (.remote (Dev.tc n : Thread nD τ) ((Memref.whole cc0_scratch2).slice (Rect.unit (s := S512x1024) o₂ S128x1024.size inb₂) (fun _ => rfl) : Memref sig .tc .vmem S128x1024 .f32) sS hsc) sR hsrc hdst hsem) kk) Q) := by
  subst h₁ h₂ hn
  iintro ⟨#HR, Hs, Hx, ⟨%fd, Hd⟩, Ho⟩ Hk
  have e1 : ((Memref.whole cc0_scratch2).slice (Rect.unit (s := S512x1024) ![128 * (zOf c).val, 0] S128x1024.size inb₁) (fun _ => rfl) : Memref sig .tc .vmem S128x1024 .f32).view.set = segA (zOf c) :=
    (View.set_slice_whole _ _).trans (set_segA (zOf c) inb₁)
  have e2 : ((Memref.whole cc0_scratch2).slice (Rect.unit (s := S512x1024) ![128 * (zOf c).val, 0] S128x1024.size inb₂) (fun _ => rfl) : Memref sig .tc .vmem S128x1024 .f32).view.set = segA (zOf c) :=
    (View.set_slice_whole _ _).trans (set_segA (zOf c) inb₂)
  iapply (send_step m K rfl (kS := .sa k) (kR := .ag (zOf c)) trivial (used_pd c k) rfl hS hR N128 (by subst hR; exact N128_a) rfl rfl hj (q := (qZ k)) (fs := accV m c) (fd := fd)
    (by rw [e1]; exact BI.Entails.refl _)
    (accV m (pd c k)) (val_ag m c k inb₁ inb₂) (by rw [e2]; exact BI.Entails.refl _)) $$ [Hs Hx Hd Ho]
  · isplitr; · iexact HR
    isplitl [Hs]; · iexact Hs
    isplitl [Hx]; · rw [e1]; iexact Hx
    isplitl [Hd]; · rw [e2]; iexact Hd
    iexact Ho
  iexact Hk

theorem val_b0 (c : Dev nD) (g : Fin 4) (inb₁ inb₂) (j : S128x1024.Idx) :
    ((Memref.whole cc0_scratch2).slice (Rect.unit (s := S512x1024) ![128 * g.val, 0] S128x1024.size inb₁) (fun _ => rfl) : Memref sig .tc .vmem S128x1024 .f32).view.read (Elt F) (accV m c) j
      = ((Memref.whole cc0_scratch8).slice (Rect.unit (s := S512x1024) ![128 * g.val, 0] S128x1024.size inb₂) (fun _ => rfl) : Memref sig .tc .vmem S128x1024 .f32).view.read (Elt F) (accV m (lf (rt c))) j := by
  show accV m c ((Rect.unit (s := S512x1024) ![128 * g.val, 0] S128x1024.size inb₁).emb j) = accV m (lf (rt c)) ((Rect.unit (s := S512x1024) ![128 * g.val, 0] S128x1024.size inb₂).emb j)
  rw [lf_rt]

/-- A segment of the summed quarter to the device on the right. -/
theorem send_b0 {c n : Dev nD} (g : Fin 4) (hn : n = rt c) {o₁ o₂ : Fin 2 → ℕ} (h₁ : o₁ = ![128 * g.val, 0])
    (h₂ : o₂ = ![128 * g.val, 0]) {inb₁ inb₂} {sS sR : SemLoc sig} (hS : sS = csem (.sb 0 g)) (hR : sR = csem (.rb 0 g))
    {hsc hsrc hdst hsem} {pos : ℕ} (hj : dl c pos = payOf (rt c, .rb 0 g) :: dl c (pos + 1))
    {α : Type} {Q : α → sProp 𝕄} {kk : PUnit → Prog (TpuEff nD τ sig (Elt F) Λ₀ .tc) α} :
    iprop(records m K ∗ Snd c (.sb 0 g) (rt c) (.rb 0 g) ∗ aAt c (segA g) qR (accV m c)
        ∗ (∃ f, l0At (rt c) (segA g) fullShare f) ∗ Ow c pos)
      ⊢ iprop(((Wt c (.sb 0 g) ∗ Ow c (pos + 1)) -∗ wpc c (kk ⟨⟩) Q)
          -∗ wpc c (.op (.enqueueDma ((Memref.whole cc0_scratch2).slice (Rect.unit (s := S512x1024) o₁ S128x1024.size inb₁) (fun _ => rfl) : Memref sig .tc .vmem S128x1024 .f32)
              (.remote (Dev.tc n : Thread nD τ) ((Memref.whole cc0_scratch8).slice (Rect.unit (s := S512x1024) o₂ S128x1024.size inb₂) (fun _ => rfl) : Memref sig .tc .vmem S128x1024 .f32) sS hsc) sR hsrc hdst hsem) kk) Q) := by
  subst h₁ h₂ hn
  iintro ⟨#HR, Hs, Hx, ⟨%fd, Hd⟩, Ho⟩ Hk
  have e1 : ((Memref.whole cc0_scratch2).slice (Rect.unit (s := S512x1024) ![128 * g.val, 0] S128x1024.size inb₁) (fun _ => rfl) : Memref sig .tc .vmem S128x1024 .f32).view.set = segA g :=
    (View.set_slice_whole _ _).trans (set_segA g inb₁)
  have e2 : ((Memref.whole cc0_scratch8).slice (Rect.unit (s := S512x1024) ![128 * g.val, 0] S128x1024.size inb₂) (fun _ => rfl) : Memref sig .tc .vmem S128x1024 .f32).view.set = segA g :=
    (View.set_slice_whole _ _).trans (set_segA g inb₂)
  iapply (send_step m K rfl (kS := .sb 0 g) (kR := .rb 0 g) trivial trivial rfl hS hR N128 (by subst hR; exact N128_l) rfl rfl hj (q := qR) (fs := accV m c) (fd := fd)
    (by rw [e1]; exact BI.Entails.refl _)
    (accV m (lf (rt c))) (val_b0 m c g inb₁ inb₂) (by rw [e2]; exact BI.Entails.refl _)) $$ [Hs Hx Hd Ho]
  · isplitr; · iexact HR
    isplitl [Hs]; · iexact Hs
    isplitl [Hx]; · rw [e1]; iexact Hx
    isplitl [Hd]; · rw [e2]; iexact Hd
    iexact Ho
  iexact Hk

theorem val_b1 (c : Dev nD) (g : Fin 4) (inb₁ inb₂) (j : S128x1024.Idx) :
    ((Memref.whole cc0_scratch2).slice (Rect.unit (s := S512x1024) ![128 * g.val, 0] S128x1024.size inb₁) (fun _ => rfl) : Memref sig .tc .vmem S128x1024 .f32).view.read (Elt F) (accV m c) j
      = ((Memref.whole cc0_scratch9).slice (Rect.unit (s := S512x1024) ![128 * g.val, 0] S128x1024.size inb₂) (fun _ => rfl) : Memref sig .tc .vmem S128x1024 .f32).view.read (Elt F) (accV m (rt (lf c))) j := by
  show accV m c ((Rect.unit (s := S512x1024) ![128 * g.val, 0] S128x1024.size inb₁).emb j) = accV m (rt (lf c)) ((Rect.unit (s := S512x1024) ![128 * g.val, 0] S128x1024.size inb₂).emb j)
  rw [rt_lf]

/-- A segment of the summed quarter to the device on the left. -/
theorem send_b1 {c n : Dev nD} (g : Fin 4) (hn : n = lf c) {o₁ o₂ : Fin 2 → ℕ} (h₁ : o₁ = ![128 * g.val, 0])
    (h₂ : o₂ = ![128 * g.val, 0]) {inb₁ inb₂} {sS sR : SemLoc sig} (hS : sS = csem (.sb 1 g)) (hR : sR = csem (.rb 1 g))
    {hsc hsrc hdst hsem} {pos : ℕ} (hj : dl c pos = payOf (lf c, .rb 1 g) :: dl c (pos + 1))
    {α : Type} {Q : α → sProp 𝕄} {kk : PUnit → Prog (TpuEff nD τ sig (Elt F) Λ₀ .tc) α} :
    iprop(records m K ∗ Snd c (.sb 1 g) (lf c) (.rb 1 g) ∗ aAt c (segA g) qL (accV m c)
        ∗ (∃ f, r0At (lf c) (segA g) fullShare f) ∗ Ow c pos)
      ⊢ iprop(((Wt c (.sb 1 g) ∗ Ow c (pos + 1)) -∗ wpc c (kk ⟨⟩) Q)
          -∗ wpc c (.op (.enqueueDma ((Memref.whole cc0_scratch2).slice (Rect.unit (s := S512x1024) o₁ S128x1024.size inb₁) (fun _ => rfl) : Memref sig .tc .vmem S128x1024 .f32)
              (.remote (Dev.tc n : Thread nD τ) ((Memref.whole cc0_scratch9).slice (Rect.unit (s := S512x1024) o₂ S128x1024.size inb₂) (fun _ => rfl) : Memref sig .tc .vmem S128x1024 .f32) sS hsc) sR hsrc hdst hsem) kk) Q) := by
  subst h₁ h₂ hn
  iintro ⟨#HR, Hs, Hx, ⟨%fd, Hd⟩, Ho⟩ Hk
  have e1 : ((Memref.whole cc0_scratch2).slice (Rect.unit (s := S512x1024) ![128 * g.val, 0] S128x1024.size inb₁) (fun _ => rfl) : Memref sig .tc .vmem S128x1024 .f32).view.set = segA g :=
    (View.set_slice_whole _ _).trans (set_segA g inb₁)
  have e2 : ((Memref.whole cc0_scratch9).slice (Rect.unit (s := S512x1024) ![128 * g.val, 0] S128x1024.size inb₂) (fun _ => rfl) : Memref sig .tc .vmem S128x1024 .f32).view.set = segA g :=
    (View.set_slice_whole _ _).trans (set_segA g inb₂)
  iapply (send_step m K rfl (kS := .sb 1 g) (kR := .rb 1 g) trivial trivial rfl hS hR N128 (by subst hR; exact N128_r) rfl rfl hj (q := qL) (fs := accV m c) (fd := fd)
    (by rw [e1]; exact BI.Entails.refl _)
    (accV m (rt (lf c))) (val_b1 m c g inb₁ inb₂) (by rw [e2]; exact BI.Entails.refl _)) $$ [Hs Hx Hd Ho]
  · isplitr; · iexact HR
    isplitl [Hs]; · iexact Hs
    isplitl [Hx]; · rw [e1]; iexact Hx
    isplitl [Hd]; · rw [e2]; iexact Hd
    iexact Ho
  iexact Hk

theorem val_b2 (c : Dev nD) (g : Fin 4) (inb₁ inb₂) (j : S64x1024.Idx) :
    ((Memref.whole cc0_scratch8).slice (Rect.unit (s := S512x1024) ![128 * g.val, 0] S64x1024.size inb₁) (fun _ => rfl) : Memref sig .tc .vmem S64x1024 .f32).view.read (Elt F) (accV m (lf c)) j
      = ((Memref.whole cc0_scratch10).slice (Rect.unit (s := S256x1024) ![64 * g.val, 0] S64x1024.size inb₂) (fun _ => rfl) : Memref sig .tc .vmem S64x1024 .f32).view.read (Elt F) (blV m (rt c)) j := by
  show accV m (lf c) ((Rect.unit (s := S512x1024) ![128 * g.val, 0] S64x1024.size inb₁).emb j) = blV m (rt c) ((Rect.unit (s := S256x1024) ![64 * g.val, 0] S64x1024.size inb₂).emb j)
  unfold blV
  rw [lf_rt]
  have e0 : ((Rect.unit (s := S256x1024) ![64 * g.val, 0] S64x1024.size inb₂).emb j 0).val = 64 * g.val + (j 0).val := rect_emb_unit_val _ _ _ _ _
  have e1 : ((Rect.unit (s := S256x1024) ![64 * g.val, 0] S64x1024.size inb₂).emb j 1).val = 0 + (j 1).val := rect_emb_unit_val _ _ _ _ _
  have hj := (j 0).isLt
  change (j 0).val < 64 at hj
  refine congrArg (accV m _) (idx2_ext ?_ ?_)
  · rw [rect_emb_unit_val]
    show 128 * g.val + (j 0).val = 128 * (_ / 64) + _ % 64
    rw [e0]; omega
  · rw [rect_emb_unit_val]
    show 0 + (j 1).val = _
    exact e1.symm

/-- The upper half of a segment that came from the left, on to the right. -/
theorem send_b2 {c n : Dev nD} (g : Fin 4) (hn : n = rt c) {o₁ o₂ : Fin 2 → ℕ} (h₁ : o₁ = ![128 * g.val, 0])
    (h₂ : o₂ = ![64 * g.val, 0]) {inb₁ inb₂} {sS sR : SemLoc sig} (hS : sS = csem (.sb 2 g)) (hR : sR = csem (.rb 2 g))
    {hsc hsrc hdst hsem} {pos : ℕ} (hj : dl c pos = payOf (rt c, .rb 2 g) :: dl c (pos + 1))
    {α : Type} {Q : α → sProp 𝕄} {kk : PUnit → Prog (TpuEff nD τ sig (Elt F) Λ₀ .tc) α} :
    iprop(records m K ∗ Snd c (.sb 2 g) (rt c) (.rb 2 g) ∗ l0At c (halfA g 0) fullShare.left (accV m (lf c))
        ∗ (∃ f, l1At (rt c) (segB g) fullShare f) ∗ Ow c pos)
      ⊢ iprop(((Wt c (.sb 2 g) ∗ Ow c (pos + 1)) -∗ wpc c (kk ⟨⟩) Q)
          -∗ wpc c (.op (.enqueueDma ((Memref.whole cc0_scratch8).slice (Rect.unit (s := S512x1024) o₁ S64x1024.size inb₁) (fun _ => rfl) : Memref sig .tc .vmem S64x1024 .f32)
              (.remote (Dev.tc n : Thread nD τ) ((Memref.whole cc0_scratch10).slice (Rect.unit (s := S256x1024) o₂ S64x1024.size inb₂) (fun _ => rfl) : Memref sig .tc .vmem S64x1024 .f32) sS hsc) sR hsrc hdst hsem) kk) Q) := by
  subst h₁ h₂ hn
  iintro ⟨#HR, Hs, Hx, ⟨%fd, Hd⟩, Ho⟩ Hk
  have e1 : ((Memref.whole cc0_scratch8).slice (Rect.unit (s := S512x1024) ![128 * g.val, 0] S64x1024.size inb₁) (fun _ => rfl) : Memref sig .tc .vmem S64x1024 .f32).view.set = halfA g 0 :=
    (View.set_slice_whole _ _).trans (set_halfA0 g inb₁)
  have e2 : ((Memref.whole cc0_scratch10).slice (Rect.unit (s := S256x1024) ![64 * g.val, 0] S64x1024.size inb₂) (fun _ => rfl) : Memref sig .tc .vmem S64x1024 .f32).view.set = segB g :=
    (View.set_slice_whole _ _).trans (set_segB g inb₂)
  iapply (send_step m K rfl (kS := .sb 2 g) (kR := .rb 2 g) trivial trivial rfl hS hR N64 (by subst hR; exact N64_l1) rfl rfl hj (q := fullShare.left) (fs := accV m (lf c)) (fd := fd)
    (by rw [e1]; exact BI.Entails.refl _)
    (blV m (rt c)) (val_b2 m c g inb₁ inb₂) (by rw [e2]; exact BI.Entails.refl _)) $$ [Hs Hx Hd Ho]
  · isplitr; · iexact HR
    isplitl [Hs]; · iexact Hs
    isplitl [Hx]; · rw [e1]; iexact Hx
    isplitl [Hd]; · rw [e2]; iexact Hd
    iexact Ho
  iexact Hk

theorem val_b3 (c : Dev nD) (g : Fin 4) (inb₁ inb₂) (j : S64x1024.Idx) :
    ((Memref.whole cc0_scratch9).slice (Rect.unit (s := S512x1024) ![128 * g.val + 64, 0] S64x1024.size inb₁) (fun _ => rfl) : Memref sig .tc .vmem S64x1024 .f32).view.read (Elt F) (accV m (rt c)) j
      = ((Memref.whole cc0_scratch11).slice (Rect.unit (s := S256x1024) ![64 * g.val, 0] S64x1024.size inb₂) (fun _ => rfl) : Memref sig .tc .vmem S64x1024 .f32).view.read (Elt F) (brV m (lf c)) j := by
  show accV m (rt c) ((Rect.unit (s := S512x1024) ![128 * g.val + 64, 0] S64x1024.size inb₁).emb j) = brV m (lf c) ((Rect.unit (s := S256x1024) ![64 * g.val, 0] S64x1024.size inb₂).emb j)
  unfold brV
  rw [rt_lf]
  have e0 : ((Rect.unit (s := S256x1024) ![64 * g.val, 0] S64x1024.size inb₂).emb j 0).val = 64 * g.val + (j 0).val := rect_emb_unit_val _ _ _ _ _
  have e1 : ((Rect.unit (s := S256x1024) ![64 * g.val, 0] S64x1024.size inb₂).emb j 1).val = 0 + (j 1).val := rect_emb_unit_val _ _ _ _ _
  have hj := (j 0).isLt
  change (j 0).val < 64 at hj
  refine congrArg (accV m _) (idx2_ext ?_ ?_)
  · rw [rect_emb_unit_val]
    show 128 * g.val + 64 + (j 0).val = 128 * (_ / 64) + _ % 64 + 64
    rw [e0]; omega
  · rw [rect_emb_unit_val]
    show 0 + (j 1).val = _
    exact e1.symm

/-- The lower half of a segment that came from the right, on to the left. -/
theorem send_b3 {c n : Dev nD} (g : Fin 4) (hn : n = lf c) {o₁ o₂ : Fin 2 → ℕ} (h₁ : o₁ = ![128 * g.val + 64, 0])
    (h₂ : o₂ = ![64 * g.val, 0]) {inb₁ inb₂} {sS sR : SemLoc sig} (hS : sS = csem (.sb 3 g)) (hR : sR = csem (.rb 3 g))
    {hsc hsrc hdst hsem} {pos : ℕ} (hj : dl c pos = payOf (lf c, .rb 3 g) :: dl c (pos + 1))
    {α : Type} {Q : α → sProp 𝕄} {kk : PUnit → Prog (TpuEff nD τ sig (Elt F) Λ₀ .tc) α} :
    iprop(records m K ∗ Snd c (.sb 3 g) (lf c) (.rb 3 g) ∗ r0At c (halfA g 1) fullShare.left (accV m (rt c))
        ∗ (∃ f, r1At (lf c) (segB g) fullShare f) ∗ Ow c pos)
      ⊢ iprop(((Wt c (.sb 3 g) ∗ Ow c (pos + 1)) -∗ wpc c (kk ⟨⟩) Q)
          -∗ wpc c (.op (.enqueueDma ((Memref.whole cc0_scratch9).slice (Rect.unit (s := S512x1024) o₁ S64x1024.size inb₁) (fun _ => rfl) : Memref sig .tc .vmem S64x1024 .f32)
              (.remote (Dev.tc n : Thread nD τ) ((Memref.whole cc0_scratch11).slice (Rect.unit (s := S256x1024) o₂ S64x1024.size inb₂) (fun _ => rfl) : Memref sig .tc .vmem S64x1024 .f32) sS hsc) sR hsrc hdst hsem) kk) Q) := by
  subst h₁ h₂ hn
  iintro ⟨#HR, Hs, Hx, ⟨%fd, Hd⟩, Ho⟩ Hk
  have e1 : ((Memref.whole cc0_scratch9).slice (Rect.unit (s := S512x1024) ![128 * g.val + 64, 0] S64x1024.size inb₁) (fun _ => rfl) : Memref sig .tc .vmem S64x1024 .f32).view.set = halfA g 1 :=
    (View.set_slice_whole _ _).trans (set_halfA1 g inb₁)
  have e2 : ((Memref.whole cc0_scratch11).slice (Rect.unit (s := S256x1024) ![64 * g.val, 0] S64x1024.size inb₂) (fun _ => rfl) : Memref sig .tc .vmem S64x1024 .f32).view.set = segB g :=
    (View.set_slice_whole _ _).trans (set_segB g inb₂)
  iapply (send_step m K rfl (kS := .sb 3 g) (kR := .rb 3 g) trivial trivial rfl hS hR N64 (by subst hR; exact N64_r1) rfl rfl hj (q := fullShare.left) (fs := accV m (rt c)) (fd := fd)
    (by rw [e1]; exact BI.Entails.refl _)
    (brV m (lf c)) (val_b3 m c g inb₁ inb₂) (by rw [e2]; exact BI.Entails.refl _)) $$ [Hs Hx Hd Ho]
  · isplitr; · iexact HR
    isplitl [Hs]; · iexact Hs
    isplitl [Hx]; · rw [e1]; iexact Hx
    isplitl [Hd]; · rw [e2]; iexact Hd
    iexact Ho
  iexact Hk

end Copies

end Cert.EmbedProof
-- ==== Proof.Gather.lean ====
/-
The gather of one segment: every row is zero, then — where the device's block of the table has the row — in flight from the
table, then there. A slot of the semaphore ring goes with each row in flight.
-/
module

public import proofs.«01_k».proof.Proof.Steps

@[expose] public section

set_option maxRecDepth 8000

noncomputable section

namespace Cert.EmbedProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL allPays credOf)
open Idealize.ShloMosaic.ValueKit (rect_emb_unit_val)

variable {F : FTy → Type} [FloatOps F]

local notation "𝕄" => MT nD τ sig ℕ (Elt F) ℕ UU ℕ

variable (m : (ℓ : Loc nD τ sig) → Buf (Elt F) ℓ) (K : Dev nD × CK → ℕ)

/-- Row `t` of segment `g`, and its slot of the semaphore ring. -/
def rowS (g : Fin 4) (t : Fin 128) : Fin 512 := ⟨128 * g.val + t.val, by omega⟩
@[inherit_doc rowS] def slot (t : Fin 128) : Fin 16 := ⟨t.val % 16, Nat.mod_lt _ (by decide)⟩
/-- The token number of the row. -/
def wS (c : Dev nD) (g : Fin 4) (t : Fin 128) : BitVec 32 := tokW m c (rowS g t)
/-- Row `l` of a block of the table. -/
def eRow (l : Fin 16384) : Finset S16384x1024.Idx := Finset.univ.filter fun i => (i 0).val = l.val
theorem set_eRow (l : Fin 16384) (inb) : (Rect.unit (s := S16384x1024) ![l.val, 0] S1x1024.size inb).set = eRow l := by
  ext i
  rw [Rect.mem_set_unit, eRow, Finset.mem_filter, Fin.forall_fin_two]
  have h1 := (i 1).isLt
  change (i 1).val < 1024 at h1
  show ((l.val ≤ (i 0).val ∧ (i 0).val < l.val + 1) ∧ (0 ≤ (i 1).val ∧ (i 1).val < 0 + 1024)) ↔ _
  simp only [Finset.mem_univ, true_and]; omega

/-- Device `c`'s block of the table, at an element set and a share. -/
abbrev eAt (c : Dev nD) (S : Finset S16384x1024.Idx) (q : PosShare TreeShare) : sProp 𝕄 :=
  ((c : Thread nD τ).loc main_arg1) ↦[S]{q} embV m c
/-- Device `c`'s token numbers, in the staging buffer. -/
abbrev idsAt (c : Dev nD) : sProp 𝕄 := ((c : Thread nD τ).loc cc0_stg0_0) ↦[Finset.univ]{fullShare} idsV m c

/-- A free slot: its semaphore at zero and a share of the table. -/
def Slot (c : Dev nD) (j : Fin 16) : sProp 𝕄 :=
  iprop(semVal ((c : Thread nD τ), .dma (gsem j)) 0 ∗ eAt m c Finset.univ (Transfers.shareTok fullShare 16 j))
/-- A row in its place; a row before its gather. -/
def Done (c : Dev nD) (r : Fin 512) : sProp 𝕄 := xAt c (rowA r) fullShare (XV m c)
@[inherit_doc Done] def Zero (c : Dev nD) (r : Fin 512) : sProp 𝕄 := xAt c (rowA r) fullShare (k0_pay1 (F := F))
/-- A row after its copy's start: in flight if the block has it, otherwise there, and the slot free. -/
def Pend (c : Dev nD) (g : Fin 4) (t : Fin 128) : sProp 𝕄 :=
  if Own c (wS m c g t) then
    iprop(Transfers.Flight EC (c : Thread nD τ) (.dma (gsem (slot t))) 0 N1
        iprop(Done m c (rowS g t) ∗ eAt m c (eRow (locOf c (wS m c g t))) (Transfers.shareTok fullShare 16 (slot t)))
      ∗ eAt m c (Finset.univ \ eRow (locOf c (wS m c g t))) (Transfers.shareTok fullShare 16 (slot t)))
  else iprop(Done m c (rowS g t) ∗ Slot m c (slot t))

theorem Pend_own {c : Dev nD} {g : Fin 4} {t : Fin 128} (h : Own c (wS m c g t)) : Pend m c g t =
    iprop(Transfers.Flight EC (c : Thread nD τ) (.dma (gsem (slot t))) 0 N1
        iprop(Done m c (rowS g t) ∗ eAt m c (eRow (locOf c (wS m c g t))) (Transfers.shareTok fullShare 16 (slot t)))
      ∗ eAt m c (Finset.univ \ eRow (locOf c (wS m c g t))) (Transfers.shareTok fullShare 16 (slot t))) := if_pos h
theorem Pend_not {c : Dev nD} {g : Fin 4} {t : Fin 128} (h : ¬ Own c (wS m c g t)) :
    Pend m c g t = iprop(Done m c (rowS g t) ∗ Slot m c (slot t)) := if_neg h
theorem off10_own {c : Dev nD} {w : BitVec 32} (h : Own c w) : k0_off10 c w = ![(locOf c w).val, 0] := by
  funext a
  match a with
  | ⟨0, _⟩ => exact (Nat.mod_eq_of_lt (own_lt c w h)).symm
  | ⟨1, _⟩ => rfl
/-- The bound that the program assumes of the row's place. -/
theorem own_inb {c : Dev nD} {w : BitVec 32} (h : Own c w) : ∀ a, k0_off10 c w a + S1x1024.size a ≤ S16384x1024.size a := by
  rw [off10_own h]
  intro a
  have := (locOf c w).isLt
  match a with
  | ⟨0, _⟩ => show (locOf c w).val + 1 ≤ 16384; omega
  | ⟨1, _⟩ => exact Nat.le_refl _

/-- Reading a token number. -/
theorem ids_load {c : Dev nD} {off : Fin 1 → ℕ} {a : ℕ} (h : off = ![a]) (ha : a < 2048) {inb} {hld}
    {α : Type} {Q : α → sProp 𝕄} {kk : (S1.Idx → BitVec 32) → Prog (TpuEff nD τ sig (Elt F) Λ₀ .tc) α} :
    idsAt m c ⊢ iprop((idsAt m c -∗ ∀ f : S1.Idx → BitVec 32, ⌜∀ x, f x = idsV m c (ixI ⟨a, ha⟩)⌝ -∗ wpc c (kk f) Q)
        -∗ wpc c (.op (.load (Memref.whole cc0_stg0_0 : Memref sig .tc .smem S2048 .i32) (Rect.unit (s := S2048) off S1.size inb) hld) kk) Q) := by
  subst h
  iintro Hi Hk
  iapply (wp_load 𝒱₀ (c : Thread nD τ) none Set.univ (m := (Memref.whole cc0_stg0_0 : Memref sig .tc .smem S2048 .i32)) (Finset.subset_univ _)) $$ [Hi]
  · iexact Hi
  iintro Hi
  iapply Hk $$ Hi
  ipureintro
  intro x
  show idsV m c _ = _
  refine congrArg (idsV m c) (Shape.idx1_ext ?_)
  refine (rect_emb_unit_val _ _ _ _ _).trans ?_
  have := (x 0).isLt
  change (x 0).val < 1 at this
  show a + (x 0).val = a
  omega

theorem val_row {c : Dev nD} {g : Fin 4} {t : Fin 128} (hown : Own c (wS m c g t)) (inb₁ inb₂) (j : S1024.Idx) :
    (((Memref.whole main_arg1 : Memref sig .tc .hbm S16384x1024 .f32).slice (Rect.unit (s := S16384x1024) ![(locOf c (wS m c g t)).val, 0] S1x1024.size inb₁) (fun _ => rfl)).squeeze S1024 squeezes_S1x1024_S1024 : Memref sig .tc .hbm S1024 .f32).view.read (Elt F) (embV m c) j
      = (((Memref.whole cc0_scratch0 : Memref sig .tc .vmem S512x1024 .f32).slice (Rect.unit (s := S512x1024) ![128 * g.val + t.val, 0] S1x1024.size inb₂) (fun _ => rfl)).squeeze S1024 squeezes_S1x1024_S1024 : Memref sig .tc .vmem S1024 .f32).view.read (Elt F) (XV m c) j := by
  show embV m c ((Rect.unit (s := S16384x1024) ![(locOf c (wS m c g t)).val, 0] S1x1024.size inb₁).emb (Shape.reshapeEquiv (s := S1x1024) (s' := S1024) _ j))
    = XV m c ((Rect.unit (s := S512x1024) ![128 * g.val + t.val, 0] S1x1024.size inb₂).emb (Shape.reshapeEquiv (s := S1x1024) (s' := S1024) _ j))
  rw [Shape.reshapeEquiv_cons_one]
  have e0 : ((Rect.unit (s := S512x1024) ![128 * g.val + t.val, 0] S1x1024.size inb₂).emb (Fin.cons ⟨0, Nat.one_pos⟩ j : S1x1024.Idx)) 0 = rowS g t :=
    Fin.ext (by rw [rect_emb_unit_val]; rfl)
  unfold XV
  rw [e0]
  refine Eq.trans ?_ (if_pos hown).symm
  refine congrArg (embV m c) (idx2_ext ?_ ?_)
  · rw [rect_emb_unit_val]; rfl
  · rw [rect_emb_unit_val]
    show 0 + (j 0).val = _
    refine Eq.trans ?_ (rect_emb_unit_val _ _ _ _ _).symm
    rfl

/-- The start of a row's copy. -/
theorem start_step {c : Dev nD} {g : Fin 4} {t : Fin 128} (hown : Own c (wS m c g t)) {o3 : Fin 1 → ℕ} {o4 o5 : Fin 2 → ℕ}
    (h3 : o3 = ![(slot t).val]) (h4 : o4 = ![128 * g.val + t.val, 0]) (h5 : o5 = ![(locOf c (wS m c g t)).val, 0]) {inb₃ inb₄ inb₅} {hsrc hdst hsem}
    {α : Type} {Q : α → sProp 𝕄} {kk : PUnit → Prog (TpuEff nD τ sig (Elt F) Λ₀ .tc) α} :
    iprop(Slot m c (slot t) ∗ Zero (F := F) c (rowS g t))
      ⊢ iprop((Pend m c g t -∗ wpc c (kk ⟨⟩) Q)
          -∗ wpc c (.op (.enqueueDma (((Memref.whole main_arg1 : Memref sig .tc .hbm S16384x1024 .f32).slice (Rect.unit (s := S16384x1024) o5 S1x1024.size inb₅) (fun _ => rfl)).squeeze S1024 squeezes_S1x1024_S1024)
              (.here (((Memref.whole cc0_scratch0 : Memref sig .tc .vmem S512x1024 .f32).slice (Rect.unit (s := S512x1024) o4 S1x1024.size inb₄) (fun _ => rfl)).squeeze S1024 squeezes_S1x1024_S1024))
              (.dma ((cc0_scratch1.slice (Rect.unit (s := S16) o3 S1.size inb₃)).squeeze S_ squeezes_S1_S_).sem) hsrc hdst hsem) kk) Q) := by
  subst h3 h4 h5
  have e1 : (((Memref.whole main_arg1 : Memref sig .tc .hbm S16384x1024 .f32).slice (Rect.unit (s := S16384x1024) ![(locOf c (wS m c g t)).val, 0] S1x1024.size inb₅) (fun _ => rfl)).squeeze S1024 squeezes_S1x1024_S1024 : Memref sig .tc .hbm S1024 .f32).view.set = eRow (locOf c (wS m c g t)) :=
    (View.set_reshape _ _).trans ((View.set_slice_whole _ _).trans (set_eRow _ inb₅))
  have e2 : (((Memref.whole cc0_scratch0 : Memref sig .tc .vmem S512x1024 .f32).slice (Rect.unit (s := S512x1024) ![128 * g.val + t.val, 0] S1x1024.size inb₄) (fun _ => rfl)).squeeze S1024 squeezes_S1x1024_S1024 : Memref sig .tc .vmem S1024 .f32).view.set = rowA (rowS g t) :=
    (View.set_reshape _ _).trans ((View.set_slice_whole _ _).trans (set_rowA (rowS g t) inb₄))
  iintro ⟨Hs, Hx⟩ Hk
  unfold Slot
  icases Hs with ⟨Hv, He⟩
  ihave He2 := ((pointsTo_split_subset (Finset.subset_univ (eRow (locOf c (wS m c g t))))).1) $$ He
  icases He2 with ⟨He, Hrest⟩
  iapply (Transfers.wp_dmaLocal EC 𝒱₀ (c : Thread nD τ) none
    (src := ((Memref.whole main_arg1 : Memref sig .tc .hbm S16384x1024 .f32).slice (Rect.unit (s := S16384x1024) ![(locOf c (wS m c g t)).val, 0] S1x1024.size inb₅) (fun _ => rfl)).squeeze S1024 squeezes_S1x1024_S1024)
    (dst := ((Memref.whole cc0_scratch0 : Memref sig .tc .vmem S512x1024 .f32).slice (Rect.unit (s := S512x1024) ![128 * g.val + t.val, 0] S1x1024.size inb₄) (fun _ => rfl)).squeeze S1024 squeezes_S1x1024_S1024)
    (q := Transfers.shareTok fullShare 16 (slot t)) (fs := embV m c) (Sd := rowA (rowS g t)) (fd := k0_pay1 (F := F)) 0 N1 rfl N1_pos (Finset.subset_of_eq e2)) $$ [Hv He Hx]
  · isplitl [He]; · rw [e1]; iexact He
    isplitl [Hx]; · unfold Zero; iexact Hx
    rw [sem_g]; iexact Hv
  iintro Hf
  iapply Hk
  rw [Pend_own m hown]
  isplitl [Hf]
  · rw [sem_g (slot t) inb₃]
    iapply (Transfers.Flight_mono EC (c : Thread nD τ) ?_) $$ Hf
    refine Idealize.SL.BI.sep_mono ?_ ?_
    · refine Entails.of_eq (pointsTo_congr ?_)
      rw [← e2]
      exact write_read_eq (F := F) ((((Memref.whole cc0_scratch0 : Memref sig .tc .vmem S512x1024 .f32).slice (Rect.unit (s := S512x1024) ![128 * g.val + t.val, 0] S1x1024.size inb₄) (fun _ => rfl)).squeeze S1024 squeezes_S1x1024_S1024 : Memref sig .tc .vmem S1024 .f32).view) (k0_pay1 (F := F)) (XV m c) _ (val_row m hown inb₅ inb₄)
    · rw [e1]; exact BI.Entails.refl _
  · iexact Hrest

/-- The wait for a row's copy. -/
theorem wait_row {c : Dev nD} {g : Fin 4} {t : Fin 128} (hown : Own c (wS m c g t)) {o3 : Fin 1 → ℕ}
    (h3 : o3 = ![(slot t).val]) {inb₃} {sp' : Space} {s' : Shape} {e' : EltTy} {srcw : Memref sig .tc sp' s' e'} {dstw : Memref sig .tc .vmem S1024 .f32}
    {hsrc hdst} (hN : dstw.view.dmaCredit = N1) {pos : ℕ}
    {α : Type} {Q : α → sProp 𝕄} {kk : PUnit → Prog (TpuEff nD τ sig (Elt F) Λ₀ .tc) α} :
    iprop(records m K ∗ Pend m c g t ∗ Ow c pos)
      ⊢ iprop(((Done m c (rowS g t) ∗ Slot m c (slot t) ∗ Ow c pos) -∗ wpc c (kk ⟨⟩) Q)
          -∗ wpc c (.op (.waitDma2 ((cc0_scratch1.slice (Rect.unit (s := S16) o3 S1.size inb₃)).squeeze S_ squeezes_S1_S_).sem srcw dstw hsrc hdst) kk) Q) := by
  subst h3
  have hmw : records m K ⊢ MayWait (c : Thread nD τ) (.dma (gsem (slot t))) 0 (tallyL (dl c pos)) :=
    (records_lev m K).trans (mayWait_dl (F := F) c (.dma (gsem (slot t))) 0 pos
      (by unfold lv; rw [kindOf_gsem]) (fun x hx => (by decide : ∀ x ∈ lvls, 0 < x) x (List.mem_of_mem_drop hx)))
  rw [Pend_own m hown]
  iintro ⟨#HR, Hp, Ho⟩ Hk
  icases Hp with ⟨Hf, Hrest⟩
  unfold Ow
  icases Ho with ⟨%W, Ho⟩
  rw [sem_g (slot t) inb₃]
  iapply (Transfers.wp_waitLocalO EC 𝒱₀ (c : Thread nD τ) none 0 hN (O := tallyL (dl c pos)) (W := W)) $$ [Hf Ho]
  · isplitl [Hf]; · iexact Hf
    isplitl [Ho]; · iexact Ho
    iapply hmw; iexact HR
  iintro ⟨⟨Hd, He⟩, Hv, Ho⟩
  iapply Hk
  isplitl [Hd]; · iexact Hd
  isplitl [He Hv Hrest]
  · unfold Slot
    isplitl [Hv]; · iexact Hv
    iapply ((pointsTo_split_subset (Finset.subset_univ (eRow (locOf c (wS m c g t))))).2)
    isplitl [He]; · iexact He
    iexact Hrest
  iexists _; iexact Ho

end Cert.EmbedProof
-- ==== Proof.GatherRows.lean ====
/-
The gather loops: what holds between the trips, and that a trip keeps it.
-/
module

public import proofs.«01_k».proof.Proof.Gather

@[expose] public section

set_option maxRecDepth 8000

noncomputable section

namespace Cert.EmbedProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL allPays credOf)
open Idealize.ShloMosaic.ValueKit (rect_emb_unit_val)

variable {F : FTy → Type} [FloatOps F]

local notation "𝕄" => MT nD τ sig ℕ (Elt F) ℕ UU ℕ

variable (m : (ℓ : Loc nD τ sig) → Buf (Elt F) ℓ) (K : Dev nD × CK → ℕ)

/-- One member of a separated family taken out, and another put back in its place. -/
theorem big_upd {I : Type} [Fintype I] [DecidableEq I] (Φ Φ' : I → sProp 𝕄) (i : I) (h : ∀ j, j ≠ i → Φ j = Φ' j) :
    bigSep Finset.univ Φ ⊢ iprop(Φ i ∗ (Φ' i -∗ bigSep Finset.univ Φ')) := by
  rw [bigSep_erase (Finset.mem_univ i), bigSep_erase (Finset.mem_univ i) (Φ := Φ'),
    bigSep_congr (s := Finset.univ.erase i) (Φ := Φ) (Ψ := Φ') fun j hj => h j (Finset.ne_of_mem_erase hj)]
  show iprop(Φ i ∗ bigSep (Finset.univ.erase i) Φ') ⊢ iprop(Φ i ∗ (Φ' i -∗ (Φ' i ∗ bigSep (Finset.univ.erase i) Φ')))
  iintro ⟨H1, H2⟩
  isplitl [H1]; · iexact H1
  iintro H
  isplitl [H]; · iexact H
  iexact H2

/-- The rows of a segment: the first `a` in their place, those up to `b` pending, the others as before the gather. -/
def rowSt (c : Dev nD) (g : Fin 4) (a b : ℕ) (t : Fin 128) : sProp 𝕄 :=
  if t.val < a then Done m c (rowS g t) else if t.val < b then Pend m c g t else Zero (F := F) c (rowS g t)
@[inherit_doc rowSt] def rows (c : Dev nD) (g : Fin 4) (a b : ℕ) : sProp 𝕄 := bigSep Finset.univ (rowSt m c g a b)
/-- The slots from `b` on; the slots before `b`. -/
def slotsFrom (c : Dev nD) (b : ℕ) : sProp 𝕄 := bigSep Finset.univ fun j : Fin 16 => if b ≤ j.val then Slot m c j else iprop(emp)
@[inherit_doc slotsFrom] def slotsTo (c : Dev nD) (b : ℕ) : sProp 𝕄 := bigSep Finset.univ fun j : Fin 16 => if j.val < b then Slot m c j else iprop(emp)

theorem rows_wait (c : Dev nD) (g : Fin 4) (t : Fin 128) {a a' b : ℕ} (ha : a = t.val) (ha' : a' = a + 1) (h : t.val < b) :
    rows m c g a b ⊢ iprop(Pend m c g t ∗ (Done m c (rowS g t) -∗ rows m c g a' b)) := by
  subst ha' ha
  have H := big_upd (rowSt m c g t.val b) (rowSt m c g (t.val + 1) b) t (fun j hj => by
    have : j.val ≠ t.val := fun e => hj (Fin.ext e)
    unfold rowSt
    by_cases h1 : j.val < t.val
    · rw [if_pos h1, if_pos (by omega)]
    · rw [if_neg h1, if_neg (c := j.val < t.val + 1) (by omega)])
  have e1 : rowSt m c g t.val b t = Pend m c g t := by unfold rowSt; rw [if_neg (by omega), if_pos h]
  have e2 : rowSt m c g (t.val + 1) b t = Done m c (rowS g t) := by unfold rowSt; rw [if_pos (by omega)]
  rw [e1, e2] at H
  exact H
theorem rows_start (c : Dev nD) (g : Fin 4) (t : Fin 128) {a : ℕ} (h : a ≤ t.val) :
    rows m c g a t.val ⊢ iprop(Zero (F := F) c (rowS g t) ∗ (Pend m c g t -∗ rows m c g a (t.val + 1))) := by
  have H := big_upd (rowSt m c g a t.val) (rowSt m c g a (t.val + 1)) t (fun j hj => by
    have : j.val ≠ t.val := fun e => hj (Fin.ext e)
    unfold rowSt
    by_cases h1 : j.val < a
    · rw [if_pos h1, if_pos h1]
    · rw [if_neg h1, if_neg h1]
      by_cases h2 : j.val < t.val
      · rw [if_pos h2, if_pos (by omega)]
      · rw [if_neg h2, if_neg (by omega)])
  have e1 : rowSt m c g a t.val t = Zero (F := F) c (rowS g t) := by unfold rowSt; rw [if_neg (by omega), if_neg (by omega)]
  have e2 : rowSt m c g a (t.val + 1) t = Pend m c g t := by unfold rowSt; rw [if_neg (by omega), if_pos (by omega)]
  rw [e1, e2] at H
  exact H
theorem slots_take (c : Dev nD) (j : Fin 16) : slotsFrom m c j.val ⊢ iprop(Slot m c j ∗ slotsFrom m c (j.val + 1)) := by
  have H := big_upd (F := F) (fun i : Fin 16 => if j.val ≤ i.val then Slot m c i else iprop(emp)) (fun i : Fin 16 => if j.val + 1 ≤ i.val then Slot m c i else iprop(emp)) j
    (fun i hi => by
      have : i.val ≠ j.val := fun e => hi (Fin.ext e)
      by_cases h1 : j.val ≤ i.val
      · rw [if_pos h1, if_pos (by omega)]
      · rw [if_neg h1, if_neg (by omega)])
  rw [if_pos (Nat.le_refl _), if_neg (by omega)] at H
  refine H.trans ?_
  iintro ⟨H1, H2⟩
  isplitl [H1]; · iexact H1
  unfold slotsFrom
  iapply H2
  iempintro
theorem slots_put (c : Dev nD) (j : Fin 16) : iprop(Slot m c j ∗ slotsTo m c j.val) ⊢ slotsTo m c (j.val + 1) := by
  have H := big_upd (F := F) (fun i : Fin 16 => if i.val < j.val then Slot m c i else iprop(emp)) (fun i : Fin 16 => if i.val < j.val + 1 then Slot m c i else iprop(emp)) j
    (fun i hi => by
      have : i.val ≠ j.val := fun e => hi (Fin.ext e)
      by_cases h1 : i.val < j.val
      · rw [if_pos h1, if_pos (by omega)]
      · rw [if_neg h1, if_neg (by omega)])
  rw [if_neg (Nat.lt_irrefl _), if_pos (Nat.lt_succ_self _)] at H
  iintro ⟨H1, H2⟩
  unfold slotsTo
  ihave H3 := H $$ H2
  icases H3 with ⟨-, H3⟩
  iapply H3; iexact H1

theorem slotsFrom_ge (c : Dev nD) {b b' : ℕ} (h : 16 ≤ b) (h' : 16 ≤ b') : slotsFrom m c b = slotsFrom m c b' := by
  unfold slotsFrom
  refine bigSep_congr fun j _ => ?_
  rw [if_neg (by omega), if_neg (by omega)]

/-- Between the trips of the starting loop; between the two halves of a trip. -/
def gInv (c : Dev nD) (g : Fin 4) (i : ℕ) : sProp 𝕄 := iprop(rows m c g (i - 16) i ∗ slotsFrom m c i)
@[inherit_doc gInv] def gMid (c : Dev nD) (g : Fin 4) (t : Fin 128) : sProp 𝕄 :=
  iprop(Slot m c (slot t) ∗ rows m c g (t.val + 1 - 16) t.val ∗ slotsFrom m c (t.val + 1))
/-- Between the trips of the waiting loop. -/
def gEpi (c : Dev nD) (g : Fin 4) (i : ℕ) : sProp 𝕄 := iprop(rows m c g (112 + i) 128 ∗ slotsTo m c i)

/-- The row waited for in trip `t`. -/
def prev (t : Fin 128) : Fin 128 := ⟨t.val - 16, by omega⟩
/-- The row waited for in trip `i` of the waiting loop. -/
def last (i : Fin 16) : Fin 128 := ⟨112 + i.val, by omega⟩

theorem gInv_early (c : Dev nD) (g : Fin 4) (t : Fin 128) (h : ¬ 16 ≤ t.val) : gInv m c g t.val ⊢ gMid m c g t := by
  unfold gInv gMid
  rw [show t.val + 1 - 16 = t.val - 16 by omega, show slot t = (⟨t.val, by omega⟩ : Fin 16) from Fin.ext (Nat.mod_eq_of_lt (by omega))]
  iintro ⟨H1, H2⟩
  ihave H3 := (slots_take m c ⟨t.val, by omega⟩) $$ H2
  icases H3 with ⟨H3, H4⟩
  isplitl [H3]; · iexact H3
  isplitl [H1]; · iexact H1
  iexact H4
theorem gInv_late (c : Dev nD) (g : Fin 4) (t : Fin 128) (h : 16 ≤ t.val) :
    gInv m c g t.val ⊢ iprop(Pend m c g (prev t) ∗ ((Done m c (rowS g (prev t)) ∗ Slot m c (slot (prev t))) -∗ gMid m c g t)) := by
  unfold gInv gMid
  rw [show slot (prev t) = slot t from Fin.ext (show (t.val - 16) % 16 = t.val % 16 by omega), slotsFrom_ge m c h (b' := t.val + 1) (by omega)]
  iintro ⟨H1, H2⟩
  ihave H3 := (rows_wait m c g (prev t) (a := t.val - 16) (a' := t.val + 1 - 16) (b := t.val) rfl (by omega) (by show t.val - 16 < _; omega)) $$ H1
  icases H3 with ⟨H3, H4⟩
  isplitl [H3]; · iexact H3
  iintro ⟨H5, H6⟩
  isplitl [H6]; · iexact H6
  isplitl [H4 H5]
  · iapply H4; iexact H5
  iexact H2
theorem gMid_start (c : Dev nD) (g : Fin 4) (t : Fin 128) :
    gMid m c g t ⊢ iprop((Slot m c (slot t) ∗ Zero (F := F) c (rowS g t)) ∗ (Pend m c g t -∗ gInv m c g (t.val + 1))) := by
  unfold gInv gMid
  iintro ⟨H1, H2, H3⟩
  ihave H4 := (rows_start m c g t (a := t.val + 1 - 16) (by omega)) $$ H2
  icases H4 with ⟨H4, H5⟩
  isplitl [H1 H4]; · isplitl [H1] <;> iassumption
  iintro H
  isplitl [H5 H]; · iapply H5; iexact H
  iexact H3
theorem gEpi_wait (c : Dev nD) (g : Fin 4) (i : Fin 16) :
    gEpi m c g i.val ⊢ iprop(Pend m c g (last i) ∗ ((Done m c (rowS g (last i)) ∗ Slot m c (slot (last i))) -∗ gEpi m c g (i.val + 1))) := by
  unfold gEpi
  rw [show slot (last i) = i from Fin.ext (show (112 + i.val) % 16 = i.val by omega)]
  iintro ⟨H1, H2⟩
  ihave H3 := (rows_wait m c g (last i) (a := 112 + i.val) (a' := 112 + (i.val + 1)) (b := 128) rfl rfl (by show 112 + i.val < _; omega)) $$ H1
  icases H3 with ⟨H3, H4⟩
  isplitl [H3]; · iexact H3
  iintro ⟨H5, H6⟩
  isplitl [H4 H5]; · iapply H4; iexact H5
  iapply (slots_put m c i)
  isplitl [H6] <;> iassumption

/-- A row that the block does not have is in its place from the start. -/
theorem start_not {c : Dev nD} {g : Fin 4} {t : Fin 128} (h : ¬ Own c (wS m c g t)) :
    iprop(Slot m c (slot t) ∗ Zero (F := F) c (rowS g t)) ⊢ Pend m c g t := by
  rw [Pend_not m h]
  have e : Zero (F := F) c (rowS g t) = Done m c (rowS g t) := by
    unfold Zero Done
    refine pointsTo_congr fun i hi => ?_
    have e0 : i 0 = rowS g t := Fin.ext (Finset.mem_filter.mp hi).2
    unfold XV
    refine (if_neg ?_).symm
    rw [e0]; exact h
  rw [e]
  iintro ⟨H1, H2⟩
  isplitl [H2] <;> iassumption

theorem segA_rows (g : Fin 4) : segA g = Finset.univ.biUnion fun t : Fin 128 => rowA (rowS g t) := by
  ext i
  simp only [segA, rowA, rowS, Finset.mem_biUnion, Finset.mem_filter, Finset.mem_univ, true_and]
  constructor
  · intro h; exact ⟨⟨(i 0).val % 128, Nat.mod_lt _ (by decide)⟩, Finset.mem_filter.mpr ⟨Finset.mem_univ _, by show _ = 128 * g.val + (i 0).val % 128; omega⟩⟩
  · rintro ⟨t, h⟩
    have h := (Finset.mem_filter.mp h).2
    change _ = 128 * g.val + t.val at h
    have := t.isLt
    omega
theorem rows_disj (g : Fin 4) : ∀ s ∈ (Finset.univ : Finset (Fin 128)), ∀ t ∈ (Finset.univ : Finset (Fin 128)), s ≠ t → Disjoint (rowA (rowS g s)) (rowA (rowS g t)) :=
  fun s _ t _ h => Finset.disjoint_filter.mpr fun i _ h1 h2 => h (Fin.ext (by
    change _ = 128 * g.val + s.val at h1
    change _ = 128 * g.val + t.val at h2
    omega))
theorem seg_rows (c : Dev nD) (g : Fin 4) (f : S512x1024.Idx → F .f32) :
    xAt (F := F) c (segA g) fullShare f = bigSep Finset.univ fun t : Fin 128 => xAt (F := F) c (rowA (rowS g t)) fullShare f := by
  rw [segA_rows]
  exact pointsTo_biUnion _ _ (rows_disj g)

/-- Before and after the gather of a segment. -/
theorem gInv_init (c : Dev nD) (g : Fin 4) : iprop(slotsFrom m c 0 ∗ xAt c (segA g) fullShare (k0_pay1 (F := F))) ⊢ gInv m c g 0 := by
  rw [seg_rows]
  have e : rows m c g (0 - 16) 0 = bigSep Finset.univ fun t : Fin 128 => xAt (F := F) c (rowA (rowS g t)) fullShare (k0_pay1 (F := F)) := by
    unfold rows
    refine bigSep_congr fun t _ => ?_
    unfold rowSt Zero
    rw [if_neg (by omega), if_neg (by omega)]
  unfold gInv
  rw [e]
  iintro ⟨H1, H2⟩
  isplitl [H2] <;> iassumption
theorem gInv_gEpi (c : Dev nD) (g : Fin 4) : gInv m c g 128 ⊢ gEpi m c g 0 := by
  unfold gInv gEpi
  have e : slotsFrom m c 128 = slotsTo m c 0 := by
    unfold slotsFrom slotsTo
    refine bigSep_congr fun j _ => ?_
    rw [if_neg (by omega), if_neg (by omega)]
  rw [e]
theorem gEpi_end (c : Dev nD) (g : Fin 4) : gEpi m c g 16 ⊢ iprop(slotsFrom m c 0 ∗ xAt c (segA g) fullShare (XV m c)) := by
  unfold gEpi
  have e : slotsTo m c 16 = slotsFrom m c 0 := by
    unfold slotsFrom slotsTo
    refine bigSep_congr fun j _ => ?_
    rw [if_pos (by omega), if_pos (by omega)]
  have e' : rows m c g (112 + 16) 128 = bigSep Finset.univ fun t : Fin 128 => xAt (F := F) c (rowA (rowS g t)) fullShare (XV m c) := by
    unfold rows
    refine bigSep_congr fun t _ => ?_
    unfold rowSt Done
    rw [if_pos (by omega)]
  rw [e, e', seg_rows]
  iintro ⟨H1, H2⟩
  isplitl [H2] <;> iassumption

/-- The first half of a trip when it does not wait. -/
theorem gInv_not (c : Dev nD) (g : Fin 4) (t : Fin 128) (h : 16 ≤ t.val → ¬ Own c (wS m c g (prev t))) : gInv m c g t.val ⊢ gMid m c g t := by
  by_cases ht : 16 ≤ t.val
  · have h1 := gInv_late m c g t ht
    rw [Pend_not m (h ht)] at h1
    refine h1.trans ?_
    iintro ⟨H1, H2⟩
    iapply H2; iexact H1
  · exact gInv_early m c g t ht
theorem o3_last {i : Fin 16} {o : Fin 1 → ℕ} (h : o = ![i.val]) : o = ![(slot (last i)).val] := by
  rw [h, show (slot (last i)).val = i.val from (by show (112 + i.val) % 16 = i.val; omega)]

end Cert.EmbedProof
-- ==== Proof.GatherOff.lean ====
/-
Where the trips of the four gather loops read and write: the token numbers, the rows, the semaphores, all from the segment
that the loop gathers and the trip.
-/
module

public import proofs.«01_k».proof.Proof.Contents

@[expose] public section

set_option maxRecDepth 8000

namespace Cert.EmbedProof

open Cert.KernelIdeal Cert.KernelIdeal.Gen
open Idealize.ShloMosaic

/-- The bit whether the row that `w` names is in device `c`'s block. -/
def ownB (c : Dev nD) (w : BitVec 32) : BitVec 1 :=
  Scalar.andi (Scalar.cmpi .sge (Scalar.subi w (Scalar.muli (Scalar.remsi (Scalar.divsi (Dev.word c) 1#32) 4#32) 16384#32)) 0#32)
    (Scalar.cmpi .slt (Scalar.subi w (Scalar.muli (Scalar.remsi (Scalar.divsi (Dev.word c) 1#32) 4#32) 16384#32)) 16384#32)
theorem and_own (c : Dev nD) (w : BitVec 32) (p : Prop) [Decidable p] :
    (Scalar.cmpi .ne (Scalar.extui (Scalar.andi (if p then 1#1 else 0#1) (ownB c w)) : BitVec 32) 0#32 = 1#1) ↔ (p ∧ Own c w) := by
  have h : Own c w ↔ (Scalar.cmpi .ne (Scalar.extui (ownB c w) : BitVec 32) 0#32 = 1#1) := Iff.rfl
  rw [h]
  by_cases hp : p
  · rw [if_pos hp]
    rcases BitVec.eq_zero_or_eq_one (ownB c w) with e | e <;> rw [e] <;> simp only [hp, true_and] <;> decide
  · rw [if_neg hp]
    rcases BitVec.eq_zero_or_eq_one (ownB c w) with e | e <;> rw [e] <;> simp only [hp, false_and] <;> decide

/-! Segment `pk c 0`. -/

theorem g_off1 (c : Dev nD) (t : Fin k0_t1_loop.trips) : k0_off1 c t = ![512 * (rOf c).val + (128 * (pk c 0).val + (t.val - 16))] := by revert c t; decide +kernel
theorem g_off2 (c : Dev nD) (t : Fin k0_t1_loop.trips) : k0_off2 c t = ![512 * (rOf c).val + (128 * (pk c 0).val + (t.val - 16))] := by revert c t; decide +kernel
theorem g_off3 (c : Dev nD) (t : Fin k0_t1_loop.trips) : k0_off3 c t = ![(t.val - 16) % 16] := by revert c t; decide +kernel
theorem g_off4 (c : Dev nD) (t : Fin k0_t1_loop.trips) : k0_off4 c t = ![128 * (pk c 0).val + (t.val - 16), 0] := by revert c t; decide +kernel
theorem g_off6 (c : Dev nD) (t : Fin k0_t1_loop.trips) : k0_off6 c t = ![512 * (rOf c).val + (128 * (pk c 0).val + t.val)] := by revert c t; decide +kernel
theorem g_off7 (c : Dev nD) (t : Fin k0_t1_loop.trips) : k0_off7 c t = ![512 * (rOf c).val + (128 * (pk c 0).val + t.val)] := by revert c t; decide +kernel
theorem g_off8 (c : Dev nD) (t : Fin k0_t1_loop.trips) : k0_off8 c t = ![t.val % 16] := by revert c t; decide +kernel
theorem g_off9 (c : Dev nD) (t : Fin k0_t1_loop.trips) : k0_off9 c t = ![128 * (pk c 0).val + t.val, 0] := by revert c t; decide +kernel
theorem g_off11 (c : Dev nD) (t : Fin k0_t2_loop.trips) : k0_off11 c t = ![512 * (rOf c).val + (128 * (pk c 0).val + (112 + t.val))] := by revert c t; decide +kernel
theorem g_off12 (c : Dev nD) (t : Fin k0_t2_loop.trips) : k0_off12 c t = ![512 * (rOf c).val + (128 * (pk c 0).val + (112 + t.val))] := by revert c t; decide +kernel
theorem g_off13 (c : Dev nD) (t : Fin k0_t2_loop.trips) : k0_off13 c t = ![t.val] := by revert c t; decide +kernel
theorem g_off14 (c : Dev nD) (t : Fin k0_t2_loop.trips) : k0_off14 c t = ![128 * (pk c 0).val + (112 + t.val), 0] := by revert c t; decide +kernel
theorem g_ge1 (t : Fin k0_t1_loop.trips) : (Scalar.cmpi .sge (Scf.iv 0#32 1#32 t) 16#32 : BitVec 1) = if 16 ≤ t.val then 1#1 else 0#1 := by
  revert t; decide +kernel
theorem g_cond1 (c : Dev nD) (t : Fin k0_t1_loop.trips) (w : BitVec 32) : (k0_cond1 c t w = 1#1) ↔ (16 ≤ t.val ∧ Own c w) := by
  refine (Iff.of_eq (congrArg (· = 1#1) (show k0_cond1 c t w = Scalar.cmpi .ne (Scalar.extui (Scalar.andi (Scalar.cmpi .sge (Scf.iv 0#32 1#32 t) 16#32) (ownB c w))) 0#32 from rfl))).trans ?_
  rw [g_ge1 t]; exact and_own c w _
theorem g_cond2 (c : Dev nD) (w : BitVec 32) : (k0_cond2 c w = 1#1) ↔ Own c w := Iff.rfl
theorem g_cond3 (c : Dev nD) (w : BitVec 32) : (k0_cond3 c w = 1#1) ↔ Own c w := Iff.rfl

/-! Segment `pk c 1`. -/

theorem g_off19 (c : Dev nD) (t : Fin k0_t3_loop.trips) : k0_off19 c t = ![512 * (rOf c).val + (128 * (pk c 1).val + (t.val - 16))] := by revert c t; decide +kernel
theorem g_off20 (c : Dev nD) (t : Fin k0_t3_loop.trips) : k0_off20 c t = ![512 * (rOf c).val + (128 * (pk c 1).val + (t.val - 16))] := by revert c t; decide +kernel
theorem g_off21 (c : Dev nD) (t : Fin k0_t3_loop.trips) : k0_off21 c t = ![(t.val - 16) % 16] := by revert c t; decide +kernel
theorem g_off22 (c : Dev nD) (t : Fin k0_t3_loop.trips) : k0_off22 c t = ![128 * (pk c 1).val + (t.val - 16), 0] := by revert c t; decide +kernel
theorem g_off24 (c : Dev nD) (t : Fin k0_t3_loop.trips) : k0_off24 c t = ![512 * (rOf c).val + (128 * (pk c 1).val + t.val)] := by revert c t; decide +kernel
theorem g_off25 (c : Dev nD) (t : Fin k0_t3_loop.trips) : k0_off25 c t = ![512 * (rOf c).val + (128 * (pk c 1).val + t.val)] := by revert c t; decide +kernel
theorem g_off26 (c : Dev nD) (t : Fin k0_t3_loop.trips) : k0_off26 c t = ![t.val % 16] := by revert c t; decide +kernel
theorem g_off27 (c : Dev nD) (t : Fin k0_t3_loop.trips) : k0_off27 c t = ![128 * (pk c 1).val + t.val, 0] := by revert c t; decide +kernel
theorem g_off29 (c : Dev nD) (t : Fin k0_t4_loop.trips) : k0_off29 c t = ![512 * (rOf c).val + (128 * (pk c 1).val + (112 + t.val))] := by revert c t; decide +kernel
theorem g_off30 (c : Dev nD) (t : Fin k0_t4_loop.trips) : k0_off30 c t = ![512 * (rOf c).val + (128 * (pk c 1).val + (112 + t.val))] := by revert c t; decide +kernel
theorem g_off31 (c : Dev nD) (t : Fin k0_t4_loop.trips) : k0_off31 c t = ![t.val] := by revert c t; decide +kernel
theorem g_off32 (c : Dev nD) (t : Fin k0_t4_loop.trips) : k0_off32 c t = ![128 * (pk c 1).val + (112 + t.val), 0] := by revert c t; decide +kernel
theorem g_ge4 (t : Fin k0_t3_loop.trips) : (Scalar.cmpi .sge (Scf.iv 0#32 1#32 t) 16#32 : BitVec 1) = if 16 ≤ t.val then 1#1 else 0#1 := by
  revert t; decide +kernel
theorem g_cond4 (c : Dev nD) (t : Fin k0_t3_loop.trips) (w : BitVec 32) : (k0_cond4 c t w = 1#1) ↔ (16 ≤ t.val ∧ Own c w) := by
  refine (Iff.of_eq (congrArg (· = 1#1) (show k0_cond4 c t w = Scalar.cmpi .ne (Scalar.extui (Scalar.andi (Scalar.cmpi .sge (Scf.iv 0#32 1#32 t) 16#32) (ownB c w))) 0#32 from rfl))).trans ?_
  rw [g_ge4 t]; exact and_own c w _
theorem g_cond5 (c : Dev nD) (w : BitVec 32) : (k0_cond5 c w = 1#1) ↔ Own c w := Iff.rfl
theorem g_cond6 (c : Dev nD) (w : BitVec 32) : (k0_cond6 c w = 1#1) ↔ Own c w := Iff.rfl

/-! Segment `pk c 2`. -/

theorem g_off35 (c : Dev nD) (t : Fin k0_t5_loop.trips) : k0_off35 c t = ![512 * (rOf c).val + (128 * (pk c 2).val + (t.val - 16))] := by revert c t; decide +kernel
theorem g_off36 (c : Dev nD) (t : Fin k0_t5_loop.trips) : k0_off36 c t = ![512 * (rOf c).val + (128 * (pk c 2).val + (t.val - 16))] := by revert c t; decide +kernel
theorem g_off37 (c : Dev nD) (t : Fin k0_t5_loop.trips) : k0_off37 c t = ![(t.val - 16) % 16] := by revert c t; decide +kernel
theorem g_off38 (c : Dev nD) (t : Fin k0_t5_loop.trips) : k0_off38 c t = ![128 * (pk c 2).val + (t.val - 16), 0] := by revert c t; decide +kernel
theorem g_off40 (c : Dev nD) (t : Fin k0_t5_loop.trips) : k0_off40 c t = ![512 * (rOf c).val + (128 * (pk c 2).val + t.val)] := by revert c t; decide +kernel
theorem g_off41 (c : Dev nD) (t : Fin k0_t5_loop.trips) : k0_off41 c t = ![512 * (rOf c).val + (128 * (pk c 2).val + t.val)] := by revert c t; decide +kernel
theorem g_off42 (c : Dev nD) (t : Fin k0_t5_loop.trips) : k0_off42 c t = ![t.val % 16] := by revert c t; decide +kernel
theorem g_off43 (c : Dev nD) (t : Fin k0_t5_loop.trips) : k0_off43 c t = ![128 * (pk c 2).val + t.val, 0] := by revert c t; decide +kernel
theorem g_off45 (c : Dev nD) (t : Fin k0_t6_loop.trips) : k0_off45 c t = ![512 * (rOf c).val + (128 * (pk c 2).val + (112 + t.val))] := by revert c t; decide +kernel
theorem g_off46 (c : Dev nD) (t : Fin k0_t6_loop.trips) : k0_off46 c t = ![512 * (rOf c).val + (128 * (pk c 2).val + (112 + t.val))] := by revert c t; decide +kernel
theorem g_off47 (c : Dev nD) (t : Fin k0_t6_loop.trips) : k0_off47 c t = ![t.val] := by revert c t; decide +kernel
theorem g_off48 (c : Dev nD) (t : Fin k0_t6_loop.trips) : k0_off48 c t = ![128 * (pk c 2).val + (112 + t.val), 0] := by revert c t; decide +kernel
theorem g_ge7 (t : Fin k0_t5_loop.trips) : (Scalar.cmpi .sge (Scf.iv 0#32 1#32 t) 16#32 : BitVec 1) = if 16 ≤ t.val then 1#1 else 0#1 := by
  revert t; decide +kernel
theorem g_cond7 (c : Dev nD) (t : Fin k0_t5_loop.trips) (w : BitVec 32) : (k0_cond7 c t w = 1#1) ↔ (16 ≤ t.val ∧ Own c w) := by
  refine (Iff.of_eq (congrArg (· = 1#1) (show k0_cond7 c t w = Scalar.cmpi .ne (Scalar.extui (Scalar.andi (Scalar.cmpi .sge (Scf.iv 0#32 1#32 t) 16#32) (ownB c w))) 0#32 from rfl))).trans ?_
  rw [g_ge7 t]; exact and_own c w _
theorem g_cond8 (c : Dev nD) (w : BitVec 32) : (k0_cond8 c w = 1#1) ↔ Own c w := Iff.rfl
theorem g_cond9 (c : Dev nD) (w : BitVec 32) : (k0_cond9 c w = 1#1) ↔ Own c w := Iff.rfl

/-! Segment `zOf c`. -/

theorem g_off51 (c : Dev nD) (t : Fin k0_t7_loop.trips) : k0_off51 c t = ![512 * (rOf c).val + (128 * (zOf c).val + (t.val - 16))] := by revert c t; decide +kernel
theorem g_off52 (c : Dev nD) (t : Fin k0_t7_loop.trips) : k0_off52 c t = ![512 * (rOf c).val + (128 * (zOf c).val + (t.val - 16))] := by revert c t; decide +kernel
theorem g_off53 (c : Dev nD) (t : Fin k0_t7_loop.trips) : k0_off53 c t = ![(t.val - 16) % 16] := by revert c t; decide +kernel
theorem g_off54 (c : Dev nD) (t : Fin k0_t7_loop.trips) : k0_off54 c t = ![128 * (zOf c).val + (t.val - 16), 0] := by revert c t; decide +kernel
theorem g_off56 (c : Dev nD) (t : Fin k0_t7_loop.trips) : k0_off56 c t = ![512 * (rOf c).val + (128 * (zOf c).val + t.val)] := by revert c t; decide +kernel
theorem g_off57 (c : Dev nD) (t : Fin k0_t7_loop.trips) : k0_off57 c t = ![512 * (rOf c).val + (128 * (zOf c).val + t.val)] := by revert c t; decide +kernel
theorem g_off58 (c : Dev nD) (t : Fin k0_t7_loop.trips) : k0_off58 c t = ![t.val % 16] := by revert c t; decide +kernel
theorem g_off59 (c : Dev nD) (t : Fin k0_t7_loop.trips) : k0_off59 c t = ![128 * (zOf c).val + t.val, 0] := by revert c t; decide +kernel
theorem g_off61 (c : Dev nD) (t : Fin k0_t8_loop.trips) : k0_off61 c t = ![512 * (rOf c).val + (128 * (zOf c).val + (112 + t.val))] := by revert c t; decide +kernel
theorem g_off62 (c : Dev nD) (t : Fin k0_t8_loop.trips) : k0_off62 c t = ![512 * (rOf c).val + (128 * (zOf c).val + (112 + t.val))] := by revert c t; decide +kernel
theorem g_off63 (c : Dev nD) (t : Fin k0_t8_loop.trips) : k0_off63 c t = ![t.val] := by revert c t; decide +kernel
theorem g_off64 (c : Dev nD) (t : Fin k0_t8_loop.trips) : k0_off64 c t = ![128 * (zOf c).val + (112 + t.val), 0] := by revert c t; decide +kernel
theorem g_ge10 (t : Fin k0_t7_loop.trips) : (Scalar.cmpi .sge (Scf.iv 0#32 1#32 t) 16#32 : BitVec 1) = if 16 ≤ t.val then 1#1 else 0#1 := by
  revert t; decide +kernel
theorem g_cond10 (c : Dev nD) (t : Fin k0_t7_loop.trips) (w : BitVec 32) : (k0_cond10 c t w = 1#1) ↔ (16 ≤ t.val ∧ Own c w) := by
  refine (Iff.of_eq (congrArg (· = 1#1) (show k0_cond10 c t w = Scalar.cmpi .ne (Scalar.extui (Scalar.andi (Scalar.cmpi .sge (Scf.iv 0#32 1#32 t) 16#32) (ownB c w))) 0#32 from rfl))).trans ?_
  rw [g_ge10 t]; exact and_own c w _
theorem g_cond11 (c : Dev nD) (w : BitVec 32) : (k0_cond11 c w = 1#1) ↔ Own c w := Iff.rfl
theorem g_cond12 (c : Dev nD) (w : BitVec 32) : (k0_cond12 c w = 1#1) ↔ Own c w := Iff.rfl

end Cert.EmbedProof
-- ==== Proof.GatherTrips.lean ====
/-
The trips of the gather loops: a trip of a starting loop waits for the row sixteen before it and starts its own, a trip of a
waiting loop waits for one of the last sixteen rows.
-/
module

public import proofs.«01_k».proof.Proof.GatherRows
public import proofs.«01_k».proof.Proof.GatherOff

@[expose] public section

set_option maxRecDepth 8000

noncomputable section

namespace Cert.EmbedProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL allPays credOf)
open Idealize.ShloMosaic.ValueKit (rect_emb_unit_val)

variable {F : FTy → Type} [FloatOps F]

local notation "𝕄" => MT nD τ sig ℕ (Elt F) ℕ UU ℕ

variable (m : (ℓ : Loc nD τ sig) → Buf (Elt F) ℓ) (K : Dev nD × CK → ℕ)

/-- A trip of the starting loop of segment `pk c 0`. -/
theorem trip1 (c : Dev nD) {h0 h1 h2 h3 h5 h6 h11 h12 h13 h14} (v2 v5 v87 v91 v96 v97 : BitVec 32) (v102 : Sems sig S_) (v133 w1 w2 : BitVec 32) {pos : ℕ} (t : Fin k0_t1_loop.trips) (u : Unit) :
    iprop(records m K ∗ gInv m c (pk c 0) t.val ∗ idsAt m c ∗ Ow (F := F) c pos)
      ⊢ wpc c (k0_t1_body (F := F) (Memref.whole cc0_stg0_0) h0 (Memref.whole main_arg1) h1 (Memref.whole cc0_stg1_0) h2 (Memref.whole cc0_scratch0) h3 cc0_scratch1 (Memref.whole cc0_scratch2) h5 (Memref.whole cc0_scratch3) h6 cc0_scratch4 cc0_scratch5 cc0_scratch6 cc0_scratch7 (Memref.whole cc0_scratch8) h11 (Memref.whole cc0_scratch9) h12 (Memref.whole cc0_scratch10) h13 (Memref.whole cc0_scratch11) h14 cc0_scratch12 cc0_scratch13 cc0_scoped0 c v2 v5 v87 v91 v96 v97 v102 v133 w1 w2 t u) (fun _ => iprop(gInv m c (pk c 0) (t.val + 1) ∗ idsAt m c ∗ Ow (F := F) c pos)) := by
  have ht : t.val < 128 := t.isLt
  have hr := (rOf c).isLt
  have hg := (pk c 0).isLt
  unfold k0_t1_body
  simp only [smemLoad, smemLoadElt, Prog.lift, Prog.bind_op, Prog.bind_ret, Prog.pure_eq_ret, Prog.bind_assoc]
  iintro ⟨#HR, Hg, Hi, Ho⟩
  iapply (ids_load m (g_off1 c t) (by omega)) $$ Hi
  iintro Hi %f1 %hf1
  have e1 := hf1 (Shape.Idx.first (numel1_S1.symm ▸ Nat.one_pos))
  by_cases hc1 : k0_cond1 c t (f1 (Shape.Idx.first (numel1_S1.symm ▸ Nat.one_pos))) = 1#1
  · rw [dif_pos hc1]
    obtain ⟨ht16, h1⟩ := (g_cond1 c t _).1 hc1
    have hown : Own c (wS m c (pk c 0) (prev ⟨t.val, ht⟩)) := by rw [e1] at h1; exact h1
    ihave Hg1 := (gInv_late m c (pk c 0) ⟨t.val, ht⟩ ht16) $$ Hg
    icases Hg1 with ⟨Hp, Hb⟩
    iapply (ids_load m (g_off2 c t) (by omega)) $$ Hi
    iintro Hi %f0 %hf0
    have e0 := hf0 (Shape.Idx.first (numel1_S1.symm ▸ Nat.one_pos))
    have hown0 : Own c (f0 (Shape.Idx.first (numel1_S1.symm ▸ Nat.one_pos))) := by rw [e0]; exact hown
    iapply (wp_assume 𝒱₀ (c : Thread nD τ) none Set.univ (fun _ => own_inb hown0))
    iapply (wait_row m K (t := prev ⟨t.val, ht⟩) hown (g_off3 c t) rfl) $$ [Hp Ho]
    · isplitr; · iexact HR
      isplitl [Hp]; · iexact Hp
      iexact Ho
    iintro ⟨Hd, Hs, Ho⟩
    ihave Hg := Hb $$ [Hd Hs]
    · isplitl [Hd]; · iexact Hd
      iexact Hs
    iapply (ids_load m (g_off6 c t) (by omega)) $$ Hi
    iintro Hi %f2 %hf2
    have e2 := hf2 (Shape.Idx.first (numel1_S1.symm ▸ Nat.one_pos))
    ihave Hg2 := (gMid_start m c (pk c 0) ⟨t.val, ht⟩) $$ Hg
    icases Hg2 with ⟨Hs, Hb⟩
    by_cases hc2 : k0_cond2 c (f2 (Shape.Idx.first (numel1_S1.symm ▸ Nat.one_pos))) = 1#1
    · rw [dif_pos hc2]
      have hown : Own c (wS m c (pk c 0) ⟨t.val, ht⟩) := by
        have h := (g_cond2 c _).1 hc2
        rw [e2] at h; exact h
      iapply (ids_load m (g_off7 c t) (by omega)) $$ Hi
      iintro Hi %f3 %hf3
      have e3 := hf3 (Shape.Idx.first (numel1_S1.symm ▸ Nat.one_pos))
      have hown3 : Own c (f3 (Shape.Idx.first (numel1_S1.symm ▸ Nat.one_pos))) := by rw [e3]; exact hown
      iapply (wp_assume 𝒱₀ (c : Thread nD τ) none Set.univ (fun _ => own_inb hown3))
      iapply (start_step m (t := ⟨t.val, ht⟩) hown (g_off8 c t) (g_off9 c t) (by rw [e3]; exact off10_own hown)) $$ Hs
      iintro Hp
      iapply ret_step
      isplitl [Hp Hb]; · iapply Hb; iexact Hp
      isplitl [Hi]; · iexact Hi
      iexact Ho
    · rw [dif_neg hc2]
      have hown : ¬ Own c (wS m c (pk c 0) ⟨t.val, ht⟩) := fun h => hc2 ((g_cond2 c _).2 (by rw [e2]; exact h))
      iapply ret_step
      isplitl [Hs Hb]; · iapply Hb; iapply (start_not m hown); iexact Hs
      isplitl [Hi]; · iexact Hi
      iexact Ho
  · rw [dif_neg hc1]
    ihave Hg := (gInv_not m c (pk c 0) ⟨t.val, ht⟩ (fun h16 h => hc1 ((g_cond1 c t _).2 ⟨h16, by rw [e1]; exact h⟩))) $$ Hg
    iapply (ids_load m (g_off6 c t) (by omega)) $$ Hi
    iintro Hi %f2 %hf2
    have e2 := hf2 (Shape.Idx.first (numel1_S1.symm ▸ Nat.one_pos))
    ihave Hg2 := (gMid_start m c (pk c 0) ⟨t.val, ht⟩) $$ Hg
    icases Hg2 with ⟨Hs, Hb⟩
    by_cases hc2 : k0_cond2 c (f2 (Shape.Idx.first (numel1_S1.symm ▸ Nat.one_pos))) = 1#1
    · rw [dif_pos hc2]
      have hown : Own c (wS m c (pk c 0) ⟨t.val, ht⟩) := by
        have h := (g_cond2 c _).1 hc2
        rw [e2] at h; exact h
      iapply (ids_load m (g_off7 c t) (by omega)) $$ Hi
      iintro Hi %f3 %hf3
      have e3 := hf3 (Shape.Idx.first (numel1_S1.symm ▸ Nat.one_pos))
      have hown3 : Own c (f3 (Shape.Idx.first (numel1_S1.symm ▸ Nat.one_pos))) := by rw [e3]; exact hown
      iapply (wp_assume 𝒱₀ (c : Thread nD τ) none Set.univ (fun _ => own_inb hown3))
      iapply (start_step m (t := ⟨t.val, ht⟩) hown (g_off8 c t) (g_off9 c t) (by rw [e3]; exact off10_own hown)) $$ Hs
      iintro Hp
      iapply ret_step
      isplitl [Hp Hb]; · iapply Hb; iexact Hp
      isplitl [Hi]; · iexact Hi
      iexact Ho
    · rw [dif_neg hc2]
      have hown : ¬ Own c (wS m c (pk c 0) ⟨t.val, ht⟩) := fun h => hc2 ((g_cond2 c _).2 (by rw [e2]; exact h))
      iapply ret_step
      isplitl [Hs Hb]; · iapply Hb; iapply (start_not m hown); iexact Hs
      isplitl [Hi]; · iexact Hi
      iexact Ho

/-- A trip of the waiting loop of segment `pk c 0`. -/
theorem trip2 (c : Dev nD) {h0 h1 h2 h3 h5 h6 h11 h12 h13 h14} (v2 v5 v87 v91 v96 v97 : BitVec 32) (v102 : Sems sig S_) (v133 w1 w2 : BitVec 32) {pos : ℕ} (t : Fin k0_t2_loop.trips) (u : Unit) :
    iprop(records m K ∗ gEpi m c (pk c 0) t.val ∗ idsAt m c ∗ Ow (F := F) c pos)
      ⊢ wpc c (k0_t2_body (F := F) (Memref.whole cc0_stg0_0) h0 (Memref.whole main_arg1) h1 (Memref.whole cc0_stg1_0) h2 (Memref.whole cc0_scratch0) h3 cc0_scratch1 (Memref.whole cc0_scratch2) h5 (Memref.whole cc0_scratch3) h6 cc0_scratch4 cc0_scratch5 cc0_scratch6 cc0_scratch7 (Memref.whole cc0_scratch8) h11 (Memref.whole cc0_scratch9) h12 (Memref.whole cc0_scratch10) h13 (Memref.whole cc0_scratch11) h14 cc0_scratch12 cc0_scratch13 cc0_scoped0 c v2 v5 v87 v91 v96 v97 v102 v133 w1 w2 t u) (fun _ => iprop(gEpi m c (pk c 0) (t.val + 1) ∗ idsAt m c ∗ Ow (F := F) c pos)) := by
  have ht : t.val < 16 := t.isLt
  have hr := (rOf c).isLt
  have hg := (pk c 0).isLt
  unfold k0_t2_body
  simp only [smemLoad, smemLoadElt, Prog.lift, Prog.bind_op, Prog.bind_ret, Prog.pure_eq_ret, Prog.bind_assoc]
  iintro ⟨#HR, Hg, Hi, Ho⟩
  iapply (ids_load m (g_off11 c t) (by omega)) $$ Hi
  iintro Hi %f1 %hf1
  have e1 := hf1 (Shape.Idx.first (numel1_S1.symm ▸ Nat.one_pos))
  ihave Hg1 := (gEpi_wait m c (pk c 0) ⟨t.val, ht⟩) $$ Hg
  icases Hg1 with ⟨Hp, Hb⟩
  by_cases hc1 : k0_cond3 c (f1 (Shape.Idx.first (numel1_S1.symm ▸ Nat.one_pos))) = 1#1
  · rw [dif_pos hc1]
    have h1 := (g_cond3 c _).1 hc1
    have hown : Own c (wS m c (pk c 0) (last ⟨t.val, ht⟩)) := by rw [e1] at h1; exact h1
    iapply (ids_load m (g_off12 c t) (by omega)) $$ Hi
    iintro Hi %f0 %hf0
    have e0 := hf0 (Shape.Idx.first (numel1_S1.symm ▸ Nat.one_pos))
    have hown0 : Own c (f0 (Shape.Idx.first (numel1_S1.symm ▸ Nat.one_pos))) := by rw [e0]; exact hown
    iapply (wp_assume 𝒱₀ (c : Thread nD τ) none Set.univ (fun _ => own_inb hown0))
    iapply (wait_row m K (t := last ⟨t.val, ht⟩) hown (o3_last (g_off13 c t)) rfl) $$ [Hp Ho]
    · isplitr; · iexact HR
      isplitl [Hp]; · iexact Hp
      iexact Ho
    iintro ⟨Hd, Hs, Ho⟩
    iapply ret_step
    isplitl [Hd Hs Hb]
    · iapply Hb
      isplitl [Hd]; · iexact Hd
      iexact Hs
    isplitl [Hi]; · iexact Hi
    iexact Ho
  · rw [dif_neg hc1]
    have hown : ¬ Own c (wS m c (pk c 0) (last ⟨t.val, ht⟩)) := fun h => hc1 ((g_cond3 c _).2 (by rw [e1]; exact h))
    ihave Hp := (Entails.of_eq (Pend_not m hown)) $$ Hp
    iapply ret_step
    isplitl [Hp Hb]; · iapply Hb; iexact Hp
    isplitl [Hi]; · iexact Hi
    iexact Ho

/-- A trip of the starting loop of segment `pk c 1`. -/
theorem trip3 (c : Dev nD) {h0 h1 h2 h3 h5 h6 h11 h12 h13 h14} (v2 v5 v87 v91 v96 v97 : BitVec 32) (v102 : Sems sig S_) (v133 w1 w2 : BitVec 32) {pos : ℕ} (t : Fin k0_t3_loop.trips) (u : Unit) :
    iprop(records m K ∗ gInv m c (pk c 1) t.val ∗ idsAt m c ∗ Ow (F := F) c pos)
      ⊢ wpc c (k0_t3_body (F := F) (Memref.whole cc0_stg0_0) h0 (Memref.whole main_arg1) h1 (Memref.whole cc0_stg1_0) h2 (Memref.whole cc0_scratch0) h3 cc0_scratch1 (Memref.whole cc0_scratch2) h5 (Memref.whole cc0_scratch3) h6 cc0_scratch4 cc0_scratch5 cc0_scratch6 cc0_scratch7 (Memref.whole cc0_scratch8) h11 (Memref.whole cc0_scratch9) h12 (Memref.whole cc0_scratch10) h13 (Memref.whole cc0_scratch11) h14 cc0_scratch12 cc0_scratch13 cc0_scoped0 c v2 v5 v87 v91 v96 v97 v102 v133 w1 w2 t u) (fun _ => iprop(gInv m c (pk c 1) (t.val + 1) ∗ idsAt m c ∗ Ow (F := F) c pos)) := by
  have ht : t.val < 128 := t.isLt
  have hr := (rOf c).isLt
  have hg := (pk c 1).isLt
  unfold k0_t3_body
  simp only [smemLoad, smemLoadElt, Prog.lift, Prog.bind_op, Prog.bind_ret, Prog.pure_eq_ret, Prog.bind_assoc]
  iintro ⟨#HR, Hg, Hi, Ho⟩
  iapply (ids_load m (g_off19 c t) (by omega)) $$ Hi
  iintro Hi %f1 %hf1
  have e1 := hf1 (Shape.Idx.first (numel1_S1.symm ▸ Nat.one_pos))
  by_cases hc1 : k0_cond4 c t (f1 (Shape.Idx.first (numel1_S1.symm ▸ Nat.one_pos))) = 1#1
  · rw [dif_pos hc1]
    obtain ⟨ht16, h1⟩ := (g_cond4 c t _).1 hc1
    have hown : Own c (wS m c (pk c 1) (prev ⟨t.val, ht⟩)) := by rw [e1] at h1; exact h1
    ihave Hg1 := (gInv_late m c (pk c 1) ⟨t.val, ht⟩ ht16) $$ Hg
    icases Hg1 with ⟨Hp, Hb⟩
    iapply (ids_load m (g_off20 c t) (by omega)) $$ Hi
    iintro Hi %f0 %hf0
    have e0 := hf0 (Shape.Idx.first (numel1_S1.symm ▸ Nat.one_pos))
    have hown0 : Own c (f0 (Shape.Idx.first (numel1_S1.symm ▸ Nat.one_pos))) := by rw [e0]; exact hown
    iapply (wp_assume 𝒱₀ (c : Thread nD τ) none Set.univ (fun _ => own_inb hown0))
    iapply (wait_row m K (t := prev ⟨t.val, ht⟩) hown (g_off21 c t) rfl) $$ [Hp Ho]
    · isplitr; · iexact HR
      isplitl [Hp]; · iexact Hp
      iexact Ho
    iintro ⟨Hd, Hs, Ho⟩
    ihave Hg := Hb $$ [Hd Hs]
    · isplitl [Hd]; · iexact Hd
      iexact Hs
    iapply (ids_load m (g_off24 c t) (by omega)) $$ Hi
    iintro Hi %f2 %hf2
    have e2 := hf2 (Shape.Idx.first (numel1_S1.symm ▸ Nat.one_pos))
    ihave Hg2 := (gMid_start m c (pk c 1) ⟨t.val, ht⟩) $$ Hg
    icases Hg2 with ⟨Hs, Hb⟩
    by_cases hc2 : k0_cond5 c (f2 (Shape.Idx.first (numel1_S1.symm ▸ Nat.one_pos))) = 1#1
    · rw [dif_pos hc2]
      have hown : Own c (wS m c (pk c 1) ⟨t.val, ht⟩) := by
        have h := (g_cond5 c _).1 hc2
        rw [e2] at h; exact h
      iapply (ids_load m (g_off25 c t) (by omega)) $$ Hi
      iintro Hi %f3 %hf3
      have e3 := hf3 (Shape.Idx.first (numel1_S1.symm ▸ Nat.one_pos))
      have hown3 : Own c (f3 (Shape.Idx.first (numel1_S1.symm ▸ Nat.one_pos))) := by rw [e3]; exact hown
      iapply (wp_assume 𝒱₀ (c : Thread nD τ) none Set.univ (fun _ => own_inb hown3))
      iapply (start_step m (t := ⟨t.val, ht⟩) hown (g_off26 c t) (g_off27 c t) (by rw [e3]; exact off10_own hown)) $$ Hs
      iintro Hp
      iapply ret_step
      isplitl [Hp Hb]; · iapply Hb; iexact Hp
      isplitl [Hi]; · iexact Hi
      iexact Ho
    · rw [dif_neg hc2]
      have hown : ¬ Own c (wS m c (pk c 1) ⟨t.val, ht⟩) := fun h => hc2 ((g_cond5 c _).2 (by rw [e2]; exact h))
      iapply ret_step
      isplitl [Hs Hb]; · iapply Hb; iapply (start_not m hown); iexact Hs
      isplitl [Hi]; · iexact Hi
      iexact Ho
  · rw [dif_neg hc1]
    ihave Hg := (gInv_not m c (pk c 1) ⟨t.val, ht⟩ (fun h16 h => hc1 ((g_cond4 c t _).2 ⟨h16, by rw [e1]; exact h⟩))) $$ Hg
    iapply (ids_load m (g_off24 c t) (by omega)) $$ Hi
    iintro Hi %f2 %hf2
    have e2 := hf2 (Shape.Idx.first (numel1_S1.symm ▸ Nat.one_pos))
    ihave Hg2 := (gMid_start m c (pk c 1) ⟨t.val, ht⟩) $$ Hg
    icases Hg2 with ⟨Hs, Hb⟩
    by_cases hc2 : k0_cond5 c (f2 (Shape.Idx.first (numel1_S1.symm ▸ Nat.one_pos))) = 1#1
    · rw [dif_pos hc2]
      have hown : Own c (wS m c (pk c 1) ⟨t.val, ht⟩) := by
        have h := (g_cond5 c _).1 hc2
        rw [e2] at h; exact h
      iapply (ids_load m (g_off25 c t) (by omega)) $$ Hi
      iintro Hi %f3 %hf3
      have e3 := hf3 (Shape.Idx.first (numel1_S1.symm ▸ Nat.one_pos))
      have hown3 : Own c (f3 (Shape.Idx.first (numel1_S1.symm ▸ Nat.one_pos))) := by rw [e3]; exact hown
      iapply (wp_assume 𝒱₀ (c : Thread nD τ) none Set.univ (fun _ => own_inb hown3))
      iapply (start_step m (t := ⟨t.val, ht⟩) hown (g_off26 c t) (g_off27 c t) (by rw [e3]; exact off10_own hown)) $$ Hs
      iintro Hp
      iapply ret_step
      isplitl [Hp Hb]; · iapply Hb; iexact Hp
      isplitl [Hi]; · iexact Hi
      iexact Ho
    · rw [dif_neg hc2]
      have hown : ¬ Own c (wS m c (pk c 1) ⟨t.val, ht⟩) := fun h => hc2 ((g_cond5 c _).2 (by rw [e2]; exact h))
      iapply ret_step
      isplitl [Hs Hb]; · iapply Hb; iapply (start_not m hown); iexact Hs
      isplitl [Hi]; · iexact Hi
      iexact Ho

/-- A trip of the waiting loop of segment `pk c 1`. -/
theorem trip4 (c : Dev nD) {h0 h1 h2 h3 h5 h6 h11 h12 h13 h14} (v2 v5 v87 v91 v96 v97 : BitVec 32) (v102 : Sems sig S_) (v133 w1 w2 : BitVec 32) {pos : ℕ} (t : Fin k0_t4_loop.trips) (u : Unit) :
    iprop(records m K ∗ gEpi m c (pk c 1) t.val ∗ idsAt m c ∗ Ow (F := F) c pos)
      ⊢ wpc c (k0_t4_body (F := F) (Memref.whole cc0_stg0_0) h0 (Memref.whole main_arg1) h1 (Memref.whole cc0_stg1_0) h2 (Memref.whole cc0_scratch0) h3 cc0_scratch1 (Memref.whole cc0_scratch2) h5 (Memref.whole cc0_scratch3) h6 cc0_scratch4 cc0_scratch5 cc0_scratch6 cc0_scratch7 (Memref.whole cc0_scratch8) h11 (Memref.whole cc0_scratch9) h12 (Memref.whole cc0_scratch10) h13 (Memref.whole cc0_scratch11) h14 cc0_scratch12 cc0_scratch13 cc0_scoped0 c v2 v5 v87 v91 v96 v97 v102 v133 w1 w2 t u) (fun _ => iprop(gEpi m c (pk c 1) (t.val + 1) ∗ idsAt m c ∗ Ow (F := F) c pos)) := by
  have ht : t.val < 16 := t.isLt
  have hr := (rOf c).isLt
  have hg := (pk c 1).isLt
  unfold k0_t4_body
  simp only [smemLoad, smemLoadElt, Prog.lift, Prog.bind_op, Prog.bind_ret, Prog.pure_eq_ret, Prog.bind_assoc]
  iintro ⟨#HR, Hg, Hi, Ho⟩
  iapply (ids_load m (g_off29 c t) (by omega)) $$ Hi
  iintro Hi %f1 %hf1
  have e1 := hf1 (Shape.Idx.first (numel1_S1.symm ▸ Nat.one_pos))
  ihave Hg1 := (gEpi_wait m c (pk c 1) ⟨t.val, ht⟩) $$ Hg
  icases Hg1 with ⟨Hp, Hb⟩
  by_cases hc1 : k0_cond6 c (f1 (Shape.Idx.first (numel1_S1.symm ▸ Nat.one_pos))) = 1#1
  · rw [dif_pos hc1]
    have h1 := (g_cond6 c _).1 hc1
    have hown : Own c (wS m c (pk c 1) (last ⟨t.val, ht⟩)) := by rw [e1] at h1; exact h1
    iapply (ids_load m (g_off30 c t) (by omega)) $$ Hi
    iintro Hi %f0 %hf0
    have e0 := hf0 (Shape.Idx.first (numel1_S1.symm ▸ Nat.one_pos))
    have hown0 : Own c (f0 (Shape.Idx.first (numel1_S1.symm ▸ Nat.one_pos))) := by rw [e0]; exact hown
    iapply (wp_assume 𝒱₀ (c : Thread nD τ) none Set.univ (fun _ => own_inb hown0))
    iapply (wait_row m K (t := last ⟨t.val, ht⟩) hown (o3_last (g_off31 c t)) rfl) $$ [Hp Ho]
    · isplitr; · iexact HR
      isplitl [Hp]; · iexact Hp
      iexact Ho
    iintro ⟨Hd, Hs, Ho⟩
    iapply ret_step
    isplitl [Hd Hs Hb]
    · iapply Hb
      isplitl [Hd]; · iexact Hd
      iexact Hs
    isplitl [Hi]; · iexact Hi
    iexact Ho
  · rw [dif_neg hc1]
    have hown : ¬ Own c (wS m c (pk c 1) (last ⟨t.val, ht⟩)) := fun h => hc1 ((g_cond6 c _).2 (by rw [e1]; exact h))
    ihave Hp := (Entails.of_eq (Pend_not m hown)) $$ Hp
    iapply ret_step
    isplitl [Hp Hb]; · iapply Hb; iexact Hp
    isplitl [Hi]; · iexact Hi
    iexact Ho

/-- A trip of the starting loop of segment `pk c 2`. -/
theorem trip5 (c : Dev nD) {h0 h1 h2 h3 h5 h6 h11 h12 h13 h14} (v2 v5 v8 v91 v95 v96 v97 v157 w1 : BitVec 32) {pos : ℕ} (t : Fin k0_t5_loop.trips) (u : Unit) :
    iprop(records m K ∗ gInv m c (pk c 2) t.val ∗ idsAt m c ∗ Ow (F := F) c pos)
      ⊢ wpc c (k0_t5_body (F := F) (Memref.whole cc0_stg0_0) h0 (Memref.whole main_arg1) h1 (Memref.whole cc0_stg1_0) h2 (Memref.whole cc0_scratch0) h3 cc0_scratch1 (Memref.whole cc0_scratch2) h5 (Memref.whole cc0_scratch3) h6 cc0_scratch4 cc0_scratch5 cc0_scratch6 cc0_scratch7 (Memref.whole cc0_scratch8) h11 (Memref.whole cc0_scratch9) h12 (Memref.whole cc0_scratch10) h13 (Memref.whole cc0_scratch11) h14 cc0_scratch12 cc0_scratch13 cc0_scoped0 c v2 v5 v8 v91 v95 v96 v97 v157 w1 t u) (fun _ => iprop(gInv m c (pk c 2) (t.val + 1) ∗ idsAt m c ∗ Ow (F := F) c pos)) := by
  have ht : t.val < 128 := t.isLt
  have hr := (rOf c).isLt
  have hg := (pk c 2).isLt
  unfold k0_t5_body
  simp only [smemLoad, smemLoadElt, Prog.lift, Prog.bind_op, Prog.bind_ret, Prog.pure_eq_ret, Prog.bind_assoc]
  iintro ⟨#HR, Hg, Hi, Ho⟩
  iapply (ids_load m (g_off35 c t) (by omega)) $$ Hi
  iintro Hi %f1 %hf1
  have e1 := hf1 (Shape.Idx.first (numel1_S1.symm ▸ Nat.one_pos))
  by_cases hc1 : k0_cond7 c t (f1 (Shape.Idx.first (numel1_S1.symm ▸ Nat.one_pos))) = 1#1
  · rw [dif_pos hc1]
    obtain ⟨ht16, h1⟩ := (g_cond7 c t _).1 hc1
    have hown : Own c (wS m c (pk c 2) (prev ⟨t.val, ht⟩)) := by rw [e1] at h1; exact h1
    ihave Hg1 := (gInv_late m c (pk c 2) ⟨t.val, ht⟩ ht16) $$ Hg
    icases Hg1 with ⟨Hp, Hb⟩
    iapply (ids_load m (g_off36 c t) (by omega)) $$ Hi
    iintro Hi %f0 %hf0
    have e0 := hf0 (Shape.Idx.first (numel1_S1.symm ▸ Nat.one_pos))
    have hown0 : Own c (f0 (Shape.Idx.first (numel1_S1.symm ▸ Nat.one_pos))) := by rw [e0]; exact hown
    iapply (wp_assume 𝒱₀ (c : Thread nD τ) none Set.univ (fun _ => own_inb hown0))
    iapply (wait_row m K (t := prev ⟨t.val, ht⟩) hown (g_off37 c t) rfl) $$ [Hp Ho]
    · isplitr; · iexact HR
      isplitl [Hp]; · iexact Hp
      iexact Ho
    iintro ⟨Hd, Hs, Ho⟩
    ihave Hg := Hb $$ [Hd Hs]
    · isplitl [Hd]; · iexact Hd
      iexact Hs
    iapply (ids_load m (g_off40 c t) (by omega)) $$ Hi
    iintro Hi %f2 %hf2
    have e2 := hf2 (Shape.Idx.first (numel1_S1.symm ▸ Nat.one_pos))
    ihave Hg2 := (gMid_start m c (pk c 2) ⟨t.val, ht⟩) $$ Hg
    icases Hg2 with ⟨Hs, Hb⟩
    by_cases hc2 : k0_cond8 c (f2 (Shape.Idx.first (numel1_S1.symm ▸ Nat.one_pos))) = 1#1
    · rw [dif_pos hc2]
      have hown : Own c (wS m c (pk c 2) ⟨t.val, ht⟩) := by
        have h := (g_cond8 c _).1 hc2
        rw [e2] at h; exact h
      iapply (ids_load m (g_off41 c t) (by omega)) $$ Hi
      iintro Hi %f3 %hf3
      have e3 := hf3 (Shape.Idx.first (numel1_S1.symm ▸ Nat.one_pos))
      have hown3 : Own c (f3 (Shape.Idx.first (numel1_S1.symm ▸ Nat.one_pos))) := by rw [e3]; exact hown
      iapply (wp_assume 𝒱₀ (c : Thread nD τ) none Set.univ (fun _ => own_inb hown3))
      iapply (start_step m (t := ⟨t.val, ht⟩) hown (g_off42 c t) (g_off43 c t) (by rw [e3]; exact off10_own hown)) $$ Hs
      iintro Hp
      iapply ret_step
      isplitl [Hp Hb]; · iapply Hb; iexact Hp
      isplitl [Hi]; · iexact Hi
      iexact Ho
    · rw [dif_neg hc2]
      have hown : ¬ Own c (wS m c (pk c 2) ⟨t.val, ht⟩) := fun h => hc2 ((g_cond8 c _).2 (by rw [e2]; exact h))
      iapply ret_step
      isplitl [Hs Hb]; · iapply Hb; iapply (start_not m hown); iexact Hs
      isplitl [Hi]; · iexact Hi
      iexact Ho
  · rw [dif_neg hc1]
    ihave Hg := (gInv_not m c (pk c 2) ⟨t.val, ht⟩ (fun h16 h => hc1 ((g_cond7 c t _).2 ⟨h16, by rw [e1]; exact h⟩))) $$ Hg
    iapply (ids_load m (g_off40 c t) (by omega)) $$ Hi
    iintro Hi %f2 %hf2
    have e2 := hf2 (Shape.Idx.first (numel1_S1.symm ▸ Nat.one_pos))
    ihave Hg2 := (gMid_start m c (pk c 2) ⟨t.val, ht⟩) $$ Hg
    icases Hg2 with ⟨Hs, Hb⟩
    by_cases hc2 : k0_cond8 c (f2 (Shape.Idx.first (numel1_S1.symm ▸ Nat.one_pos))) = 1#1
    · rw [dif_pos hc2]
      have hown : Own c (wS m c (pk c 2) ⟨t.val, ht⟩) := by
        have h := (g_cond8 c _).1 hc2
        rw [e2] at h; exact h
      iapply (ids_load m (g_off41 c t) (by omega)) $$ Hi
      iintro Hi %f3 %hf3
      have e3 := hf3 (Shape.Idx.first (numel1_S1.symm ▸ Nat.one_pos))
      have hown3 : Own c (f3 (Shape.Idx.first (numel1_S1.symm ▸ Nat.one_pos))) := by rw [e3]; exact hown
      iapply (wp_assume 𝒱₀ (c : Thread nD τ) none Set.univ (fun _ => own_inb hown3))
      iapply (start_step m (t := ⟨t.val, ht⟩) hown (g_off42 c t) (g_off43 c t) (by rw [e3]; exact off10_own hown)) $$ Hs
      iintro Hp
      iapply ret_step
      isplitl [Hp Hb]; · iapply Hb; iexact Hp
      isplitl [Hi]; · iexact Hi
      iexact Ho
    · rw [dif_neg hc2]
      have hown : ¬ Own c (wS m c (pk c 2) ⟨t.val, ht⟩) := fun h => hc2 ((g_cond8 c _).2 (by rw [e2]; exact h))
      iapply ret_step
      isplitl [Hs Hb]; · iapply Hb; iapply (start_not m hown); iexact Hs
      isplitl [Hi]; · iexact Hi
      iexact Ho

/-- A trip of the waiting loop of segment `pk c 2`. -/
theorem trip6 (c : Dev nD) {h0 h1 h2 h3 h5 h6 h11 h12 h13 h14} (v2 v5 v8 v91 v95 v96 v97 v157 w1 : BitVec 32) {pos : ℕ} (t : Fin k0_t6_loop.trips) (u : Unit) :
    iprop(records m K ∗ gEpi m c (pk c 2) t.val ∗ idsAt m c ∗ Ow (F := F) c pos)
      ⊢ wpc c (k0_t6_body (F := F) (Memref.whole cc0_stg0_0) h0 (Memref.whole main_arg1) h1 (Memref.whole cc0_stg1_0) h2 (Memref.whole cc0_scratch0) h3 cc0_scratch1 (Memref.whole cc0_scratch2) h5 (Memref.whole cc0_scratch3) h6 cc0_scratch4 cc0_scratch5 cc0_scratch6 cc0_scratch7 (Memref.whole cc0_scratch8) h11 (Memref.whole cc0_scratch9) h12 (Memref.whole cc0_scratch10) h13 (Memref.whole cc0_scratch11) h14 cc0_scratch12 cc0_scratch13 cc0_scoped0 c v2 v5 v8 v91 v95 v96 v97 v157 w1 t u) (fun _ => iprop(gEpi m c (pk c 2) (t.val + 1) ∗ idsAt m c ∗ Ow (F := F) c pos)) := by
  have ht : t.val < 16 := t.isLt
  have hr := (rOf c).isLt
  have hg := (pk c 2).isLt
  unfold k0_t6_body
  simp only [smemLoad, smemLoadElt, Prog.lift, Prog.bind_op, Prog.bind_ret, Prog.pure_eq_ret, Prog.bind_assoc]
  iintro ⟨#HR, Hg, Hi, Ho⟩
  iapply (ids_load m (g_off45 c t) (by omega)) $$ Hi
  iintro Hi %f1 %hf1
  have e1 := hf1 (Shape.Idx.first (numel1_S1.symm ▸ Nat.one_pos))
  ihave Hg1 := (gEpi_wait m c (pk c 2) ⟨t.val, ht⟩) $$ Hg
  icases Hg1 with ⟨Hp, Hb⟩
  by_cases hc1 : k0_cond9 c (f1 (Shape.Idx.first (numel1_S1.symm ▸ Nat.one_pos))) = 1#1
  · rw [dif_pos hc1]
    have h1 := (g_cond9 c _).1 hc1
    have hown : Own c (wS m c (pk c 2) (last ⟨t.val, ht⟩)) := by rw [e1] at h1; exact h1
    iapply (ids_load m (g_off46 c t) (by omega)) $$ Hi
    iintro Hi %f0 %hf0
    have e0 := hf0 (Shape.Idx.first (numel1_S1.symm ▸ Nat.one_pos))
    have hown0 : Own c (f0 (Shape.Idx.first (numel1_S1.symm ▸ Nat.one_pos))) := by rw [e0]; exact hown
    iapply (wp_assume 𝒱₀ (c : Thread nD τ) none Set.univ (fun _ => own_inb hown0))
    iapply (wait_row m K (t := last ⟨t.val, ht⟩) hown (o3_last (g_off47 c t)) rfl) $$ [Hp Ho]
    · isplitr; · iexact HR
      isplitl [Hp]; · iexact Hp
      iexact Ho
    iintro ⟨Hd, Hs, Ho⟩
    iapply ret_step
    isplitl [Hd Hs Hb]
    · iapply Hb
      isplitl [Hd]; · iexact Hd
      iexact Hs
    isplitl [Hi]; · iexact Hi
    iexact Ho
  · rw [dif_neg hc1]
    have hown : ¬ Own c (wS m c (pk c 2) (last ⟨t.val, ht⟩)) := fun h => hc1 ((g_cond9 c _).2 (by rw [e1]; exact h))
    ihave Hp := (Entails.of_eq (Pend_not m hown)) $$ Hp
    iapply ret_step
    isplitl [Hp Hb]; · iapply Hb; iexact Hp
    isplitl [Hi]; · iexact Hi
    iexact Ho

/-- A trip of the starting loop of segment `zOf c`. -/
theorem trip7 (c : Dev nD) {h0 h1 h2 h3 h5 h6 h11 h12 h13 h14} (v2 v5 v8 v91 v95 v96 v97 v157 w1 : BitVec 32) {pos : ℕ} (t : Fin k0_t7_loop.trips) (u : Unit) :
    iprop(records m K ∗ gInv m c (zOf c) t.val ∗ idsAt m c ∗ Ow (F := F) c pos)
      ⊢ wpc c (k0_t7_body (F := F) (Memref.whole cc0_stg0_0) h0 (Memref.whole main_arg1) h1 (Memref.whole cc0_stg1_0) h2 (Memref.whole cc0_scratch0) h3 cc0_scratch1 (Memref.whole cc0_scratch2) h5 (Memref.whole cc0_scratch3) h6 cc0_scratch4 cc0_scratch5 cc0_scratch6 cc0_scratch7 (Memref.whole cc0_scratch8) h11 (Memref.whole cc0_scratch9) h12 (Memref.whole cc0_scratch10) h13 (Memref.whole cc0_scratch11) h14 cc0_scratch12 cc0_scratch13 cc0_scoped0 c v2 v5 v8 v91 v95 v96 v97 v157 w1 t u) (fun _ => iprop(gInv m c (zOf c) (t.val + 1) ∗ idsAt m c ∗ Ow (F := F) c pos)) := by
  have ht : t.val < 128 := t.isLt
  have hr := (rOf c).isLt
  have hg := (zOf c).isLt
  unfold k0_t7_body
  simp only [smemLoad, smemLoadElt, Prog.lift, Prog.bind_op, Prog.bind_ret, Prog.pure_eq_ret, Prog.bind_assoc]
  iintro ⟨#HR, Hg, Hi, Ho⟩
  iapply (ids_load m (g_off51 c t) (by omega)) $$ Hi
  iintro Hi %f1 %hf1
  have e1 := hf1 (Shape.Idx.first (numel1_S1.symm ▸ Nat.one_pos))
  by_cases hc1 : k0_cond10 c t (f1 (Shape.Idx.first (numel1_S1.symm ▸ Nat.one_pos))) = 1#1
  · rw [dif_pos hc1]
    obtain ⟨ht16, h1⟩ := (g_cond10 c t _).1 hc1
    have hown : Own c (wS m c (zOf c) (prev ⟨t.val, ht⟩)) := by rw [e1] at h1; exact h1
    ihave Hg1 := (gInv_late m c (zOf c) ⟨t.val, ht⟩ ht16) $$ Hg
    icases Hg1 with ⟨Hp, Hb⟩
    iapply (ids_load m (g_off52 c t) (by omega)) $$ Hi
    iintro Hi %f0 %hf0
    have e0 := hf0 (Shape.Idx.first (numel1_S1.symm ▸ Nat.one_pos))
    have hown0 : Own c (f0 (Shape.Idx.first (numel1_S1.symm ▸ Nat.one_pos))) := by rw [e0]; exact hown
    iapply (wp_assume 𝒱₀ (c : Thread nD τ) none Set.univ (fun _ => own_inb hown0))
    iapply (wait_row m K (t := prev ⟨t.val, ht⟩) hown (g_off53 c t) rfl) $$ [Hp Ho]
    · isplitr; · iexact HR
      isplitl [Hp]; · iexact Hp
      iexact Ho
    iintro ⟨Hd, Hs, Ho⟩
    ihave Hg := Hb $$ [Hd Hs]
    · isplitl [Hd]; · iexact Hd
      iexact Hs
    iapply (ids_load m (g_off56 c t) (by omega)) $$ Hi
    iintro Hi %f2 %hf2
    have e2 := hf2 (Shape.Idx.first (numel1_S1.symm ▸ Nat.one_pos))
    ihave Hg2 := (gMid_start m c (zOf c) ⟨t.val, ht⟩) $$ Hg
    icases Hg2 with ⟨Hs, Hb⟩
    by_cases hc2 : k0_cond11 c (f2 (Shape.Idx.first (numel1_S1.symm ▸ Nat.one_pos))) = 1#1
    · rw [dif_pos hc2]
      have hown : Own c (wS m c (zOf c) ⟨t.val, ht⟩) := by
        have h := (g_cond11 c _).1 hc2
        rw [e2] at h; exact h
      iapply (ids_load m (g_off57 c t) (by omega)) $$ Hi
      iintro Hi %f3 %hf3
      have e3 := hf3 (Shape.Idx.first (numel1_S1.symm ▸ Nat.one_pos))
      have hown3 : Own c (f3 (Shape.Idx.first (numel1_S1.symm ▸ Nat.one_pos))) := by rw [e3]; exact hown
      iapply (wp_assume 𝒱₀ (c : Thread nD τ) none Set.univ (fun _ => own_inb hown3))
      iapply (start_step m (t := ⟨t.val, ht⟩) hown (g_off58 c t) (g_off59 c t) (by rw [e3]; exact off10_own hown)) $$ Hs
      iintro Hp
      iapply ret_step
      isplitl [Hp Hb]; · iapply Hb; iexact Hp
      isplitl [Hi]; · iexact Hi
      iexact Ho
    · rw [dif_neg hc2]
      have hown : ¬ Own c (wS m c (zOf c) ⟨t.val, ht⟩) := fun h => hc2 ((g_cond11 c _).2 (by rw [e2]; exact h))
      iapply ret_step
      isplitl [Hs Hb]; · iapply Hb; iapply (start_not m hown); iexact Hs
      isplitl [Hi]; · iexact Hi
      iexact Ho
  · rw [dif_neg hc1]
    ihave Hg := (gInv_not m c (zOf c) ⟨t.val, ht⟩ (fun h16 h => hc1 ((g_cond10 c t _).2 ⟨h16, by rw [e1]; exact h⟩))) $$ Hg
    iapply (ids_load m (g_off56 c t) (by omega)) $$ Hi
    iintro Hi %f2 %hf2
    have e2 := hf2 (Shape.Idx.first (numel1_S1.symm ▸ Nat.one_pos))
    ihave Hg2 := (gMid_start m c (zOf c) ⟨t.val, ht⟩) $$ Hg
    icases Hg2 with ⟨Hs, Hb⟩
    by_cases hc2 : k0_cond11 c (f2 (Shape.Idx.first (numel1_S1.symm ▸ Nat.one_pos))) = 1#1
    · rw [dif_pos hc2]
      have hown : Own c (wS m c (zOf c) ⟨t.val, ht⟩) := by
        have h := (g_cond11 c _).1 hc2
        rw [e2] at h; exact h
      iapply (ids_load m (g_off57 c t) (by omega)) $$ Hi
      iintro Hi %f3 %hf3
      have e3 := hf3 (Shape.Idx.first (numel1_S1.symm ▸ Nat.one_pos))
      have hown3 : Own c (f3 (Shape.Idx.first (numel1_S1.symm ▸ Nat.one_pos))) := by rw [e3]; exact hown
      iapply (wp_assume 𝒱₀ (c : Thread nD τ) none Set.univ (fun _ => own_inb hown3))
      iapply (start_step m (t := ⟨t.val, ht⟩) hown (g_off58 c t) (g_off59 c t) (by rw [e3]; exact off10_own hown)) $$ Hs
      iintro Hp
      iapply ret_step
      isplitl [Hp Hb]; · iapply Hb; iexact Hp
      isplitl [Hi]; · iexact Hi
      iexact Ho
    · rw [dif_neg hc2]
      have hown : ¬ Own c (wS m c (zOf c) ⟨t.val, ht⟩) := fun h => hc2 ((g_cond11 c _).2 (by rw [e2]; exact h))
      iapply ret_step
      isplitl [Hs Hb]; · iapply Hb; iapply (start_not m hown); iexact Hs
      isplitl [Hi]; · iexact Hi
      iexact Ho

/-- A trip of the waiting loop of segment `zOf c`. -/
theorem trip8 (c : Dev nD) {h0 h1 h2 h3 h5 h6 h11 h12 h13 h14} (v2 v5 v81 v83 v85 v96 v97 v184 w1 : BitVec 32) {pos : ℕ} (t : Fin k0_t8_loop.trips) (u : Unit) :
    iprop(records m K ∗ gEpi m c (zOf c) t.val ∗ idsAt m c ∗ Ow (F := F) c pos)
      ⊢ wpc c (k0_t8_body (F := F) (Memref.whole cc0_stg0_0) h0 (Memref.whole main_arg1) h1 (Memref.whole cc0_stg1_0) h2 (Memref.whole cc0_scratch0) h3 cc0_scratch1 (Memref.whole cc0_scratch2) h5 (Memref.whole cc0_scratch3) h6 cc0_scratch4 cc0_scratch5 cc0_scratch6 cc0_scratch7 (Memref.whole cc0_scratch8) h11 (Memref.whole cc0_scratch9) h12 (Memref.whole cc0_scratch10) h13 (Memref.whole cc0_scratch11) h14 cc0_scratch12 cc0_scratch13 cc0_scoped0 c v2 v5 v81 v83 v85 v96 v97 v184 w1 t u) (fun _ => iprop(gEpi m c (zOf c) (t.val + 1) ∗ idsAt m c ∗ Ow (F := F) c pos)) := by
  have ht : t.val < 16 := t.isLt
  have hr := (rOf c).isLt
  have hg := (zOf c).isLt
  unfold k0_t8_body
  simp only [smemLoad, smemLoadElt, Prog.lift, Prog.bind_op, Prog.bind_ret, Prog.pure_eq_ret, Prog.bind_assoc]
  iintro ⟨#HR, Hg, Hi, Ho⟩
  iapply (ids_load m (g_off61 c t) (by omega)) $$ Hi
  iintro Hi %f1 %hf1
  have e1 := hf1 (Shape.Idx.first (numel1_S1.symm ▸ Nat.one_pos))
  ihave Hg1 := (gEpi_wait m c (zOf c) ⟨t.val, ht⟩) $$ Hg
  icases Hg1 with ⟨Hp, Hb⟩
  by_cases hc1 : k0_cond12 c (f1 (Shape.Idx.first (numel1_S1.symm ▸ Nat.one_pos))) = 1#1
  · rw [dif_pos hc1]
    have h1 := (g_cond12 c _).1 hc1
    have hown : Own c (wS m c (zOf c) (last ⟨t.val, ht⟩)) := by rw [e1] at h1; exact h1
    iapply (ids_load m (g_off62 c t) (by omega)) $$ Hi
    iintro Hi %f0 %hf0
    have e0 := hf0 (Shape.Idx.first (numel1_S1.symm ▸ Nat.one_pos))
    have hown0 : Own c (f0 (Shape.Idx.first (numel1_S1.symm ▸ Nat.one_pos))) := by rw [e0]; exact hown
    iapply (wp_assume 𝒱₀ (c : Thread nD τ) none Set.univ (fun _ => own_inb hown0))
    iapply (wait_row m K (t := last ⟨t.val, ht⟩) hown (o3_last (g_off63 c t)) rfl) $$ [Hp Ho]
    · isplitr; · iexact HR
      isplitl [Hp]; · iexact Hp
      iexact Ho
    iintro ⟨Hd, Hs, Ho⟩
    iapply ret_step
    isplitl [Hd Hs Hb]
    · iapply Hb
      isplitl [Hd]; · iexact Hd
      iexact Hs
    isplitl [Hi]; · iexact Hi
    iexact Ho
  · rw [dif_neg hc1]
    have hown : ¬ Own c (wS m c (zOf c) (last ⟨t.val, ht⟩)) := fun h => hc1 ((g_cond12 c _).2 (by rw [e1]; exact h))
    ihave Hp := (Entails.of_eq (Pend_not m hown)) $$ Hp
    iapply ret_step
    isplitl [Hp Hb]; · iapply Hb; iexact Hp
    isplitl [Hi]; · iexact Hi
    iexact Ho

/-- A persistent fact kept along. -/
theorem wp_keep {c : Dev nD} {α : Type} {p : Prog (TpuEff nD τ sig (Elt F) Λ₀ .tc) α} (P R : sProp 𝕄) :
    iprop(R ∗ wpc c p (fun _ => P)) ⊢ wpc c p (fun _ => iprop(R ∗ P)) := by
  exact wp_frame_l frame (wpE (defs₀ (F := F)) 𝒱₀ (c : Thread nD τ) none) Set.univ

/-- The starting loop of segment `pk c 0`. -/
theorem loop1 {c : Dev nD} {h0 h1 h2 h3 h5 h6 h11 h12 h13 h14} {v2 v5 v87 v91 v96 v97 : BitVec 32} {v102 : Sems sig S_} {v133 w1 w2 : BitVec 32} {pos : ℕ} {hok}
    {α : Type} {Q : α → sProp 𝕄} {kk : Unit → Prog (TpuEff nD τ sig (Elt F) Λ₀ .tc) α} :
    iprop(records m K ∗ (slotsFrom m c 0 ∗ xAt c (segA (pk c 0)) fullShare (k0_pay1 (F := F))) ∗ idsAt m c ∗ Ow (F := F) c pos)
      ⊢ iprop((((gEpi m c (pk c 0) 0) ∗ idsAt m c ∗ Ow (F := F) c pos) -∗ wpc c (kk ⟨⟩) Q)
          -∗ wpc c (Scf.Loop.for k0_t1_loop hok ⟨⟩ (k0_t1_body (F := F) (Memref.whole cc0_stg0_0) h0 (Memref.whole main_arg1) h1 (Memref.whole cc0_stg1_0) h2 (Memref.whole cc0_scratch0) h3 cc0_scratch1 (Memref.whole cc0_scratch2) h5 (Memref.whole cc0_scratch3) h6 cc0_scratch4 cc0_scratch5 cc0_scratch6 cc0_scratch7 (Memref.whole cc0_scratch8) h11 (Memref.whole cc0_scratch9) h12 (Memref.whole cc0_scratch10) h13 (Memref.whole cc0_scratch11) h14 cc0_scratch12 cc0_scratch13 cc0_scoped0 c v2 v5 v87 v91 v96 v97 v102 v133 w1 w2) >>= kk) Q) := by
  iintro ⟨#HR, Hg, Hi, Ho⟩ Hk
  iapply (Scf.wp_for_bind frame (wpE (defs₀ (F := F)) 𝒱₀ (c : Thread nD τ) none) Set.univ _ _ _ _ _ _
    (fun i _ => iprop(records m K ∗ gInv m c (pk c 0) i ∗ idsAt m c ∗ Ow (F := F) c pos)) (fun t u => by
      iintro ⟨#HR, H⟩
      iapply (wp_keep (c := c) (P := iprop(gInv m c (pk c 0) (t.val + 1) ∗ idsAt m c ∗ Ow (F := F) c pos)) (R := records m K))
      isplitr; · iexact HR
      iapply (trip1 m K c v2 v5 v87 v91 v96 v97 v102 v133 w1 w2 (pos := pos) t u)
      isplitr; · iexact HR
      iexact H)) $$ [Hg Hi Ho]
  · isplitr; · iexact HR
    isplitl [Hg]; · iapply (gInv_init m c (pk c 0)); iexact Hg
    isplitl [Hi]; · iexact Hi
    iexact Ho
  iintro %acc ⟨-, Hg, Hi, Ho⟩
  iapply Hk
  isplitl [Hg]
  · iapply (gInv_gEpi m c (pk c 0)); iexact Hg
  isplitl [Hi]; · iexact Hi
  iexact Ho

/-- The waiting loop of segment `pk c 0`. -/
theorem loop2 {c : Dev nD} {h0 h1 h2 h3 h5 h6 h11 h12 h13 h14} {v2 v5 v87 v91 v96 v97 : BitVec 32} {v102 : Sems sig S_} {v133 w1 w2 : BitVec 32} {pos : ℕ} {hok}
    {α : Type} {Q : α → sProp 𝕄} {kk : Unit → Prog (TpuEff nD τ sig (Elt F) Λ₀ .tc) α} :
    iprop(records m K ∗ (gEpi m c (pk c 0) 0) ∗ idsAt m c ∗ Ow (F := F) c pos)
      ⊢ iprop((((slotsFrom m c 0 ∗ xAt c (segA (pk c 0)) fullShare (XV m c)) ∗ idsAt m c ∗ Ow (F := F) c pos) -∗ wpc c (kk ⟨⟩) Q)
          -∗ wpc c (Scf.Loop.for k0_t2_loop hok ⟨⟩ (k0_t2_body (F := F) (Memref.whole cc0_stg0_0) h0 (Memref.whole main_arg1) h1 (Memref.whole cc0_stg1_0) h2 (Memref.whole cc0_scratch0) h3 cc0_scratch1 (Memref.whole cc0_scratch2) h5 (Memref.whole cc0_scratch3) h6 cc0_scratch4 cc0_scratch5 cc0_scratch6 cc0_scratch7 (Memref.whole cc0_scratch8) h11 (Memref.whole cc0_scratch9) h12 (Memref.whole cc0_scratch10) h13 (Memref.whole cc0_scratch11) h14 cc0_scratch12 cc0_scratch13 cc0_scoped0 c v2 v5 v87 v91 v96 v97 v102 v133 w1 w2) >>= kk) Q) := by
  iintro ⟨#HR, Hg, Hi, Ho⟩ Hk
  iapply (Scf.wp_for_bind frame (wpE (defs₀ (F := F)) 𝒱₀ (c : Thread nD τ) none) Set.univ _ _ _ _ _ _
    (fun i _ => iprop(records m K ∗ gEpi m c (pk c 0) i ∗ idsAt m c ∗ Ow (F := F) c pos)) (fun t u => by
      iintro ⟨#HR, H⟩
      iapply (wp_keep (c := c) (P := iprop(gEpi m c (pk c 0) (t.val + 1) ∗ idsAt m c ∗ Ow (F := F) c pos)) (R := records m K))
      isplitr; · iexact HR
      iapply (trip2 m K c v2 v5 v87 v91 v96 v97 v102 v133 w1 w2 (pos := pos) t u)
      isplitr; · iexact HR
      iexact H)) $$ [Hg Hi Ho]
  · isplitr; · iexact HR
    isplitl [Hg]; · iexact Hg
    isplitl [Hi]; · iexact Hi
    iexact Ho
  iintro %acc ⟨-, Hg, Hi, Ho⟩
  iapply Hk
  isplitl [Hg]
  · iapply (gEpi_end m c (pk c 0)); iexact Hg
  isplitl [Hi]; · iexact Hi
  iexact Ho

/-- The starting loop of segment `pk c 1`. -/
theorem loop3 {c : Dev nD} {h0 h1 h2 h3 h5 h6 h11 h12 h13 h14} {v2 v5 v87 v91 v96 v97 : BitVec 32} {v102 : Sems sig S_} {v133 w1 w2 : BitVec 32} {pos : ℕ} {hok}
    {α : Type} {Q : α → sProp 𝕄} {kk : Unit → Prog (TpuEff nD τ sig (Elt F) Λ₀ .tc) α} :
    iprop(records m K ∗ (slotsFrom m c 0 ∗ xAt c (segA (pk c 1)) fullShare (k0_pay1 (F := F))) ∗ idsAt m c ∗ Ow (F := F) c pos)
      ⊢ iprop((((gEpi m c (pk c 1) 0) ∗ idsAt m c ∗ Ow (F := F) c pos) -∗ wpc c (kk ⟨⟩) Q)
          -∗ wpc c (Scf.Loop.for k0_t3_loop hok ⟨⟩ (k0_t3_body (F := F) (Memref.whole cc0_stg0_0) h0 (Memref.whole main_arg1) h1 (Memref.whole cc0_stg1_0) h2 (Memref.whole cc0_scratch0) h3 cc0_scratch1 (Memref.whole cc0_scratch2) h5 (Memref.whole cc0_scratch3) h6 cc0_scratch4 cc0_scratch5 cc0_scratch6 cc0_scratch7 (Memref.whole cc0_scratch8) h11 (Memref.whole cc0_scratch9) h12 (Memref.whole cc0_scratch10) h13 (Memref.whole cc0_scratch11) h14 cc0_scratch12 cc0_scratch13 cc0_scoped0 c v2 v5 v87 v91 v96 v97 v102 v133 w1 w2) >>= kk) Q) := by
  iintro ⟨#HR, Hg, Hi, Ho⟩ Hk
  iapply (Scf.wp_for_bind frame (wpE (defs₀ (F := F)) 𝒱₀ (c : Thread nD τ) none) Set.univ _ _ _ _ _ _
    (fun i _ => iprop(records m K ∗ gInv m c (pk c 1) i ∗ idsAt m c ∗ Ow (F := F) c pos)) (fun t u => by
      iintro ⟨#HR, H⟩
      iapply (wp_keep (c := c) (P := iprop(gInv m c (pk c 1) (t.val + 1) ∗ idsAt m c ∗ Ow (F := F) c pos)) (R := records m K))
      isplitr; · iexact HR
      iapply (trip3 m K c v2 v5 v87 v91 v96 v97 v102 v133 w1 w2 (pos := pos) t u)
      isplitr; · iexact HR
      iexact H)) $$ [Hg Hi Ho]
  · isplitr; · iexact HR
    isplitl [Hg]; · iapply (gInv_init m c (pk c 1)); iexact Hg
    isplitl [Hi]; · iexact Hi
    iexact Ho
  iintro %acc ⟨-, Hg, Hi, Ho⟩
  iapply Hk
  isplitl [Hg]
  · iapply (gInv_gEpi m c (pk c 1)); iexact Hg
  isplitl [Hi]; · iexact Hi
  iexact Ho

/-- The waiting loop of segment `pk c 1`. -/
theorem loop4 {c : Dev nD} {h0 h1 h2 h3 h5 h6 h11 h12 h13 h14} {v2 v5 v87 v91 v96 v97 : BitVec 32} {v102 : Sems sig S_} {v133 w1 w2 : BitVec 32} {pos : ℕ} {hok}
    {α : Type} {Q : α → sProp 𝕄} {kk : Unit → Prog (TpuEff nD τ sig (Elt F) Λ₀ .tc) α} :
    iprop(records m K ∗ (gEpi m c (pk c 1) 0) ∗ idsAt m c ∗ Ow (F := F) c pos)
      ⊢ iprop((((slotsFrom m c 0 ∗ xAt c (segA (pk c 1)) fullShare (XV m c)) ∗ idsAt m c ∗ Ow (F := F) c pos) -∗ wpc c (kk ⟨⟩) Q)
          -∗ wpc c (Scf.Loop.for k0_t4_loop hok ⟨⟩ (k0_t4_body (F := F) (Memref.whole cc0_stg0_0) h0 (Memref.whole main_arg1) h1 (Memref.whole cc0_stg1_0) h2 (Memref.whole cc0_scratch0) h3 cc0_scratch1 (Memref.whole cc0_scratch2) h5 (Memref.whole cc0_scratch3) h6 cc0_scratch4 cc0_scratch5 cc0_scratch6 cc0_scratch7 (Memref.whole cc0_scratch8) h11 (Memref.whole cc0_scratch9) h12 (Memref.whole cc0_scratch10) h13 (Memref.whole cc0_scratch11) h14 cc0_scratch12 cc0_scratch13 cc0_scoped0 c v2 v5 v87 v91 v96 v97 v102 v133 w1 w2) >>= kk) Q) := by
  iintro ⟨#HR, Hg, Hi, Ho⟩ Hk
  iapply (Scf.wp_for_bind frame (wpE (defs₀ (F := F)) 𝒱₀ (c : Thread nD τ) none) Set.univ _ _ _ _ _ _
    (fun i _ => iprop(records m K ∗ gEpi m c (pk c 1) i ∗ idsAt m c ∗ Ow (F := F) c pos)) (fun t u => by
      iintro ⟨#HR, H⟩
      iapply (wp_keep (c := c) (P := iprop(gEpi m c (pk c 1) (t.val + 1) ∗ idsAt m c ∗ Ow (F := F) c pos)) (R := records m K))
      isplitr; · iexact HR
      iapply (trip4 m K c v2 v5 v87 v91 v96 v97 v102 v133 w1 w2 (pos := pos) t u)
      isplitr; · iexact HR
      iexact H)) $$ [Hg Hi Ho]
  · isplitr; · iexact HR
    isplitl [Hg]; · iexact Hg
    isplitl [Hi]; · iexact Hi
    iexact Ho
  iintro %acc ⟨-, Hg, Hi, Ho⟩
  iapply Hk
  isplitl [Hg]
  · iapply (gEpi_end m c (pk c 1)); iexact Hg
  isplitl [Hi]; · iexact Hi
  iexact Ho

/-- The starting loop of segment `pk c 2`. -/
theorem loop5 {c : Dev nD} {h0 h1 h2 h3 h5 h6 h11 h12 h13 h14} {v2 v5 v8 v91 v95 v96 v97 v157 w1 : BitVec 32} {pos : ℕ} {hok}
    {α : Type} {Q : α → sProp 𝕄} {kk : Unit → Prog (TpuEff nD τ sig (Elt F) Λ₀ .tc) α} :
    iprop(records m K ∗ (slotsFrom m c 0 ∗ xAt c (segA (pk c 2)) fullShare (k0_pay1 (F := F))) ∗ idsAt m c ∗ Ow (F := F) c pos)
      ⊢ iprop((((gEpi m c (pk c 2) 0) ∗ idsAt m c ∗ Ow (F := F) c pos) -∗ wpc c (kk ⟨⟩) Q)
          -∗ wpc c (Scf.Loop.for k0_t5_loop hok ⟨⟩ (k0_t5_body (F := F) (Memref.whole cc0_stg0_0) h0 (Memref.whole main_arg1) h1 (Memref.whole cc0_stg1_0) h2 (Memref.whole cc0_scratch0) h3 cc0_scratch1 (Memref.whole cc0_scratch2) h5 (Memref.whole cc0_scratch3) h6 cc0_scratch4 cc0_scratch5 cc0_scratch6 cc0_scratch7 (Memref.whole cc0_scratch8) h11 (Memref.whole cc0_scratch9) h12 (Memref.whole cc0_scratch10) h13 (Memref.whole cc0_scratch11) h14 cc0_scratch12 cc0_scratch13 cc0_scoped0 c v2 v5 v8 v91 v95 v96 v97 v157 w1) >>= kk) Q) := by
  iintro ⟨#HR, Hg, Hi, Ho⟩ Hk
  iapply (Scf.wp_for_bind frame (wpE (defs₀ (F := F)) 𝒱₀ (c : Thread nD τ) none) Set.univ _ _ _ _ _ _
    (fun i _ => iprop(records m K ∗ gInv m c (pk c 2) i ∗ idsAt m c ∗ Ow (F := F) c pos)) (fun t u => by
      iintro ⟨#HR, H⟩
      iapply (wp_keep (c := c) (P := iprop(gInv m c (pk c 2) (t.val + 1) ∗ idsAt m c ∗ Ow (F := F) c pos)) (R := records m K))
      isplitr; · iexact HR
      iapply (trip5 m K c v2 v5 v8 v91 v95 v96 v97 v157 w1 (pos := pos) t u)
      isplitr; · iexact HR
      iexact H)) $$ [Hg Hi Ho]
  · isplitr; · iexact HR
    isplitl [Hg]; · iapply (gInv_init m c (pk c 2)); iexact Hg
    isplitl [Hi]; · iexact Hi
    iexact Ho
  iintro %acc ⟨-, Hg, Hi, Ho⟩
  iapply Hk
  isplitl [Hg]
  · iapply (gInv_gEpi m c (pk c 2)); iexact Hg
  isplitl [Hi]; · iexact Hi
  iexact Ho

/-- The waiting loop of segment `pk c 2`. -/
theorem loop6 {c : Dev nD} {h0 h1 h2 h3 h5 h6 h11 h12 h13 h14} {v2 v5 v8 v91 v95 v96 v97 v157 w1 : BitVec 32} {pos : ℕ} {hok}
    {α : Type} {Q : α → sProp 𝕄} {kk : Unit → Prog (TpuEff nD τ sig (Elt F) Λ₀ .tc) α} :
    iprop(records m K ∗ (gEpi m c (pk c 2) 0) ∗ idsAt m c ∗ Ow (F := F) c pos)
      ⊢ iprop((((slotsFrom m c 0 ∗ xAt c (segA (pk c 2)) fullShare (XV m c)) ∗ idsAt m c ∗ Ow (F := F) c pos) -∗ wpc c (kk ⟨⟩) Q)
          -∗ wpc c (Scf.Loop.for k0_t6_loop hok ⟨⟩ (k0_t6_body (F := F) (Memref.whole cc0_stg0_0) h0 (Memref.whole main_arg1) h1 (Memref.whole cc0_stg1_0) h2 (Memref.whole cc0_scratch0) h3 cc0_scratch1 (Memref.whole cc0_scratch2) h5 (Memref.whole cc0_scratch3) h6 cc0_scratch4 cc0_scratch5 cc0_scratch6 cc0_scratch7 (Memref.whole cc0_scratch8) h11 (Memref.whole cc0_scratch9) h12 (Memref.whole cc0_scratch10) h13 (Memref.whole cc0_scratch11) h14 cc0_scratch12 cc0_scratch13 cc0_scoped0 c v2 v5 v8 v91 v95 v96 v97 v157 w1) >>= kk) Q) := by
  iintro ⟨#HR, Hg, Hi, Ho⟩ Hk
  iapply (Scf.wp_for_bind frame (wpE (defs₀ (F := F)) 𝒱₀ (c : Thread nD τ) none) Set.univ _ _ _ _ _ _
    (fun i _ => iprop(records m K ∗ gEpi m c (pk c 2) i ∗ idsAt m c ∗ Ow (F := F) c pos)) (fun t u => by
      iintro ⟨#HR, H⟩
      iapply (wp_keep (c := c) (P := iprop(gEpi m c (pk c 2) (t.val + 1) ∗ idsAt m c ∗ Ow (F := F) c pos)) (R := records m K))
      isplitr; · iexact HR
      iapply (trip6 m K c v2 v5 v8 v91 v95 v96 v97 v157 w1 (pos := pos) t u)
      isplitr; · iexact HR
      iexact H)) $$ [Hg Hi Ho]
  · isplitr; · iexact HR
    isplitl [Hg]; · iexact Hg
    isplitl [Hi]; · iexact Hi
    iexact Ho
  iintro %acc ⟨-, Hg, Hi, Ho⟩
  iapply Hk
  isplitl [Hg]
  · iapply (gEpi_end m c (pk c 2)); iexact Hg
  isplitl [Hi]; · iexact Hi
  iexact Ho

/-- The starting loop of segment `zOf c`. -/
theorem loop7 {c : Dev nD} {h0 h1 h2 h3 h5 h6 h11 h12 h13 h14} {v2 v5 v8 v91 v95 v96 v97 v157 w1 : BitVec 32} {pos : ℕ} {hok}
    {α : Type} {Q : α → sProp 𝕄} {kk : Unit → Prog (TpuEff nD τ sig (Elt F) Λ₀ .tc) α} :
    iprop(records m K ∗ (slotsFrom m c 0 ∗ xAt c (segA (zOf c)) fullShare (k0_pay1 (F := F))) ∗ idsAt m c ∗ Ow (F := F) c pos)
      ⊢ iprop((((gEpi m c (zOf c) 0) ∗ idsAt m c ∗ Ow (F := F) c pos) -∗ wpc c (kk ⟨⟩) Q)
          -∗ wpc c (Scf.Loop.for k0_t7_loop hok ⟨⟩ (k0_t7_body (F := F) (Memref.whole cc0_stg0_0) h0 (Memref.whole main_arg1) h1 (Memref.whole cc0_stg1_0) h2 (Memref.whole cc0_scratch0) h3 cc0_scratch1 (Memref.whole cc0_scratch2) h5 (Memref.whole cc0_scratch3) h6 cc0_scratch4 cc0_scratch5 cc0_scratch6 cc0_scratch7 (Memref.whole cc0_scratch8) h11 (Memref.whole cc0_scratch9) h12 (Memref.whole cc0_scratch10) h13 (Memref.whole cc0_scratch11) h14 cc0_scratch12 cc0_scratch13 cc0_scoped0 c v2 v5 v8 v91 v95 v96 v97 v157 w1) >>= kk) Q) := by
  iintro ⟨#HR, Hg, Hi, Ho⟩ Hk
  iapply (Scf.wp_for_bind frame (wpE (defs₀ (F := F)) 𝒱₀ (c : Thread nD τ) none) Set.univ _ _ _ _ _ _
    (fun i _ => iprop(records m K ∗ gInv m c (zOf c) i ∗ idsAt m c ∗ Ow (F := F) c pos)) (fun t u => by
      iintro ⟨#HR, H⟩
      iapply (wp_keep (c := c) (P := iprop(gInv m c (zOf c) (t.val + 1) ∗ idsAt m c ∗ Ow (F := F) c pos)) (R := records m K))
      isplitr; · iexact HR
      iapply (trip7 m K c v2 v5 v8 v91 v95 v96 v97 v157 w1 (pos := pos) t u)
      isplitr; · iexact HR
      iexact H)) $$ [Hg Hi Ho]
  · isplitr; · iexact HR
    isplitl [Hg]; · iapply (gInv_init m c (zOf c)); iexact Hg
    isplitl [Hi]; · iexact Hi
    iexact Ho
  iintro %acc ⟨-, Hg, Hi, Ho⟩
  iapply Hk
  isplitl [Hg]
  · iapply (gInv_gEpi m c (zOf c)); iexact Hg
  isplitl [Hi]; · iexact Hi
  iexact Ho

/-- The waiting loop of segment `zOf c`. -/
theorem loop8 {c : Dev nD} {h0 h1 h2 h3 h5 h6 h11 h12 h13 h14} {v2 v5 v81 v83 v85 v96 v97 v184 w1 : BitVec 32} {pos : ℕ} {hok}
    {α : Type} {Q : α → sProp 𝕄} {kk : Unit → Prog (TpuEff nD τ sig (Elt F) Λ₀ .tc) α} :
    iprop(records m K ∗ (gEpi m c (zOf c) 0) ∗ idsAt m c ∗ Ow (F := F) c pos)
      ⊢ iprop((((slotsFrom m c 0 ∗ xAt c (segA (zOf c)) fullShare (XV m c)) ∗ idsAt m c ∗ Ow (F := F) c pos) -∗ wpc c (kk ⟨⟩) Q)
          -∗ wpc c (Scf.Loop.for k0_t8_loop hok ⟨⟩ (k0_t8_body (F := F) (Memref.whole cc0_stg0_0) h0 (Memref.whole main_arg1) h1 (Memref.whole cc0_stg1_0) h2 (Memref.whole cc0_scratch0) h3 cc0_scratch1 (Memref.whole cc0_scratch2) h5 (Memref.whole cc0_scratch3) h6 cc0_scratch4 cc0_scratch5 cc0_scratch6 cc0_scratch7 (Memref.whole cc0_scratch8) h11 (Memref.whole cc0_scratch9) h12 (Memref.whole cc0_scratch10) h13 (Memref.whole cc0_scratch11) h14 cc0_scratch12 cc0_scratch13 cc0_scoped0 c v2 v5 v81 v83 v85 v96 v97 v184 w1) >>= kk) Q) := by
  iintro ⟨#HR, Hg, Hi, Ho⟩ Hk
  iapply (Scf.wp_for_bind frame (wpE (defs₀ (F := F)) 𝒱₀ (c : Thread nD τ) none) Set.univ _ _ _ _ _ _
    (fun i _ => iprop(records m K ∗ gEpi m c (zOf c) i ∗ idsAt m c ∗ Ow (F := F) c pos)) (fun t u => by
      iintro ⟨#HR, H⟩
      iapply (wp_keep (c := c) (P := iprop(gEpi m c (zOf c) (t.val + 1) ∗ idsAt m c ∗ Ow (F := F) c pos)) (R := records m K))
      isplitr; · iexact HR
      iapply (trip8 m K c v2 v5 v81 v83 v85 v96 v97 v184 w1 (pos := pos) t u)
      isplitr; · iexact HR
      iexact H)) $$ [Hg Hi Ho]
  · isplitr; · iexact HR
    isplitl [Hg]; · iexact Hg
    isplitl [Hi]; · iexact Hi
    iexact Ho
  iintro %acc ⟨-, Hg, Hi, Ho⟩
  iapply Hk
  isplitl [Hg]
  · iapply (gEpi_end m c (zOf c)); iexact Hg
  isplitl [Hi]; · iexact Hi
  iexact Ho

end Cert.EmbedProof
-- ==== Proof.Ops.lean ====
/-
The steps on the vector buffers, each once: reading a segment, storing into the result, the zero fill, the store of the
summed segment; the waits, one lemma for each kind of cell.
-/
module

public import proofs.«01_k».proof.Proof.GatherRows

@[expose] public section

set_option maxRecDepth 8000

noncomputable section

namespace Cert.EmbedProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL allPays credOf)
open Idealize.ShloMosaic.ValueKit (rect_emb_unit_val)

variable {F : FTy → Type} [FloatOps F]

local notation "𝕄" => MT nD τ sig ℕ (Elt F) ℕ UU ℕ

variable (m : (ℓ : Loc nD τ sig) → Buf (Elt F) ℓ) (K : Dev nD × CK → ℕ)

/-- Segment `g` of a quarter, and of a half-height buffer, as a vector. -/
def rdA (f : S512x1024.Idx → F .f32) (g : Fin 4) : Vec F S128x1024 .f32 := fun j =>
  f (ix512 ⟨128 * g.val + (j 0).val, by have := (j 0).isLt; change (j 0).val < 128 at this; omega⟩ (j 1))
@[inherit_doc rdA] def rdB (f : S256x1024.Idx → F .f32) (g : Fin 4) : Vec F S64x1024 .f32 := fun j =>
  f (fun x => match x with | ⟨0, _⟩ => ⟨64 * g.val + (j 0).val, by have := (j 0).isLt; change (j 0).val < 64 at this; show _ < 256; omega⟩ | ⟨1, _⟩ => j 1)

/-- Reading segment `g` of `cc0_scratch0`. -/
theorem ld_x {c : Dev nD} (g : Fin 4) {o : Fin 2 → ℕ} (h : o = ![128 * g.val, 0]) {inb} {hld} {q : PosShare TreeShare} {f : S512x1024.Idx → F .f32}
    {α : Type} {Q : α → sProp 𝕄} {kk : Vec F S128x1024 .f32 → Prog (TpuEff nD τ sig (Elt F) Λ₀ .tc) α} :
    xAt c (segA g) q f ⊢ iprop((xAt c (segA g) q f -∗ wpc c (kk (rdA f g)) Q)
        -∗ wpc c (.op (.load (Memref.whole cc0_scratch0 : Memref sig .tc .vmem S512x1024 .f32) (Rect.unit (s := S512x1024) o S128x1024.size inb).toLoadRect hld) kk) Q) := by
  subst h
  have e : ((Memref.whole cc0_scratch0 : Memref sig .tc .vmem S512x1024 .f32).access (Rect.unit (s := S512x1024) ![128 * g.val, 0] S128x1024.size inb)).read (Elt F) f = rdA f g := by
    funext j
    show f _ = f _
    refine congrArg f (idx2_ext ?_ ?_) <;> refine (rect_emb_unit_val _ _ _ _ _).trans ?_
    · rfl
    · exact Nat.zero_add _
  rw [← e]
  exact wp_load_rect 𝒱₀ (c : Thread nD τ) none Set.univ (m := (Memref.whole cc0_scratch0 : Memref sig .tc .vmem S512x1024 .f32)) (hl := hld) (k := kk) (Q := Q)
    (q := q) (f := f) (S := segA g) ((View.set_slice_whole _ _).trans (set_segA g inb)).subset

/-- Reading segment `g` of `cc0_scratch2`. -/
theorem ld_acc {c : Dev nD} (g : Fin 4) {o : Fin 2 → ℕ} (h : o = ![128 * g.val, 0]) {inb} {hld} {q : PosShare TreeShare} {f : S512x1024.Idx → F .f32}
    {α : Type} {Q : α → sProp 𝕄} {kk : Vec F S128x1024 .f32 → Prog (TpuEff nD τ sig (Elt F) Λ₀ .tc) α} :
    aAt c (segA g) q f ⊢ iprop((aAt c (segA g) q f -∗ wpc c (kk (rdA f g)) Q)
        -∗ wpc c (.op (.load (Memref.whole cc0_scratch2 : Memref sig .tc .vmem S512x1024 .f32) (Rect.unit (s := S512x1024) o S128x1024.size inb).toLoadRect hld) kk) Q) := by
  subst h
  have e : ((Memref.whole cc0_scratch2 : Memref sig .tc .vmem S512x1024 .f32).access (Rect.unit (s := S512x1024) ![128 * g.val, 0] S128x1024.size inb)).read (Elt F) f = rdA f g := by
    funext j
    show f _ = f _
    refine congrArg f (idx2_ext ?_ ?_) <;> refine (rect_emb_unit_val _ _ _ _ _).trans ?_
    · rfl
    · exact Nat.zero_add _
  rw [← e]
  exact wp_load_rect 𝒱₀ (c : Thread nD τ) none Set.univ (m := (Memref.whole cc0_scratch2 : Memref sig .tc .vmem S512x1024 .f32)) (hl := hld) (k := kk) (Q := Q)
    (q := q) (f := f) (S := segA g) ((View.set_slice_whole _ _).trans (set_segA g inb)).subset

/-- Reading segment `g` of `cc0_scratch8`. -/
theorem ld_l0 {c : Dev nD} (g : Fin 4) {o : Fin 2 → ℕ} (h : o = ![128 * g.val, 0]) {inb} {hld} {q : PosShare TreeShare} {f : S512x1024.Idx → F .f32}
    {α : Type} {Q : α → sProp 𝕄} {kk : Vec F S128x1024 .f32 → Prog (TpuEff nD τ sig (Elt F) Λ₀ .tc) α} :
    l0At c (segA g) q f ⊢ iprop((l0At c (segA g) q f -∗ wpc c (kk (rdA f g)) Q)
        -∗ wpc c (.op (.load (Memref.whole cc0_scratch8 : Memref sig .tc .vmem S512x1024 .f32) (Rect.unit (s := S512x1024) o S128x1024.size inb).toLoadRect hld) kk) Q) := by
  subst h
  have e : ((Memref.whole cc0_scratch8 : Memref sig .tc .vmem S512x1024 .f32).access (Rect.unit (s := S512x1024) ![128 * g.val, 0] S128x1024.size inb)).read (Elt F) f = rdA f g := by
    funext j
    show f _ = f _
    refine congrArg f (idx2_ext ?_ ?_) <;> refine (rect_emb_unit_val _ _ _ _ _).trans ?_
    · rfl
    · exact Nat.zero_add _
  rw [← e]
  exact wp_load_rect 𝒱₀ (c : Thread nD τ) none Set.univ (m := (Memref.whole cc0_scratch8 : Memref sig .tc .vmem S512x1024 .f32)) (hl := hld) (k := kk) (Q := Q)
    (q := q) (f := f) (S := segA g) ((View.set_slice_whole _ _).trans (set_segA g inb)).subset

/-- Reading segment `g` of `cc0_scratch9`. -/
theorem ld_r0 {c : Dev nD} (g : Fin 4) {o : Fin 2 → ℕ} (h : o = ![128 * g.val, 0]) {inb} {hld} {q : PosShare TreeShare} {f : S512x1024.Idx → F .f32}
    {α : Type} {Q : α → sProp 𝕄} {kk : Vec F S128x1024 .f32 → Prog (TpuEff nD τ sig (Elt F) Λ₀ .tc) α} :
    r0At c (segA g) q f ⊢ iprop((r0At c (segA g) q f -∗ wpc c (kk (rdA f g)) Q)
        -∗ wpc c (.op (.load (Memref.whole cc0_scratch9 : Memref sig .tc .vmem S512x1024 .f32) (Rect.unit (s := S512x1024) o S128x1024.size inb).toLoadRect hld) kk) Q) := by
  subst h
  have e : ((Memref.whole cc0_scratch9 : Memref sig .tc .vmem S512x1024 .f32).access (Rect.unit (s := S512x1024) ![128 * g.val, 0] S128x1024.size inb)).read (Elt F) f = rdA f g := by
    funext j
    show f _ = f _
    refine congrArg f (idx2_ext ?_ ?_) <;> refine (rect_emb_unit_val _ _ _ _ _).trans ?_
    · rfl
    · exact Nat.zero_add _
  rw [← e]
  exact wp_load_rect 𝒱₀ (c : Thread nD τ) none Set.univ (m := (Memref.whole cc0_scratch9 : Memref sig .tc .vmem S512x1024 .f32)) (hl := hld) (k := kk) (Q := Q)
    (q := q) (f := f) (S := segA g) ((View.set_slice_whole _ _).trans (set_segA g inb)).subset

/-- Reading segment `g` of `cc0_scratch10`. -/
theorem ld_l1 {c : Dev nD} (g : Fin 4) {o : Fin 2 → ℕ} (h : o = ![64 * g.val, 0]) {inb} {hld} {q : PosShare TreeShare} {f : S256x1024.Idx → F .f32}
    {α : Type} {Q : α → sProp 𝕄} {kk : Vec F S64x1024 .f32 → Prog (TpuEff nD τ sig (Elt F) Λ₀ .tc) α} :
    l1At c (segB g) q f ⊢ iprop((l1At c (segB g) q f -∗ wpc c (kk (rdB f g)) Q)
        -∗ wpc c (.op (.load (Memref.whole cc0_scratch10 : Memref sig .tc .vmem S256x1024 .f32) (Rect.unit (s := S256x1024) o S64x1024.size inb).toLoadRect hld) kk) Q) := by
  subst h
  have e : ((Memref.whole cc0_scratch10 : Memref sig .tc .vmem S256x1024 .f32).access (Rect.unit (s := S256x1024) ![64 * g.val, 0] S64x1024.size inb)).read (Elt F) f = rdB f g := by
    funext j
    show f _ = f _
    refine congrArg f (idx2_ext ?_ ?_) <;> refine (rect_emb_unit_val _ _ _ _ _).trans ?_
    · rfl
    · exact Nat.zero_add _
  rw [← e]
  exact wp_load_rect 𝒱₀ (c : Thread nD τ) none Set.univ (m := (Memref.whole cc0_scratch10 : Memref sig .tc .vmem S256x1024 .f32)) (hl := hld) (k := kk) (Q := Q)
    (q := q) (f := f) (S := segB g) ((View.set_slice_whole _ _).trans (set_segB g inb)).subset

/-- Reading segment `g` of `cc0_scratch11`. -/
theorem ld_r1 {c : Dev nD} (g : Fin 4) {o : Fin 2 → ℕ} (h : o = ![64 * g.val, 0]) {inb} {hld} {q : PosShare TreeShare} {f : S256x1024.Idx → F .f32}
    {α : Type} {Q : α → sProp 𝕄} {kk : Vec F S64x1024 .f32 → Prog (TpuEff nD τ sig (Elt F) Λ₀ .tc) α} :
    r1At c (segB g) q f ⊢ iprop((r1At c (segB g) q f -∗ wpc c (kk (rdB f g)) Q)
        -∗ wpc c (.op (.load (Memref.whole cc0_scratch11 : Memref sig .tc .vmem S256x1024 .f32) (Rect.unit (s := S256x1024) o S64x1024.size inb).toLoadRect hld) kk) Q) := by
  subst h
  have e : ((Memref.whole cc0_scratch11 : Memref sig .tc .vmem S256x1024 .f32).access (Rect.unit (s := S256x1024) ![64 * g.val, 0] S64x1024.size inb)).read (Elt F) f = rdB f g := by
    funext j
    show f _ = f _
    refine congrArg f (idx2_ext ?_ ?_) <;> refine (rect_emb_unit_val _ _ _ _ _).trans ?_
    · rfl
    · exact Nat.zero_add _
  rw [← e]
  exact wp_load_rect 𝒱₀ (c : Thread nD τ) none Set.univ (m := (Memref.whole cc0_scratch11 : Memref sig .tc .vmem S256x1024 .f32)) (hl := hld) (k := kk) (Q := Q)
    (q := q) (f := f) (S := segB g) ((View.set_slice_whole _ _).trans (set_segB g inb)).subset

/-- Reading slot `g` of the reduce-scatter buffer. -/
theorem ld_rs {c : Dev nD} (g : Fin 4) {o : Fin 3 → ℕ} (h : o = ![g.val, 0, 0]) {inb} {hld}
    {α : Type} {Q : α → sProp 𝕄} {kk : Vec F S1x128x1024 .f32 → Prog (TpuEff nD τ sig (Elt F) Λ₀ .tc) α} :
    rAt c (slotR g) fullShare (RsV m c) ⊢ iprop((rAt c (slotR g) fullShare (RsV m c) -∗ wpc c (kk (rsAt m c g)) Q)
        -∗ wpc c (.op (.load (Memref.whole cc0_scratch3 : Memref sig .tc .vmem S4x128x1024 .f32) (Rect.unit (s := S4x128x1024) o S1x128x1024.size inb).toLoadRect hld) kk) Q) := by
  subst h
  have e : ((Memref.whole cc0_scratch3 : Memref sig .tc .vmem S4x128x1024 .f32).access (Rect.unit (s := S4x128x1024) ![g.val, 0, 0] S1x128x1024.size inb)).read (Elt F) (RsV m c) = rsAt m c g := by
    funext j
    show RsV m c _ = RsV m c _
    refine congrArg (RsV m c) (Shape.idx3_ext ?_ ?_ ?_) <;> refine (rect_emb_unit_val _ _ _ _ _).trans ?_
    · have := (j 0).isLt
      change (j 0).val < 1 at this
      show g.val + (j 0).val = g.val
      omega
    · exact Nat.zero_add _
    · exact Nat.zero_add _
  rw [← e]
  exact wp_load_rect 𝒱₀ (c : Thread nD τ) none Set.univ (m := (Memref.whole cc0_scratch3 : Memref sig .tc .vmem S4x128x1024 .f32)) (hl := hld) (k := kk) (Q := Q)
    (q := fullShare) (f := RsV m c) (S := slotR g) ((View.set_slice_whole _ _).trans (set_slotR g inb)).subset

theorem set_all (inb) : (Rect.unit (s := S512x1024) ![0, 0] S512x1024.size inb).set = Finset.univ := by
  ext i
  rw [Rect.mem_set_unit, Fin.forall_fin_two]
  have h0 := (i 0).isLt
  have h1 := (i 1).isLt
  change (i 0).val < 512 at h0
  change (i 1).val < 1024 at h1
  exact ⟨fun _ => Finset.mem_univ _, fun _ => ⟨⟨Nat.zero_le _, by show (i 0).val < 0 + 512; omega⟩, Nat.zero_le _, by show (i 1).val < 0 + 1024; omega⟩⟩

/-- The zero fill of the gathered quarter, after the read before it. -/
theorem fill_step {c : Dev nD} {inb} {hld hx hm} {f : S512x1024.Idx → F .f32}
    {α : Type} {Q : α → sProp 𝕄} {kk : PUnit → Prog (TpuEff nD τ sig (Elt F) Λ₀ .tc) α} :
    xAt c Finset.univ fullShare f ⊢ iprop((xAt c Finset.univ fullShare (k0_pay1 (F := F)) -∗ wpc c (kk ⟨⟩) Q)
        -∗ wpc c (.op (.load (Memref.whole cc0_scratch0 : Memref sig .tc .vmem S512x1024 .f32) (Rect.unit (s := S512x1024) ![0, 0] S512x1024.size inb).toLoadRect hld)
            fun _ => .op (.store (Memref.whole cc0_scratch0 : Memref sig .tc .vmem S512x1024 .f32) (Rect.unit (s := S512x1024) ![0, 0] S512x1024.size inb) (k0_pay1 (F := F)) Finset.univ hx hm) kk) Q) := by
  iintro H Hk
  iapply (wp_load 𝒱₀ (c : Thread nD τ) none Set.univ (m := (Memref.whole cc0_scratch0 : Memref sig .tc .vmem S512x1024 .f32)) (Finset.subset_univ _)) $$ [H]
  · iexact H
  iintro H
  iapply (wp_store 𝒱₀ (c : Thread nD τ) none Set.univ (m := (Memref.whole cc0_scratch0 : Memref sig .tc .vmem S512x1024 .f32)) (r := Rect.unit (s := S512x1024) ![0, 0] S512x1024.size inb) (S := Finset.univ) (Finset.subset_univ _)) $$ [H]
  · iexact H
  iintro H
  iapply Hk
  have e : ∀ i ∈ (Finset.univ : Finset S512x1024.Idx), ((Memref.whole cc0_scratch0 : Memref sig .tc .vmem S512x1024 .f32).access (Rect.unit (s := S512x1024) ![0, 0] S512x1024.size inb)).write (Elt F) f (k0_pay1 (F := F)) Finset.univ i = k0_pay1 (F := F) i := by
    intro i _
    refine write_read_eq ((Memref.whole cc0_scratch0 : Memref sig .tc .vmem S512x1024 .f32).access (Rect.unit (s := S512x1024) ![0, 0] S512x1024.size inb)) f (k0_pay1 (F := F)) _ (fun j => ?_) i ?_
    · show k0_pay1 (F := F) j = k0_pay1 (F := F) ((Rect.unit (s := S512x1024) ![0, 0] S512x1024.size inb).emb j)
      refine congrArg _ ?_
      refine idx2_ext ?_ ?_ <;> exact ((rect_emb_unit_val _ _ _ _ _).trans (Nat.zero_add _)).symm
    · have hset : ((Memref.whole cc0_scratch0 : Memref sig .tc .vmem S512x1024 .f32).access (Rect.unit (s := S512x1024) ![0, 0] S512x1024.size inb)).set = Finset.univ :=
        (View.set_slice_whole _ _).trans (set_all inb)
      rw [hset]; exact Finset.mem_univ i
  iapply (Entails.of_eq (pointsTo_congr e))
  iexact H

/-- The store of the summed segment, after the read before it. -/
theorem acc_step {c : Dev nD} {o : Fin 2 → ℕ} (h : o = ![128 * (zOf c).val, 0]) {inb} {hld hx hm} {f : S512x1024.Idx → F .f32}
    {α : Type} {Q : α → sProp 𝕄} {kk : PUnit → Prog (TpuEff nD τ sig (Elt F) Λ₀ .tc) α} :
    aAt c (segA (zOf c)) fullShare f ⊢ iprop((aAt c (segA (zOf c)) fullShare (accV m c) -∗ wpc c (kk ⟨⟩) Q)
        -∗ wpc c (.op (.load (Memref.whole cc0_scratch2 : Memref sig .tc .vmem S512x1024 .f32) (Rect.unit (s := S512x1024) o S128x1024.size inb).toLoadRect hld)
            fun _ => .op (.store (Memref.whole cc0_scratch2 : Memref sig .tc .vmem S512x1024 .f32) (Rect.unit (s := S512x1024) o S128x1024.size inb)
              (k0_pay2 (rdA (XV m c) (zOf c)) (rsAt m c (zp c 0)) (rsAt m c (zp c 1)) (rsAt m c (zp c 2))) Finset.univ hx hm) kk) Q) := by
  iintro H Hk
  iapply (ld_acc (zOf c) h) $$ [H]
  · iexact H
  iintro H
  subst h
  have hset : ((Memref.whole cc0_scratch2 : Memref sig .tc .vmem S512x1024 .f32).access (Rect.unit (s := S512x1024) ![128 * (zOf c).val, 0] S128x1024.size inb)).set = segA (zOf c) :=
    (View.set_slice_whole _ _).trans (set_segA (zOf c) inb)
  iapply (wp_store 𝒱₀ (c : Thread nD τ) none Set.univ (m := (Memref.whole cc0_scratch2 : Memref sig .tc .vmem S512x1024 .f32)) (r := Rect.unit (s := S512x1024) ![128 * (zOf c).val, 0] S128x1024.size inb) (S := segA (zOf c)) hset.subset) $$ [H]
  · iexact H
  iintro H
  iapply Hk
  have e := write_read_eq ((Memref.whole cc0_scratch2 : Memref sig .tc .vmem S512x1024 .f32).access (Rect.unit (s := S512x1024) ![128 * (zOf c).val, 0] S128x1024.size inb)) f (accV m c)
    (k0_pay2 (rdA (XV m c) (zOf c)) (rsAt m c (zp c 0)) (rsAt m c (zp c 1)) (rsAt m c (zp c 2))) (fun j => by
      show accSeg m c j = accV m c ((Rect.unit (s := S512x1024) ![128 * (zOf c).val, 0] S128x1024.size inb).emb j)
      have h0 : ((Rect.unit (s := S512x1024) ![128 * (zOf c).val, 0] S128x1024.size inb).emb j 0).val = 128 * (zOf c).val + (j 0).val := rect_emb_unit_val _ _ _ _ _
      have h1 : ((Rect.unit (s := S512x1024) ![128 * (zOf c).val, 0] S128x1024.size inb).emb j 1).val = 0 + (j 1).val := rect_emb_unit_val _ _ _ _ _
      have hj := (j 0).isLt
      change (j 0).val < 128 at hj
      unfold accV
      have ez : zAt c ⟨((Rect.unit (s := S512x1024) ![128 * (zOf c).val, 0] S128x1024.size inb).emb j 0).val / 128, by rw [h0]; have := (zOf c).isLt; omega⟩ = c := by
        refine Eq.trans (congrArg (zAt c) (Fin.ext ?_)) (zAt_self c)
        show _ / 128 = _
        rw [h0]; omega
      rw [ez]
      refine congrArg (accSeg m c) (idx2_ext ?_ ?_)
      · show (j 0).val = _ % 128
        rw [h0]; omega
      · show (j 1).val = _
        exact ((h1.trans (Nat.zero_add _))).symm)
  rw [hset] at e
  iapply (Entails.of_eq (pointsTo_congr e))
  iexact H

/-! ## The result -/

/-- The blocks of 64 rows of the result, in the order in which they are stored. -/
def outL (c : Dev nD) : List ℕ :=
  let b (q n : Fin 4) (h : ℕ) : ℕ := 8 * q.val + 2 * (gk c n).val + h
  let r := rOf c
  [b r 0 0, b r 0 1, b r 1 0, b r 1 1, b r 2 0, b r 2 1, b r 3 0, b r 3 1,
   b (r + 3) 0 0, b (r + 3) 0 1, b (r + 1) 0 0, b (r + 1) 0 1, b (r + 3) 1 0, b (r + 3) 1 1, b (r + 1) 1 0, b (r + 1) 1 1,
   b (r + 3) 2 0, b (r + 3) 2 1, b (r + 1) 2 0, b (r + 1) 2 1, b (r + 3) 3 0, b (r + 3) 3 1, b (r + 1) 3 0, b (r + 1) 3 1,
   b (r + 2) 0 0, b (r + 2) 0 1, b (r + 2) 1 0, b (r + 2) 1 1, b (r + 2) 2 0, b (r + 2) 2 1, b (r + 2) 3 0, b (r + 2) 3 1]
theorem outL_all (c : Dev nD) (n : ℕ) (hn : n < 32) : n ∈ outL c := by
  have h : ∀ c : Dev nD, ∀ n : Fin 32, n.val ∈ outL c := by decide
  exact h c ⟨n, hn⟩

/-- The result's buffer. -/
abbrev oAt (c : Dev nD) (f : S2048x1024.Idx → F .f32) : sProp 𝕄 := ((c : Thread nD τ).loc cc0_stg1_0) ↦[Finset.univ]{fullShare} f
/-- The result with its first `p` blocks stored. -/
def Out (c : Dev nD) (p : ℕ) : sProp 𝕄 := iprop(∃ f, ⌜∀ i : S2048x1024.Idx, (i 0).val / 64 ∈ (outL c).take p → f i = outV m c i⌝ ∗ oAt c f)

theorem out_init (c : Dev nD) : iprop(∃ f, oAt (F := F) c f) ⊢ Out m c 0 := by
  iintro ⟨%f, H⟩
  unfold Out
  iexists f
  isplitr
  · ipureintro; intro i hi; exact absurd hi (by rw [List.take_zero]; exact List.not_mem_nil)
  iexact H
theorem out_done (c : Dev nD) : Out m c 32 ⊢ oAt c (outV m c) := by
  iintro H
  unfold Out
  icases H with ⟨%f, %hf, H⟩
  have e : ∀ i ∈ (Finset.univ : Finset S2048x1024.Idx), f i = outV m c i := fun i _ => by
    refine hf i ?_
    have h := (i 0).isLt
    change (i 0).val < 2048 at h
    have := outL_all c ((i 0).val / 64) (by omega)
    rwa [show (outL c).take 32 = outL c from rfl]
  iapply (Entails.of_eq (pointsTo_congr e))
  iexact H

/-- A store of 128 rows into the result, after the read before it. -/
theorem out128 {c : Dev nD} {o : ℕ} {off : Fin 2 → ℕ} (h : off = ![o, 0]) (ho : o % 64 = 0) {p p' : ℕ} (hp : (outL c).take p' = (outL c).take p ++ [o / 64, o / 64 + 1])
    {inb} {hld hx hm} {v : Vec F S128x1024 .f32}
    (hv : ∀ (j : S128x1024.Idx) (i : S2048x1024.Idx), (i 0).val = o + (j 0).val → (i 1).val = (j 1).val → v j = outV m c i)
    {α : Type} {Q : α → sProp 𝕄} {kk : PUnit → Prog (TpuEff nD τ sig (Elt F) Λ₀ .tc) α} :
    Out m c p ⊢ iprop((Out m c p' -∗ wpc c (kk ⟨⟩) Q)
        -∗ wpc c (.op (.load (Memref.whole cc0_stg1_0 : Memref sig .tc .vmem S2048x1024 .f32) (Rect.unit (s := S2048x1024) off S128x1024.size inb).toLoadRect hld)
            fun _ => .op (.store (Memref.whole cc0_stg1_0 : Memref sig .tc .vmem S2048x1024 .f32) (Rect.unit (s := S2048x1024) off S128x1024.size inb) v Finset.univ hx hm) kk) Q) := by
  subst h
  iintro H Hk
  unfold Out
  icases H with ⟨%f, %hf, H⟩
  iapply (wp_load 𝒱₀ (c : Thread nD τ) none Set.univ (m := (Memref.whole cc0_stg1_0 : Memref sig .tc .vmem S2048x1024 .f32)) (Finset.subset_univ _)) $$ [H]
  · iexact H
  iintro H
  iapply (wp_store 𝒱₀ (c : Thread nD τ) none Set.univ (m := (Memref.whole cc0_stg1_0 : Memref sig .tc .vmem S2048x1024 .f32)) (r := Rect.unit (s := S2048x1024) ![o, 0] S128x1024.size inb) (S := Finset.univ) (Finset.subset_univ _)) $$ [H]
  · iexact H
  iintro H
  iapply Hk
  iexists _
  isplitr
  swap
  · iexact H
  ipureintro
  intro i hi
  have hset : ((Memref.whole cc0_stg1_0 : Memref sig .tc .vmem S2048x1024 .f32).access (Rect.unit (s := S2048x1024) ![o, 0] S128x1024.size inb)).set = (Rect.unit (s := S2048x1024) ![o, 0] S128x1024.size inb).set := View.set_slice_whole _ _
  by_cases hm : i ∈ (Rect.unit (s := S2048x1024) ![o, 0] S128x1024.size inb).set
  · refine write_read_eq ((Memref.whole cc0_stg1_0 : Memref sig .tc .vmem S2048x1024 .f32).access (Rect.unit (s := S2048x1024) ![o, 0] S128x1024.size inb)) f (outV m c) v (fun j => ?_) i (hset ▸ hm)
    exact hv j _ (rect_emb_unit_val _ _ _ _ _) ((rect_emb_unit_val _ _ _ _ _).trans (Nat.zero_add _))
  · refine (View.write_of_not_mem _ _ _ (by rw [View.setOn_univ, hset]; exact hm)).trans (hf i ?_)
    rw [hp, List.mem_append] at hi
    refine hi.resolve_right fun hn => hm ?_
    rw [Rect.mem_set_unit, Fin.forall_fin_two]
    have h1 := (i 1).isLt
    change (i 1).val < 1024 at h1
    refine ⟨?_, Nat.zero_le _, by show (i 1).val < 0 + 1024; omega⟩
    show o ≤ (i 0).val ∧ (i 0).val < o + 128
    simp only [List.mem_cons, List.not_mem_nil, or_false] at hn
    omega

/-- A store of 64 rows into the result, after the read before it. -/
theorem out64 {c : Dev nD} {o : ℕ} {off : Fin 2 → ℕ} (h : off = ![o, 0]) (ho : o % 64 = 0) {p p' : ℕ} (hp : (outL c).take p' = (outL c).take p ++ [o / 64])
    {inb} {hld hx hm} {v : Vec F S64x1024 .f32}
    (hv : ∀ (j : S64x1024.Idx) (i : S2048x1024.Idx), (i 0).val = o + (j 0).val → (i 1).val = (j 1).val → v j = outV m c i)
    {α : Type} {Q : α → sProp 𝕄} {kk : PUnit → Prog (TpuEff nD τ sig (Elt F) Λ₀ .tc) α} :
    Out m c p ⊢ iprop((Out m c p' -∗ wpc c (kk ⟨⟩) Q)
        -∗ wpc c (.op (.load (Memref.whole cc0_stg1_0 : Memref sig .tc .vmem S2048x1024 .f32) (Rect.unit (s := S2048x1024) off S64x1024.size inb).toLoadRect hld)
            fun _ => .op (.store (Memref.whole cc0_stg1_0 : Memref sig .tc .vmem S2048x1024 .f32) (Rect.unit (s := S2048x1024) off S64x1024.size inb) v Finset.univ hx hm) kk) Q) := by
  subst h
  iintro H Hk
  unfold Out
  icases H with ⟨%f, %hf, H⟩
  iapply (wp_load 𝒱₀ (c : Thread nD τ) none Set.univ (m := (Memref.whole cc0_stg1_0 : Memref sig .tc .vmem S2048x1024 .f32)) (Finset.subset_univ _)) $$ [H]
  · iexact H
  iintro H
  iapply (wp_store 𝒱₀ (c : Thread nD τ) none Set.univ (m := (Memref.whole cc0_stg1_0 : Memref sig .tc .vmem S2048x1024 .f32)) (r := Rect.unit (s := S2048x1024) ![o, 0] S64x1024.size inb) (S := Finset.univ) (Finset.subset_univ _)) $$ [H]
  · iexact H
  iintro H
  iapply Hk
  iexists _
  isplitr
  swap
  · iexact H
  ipureintro
  intro i hi
  have hset : ((Memref.whole cc0_stg1_0 : Memref sig .tc .vmem S2048x1024 .f32).access (Rect.unit (s := S2048x1024) ![o, 0] S64x1024.size inb)).set = (Rect.unit (s := S2048x1024) ![o, 0] S64x1024.size inb).set := View.set_slice_whole _ _
  by_cases hm : i ∈ (Rect.unit (s := S2048x1024) ![o, 0] S64x1024.size inb).set
  · refine write_read_eq ((Memref.whole cc0_stg1_0 : Memref sig .tc .vmem S2048x1024 .f32).access (Rect.unit (s := S2048x1024) ![o, 0] S64x1024.size inb)) f (outV m c) v (fun j => ?_) i (hset ▸ hm)
    exact hv j _ (rect_emb_unit_val _ _ _ _ _) ((rect_emb_unit_val _ _ _ _ _).trans (Nat.zero_add _))
  · refine (View.write_of_not_mem _ _ _ (by rw [View.setOn_univ, hset]; exact hm)).trans (hf i ?_)
    rw [hp, List.mem_append] at hi
    refine hi.resolve_right fun hn => hm ?_
    rw [Rect.mem_set_unit, Fin.forall_fin_two]
    have h1 := (i 1).isLt
    change (i 1).val < 1024 at h1
    refine ⟨?_, Nat.zero_le _, by show (i 1).val < 0 + 1024; omega⟩
    show o ≤ (i 0).val ∧ (i 0).val < o + 64
    simp only [List.mem_cons, List.not_mem_nil, or_false] at hn
    omega

/-- What the stores write: a segment of the summed quarter of the ring's device `d`, whose place is `q`. -/
theorem outV_eq {c d : Dev nD} {q g : Fin 4} (hd : devAt q (zOf c) = d) (i : S2048x1024.Idx) (a : S512x1024.Idx)
    (h0 : (i 0).val = 512 * q.val + (a 0).val) (h1 : (i 1).val = (a 1).val) : accV m d a = outV m c i := by
  unfold outV
  have ha := (a 0).isLt
  change (a 0).val < 512 at ha
  have e : (⟨(i 0).val / 512, by have := (i 0).isLt; change (i 0).val < 2048 at this; omega⟩ : Fin 4) = q := Fin.ext (by show (i 0).val / 512 = _; omega)
  rw [e, hd]
  refine congrArg (accV m d) (idx2_ext ?_ ?_)
  · show _ = (i 0).val % 512
    omega
  · exact h1.symm

/-- A segment of 128 rows. -/
theorem outA {c d : Dev nD} {q : Fin 4} (g : Fin 4) (hd : devAt q (zOf c) = d) (j : S128x1024.Idx) (i : S2048x1024.Idx)
    (h0 : (i 0).val = 512 * q.val + 128 * g.val + (j 0).val) (h1 : (i 1).val = (j 1).val) : rdA (accV m d) g j = outV m c i :=
  outV_eq m (g := g) hd i _ (by rw [h0, Nat.add_assoc]; rfl) h1
/-- The upper half of a segment of the opposite quarter. -/
theorem outBl {c : Dev nD} {q : Fin 4} (g : Fin 4) (hd : devAt q (zOf c) = lf (lf c)) (j : S64x1024.Idx) (i : S2048x1024.Idx)
    (h0 : (i 0).val = 512 * q.val + 128 * g.val + (j 0).val) (h1 : (i 1).val = (j 1).val) : rdB (blV m c) g j = outV m c i := by
  have hj := (j 0).isLt
  change (j 0).val < 64 at hj
  refine outV_eq m (g := g) hd i _ ?_ h1
  show _ = 512 * q.val + (128 * ((64 * g.val + (j 0).val) / 64) + (64 * g.val + (j 0).val) % 64)
  omega
/-- The lower half. -/
theorem outBr {c : Dev nD} {q : Fin 4} (g : Fin 4) (hd : devAt q (zOf c) = rt (rt c)) (j : S64x1024.Idx) (i : S2048x1024.Idx)
    (h0 : (i 0).val = 512 * q.val + 128 * g.val + 64 + (j 0).val) (h1 : (i 1).val = (j 1).val) : rdB (brV m c) g j = outV m c i := by
  have hj := (j 0).isLt
  change (j 0).val < 64 at hj
  refine outV_eq m (g := g) hd i _ ?_ h1
  show _ = 512 * q.val + (128 * ((64 * g.val + (j 0).val) / 64) + (64 * g.val + (j 0).val) % 64 + 64)
  omega

end Cert.EmbedProof
-- ==== Proof.Waits.lean ====
/-
The waits, one lemma for each kind of cell; the barrier's payments as what a device hands over and gets; the shares of the
buffers that are read while copies of them are under way.
-/
module

public import proofs.«01_k».proof.Proof.Ops

@[expose] public section

set_option maxRecDepth 8000

noncomputable section

namespace Cert.EmbedProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL allPays credOf)

variable {F : FTy → Type} [FloatOps F]

local notation "𝕄" => MT nD τ sig ℕ (Elt F) ℕ UU ℕ

variable (m : (ℓ : Loc nD τ sig) → Buf (Elt F) ℓ) (K : Dev nD × CK → ℕ)

/-! ## Shares and segments -/

section Shares
variable {ℓ : Loc nD τ sig}

omit [FloatOps F] in
/-- Half of a share, and the other half. -/
theorem halve (S : Finset (Idx ℓ)) (q : PosShare TreeShare) (f : Buf (Elt F) ℓ) :
    (ℓ ↦[S]{q} f : sProp 𝕄) ⊣⊢ iprop((ℓ ↦[S]{q.left} f) ∗ ℓ ↦[S]{q.right} f) := pointsTo_share (PosShare.mem_left_op_right _)

omit [FloatOps F] in
/-- A segment of the accumulator, for a copy to the right, a copy to the left, and reading. -/
theorem share3 (S : Finset (Idx ℓ)) (f : Buf (Elt F) ℓ) :
    (ℓ ↦[S]{fullShare} f : sProp 𝕄) ⊣⊢ iprop((ℓ ↦[S]{qR} f) ∗ (ℓ ↦[S]{qL} f) ∗ ℓ ↦[S]{fullShare.right} f) := by
  constructor
  · iintro H
    ihave H := (halve S fullShare f).1 $$ H
    icases H with ⟨H1, H2⟩
    ihave H := (halve S fullShare.left f).1 $$ H1
    icases H with ⟨H0, H1⟩
    isplitl [H0]; · iexact H0
    isplitl [H1]; · iexact H1
    iexact H2
  · iintro ⟨H0, H1, H2⟩
    iapply (halve S fullShare f).2
    isplitr [H2]
    · iapply (halve S fullShare.left f).2
      isplitl [H0]; · iexact H0
      iexact H1
    iexact H2

omit [FloatOps F] in
/-- The device's own segment: also for the three copies over `z`. -/
theorem share6 (S : Finset (Idx ℓ)) (f : Buf (Elt F) ℓ) :
    (ℓ ↦[S]{fullShare} f : sProp 𝕄) ⊣⊢ iprop((ℓ ↦[S]{qR} f) ∗ (ℓ ↦[S]{qL} f) ∗ (ℓ ↦[S]{qZ 0} f) ∗ (ℓ ↦[S]{qZ 1} f) ∗ (ℓ ↦[S]{qZ 2} f) ∗ ℓ ↦[S]{fullShare.right.right.right} f) := by
  constructor
  · iintro H
    ihave H := (share3 S f).1 $$ H
    icases H with ⟨H0, H1, H⟩
    ihave H := (halve S fullShare.right f).1 $$ H
    icases H with ⟨Ha, Hb⟩
    ihave Ha := (halve S fullShare.right.left f).1 $$ Ha
    ihave Hb := (halve S fullShare.right.right f).1 $$ Hb
    icases Ha with ⟨H2, H3⟩
    icases Hb with ⟨H4, H5⟩
    isplitl [H0]; · iexact H0
    isplitl [H1]; · iexact H1
    isplitl [H2]; · iexact H2
    isplitl [H3]; · iexact H3
    isplitl [H4]; · iexact H4
    iexact H5
  · iintro ⟨H0, H1, H2, H3, H4, H5⟩
    iapply (share3 S f).2
    isplitl [H0]; · iexact H0
    isplitl [H1]; · iexact H1
    iapply (halve S fullShare.right f).2
    isplitl [H2 H3]
    · iapply (halve S fullShare.right.left f).2
      isplitl [H2]; · iexact H2
      iexact H3
    · iapply (halve S fullShare.right.right f).2
      isplitl [H4]; · iexact H4
      iexact H5

omit [FloatOps F] in
/-- Elements split in two, one half share lent by parts. -/
theorem shareHalves {S A B : Finset (Idx ℓ)} (hS : S = A ∪ B) (hd : Disjoint A B) (f : Buf (Elt F) ℓ) :
    (ℓ ↦[S]{fullShare} f : sProp 𝕄) ⊣⊢ iprop((ℓ ↦[S]{fullShare.right} f) ∗ (ℓ ↦[A]{fullShare.left} f) ∗ ℓ ↦[B]{fullShare.left} f) := by
  subst hS
  constructor
  · iintro H
    ihave H := (halve (A ∪ B) fullShare f).1 $$ H
    icases H with ⟨H1, H2⟩
    isplitl [H2]; · iexact H2
    iapply (pointsTo_union hd).1; iexact H1
  · iintro ⟨H1, H2⟩
    iapply (halve (A ∪ B) fullShare f).2
    isplitl [H2]; · iapply (pointsTo_union hd).2; iexact H2
    iexact H1

omit [FloatOps F] in
/-- A buffer in four pieces. -/
theorem pieces4 {A B C D : Finset (Idx ℓ)} (hu : Finset.univ = A ∪ (B ∪ (C ∪ D))) (h1 : Disjoint A (B ∪ (C ∪ D))) (h2 : Disjoint B (C ∪ D)) (h3 : Disjoint C D)
    (q : PosShare TreeShare) (f : Buf (Elt F) ℓ) :
    (ℓ ↦[Finset.univ]{q} f : sProp 𝕄) ⊢ iprop((ℓ ↦[A]{q} f) ∗ (ℓ ↦[B]{q} f) ∗ (ℓ ↦[C]{q} f) ∗ ℓ ↦[D]{q} f) := by
  rw [hu]
  iintro H
  ihave H := (pointsTo_union h1).1 $$ H
  icases H with ⟨HA, H⟩
  ihave H := (pointsTo_union h2).1 $$ H
  icases H with ⟨HB, H⟩
  ihave H := (pointsTo_union h3).1 $$ H
  icases H with ⟨HC, HD⟩
  isplitl [HA]; · iexact HA
  isplitl [HB]; · iexact HB
  isplitl [HC]; · iexact HC
  iexact HD
omit [FloatOps F] in
/-- The pieces put together, whatever they hold. -/
theorem join4 {A B C D : Finset (Idx ℓ)} (hu : Finset.univ = A ∪ (B ∪ (C ∪ D))) (h1 : Disjoint A (B ∪ (C ∪ D))) (h2 : Disjoint B (C ∪ D)) (h3 : Disjoint C D)
    (q : PosShare TreeShare) (fA fB fC fD : Buf (Elt F) ℓ) :
    iprop((ℓ ↦[A]{q} fA) ∗ (ℓ ↦[B]{q} fB) ∗ (ℓ ↦[C]{q} fC) ∗ ℓ ↦[D]{q} fD) ⊢ (iprop(∃ f, ℓ ↦[Finset.univ]{q} f) : sProp 𝕄) := by
  rw [hu]
  iintro ⟨HA, HB, HC, HD⟩
  ihave H := (pointsTo_join h3) $$ [HC HD]
  · isplitl [HC]; · iexact HC
    iexact HD
  ihave H := (pointsTo_join h2) $$ [HB H]
  · isplitl [HB]; · iexact HB
    iexact H
  ihave H := (pointsTo_join h1) $$ [HA H]
  · isplitl [HA]; · iexact HA
    iexact H
  iexists _; iexact H

omit [FloatOps F] in
/-- A buffer of unknown contents in four pieces. -/
theorem pieces4' {A B C D : Finset (Idx ℓ)} (hu : Finset.univ = A ∪ (B ∪ (C ∪ D))) (h1 : Disjoint A (B ∪ (C ∪ D))) (h2 : Disjoint B (C ∪ D)) (h3 : Disjoint C D)
    (q : PosShare TreeShare) :
    (iprop(∃ f, ℓ ↦[Finset.univ]{q} f) : sProp 𝕄) ⊢ iprop((∃ f, ℓ ↦[A]{q} f) ∗ (∃ f, ℓ ↦[B]{q} f) ∗ (∃ f, ℓ ↦[C]{q} f) ∗ ∃ f, ℓ ↦[D]{q} f) := by
  iintro ⟨%f, H⟩
  ihave H := (pieces4 hu h1 h2 h3 q f) $$ H
  icases H with ⟨HA, HB, HC, HD⟩
  isplitl [HA]; · iexists f; iexact HA
  isplitl [HB]; · iexists f; iexact HB
  isplitl [HC]; · iexists f; iexact HC
  iexists f; iexact HD

end Shares

/-- Four different numbers below four are all of them. -/
theorem univ4 (c : Dev nD) : (Finset.univ : Finset (Fin 4)) = {gk c 0, gk c 1, gk c 2, gk c 3} := by revert c; decide
@[inherit_doc univ4] theorem univ4' (c : Dev nD) : (Finset.univ : Finset (Fin 4)) = {zOf c, zp c 0, zp c 1, zp c 2} := by revert c; decide
theorem gk_ne (c : Dev nD) {a b : Fin 4} (h : a ≠ b) : gk c a ≠ gk c b := fun e => h (gk_inj c e)
theorem zp_inj (c : Dev nD) {a b : Fin 3} (h : a ≠ b) : zp c a ≠ zp c b := by revert c a b; decide

/-- Four pieces that make up a buffer, in the device's order of the segments. -/
theorem cover4 {ι : Type} [Fintype ι] [DecidableEq ι] {P : Fin 4 → Finset ι} (hP : Finset.univ = Finset.univ.biUnion P) (hd : ∀ {g h : Fin 4}, g ≠ h → Disjoint (P g) (P h))
    {a b c d : Fin 4} (hu : (Finset.univ : Finset (Fin 4)) = {a, b, c, d}) (n1 : a ≠ b) (n2 : a ≠ c) (n3 : a ≠ d) (n4 : b ≠ c) (n5 : b ≠ d) (n6 : c ≠ d) :
    (Finset.univ : Finset ι) = P a ∪ (P b ∪ (P c ∪ P d)) ∧ Disjoint (P a) (P b ∪ (P c ∪ P d)) ∧ Disjoint (P b) (P c ∪ P d) ∧ Disjoint (P c) (P d) := by
  refine ⟨?_, ?_, ?_, hd n6⟩
  · rw [hP, hu]
    simp only [Finset.biUnion_insert, Finset.singleton_biUnion]
  · simp only [Finset.disjoint_union_right]; exact ⟨hd n1, hd n2, hd n3⟩
  · simp only [Finset.disjoint_union_right]; exact ⟨hd n4, hd n5⟩
theorem coverA (c : Dev nD) : (Finset.univ : Finset S512x1024.Idx) = segA (gk c 0) ∪ (segA (gk c 1) ∪ (segA (gk c 2) ∪ segA (gk c 3))) ∧ Disjoint (segA (gk c 0)) (segA (gk c 1) ∪ (segA (gk c 2) ∪ segA (gk c 3))) ∧ Disjoint (segA (gk c 1)) (segA (gk c 2) ∪ segA (gk c 3)) ∧ Disjoint (segA (gk c 2)) (segA (gk c 3)) :=
  cover4 univ_segA segA_disj (univ4 c) (gk_ne c (by decide)) (gk_ne c (by decide)) (gk_ne c (by decide)) (gk_ne c (by decide)) (gk_ne c (by decide)) (gk_ne c (by decide))
theorem coverB (c : Dev nD) : (Finset.univ : Finset S256x1024.Idx) = segB (gk c 0) ∪ (segB (gk c 1) ∪ (segB (gk c 2) ∪ segB (gk c 3))) ∧ Disjoint (segB (gk c 0)) (segB (gk c 1) ∪ (segB (gk c 2) ∪ segB (gk c 3))) ∧ Disjoint (segB (gk c 1)) (segB (gk c 2) ∪ segB (gk c 3)) ∧ Disjoint (segB (gk c 2)) (segB (gk c 3)) :=
  cover4 univ_segB segB_disj (univ4 c) (gk_ne c (by decide)) (gk_ne c (by decide)) (gk_ne c (by decide)) (gk_ne c (by decide)) (gk_ne c (by decide)) (gk_ne c (by decide))
theorem coverA' (c : Dev nD) : (Finset.univ : Finset S512x1024.Idx) = segA (zOf c) ∪ (segA (zp c 0) ∪ (segA (zp c 1) ∪ segA (zp c 2))) ∧ Disjoint (segA (zOf c)) (segA (zp c 0) ∪ (segA (zp c 1) ∪ segA (zp c 2))) ∧ Disjoint (segA (zp c 0)) (segA (zp c 1) ∪ segA (zp c 2)) ∧ Disjoint (segA (zp c 1)) (segA (zp c 2)) :=
  cover4 univ_segA segA_disj (univ4' c) (zp_ne c 0).symm (zp_ne c 1).symm (zp_ne c 2).symm (zp_inj c (by decide)) (zp_inj c (by decide)) (zp_inj c (by decide))
theorem coverR (c : Dev nD) : (Finset.univ : Finset S4x128x1024.Idx) = slotR (zOf c) ∪ (slotR (zp c 0) ∪ (slotR (zp c 1) ∪ slotR (zp c 2))) ∧ Disjoint (slotR (zOf c)) (slotR (zp c 0) ∪ (slotR (zp c 1) ∪ slotR (zp c 2))) ∧ Disjoint (slotR (zp c 0)) (slotR (zp c 1) ∪ slotR (zp c 2)) ∧ Disjoint (slotR (zp c 1)) (slotR (zp c 2)) :=
  cover4 univ_slotR slotR_disj (univ4' c) (zp_ne c 0).symm (zp_ne c 1).symm (zp_ne c 2).symm (zp_inj c (by decide)) (zp_inj c (by decide)) (zp_inj c (by decide))

/-! ## The waits -/

section Waits

/-- A wait for a peer's block of the reduce-scatter. -/
theorem wt_rs {c : Dev nD} (j : Fin 3) {o : Fin 1 → ℕ} (h : o = ![(zp c j).val]) {inb} {sp' : Space} {s' : Shape} {src : Memref sig .tc sp' s' .f32}
    {o2} {inb2} {hsrc} {hdst} {pos : ℕ} (hv : ∀ x ∈ lvls.drop pos, 2 < x)
    {α : Type} {Q : α → sProp 𝕄} {kk : PUnit → Prog (TpuEff nD τ sig (Elt F) Λ₀ .tc) α} :
    iprop(records m K ∗ Wt c (.rs (zp c j)) ∗ Ow c pos)
      ⊢ iprop(((rAt c (slotR (zp c j)) fullShare (RsV m c) ∗ Dn c (.rs (zp c j)) ∗ Ow c pos) -∗ wpc c (kk ⟨⟩) Q)
          -∗ wpc c (.op (.waitDma2 (((cc0_scratch5.slice (Rect.unit (s := S4) o S1.size inb)).squeeze S_ squeezes_S1_S_).sem) src (((Memref.whole cc0_scratch3).slice (Rect.unit (s := S4x128x1024) o2 S1x128x1024.size inb2) (fun _ => rfl)).squeeze S128x1024 squeezes_S1x128x1024_S128x1024 : Memref sig .tc .vmem S128x1024 .f32) hsrc hdst) kk) Q) := by
  subst h
  exact wait_step m K (.rs (zp c j)) (zp_ne c j).symm rfl (sem_rs (zp c j) inb) N128_rs hv

/-- A wait for a peer's summed segment. -/
theorem wt_ag {c : Dev nD} {g : Fin 4} (hg : zOf c ≠ g) {o : Fin 1 → ℕ} (h : o = ![g.val]) {inb} {sp' : Space} {s' : Shape} {src : Memref sig .tc sp' s' .f32}
    {o2} {inb2} {hsrc} {hdst} {pos : ℕ} (hv : ∀ x ∈ lvls.drop pos, 3 < x)
    {α : Type} {Q : α → sProp 𝕄} {kk : PUnit → Prog (TpuEff nD τ sig (Elt F) Λ₀ .tc) α} :
    iprop(records m K ∗ Wt c (.ag g) ∗ Ow c pos)
      ⊢ iprop(((((aAt c (segA g) qR (accV m c)) ∗ (aAt c (segA g) qL (accV m c)) ∗ aAt c (segA g) fullShare.right (accV m c)) ∗ Dn c (.ag g) ∗ Ow c pos) -∗ wpc c (kk ⟨⟩) Q)
          -∗ wpc c (.op (.waitDma2 (((cc0_scratch7.slice (Rect.unit (s := S4) o S1.size inb)).squeeze S_ squeezes_S1_S_).sem) src ((Memref.whole cc0_scratch2).slice (Rect.unit (s := S512x1024) o2 S128x1024.size inb2) (fun _ => rfl) : Memref sig .tc .vmem S128x1024 .f32) hsrc hdst) kk) Q) := by
  subst h
  iintro H Hk
  iapply (wait_step m K (.ag g) hg rfl (sem_ag g inb) N128_a hv) $$ H
  iintro ⟨Hp, Hd, Ho⟩
  iapply Hk
  isplitl [Hp]; · iapply (show payK m c (.ag g) 0 ⊢ ((aAt c (segA g) qR (accV m c)) ∗ (aAt c (segA g) qL (accV m c)) ∗ aAt c (segA g) fullShare.right (accV m c)) from (share3 (ℓ := (c : Thread nD τ).loc cc0_scratch2) (segA g) (accV m c)).1); iexact Hp
  isplitl [Hd]; · iexact Hd
  iexact Ho

/-- A wait for a block of the ring. -/
theorem wt_rb0 {c : Dev nD} (g : Fin 4) {o : Fin 2 → ℕ} (h : o = ![0, g.val]) {inb} {sp' : Space} {s' : Shape} {src : Memref sig .tc sp' s' .f32}
    {o2} {inb2} {hsrc} {hdst} {pos : ℕ} (hv : ∀ x ∈ lvls.drop pos, 4 < x)
    {α : Type} {Q : α → sProp 𝕄} {kk : PUnit → Prog (TpuEff nD τ sig (Elt F) Λ₀ .tc) α} :
    iprop(records m K ∗ Wt c (.rb 0 g) ∗ Ow c pos)
      ⊢ iprop(((((l0At c (segA g) fullShare.right (accV m (lf c))) ∗ (l0At c (halfA g 0) fullShare.left (accV m (lf c))) ∗ l0At c (halfA g 1) fullShare.left (accV m (lf c))) ∗ Dn c (.rb 0 g) ∗ Ow c pos) -∗ wpc c (kk ⟨⟩) Q)
          -∗ wpc c (.op (.waitDma2 (((cc0_scratch13.slice (Rect.unit (s := S4x4) o S1x1.size inb)).squeeze S_ squeezes_S1x1_S_).sem) src ((Memref.whole cc0_scratch8).slice (Rect.unit (s := S512x1024) o2 S128x1024.size inb2) (fun _ => rfl) : Memref sig .tc .vmem S128x1024 .f32) hsrc hdst) kk) Q) := by
  subst h
  iintro H Hk
  iapply (wait_step m K (.rb 0 g) trivial rfl (sem_rb 0 g inb) N128_l hv) $$ H
  iintro ⟨Hp, Hd, Ho⟩
  iapply Hk
  isplitl [Hp]; · iapply (show payK m c (.rb 0 g) 0 ⊢ ((l0At c (segA g) fullShare.right (accV m (lf c))) ∗ (l0At c (halfA g 0) fullShare.left (accV m (lf c))) ∗ l0At c (halfA g 1) fullShare.left (accV m (lf c))) from (shareHalves (ℓ := (c : Thread nD τ).loc cc0_scratch8) (segA_halves g) (halfA_disj g) (accV m (lf c))).1); iexact Hp
  isplitl [Hd]; · iexact Hd
  iexact Ho

/-- A wait for a block of the ring. -/
theorem wt_rb1 {c : Dev nD} (g : Fin 4) {o : Fin 2 → ℕ} (h : o = ![1, g.val]) {inb} {sp' : Space} {s' : Shape} {src : Memref sig .tc sp' s' .f32}
    {o2} {inb2} {hsrc} {hdst} {pos : ℕ} (hv : ∀ x ∈ lvls.drop pos, 4 < x)
    {α : Type} {Q : α → sProp 𝕄} {kk : PUnit → Prog (TpuEff nD τ sig (Elt F) Λ₀ .tc) α} :
    iprop(records m K ∗ Wt c (.rb 1 g) ∗ Ow c pos)
      ⊢ iprop(((((r0At c (segA g) fullShare.right (accV m (rt c))) ∗ (r0At c (halfA g 0) fullShare.left (accV m (rt c))) ∗ r0At c (halfA g 1) fullShare.left (accV m (rt c))) ∗ Dn c (.rb 1 g) ∗ Ow c pos) -∗ wpc c (kk ⟨⟩) Q)
          -∗ wpc c (.op (.waitDma2 (((cc0_scratch13.slice (Rect.unit (s := S4x4) o S1x1.size inb)).squeeze S_ squeezes_S1x1_S_).sem) src ((Memref.whole cc0_scratch9).slice (Rect.unit (s := S512x1024) o2 S128x1024.size inb2) (fun _ => rfl) : Memref sig .tc .vmem S128x1024 .f32) hsrc hdst) kk) Q) := by
  subst h
  iintro H Hk
  iapply (wait_step m K (.rb 1 g) trivial rfl (sem_rb 1 g inb) N128_r hv) $$ H
  iintro ⟨Hp, Hd, Ho⟩
  iapply Hk
  isplitl [Hp]; · iapply (show payK m c (.rb 1 g) 0 ⊢ ((r0At c (segA g) fullShare.right (accV m (rt c))) ∗ (r0At c (halfA g 0) fullShare.left (accV m (rt c))) ∗ r0At c (halfA g 1) fullShare.left (accV m (rt c))) from (shareHalves (ℓ := (c : Thread nD τ).loc cc0_scratch9) (segA_halves g) (halfA_disj g) (accV m (rt c))).1); iexact Hp
  isplitl [Hd]; · iexact Hd
  iexact Ho

/-- A wait for a block of the ring. -/
theorem wt_rb2 {c : Dev nD} (g : Fin 4) {o : Fin 2 → ℕ} (h : o = ![2, g.val]) {inb} {sp' : Space} {s' : Shape} {src : Memref sig .tc sp' s' .f32}
    {o2} {inb2} {hsrc} {hdst} {pos : ℕ} (hv : ∀ x ∈ lvls.drop pos, 5 < x)
    {α : Type} {Q : α → sProp 𝕄} {kk : PUnit → Prog (TpuEff nD τ sig (Elt F) Λ₀ .tc) α} :
    iprop(records m K ∗ Wt c (.rb 2 g) ∗ Ow c pos)
      ⊢ iprop(((l1At c (segB g) fullShare (blV m c) ∗ Dn c (.rb 2 g) ∗ Ow c pos) -∗ wpc c (kk ⟨⟩) Q)
          -∗ wpc c (.op (.waitDma2 (((cc0_scratch13.slice (Rect.unit (s := S4x4) o S1x1.size inb)).squeeze S_ squeezes_S1x1_S_).sem) src ((Memref.whole cc0_scratch10).slice (Rect.unit (s := S256x1024) o2 S64x1024.size inb2) (fun _ => rfl) : Memref sig .tc .vmem S64x1024 .f32) hsrc hdst) kk) Q) := by
  subst h
  exact wait_step m K (.rb 2 g) trivial rfl (sem_rb 2 g inb) N64_l1 hv

/-- A wait for a block of the ring. -/
theorem wt_rb3 {c : Dev nD} (g : Fin 4) {o : Fin 2 → ℕ} (h : o = ![3, g.val]) {inb} {sp' : Space} {s' : Shape} {src : Memref sig .tc sp' s' .f32}
    {o2} {inb2} {hsrc} {hdst} {pos : ℕ} (hv : ∀ x ∈ lvls.drop pos, 5 < x)
    {α : Type} {Q : α → sProp 𝕄} {kk : PUnit → Prog (TpuEff nD τ sig (Elt F) Λ₀ .tc) α} :
    iprop(records m K ∗ Wt c (.rb 3 g) ∗ Ow c pos)
      ⊢ iprop(((r1At c (segB g) fullShare (brV m c) ∗ Dn c (.rb 3 g) ∗ Ow c pos) -∗ wpc c (kk ⟨⟩) Q)
          -∗ wpc c (.op (.waitDma2 (((cc0_scratch13.slice (Rect.unit (s := S4x4) o S1x1.size inb)).squeeze S_ squeezes_S1x1_S_).sem) src ((Memref.whole cc0_scratch11).slice (Rect.unit (s := S256x1024) o2 S64x1024.size inb2) (fun _ => rfl) : Memref sig .tc .vmem S64x1024 .f32) hsrc hdst) kk) Q) := by
  subst h
  exact wait_step m K (.rb 3 g) trivial rfl (sem_rb 3 g inb) N64_r1 hv

/-- A wait for a departure of the reduce-scatter. -/
theorem wt_ss {c : Dev nD} (k : Fin 3) {o : Fin 1 → ℕ} (h : o = ![k.val]) {inb} {sp' : Space} {s' : Shape} {src : Memref sig .tc sp' s' .f32}
    {o2} {inb2} {hsrc} {hdst} {pos : ℕ} (hv : ∀ x ∈ lvls.drop pos, 0 < x)
    {α : Type} {Q : α → sProp 𝕄} {kk : PUnit → Prog (TpuEff nD τ sig (Elt F) Λ₀ .tc) α} :
    iprop(records m K ∗ Wt c (.ss k) ∗ Ow c pos)
      ⊢ iprop(((xAt c (segA (pk c k)) fullShare (XV m c) ∗ Dn c (.ss k) ∗ Ow c pos) -∗ wpc c (kk ⟨⟩) Q)
          -∗ wpc c (.op (.waitDma2 (((cc0_scratch4.slice (Rect.unit (s := S3) o S1.size inb)).squeeze S_ squeezes_S1_S_).sem) src ((Memref.whole cc0_scratch0).slice (Rect.unit (s := S512x1024) o2 S128x1024.size inb2) (fun _ => rfl) : Memref sig .tc .vmem S128x1024 .f32) hsrc hdst) kk) Q) := by
  subst h
  exact wait_step m K (.ss k) trivial rfl (sem_ss k inb) N128_x hv

/-- A wait for a departure of the all-gather. -/
theorem wt_sa {c : Dev nD} (k : Fin 3) {o : Fin 1 → ℕ} (h : o = ![k.val]) {inb} {sp' : Space} {s' : Shape} {src : Memref sig .tc sp' s' .f32}
    {o2} {inb2} {hsrc} {hdst} {pos : ℕ} (hv : ∀ x ∈ lvls.drop pos, 0 < x)
    {α : Type} {Q : α → sProp 𝕄} {kk : PUnit → Prog (TpuEff nD τ sig (Elt F) Λ₀ .tc) α} :
    iprop(records m K ∗ Wt c (.sa k) ∗ Ow c pos)
      ⊢ iprop(((aAt c (segA (zOf c)) (qZ k) (accV m c) ∗ Dn c (.sa k) ∗ Ow c pos) -∗ wpc c (kk ⟨⟩) Q)
          -∗ wpc c (.op (.waitDma2 (((cc0_scratch6.slice (Rect.unit (s := S3) o S1.size inb)).squeeze S_ squeezes_S1_S_).sem) src ((Memref.whole cc0_scratch2).slice (Rect.unit (s := S512x1024) o2 S128x1024.size inb2) (fun _ => rfl) : Memref sig .tc .vmem S128x1024 .f32) hsrc hdst) kk) Q) := by
  subst h
  exact wait_step m K (.sa k) trivial rfl (sem_sa k inb) N128_a hv

/-- A wait for a departure around the ring. -/
theorem wt_sb0 {c : Dev nD} (g : Fin 4) {o : Fin 2 → ℕ} (h : o = ![0, g.val]) {inb} {sp' : Space} {s' : Shape} {src : Memref sig .tc sp' s' .f32}
    {o2} {inb2} {hsrc} {hdst} {pos : ℕ} (hv : ∀ x ∈ lvls.drop pos, 0 < x)
    {α : Type} {Q : α → sProp 𝕄} {kk : PUnit → Prog (TpuEff nD τ sig (Elt F) Λ₀ .tc) α} :
    iprop(records m K ∗ Wt c (.sb 0 g) ∗ Ow c pos)
      ⊢ iprop(((aAt c (segA g) qR (accV m c) ∗ Dn c (.sb 0 g) ∗ Ow c pos) -∗ wpc c (kk ⟨⟩) Q)
          -∗ wpc c (.op (.waitDma2 (((cc0_scratch12.slice (Rect.unit (s := S4x4) o S1x1.size inb)).squeeze S_ squeezes_S1x1_S_).sem) src ((Memref.whole cc0_scratch2).slice (Rect.unit (s := S512x1024) o2 S128x1024.size inb2) (fun _ => rfl) : Memref sig .tc .vmem S128x1024 .f32) hsrc hdst) kk) Q) := by
  subst h
  exact wait_step m K (.sb 0 g) trivial rfl (sem_sb 0 g inb) N128_a hv

/-- A wait for a departure around the ring. -/
theorem wt_sb1 {c : Dev nD} (g : Fin 4) {o : Fin 2 → ℕ} (h : o = ![1, g.val]) {inb} {sp' : Space} {s' : Shape} {src : Memref sig .tc sp' s' .f32}
    {o2} {inb2} {hsrc} {hdst} {pos : ℕ} (hv : ∀ x ∈ lvls.drop pos, 0 < x)
    {α : Type} {Q : α → sProp 𝕄} {kk : PUnit → Prog (TpuEff nD τ sig (Elt F) Λ₀ .tc) α} :
    iprop(records m K ∗ Wt c (.sb 1 g) ∗ Ow c pos)
      ⊢ iprop(((aAt c (segA g) qL (accV m c) ∗ Dn c (.sb 1 g) ∗ Ow c pos) -∗ wpc c (kk ⟨⟩) Q)
          -∗ wpc c (.op (.waitDma2 (((cc0_scratch12.slice (Rect.unit (s := S4x4) o S1x1.size inb)).squeeze S_ squeezes_S1x1_S_).sem) src ((Memref.whole cc0_scratch2).slice (Rect.unit (s := S512x1024) o2 S128x1024.size inb2) (fun _ => rfl) : Memref sig .tc .vmem S128x1024 .f32) hsrc hdst) kk) Q) := by
  subst h
  exact wait_step m K (.sb 1 g) trivial rfl (sem_sb 1 g inb) N128_a hv

/-- A wait for a departure around the ring. -/
theorem wt_sb2 {c : Dev nD} (g : Fin 4) {o : Fin 2 → ℕ} (h : o = ![2, g.val]) {inb} {sp' : Space} {s' : Shape} {src : Memref sig .tc sp' s' .f32}
    {o2} {inb2} {hsrc} {hdst} {pos : ℕ} (hv : ∀ x ∈ lvls.drop pos, 0 < x)
    {α : Type} {Q : α → sProp 𝕄} {kk : PUnit → Prog (TpuEff nD τ sig (Elt F) Λ₀ .tc) α} :
    iprop(records m K ∗ Wt c (.sb 2 g) ∗ Ow c pos)
      ⊢ iprop(((l0At c (halfA g 0) fullShare.left (accV m (lf c)) ∗ Dn c (.sb 2 g) ∗ Ow c pos) -∗ wpc c (kk ⟨⟩) Q)
          -∗ wpc c (.op (.waitDma2 (((cc0_scratch12.slice (Rect.unit (s := S4x4) o S1x1.size inb)).squeeze S_ squeezes_S1x1_S_).sem) src ((Memref.whole cc0_scratch8).slice (Rect.unit (s := S512x1024) o2 S64x1024.size inb2) (fun _ => rfl) : Memref sig .tc .vmem S64x1024 .f32) hsrc hdst) kk) Q) := by
  subst h
  exact wait_step m K (.sb 2 g) trivial rfl (sem_sb 2 g inb) N64_l0 hv

/-- A wait for a departure around the ring. -/
theorem wt_sb3 {c : Dev nD} (g : Fin 4) {o : Fin 2 → ℕ} (h : o = ![3, g.val]) {inb} {sp' : Space} {s' : Shape} {src : Memref sig .tc sp' s' .f32}
    {o2} {inb2} {hsrc} {hdst} {pos : ℕ} (hv : ∀ x ∈ lvls.drop pos, 0 < x)
    {α : Type} {Q : α → sProp 𝕄} {kk : PUnit → Prog (TpuEff nD τ sig (Elt F) Λ₀ .tc) α} :
    iprop(records m K ∗ Wt c (.sb 3 g) ∗ Ow c pos)
      ⊢ iprop(((r0At c (halfA g 1) fullShare.left (accV m (rt c)) ∗ Dn c (.sb 3 g) ∗ Ow c pos) -∗ wpc c (kk ⟨⟩) Q)
          -∗ wpc c (.op (.waitDma2 (((cc0_scratch12.slice (Rect.unit (s := S4x4) o S1x1.size inb)).squeeze S_ squeezes_S1x1_S_).sem) src ((Memref.whole cc0_scratch9).slice (Rect.unit (s := S512x1024) o2 S64x1024.size inb2) (fun _ => rfl) : Memref sig .tc .vmem S64x1024 .f32) hsrc hdst) kk) Q) := by
  subst h
  exact wait_step m K (.sb 3 g) trivial rfl (sem_sb 3 g inb) N64_r0 hv

end Waits

/-! ## The kernel's spellings of the semaphores that copies name -/

theorem sem_rs' (g : Fin 4) {o} (h : o = ![g.val]) (inb) : SemLoc.dma (((cc0_scratch5.slice (Rect.unit (s := S4) o S1.size inb)).squeeze S_ squeezes_S1_S_).sem) = csem (.rs g) := by
  subst h; exact sem_rs g inb
theorem sem_ag' (g : Fin 4) {o} (h : o = ![g.val]) (inb) : SemLoc.dma (((cc0_scratch7.slice (Rect.unit (s := S4) o S1.size inb)).squeeze S_ squeezes_S1_S_).sem) = csem (.ag g) := by
  subst h; exact sem_ag g inb
theorem sem_rb' (i g : Fin 4) {o} (h : o = ![i.val, g.val]) (inb) : SemLoc.dma (((cc0_scratch13.slice (Rect.unit (s := S4x4) o S1x1.size inb)).squeeze S_ squeezes_S1x1_S_).sem) = csem (.rb i g) := by
  subst h; exact sem_rb i g inb
theorem sem_sb' (i g : Fin 4) {o} (h : o = ![i.val, g.val]) (inb) : SemLoc.dma (((cc0_scratch12.slice (Rect.unit (s := S4x4) o S1x1.size inb)).squeeze S_ squeezes_S1x1_S_).sem) = csem (.sb i g) := by
  subst h; exact sem_sb i g inb

/-! ## The barrier -/

section Bar

/-- What a device's signals hand over: to a peer of the column, to the left, to the right. -/
theorem pay_bar0 (c : Dev nD) : hndZ c (zp c 0) ⊢ payK m (tgt c 0) .bar (rev 0) := by
  show _ ⊢ hndZ (tgt (tgt c 0) 2) (zOf (tgt c 0))
  rw [show tgt (tgt c 0) 2 = c from tgt_rev c 0, show zOf (tgt c 0) = zp c 0 from zOf_zAt _ _]
@[inherit_doc pay_bar0] theorem pay_bar1 (c : Dev nD) : hndZ c (zp c 1) ⊢ payK m (tgt c 1) .bar (rev 1) := by
  show _ ⊢ hndZ (tgt (tgt c 1) 1) (zOf (tgt c 1))
  rw [show tgt (tgt c 1) 1 = c from tgt_rev c 1, show zOf (tgt c 1) = zp c 1 from zOf_zAt _ _]
@[inherit_doc pay_bar0] theorem pay_bar2 (c : Dev nD) : hndZ c (zp c 2) ⊢ payK m (tgt c 2) .bar (rev 2) := by
  show _ ⊢ hndZ (tgt (tgt c 2) 0) (zOf (tgt c 2))
  rw [show tgt (tgt c 2) 0 = c from tgt_rev c 2, show zOf (tgt c 2) = zp c 2 from zOf_zAt _ _]
@[inherit_doc pay_bar0] theorem pay_bar3 (c : Dev nD) : hndL c ⊢ payK m (tgt c 3) .bar (rev 3) := by
  show _ ⊢ hndL (rt (lf c))
  rw [rt_lf]
@[inherit_doc pay_bar0] theorem pay_bar4 (c : Dev nD) : hndR c ⊢ payK m (tgt c 4) .bar (rev 4) := by
  show _ ⊢ hndR (lf (rt c))
  rw [lf_rt]

omit [FloatOps F] in
theorem bigSep3 (Φ : Fin 3 → sProp 𝕄) : bigSep Finset.univ Φ = iprop(Φ 0 ∗ Φ 1 ∗ Φ 2) := by
  rw [bigSep_univ_eq_bigSepL [0, 1, 2] (by decide) (by decide), bigSepL_cons_cons, bigSepL_cons_cons, bigSepL_singleton]
  rfl
omit [FloatOps F] in
/-- The buffers of the peers, in the order in which they are copied into. -/
theorem hndZ_order (c : Dev nD) : iprop(hndZ (tgt c 0) (zOf c) ∗ hndZ (tgt c 1) (zOf c) ∗ hndZ (tgt c 2) (zOf c))
    ⊢ (iprop(hndZ (pd c 0) (zOf c) ∗ hndZ (pd c 1) (zOf c) ∗ hndZ (pd c 2) (zOf c)) : sProp 𝕄) := by
  have h1 := bigSep3 (F := F) (fun k : Fin 3 => hndZ (zAt c (pk c k)) (zOf c))
  have h2 := bigSep3 (F := F) (fun j : Fin 3 => hndZ (zAt c (zp c j)) (zOf c))
  have h3 : bigSep Finset.univ (fun k : Fin 3 => (hndZ (zAt c (pk c k)) (zOf c) : sProp 𝕄)) = bigSep Finset.univ (fun j : Fin 3 => hndZ (zAt c (zp c j)) (zOf c)) := by
    rw [bigSep_univ_equiv (pPerm c)]
    refine bigSep_congr fun j _ => ?_
    rw [show pk c (pPerm c j) = zp c j from pk_pOfJ c j]
  exact Entails.of_eq (h2.symm.trans (h3.symm.trans h1))

/-- The wait on the barrier: the buffers that this device copies into. -/
theorem bar_step {c : Dev nD} {sem : Sem sig} (hs : SemLoc.reg sem = csem .bar) {k' : ℕ} (hk : k' = 5) {pos : ℕ} (hv : ∀ x ∈ lvls.drop pos, 1 < x)
    {α : Type} {Q : α → sProp 𝕄} {kk : PUnit → Prog (TpuEff nD τ sig (Elt F) Λ₀ .tc) α} :
    iprop(records m K ∗ Wt c .bar ∗ Ow c pos)
      ⊢ iprop((((hndZ (pd c 0) (zOf c) ∗ hndZ (pd c 1) (zOf c) ∗ hndZ (pd c 2) (zOf c)) ∗ hndR (lf c) ∗ hndL (rt c) ∗ Dn c .bar ∗ Ow c pos) -∗ wpc c (kk ⟨⟩) Q)
          -∗ wpc c (.op (.semWait sem k') kk) Q) := by
  iintro H Hk
  iapply (wait5_step m K .bar rfl hs hk hv) $$ H
  iintro ⟨Hp, Hd, Ho⟩
  ihave Hp := (show iprop(payK m c .bar 0 ∗ payK m c .bar 1 ∗ payK m c .bar 2 ∗ payK m c .bar 3 ∗ payK m c .bar 4)
    ⊢ iprop(hndZ (tgt c 0) (zOf c) ∗ hndZ (tgt c 1) (zOf c) ∗ hndZ (tgt c 2) (zOf c) ∗ hndR (lf c) ∗ hndL (rt c)) from BI.Entails.refl _) $$ Hp
  icases Hp with ⟨H0, H1, H2, H3, H4⟩
  iapply Hk
  isplitl [H0 H1 H2]
  · iapply (hndZ_order c)
    isplitl [H0]; · iexact H0
    isplitl [H1]; · iexact H1
    iexact H2
  isplitl [H3]; · iexact H3
  isplitl [H4]; · iexact H4
  isplitl [Hd]; · iexact Hd
  iexact Ho

omit [FloatOps F] in
/-- The right neighbour's left buffers, segment by segment in this device's order. -/
theorem hndL_rt (c : Dev nD) : hndL (rt c) ⊢ (iprop(((∃ f, l0At (rt c) (segA (gk c 0)) fullShare f) ∗ (∃ f, l0At (rt c) (segA (gk c 1)) fullShare f) ∗ (∃ f, l0At (rt c) (segA (gk c 2)) fullShare f) ∗ (∃ f, l0At (rt c) (segA (gk c 3)) fullShare f))
    ∗ ((∃ f, l1At (rt c) (segB (gk c 0)) fullShare f) ∗ (∃ f, l1At (rt c) (segB (gk c 1)) fullShare f) ∗ (∃ f, l1At (rt c) (segB (gk c 2)) fullShare f) ∗ (∃ f, l1At (rt c) (segB (gk c 3)) fullShare f))) : sProp 𝕄) := by
  unfold hndL
  simp only [gk_rt]
  exact BI.Entails.refl _
omit [FloatOps F] in
/-- The left neighbour's right buffers. -/
theorem hndR_lf (c : Dev nD) : hndR (lf c) ⊢ (iprop(((∃ f, r0At (lf c) (segA (gk c 0)) fullShare f) ∗ (∃ f, r0At (lf c) (segA (gk c 1)) fullShare f) ∗ (∃ f, r0At (lf c) (segA (gk c 2)) fullShare f) ∗ (∃ f, r0At (lf c) (segA (gk c 3)) fullShare f))
    ∗ ((∃ f, r1At (lf c) (segB (gk c 0)) fullShare f) ∗ (∃ f, r1At (lf c) (segB (gk c 1)) fullShare f) ∗ (∃ f, r1At (lf c) (segB (gk c 2)) fullShare f) ∗ (∃ f, r1At (lf c) (segB (gk c 3)) fullShare f))) : sProp 𝕄) := by
  unfold hndR
  simp only [gk_lf]
  exact BI.Entails.refl _

/-- The wait on the exit semaphore. -/
theorem ex_step {c : Dev nD} {sem : Sem sig} (hs : SemLoc.reg sem = csem .ex) {k' : ℕ} (hk : k' = 5) {pos : ℕ} (hv : ∀ x ∈ lvls.drop pos, 6 < x)
    {α : Type} {Q : α → sProp 𝕄} {kk : PUnit → Prog (TpuEff nD τ sig (Elt F) Λ₀ .tc) α} :
    iprop(records m K ∗ Wt c .ex ∗ Ow c pos) ⊢ iprop(((Dn c .ex ∗ Ow c pos) -∗ wpc c (kk ⟨⟩) Q) -∗ wpc c (.op (.semWait sem k') kk) Q) := by
  iintro H Hk
  iapply (wait5_step m K .ex rfl hs hk hv) $$ H
  iintro ⟨-, Hd, Ho⟩
  iapply Hk
  isplitl [Hd]; · iexact Hd
  iexact Ho

end Bar

/-! ## The stores into the result -/

section Stores

/-- A segment of 128 rows of the ring's device `d`, whose place is `q`. -/
theorem stA {c : Dev nD} (d : Dev nD) (q n : Fin 4) (hd : devAt q (zOf c) = d) {off : Fin 2 → ℕ} (h : off = ![512 * q.val + 128 * (gk c n).val, 0]) {p p' : ℕ}
    (hp : (outL c).take p' = (outL c).take p ++ [8 * q.val + 2 * (gk c n).val + 0, 8 * q.val + 2 * (gk c n).val + 1]) {inb} {hld hx hm}
    {α : Type} {Q : α → sProp 𝕄} {kk : PUnit → Prog (TpuEff nD τ sig (Elt F) Λ₀ .tc) α} :
    Out m c p ⊢ iprop((Out m c p' -∗ wpc c (kk ⟨⟩) Q)
        -∗ wpc c (.op (.load (Memref.whole cc0_stg1_0 : Memref sig .tc .vmem S2048x1024 .f32) (Rect.unit (s := S2048x1024) off S128x1024.size inb).toLoadRect hld)
            fun _ => .op (.store (Memref.whole cc0_stg1_0 : Memref sig .tc .vmem S2048x1024 .f32) (Rect.unit (s := S2048x1024) off S128x1024.size inb) (rdA (accV m d) (gk c n)) Finset.univ hx hm) kk) Q) :=
  out128 m h (by omega) (by
    rw [hp, show (512 * q.val + 128 * (gk c n).val) / 64 = 8 * q.val + 2 * (gk c n).val + 0 by omega])
    (outA m (gk c n) hd)
/-- The upper half of a segment of the opposite device. -/
theorem stBl {c : Dev nD} (n : Fin 4) {off : Fin 2 → ℕ} (h : off = ![512 * (rOf c + 2).val + 128 * (gk c n).val, 0]) {p p' : ℕ}
    (hp : (outL c).take p' = (outL c).take p ++ [8 * (rOf c + 2).val + 2 * (gk c n).val + 0]) {inb} {hld hx hm}
    {α : Type} {Q : α → sProp 𝕄} {kk : PUnit → Prog (TpuEff nD τ sig (Elt F) Λ₀ .tc) α} :
    Out m c p ⊢ iprop((Out m c p' -∗ wpc c (kk ⟨⟩) Q)
        -∗ wpc c (.op (.load (Memref.whole cc0_stg1_0 : Memref sig .tc .vmem S2048x1024 .f32) (Rect.unit (s := S2048x1024) off S64x1024.size inb).toLoadRect hld)
            fun _ => .op (.store (Memref.whole cc0_stg1_0 : Memref sig .tc .vmem S2048x1024 .f32) (Rect.unit (s := S2048x1024) off S64x1024.size inb) (rdB (blV m c) (gk c n)) Finset.univ hx hm) kk) Q) :=
  out64 m h (by omega) (by
    rw [hp, show (512 * (rOf c + 2).val + 128 * (gk c n).val) / 64 = 8 * (rOf c + 2).val + 2 * (gk c n).val + 0 by omega])
    (outBl m (gk c n) (by
      have h : ∀ c : Dev nD, devAt (rOf c + 2) (zOf c) = lf (lf c) := by decide
      exact h c))
/-- The lower half. -/
theorem stBr {c : Dev nD} (n : Fin 4) {off : Fin 2 → ℕ} (h : off = ![512 * (rOf c + 2).val + 128 * (gk c n).val + 64, 0]) {p p' : ℕ}
    (hp : (outL c).take p' = (outL c).take p ++ [8 * (rOf c + 2).val + 2 * (gk c n).val + 1]) {inb} {hld hx hm}
    {α : Type} {Q : α → sProp 𝕄} {kk : PUnit → Prog (TpuEff nD τ sig (Elt F) Λ₀ .tc) α} :
    Out m c p ⊢ iprop((Out m c p' -∗ wpc c (kk ⟨⟩) Q)
        -∗ wpc c (.op (.load (Memref.whole cc0_stg1_0 : Memref sig .tc .vmem S2048x1024 .f32) (Rect.unit (s := S2048x1024) off S64x1024.size inb).toLoadRect hld)
            fun _ => .op (.store (Memref.whole cc0_stg1_0 : Memref sig .tc .vmem S2048x1024 .f32) (Rect.unit (s := S2048x1024) off S64x1024.size inb) (rdB (brV m c) (gk c n)) Finset.univ hx hm) kk) Q) :=
  out64 m h (by omega) (by
    rw [hp, show (512 * (rOf c + 2).val + 128 * (gk c n).val + 64) / 64 = 8 * (rOf c + 2).val + 2 * (gk c n).val + 1 by omega])
    (outBr m (gk c n) (by
      have h : ∀ c : Dev nD, devAt (rOf c + 2) (zOf c) = rt (rt c) := by decide
      exact h c))

end Stores

end Cert.EmbedProof
-- ==== Proof.Pieces.lean ====
/-
Cutting and joining the device's own buffers: the row segments of `x`, the shares of a reduced segment.
-/
module

public import proofs.«01_k».proof.Proof.Waits

@[expose] public section

set_option maxRecDepth 8000

noncomputable section

namespace Cert.EmbedProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (K : Dev nD × CK → ℕ)

/-- `x`, just filled with zeros, in its four segments: the device's own, then the far ones in order. -/
theorem x_pieces (c : Dev nD) : xAt (F := F) c Finset.univ fullShare k0_pay1
    ⊢ iprop(xAt (F := F) c (segA (zOf c)) fullShare k0_pay1 ∗ xAt (F := F) c (segA (pk c 0)) fullShare k0_pay1
        ∗ xAt (F := F) c (segA (pk c 1)) fullShare k0_pay1 ∗ xAt (F := F) c (segA (pk c 2)) fullShare k0_pay1) := by
  have h := pieces4 (F := F) (ℓ := (c : Thread nD τ).loc cc0_scratch0) (coverA c).1 (coverA c).2.1 (coverA c).2.2.1 (coverA c).2.2.2 fullShare (k0_pay1 (F := F))
  refine h.trans ?_
  show iprop(xAt (F := F) c (segA (zOf c)) fullShare k0_pay1 ∗ xAt (F := F) c (segA (pk c 2)) fullShare k0_pay1
        ∗ xAt (F := F) c (segA (pk c 1)) fullShare k0_pay1 ∗ xAt (F := F) c (segA (pk c 0)) fullShare k0_pay1) ⊢ _
  iintro ⟨H0, H1, H2, H3⟩
  isplitl [H0]; · iexact H0
  isplitl [H3]; · iexact H3
  isplitl [H2]; · iexact H2
  iexact H1

/-- The reduced segment in its six shares: two for the ring, three for the peers, one kept. -/
theorem own6 (c : Dev nD) : aAt c (segA (zOf c)) fullShare (accV m c)
    ⊢ iprop(aAt c (segA (gk c 0)) qR (accV m c) ∗ aAt c (segA (gk c 0)) qL (accV m c) ∗ aAt c (segA (zOf c)) (qZ 0) (accV m c)
        ∗ aAt c (segA (zOf c)) (qZ 1) (accV m c) ∗ aAt c (segA (zOf c)) (qZ 2) (accV m c) ∗ aAt c (segA (gk c 0)) fullShare.right.right.right (accV m c)) :=
  (share6 (ℓ := (c : Thread nD τ).loc cc0_scratch2) (segA (gk c 0)) (accV m c)).1

/-- An exit signal carries nothing. -/
theorem pay_ex (c : Dev nD) (d : Fin 5) : (iprop(emp) : sProp 𝕄) ⊢ payK m c .ex d := BI.Entails.refl _

/-- The segments after the first are other devices'. -/
theorem gk_own (c : Dev nD) {n : Fin 4} (h : (0 : Fin 4) ≠ n) : zOf c ≠ gk c n := gk_ne c h

end Cert.EmbedProof
-- ==== Proof.Parts1.lean ====
/-
The parts of the kernel's body, each once, on any device: the gather, the reduce-scatter, the first copies of the all-gather.
-/
module

public import proofs.«01_k».proof.Proof.GatherTrips
public import proofs.«01_k».proof.Proof.Pieces

@[expose] public section

set_option maxRecDepth 8000

noncomputable section

namespace Cert.EmbedProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (K : Dev nD × CK → ℕ)

/-- Part 1 of the body: what it takes and what it leaves. -/
theorem part1 {c : Dev nD} {h0 h1 h2 h3 h5 h6 h11 h12 h13 h14}
    {α : Type} {Q : α → sProp 𝕄} {kk : (Σ' (d0 : Dev nD) (v2 : BitVec 32) (v5 : BitVec 32) (v8 : BitVec 32) (v11 : BitVec 32) (v30 : BitVec 32) (v32 : BitVec 32) (v33 : BitVec 32) (v34 : BitVec 1) (v35 : BitVec 1), BitVec 1) → Prog (TpuEff nD τ sig (Elt F) Λ₀ .tc) α} :
    (iprop(∀ u1 : BitVec 32, ∀ u2 : BitVec 32, ∀ u3 : BitVec 32, ∀ u4 : BitVec 32, ∀ u5 : BitVec 32, ∀ u6 : BitVec 32, ∀ u7 : BitVec 32, ∀ u8 : BitVec 1, ∀ u9 : BitVec 1, ∀ u10 : BitVec 1, wpc c (kk ⟨c, u1, u2, u3, u4, u5, u6, u7, u8, u9, u10⟩) Q) : sProp 𝕄)
      ⊢ wpc c (k0_part1 (F := F) (Memref.whole cc0_stg0_0) h0 (Memref.whole main_arg1) h1 (Memref.whole cc0_stg1_0) h2 (Memref.whole cc0_scratch0) h3 cc0_scratch1 (Memref.whole cc0_scratch2) h5 (Memref.whole cc0_scratch3) h6 cc0_scratch4 cc0_scratch5 cc0_scratch6 cc0_scratch7 (Memref.whole cc0_scratch8) h11 (Memref.whole cc0_scratch9) h12 (Memref.whole cc0_scratch10) h13 (Memref.whole cc0_scratch11) h14 cc0_scratch12 cc0_scratch13 cc0_scoped0 >>= kk) Q := by
  rw [k0_part1_eq_skeleton]
  unfold k0_part1_skel
  simp only [semSignalWord, semWaitWord, Prog.lift, Prog.bind_op, Prog.bind_ret, Prog.pure_eq_ret, Prog.bind_assoc, wp_deviceId]
  iintro Hk
  iapply Hk

/-- Part 2 of the body: what it takes and what it leaves. -/
theorem part2 {c : Dev nD} {h0 h1 h2 h3 h5 h6 h11 h12 h13 h14} {v11 : BitVec 32} {v30 : BitVec 32} {v32 : BitVec 32} {v33 : BitVec 32} {v34 : BitVec 1} {v35 : BitVec 1} {v36 : BitVec 1}
    {α : Type} {Q : α → sProp 𝕄} {kk : (Σ' (v41 : BitVec 32) (v61 : BitVec 32) (v72 : BitVec 32) (v75 : BitVec 32), BitVec 32) → Prog (TpuEff nD τ sig (Elt F) Λ₀ .tc) α} :
    (iprop(∀ u0 : BitVec 32, ∀ u1 : BitVec 32, ∀ u2 : BitVec 32, ∀ u3 : BitVec 32, ∀ u4 : BitVec 32, wpc c (kk ⟨u0, u1, u2, u3, u4⟩) Q) : sProp 𝕄)
      ⊢ wpc c (k0_part2 (F := F) (Memref.whole cc0_stg0_0) h0 (Memref.whole main_arg1) h1 (Memref.whole cc0_stg1_0) h2 (Memref.whole cc0_scratch0) h3 cc0_scratch1 (Memref.whole cc0_scratch2) h5 (Memref.whole cc0_scratch3) h6 cc0_scratch4 cc0_scratch5 cc0_scratch6 cc0_scratch7 (Memref.whole cc0_scratch8) h11 (Memref.whole cc0_scratch9) h12 (Memref.whole cc0_scratch10) h13 (Memref.whole cc0_scratch11) h14 cc0_scratch12 cc0_scratch13 cc0_scoped0 v11 v30 v32 v33 v34 v35 v36 >>= kk) Q := by
  rw [k0_part2_eq_skeleton]
  unfold k0_part2_skel
  simp only [semSignalWord, semWaitWord, Prog.lift, Prog.bind_op, Prog.bind_ret, Prog.pure_eq_ret, Prog.bind_assoc, wp_deviceId]
  iintro Hk
  iapply Hk

/-- Part 3 of the body: what it takes and what it leaves. -/
theorem part3 {c : Dev nD} {h0 h1 h2 h3 h5 h6 h11 h12 h13 h14} {v2 : BitVec 32} {v8 : BitVec 32} {v11 : BitVec 32} {v76 : BitVec 32}
    {α : Type} {Q : α → sProp 𝕄} {kk : (Σ' (v77 : BitVec 32) (v79 : BitVec 32) (v81 : BitVec 32) (v83 : BitVec 32) (v85 : BitVec 32) (v87 : BitVec 32) (v91 : BitVec 32) (v95 : BitVec 32) (v96 : BitVec 32) (v97 : BitVec 32) (v102 : Sems sig S_) (v104 : BitVec 32), BitVec 32) → Prog (TpuEff nD τ sig (Elt F) Λ₀ .tc) α} :
    iprop(records m K ∗ (∃ f, xAt (F := F) c Finset.univ fullShare f))
      ⊢ iprop((∀ u0 : BitVec 32, ∀ u1 : BitVec 32, ∀ u2 : BitVec 32, ∀ u3 : BitVec 32, ∀ u4 : BitVec 32, ∀ u5 : BitVec 32, ∀ u6 : BitVec 32, ∀ u7 : BitVec 32, ∀ u8 : BitVec 32, ∀ u9 : BitVec 32, ∀ u11 : BitVec 32, (xAt c (segA (zOf c)) fullShare (k0_pay1 (F := F)) ∗ xAt c (segA (pk c 0)) fullShare (k0_pay1 (F := F)) ∗ xAt c (segA (pk c 1)) fullShare (k0_pay1 (F := F)) ∗ xAt c (segA (pk c 2)) fullShare (k0_pay1 (F := F))) -∗ wpc c (kk ⟨u0, u1, u2, u3, u4, u5, u6, u7, u8, u9, (SemArray.scalar (sig.barrier 0 rfl) : Sems sig S_), u11, 4#32⟩) Q)
          -∗ wpc c (k0_part3 (F := F) (Memref.whole cc0_stg0_0) h0 (Memref.whole main_arg1) h1 (Memref.whole cc0_stg1_0) h2 (Memref.whole cc0_scratch0) h3 cc0_scratch1 (Memref.whole cc0_scratch2) h5 (Memref.whole cc0_scratch3) h6 cc0_scratch4 cc0_scratch5 cc0_scratch6 cc0_scratch7 (Memref.whole cc0_scratch8) h11 (Memref.whole cc0_scratch9) h12 (Memref.whole cc0_scratch10) h13 (Memref.whole cc0_scratch11) h14 cc0_scratch12 cc0_scratch13 cc0_scoped0 v2 v8 v11 v76 >>= kk) Q) := by
  rw [k0_part3_eq_skeleton]
  unfold k0_part3_skel
  simp only [semSignalWord, semWaitWord, Prog.lift, Prog.bind_op, Prog.bind_ret, Prog.pure_eq_ret, Prog.bind_assoc, wp_deviceId]
  iintro ⟨#HR, Xu⟩ Hk
  icases Xu with ⟨%xf, Xu⟩
  iapply (fill_step (F := F) (c := c)) $$ Xu
  iintro Xu
  ihave Xu := (x_pieces c) $$ Xu
  icases Xu with ⟨X3, X0, X1, X2⟩
  iapply Hk
  isplitl [X3]; · iexact X3
  isplitl [X0]; · iexact X0
  isplitl [X1]; · iexact X1
  iexact X2

/-- Part 4 of the body: what it takes and what it leaves. -/
theorem part4 {c : Dev nD} {h0 h1 h2 h3 h5 h6 h11 h12 h13 h14} {v2 : BitVec 32} {v5 : BitVec 32} {v8 : BitVec 32} {v30 : BitVec 32} {v41 : BitVec 32} {v61 : BitVec 32} {v72 : BitVec 32} {v81 : BitVec 32} {v83 : BitVec 32} {v85 : BitVec 32} {v87 : BitVec 32} {v104 : BitVec 32} {c4_i32_62 : BitVec 32}
    {α : Type} {Q : α → sProp 𝕄} {kk : (Σ' (v133 : BitVec 32) (c0_i32_84 : BitVec 32), BitVec 32) → Prog (TpuEff nD τ sig (Elt F) Λ₀ .tc) α} :
    iprop(records m K ∗ dutyTok ER (kcell (tgt c 0, .bar)) 0 (rev 0) ∗ hndZ (F := F) c (zp c 0) ∗ Ow (F := F) c 0 ∗ dutyTok ER (kcell (tgt c 1, .bar)) 0 (rev 1) ∗ hndZ (F := F) c (zp c 1) ∗ dutyTok ER (kcell (tgt c 2, .bar)) 0 (rev 2) ∗ hndZ (F := F) c (zp c 2) ∗ dutyTok ER (kcell (tgt c 3, .bar)) 0 (rev 3) ∗ hndL (F := F) c ∗ dutyTok ER (kcell (tgt c 4, .bar)) 0 (rev 4) ∗ hndR (F := F) c)
      ⊢ iprop((∀ u0 : BitVec 32, (Ow (F := F) c 5) -∗ wpc c (kk ⟨u0, 0#32, 1#32⟩) Q)
          -∗ wpc c (k0_part4 (F := F) (Memref.whole cc0_stg0_0) h0 (Memref.whole main_arg1) h1 (Memref.whole cc0_stg1_0) h2 (Memref.whole cc0_scratch0) h3 cc0_scratch1 (Memref.whole cc0_scratch2) h5 (Memref.whole cc0_scratch3) h6 cc0_scratch4 cc0_scratch5 cc0_scratch6 cc0_scratch7 (Memref.whole cc0_scratch8) h11 (Memref.whole cc0_scratch9) h12 (Memref.whole cc0_scratch10) h13 (Memref.whole cc0_scratch11) h14 cc0_scratch12 cc0_scratch13 cc0_scoped0 c v2 v5 v8 v30 v41 v61 v72 v81 v83 v85 v87 (SemArray.scalar (sig.barrier 0 rfl) : Sems sig S_) v104 c4_i32_62 >>= kk) Q) := by
  rw [k0_part4_eq_skeleton]
  unfold k0_part4_skel
  simp only [semSignalWord, semWaitWord, Prog.lift, Prog.bind_op, Prog.bind_ret, Prog.pure_eq_ret, Prog.bind_assoc, wp_deviceId]
  iintro ⟨#HR, TB0, hZ0, Ow, TB1, hZ1, TB2, hZ2, TB3, hL, TB4, hR⟩ Hk
  iapply (sig_step m K 0 (dev1_eq c) (k := .bar) rfl rfl rfl (pos := 0) rfl) $$ [TB0 hZ0 Ow]
  · isplitr; · iexact HR
    isplitl [TB0]; · iexact TB0
    isplitl [hZ0]; · iapply (pay_bar0 m c); iexact hZ0
    iexact Ow
  iintro Ow
  iapply (sig_step m K 1 (dev2_eq c) (k := .bar) rfl rfl rfl (pos := 1) rfl) $$ [TB1 hZ1 Ow]
  · isplitr; · iexact HR
    isplitl [TB1]; · iexact TB1
    isplitl [hZ1]; · iapply (pay_bar1 m c); iexact hZ1
    iexact Ow
  iintro Ow
  iapply (sig_step m K 2 (dev3_eq c) (k := .bar) rfl rfl rfl (pos := 2) rfl) $$ [TB2 hZ2 Ow]
  · isplitr; · iexact HR
    isplitl [TB2]; · iexact TB2
    isplitl [hZ2]; · iapply (pay_bar2 m c); iexact hZ2
    iexact Ow
  iintro Ow
  iapply (sig_step m K 3 (dev4_eq c) (k := .bar) rfl rfl rfl (pos := 3) rfl) $$ [TB3 hL Ow]
  · isplitr; · iexact HR
    isplitl [TB3]; · iexact TB3
    isplitl [hL]; · iapply (pay_bar3 m c); iexact hL
    iexact Ow
  iintro Ow
  iapply (sig_step m K 4 (dev5_eq c) (k := .bar) rfl rfl rfl (pos := 4) rfl) $$ [TB4 hR Ow]
  · isplitr; · iexact HR
    isplitl [TB4]; · iexact TB4
    isplitl [hR]; · iapply (pay_bar4 m c); iexact hR
    iexact Ow
  iintro Ow
  iapply Hk
  iexact Ow

/-- Part 5 of the body: what it takes and what it leaves. -/
theorem part5 {c : Dev nD} {h0 h1 h2 h3 h5 h6 h11 h12 h13 h14} {v2 : BitVec 32} {v5 : BitVec 32} {v87 : BitVec 32} {v91 : BitVec 32} {v96 : BitVec 32} {v97 : BitVec 32} {v133 : BitVec 32} {c0_i32_84 : BitVec 32} {c1_i32_86 : BitVec 32}
    {α : Type} {Q : α → sProp 𝕄} {kk : (Σ' (v157 : BitVec 32), BitVec 32) → Prog (TpuEff nD τ sig (Elt F) Λ₀ .tc) α} :
    iprop(records m K ∗ slotsFrom m c 0 ∗ xAt c (segA (pk c 0)) fullShare (k0_pay1 (F := F)) ∗ idsAt m c ∗ Ow (F := F) c 5 ∗ Wt c .bar ∗ Snd c (.ss 0) (pd c 0) (.rs (zOf c)) ∗ xAt c (segA (pk c 1)) fullShare (k0_pay1 (F := F)))
      ⊢ iprop((∀ u0 : BitVec 32, ((∃ f, aAt (F := F) (pd c 0) (segA (zOf c)) fullShare f) ∗ (∃ f, rAt (F := F) (pd c 1) (slotR (zOf c)) fullShare f) ∗ (∃ f, aAt (F := F) (pd c 1) (segA (zOf c)) fullShare f) ∗ (∃ f, rAt (F := F) (pd c 2) (slotR (zOf c)) fullShare f) ∗ (∃ f, aAt (F := F) (pd c 2) (segA (zOf c)) fullShare f) ∗ (∃ f, l0At (F := F) (rt c) (segA (gk c 0)) fullShare f) ∗ (∃ f, l0At (F := F) (rt c) (segA (gk c 1)) fullShare f) ∗ (∃ f, l0At (F := F) (rt c) (segA (gk c 2)) fullShare f) ∗ (∃ f, l0At (F := F) (rt c) (segA (gk c 3)) fullShare f) ∗ (∃ f, r0At (F := F) (lf c) (segA (gk c 0)) fullShare f) ∗ (∃ f, r0At (F := F) (lf c) (segA (gk c 1)) fullShare f) ∗ (∃ f, r0At (F := F) (lf c) (segA (gk c 2)) fullShare f) ∗ (∃ f, r0At (F := F) (lf c) (segA (gk c 3)) fullShare f) ∗ (∃ f, l1At (F := F) (rt c) (segB (gk c 0)) fullShare f) ∗ (∃ f, l1At (F := F) (rt c) (segB (gk c 1)) fullShare f) ∗ (∃ f, l1At (F := F) (rt c) (segB (gk c 2)) fullShare f) ∗ (∃ f, l1At (F := F) (rt c) (segB (gk c 3)) fullShare f) ∗ (∃ f, r1At (F := F) (lf c) (segB (gk c 0)) fullShare f) ∗ (∃ f, r1At (F := F) (lf c) (segB (gk c 1)) fullShare f) ∗ (∃ f, r1At (F := F) (lf c) (segB (gk c 2)) fullShare f) ∗ (∃ f, r1At (F := F) (lf c) (segB (gk c 3)) fullShare f) ∗ Dn (F := F) c .bar ∗ Wt c (.ss 0) ∗ slotsFrom m c 0 ∗ xAt c (segA (pk c 1)) fullShare (XV m c) ∗ idsAt m c ∗ Ow (F := F) c 6) -∗ wpc c (kk ⟨u0, 1#32⟩) Q)
          -∗ wpc c (k0_part5 (F := F) (Memref.whole cc0_stg0_0) h0 (Memref.whole main_arg1) h1 (Memref.whole cc0_stg1_0) h2 (Memref.whole cc0_scratch0) h3 cc0_scratch1 (Memref.whole cc0_scratch2) h5 (Memref.whole cc0_scratch3) h6 cc0_scratch4 cc0_scratch5 cc0_scratch6 cc0_scratch7 (Memref.whole cc0_scratch8) h11 (Memref.whole cc0_scratch9) h12 (Memref.whole cc0_scratch10) h13 (Memref.whole cc0_scratch11) h14 cc0_scratch12 cc0_scratch13 cc0_scoped0 c v2 v5 v87 v91 v96 v97 (SemArray.scalar (sig.barrier 0 rfl) : Sems sig S_) v133 c0_i32_84 c1_i32_86 >>= kk) Q) := by
  rw [k0_part5_eq_skeleton]
  unfold k0_part5_skel
  simp only [semSignalWord, semWaitWord, Prog.lift, Prog.bind_op, Prog.bind_ret, Prog.pure_eq_ret, Prog.bind_assoc, wp_deviceId]
  iintro ⟨#HR, Sl, X0, Hi, Ow, Wbar, Srs0, X1⟩ Hk
  iapply (loop1 m K) $$ [Sl X0 Hi Ow]
  · isplitr; · iexact HR
    isplitl [Sl X0]
    · isplitl [Sl]; · iexact Sl
      iexact X0
    isplitl [Hi]; · iexact Hi
    iexact Ow
  iintro ⟨Ge, Hi, Ow⟩
  iapply (loop2 m K) $$ [Ge Hi Ow]
  · isplitr; · iexact HR
    isplitl [Ge]; · iexact Ge
    isplitl [Hi]; · iexact Hi
    iexact Ow
  iintro ⟨Ge, Hi, Ow⟩
  icases Ge with ⟨Sl, X0⟩
  iapply (bar_step m K rfl rfl (pos := 5) (by decide)) $$ [Wbar Ow]
  · isplitr; · iexact HR
    isplitl [Wbar]; · iexact Wbar
    iexact Ow
  iintro ⟨HZ, HR4, HL4, Dbar, Ow⟩
  unfold hndZ
  icases HZ with ⟨HZ0, HZ1, HZ2⟩
  icases HZ0 with ⟨Drs0, Dag0⟩
  icases HZ1 with ⟨Drs1, Dag1⟩
  icases HZ2 with ⟨Drs2, Dag2⟩
  ihave HL4 := (hndL_rt c) $$ HL4
  ihave HR4 := (hndR_lf c) $$ HR4
  icases HL4 with ⟨⟨Db00, Db01, Db02, Db03⟩, Db20, Db21, Db22, Db23⟩
  icases HR4 with ⟨⟨Db10, Db11, Db12, Db13⟩, Db30, Db31, Db32, Db33⟩
  iapply (send_rs m K 0 (dev6_eq c) (off18_eq c) (off17_eq c) (sem_ss 0 _) (sem_rs' (zOf c) (off16_eq c) _) (pos := 5) rfl) $$ [Srs0 X0 Drs0 Ow]
  · isplitr; · iexact HR
    isplitl [Srs0]; · iexact Srs0
    isplitl [X0]; · iexact X0
    isplitl [Drs0]; · iexact Drs0
    iexact Ow
  iintro ⟨Wss0, Ow⟩
  iapply (loop3 m K) $$ [Sl X1 Hi Ow]
  · isplitr; · iexact HR
    isplitl [Sl X1]
    · isplitl [Sl]; · iexact Sl
      iexact X1
    isplitl [Hi]; · iexact Hi
    iexact Ow
  iintro ⟨Ge, Hi, Ow⟩
  iapply (loop4 m K) $$ [Ge Hi Ow]
  · isplitr; · iexact HR
    isplitl [Ge]; · iexact Ge
    isplitl [Hi]; · iexact Hi
    iexact Ow
  iintro ⟨Ge, Hi, Ow⟩
  icases Ge with ⟨Sl, X1⟩
  iapply Hk
  isplitl [Dag0]; · iexact Dag0
  isplitl [Drs1]; · iexact Drs1
  isplitl [Dag1]; · iexact Dag1
  isplitl [Drs2]; · iexact Drs2
  isplitl [Dag2]; · iexact Dag2
  isplitl [Db00]; · iexact Db00
  isplitl [Db01]; · iexact Db01
  isplitl [Db02]; · iexact Db02
  isplitl [Db03]; · iexact Db03
  isplitl [Db10]; · iexact Db10
  isplitl [Db11]; · iexact Db11
  isplitl [Db12]; · iexact Db12
  isplitl [Db13]; · iexact Db13
  isplitl [Db20]; · iexact Db20
  isplitl [Db21]; · iexact Db21
  isplitl [Db22]; · iexact Db22
  isplitl [Db23]; · iexact Db23
  isplitl [Db30]; · iexact Db30
  isplitl [Db31]; · iexact Db31
  isplitl [Db32]; · iexact Db32
  isplitl [Db33]; · iexact Db33
  isplitl [Dbar]; · iexact Dbar
  isplitl [Wss0]; · iexact Wss0
  isplitl [Sl]; · iexact Sl
  isplitl [X1]; · iexact X1
  isplitl [Hi]; · iexact Hi
  iexact Ow

/-- Part 6 of the body: what it takes and what it leaves. -/
theorem part6 {c : Dev nD} {h0 h1 h2 h3 h5 h6 h11 h12 h13 h14} {v2 : BitVec 32} {v5 : BitVec 32} {v8 : BitVec 32} {v91 : BitVec 32} {v95 : BitVec 32} {v96 : BitVec 32} {v97 : BitVec 32} {v157 : BitVec 32} {c1_i32_114 : BitVec 32}
    {α : Type} {Q : α → sProp 𝕄} {kk : (Σ' (v184 : BitVec 32), BitVec 32) → Prog (TpuEff nD τ sig (Elt F) Λ₀ .tc) α} :
    iprop(records m K ∗ Snd c (.ss 1) (pd c 1) (.rs (zOf c)) ∗ xAt c (segA (pk c 1)) fullShare (XV m c) ∗ (∃ f, rAt (F := F) (pd c 1) (slotR (zOf c)) fullShare f) ∗ Ow (F := F) c 6 ∗ slotsFrom m c 0 ∗ xAt c (segA (pk c 2)) fullShare (k0_pay1 (F := F)) ∗ idsAt m c ∗ Snd c (.ss 2) (pd c 2) (.rs (zOf c)) ∗ (∃ f, rAt (F := F) (pd c 2) (slotR (zOf c)) fullShare f) ∗ xAt c (segA (zOf c)) fullShare (k0_pay1 (F := F)))
      ⊢ iprop((∀ u0 : BitVec 32, (Wt c (.ss 1) ∗ Wt c (.ss 2) ∗ gEpi m c (zOf c) 0 ∗ idsAt m c ∗ Ow (F := F) c 8) -∗ wpc c (kk ⟨u0, 0#32⟩) Q)
          -∗ wpc c (k0_part6 (F := F) (Memref.whole cc0_stg0_0) h0 (Memref.whole main_arg1) h1 (Memref.whole cc0_stg1_0) h2 (Memref.whole cc0_scratch0) h3 cc0_scratch1 (Memref.whole cc0_scratch2) h5 (Memref.whole cc0_scratch3) h6 cc0_scratch4 cc0_scratch5 cc0_scratch6 cc0_scratch7 (Memref.whole cc0_scratch8) h11 (Memref.whole cc0_scratch9) h12 (Memref.whole cc0_scratch10) h13 (Memref.whole cc0_scratch11) h14 cc0_scratch12 cc0_scratch13 cc0_scoped0 c v2 v5 v8 v91 v95 v96 v97 v157 c1_i32_114 >>= kk) Q) := by
  rw [k0_part6_eq_skeleton]
  unfold k0_part6_skel
  simp only [semSignalWord, semWaitWord, Prog.lift, Prog.bind_op, Prog.bind_ret, Prog.pure_eq_ret, Prog.bind_assoc, wp_deviceId]
  iintro ⟨#HR, Srs1, X1, Drs1, Ow, Sl, X2, Hi, Srs2, Drs2, X3⟩ Hk
  iapply (send_rs m K 1 (dev7_eq c) (off34_eq c) (off17_eq c) (sem_ss 1 _) (sem_rs' (zOf c) (off16_eq c) _) (pos := 6) rfl) $$ [Srs1 X1 Drs1 Ow]
  · isplitr; · iexact HR
    isplitl [Srs1]; · iexact Srs1
    isplitl [X1]; · iexact X1
    isplitl [Drs1]; · iexact Drs1
    iexact Ow
  iintro ⟨Wss1, Ow⟩
  iapply (loop5 m K) $$ [Sl X2 Hi Ow]
  · isplitr; · iexact HR
    isplitl [Sl X2]
    · isplitl [Sl]; · iexact Sl
      iexact X2
    isplitl [Hi]; · iexact Hi
    iexact Ow
  iintro ⟨Ge, Hi, Ow⟩
  iapply (loop6 m K) $$ [Ge Hi Ow]
  · isplitr; · iexact HR
    isplitl [Ge]; · iexact Ge
    isplitl [Hi]; · iexact Hi
    iexact Ow
  iintro ⟨Ge, Hi, Ow⟩
  icases Ge with ⟨Sl, X2⟩
  iapply (send_rs m K 2 (dev8_eq c) (off50_eq c) (off17_eq c) (sem_ss 2 _) (sem_rs' (zOf c) (off16_eq c) _) (pos := 7) rfl) $$ [Srs2 X2 Drs2 Ow]
  · isplitr; · iexact HR
    isplitl [Srs2]; · iexact Srs2
    isplitl [X2]; · iexact X2
    isplitl [Drs2]; · iexact Drs2
    iexact Ow
  iintro ⟨Wss2, Ow⟩
  iapply (loop7 m K) $$ [Sl X3 Hi Ow]
  · isplitr; · iexact HR
    isplitl [Sl X3]
    · isplitl [Sl]; · iexact Sl
      iexact X3
    isplitl [Hi]; · iexact Hi
    iexact Ow
  iintro ⟨Ge, Hi, Ow⟩
  iapply Hk
  isplitl [Wss1]; · iexact Wss1
  isplitl [Wss2]; · iexact Wss2
  isplitl [Ge]; · iexact Ge
  isplitl [Hi]; · iexact Hi
  iexact Ow

/-- Part 7 of the body: what it takes and what it leaves. -/
theorem part7 {c : Dev nD} {h0 h1 h2 h3 h5 h6 h11 h12 h13 h14} {v2 : BitVec 32} {v5 : BitVec 32} {v81 : BitVec 32} {v83 : BitVec 32} {v85 : BitVec 32} {v96 : BitVec 32} {v97 : BitVec 32} {v184 : BitVec 32} {c0_i32_141 : BitVec 32}
    {α : Type} {Q : α → sProp 𝕄} {kk : (PUnit) → Prog (TpuEff nD τ sig (Elt F) Λ₀ .tc) α} :
    iprop(records m K ∗ gEpi m c (zOf c) 0 ∗ idsAt m c ∗ Ow (F := F) c 8 ∗ Wt c (.rs (zp c 0)) ∗ Wt c (.rs (zp c 1)))
      ⊢ iprop(((slotsFrom m c 0 ∗ xAt c (segA (zOf c)) fullShare (XV m c) ∗ idsAt m c ∗ rAt c (slotR (zp c 0)) fullShare (RsV m c) ∗ Dn (F := F) c (.rs (zp c 0)) ∗ rAt c (slotR (zp c 1)) fullShare (RsV m c) ∗ Dn (F := F) c (.rs (zp c 1)) ∗ Ow (F := F) c 8) -∗ wpc c (kk ⟨⟩) Q)
          -∗ wpc c (k0_part7 (F := F) (Memref.whole cc0_stg0_0) h0 (Memref.whole main_arg1) h1 (Memref.whole cc0_stg1_0) h2 (Memref.whole cc0_scratch0) h3 cc0_scratch1 (Memref.whole cc0_scratch2) h5 (Memref.whole cc0_scratch3) h6 cc0_scratch4 cc0_scratch5 cc0_scratch6 cc0_scratch7 (Memref.whole cc0_scratch8) h11 (Memref.whole cc0_scratch9) h12 (Memref.whole cc0_scratch10) h13 (Memref.whole cc0_scratch11) h14 cc0_scratch12 cc0_scratch13 cc0_scoped0 c v2 v5 v81 v83 v85 v96 v97 v184 c0_i32_141 >>= kk) Q) := by
  rw [k0_part7_eq_skeleton]
  unfold k0_part7_skel
  simp only [semSignalWord, semWaitWord, Prog.lift, Prog.bind_op, Prog.bind_ret, Prog.pure_eq_ret, Prog.bind_assoc, wp_deviceId]
  iintro ⟨#HR, Ge, Hi, Ow, Wrs0, Wrs1⟩ Hk
  iapply (loop8 m K) $$ [Ge Hi Ow]
  · isplitr; · iexact HR
    isplitl [Ge]; · iexact Ge
    isplitl [Hi]; · iexact Hi
    iexact Ow
  iintro ⟨Ge, Hi, Ow⟩
  icases Ge with ⟨Sl, X3⟩
  iapply (wt_rs m K 0 (off66_1_eq c) (pos := 8) (by decide)) $$ [Wrs0 Ow]
  · isplitr; · iexact HR
    isplitl [Wrs0]; · iexact Wrs0
    iexact Ow
  iintro ⟨R0, Ers0, Ow⟩
  iapply (wt_rs m K 1 (off66_2_eq c) (pos := 8) (by decide)) $$ [Wrs1 Ow]
  · isplitr; · iexact HR
    isplitl [Wrs1]; · iexact Wrs1
    iexact Ow
  iintro ⟨R1, Ers1, Ow⟩
  iapply Hk
  isplitl [Sl]; · iexact Sl
  isplitl [X3]; · iexact X3
  isplitl [Hi]; · iexact Hi
  isplitl [R0]; · iexact R0
  isplitl [Ers0]; · iexact Ers0
  isplitl [R1]; · iexact R1
  isplitl [Ers1]; · iexact Ers1
  iexact Ow

/-- Part 8 of the body: what it takes and what it leaves. -/
theorem part8 {c : Dev nD} {h0 h1 h2 h3 h5 h6 h11 h12 h13 h14} {v2 : BitVec 32} {v5 : BitVec 32} {v8 : BitVec 32} {v81 : BitVec 32} {v83 : BitVec 32} {v85 : BitVec 32} {v87 : BitVec 32}
    {α : Type} {Q : α → sProp 𝕄} {kk : (PUnit) → Prog (TpuEff nD τ sig (Elt F) Λ₀ .tc) α} :
    iprop(records m K ∗ Wt c (.rs (zp c 2)) ∗ Ow (F := F) c 8 ∗ xAt c (segA (zOf c)) fullShare (XV m c) ∗ rAt c (slotR (zp c 0)) fullShare (RsV m c) ∗ rAt c (slotR (zp c 1)) fullShare (RsV m c) ∗ (∃ f, aAt (F := F) c (segA (zOf c)) fullShare f) ∗ Snd c (.sa 0) (pd c 0) (.ag (zOf c)) ∗ (∃ f, aAt (F := F) (pd c 0) (segA (zOf c)) fullShare f))
      ⊢ iprop(((Dn (F := F) c (.rs (zp c 2)) ∗ xAt c (segA (zOf c)) fullShare (XV m c) ∗ rAt c (slotR (zp c 0)) fullShare (RsV m c) ∗ rAt c (slotR (zp c 1)) fullShare (RsV m c) ∗ rAt c (slotR (zp c 2)) fullShare (RsV m c) ∗ aAt c (segA (gk c 0)) qR (accV m c) ∗ aAt c (segA (gk c 0)) qL (accV m c) ∗ aAt c (segA (zOf c)) (qZ 1) (accV m c) ∗ aAt c (segA (zOf c)) (qZ 2) (accV m c) ∗ aAt c (segA (gk c 0)) fullShare.right.right.right (accV m c) ∗ Wt c (.sa 0) ∗ Ow (F := F) c 9) -∗ wpc c (kk ⟨⟩) Q)
          -∗ wpc c (k0_part8 (F := F) (Memref.whole cc0_stg0_0) h0 (Memref.whole main_arg1) h1 (Memref.whole cc0_stg1_0) h2 (Memref.whole cc0_scratch0) h3 cc0_scratch1 (Memref.whole cc0_scratch2) h5 (Memref.whole cc0_scratch3) h6 cc0_scratch4 cc0_scratch5 cc0_scratch6 cc0_scratch7 (Memref.whole cc0_scratch8) h11 (Memref.whole cc0_scratch9) h12 (Memref.whole cc0_scratch10) h13 (Memref.whole cc0_scratch11) h14 cc0_scratch12 cc0_scratch13 cc0_scoped0 c v2 v5 v8 v81 v83 v85 v87 >>= kk) Q) := by
  rw [k0_part8_eq_skeleton]
  unfold k0_part8_skel
  simp only [semSignalWord, semWaitWord, Prog.lift, Prog.bind_op, Prog.bind_ret, Prog.pure_eq_ret, Prog.bind_assoc, wp_deviceId]
  iintro ⟨#HR, Wrs2, Ow, X3, R0, R1, A0, Sag0, Dag0⟩ Hk
  iapply (wt_rs m K 2 (off66_3_eq c) (pos := 8) (by decide)) $$ [Wrs2 Ow]
  · isplitr; · iexact HR
    isplitl [Wrs2]; · iexact Wrs2
    iexact Ow
  iintro ⟨R2, Ers2, Ow⟩
  iapply (ld_x (zOf c) (off68_eq c)) $$ X3
  iintro X3
  iapply (ld_rs m (zp c 0) (off69_1_eq c)) $$ R0
  iintro R0
  iapply (ld_rs m (zp c 1) (off69_2_eq c)) $$ R1
  iintro R1
  iapply (ld_rs m (zp c 2) (off69_3_eq c)) $$ R2
  iintro R2
  icases A0 with ⟨%af, A0⟩
  iapply (acc_step m (off68_eq c)) $$ A0
  iintro A0
  ihave A0 := (own6 m c) $$ A0
  icases A0 with ⟨AR0, AL0, AZ0, AZ1, AZ2, AK0⟩
  iapply (send_ag m K 0 (dev9_eq c) (off70_eq c) (off70_eq c) (sem_sa 0 _) (sem_ag' (zOf c) (off16_eq c) _) (pos := 8) rfl) $$ [Sag0 AZ0 Dag0 Ow]
  · isplitr; · iexact HR
    isplitl [Sag0]; · iexact Sag0
    isplitl [AZ0]; · iexact AZ0
    isplitl [Dag0]; · iexact Dag0
    iexact Ow
  iintro ⟨Wsa0, Ow⟩
  iapply Hk
  isplitl [Ers2]; · iexact Ers2
  isplitl [X3]; · iexact X3
  isplitl [R0]; · iexact R0
  isplitl [R1]; · iexact R1
  isplitl [R2]; · iexact R2
  isplitl [AR0]; · iexact AR0
  isplitl [AL0]; · iexact AL0
  isplitl [AZ1]; · iexact AZ1
  isplitl [AZ2]; · iexact AZ2
  isplitl [AK0]; · iexact AK0
  isplitl [Wsa0]; · iexact Wsa0
  iexact Ow

/-- Part 9 of the body: what it takes and what it leaves. -/
theorem part9 {c : Dev nD} {h0 h1 h2 h3 h5 h6 h11 h12 h13 h14} {v2 : BitVec 32} {v5 : BitVec 32} {v8 : BitVec 32} {v30 : BitVec 32} {v41 : BitVec 32} {v91 : BitVec 32} {v95 : BitVec 32}
    {α : Type} {Q : α → sProp 𝕄} {kk : (BitVec 32) → Prog (TpuEff nD τ sig (Elt F) Λ₀ .tc) α} :
    iprop(records m K ∗ Snd c (.sa 1) (pd c 1) (.ag (zOf c)) ∗ aAt c (segA (zOf c)) (qZ 1) (accV m c) ∗ (∃ f, aAt (F := F) (pd c 1) (segA (zOf c)) fullShare f) ∗ Ow (F := F) c 9 ∗ Snd c (.sa 2) (pd c 2) (.ag (zOf c)) ∗ aAt c (segA (zOf c)) (qZ 2) (accV m c) ∗ (∃ f, aAt (F := F) (pd c 2) (segA (zOf c)) fullShare f))
      ⊢ iprop((∀ u0 : BitVec 32, (Wt c (.sa 1) ∗ Wt c (.sa 2) ∗ Ow (F := F) c 11) -∗ wpc c (kk u0) Q)
          -∗ wpc c (k0_part9 (F := F) (Memref.whole cc0_stg0_0) h0 (Memref.whole main_arg1) h1 (Memref.whole cc0_stg1_0) h2 (Memref.whole cc0_scratch0) h3 cc0_scratch1 (Memref.whole cc0_scratch2) h5 (Memref.whole cc0_scratch3) h6 cc0_scratch4 cc0_scratch5 cc0_scratch6 cc0_scratch7 (Memref.whole cc0_scratch8) h11 (Memref.whole cc0_scratch9) h12 (Memref.whole cc0_scratch10) h13 (Memref.whole cc0_scratch11) h14 cc0_scratch12 cc0_scratch13 cc0_scoped0 c v2 v5 v8 v30 v41 v91 v95 >>= kk) Q) := by
  rw [k0_part9_eq_skeleton]
  unfold k0_part9_skel
  simp only [semSignalWord, semWaitWord, Prog.lift, Prog.bind_op, Prog.bind_ret, Prog.pure_eq_ret, Prog.bind_assoc, wp_deviceId]
  iintro ⟨#HR, Sag1, AZ1, Dag1, Ow, Sag2, AZ2, Dag2⟩ Hk
  iapply (send_ag m K 1 (dev10_eq c) (off70_eq c) (off70_eq c) (sem_sa 1 _) (sem_ag' (zOf c) (off16_eq c) _) (pos := 9) rfl) $$ [Sag1 AZ1 Dag1 Ow]
  · isplitr; · iexact HR
    isplitl [Sag1]; · iexact Sag1
    isplitl [AZ1]; · iexact AZ1
    isplitl [Dag1]; · iexact Dag1
    iexact Ow
  iintro ⟨Wsa1, Ow⟩
  iapply (send_ag m K 2 (dev11_eq c) (off70_eq c) (off70_eq c) (sem_sa 2 _) (sem_ag' (zOf c) (off16_eq c) _) (pos := 10) rfl) $$ [Sag2 AZ2 Dag2 Ow]
  · isplitr; · iexact HR
    isplitl [Sag2]; · iexact Sag2
    isplitl [AZ2]; · iexact AZ2
    isplitl [Dag2]; · iexact Dag2
    iexact Ow
  iintro ⟨Wsa2, Ow⟩
  iapply Hk
  isplitl [Wsa1]; · iexact Wsa1
  isplitl [Wsa2]; · iexact Wsa2
  iexact Ow

end Cert.EmbedProof
-- ==== Proof.Parts2.lean ====
/-
The parts of the kernel's body, each once, on any device: the all-gather over the column and the first copies around the ring.
-/
module

public import proofs.«01_k».proof.Proof.GatherTrips
public import proofs.«01_k».proof.Proof.Pieces

@[expose] public section

set_option maxRecDepth 8000

noncomputable section

namespace Cert.EmbedProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (K : Dev nD × CK → ℕ)

/-- Part 10 of the body: what it takes and what it leaves. -/
theorem part10 {c : Dev nD} {h0 h1 h2 h3 h5 h6 h11 h12 h13 h14} {v2 : BitVec 32} {v5 : BitVec 32} {v8 : BitVec 32} {v11 : BitVec 32} {v30 : BitVec 32} {v61 : BitVec 32} {v72 : BitVec 32} {v95 : BitVec 32} {v278 : BitVec 32}
    {α : Type} {Q : α → sProp 𝕄} {kk : (Σ' (v310 : BitVec 32), BitVec 32) → Prog (TpuEff nD τ sig (Elt F) Λ₀ .tc) α} :
    iprop(records m K ∗ Snd c (.sb 0 (gk c 0)) (rt c) (.rb 0 (gk c 0)) ∗ aAt c (segA (gk c 0)) qR (accV m c) ∗ (∃ f, l0At (F := F) (rt c) (segA (gk c 0)) fullShare f) ∗ Ow (F := F) c 11 ∗ Snd c (.sb 1 (gk c 0)) (lf c) (.rb 1 (gk c 0)) ∗ aAt c (segA (gk c 0)) qL (accV m c) ∗ (∃ f, r0At (F := F) (lf c) (segA (gk c 0)) fullShare f) ∗ aAt c (segA (gk c 0)) fullShare.right.right.right (accV m c) ∗ Out m c 0 ∗ Wt c (.ag (gk c 1)))
      ⊢ iprop((∀ u0 : BitVec 32, ∀ u1 : BitVec 32, (Wt c (.sb 0 (gk c 0)) ∗ Wt c (.sb 1 (gk c 0)) ∗ aAt c (segA (gk c 0)) fullShare.right.right.right (accV m c) ∗ Out m c 2 ∗ aAt c (segA (gk c 1)) qR (accV m c) ∗ aAt c (segA (gk c 1)) qL (accV m c) ∗ aAt c (segA (gk c 1)) fullShare.right (accV m c) ∗ Dn (F := F) c (.ag (gk c 1)) ∗ Ow (F := F) c 13) -∗ wpc c (kk ⟨u0, u1⟩) Q)
          -∗ wpc c (k0_part10 (F := F) (Memref.whole cc0_stg0_0) h0 (Memref.whole main_arg1) h1 (Memref.whole cc0_stg1_0) h2 (Memref.whole cc0_scratch0) h3 cc0_scratch1 (Memref.whole cc0_scratch2) h5 (Memref.whole cc0_scratch3) h6 cc0_scratch4 cc0_scratch5 cc0_scratch6 cc0_scratch7 (Memref.whole cc0_scratch8) h11 (Memref.whole cc0_scratch9) h12 (Memref.whole cc0_scratch10) h13 (Memref.whole cc0_scratch11) h14 cc0_scratch12 cc0_scratch13 cc0_scoped0 c v2 v5 v8 v11 v30 v61 v72 v95 v278 >>= kk) Q) := by
  rw [k0_part10_eq_skeleton]
  unfold k0_part10_skel
  simp only [semSignalWord, semWaitWord, Prog.lift, Prog.bind_op, Prog.bind_ret, Prog.pure_eq_ret, Prog.bind_assoc, wp_deviceId]
  iintro ⟨#HR, Sb00, AR0, Db00, Ow, Sb10, AL0, Db10, AK0, Out, Wag1⟩ Hk
  iapply (send_b0 m K (gk c 0) (dev12_eq c) (off70_eq c) (off70_eq c) (sem_sb' 0 (gk c 0) (off71_eq c) _) (sem_rb' 0 (gk c 0) (off71_eq c) _) (pos := 11) rfl) $$ [Sb00 AR0 Db00 Ow]
  · isplitr; · iexact HR
    isplitl [Sb00]; · iexact Sb00
    isplitl [AR0]; · iexact AR0
    isplitl [Db00]; · iexact Db00
    iexact Ow
  iintro ⟨Wsb00, Ow⟩
  iapply (send_b1 m K (gk c 0) (dev13_eq c) (off70_eq c) (off70_eq c) (sem_sb' 1 (gk c 0) (off72_eq c) _) (sem_rb' 1 (gk c 0) (off72_eq c) _) (pos := 12) rfl) $$ [Sb10 AL0 Db10 Ow]
  · isplitr; · iexact HR
    isplitl [Sb10]; · iexact Sb10
    isplitl [AL0]; · iexact AL0
    isplitl [Db10]; · iexact Db10
    iexact Ow
  iintro ⟨Wsb10, Ow⟩
  iapply (ld_acc (gk c 0) (off68_eq c)) $$ AK0
  iintro AK0
  iapply (stA m c (rOf c) 0 (devAt_rz c) (off73_eq c) (p := 0) (p' := 2) rfl) $$ Out
  iintro Out
  iapply (wt_ag m K (g := gk c 1) (gk_own c (by decide)) (off74_eq c) (pos := 13) (by decide)) $$ [Wag1 Ow]
  · isplitr; · iexact HR
    isplitl [Wag1]; · iexact Wag1
    iexact Ow
  iintro ⟨Ga, Eag1, Ow⟩
  icases Ga with ⟨AR1, AL1, AK1⟩
  iapply Hk
  isplitl [Wsb00]; · iexact Wsb00
  isplitl [Wsb10]; · iexact Wsb10
  isplitl [AK0]; · iexact AK0
  isplitl [Out]; · iexact Out
  isplitl [AR1]; · iexact AR1
  isplitl [AL1]; · iexact AL1
  isplitl [AK1]; · iexact AK1
  isplitl [Eag1]; · iexact Eag1
  iexact Ow

/-- Part 11 of the body: what it takes and what it leaves. -/
theorem part11 {c : Dev nD} {h0 h1 h2 h3 h5 h6 h11 h12 h13 h14} {v2 : BitVec 32} {v5 : BitVec 32} {v8 : BitVec 32} {v11 : BitVec 32} {v41 : BitVec 32} {v61 : BitVec 32} {v72 : BitVec 32} {v91 : BitVec 32} {v95 : BitVec 32} {v310 : BitVec 32} {v321 : BitVec 32}
    {α : Type} {Q : α → sProp 𝕄} {kk : (Σ' (v352 : BitVec 32), BitVec 32) → Prog (TpuEff nD τ sig (Elt F) Λ₀ .tc) α} :
    iprop(records m K ∗ Snd c (.sb 0 (gk c 1)) (rt c) (.rb 0 (gk c 1)) ∗ aAt c (segA (gk c 1)) qR (accV m c) ∗ (∃ f, l0At (F := F) (rt c) (segA (gk c 1)) fullShare f) ∗ Ow (F := F) c 13 ∗ Snd c (.sb 1 (gk c 1)) (lf c) (.rb 1 (gk c 1)) ∗ aAt c (segA (gk c 1)) qL (accV m c) ∗ (∃ f, r0At (F := F) (lf c) (segA (gk c 1)) fullShare f) ∗ aAt c (segA (gk c 1)) fullShare.right (accV m c) ∗ Out m c 2)
      ⊢ iprop((∀ u0 : BitVec 32, ∀ u1 : BitVec 32, (Wt c (.sb 0 (gk c 1)) ∗ Wt c (.sb 1 (gk c 1)) ∗ Ow (F := F) c 15 ∗ aAt c (segA (gk c 1)) fullShare.right (accV m c) ∗ Out m c 4) -∗ wpc c (kk ⟨u0, u1⟩) Q)
          -∗ wpc c (k0_part11 (F := F) (Memref.whole cc0_stg0_0) h0 (Memref.whole main_arg1) h1 (Memref.whole cc0_stg1_0) h2 (Memref.whole cc0_scratch0) h3 cc0_scratch1 (Memref.whole cc0_scratch2) h5 (Memref.whole cc0_scratch3) h6 cc0_scratch4 cc0_scratch5 cc0_scratch6 cc0_scratch7 (Memref.whole cc0_scratch8) h11 (Memref.whole cc0_scratch9) h12 (Memref.whole cc0_scratch10) h13 (Memref.whole cc0_scratch11) h14 cc0_scratch12 cc0_scratch13 cc0_scoped0 c v2 v5 v8 v11 v41 v61 v72 v91 v95 v310 v321 >>= kk) Q) := by
  rw [k0_part11_eq_skeleton]
  unfold k0_part11_skel
  simp only [semSignalWord, semWaitWord, Prog.lift, Prog.bind_op, Prog.bind_ret, Prog.pure_eq_ret, Prog.bind_assoc, wp_deviceId]
  iintro ⟨#HR, Sb01, AR1, Db01, Ow, Sb11, AL1, Db11, AK1, Out⟩ Hk
  iapply (send_b0 m K (gk c 1) (dev14_eq c) (off50_eq c) (off50_eq c) (sem_sb' 0 (gk c 1) (off75_eq c) _) (sem_rb' 0 (gk c 1) (off75_eq c) _) (pos := 13) rfl) $$ [Sb01 AR1 Db01 Ow]
  · isplitr; · iexact HR
    isplitl [Sb01]; · iexact Sb01
    isplitl [AR1]; · iexact AR1
    isplitl [Db01]; · iexact Db01
    iexact Ow
  iintro ⟨Wsb01, Ow⟩
  iapply (send_b1 m K (gk c 1) (dev15_eq c) (off50_eq c) (off50_eq c) (sem_sb' 1 (gk c 1) (off76_eq c) _) (sem_rb' 1 (gk c 1) (off76_eq c) _) (pos := 14) rfl) $$ [Sb11 AL1 Db11 Ow]
  · isplitr; · iexact HR
    isplitl [Sb11]; · iexact Sb11
    isplitl [AL1]; · iexact AL1
    isplitl [Db11]; · iexact Db11
    iexact Ow
  iintro ⟨Wsb11, Ow⟩
  iapply (ld_acc (gk c 1) (off77_eq c)) $$ AK1
  iintro AK1
  iapply (stA m c (rOf c) 1 (devAt_rz c) (off78_eq c) (p := 2) (p' := 4) rfl) $$ Out
  iintro Out
  iapply Hk
  isplitl [Wsb01]; · iexact Wsb01
  isplitl [Wsb11]; · iexact Wsb11
  isplitl [Ow]; · iexact Ow
  isplitl [AK1]; · iexact AK1
  iexact Out

/-- Part 12 of the body: what it takes and what it leaves. -/
theorem part12 {c : Dev nD} {h0 h1 h2 h3 h5 h6 h11 h12 h13 h14} {v8 : BitVec 32} {v11 : BitVec 32} {v30 : BitVec 32} {v41 : BitVec 32} {v61 : BitVec 32} {v72 : BitVec 32} {v91 : BitVec 32} {v352 : BitVec 32} {v356 : BitVec 32}
    {α : Type} {Q : α → sProp 𝕄} {kk : (Σ' (v388 : Vec F S128x1024 .f32), BitVec 32) → Prog (TpuEff nD τ sig (Elt F) Λ₀ .tc) α} :
    iprop(records m K ∗ Wt c (.ag (gk c 2)) ∗ Ow (F := F) c 15 ∗ Snd c (.sb 0 (gk c 2)) (rt c) (.rb 0 (gk c 2)) ∗ (∃ f, l0At (F := F) (rt c) (segA (gk c 2)) fullShare f) ∗ Snd c (.sb 1 (gk c 2)) (lf c) (.rb 1 (gk c 2)) ∗ (∃ f, r0At (F := F) (lf c) (segA (gk c 2)) fullShare f))
      ⊢ iprop((∀ u1 : BitVec 32, (Dn (F := F) c (.ag (gk c 2)) ∗ Wt c (.sb 0 (gk c 2)) ∗ Wt c (.sb 1 (gk c 2)) ∗ Ow (F := F) c 17 ∗ aAt c (segA (gk c 2)) fullShare.right (accV m c)) -∗ wpc c (kk ⟨(rdA (accV m c) (gk c 2)), u1⟩) Q)
          -∗ wpc c (k0_part12 (F := F) (Memref.whole cc0_stg0_0) h0 (Memref.whole main_arg1) h1 (Memref.whole cc0_stg1_0) h2 (Memref.whole cc0_scratch0) h3 cc0_scratch1 (Memref.whole cc0_scratch2) h5 (Memref.whole cc0_scratch3) h6 cc0_scratch4 cc0_scratch5 cc0_scratch6 cc0_scratch7 (Memref.whole cc0_scratch8) h11 (Memref.whole cc0_scratch9) h12 (Memref.whole cc0_scratch10) h13 (Memref.whole cc0_scratch11) h14 cc0_scratch12 cc0_scratch13 cc0_scoped0 c v8 v11 v30 v41 v61 v72 v91 v352 v356 >>= kk) Q) := by
  rw [k0_part12_eq_skeleton]
  unfold k0_part12_skel
  simp only [semSignalWord, semWaitWord, Prog.lift, Prog.bind_op, Prog.bind_ret, Prog.pure_eq_ret, Prog.bind_assoc, wp_deviceId]
  iintro ⟨#HR, Wag2, Ow, Sb02, Db02, Sb12, Db12⟩ Hk
  iapply (wt_ag m K (g := gk c 2) (gk_own c (by decide)) (off79_eq c) (pos := 15) (by decide)) $$ [Wag2 Ow]
  · isplitr; · iexact HR
    isplitl [Wag2]; · iexact Wag2
    iexact Ow
  iintro ⟨Ga, Eag2, Ow⟩
  icases Ga with ⟨AR2, AL2, AK2⟩
  iapply (send_b0 m K (gk c 2) (dev16_eq c) (off34_eq c) (off34_eq c) (sem_sb' 0 (gk c 2) (off80_eq c) _) (sem_rb' 0 (gk c 2) (off80_eq c) _) (pos := 15) rfl) $$ [Sb02 AR2 Db02 Ow]
  · isplitr; · iexact HR
    isplitl [Sb02]; · iexact Sb02
    isplitl [AR2]; · iexact AR2
    isplitl [Db02]; · iexact Db02
    iexact Ow
  iintro ⟨Wsb02, Ow⟩
  iapply (send_b1 m K (gk c 2) (dev17_eq c) (off34_eq c) (off34_eq c) (sem_sb' 1 (gk c 2) (off81_eq c) _) (sem_rb' 1 (gk c 2) (off81_eq c) _) (pos := 16) rfl) $$ [Sb12 AL2 Db12 Ow]
  · isplitr; · iexact HR
    isplitl [Sb12]; · iexact Sb12
    isplitl [AL2]; · iexact AL2
    isplitl [Db12]; · iexact Db12
    iexact Ow
  iintro ⟨Wsb12, Ow⟩
  iapply (ld_acc (gk c 2) (off82_eq c)) $$ AK2
  iintro AK2
  iapply Hk
  isplitl [Eag2]; · iexact Eag2
  isplitl [Wsb02]; · iexact Wsb02
  isplitl [Wsb12]; · iexact Wsb12
  isplitl [Ow]; · iexact Ow
  iexact AK2

/-- Part 13 of the body: what it takes and what it leaves. -/
theorem part13 {c : Dev nD} {h0 h1 h2 h3 h5 h6 h11 h12 h13 h14} {v2 : BitVec 32} {v5 : BitVec 32} {v8 : BitVec 32} {v30 : BitVec 32} {v41 : BitVec 32} {v61 : BitVec 32} {v72 : BitVec 32} {v87 : BitVec 32} {v391 : BitVec 32}
    {α : Type} {Q : α → sProp 𝕄} {kk : (BitVec 32) → Prog (TpuEff nD τ sig (Elt F) Λ₀ .tc) α} :
    iprop(records m K ∗ Out m c 4 ∗ Wt c (.ag (gk c 3)) ∗ Ow (F := F) c 17 ∗ Snd c (.sb 0 (gk c 3)) (rt c) (.rb 0 (gk c 3)) ∗ (∃ f, l0At (F := F) (rt c) (segA (gk c 3)) fullShare f))
      ⊢ iprop((∀ u0 : BitVec 32, (Out m c 6 ∗ aAt c (segA (gk c 3)) qL (accV m c) ∗ aAt c (segA (gk c 3)) fullShare.right (accV m c) ∗ Dn (F := F) c (.ag (gk c 3)) ∗ Wt c (.sb 0 (gk c 3)) ∗ Ow (F := F) c 18) -∗ wpc c (kk u0) Q)
          -∗ wpc c (k0_part13 (F := F) (Memref.whole cc0_stg0_0) h0 (Memref.whole main_arg1) h1 (Memref.whole cc0_stg1_0) h2 (Memref.whole cc0_scratch0) h3 cc0_scratch1 (Memref.whole cc0_scratch2) h5 (Memref.whole cc0_scratch3) h6 cc0_scratch4 cc0_scratch5 cc0_scratch6 cc0_scratch7 (Memref.whole cc0_scratch8) h11 (Memref.whole cc0_scratch9) h12 (Memref.whole cc0_scratch10) h13 (Memref.whole cc0_scratch11) h14 cc0_scratch12 cc0_scratch13 cc0_scoped0 c v2 v5 v8 v30 v41 v61 v72 v87 (rdA (accV m c) (gk c 2)) v391 >>= kk) Q) := by
  rw [k0_part13_eq_skeleton]
  unfold k0_part13_skel
  simp only [semSignalWord, semWaitWord, Prog.lift, Prog.bind_op, Prog.bind_ret, Prog.pure_eq_ret, Prog.bind_assoc, wp_deviceId]
  iintro ⟨#HR, Out, Wag3, Ow, Sb03, Db03⟩ Hk
  iapply (stA m c (rOf c) 2 (devAt_rz c) (off83_eq c) (p := 4) (p' := 6) rfl) $$ Out
  iintro Out
  iapply (wt_ag m K (g := gk c 3) (gk_own c (by decide)) (off84_eq c) (pos := 17) (by decide)) $$ [Wag3 Ow]
  · isplitr; · iexact HR
    isplitl [Wag3]; · iexact Wag3
    iexact Ow
  iintro ⟨Ga, Eag3, Ow⟩
  icases Ga with ⟨AR3, AL3, AK3⟩
  iapply (send_b0 m K (gk c 3) (dev18_eq c) (off18_eq c) (off18_eq c) (sem_sb' 0 (gk c 3) (off85_eq c) _) (sem_rb' 0 (gk c 3) (off85_eq c) _) (pos := 17) rfl) $$ [Sb03 AR3 Db03 Ow]
  · isplitr; · iexact HR
    isplitl [Sb03]; · iexact Sb03
    isplitl [AR3]; · iexact AR3
    isplitl [Db03]; · iexact Db03
    iexact Ow
  iintro ⟨Wsb03, Ow⟩
  iapply Hk
  isplitl [Out]; · iexact Out
  isplitl [AL3]; · iexact AL3
  isplitl [AK3]; · iexact AK3
  isplitl [Eag3]; · iexact Eag3
  isplitl [Wsb03]; · iexact Wsb03
  iexact Ow

/-- Part 14 of the body: what it takes and what it leaves. -/
theorem part14 {c : Dev nD} {h0 h1 h2 h3 h5 h6 h11 h12 h13 h14} {v8 : BitVec 32} {v11 : BitVec 32} {v30 : BitVec 32} {v41 : BitVec 32} {v87 : BitVec 32} {v394 : BitVec 32}
    {α : Type} {Q : α → sProp 𝕄} {kk : (PUnit) → Prog (TpuEff nD τ sig (Elt F) Λ₀ .tc) α} :
    iprop(records m K ∗ Snd c (.sb 1 (gk c 3)) (lf c) (.rb 1 (gk c 3)) ∗ aAt c (segA (gk c 3)) qL (accV m c) ∗ (∃ f, r0At (F := F) (lf c) (segA (gk c 3)) fullShare f) ∗ Ow (F := F) c 18 ∗ aAt c (segA (gk c 3)) fullShare.right (accV m c) ∗ Out m c 6 ∗ Wt c (.rb 0 (gk c 0)))
      ⊢ iprop(((Wt c (.sb 1 (gk c 3)) ∗ aAt c (segA (gk c 3)) fullShare.right (accV m c) ∗ Out m c 8 ∗ l0At c (segA (gk c 0)) fullShare.right (accV m (lf c)) ∗ l0At c (halfA (gk c 0) 0) fullShare.left (accV m (lf c)) ∗ l0At c (halfA (gk c 0) 1) fullShare.left (accV m (lf c)) ∗ Dn (F := F) c (.rb 0 (gk c 0)) ∗ Ow (F := F) c 19) -∗ wpc c (kk ⟨⟩) Q)
          -∗ wpc c (k0_part14 (F := F) (Memref.whole cc0_stg0_0) h0 (Memref.whole main_arg1) h1 (Memref.whole cc0_stg1_0) h2 (Memref.whole cc0_scratch0) h3 cc0_scratch1 (Memref.whole cc0_scratch2) h5 (Memref.whole cc0_scratch3) h6 cc0_scratch4 cc0_scratch5 cc0_scratch6 cc0_scratch7 (Memref.whole cc0_scratch8) h11 (Memref.whole cc0_scratch9) h12 (Memref.whole cc0_scratch10) h13 (Memref.whole cc0_scratch11) h14 cc0_scratch12 cc0_scratch13 cc0_scoped0 c v8 v11 v30 v41 v87 v394 >>= kk) Q) := by
  rw [k0_part14_eq_skeleton]
  unfold k0_part14_skel
  simp only [semSignalWord, semWaitWord, Prog.lift, Prog.bind_op, Prog.bind_ret, Prog.pure_eq_ret, Prog.bind_assoc, wp_deviceId]
  iintro ⟨#HR, Sb13, AL3, Db13, Ow, AK3, Out, Wrb00⟩ Hk
  iapply (send_b1 m K (gk c 3) (dev19_eq c) (off18_eq c) (off18_eq c) (sem_sb' 1 (gk c 3) (off86_eq c) _) (sem_rb' 1 (gk c 3) (off86_eq c) _) (pos := 18) rfl) $$ [Sb13 AL3 Db13 Ow]
  · isplitr; · iexact HR
    isplitl [Sb13]; · iexact Sb13
    isplitl [AL3]; · iexact AL3
    isplitl [Db13]; · iexact Db13
    iexact Ow
  iintro ⟨Wsb13, Ow⟩
  iapply (ld_acc (gk c 3) (off87_eq c)) $$ AK3
  iintro AK3
  iapply (stA m c (rOf c) 3 (devAt_rz c) (off88_eq c) (p := 6) (p' := 8) rfl) $$ Out
  iintro Out
  iapply (wt_rb0 m K (gk c 0) (off71_eq c) (pos := 19) (by decide)) $$ [Wrb00 Ow]
  · isplitr; · iexact HR
    isplitl [Wrb00]; · iexact Wrb00
    iexact Ow
  iintro ⟨Ga, Erb00, Ow⟩
  icases Ga with ⟨LK0, L00, L0h0⟩
  iapply Hk
  isplitl [Wsb13]; · iexact Wsb13
  isplitl [AK3]; · iexact AK3
  isplitl [Out]; · iexact Out
  isplitl [LK0]; · iexact LK0
  isplitl [L00]; · iexact L00
  isplitl [L0h0]; · iexact L0h0
  isplitl [Erb00]; · iexact Erb00
  iexact Ow

/-- Part 15 of the body: what it takes and what it leaves. -/
theorem part15 {c : Dev nD} {h0 h1 h2 h3 h5 h6 h11 h12 h13 h14} {v8 : BitVec 32} {v61 : BitVec 32} {v72 : BitVec 32} {v75 : BitVec 32}
    {α : Type} {Q : α → sProp 𝕄} {kk : (Vec F S128x1024 .f32) → Prog (TpuEff nD τ sig (Elt F) Λ₀ .tc) α} :
    iprop(records m K ∗ Snd c (.sb 2 (gk c 0)) (rt c) (.rb 2 (gk c 0)) ∗ l0At c (halfA (gk c 0) 0) fullShare.left (accV m (lf c)) ∗ (∃ f, l1At (F := F) (rt c) (segB (gk c 0)) fullShare f) ∗ Ow (F := F) c 19 ∗ Wt c (.rb 1 (gk c 0)) ∗ Snd c (.sb 3 (gk c 0)) (lf c) (.rb 3 (gk c 0)) ∗ (∃ f, r1At (F := F) (lf c) (segB (gk c 0)) fullShare f) ∗ l0At c (segA (gk c 0)) fullShare.right (accV m (lf c)))
      ⊢ iprop(((Wt c (.sb 2 (gk c 0)) ∗ r0At c (segA (gk c 0)) fullShare.right (accV m (rt c)) ∗ r0At c (halfA (gk c 0) 0) fullShare.left (accV m (rt c)) ∗ Dn (F := F) c (.rb 1 (gk c 0)) ∗ Wt c (.sb 3 (gk c 0)) ∗ Ow (F := F) c 21 ∗ l0At c (segA (gk c 0)) fullShare.right (accV m (lf c))) -∗ wpc c (kk (rdA (accV m (lf c)) (gk c 0))) Q)
          -∗ wpc c (k0_part15 (F := F) (Memref.whole cc0_stg0_0) h0 (Memref.whole main_arg1) h1 (Memref.whole cc0_stg1_0) h2 (Memref.whole cc0_scratch0) h3 cc0_scratch1 (Memref.whole cc0_scratch2) h5 (Memref.whole cc0_scratch3) h6 cc0_scratch4 cc0_scratch5 cc0_scratch6 cc0_scratch7 (Memref.whole cc0_scratch8) h11 (Memref.whole cc0_scratch9) h12 (Memref.whole cc0_scratch10) h13 (Memref.whole cc0_scratch11) h14 cc0_scratch12 cc0_scratch13 cc0_scoped0 c v8 v61 v72 v75 >>= kk) Q) := by
  rw [k0_part15_eq_skeleton]
  unfold k0_part15_skel
  simp only [semSignalWord, semWaitWord, Prog.lift, Prog.bind_op, Prog.bind_ret, Prog.pure_eq_ret, Prog.bind_assoc, wp_deviceId]
  iintro ⟨#HR, Sb20, L00, Db20, Ow, Wrb10, Sb30, Db30, LK0⟩ Hk
  iapply (send_b2 m K (gk c 0) (dev20_eq c) (off91_eq c) (off90_eq c) (sem_sb' 2 (gk c 0) (off89_eq c) _) (sem_rb' 2 (gk c 0) (off89_eq c) _) (pos := 19) rfl) $$ [Sb20 L00 Db20 Ow]
  · isplitr; · iexact HR
    isplitl [Sb20]; · iexact Sb20
    isplitl [L00]; · iexact L00
    isplitl [Db20]; · iexact Db20
    iexact Ow
  iintro ⟨Wsb20, Ow⟩
  iapply (wt_rb1 m K (gk c 0) (off72_eq c) (pos := 20) (by decide)) $$ [Wrb10 Ow]
  · isplitr; · iexact HR
    isplitl [Wrb10]; · iexact Wrb10
    iexact Ow
  iintro ⟨Ga, Erb10, Ow⟩
  icases Ga with ⟨RK0, R0h0, R1h0⟩
  iapply (send_b3 m K (gk c 0) (dev21_eq c) (off93_eq c) (off90_eq c) (sem_sb' 3 (gk c 0) (off92_eq c) _) (sem_rb' 3 (gk c 0) (off92_eq c) _) (pos := 20) rfl) $$ [Sb30 R1h0 Db30 Ow]
  · isplitr; · iexact HR
    isplitl [Sb30]; · iexact Sb30
    isplitl [R1h0]; · iexact R1h0
    isplitl [Db30]; · iexact Db30
    iexact Ow
  iintro ⟨Wsb30, Ow⟩
  iapply (ld_l0 (gk c 0) (off68_eq c)) $$ LK0
  iintro LK0
  iapply Hk
  isplitl [Wsb20]; · iexact Wsb20
  isplitl [RK0]; · iexact RK0
  isplitl [R0h0]; · iexact R0h0
  isplitl [Erb10]; · iexact Erb10
  isplitl [Wsb30]; · iexact Wsb30
  isplitl [Ow]; · iexact Ow
  iexact LK0

/-- Part 16 of the body: what it takes and what it leaves. -/
theorem part16 {c : Dev nD} {h0 h1 h2 h3 h5 h6 h11 h12 h13 h14} {v8 : BitVec 32} {v30 : BitVec 32} {v41 : BitVec 32} {v77 : BitVec 32} {v95 : BitVec 32}
    {α : Type} {Q : α → sProp 𝕄} {kk : (PUnit) → Prog (TpuEff nD τ sig (Elt F) Λ₀ .tc) α} :
    iprop(records m K ∗ Out m c 8 ∗ r0At c (segA (gk c 0)) fullShare.right (accV m (rt c)) ∗ Wt c (.rb 0 (gk c 1)) ∗ Ow (F := F) c 21 ∗ Snd c (.sb 2 (gk c 1)) (rt c) (.rb 2 (gk c 1)) ∗ (∃ f, l1At (F := F) (rt c) (segB (gk c 1)) fullShare f))
      ⊢ iprop(((r0At c (segA (gk c 0)) fullShare.right (accV m (rt c)) ∗ Out m c 12 ∗ l0At c (segA (gk c 1)) fullShare.right (accV m (lf c)) ∗ l0At c (halfA (gk c 1) 1) fullShare.left (accV m (lf c)) ∗ Dn (F := F) c (.rb 0 (gk c 1)) ∗ Wt c (.sb 2 (gk c 1)) ∗ Ow (F := F) c 22) -∗ wpc c (kk ⟨⟩) Q)
          -∗ wpc c (k0_part16 (F := F) (Memref.whole cc0_stg0_0) h0 (Memref.whole main_arg1) h1 (Memref.whole cc0_stg1_0) h2 (Memref.whole cc0_scratch0) h3 cc0_scratch1 (Memref.whole cc0_scratch2) h5 (Memref.whole cc0_scratch3) h6 cc0_scratch4 cc0_scratch5 cc0_scratch6 cc0_scratch7 (Memref.whole cc0_scratch8) h11 (Memref.whole cc0_scratch9) h12 (Memref.whole cc0_scratch10) h13 (Memref.whole cc0_scratch11) h14 cc0_scratch12 cc0_scratch13 cc0_scoped0 c v8 v30 v41 v77 v95 (rdA (accV m (lf c)) (gk c 0)) >>= kk) Q) := by
  rw [k0_part16_eq_skeleton]
  unfold k0_part16_skel
  simp only [semSignalWord, semWaitWord, Prog.lift, Prog.bind_op, Prog.bind_ret, Prog.pure_eq_ret, Prog.bind_assoc, wp_deviceId]
  iintro ⟨#HR, Out, RK0, Wrb01, Ow, Sb21, Db21⟩ Hk
  iapply (stA m (lf c) (rOf c + 3) 0 rfl (off94_eq c) (p := 8) (p' := 10) rfl) $$ Out
  iintro Out
  iapply (ld_r0 (gk c 0) (off68_eq c)) $$ RK0
  iintro RK0
  iapply (stA m (rt c) (rOf c + 1) 0 rfl (off95_eq c) (p := 10) (p' := 12) rfl) $$ Out
  iintro Out
  iapply (wt_rb0 m K (gk c 1) (off75_eq c) (pos := 21) (by decide)) $$ [Wrb01 Ow]
  · isplitr; · iexact HR
    isplitl [Wrb01]; · iexact Wrb01
    iexact Ow
  iintro ⟨Ga, Erb01, Ow⟩
  icases Ga with ⟨LK1, L01, L0h1⟩
  iapply (send_b2 m K (gk c 1) (dev22_eq c) (off98_eq c) (off97_eq c) (sem_sb' 2 (gk c 1) (off96_eq c) _) (sem_rb' 2 (gk c 1) (off96_eq c) _) (pos := 21) rfl) $$ [Sb21 L01 Db21 Ow]
  · isplitr; · iexact HR
    isplitl [Sb21]; · iexact Sb21
    isplitl [L01]; · iexact L01
    isplitl [Db21]; · iexact Db21
    iexact Ow
  iintro ⟨Wsb21, Ow⟩
  iapply Hk
  isplitl [RK0]; · iexact RK0
  isplitl [Out]; · iexact Out
  isplitl [LK1]; · iexact LK1
  isplitl [L0h1]; · iexact L0h1
  isplitl [Erb01]; · iexact Erb01
  isplitl [Wsb21]; · iexact Wsb21
  iexact Ow

/-- Part 17 of the body: what it takes and what it leaves. -/
theorem part17 {c : Dev nD} {h0 h1 h2 h3 h5 h6 h11 h12 h13 h14} {v8 : BitVec 32} {v61 : BitVec 32} {v72 : BitVec 32} {v75 : BitVec 32} {v95 : BitVec 32}
    {α : Type} {Q : α → sProp 𝕄} {kk : (PUnit) → Prog (TpuEff nD τ sig (Elt F) Λ₀ .tc) α} :
    iprop(records m K ∗ Wt c (.rb 1 (gk c 1)) ∗ Ow (F := F) c 22 ∗ Snd c (.sb 3 (gk c 1)) (lf c) (.rb 3 (gk c 1)) ∗ (∃ f, r1At (F := F) (lf c) (segB (gk c 1)) fullShare f) ∗ l0At c (segA (gk c 1)) fullShare.right (accV m (lf c)) ∗ Out m c 12)
      ⊢ iprop(((r0At c (segA (gk c 1)) fullShare.right (accV m (rt c)) ∗ r0At c (halfA (gk c 1) 0) fullShare.left (accV m (rt c)) ∗ Dn (F := F) c (.rb 1 (gk c 1)) ∗ Wt c (.sb 3 (gk c 1)) ∗ Ow (F := F) c 23 ∗ l0At c (segA (gk c 1)) fullShare.right (accV m (lf c)) ∗ Out m c 14) -∗ wpc c (kk ⟨⟩) Q)
          -∗ wpc c (k0_part17 (F := F) (Memref.whole cc0_stg0_0) h0 (Memref.whole main_arg1) h1 (Memref.whole cc0_stg1_0) h2 (Memref.whole cc0_scratch0) h3 cc0_scratch1 (Memref.whole cc0_scratch2) h5 (Memref.whole cc0_scratch3) h6 cc0_scratch4 cc0_scratch5 cc0_scratch6 cc0_scratch7 (Memref.whole cc0_scratch8) h11 (Memref.whole cc0_scratch9) h12 (Memref.whole cc0_scratch10) h13 (Memref.whole cc0_scratch11) h14 cc0_scratch12 cc0_scratch13 cc0_scoped0 c v8 v61 v72 v75 v95 >>= kk) Q) := by
  rw [k0_part17_eq_skeleton]
  unfold k0_part17_skel
  simp only [semSignalWord, semWaitWord, Prog.lift, Prog.bind_op, Prog.bind_ret, Prog.pure_eq_ret, Prog.bind_assoc, wp_deviceId]
  iintro ⟨#HR, Wrb11, Ow, Sb31, Db31, LK1, Out⟩ Hk
  iapply (wt_rb1 m K (gk c 1) (off76_eq c) (pos := 22) (by decide)) $$ [Wrb11 Ow]
  · isplitr; · iexact HR
    isplitl [Wrb11]; · iexact Wrb11
    iexact Ow
  iintro ⟨Ga, Erb11, Ow⟩
  icases Ga with ⟨RK1, R0h1, R1h1⟩
  iapply (send_b3 m K (gk c 1) (dev23_eq c) (off100_eq c) (off97_eq c) (sem_sb' 3 (gk c 1) (off99_eq c) _) (sem_rb' 3 (gk c 1) (off99_eq c) _) (pos := 22) rfl) $$ [Sb31 R1h1 Db31 Ow]
  · isplitr; · iexact HR
    isplitl [Sb31]; · iexact Sb31
    isplitl [R1h1]; · iexact R1h1
    isplitl [Db31]; · iexact Db31
    iexact Ow
  iintro ⟨Wsb31, Ow⟩
  iapply (ld_l0 (gk c 1) (off77_eq c)) $$ LK1
  iintro LK1
  iapply (stA m (lf c) (rOf c + 3) 1 rfl (off101_eq c) (p := 12) (p' := 14) rfl) $$ Out
  iintro Out
  iapply Hk
  isplitl [RK1]; · iexact RK1
  isplitl [R0h1]; · iexact R0h1
  isplitl [Erb11]; · iexact Erb11
  isplitl [Wsb31]; · iexact Wsb31
  isplitl [Ow]; · iexact Ow
  isplitl [LK1]; · iexact LK1
  iexact Out

/-- Part 18 of the body: what it takes and what it leaves. -/
theorem part18 {c : Dev nD} {h0 h1 h2 h3 h5 h6 h11 h12 h13 h14} {v8 : BitVec 32} {v30 : BitVec 32} {v41 : BitVec 32} {v77 : BitVec 32} {v91 : BitVec 32} {v95 : BitVec 32}
    {α : Type} {Q : α → sProp 𝕄} {kk : (PUnit) → Prog (TpuEff nD τ sig (Elt F) Λ₀ .tc) α} :
    iprop(records m K ∗ r0At c (segA (gk c 1)) fullShare.right (accV m (rt c)) ∗ Out m c 14 ∗ Wt c (.rb 0 (gk c 2)) ∗ Ow (F := F) c 23 ∗ Snd c (.sb 2 (gk c 2)) (rt c) (.rb 2 (gk c 2)) ∗ (∃ f, l1At (F := F) (rt c) (segB (gk c 2)) fullShare f))
      ⊢ iprop(((r0At c (segA (gk c 1)) fullShare.right (accV m (rt c)) ∗ Out m c 16 ∗ l0At c (segA (gk c 2)) fullShare.right (accV m (lf c)) ∗ l0At c (halfA (gk c 2) 1) fullShare.left (accV m (lf c)) ∗ Dn (F := F) c (.rb 0 (gk c 2)) ∗ Wt c (.sb 2 (gk c 2)) ∗ Ow (F := F) c 24) -∗ wpc c (kk ⟨⟩) Q)
          -∗ wpc c (k0_part18 (F := F) (Memref.whole cc0_stg0_0) h0 (Memref.whole main_arg1) h1 (Memref.whole cc0_stg1_0) h2 (Memref.whole cc0_scratch0) h3 cc0_scratch1 (Memref.whole cc0_scratch2) h5 (Memref.whole cc0_scratch3) h6 cc0_scratch4 cc0_scratch5 cc0_scratch6 cc0_scratch7 (Memref.whole cc0_scratch8) h11 (Memref.whole cc0_scratch9) h12 (Memref.whole cc0_scratch10) h13 (Memref.whole cc0_scratch11) h14 cc0_scratch12 cc0_scratch13 cc0_scoped0 c v8 v30 v41 v77 v91 v95 >>= kk) Q) := by
  rw [k0_part18_eq_skeleton]
  unfold k0_part18_skel
  simp only [semSignalWord, semWaitWord, Prog.lift, Prog.bind_op, Prog.bind_ret, Prog.pure_eq_ret, Prog.bind_assoc, wp_deviceId]
  iintro ⟨#HR, RK1, Out, Wrb02, Ow, Sb22, Db22⟩ Hk
  iapply (ld_r0 (gk c 1) (off77_eq c)) $$ RK1
  iintro RK1
  iapply (stA m (rt c) (rOf c + 1) 1 rfl (off102_eq c) (p := 14) (p' := 16) rfl) $$ Out
  iintro Out
  iapply (wt_rb0 m K (gk c 2) (off80_eq c) (pos := 23) (by decide)) $$ [Wrb02 Ow]
  · isplitr; · iexact HR
    isplitl [Wrb02]; · iexact Wrb02
    iexact Ow
  iintro ⟨Ga, Erb02, Ow⟩
  icases Ga with ⟨LK2, L02, L0h2⟩
  iapply (send_b2 m K (gk c 2) (dev24_eq c) (off105_eq c) (off104_eq c) (sem_sb' 2 (gk c 2) (off103_eq c) _) (sem_rb' 2 (gk c 2) (off103_eq c) _) (pos := 23) rfl) $$ [Sb22 L02 Db22 Ow]
  · isplitr; · iexact HR
    isplitl [Sb22]; · iexact Sb22
    isplitl [L02]; · iexact L02
    isplitl [Db22]; · iexact Db22
    iexact Ow
  iintro ⟨Wsb22, Ow⟩
  iapply Hk
  isplitl [RK1]; · iexact RK1
  isplitl [Out]; · iexact Out
  isplitl [LK2]; · iexact LK2
  isplitl [L0h2]; · iexact L0h2
  isplitl [Erb02]; · iexact Erb02
  isplitl [Wsb22]; · iexact Wsb22
  iexact Ow

end Cert.EmbedProof
-- ==== Proof.Parts3.lean ====
/-
The parts of the kernel's body, each once, on any device: the rest of the ring, the departures, the exit.
-/
module

public import proofs.«01_k».proof.Proof.GatherTrips
public import proofs.«01_k».proof.Proof.Pieces

@[expose] public section

set_option maxRecDepth 8000

noncomputable section

namespace Cert.EmbedProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (K : Dev nD × CK → ℕ)

/-- Part 19 of the body: what it takes and what it leaves. -/
theorem part19 {c : Dev nD} {h0 h1 h2 h3 h5 h6 h11 h12 h13 h14} {v8 : BitVec 32} {v61 : BitVec 32} {v72 : BitVec 32} {v75 : BitVec 32} {v91 : BitVec 32}
    {α : Type} {Q : α → sProp 𝕄} {kk : (BitVec 32) → Prog (TpuEff nD τ sig (Elt F) Λ₀ .tc) α} :
    iprop(records m K ∗ Wt c (.rb 1 (gk c 2)) ∗ Ow (F := F) c 24 ∗ Snd c (.sb 3 (gk c 2)) (lf c) (.rb 3 (gk c 2)) ∗ (∃ f, r1At (F := F) (lf c) (segB (gk c 2)) fullShare f) ∗ l0At c (segA (gk c 2)) fullShare.right (accV m (lf c)) ∗ Out m c 16)
      ⊢ iprop((∀ u0 : BitVec 32, (r0At c (segA (gk c 2)) fullShare.right (accV m (rt c)) ∗ r0At c (halfA (gk c 2) 0) fullShare.left (accV m (rt c)) ∗ Dn (F := F) c (.rb 1 (gk c 2)) ∗ Wt c (.sb 3 (gk c 2)) ∗ Ow (F := F) c 25 ∗ l0At c (segA (gk c 2)) fullShare.right (accV m (lf c)) ∗ Out m c 18) -∗ wpc c (kk u0) Q)
          -∗ wpc c (k0_part19 (F := F) (Memref.whole cc0_stg0_0) h0 (Memref.whole main_arg1) h1 (Memref.whole cc0_stg1_0) h2 (Memref.whole cc0_scratch0) h3 cc0_scratch1 (Memref.whole cc0_scratch2) h5 (Memref.whole cc0_scratch3) h6 cc0_scratch4 cc0_scratch5 cc0_scratch6 cc0_scratch7 (Memref.whole cc0_scratch8) h11 (Memref.whole cc0_scratch9) h12 (Memref.whole cc0_scratch10) h13 (Memref.whole cc0_scratch11) h14 cc0_scratch12 cc0_scratch13 cc0_scoped0 c v8 v61 v72 v75 v91 >>= kk) Q) := by
  rw [k0_part19_eq_skeleton]
  unfold k0_part19_skel
  simp only [semSignalWord, semWaitWord, Prog.lift, Prog.bind_op, Prog.bind_ret, Prog.pure_eq_ret, Prog.bind_assoc, wp_deviceId]
  iintro ⟨#HR, Wrb12, Ow, Sb32, Db32, LK2, Out⟩ Hk
  iapply (wt_rb1 m K (gk c 2) (off81_eq c) (pos := 24) (by decide)) $$ [Wrb12 Ow]
  · isplitr; · iexact HR
    isplitl [Wrb12]; · iexact Wrb12
    iexact Ow
  iintro ⟨Ga, Erb12, Ow⟩
  icases Ga with ⟨RK2, R0h2, R1h2⟩
  iapply (send_b3 m K (gk c 2) (dev25_eq c) (off107_eq c) (off104_eq c) (sem_sb' 3 (gk c 2) (off106_eq c) _) (sem_rb' 3 (gk c 2) (off106_eq c) _) (pos := 24) rfl) $$ [Sb32 R1h2 Db32 Ow]
  · isplitr; · iexact HR
    isplitl [Sb32]; · iexact Sb32
    isplitl [R1h2]; · iexact R1h2
    isplitl [Db32]; · iexact Db32
    iexact Ow
  iintro ⟨Wsb32, Ow⟩
  iapply (ld_l0 (gk c 2) (off82_eq c)) $$ LK2
  iintro LK2
  iapply (stA m (lf c) (rOf c + 3) 2 rfl (off108_eq c) (p := 16) (p' := 18) rfl) $$ Out
  iintro Out
  iapply Hk
  isplitl [RK2]; · iexact RK2
  isplitl [R0h2]; · iexact R0h2
  isplitl [Erb12]; · iexact Erb12
  isplitl [Wsb32]; · iexact Wsb32
  isplitl [Ow]; · iexact Ow
  isplitl [LK2]; · iexact LK2
  iexact Out

/-- Part 20 of the body: what it takes and what it leaves. -/
theorem part20 {c : Dev nD} {h0 h1 h2 h3 h5 h6 h11 h12 h13 h14} {v8 : BitVec 32} {v30 : BitVec 32} {v41 : BitVec 32} {v61 : BitVec 32} {v77 : BitVec 32} {v87 : BitVec 32} {v91 : BitVec 32} {v623 : BitVec 32}
    {α : Type} {Q : α → sProp 𝕄} {kk : (BitVec 32) → Prog (TpuEff nD τ sig (Elt F) Λ₀ .tc) α} :
    iprop(records m K ∗ r0At c (segA (gk c 2)) fullShare.right (accV m (rt c)) ∗ Out m c 18 ∗ Wt c (.rb 0 (gk c 3)) ∗ Ow (F := F) c 25 ∗ Snd c (.sb 2 (gk c 3)) (rt c) (.rb 2 (gk c 3)) ∗ (∃ f, l1At (F := F) (rt c) (segB (gk c 3)) fullShare f))
      ⊢ iprop((∀ u0 : BitVec 32, (r0At c (segA (gk c 2)) fullShare.right (accV m (rt c)) ∗ Out m c 20 ∗ l0At c (segA (gk c 3)) fullShare.right (accV m (lf c)) ∗ l0At c (halfA (gk c 3) 1) fullShare.left (accV m (lf c)) ∗ Dn (F := F) c (.rb 0 (gk c 3)) ∗ Wt c (.sb 2 (gk c 3)) ∗ Ow (F := F) c 26) -∗ wpc c (kk u0) Q)
          -∗ wpc c (k0_part20 (F := F) (Memref.whole cc0_stg0_0) h0 (Memref.whole main_arg1) h1 (Memref.whole cc0_stg1_0) h2 (Memref.whole cc0_scratch0) h3 cc0_scratch1 (Memref.whole cc0_scratch2) h5 (Memref.whole cc0_scratch3) h6 cc0_scratch4 cc0_scratch5 cc0_scratch6 cc0_scratch7 (Memref.whole cc0_scratch8) h11 (Memref.whole cc0_scratch9) h12 (Memref.whole cc0_scratch10) h13 (Memref.whole cc0_scratch11) h14 cc0_scratch12 cc0_scratch13 cc0_scoped0 c v8 v30 v41 v61 v77 v87 v91 v623 >>= kk) Q) := by
  rw [k0_part20_eq_skeleton]
  unfold k0_part20_skel
  simp only [semSignalWord, semWaitWord, Prog.lift, Prog.bind_op, Prog.bind_ret, Prog.pure_eq_ret, Prog.bind_assoc, wp_deviceId]
  iintro ⟨#HR, RK2, Out, Wrb03, Ow, Sb23, Db23⟩ Hk
  iapply (ld_r0 (gk c 2) (off82_eq c)) $$ RK2
  iintro RK2
  iapply (stA m (rt c) (rOf c + 1) 2 rfl (off109_eq c) (p := 18) (p' := 20) rfl) $$ Out
  iintro Out
  iapply (wt_rb0 m K (gk c 3) (off85_eq c) (pos := 25) (by decide)) $$ [Wrb03 Ow]
  · isplitr; · iexact HR
    isplitl [Wrb03]; · iexact Wrb03
    iexact Ow
  iintro ⟨Ga, Erb03, Ow⟩
  icases Ga with ⟨LK3, L03, L0h3⟩
  iapply (send_b2 m K (gk c 3) (dev26_eq c) (off112_eq c) (off111_eq c) (sem_sb' 2 (gk c 3) (off110_eq c) _) (sem_rb' 2 (gk c 3) (off110_eq c) _) (pos := 25) rfl) $$ [Sb23 L03 Db23 Ow]
  · isplitr; · iexact HR
    isplitl [Sb23]; · iexact Sb23
    isplitl [L03]; · iexact L03
    isplitl [Db23]; · iexact Db23
    iexact Ow
  iintro ⟨Wsb23, Ow⟩
  iapply Hk
  isplitl [RK2]; · iexact RK2
  isplitl [Out]; · iexact Out
  isplitl [LK3]; · iexact LK3
  isplitl [L0h3]; · iexact L0h3
  isplitl [Erb03]; · iexact Erb03
  isplitl [Wsb23]; · iexact Wsb23
  iexact Ow

/-- Part 21 of the body: what it takes and what it leaves. -/
theorem part21 {c : Dev nD} {h0 h1 h2 h3 h5 h6 h11 h12 h13 h14} {v8 : BitVec 32} {v61 : BitVec 32} {v72 : BitVec 32} {v75 : BitVec 32} {v87 : BitVec 32} {v655 : BitVec 32}
    {α : Type} {Q : α → sProp 𝕄} {kk : (PUnit) → Prog (TpuEff nD τ sig (Elt F) Λ₀ .tc) α} :
    iprop(records m K ∗ Wt c (.rb 1 (gk c 3)) ∗ Ow (F := F) c 26 ∗ Snd c (.sb 3 (gk c 3)) (lf c) (.rb 3 (gk c 3)) ∗ (∃ f, r1At (F := F) (lf c) (segB (gk c 3)) fullShare f) ∗ l0At c (segA (gk c 3)) fullShare.right (accV m (lf c)) ∗ Out m c 20)
      ⊢ iprop(((r0At c (segA (gk c 3)) fullShare.right (accV m (rt c)) ∗ r0At c (halfA (gk c 3) 0) fullShare.left (accV m (rt c)) ∗ Dn (F := F) c (.rb 1 (gk c 3)) ∗ Wt c (.sb 3 (gk c 3)) ∗ Ow (F := F) c 27 ∗ l0At c (segA (gk c 3)) fullShare.right (accV m (lf c)) ∗ Out m c 22) -∗ wpc c (kk ⟨⟩) Q)
          -∗ wpc c (k0_part21 (F := F) (Memref.whole cc0_stg0_0) h0 (Memref.whole main_arg1) h1 (Memref.whole cc0_stg1_0) h2 (Memref.whole cc0_scratch0) h3 cc0_scratch1 (Memref.whole cc0_scratch2) h5 (Memref.whole cc0_scratch3) h6 cc0_scratch4 cc0_scratch5 cc0_scratch6 cc0_scratch7 (Memref.whole cc0_scratch8) h11 (Memref.whole cc0_scratch9) h12 (Memref.whole cc0_scratch10) h13 (Memref.whole cc0_scratch11) h14 cc0_scratch12 cc0_scratch13 cc0_scoped0 c v8 v61 v72 v75 v87 v655 >>= kk) Q) := by
  rw [k0_part21_eq_skeleton]
  unfold k0_part21_skel
  simp only [semSignalWord, semWaitWord, Prog.lift, Prog.bind_op, Prog.bind_ret, Prog.pure_eq_ret, Prog.bind_assoc, wp_deviceId]
  iintro ⟨#HR, Wrb13, Ow, Sb33, Db33, LK3, Out⟩ Hk
  iapply (wt_rb1 m K (gk c 3) (off86_eq c) (pos := 26) (by decide)) $$ [Wrb13 Ow]
  · isplitr; · iexact HR
    isplitl [Wrb13]; · iexact Wrb13
    iexact Ow
  iintro ⟨Ga, Erb13, Ow⟩
  icases Ga with ⟨RK3, R0h3, R1h3⟩
  iapply (send_b3 m K (gk c 3) (dev27_eq c) (off114_eq c) (off111_eq c) (sem_sb' 3 (gk c 3) (off113_eq c) _) (sem_rb' 3 (gk c 3) (off113_eq c) _) (pos := 26) rfl) $$ [Sb33 R1h3 Db33 Ow]
  · isplitr; · iexact HR
    isplitl [Sb33]; · iexact Sb33
    isplitl [R1h3]; · iexact R1h3
    isplitl [Db33]; · iexact Db33
    iexact Ow
  iintro ⟨Wsb33, Ow⟩
  iapply (ld_l0 (gk c 3) (off87_eq c)) $$ LK3
  iintro LK3
  iapply (stA m (lf c) (rOf c + 3) 3 rfl (off115_eq c) (p := 20) (p' := 22) rfl) $$ Out
  iintro Out
  iapply Hk
  isplitl [RK3]; · iexact RK3
  isplitl [R0h3]; · iexact R0h3
  isplitl [Erb13]; · iexact Erb13
  isplitl [Wsb33]; · iexact Wsb33
  isplitl [Ow]; · iexact Ow
  isplitl [LK3]; · iexact LK3
  iexact Out

/-- Part 22 of the body: what it takes and what it leaves. -/
theorem part22 {c : Dev nD} {h0 h1 h2 h3 h5 h6 h11 h12 h13 h14} {v8 : BitVec 32} {v30 : BitVec 32} {v41 : BitVec 32} {v61 : BitVec 32} {v72 : BitVec 32} {v77 : BitVec 32} {v79 : BitVec 32} {v87 : BitVec 32}
    {α : Type} {Q : α → sProp 𝕄} {kk : (Vec F S64x1024 .f32) → Prog (TpuEff nD τ sig (Elt F) Λ₀ .tc) α} :
    iprop(records m K ∗ r0At c (segA (gk c 3)) fullShare.right (accV m (rt c)) ∗ Out m c 22 ∗ Wt c (.rb 2 (gk c 0)) ∗ Ow (F := F) c 27 ∗ Wt c (.rb 3 (gk c 0)))
      ⊢ iprop(((r0At c (segA (gk c 3)) fullShare.right (accV m (rt c)) ∗ Out m c 24 ∗ Dn (F := F) c (.rb 2 (gk c 0)) ∗ r1At c (segB (gk c 0)) fullShare (brV m c) ∗ Dn (F := F) c (.rb 3 (gk c 0)) ∗ Ow (F := F) c 27 ∗ l1At c (segB (gk c 0)) fullShare (blV m c)) -∗ wpc c (kk (rdB (blV m c) (gk c 0))) Q)
          -∗ wpc c (k0_part22 (F := F) (Memref.whole cc0_stg0_0) h0 (Memref.whole main_arg1) h1 (Memref.whole cc0_stg1_0) h2 (Memref.whole cc0_scratch0) h3 cc0_scratch1 (Memref.whole cc0_scratch2) h5 (Memref.whole cc0_scratch3) h6 cc0_scratch4 cc0_scratch5 cc0_scratch6 cc0_scratch7 (Memref.whole cc0_scratch8) h11 (Memref.whole cc0_scratch9) h12 (Memref.whole cc0_scratch10) h13 (Memref.whole cc0_scratch11) h14 cc0_scratch12 cc0_scratch13 cc0_scoped0 c v8 v30 v41 v61 v72 v77 v79 v87 >>= kk) Q) := by
  rw [k0_part22_eq_skeleton]
  unfold k0_part22_skel
  simp only [semSignalWord, semWaitWord, Prog.lift, Prog.bind_op, Prog.bind_ret, Prog.pure_eq_ret, Prog.bind_assoc, wp_deviceId]
  iintro ⟨#HR, RK3, Out, Wrb20, Ow, Wrb30⟩ Hk
  iapply (ld_r0 (gk c 3) (off87_eq c)) $$ RK3
  iintro RK3
  iapply (stA m (rt c) (rOf c + 1) 3 rfl (off116_eq c) (p := 22) (p' := 24) rfl) $$ Out
  iintro Out
  iapply (wt_rb2 m K (gk c 0) (off89_eq c) (pos := 27) (by decide)) $$ [Wrb20 Ow]
  · isplitr; · iexact HR
    isplitl [Wrb20]; · iexact Wrb20
    iexact Ow
  iintro ⟨L10, Erb20, Ow⟩
  iapply (wt_rb3 m K (gk c 0) (off92_eq c) (pos := 27) (by decide)) $$ [Wrb30 Ow]
  · isplitr; · iexact HR
    isplitl [Wrb30]; · iexact Wrb30
    iexact Ow
  iintro ⟨R10, Erb30, Ow⟩
  iapply (ld_l1 (gk c 0) (off117_eq c)) $$ L10
  iintro L10
  iapply Hk
  isplitl [RK3]; · iexact RK3
  isplitl [Out]; · iexact Out
  isplitl [Erb20]; · iexact Erb20
  isplitl [R10]; · iexact R10
  isplitl [Erb30]; · iexact Erb30
  isplitl [Ow]; · iexact Ow
  iexact L10

/-- Part 23 of the body: what it takes and what it leaves. -/
theorem part23 {c : Dev nD} {h0 h1 h2 h3 h5 h6 h11 h12 h13 h14} {v8 : BitVec 32} {v30 : BitVec 32} {v41 : BitVec 32} {v61 : BitVec 32} {v72 : BitVec 32} {v79 : BitVec 32} {v95 : BitVec 32}
    {α : Type} {Q : α → sProp 𝕄} {kk : (PUnit) → Prog (TpuEff nD τ sig (Elt F) Λ₀ .tc) α} :
    iprop(records m K ∗ Out m c 24 ∗ r1At c (segB (gk c 0)) fullShare (brV m c) ∗ Wt c (.rb 2 (gk c 1)) ∗ Ow (F := F) c 27 ∗ Wt c (.rb 3 (gk c 1)))
      ⊢ iprop(((r1At c (segB (gk c 0)) fullShare (brV m c) ∗ Out m c 26 ∗ l1At c (segB (gk c 1)) fullShare (blV m c) ∗ Dn (F := F) c (.rb 2 (gk c 1)) ∗ r1At c (segB (gk c 1)) fullShare (brV m c) ∗ Dn (F := F) c (.rb 3 (gk c 1)) ∗ Ow (F := F) c 27) -∗ wpc c (kk ⟨⟩) Q)
          -∗ wpc c (k0_part23 (F := F) (Memref.whole cc0_stg0_0) h0 (Memref.whole main_arg1) h1 (Memref.whole cc0_stg1_0) h2 (Memref.whole cc0_scratch0) h3 cc0_scratch1 (Memref.whole cc0_scratch2) h5 (Memref.whole cc0_scratch3) h6 cc0_scratch4 cc0_scratch5 cc0_scratch6 cc0_scratch7 (Memref.whole cc0_scratch8) h11 (Memref.whole cc0_scratch9) h12 (Memref.whole cc0_scratch10) h13 (Memref.whole cc0_scratch11) h14 cc0_scratch12 cc0_scratch13 cc0_scoped0 c v8 v30 v41 v61 v72 v79 v95 (rdB (blV m c) (gk c 0)) >>= kk) Q) := by
  rw [k0_part23_eq_skeleton]
  unfold k0_part23_skel
  simp only [semSignalWord, semWaitWord, Prog.lift, Prog.bind_op, Prog.bind_ret, Prog.pure_eq_ret, Prog.bind_assoc, wp_deviceId]
  iintro ⟨#HR, Out, R10, Wrb21, Ow, Wrb31⟩ Hk
  iapply (stBl m 0 (off118_eq c) (p := 24) (p' := 25) rfl) $$ Out
  iintro Out
  iapply (ld_r1 (gk c 0) (off117_eq c)) $$ R10
  iintro R10
  iapply (stBr m 0 (off119_eq c) (p := 25) (p' := 26) rfl) $$ Out
  iintro Out
  iapply (wt_rb2 m K (gk c 1) (off96_eq c) (pos := 27) (by decide)) $$ [Wrb21 Ow]
  · isplitr; · iexact HR
    isplitl [Wrb21]; · iexact Wrb21
    iexact Ow
  iintro ⟨L11, Erb21, Ow⟩
  iapply (wt_rb3 m K (gk c 1) (off99_eq c) (pos := 27) (by decide)) $$ [Wrb31 Ow]
  · isplitr; · iexact HR
    isplitl [Wrb31]; · iexact Wrb31
    iexact Ow
  iintro ⟨R11, Erb31, Ow⟩
  iapply Hk
  isplitl [R10]; · iexact R10
  isplitl [Out]; · iexact Out
  isplitl [L11]; · iexact L11
  isplitl [Erb21]; · iexact Erb21
  isplitl [R11]; · iexact R11
  isplitl [Erb31]; · iexact Erb31
  iexact Ow

/-- Part 24 of the body: what it takes and what it leaves. -/
theorem part24 {c : Dev nD} {h0 h1 h2 h3 h5 h6 h11 h12 h13 h14} {v8 : BitVec 32} {v30 : BitVec 32} {v41 : BitVec 32} {v61 : BitVec 32} {v72 : BitVec 32} {v79 : BitVec 32} {v95 : BitVec 32}
    {α : Type} {Q : α → sProp 𝕄} {kk : (PUnit) → Prog (TpuEff nD τ sig (Elt F) Λ₀ .tc) α} :
    iprop(records m K ∗ l1At c (segB (gk c 1)) fullShare (blV m c) ∗ Out m c 26 ∗ r1At c (segB (gk c 1)) fullShare (brV m c) ∗ Wt c (.rb 2 (gk c 2)) ∗ Ow (F := F) c 27)
      ⊢ iprop(((l1At c (segB (gk c 1)) fullShare (blV m c) ∗ r1At c (segB (gk c 1)) fullShare (brV m c) ∗ Out m c 28 ∗ l1At c (segB (gk c 2)) fullShare (blV m c) ∗ Dn (F := F) c (.rb 2 (gk c 2)) ∗ Ow (F := F) c 27) -∗ wpc c (kk ⟨⟩) Q)
          -∗ wpc c (k0_part24 (F := F) (Memref.whole cc0_stg0_0) h0 (Memref.whole main_arg1) h1 (Memref.whole cc0_stg1_0) h2 (Memref.whole cc0_scratch0) h3 cc0_scratch1 (Memref.whole cc0_scratch2) h5 (Memref.whole cc0_scratch3) h6 cc0_scratch4 cc0_scratch5 cc0_scratch6 cc0_scratch7 (Memref.whole cc0_scratch8) h11 (Memref.whole cc0_scratch9) h12 (Memref.whole cc0_scratch10) h13 (Memref.whole cc0_scratch11) h14 cc0_scratch12 cc0_scratch13 cc0_scoped0 c v8 v30 v41 v61 v72 v79 v95 >>= kk) Q) := by
  rw [k0_part24_eq_skeleton]
  unfold k0_part24_skel
  simp only [semSignalWord, semWaitWord, Prog.lift, Prog.bind_op, Prog.bind_ret, Prog.pure_eq_ret, Prog.bind_assoc, wp_deviceId]
  iintro ⟨#HR, L11, Out, R11, Wrb22, Ow⟩ Hk
  iapply (ld_l1 (gk c 1) (off120_eq c)) $$ L11
  iintro L11
  iapply (stBl m 1 (off121_eq c) (p := 26) (p' := 27) rfl) $$ Out
  iintro Out
  iapply (ld_r1 (gk c 1) (off120_eq c)) $$ R11
  iintro R11
  iapply (stBr m 1 (off122_eq c) (p := 27) (p' := 28) rfl) $$ Out
  iintro Out
  iapply (wt_rb2 m K (gk c 2) (off103_eq c) (pos := 27) (by decide)) $$ [Wrb22 Ow]
  · isplitr; · iexact HR
    isplitl [Wrb22]; · iexact Wrb22
    iexact Ow
  iintro ⟨L12, Erb22, Ow⟩
  iapply Hk
  isplitl [L11]; · iexact L11
  isplitl [R11]; · iexact R11
  isplitl [Out]; · iexact Out
  isplitl [L12]; · iexact L12
  isplitl [Erb22]; · iexact Erb22
  iexact Ow

/-- Part 25 of the body: what it takes and what it leaves. -/
theorem part25 {c : Dev nD} {h0 h1 h2 h3 h5 h6 h11 h12 h13 h14} {v8 : BitVec 32} {v30 : BitVec 32} {v41 : BitVec 32} {v61 : BitVec 32} {v79 : BitVec 32} {v91 : BitVec 32}
    {α : Type} {Q : α → sProp 𝕄} {kk : (Σ' (v818 : BitVec 32), BitVec 32) → Prog (TpuEff nD τ sig (Elt F) Λ₀ .tc) α} :
    iprop(records m K ∗ Wt c (.rb 3 (gk c 2)) ∗ Ow (F := F) c 27 ∗ l1At c (segB (gk c 2)) fullShare (blV m c) ∗ Out m c 28 ∗ Wt c (.rb 2 (gk c 3)))
      ⊢ iprop((∀ u0 : BitVec 32, (Dn (F := F) c (.rb 3 (gk c 2)) ∗ l1At c (segB (gk c 2)) fullShare (blV m c) ∗ r1At c (segB (gk c 2)) fullShare (brV m c) ∗ Out m c 30 ∗ l1At c (segB (gk c 3)) fullShare (blV m c) ∗ Dn (F := F) c (.rb 2 (gk c 3)) ∗ Ow (F := F) c 27) -∗ wpc c (kk ⟨u0, 4#32⟩) Q)
          -∗ wpc c (k0_part25 (F := F) (Memref.whole cc0_stg0_0) h0 (Memref.whole main_arg1) h1 (Memref.whole cc0_stg1_0) h2 (Memref.whole cc0_scratch0) h3 cc0_scratch1 (Memref.whole cc0_scratch2) h5 (Memref.whole cc0_scratch3) h6 cc0_scratch4 cc0_scratch5 cc0_scratch6 cc0_scratch7 (Memref.whole cc0_scratch8) h11 (Memref.whole cc0_scratch9) h12 (Memref.whole cc0_scratch10) h13 (Memref.whole cc0_scratch11) h14 cc0_scratch12 cc0_scratch13 cc0_scoped0 c v8 v30 v41 v61 v79 v91 >>= kk) Q) := by
  rw [k0_part25_eq_skeleton]
  unfold k0_part25_skel
  simp only [semSignalWord, semWaitWord, Prog.lift, Prog.bind_op, Prog.bind_ret, Prog.pure_eq_ret, Prog.bind_assoc, wp_deviceId]
  iintro ⟨#HR, Wrb32, Ow, L12, Out, Wrb23⟩ Hk
  iapply (wt_rb3 m K (gk c 2) (off106_eq c) (pos := 27) (by decide)) $$ [Wrb32 Ow]
  · isplitr; · iexact HR
    isplitl [Wrb32]; · iexact Wrb32
    iexact Ow
  iintro ⟨R12, Erb32, Ow⟩
  iapply (ld_l1 (gk c 2) (off123_eq c)) $$ L12
  iintro L12
  iapply (stBl m 2 (off124_eq c) (p := 28) (p' := 29) rfl) $$ Out
  iintro Out
  iapply (ld_r1 (gk c 2) (off123_eq c)) $$ R12
  iintro R12
  iapply (stBr m 2 (off125_eq c) (p := 29) (p' := 30) rfl) $$ Out
  iintro Out
  iapply (wt_rb2 m K (gk c 3) (off110_eq c) (pos := 27) (by decide)) $$ [Wrb23 Ow]
  · isplitr; · iexact HR
    isplitl [Wrb23]; · iexact Wrb23
    iexact Ow
  iintro ⟨L13, Erb23, Ow⟩
  iapply Hk
  isplitl [Erb32]; · iexact Erb32
  isplitl [L12]; · iexact L12
  isplitl [R12]; · iexact R12
  isplitl [Out]; · iexact Out
  isplitl [L13]; · iexact L13
  isplitl [Erb23]; · iexact Erb23
  iexact Ow

/-- Part 26 of the body: what it takes and what it leaves. -/
theorem part26 {c : Dev nD} {h0 h1 h2 h3 h5 h6 h11 h12 h13 h14} {v8 : BitVec 32} {v72 : BitVec 32} {v79 : BitVec 32} {v87 : BitVec 32} {v818 : BitVec 32} {c4_i32_587 : BitVec 32}
    {α : Type} {Q : α → sProp 𝕄} {kk : (PUnit) → Prog (TpuEff nD τ sig (Elt F) Λ₀ .tc) α} :
    iprop(records m K ∗ Wt c (.rb 3 (gk c 3)) ∗ Ow (F := F) c 27 ∗ l1At c (segB (gk c 3)) fullShare (blV m c) ∗ Out m c 30 ∗ Wt c (.ss 0))
      ⊢ iprop(((Dn (F := F) c (.rb 3 (gk c 3)) ∗ l1At c (segB (gk c 3)) fullShare (blV m c) ∗ r1At c (segB (gk c 3)) fullShare (brV m c) ∗ Out m c 32 ∗ xAt c (segA (pk c 0)) fullShare (XV m c) ∗ Dn (F := F) c (.ss 0) ∗ Ow (F := F) c 27) -∗ wpc c (kk ⟨⟩) Q)
          -∗ wpc c (k0_part26 (F := F) (Memref.whole cc0_stg0_0) h0 (Memref.whole main_arg1) h1 (Memref.whole cc0_stg1_0) h2 (Memref.whole cc0_scratch0) h3 cc0_scratch1 (Memref.whole cc0_scratch2) h5 (Memref.whole cc0_scratch3) h6 cc0_scratch4 cc0_scratch5 cc0_scratch6 cc0_scratch7 (Memref.whole cc0_scratch8) h11 (Memref.whole cc0_scratch9) h12 (Memref.whole cc0_scratch10) h13 (Memref.whole cc0_scratch11) h14 cc0_scratch12 cc0_scratch13 cc0_scoped0 c v8 v72 v79 v87 v818 c4_i32_587 >>= kk) Q) := by
  rw [k0_part26_eq_skeleton]
  unfold k0_part26_skel
  simp only [semSignalWord, semWaitWord, Prog.lift, Prog.bind_op, Prog.bind_ret, Prog.pure_eq_ret, Prog.bind_assoc, wp_deviceId]
  iintro ⟨#HR, Wrb33, Ow, L13, Out, Wss0⟩ Hk
  iapply (wt_rb3 m K (gk c 3) (off113_eq c) (pos := 27) (by decide)) $$ [Wrb33 Ow]
  · isplitr; · iexact HR
    isplitl [Wrb33]; · iexact Wrb33
    iexact Ow
  iintro ⟨R13, Erb33, Ow⟩
  iapply (ld_l1 (gk c 3) (off126_eq c)) $$ L13
  iintro L13
  iapply (stBl m 3 (off127_eq c) (p := 30) (p' := 31) rfl) $$ Out
  iintro Out
  iapply (ld_r1 (gk c 3) (off126_eq c)) $$ R13
  iintro R13
  iapply (stBr m 3 (off128_eq c) (p := 31) (p' := 32) rfl) $$ Out
  iintro Out
  iapply (wt_ss m K 0 rfl (pos := 27) (by decide)) $$ [Wss0 Ow]
  · isplitr; · iexact HR
    isplitl [Wss0]; · iexact Wss0
    iexact Ow
  iintro ⟨X0, Ess0, Ow⟩
  iapply Hk
  isplitl [Erb33]; · iexact Erb33
  isplitl [L13]; · iexact L13
  isplitl [R13]; · iexact R13
  isplitl [Out]; · iexact Out
  isplitl [X0]; · iexact X0
  isplitl [Ess0]; · iexact Ess0
  iexact Ow

/-- Part 27 of the body: what it takes and what it leaves. -/
theorem part27 {c : Dev nD} {h0 h1 h2 h3 h5 h6 h11 h12 h13 h14}
    {α : Type} {Q : α → sProp 𝕄} {kk : (PUnit) → Prog (TpuEff nD τ sig (Elt F) Λ₀ .tc) α} :
    iprop(records m K ∗ Wt c (.ss 1) ∗ Ow (F := F) c 27 ∗ Wt c (.ss 2) ∗ Wt c (.sa 0) ∗ Wt c (.sa 1) ∗ Wt c (.sa 2) ∗ Wt c (.sb 0 (gk c 0)))
      ⊢ iprop(((xAt c (segA (pk c 1)) fullShare (XV m c) ∗ Dn (F := F) c (.ss 1) ∗ xAt c (segA (pk c 2)) fullShare (XV m c) ∗ Dn (F := F) c (.ss 2) ∗ aAt c (segA (zOf c)) (qZ 0) (accV m c) ∗ Dn (F := F) c (.sa 0) ∗ aAt c (segA (zOf c)) (qZ 1) (accV m c) ∗ Dn (F := F) c (.sa 1) ∗ aAt c (segA (zOf c)) (qZ 2) (accV m c) ∗ Dn (F := F) c (.sa 2) ∗ aAt c (segA (gk c 0)) qR (accV m c) ∗ Dn (F := F) c (.sb 0 (gk c 0)) ∗ Ow (F := F) c 27) -∗ wpc c (kk ⟨⟩) Q)
          -∗ wpc c (k0_part27 (F := F) (Memref.whole cc0_stg0_0) h0 (Memref.whole main_arg1) h1 (Memref.whole cc0_stg1_0) h2 (Memref.whole cc0_scratch0) h3 cc0_scratch1 (Memref.whole cc0_scratch2) h5 (Memref.whole cc0_scratch3) h6 cc0_scratch4 cc0_scratch5 cc0_scratch6 cc0_scratch7 (Memref.whole cc0_scratch8) h11 (Memref.whole cc0_scratch9) h12 (Memref.whole cc0_scratch10) h13 (Memref.whole cc0_scratch11) h14 cc0_scratch12 cc0_scratch13 cc0_scoped0 c >>= kk) Q) := by
  rw [k0_part27_eq_skeleton]
  unfold k0_part27_skel
  simp only [semSignalWord, semWaitWord, Prog.lift, Prog.bind_op, Prog.bind_ret, Prog.pure_eq_ret, Prog.bind_assoc, wp_deviceId]
  iintro ⟨#HR, Wss1, Ow, Wss2, Wsa0, Wsa1, Wsa2, Wsb00⟩ Hk
  iapply (wt_ss m K 1 rfl (pos := 27) (by decide)) $$ [Wss1 Ow]
  · isplitr; · iexact HR
    isplitl [Wss1]; · iexact Wss1
    iexact Ow
  iintro ⟨X1, Ess1, Ow⟩
  iapply (wt_ss m K 2 rfl (pos := 27) (by decide)) $$ [Wss2 Ow]
  · isplitr; · iexact HR
    isplitl [Wss2]; · iexact Wss2
    iexact Ow
  iintro ⟨X2, Ess2, Ow⟩
  iapply (wt_sa m K 0 rfl (pos := 27) (by decide)) $$ [Wsa0 Ow]
  · isplitr; · iexact HR
    isplitl [Wsa0]; · iexact Wsa0
    iexact Ow
  iintro ⟨AZ0, Esa0, Ow⟩
  iapply (wt_sa m K 1 rfl (pos := 27) (by decide)) $$ [Wsa1 Ow]
  · isplitr; · iexact HR
    isplitl [Wsa1]; · iexact Wsa1
    iexact Ow
  iintro ⟨AZ1, Esa1, Ow⟩
  iapply (wt_sa m K 2 rfl (pos := 27) (by decide)) $$ [Wsa2 Ow]
  · isplitr; · iexact HR
    isplitl [Wsa2]; · iexact Wsa2
    iexact Ow
  iintro ⟨AZ2, Esa2, Ow⟩
  iapply (wt_sb0 m K (gk c 0) (off71_eq c) (pos := 27) (by decide)) $$ [Wsb00 Ow]
  · isplitr; · iexact HR
    isplitl [Wsb00]; · iexact Wsb00
    iexact Ow
  iintro ⟨AR0, Esb00, Ow⟩
  iapply Hk
  isplitl [X1]; · iexact X1
  isplitl [Ess1]; · iexact Ess1
  isplitl [X2]; · iexact X2
  isplitl [Ess2]; · iexact Ess2
  isplitl [AZ0]; · iexact AZ0
  isplitl [Esa0]; · iexact Esa0
  isplitl [AZ1]; · iexact AZ1
  isplitl [Esa1]; · iexact Esa1
  isplitl [AZ2]; · iexact AZ2
  isplitl [Esa2]; · iexact Esa2
  isplitl [AR0]; · iexact AR0
  isplitl [Esb00]; · iexact Esb00
  iexact Ow

/-- Part 28 of the body: what it takes and what it leaves. -/
theorem part28 {c : Dev nD} {h0 h1 h2 h3 h5 h6 h11 h12 h13 h14}
    {α : Type} {Q : α → sProp 𝕄} {kk : (PUnit) → Prog (TpuEff nD τ sig (Elt F) Λ₀ .tc) α} :
    iprop(records m K ∗ Wt c (.sb 1 (gk c 0)) ∗ Ow (F := F) c 27 ∗ Wt c (.sb 0 (gk c 1)) ∗ Wt c (.sb 1 (gk c 1)) ∗ Wt c (.sb 0 (gk c 2)) ∗ Wt c (.sb 1 (gk c 2)) ∗ Wt c (.sb 0 (gk c 3)))
      ⊢ iprop(((aAt c (segA (gk c 0)) qL (accV m c) ∗ Dn (F := F) c (.sb 1 (gk c 0)) ∗ aAt c (segA (gk c 1)) qR (accV m c) ∗ Dn (F := F) c (.sb 0 (gk c 1)) ∗ aAt c (segA (gk c 1)) qL (accV m c) ∗ Dn (F := F) c (.sb 1 (gk c 1)) ∗ aAt c (segA (gk c 2)) qR (accV m c) ∗ Dn (F := F) c (.sb 0 (gk c 2)) ∗ aAt c (segA (gk c 2)) qL (accV m c) ∗ Dn (F := F) c (.sb 1 (gk c 2)) ∗ aAt c (segA (gk c 3)) qR (accV m c) ∗ Dn (F := F) c (.sb 0 (gk c 3)) ∗ Ow (F := F) c 27) -∗ wpc c (kk ⟨⟩) Q)
          -∗ wpc c (k0_part28 (F := F) (Memref.whole cc0_stg0_0) h0 (Memref.whole main_arg1) h1 (Memref.whole cc0_stg1_0) h2 (Memref.whole cc0_scratch0) h3 cc0_scratch1 (Memref.whole cc0_scratch2) h5 (Memref.whole cc0_scratch3) h6 cc0_scratch4 cc0_scratch5 cc0_scratch6 cc0_scratch7 (Memref.whole cc0_scratch8) h11 (Memref.whole cc0_scratch9) h12 (Memref.whole cc0_scratch10) h13 (Memref.whole cc0_scratch11) h14 cc0_scratch12 cc0_scratch13 cc0_scoped0 c >>= kk) Q) := by
  rw [k0_part28_eq_skeleton]
  unfold k0_part28_skel
  simp only [semSignalWord, semWaitWord, Prog.lift, Prog.bind_op, Prog.bind_ret, Prog.pure_eq_ret, Prog.bind_assoc, wp_deviceId]
  iintro ⟨#HR, Wsb10, Ow, Wsb01, Wsb11, Wsb02, Wsb12, Wsb03⟩ Hk
  iapply (wt_sb1 m K (gk c 0) (off72_eq c) (pos := 27) (by decide)) $$ [Wsb10 Ow]
  · isplitr; · iexact HR
    isplitl [Wsb10]; · iexact Wsb10
    iexact Ow
  iintro ⟨AL0, Esb10, Ow⟩
  iapply (wt_sb0 m K (gk c 1) (off75_eq c) (pos := 27) (by decide)) $$ [Wsb01 Ow]
  · isplitr; · iexact HR
    isplitl [Wsb01]; · iexact Wsb01
    iexact Ow
  iintro ⟨AR1, Esb01, Ow⟩
  iapply (wt_sb1 m K (gk c 1) (off76_eq c) (pos := 27) (by decide)) $$ [Wsb11 Ow]
  · isplitr; · iexact HR
    isplitl [Wsb11]; · iexact Wsb11
    iexact Ow
  iintro ⟨AL1, Esb11, Ow⟩
  iapply (wt_sb0 m K (gk c 2) (off80_eq c) (pos := 27) (by decide)) $$ [Wsb02 Ow]
  · isplitr; · iexact HR
    isplitl [Wsb02]; · iexact Wsb02
    iexact Ow
  iintro ⟨AR2, Esb02, Ow⟩
  iapply (wt_sb1 m K (gk c 2) (off81_eq c) (pos := 27) (by decide)) $$ [Wsb12 Ow]
  · isplitr; · iexact HR
    isplitl [Wsb12]; · iexact Wsb12
    iexact Ow
  iintro ⟨AL2, Esb12, Ow⟩
  iapply (wt_sb0 m K (gk c 3) (off85_eq c) (pos := 27) (by decide)) $$ [Wsb03 Ow]
  · isplitr; · iexact HR
    isplitl [Wsb03]; · iexact Wsb03
    iexact Ow
  iintro ⟨AR3, Esb03, Ow⟩
  iapply Hk
  isplitl [AL0]; · iexact AL0
  isplitl [Esb10]; · iexact Esb10
  isplitl [AR1]; · iexact AR1
  isplitl [Esb01]; · iexact Esb01
  isplitl [AL1]; · iexact AL1
  isplitl [Esb11]; · iexact Esb11
  isplitl [AR2]; · iexact AR2
  isplitl [Esb02]; · iexact Esb02
  isplitl [AL2]; · iexact AL2
  isplitl [Esb12]; · iexact Esb12
  isplitl [AR3]; · iexact AR3
  isplitl [Esb03]; · iexact Esb03
  iexact Ow

/-- Part 29 of the body: what it takes and what it leaves. -/
theorem part29 {c : Dev nD} {h0 h1 h2 h3 h5 h6 h11 h12 h13 h14}
    {α : Type} {Q : α → sProp 𝕄} {kk : (PUnit) → Prog (TpuEff nD τ sig (Elt F) Λ₀ .tc) α} :
    iprop(records m K ∗ Wt c (.sb 1 (gk c 3)) ∗ Ow (F := F) c 27 ∗ Wt c (.sb 2 (gk c 0)) ∗ Wt c (.sb 3 (gk c 0)) ∗ Wt c (.sb 2 (gk c 1)) ∗ Wt c (.sb 3 (gk c 1)) ∗ Wt c (.sb 2 (gk c 2)))
      ⊢ iprop(((aAt c (segA (gk c 3)) qL (accV m c) ∗ Dn (F := F) c (.sb 1 (gk c 3)) ∗ l0At c (halfA (gk c 0) 0) fullShare.left (accV m (lf c)) ∗ Dn (F := F) c (.sb 2 (gk c 0)) ∗ r0At c (halfA (gk c 0) 1) fullShare.left (accV m (rt c)) ∗ Dn (F := F) c (.sb 3 (gk c 0)) ∗ l0At c (halfA (gk c 1) 0) fullShare.left (accV m (lf c)) ∗ Dn (F := F) c (.sb 2 (gk c 1)) ∗ r0At c (halfA (gk c 1) 1) fullShare.left (accV m (rt c)) ∗ Dn (F := F) c (.sb 3 (gk c 1)) ∗ l0At c (halfA (gk c 2) 0) fullShare.left (accV m (lf c)) ∗ Dn (F := F) c (.sb 2 (gk c 2)) ∗ Ow (F := F) c 27) -∗ wpc c (kk ⟨⟩) Q)
          -∗ wpc c (k0_part29 (F := F) (Memref.whole cc0_stg0_0) h0 (Memref.whole main_arg1) h1 (Memref.whole cc0_stg1_0) h2 (Memref.whole cc0_scratch0) h3 cc0_scratch1 (Memref.whole cc0_scratch2) h5 (Memref.whole cc0_scratch3) h6 cc0_scratch4 cc0_scratch5 cc0_scratch6 cc0_scratch7 (Memref.whole cc0_scratch8) h11 (Memref.whole cc0_scratch9) h12 (Memref.whole cc0_scratch10) h13 (Memref.whole cc0_scratch11) h14 cc0_scratch12 cc0_scratch13 cc0_scoped0 c >>= kk) Q) := by
  rw [k0_part29_eq_skeleton]
  unfold k0_part29_skel
  simp only [semSignalWord, semWaitWord, Prog.lift, Prog.bind_op, Prog.bind_ret, Prog.pure_eq_ret, Prog.bind_assoc, wp_deviceId]
  iintro ⟨#HR, Wsb13, Ow, Wsb20, Wsb30, Wsb21, Wsb31, Wsb22⟩ Hk
  iapply (wt_sb1 m K (gk c 3) (off86_eq c) (pos := 27) (by decide)) $$ [Wsb13 Ow]
  · isplitr; · iexact HR
    isplitl [Wsb13]; · iexact Wsb13
    iexact Ow
  iintro ⟨AL3, Esb13, Ow⟩
  iapply (wt_sb2 m K (gk c 0) (off89_eq c) (pos := 27) (by decide)) $$ [Wsb20 Ow]
  · isplitr; · iexact HR
    isplitl [Wsb20]; · iexact Wsb20
    iexact Ow
  iintro ⟨L00, Esb20, Ow⟩
  iapply (wt_sb3 m K (gk c 0) (off92_eq c) (pos := 27) (by decide)) $$ [Wsb30 Ow]
  · isplitr; · iexact HR
    isplitl [Wsb30]; · iexact Wsb30
    iexact Ow
  iintro ⟨R1h0, Esb30, Ow⟩
  iapply (wt_sb2 m K (gk c 1) (off96_eq c) (pos := 27) (by decide)) $$ [Wsb21 Ow]
  · isplitr; · iexact HR
    isplitl [Wsb21]; · iexact Wsb21
    iexact Ow
  iintro ⟨L01, Esb21, Ow⟩
  iapply (wt_sb3 m K (gk c 1) (off99_eq c) (pos := 27) (by decide)) $$ [Wsb31 Ow]
  · isplitr; · iexact HR
    isplitl [Wsb31]; · iexact Wsb31
    iexact Ow
  iintro ⟨R1h1, Esb31, Ow⟩
  iapply (wt_sb2 m K (gk c 2) (off103_eq c) (pos := 27) (by decide)) $$ [Wsb22 Ow]
  · isplitr; · iexact HR
    isplitl [Wsb22]; · iexact Wsb22
    iexact Ow
  iintro ⟨L02, Esb22, Ow⟩
  iapply Hk
  isplitl [AL3]; · iexact AL3
  isplitl [Esb13]; · iexact Esb13
  isplitl [L00]; · iexact L00
  isplitl [Esb20]; · iexact Esb20
  isplitl [R1h0]; · iexact R1h0
  isplitl [Esb30]; · iexact Esb30
  isplitl [L01]; · iexact L01
  isplitl [Esb21]; · iexact Esb21
  isplitl [R1h1]; · iexact R1h1
  isplitl [Esb31]; · iexact Esb31
  isplitl [L02]; · iexact L02
  isplitl [Esb22]; · iexact Esb22
  iexact Ow

/-- Part 30 of the body: what it takes and what it leaves. -/
theorem part30 {c : Dev nD} {h0 h1 h2 h3 h5 h6 h11 h12 h13 h14} {v2 : BitVec 32} {v5 : BitVec 32} {v81 : BitVec 32} {v83 : BitVec 32} {v85 : BitVec 32}
    {α : Type} {Q : α → sProp 𝕄} {kk : (BitVec 32) → Prog (TpuEff nD τ sig (Elt F) Λ₀ .tc) α} :
    iprop(records m K ∗ Wt c (.sb 3 (gk c 2)) ∗ Ow (F := F) c 27 ∗ Wt c (.sb 2 (gk c 3)) ∗ Wt c (.sb 3 (gk c 3)) ∗ dutyTok ER (kcell (tgt c 0, .ex)) 0 (rev 0) ∗ dutyTok ER (kcell (tgt c 1, .ex)) 0 (rev 1) ∗ dutyTok ER (kcell (tgt c 2, .ex)) 0 (rev 2))
      ⊢ iprop(((r0At c (halfA (gk c 2) 1) fullShare.left (accV m (rt c)) ∗ Dn (F := F) c (.sb 3 (gk c 2)) ∗ l0At c (halfA (gk c 3) 0) fullShare.left (accV m (lf c)) ∗ Dn (F := F) c (.sb 2 (gk c 3)) ∗ r0At c (halfA (gk c 3) 1) fullShare.left (accV m (rt c)) ∗ Dn (F := F) c (.sb 3 (gk c 3)) ∗ Ow (F := F) c 30) -∗ wpc c (kk 8#32) Q)
          -∗ wpc c (k0_part30 (F := F) (Memref.whole cc0_stg0_0) h0 (Memref.whole main_arg1) h1 (Memref.whole cc0_stg1_0) h2 (Memref.whole cc0_scratch0) h3 cc0_scratch1 (Memref.whole cc0_scratch2) h5 (Memref.whole cc0_scratch3) h6 cc0_scratch4 cc0_scratch5 cc0_scratch6 cc0_scratch7 (Memref.whole cc0_scratch8) h11 (Memref.whole cc0_scratch9) h12 (Memref.whole cc0_scratch10) h13 (Memref.whole cc0_scratch11) h14 cc0_scratch12 cc0_scratch13 cc0_scoped0 c v2 v5 v81 v83 v85 >>= kk) Q) := by
  rw [k0_part30_eq_skeleton]
  unfold k0_part30_skel
  simp only [semSignalWord, semWaitWord, Prog.lift, Prog.bind_op, Prog.bind_ret, Prog.pure_eq_ret, Prog.bind_assoc, wp_deviceId]
  iintro ⟨#HR, Wsb32, Ow, Wsb23, Wsb33, TE0, TE1, TE2⟩ Hk
  iapply (wt_sb3 m K (gk c 2) (off106_eq c) (pos := 27) (by decide)) $$ [Wsb32 Ow]
  · isplitr; · iexact HR
    isplitl [Wsb32]; · iexact Wsb32
    iexact Ow
  iintro ⟨R1h2, Esb32, Ow⟩
  iapply (wt_sb2 m K (gk c 3) (off110_eq c) (pos := 27) (by decide)) $$ [Wsb23 Ow]
  · isplitr; · iexact HR
    isplitl [Wsb23]; · iexact Wsb23
    iexact Ow
  iintro ⟨L03, Esb23, Ow⟩
  iapply (wt_sb3 m K (gk c 3) (off113_eq c) (pos := 27) (by decide)) $$ [Wsb33 Ow]
  · isplitr; · iexact HR
    isplitl [Wsb33]; · iexact Wsb33
    iexact Ow
  iintro ⟨R1h3, Esb33, Ow⟩
  iapply (sig_step m K 0 (dev28_eq c) (k := .ex) rfl rfl rfl (pos := 27) rfl) $$ [TE0 Ow]
  · isplitr; · iexact HR
    isplitl [TE0]; · iexact TE0
    isplitl []; · iapply (pay_ex m (tgt c 0) (rev 0)); iempintro
    iexact Ow
  iintro Ow
  iapply (sig_step m K 1 (dev29_eq c) (k := .ex) rfl rfl rfl (pos := 28) rfl) $$ [TE1 Ow]
  · isplitr; · iexact HR
    isplitl [TE1]; · iexact TE1
    isplitl []; · iapply (pay_ex m (tgt c 1) (rev 1)); iempintro
    iexact Ow
  iintro Ow
  iapply (sig_step m K 2 (dev30_eq c) (k := .ex) rfl rfl rfl (pos := 29) rfl) $$ [TE2 Ow]
  · isplitr; · iexact HR
    isplitl [TE2]; · iexact TE2
    isplitl []; · iapply (pay_ex m (tgt c 2) (rev 2)); iempintro
    iexact Ow
  iintro Ow
  iapply Hk
  isplitl [R1h2]; · iexact R1h2
  isplitl [Esb32]; · iexact Esb32
  isplitl [L03]; · iexact L03
  isplitl [Esb23]; · iexact Esb23
  isplitl [R1h3]; · iexact R1h3
  isplitl [Esb33]; · iexact Esb33
  iexact Ow

end Cert.EmbedProof
-- ==== Proof.Body.lean ====
/-
The whole body, once, on any device: its parts in order.
-/
module

public import proofs.«01_k».proof.Proof.Parts1
public import proofs.«01_k».proof.Proof.Parts2
public import proofs.«01_k».proof.Proof.Parts3

@[expose] public section

set_option maxRecDepth 8000

noncomputable section

namespace Cert.EmbedProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (K : Dev nD × CK → ℕ)

/-- What the body starts from: the scratch buffers, the right to hand out and to be handed, the tokens of every signal and copy, the turn at every wait. -/
def atStart (c : Dev nD) : sProp 𝕄 :=
  iprop((∃ f, xAt (F := F) c Finset.univ fullShare f) ∗ (∃ f, aAt (F := F) c (segA (zOf c)) fullShare f) ∗ hndZ (F := F) c (zp c 0) ∗ hndZ (F := F) c (zp c 1) ∗ hndZ (F := F) c (zp c 2) ∗ hndL (F := F) c ∗ hndR (F := F) c ∗ dutyTok ER (kcell (tgt c 0, .bar)) 0 (rev 0) ∗ dutyTok ER (kcell (tgt c 1, .bar)) 0 (rev 1) ∗ dutyTok ER (kcell (tgt c 2, .bar)) 0 (rev 2) ∗ dutyTok ER (kcell (tgt c 3, .bar)) 0 (rev 3) ∗ dutyTok ER (kcell (tgt c 4, .bar)) 0 (rev 4) ∗ dutyTok ER (kcell (tgt c 0, .ex)) 0 (rev 0) ∗ dutyTok ER (kcell (tgt c 1, .ex)) 0 (rev 1) ∗ dutyTok ER (kcell (tgt c 2, .ex)) 0 (rev 2) ∗ dutyTok ER (kcell (tgt c 3, .ex)) 0 (rev 3) ∗ dutyTok ER (kcell (tgt c 4, .ex)) 0 (rev 4) ∗ Wt c .bar ∗ Wt c .ex ∗ Wt c (.rs (zp c 0)) ∗ Wt c (.rs (zp c 1)) ∗ Wt c (.rs (zp c 2)) ∗ Wt c (.ag (gk c 1)) ∗ Wt c (.ag (gk c 2)) ∗ Wt c (.ag (gk c 3)) ∗ Wt c (.rb 0 (gk c 0)) ∗ Wt c (.rb 0 (gk c 1)) ∗ Wt c (.rb 0 (gk c 2)) ∗ Wt c (.rb 0 (gk c 3)) ∗ Wt c (.rb 1 (gk c 0)) ∗ Wt c (.rb 1 (gk c 1)) ∗ Wt c (.rb 1 (gk c 2)) ∗ Wt c (.rb 1 (gk c 3)) ∗ Wt c (.rb 2 (gk c 0)) ∗ Wt c (.rb 2 (gk c 1)) ∗ Wt c (.rb 2 (gk c 2)) ∗ Wt c (.rb 2 (gk c 3)) ∗ Wt c (.rb 3 (gk c 0)) ∗ Wt c (.rb 3 (gk c 1)) ∗ Wt c (.rb 3 (gk c 2)) ∗ Wt c (.rb 3 (gk c 3)) ∗ Snd c (.ss 0) (pd c 0) (.rs (zOf c)) ∗ Snd c (.ss 1) (pd c 1) (.rs (zOf c)) ∗ Snd c (.ss 2) (pd c 2) (.rs (zOf c)) ∗ Snd c (.sa 0) (pd c 0) (.ag (zOf c)) ∗ Snd c (.sa 1) (pd c 1) (.ag (zOf c)) ∗ Snd c (.sa 2) (pd c 2) (.ag (zOf c)) ∗ Snd c (.sb 0 (gk c 0)) (rt c) (.rb 0 (gk c 0)) ∗ Snd c (.sb 0 (gk c 1)) (rt c) (.rb 0 (gk c 1)) ∗ Snd c (.sb 0 (gk c 2)) (rt c) (.rb 0 (gk c 2)) ∗ Snd c (.sb 0 (gk c 3)) (rt c) (.rb 0 (gk c 3)) ∗ Snd c (.sb 1 (gk c 0)) (lf c) (.rb 1 (gk c 0)) ∗ Snd c (.sb 1 (gk c 1)) (lf c) (.rb 1 (gk c 1)) ∗ Snd c (.sb 1 (gk c 2)) (lf c) (.rb 1 (gk c 2)) ∗ Snd c (.sb 1 (gk c 3)) (lf c) (.rb 1 (gk c 3)) ∗ Snd c (.sb 2 (gk c 0)) (rt c) (.rb 2 (gk c 0)) ∗ Snd c (.sb 2 (gk c 1)) (rt c) (.rb 2 (gk c 1)) ∗ Snd c (.sb 2 (gk c 2)) (rt c) (.rb 2 (gk c 2)) ∗ Snd c (.sb 2 (gk c 3)) (rt c) (.rb 2 (gk c 3)) ∗ Snd c (.sb 3 (gk c 0)) (lf c) (.rb 3 (gk c 0)) ∗ Snd c (.sb 3 (gk c 1)) (lf c) (.rb 3 (gk c 1)) ∗ Snd c (.sb 3 (gk c 2)) (lf c) (.rb 3 (gk c 2)) ∗ Snd c (.sb 3 (gk c 3)) (lf c) (.rb 3 (gk c 3)) ∗ slotsFrom m c 0 ∗ idsAt m c ∗ Ow (F := F) c 0 ∗ Out m c 0)

/-- What the body ends with: every wait passed, every piece of every buffer back, the result stored. -/
def atEnd (c : Dev nD) : sProp 𝕄 :=
  iprop(Dn (F := F) c .bar ∗ slotsFrom m c 0 ∗ idsAt m c ∗ Dn (F := F) c (.rs (zp c 0)) ∗ Dn (F := F) c (.rs (zp c 1)) ∗ Dn (F := F) c (.rs (zp c 2)) ∗ xAt c (segA (zOf c)) fullShare (XV m c) ∗ rAt c (slotR (zp c 0)) fullShare (RsV m c) ∗ rAt c (slotR (zp c 1)) fullShare (RsV m c) ∗ rAt c (slotR (zp c 2)) fullShare (RsV m c) ∗ aAt c (segA (gk c 0)) fullShare.right.right.right (accV m c) ∗ Dn (F := F) c (.ag (gk c 1)) ∗ aAt c (segA (gk c 1)) fullShare.right (accV m c) ∗ Dn (F := F) c (.ag (gk c 2)) ∗ aAt c (segA (gk c 2)) fullShare.right (accV m c) ∗ Dn (F := F) c (.ag (gk c 3)) ∗ aAt c (segA (gk c 3)) fullShare.right (accV m c) ∗ l0At c (halfA (gk c 0) 1) fullShare.left (accV m (lf c)) ∗ Dn (F := F) c (.rb 0 (gk c 0)) ∗ r0At c (halfA (gk c 0) 0) fullShare.left (accV m (rt c)) ∗ Dn (F := F) c (.rb 1 (gk c 0)) ∗ l0At c (segA (gk c 0)) fullShare.right (accV m (lf c)) ∗ r0At c (segA (gk c 0)) fullShare.right (accV m (rt c)) ∗ l0At c (halfA (gk c 1) 1) fullShare.left (accV m (lf c)) ∗ Dn (F := F) c (.rb 0 (gk c 1)) ∗ r0At c (halfA (gk c 1) 0) fullShare.left (accV m (rt c)) ∗ Dn (F := F) c (.rb 1 (gk c 1)) ∗ l0At c (segA (gk c 1)) fullShare.right (accV m (lf c)) ∗ r0At c (segA (gk c 1)) fullShare.right (accV m (rt c)) ∗ l0At c (halfA (gk c 2) 1) fullShare.left (accV m (lf c)) ∗ Dn (F := F) c (.rb 0 (gk c 2)) ∗ r0At c (halfA (gk c 2) 0) fullShare.left (accV m (rt c)) ∗ Dn (F := F) c (.rb 1 (gk c 2)) ∗ l0At c (segA (gk c 2)) fullShare.right (accV m (lf c)) ∗ r0At c (segA (gk c 2)) fullShare.right (accV m (rt c)) ∗ l0At c (halfA (gk c 3) 1) fullShare.left (accV m (lf c)) ∗ Dn (F := F) c (.rb 0 (gk c 3)) ∗ r0At c (halfA (gk c 3) 0) fullShare.left (accV m (rt c)) ∗ Dn (F := F) c (.rb 1 (gk c 3)) ∗ l0At c (segA (gk c 3)) fullShare.right (accV m (lf c)) ∗ r0At c (segA (gk c 3)) fullShare.right (accV m (rt c)) ∗ Dn (F := F) c (.rb 2 (gk c 0)) ∗ Dn (F := F) c (.rb 3 (gk c 0)) ∗ l1At c (segB (gk c 0)) fullShare (blV m c) ∗ r1At c (segB (gk c 0)) fullShare (brV m c) ∗ Dn (F := F) c (.rb 2 (gk c 1)) ∗ Dn (F := F) c (.rb 3 (gk c 1)) ∗ l1At c (segB (gk c 1)) fullShare (blV m c) ∗ r1At c (segB (gk c 1)) fullShare (brV m c) ∗ Dn (F := F) c (.rb 2 (gk c 2)) ∗ Dn (F := F) c (.rb 3 (gk c 2)) ∗ l1At c (segB (gk c 2)) fullShare (blV m c) ∗ r1At c (segB (gk c 2)) fullShare (brV m c) ∗ Dn (F := F) c (.rb 2 (gk c 3)) ∗ Dn (F := F) c (.rb 3 (gk c 3)) ∗ l1At c (segB (gk c 3)) fullShare (blV m c) ∗ r1At c (segB (gk c 3)) fullShare (brV m c) ∗ Out m c 32 ∗ xAt c (segA (pk c 0)) fullShare (XV m c) ∗ Dn (F := F) c (.ss 0) ∗ xAt c (segA (pk c 1)) fullShare (XV m c) ∗ Dn (F := F) c (.ss 1) ∗ xAt c (segA (pk c 2)) fullShare (XV m c) ∗ Dn (F := F) c (.ss 2) ∗ aAt c (segA (zOf c)) (qZ 0) (accV m c) ∗ Dn (F := F) c (.sa 0) ∗ aAt c (segA (zOf c)) (qZ 1) (accV m c) ∗ Dn (F := F) c (.sa 1) ∗ aAt c (segA (zOf c)) (qZ 2) (accV m c) ∗ Dn (F := F) c (.sa 2) ∗ aAt c (segA (gk c 0)) qR (accV m c) ∗ Dn (F := F) c (.sb 0 (gk c 0)) ∗ aAt c (segA (gk c 0)) qL (accV m c) ∗ Dn (F := F) c (.sb 1 (gk c 0)) ∗ aAt c (segA (gk c 1)) qR (accV m c) ∗ Dn (F := F) c (.sb 0 (gk c 1)) ∗ aAt c (segA (gk c 1)) qL (accV m c) ∗ Dn (F := F) c (.sb 1 (gk c 1)) ∗ aAt c (segA (gk c 2)) qR (accV m c) ∗ Dn (F := F) c (.sb 0 (gk c 2)) ∗ aAt c (segA (gk c 2)) qL (accV m c) ∗ Dn (F := F) c (.sb 1 (gk c 2)) ∗ aAt c (segA (gk c 3)) qR (accV m c) ∗ Dn (F := F) c (.sb 0 (gk c 3)) ∗ aAt c (segA (gk c 3)) qL (accV m c) ∗ Dn (F := F) c (.sb 1 (gk c 3)) ∗ l0At c (halfA (gk c 0) 0) fullShare.left (accV m (lf c)) ∗ Dn (F := F) c (.sb 2 (gk c 0)) ∗ r0At c (halfA (gk c 0) 1) fullShare.left (accV m (rt c)) ∗ Dn (F := F) c (.sb 3 (gk c 0)) ∗ l0At c (halfA (gk c 1) 0) fullShare.left (accV m (lf c)) ∗ Dn (F := F) c (.sb 2 (gk c 1)) ∗ r0At c (halfA (gk c 1) 1) fullShare.left (accV m (rt c)) ∗ Dn (F := F) c (.sb 3 (gk c 1)) ∗ l0At c (halfA (gk c 2) 0) fullShare.left (accV m (lf c)) ∗ Dn (F := F) c (.sb 2 (gk c 2)) ∗ r0At c (halfA (gk c 2) 1) fullShare.left (accV m (rt c)) ∗ Dn (F := F) c (.sb 3 (gk c 2)) ∗ l0At c (halfA (gk c 3) 0) fullShare.left (accV m (lf c)) ∗ Dn (F := F) c (.sb 2 (gk c 3)) ∗ r0At c (halfA (gk c 3) 1) fullShare.left (accV m (rt c)) ∗ Dn (F := F) c (.sb 3 (gk c 3)) ∗ Dn (F := F) c .ex ∗ Ow (F := F) c 32)

/-- The body on device `c`. -/
theorem body_run {c : Dev nD} {h0 h1 h2 h3 h5 h6 h11 h12 h13 h14} :
    iprop(records m K ∗ atStart m c)
      ⊢ wpc c (cc0_body (F := F) (Memref.whole cc0_stg0_0) h0 (Memref.whole main_arg1) h1 (Memref.whole cc0_stg1_0) h2 (Memref.whole cc0_scratch0) h3 cc0_scratch1 (Memref.whole cc0_scratch2) h5 (Memref.whole cc0_scratch3) h6 cc0_scratch4 cc0_scratch5 cc0_scratch6 cc0_scratch7 (Memref.whole cc0_scratch8) h11 (Memref.whole cc0_scratch9) h12 (Memref.whole cc0_scratch10) h13 (Memref.whole cc0_scratch11) h14 cc0_scratch12 cc0_scratch13 cc0_scoped0) (fun _ => atEnd m c) := by
  rw [cc0_body_eq_skeleton]
  unfold cc0_body_skel atStart atEnd
  simp only [semSignalWord, semWaitWord, Prog.lift, Prog.bind_op, Prog.bind_ret, Prog.pure_eq_ret, Prog.bind_assoc, wp_deviceId]
  iintro ⟨#HR, Xu, A0, hZ0, hZ1, hZ2, hL, hR, TB0, TB1, TB2, TB3, TB4, TE0, TE1, TE2, TE3, TE4, Wbar, Wex, Wrs0, Wrs1, Wrs2, Wag1, Wag2, Wag3, Wrb00, Wrb01, Wrb02, Wrb03, Wrb10, Wrb11, Wrb12, Wrb13, Wrb20, Wrb21, Wrb22, Wrb23, Wrb30, Wrb31, Wrb32, Wrb33, Srs0, Srs1, Srs2, Sag0, Sag1, Sag2, Sb00, Sb01, Sb02, Sb03, Sb10, Sb11, Sb12, Sb13, Sb20, Sb21, Sb22, Sb23, Sb30, Sb31, Sb32, Sb33, Sl, Hi, Ow, Out⟩
  iapply part1
  iintro %w1_u1 %w1_u2 %w1_u3 %w1_u4 %w1_u5 %w1_u6 %w1_u7 %w1_u8 %w1_u9 %w1_u10
  iapply part2
  iintro %w2_u0 %w2_u1 %w2_u2 %w2_u3 %w2_u4
  iapply (part3 m K) $$ [Xu]
  · isplitr; · iexact HR
    iexact Xu
  iintro %w3_u0 %w3_u1 %w3_u2 %w3_u3 %w3_u4 %w3_u5 %w3_u6 %w3_u7 %w3_u8 %w3_u9 %w3_u11 ⟨X3, X0, X1, X2⟩
  iapply (part4 m K) $$ [TB0 hZ0 Ow TB1 hZ1 TB2 hZ2 TB3 hL TB4 hR]
  · isplitr; · iexact HR
    isplitl [TB0]; · iexact TB0
    isplitl [hZ0]; · iexact hZ0
    isplitl [Ow]; · iexact Ow
    isplitl [TB1]; · iexact TB1
    isplitl [hZ1]; · iexact hZ1
    isplitl [TB2]; · iexact TB2
    isplitl [hZ2]; · iexact hZ2
    isplitl [TB3]; · iexact TB3
    isplitl [hL]; · iexact hL
    isplitl [TB4]; · iexact TB4
    iexact hR
  iintro %w4_u0 Ow
  iapply (part5 m K) $$ [Sl X0 Hi Ow Wbar Srs0 X1]
  · isplitr; · iexact HR
    isplitl [Sl]; · iexact Sl
    isplitl [X0]; · iexact X0
    isplitl [Hi]; · iexact Hi
    isplitl [Ow]; · iexact Ow
    isplitl [Wbar]; · iexact Wbar
    isplitl [Srs0]; · iexact Srs0
    iexact X1
  iintro %w5_u0 ⟨Dag0, Drs1, Dag1, Drs2, Dag2, Db00, Db01, Db02, Db03, Db10, Db11, Db12, Db13, Db20, Db21, Db22, Db23, Db30, Db31, Db32, Db33, Dbar, Wss0, Sl, X1, Hi, Ow⟩
  iapply (part6 m K) $$ [Srs1 X1 Drs1 Ow Sl X2 Hi Srs2 Drs2 X3]
  · isplitr; · iexact HR
    isplitl [Srs1]; · iexact Srs1
    isplitl [X1]; · iexact X1
    isplitl [Drs1]; · iexact Drs1
    isplitl [Ow]; · iexact Ow
    isplitl [Sl]; · iexact Sl
    isplitl [X2]; · iexact X2
    isplitl [Hi]; · iexact Hi
    isplitl [Srs2]; · iexact Srs2
    isplitl [Drs2]; · iexact Drs2
    iexact X3
  iintro %w6_u0 ⟨Wss1, Wss2, Ge, Hi, Ow⟩
  iapply (part7 m K) $$ [Ge Hi Ow Wrs0 Wrs1]
  · isplitr; · iexact HR
    isplitl [Ge]; · iexact Ge
    isplitl [Hi]; · iexact Hi
    isplitl [Ow]; · iexact Ow
    isplitl [Wrs0]; · iexact Wrs0
    iexact Wrs1
  iintro ⟨Sl, X3, Hi, R0, Ers0, R1, Ers1, Ow⟩
  iapply (part8 m K) $$ [Wrs2 Ow X3 R0 R1 A0 Sag0 Dag0]
  · isplitr; · iexact HR
    isplitl [Wrs2]; · iexact Wrs2
    isplitl [Ow]; · iexact Ow
    isplitl [X3]; · iexact X3
    isplitl [R0]; · iexact R0
    isplitl [R1]; · iexact R1
    isplitl [A0]; · iexact A0
    isplitl [Sag0]; · iexact Sag0
    iexact Dag0
  iintro ⟨Ers2, X3, R0, R1, R2, AR0, AL0, AZ1, AZ2, AK0, Wsa0, Ow⟩
  iapply (part9 m K) $$ [Sag1 AZ1 Dag1 Ow Sag2 AZ2 Dag2]
  · isplitr; · iexact HR
    isplitl [Sag1]; · iexact Sag1
    isplitl [AZ1]; · iexact AZ1
    isplitl [Dag1]; · iexact Dag1
    isplitl [Ow]; · iexact Ow
    isplitl [Sag2]; · iexact Sag2
    isplitl [AZ2]; · iexact AZ2
    iexact Dag2
  iintro %w9_u0 ⟨Wsa1, Wsa2, Ow⟩
  iapply (part10 m K) $$ [Sb00 AR0 Db00 Ow Sb10 AL0 Db10 AK0 Out Wag1]
  · isplitr; · iexact HR
    isplitl [Sb00]; · iexact Sb00
    isplitl [AR0]; · iexact AR0
    isplitl [Db00]; · iexact Db00
    isplitl [Ow]; · iexact Ow
    isplitl [Sb10]; · iexact Sb10
    isplitl [AL0]; · iexact AL0
    isplitl [Db10]; · iexact Db10
    isplitl [AK0]; · iexact AK0
    isplitl [Out]; · iexact Out
    iexact Wag1
  iintro %w10_u0 %w10_u1 ⟨Wsb00, Wsb10, AK0, Out, AR1, AL1, AK1, Eag1, Ow⟩
  iapply (part11 m K) $$ [Sb01 AR1 Db01 Ow Sb11 AL1 Db11 AK1 Out]
  · isplitr; · iexact HR
    isplitl [Sb01]; · iexact Sb01
    isplitl [AR1]; · iexact AR1
    isplitl [Db01]; · iexact Db01
    isplitl [Ow]; · iexact Ow
    isplitl [Sb11]; · iexact Sb11
    isplitl [AL1]; · iexact AL1
    isplitl [Db11]; · iexact Db11
    isplitl [AK1]; · iexact AK1
    iexact Out
  iintro %w11_u0 %w11_u1 ⟨Wsb01, Wsb11, Ow, AK1, Out⟩
  iapply (part12 m K) $$ [Wag2 Ow Sb02 Db02 Sb12 Db12]
  · isplitr; · iexact HR
    isplitl [Wag2]; · iexact Wag2
    isplitl [Ow]; · iexact Ow
    isplitl [Sb02]; · iexact Sb02
    isplitl [Db02]; · iexact Db02
    isplitl [Sb12]; · iexact Sb12
    iexact Db12
  iintro %w12_u1 ⟨Eag2, Wsb02, Wsb12, Ow, AK2⟩
  iapply (part13 m K) $$ [Out Wag3 Ow Sb03 Db03]
  · isplitr; · iexact HR
    isplitl [Out]; · iexact Out
    isplitl [Wag3]; · iexact Wag3
    isplitl [Ow]; · iexact Ow
    isplitl [Sb03]; · iexact Sb03
    iexact Db03
  iintro %w13_u0 ⟨Out, AL3, AK3, Eag3, Wsb03, Ow⟩
  iapply (part14 m K) $$ [Sb13 AL3 Db13 Ow AK3 Out Wrb00]
  · isplitr; · iexact HR
    isplitl [Sb13]; · iexact Sb13
    isplitl [AL3]; · iexact AL3
    isplitl [Db13]; · iexact Db13
    isplitl [Ow]; · iexact Ow
    isplitl [AK3]; · iexact AK3
    isplitl [Out]; · iexact Out
    iexact Wrb00
  iintro ⟨Wsb13, AK3, Out, LK0, L00, L0h0, Erb00, Ow⟩
  iapply (part15 m K) $$ [Sb20 L00 Db20 Ow Wrb10 Sb30 Db30 LK0]
  · isplitr; · iexact HR
    isplitl [Sb20]; · iexact Sb20
    isplitl [L00]; · iexact L00
    isplitl [Db20]; · iexact Db20
    isplitl [Ow]; · iexact Ow
    isplitl [Wrb10]; · iexact Wrb10
    isplitl [Sb30]; · iexact Sb30
    isplitl [Db30]; · iexact Db30
    iexact LK0
  iintro ⟨Wsb20, RK0, R0h0, Erb10, Wsb30, Ow, LK0⟩
  iapply (part16 m K) $$ [Out RK0 Wrb01 Ow Sb21 Db21]
  · isplitr; · iexact HR
    isplitl [Out]; · iexact Out
    isplitl [RK0]; · iexact RK0
    isplitl [Wrb01]; · iexact Wrb01
    isplitl [Ow]; · iexact Ow
    isplitl [Sb21]; · iexact Sb21
    iexact Db21
  iintro ⟨RK0, Out, LK1, L0h1, Erb01, Wsb21, Ow⟩
  iapply (part17 m K) $$ [Wrb11 Ow Sb31 Db31 LK1 Out]
  · isplitr; · iexact HR
    isplitl [Wrb11]; · iexact Wrb11
    isplitl [Ow]; · iexact Ow
    isplitl [Sb31]; · iexact Sb31
    isplitl [Db31]; · iexact Db31
    isplitl [LK1]; · iexact LK1
    iexact Out
  iintro ⟨RK1, R0h1, Erb11, Wsb31, Ow, LK1, Out⟩
  iapply (part18 m K) $$ [RK1 Out Wrb02 Ow Sb22 Db22]
  · isplitr; · iexact HR
    isplitl [RK1]; · iexact RK1
    isplitl [Out]; · iexact Out
    isplitl [Wrb02]; · iexact Wrb02
    isplitl [Ow]; · iexact Ow
    isplitl [Sb22]; · iexact Sb22
    iexact Db22
  iintro ⟨RK1, Out, LK2, L0h2, Erb02, Wsb22, Ow⟩
  iapply (part19 m K) $$ [Wrb12 Ow Sb32 Db32 LK2 Out]
  · isplitr; · iexact HR
    isplitl [Wrb12]; · iexact Wrb12
    isplitl [Ow]; · iexact Ow
    isplitl [Sb32]; · iexact Sb32
    isplitl [Db32]; · iexact Db32
    isplitl [LK2]; · iexact LK2
    iexact Out
  iintro %w19_u0 ⟨RK2, R0h2, Erb12, Wsb32, Ow, LK2, Out⟩
  iapply (part20 m K) $$ [RK2 Out Wrb03 Ow Sb23 Db23]
  · isplitr; · iexact HR
    isplitl [RK2]; · iexact RK2
    isplitl [Out]; · iexact Out
    isplitl [Wrb03]; · iexact Wrb03
    isplitl [Ow]; · iexact Ow
    isplitl [Sb23]; · iexact Sb23
    iexact Db23
  iintro %w20_u0 ⟨RK2, Out, LK3, L0h3, Erb03, Wsb23, Ow⟩
  iapply (part21 m K) $$ [Wrb13 Ow Sb33 Db33 LK3 Out]
  · isplitr; · iexact HR
    isplitl [Wrb13]; · iexact Wrb13
    isplitl [Ow]; · iexact Ow
    isplitl [Sb33]; · iexact Sb33
    isplitl [Db33]; · iexact Db33
    isplitl [LK3]; · iexact LK3
    iexact Out
  iintro ⟨RK3, R0h3, Erb13, Wsb33, Ow, LK3, Out⟩
  iapply (part22 m K) $$ [RK3 Out Wrb20 Ow Wrb30]
  · isplitr; · iexact HR
    isplitl [RK3]; · iexact RK3
    isplitl [Out]; · iexact Out
    isplitl [Wrb20]; · iexact Wrb20
    isplitl [Ow]; · iexact Ow
    iexact Wrb30
  iintro ⟨RK3, Out, Erb20, R10, Erb30, Ow, L10⟩
  iapply (part23 m K) $$ [Out R10 Wrb21 Ow Wrb31]
  · isplitr; · iexact HR
    isplitl [Out]; · iexact Out
    isplitl [R10]; · iexact R10
    isplitl [Wrb21]; · iexact Wrb21
    isplitl [Ow]; · iexact Ow
    iexact Wrb31
  iintro ⟨R10, Out, L11, Erb21, R11, Erb31, Ow⟩
  iapply (part24 m K) $$ [L11 Out R11 Wrb22 Ow]
  · isplitr; · iexact HR
    isplitl [L11]; · iexact L11
    isplitl [Out]; · iexact Out
    isplitl [R11]; · iexact R11
    isplitl [Wrb22]; · iexact Wrb22
    iexact Ow
  iintro ⟨L11, R11, Out, L12, Erb22, Ow⟩
  iapply (part25 m K) $$ [Wrb32 Ow L12 Out Wrb23]
  · isplitr; · iexact HR
    isplitl [Wrb32]; · iexact Wrb32
    isplitl [Ow]; · iexact Ow
    isplitl [L12]; · iexact L12
    isplitl [Out]; · iexact Out
    iexact Wrb23
  iintro %w25_u0 ⟨Erb32, L12, R12, Out, L13, Erb23, Ow⟩
  iapply (part26 m K) $$ [Wrb33 Ow L13 Out Wss0]
  · isplitr; · iexact HR
    isplitl [Wrb33]; · iexact Wrb33
    isplitl [Ow]; · iexact Ow
    isplitl [L13]; · iexact L13
    isplitl [Out]; · iexact Out
    iexact Wss0
  iintro ⟨Erb33, L13, R13, Out, X0, Ess0, Ow⟩
  iapply (part27 m K) $$ [Wss1 Ow Wss2 Wsa0 Wsa1 Wsa2 Wsb00]
  · isplitr; · iexact HR
    isplitl [Wss1]; · iexact Wss1
    isplitl [Ow]; · iexact Ow
    isplitl [Wss2]; · iexact Wss2
    isplitl [Wsa0]; · iexact Wsa0
    isplitl [Wsa1]; · iexact Wsa1
    isplitl [Wsa2]; · iexact Wsa2
    iexact Wsb00
  iintro ⟨X1, Ess1, X2, Ess2, AZ0, Esa0, AZ1, Esa1, AZ2, Esa2, AR0, Esb00, Ow⟩
  iapply (part28 m K) $$ [Wsb10 Ow Wsb01 Wsb11 Wsb02 Wsb12 Wsb03]
  · isplitr; · iexact HR
    isplitl [Wsb10]; · iexact Wsb10
    isplitl [Ow]; · iexact Ow
    isplitl [Wsb01]; · iexact Wsb01
    isplitl [Wsb11]; · iexact Wsb11
    isplitl [Wsb02]; · iexact Wsb02
    isplitl [Wsb12]; · iexact Wsb12
    iexact Wsb03
  iintro ⟨AL0, Esb10, AR1, Esb01, AL1, Esb11, AR2, Esb02, AL2, Esb12, AR3, Esb03, Ow⟩
  iapply (part29 m K) $$ [Wsb13 Ow Wsb20 Wsb30 Wsb21 Wsb31 Wsb22]
  · isplitr; · iexact HR
    isplitl [Wsb13]; · iexact Wsb13
    isplitl [Ow]; · iexact Ow
    isplitl [Wsb20]; · iexact Wsb20
    isplitl [Wsb30]; · iexact Wsb30
    isplitl [Wsb21]; · iexact Wsb21
    isplitl [Wsb31]; · iexact Wsb31
    iexact Wsb22
  iintro ⟨AL3, Esb13, L00, Esb20, R1h0, Esb30, L01, Esb21, R1h1, Esb31, L02, Esb22, Ow⟩
  iapply (part30 m K) $$ [Wsb32 Ow Wsb23 Wsb33 TE0 TE1 TE2]
  · isplitr; · iexact HR
    isplitl [Wsb32]; · iexact Wsb32
    isplitl [Ow]; · iexact Ow
    isplitl [Wsb23]; · iexact Wsb23
    isplitl [Wsb33]; · iexact Wsb33
    isplitl [TE0]; · iexact TE0
    isplitl [TE1]; · iexact TE1
    iexact TE2
  iintro ⟨R1h2, Esb32, L03, Esb23, R1h3, Esb33, Ow⟩
  iapply (sig_step m K 3 (dev31_eq c) (k := .ex) rfl rfl rfl (pos := 30) rfl) $$ [TE3 Ow]
  · isplitr; · iexact HR
    isplitl [TE3]; · iexact TE3
    isplitl []; · iapply (pay_ex m (tgt c 3) (rev 3)); iempintro
    iexact Ow
  iintro Ow
  iapply (sig_step m K 4 (dev32_eq c) (k := .ex) rfl rfl rfl (pos := 31) rfl) $$ [TE4 Ow]
  · isplitr; · iexact HR
    isplitl [TE4]; · iexact TE4
    isplitl []; · iapply (pay_ex m (tgt c 4) (rev 4)); iempintro
    iexact Ow
  iintro Ow
  iapply (ex_step m K rfl rfl (pos := 32) (by decide)) $$ [Wex Ow]
  · isplitr; · iexact HR
    isplitl [Wex]; · iexact Wex
    iexact Ow
  iintro ⟨Dex, Ow⟩
  iapply ret_step
  isplitl [Dbar]; · iexact Dbar
  isplitl [Sl]; · iexact Sl
  isplitl [Hi]; · iexact Hi
  isplitl [Ers0]; · iexact Ers0
  isplitl [Ers1]; · iexact Ers1
  isplitl [Ers2]; · iexact Ers2
  isplitl [X3]; · iexact X3
  isplitl [R0]; · iexact R0
  isplitl [R1]; · iexact R1
  isplitl [R2]; · iexact R2
  isplitl [AK0]; · iexact AK0
  isplitl [Eag1]; · iexact Eag1
  isplitl [AK1]; · iexact AK1
  isplitl [Eag2]; · iexact Eag2
  isplitl [AK2]; · iexact AK2
  isplitl [Eag3]; · iexact Eag3
  isplitl [AK3]; · iexact AK3
  isplitl [L0h0]; · iexact L0h0
  isplitl [Erb00]; · iexact Erb00
  isplitl [R0h0]; · iexact R0h0
  isplitl [Erb10]; · iexact Erb10
  isplitl [LK0]; · iexact LK0
  isplitl [RK0]; · iexact RK0
  isplitl [L0h1]; · iexact L0h1
  isplitl [Erb01]; · iexact Erb01
  isplitl [R0h1]; · iexact R0h1
  isplitl [Erb11]; · iexact Erb11
  isplitl [LK1]; · iexact LK1
  isplitl [RK1]; · iexact RK1
  isplitl [L0h2]; · iexact L0h2
  isplitl [Erb02]; · iexact Erb02
  isplitl [R0h2]; · iexact R0h2
  isplitl [Erb12]; · iexact Erb12
  isplitl [LK2]; · iexact LK2
  isplitl [RK2]; · iexact RK2
  isplitl [L0h3]; · iexact L0h3
  isplitl [Erb03]; · iexact Erb03
  isplitl [R0h3]; · iexact R0h3
  isplitl [Erb13]; · iexact Erb13
  isplitl [LK3]; · iexact LK3
  isplitl [RK3]; · iexact RK3
  isplitl [Erb20]; · iexact Erb20
  isplitl [Erb30]; · iexact Erb30
  isplitl [L10]; · iexact L10
  isplitl [R10]; · iexact R10
  isplitl [Erb21]; · iexact Erb21
  isplitl [Erb31]; · iexact Erb31
  isplitl [L11]; · iexact L11
  isplitl [R11]; · iexact R11
  isplitl [Erb22]; · iexact Erb22
  isplitl [Erb32]; · iexact Erb32
  isplitl [L12]; · iexact L12
  isplitl [R12]; · iexact R12
  isplitl [Erb23]; · iexact Erb23
  isplitl [Erb33]; · iexact Erb33
  isplitl [L13]; · iexact L13
  isplitl [R13]; · iexact R13
  isplitl [Out]; · iexact Out
  isplitl [X0]; · iexact X0
  isplitl [Ess0]; · iexact Ess0
  isplitl [X1]; · iexact X1
  isplitl [Ess1]; · iexact Ess1
  isplitl [X2]; · iexact X2
  isplitl [Ess2]; · iexact Ess2
  isplitl [AZ0]; · iexact AZ0
  isplitl [Esa0]; · iexact Esa0
  isplitl [AZ1]; · iexact AZ1
  isplitl [Esa1]; · iexact Esa1
  isplitl [AZ2]; · iexact AZ2
  isplitl [Esa2]; · iexact Esa2
  isplitl [AR0]; · iexact AR0
  isplitl [Esb00]; · iexact Esb00
  isplitl [AL0]; · iexact AL0
  isplitl [Esb10]; · iexact Esb10
  isplitl [AR1]; · iexact AR1
  isplitl [Esb01]; · iexact Esb01
  isplitl [AL1]; · iexact AL1
  isplitl [Esb11]; · iexact Esb11
  isplitl [AR2]; · iexact AR2
  isplitl [Esb02]; · iexact Esb02
  isplitl [AL2]; · iexact AL2
  isplitl [Esb12]; · iexact Esb12
  isplitl [AR3]; · iexact AR3
  isplitl [Esb03]; · iexact Esb03
  isplitl [AL3]; · iexact AL3
  isplitl [Esb13]; · iexact Esb13
  isplitl [L00]; · iexact L00
  isplitl [Esb20]; · iexact Esb20
  isplitl [R1h0]; · iexact R1h0
  isplitl [Esb30]; · iexact Esb30
  isplitl [L01]; · iexact L01
  isplitl [Esb21]; · iexact Esb21
  isplitl [R1h1]; · iexact R1h1
  isplitl [Esb31]; · iexact Esb31
  isplitl [L02]; · iexact L02
  isplitl [Esb22]; · iexact Esb22
  isplitl [R1h2]; · iexact R1h2
  isplitl [Esb32]; · iexact Esb32
  isplitl [L03]; · iexact L03
  isplitl [Esb23]; · iexact Esb23
  isplitl [R1h3]; · iexact R1h3
  isplitl [Esb33]; · iexact Esb33
  isplitl [Dex]; · iexact Dex
  iexact Ow

end Cert.EmbedProof
-- ==== Proof.Deal.lean ====
/-
Who pays whom, over the whole mesh: the payments a device makes and the ones its own cells receive are the same
payments, reindexed. The duty tokens and the launch credit are dealt along this.
-/
module

public import proofs.«01_k».proof.Proof.Steps

@[expose] public section

set_option maxRecDepth 8000

noncomputable section

namespace Cert.EmbedProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL cred_tallyL tallyL_pos)

variable {F : FTy → Type} [FloatOps F]

local notation "𝕄" => MT nD τ sig ℕ (Elt F) ℕ UU ℕ

/-! ## The payments -/

/-- A device's payments to other devices: five entry signals, five exit signals, three reduce-scatter copies, three
    all-gather copies, sixteen copies around the ring; -/
abbrev RJ : Type := Fin 5 ⊕ (Fin 5 ⊕ (Fin 3 ⊕ (Fin 3 ⊕ (Fin 4 × Fin 4))))
/-- and to its own departure cells. -/
abbrev OJ : Type := Fin 3 ⊕ (Fin 3 ⊕ (Fin 4 × Fin 4))

/-- The cell and the duty that device `d`'s payment `j` pays. -/
def payR (d : Dev nD) : RJ → (Dev nD × CK) × Fin 5
  | .inl j => ((tgt d j, .bar), rev j)
  | .inr (.inl j) => ((tgt d j, .ex), rev j)
  | .inr (.inr (.inl k)) => ((pd d k, .rs (zOf d)), 0)
  | .inr (.inr (.inr (.inl k))) => ((pd d k, .ag (zOf d)), 0)
  | .inr (.inr (.inr (.inr (i, n)))) => ((if i.val % 2 = 0 then rt d else lf d, .rb i (gk d n)), 0)
/-- The cell and the duty of the `j`-th payment that device `c` receives. -/
def recR (c : Dev nD) : RJ → (Dev nD × CK) × Fin 5
  | .inl j => ((c, .bar), j)
  | .inr (.inl j) => ((c, .ex), j)
  | .inr (.inr (.inl k)) => ((c, .rs (zp c k)), 0)
  | .inr (.inr (.inr (.inl k))) => ((c, .ag (gk c k.succ)), 0)
  | .inr (.inr (.inr (.inr (i, n)))) => ((c, .rb i (gk c n)), 0)
/-- The same of its departure cells. -/
def ownR (c : Dev nD) : OJ → (Dev nD × CK) × Fin 5
  | .inl k => ((c, .ss k), 0)
  | .inr (.inl k) => ((c, .sa k), 0)
  | .inr (.inr (i, n)) => ((c, .sb i (gk c n)), 0)
/-- All the payments whose cells are device `c`'s. -/
def mineR (c : Dev nD) : RJ ⊕ OJ → (Dev nD × CK) × Fin 5
  | .inl j => recR c j
  | .inr j => ownR c j

/-- Which of the peers, in each of the three orders, has `z` equal to `g`. -/
def zIx (c : Dev nD) (g : Fin 4) : Fin 3 := if zp c 0 = g then 0 else if zp c 1 = g then 1 else 2
@[inherit_doc zIx] def pIx (c : Dev nD) (g : Fin 4) : Fin 3 := if pk c 0 = g then 0 else if pk c 1 = g then 1 else 2
@[inherit_doc zIx] def aIx (c : Dev nD) (g : Fin 4) : Fin 3 := if gk c 1 = g then 0 else if gk c 2 = g then 1 else 2
/-- When device `c` handles segment `g`. -/
def nIx (c : Dev nD) (g : Fin 4) : Fin 4 := if gk c 0 = g then 0 else if gk c 1 = g then 1 else if gk c 2 = g then 2 else 3

/-- Device `d`'s payment `j`, as its receiver counts it. -/
def flipJ : Dev nD × RJ → Dev nD × RJ
  | (d, .inl j) => (tgt d j, .inl (rev j))
  | (d, .inr (.inl j)) => (tgt d j, .inr (.inl (rev j)))
  | (d, .inr (.inr (.inl k))) => (pd d k, .inr (.inr (.inl (zIx (pd d k) (zOf d)))))
  | (d, .inr (.inr (.inr (.inl k)))) => (pd d k, .inr (.inr (.inr (.inl (aIx (pd d k) (zOf d))))))
  | (d, .inr (.inr (.inr (.inr (i, n))))) => (if i.val % 2 = 0 then rt d else lf d, .inr (.inr (.inr (.inr (i, n)))))
/-- And back. -/
def flopJ : Dev nD × RJ → Dev nD × RJ
  | (d, .inl j) => (tgt d j, .inl (rev j))
  | (d, .inr (.inl j)) => (tgt d j, .inr (.inl (rev j)))
  | (c, .inr (.inr (.inl k))) => (zAt c (zp c k), .inr (.inr (.inl (pIx (zAt c (zp c k)) (zOf c)))))
  | (c, .inr (.inr (.inr (.inl k)))) => (zAt c (gk c k.succ), .inr (.inr (.inr (.inl (pIx (zAt c (gk c k.succ)) (zOf c))))))
  | (c, .inr (.inr (.inr (.inr (i, n))))) => (if i.val % 2 = 0 then lf c else rt c, .inr (.inr (.inr (.inr (i, n)))))

theorem flopJ_flipJ (x : Dev nD × RJ) : flopJ (flipJ x) = x := by
  obtain ⟨d, j | j | k | k | ⟨i, n⟩⟩ := x
  · show (_, _) = (_, _); rw [tgt_rev, rev_rev]
  · show (_, _) = (_, _); rw [tgt_rev, rev_rev]
  · revert d k; decide
  · revert d k; decide
  · show (_, _) = (_, _); split <;> simp only [lf_rt, rt_lf]

theorem payR_flip (d : Dev nD) (j : RJ) : payR d j = recR (flipJ (d, j)).1 (flipJ (d, j)).2 := by
  obtain j | j | k | k | ⟨i, n⟩ := j
  · rfl
  · rfl
  · revert d k; decide
  · revert d k; decide
  · revert d i n; decide

/-- The payments made are the payments received. -/
def flipE : Dev nD × RJ ≃ Dev nD × RJ :=
  Equiv.ofBijective flipJ (Finite.injective_iff_bijective.mp (Function.LeftInverse.injective flopJ_flipJ))

theorem deal (Φ : (Dev nD × CK) × Fin 5 → sProp 𝕄) :
    (bigSep Finset.univ fun c : Dev nD => bigSep Finset.univ fun j : RJ => Φ (recR c j))
      = bigSep Finset.univ fun d : Dev nD => bigSep Finset.univ fun j : RJ => Φ (payR d j) := by
  rw [← bigSep_univ_prod (fun x : Dev nD × RJ => Φ (recR x.1 x.2)), bigSep_univ_equiv flipE,
    ← bigSep_univ_prod (fun x : Dev nD × RJ => Φ (payR x.1 x.2))]
  exact bigSep_congr fun x _ => by rw [payR_flip]; rfl

/-! ## The tokens -/

/-- A cell's kind and duty back to the payment. -/
def backJ (c : Dev nD) : CK × Fin 5 → RJ ⊕ OJ
  | (.bar, d) => .inl (.inl d)
  | (.ex, d) => .inl (.inr (.inl d))
  | (.rs g, _) => .inl (.inr (.inr (.inl (zIx c g))))
  | (.ag g, _) => .inl (.inr (.inr (.inr (.inl (aIx c g)))))
  | (.rb i g, _) => .inl (.inr (.inr (.inr (.inr (i, nIx c g)))))
  | (.ss k, _) => .inr (.inl k)
  | (.sa k, _) => .inr (.inr (.inl k))
  | (.sb i g, _) => .inr (.inr (.inr (i, nIx c g)))
theorem zIx_zp (c : Dev nD) (k : Fin 3) : zIx c (zp c k) = k := by revert c k; decide
theorem aIx_gk (c : Dev nD) (k : Fin 3) : aIx c (gk c k.succ) = k := by revert c k; decide
theorem nIx_gk (c : Dev nD) (n : Fin 4) : nIx c (gk c n) = n := by revert c n; decide
theorem backJ_mineR (c : Dev nD) (j : RJ ⊕ OJ) : backJ c ((mineR c j).1.2, (mineR c j).2) = j := by
  obtain (j | j | k | k | ⟨i, n⟩) | (k | k | ⟨i, n⟩) := j <;> simp only [mineR, recR, ownR, backJ, zIx_zp, aIx_gk, nIx_gk]
theorem mineR_dev (c : Dev nD) (j : RJ ⊕ OJ) : (mineR c j).1.1 = c := by
  obtain (j | j | k | k | ⟨i, n⟩) | (k | k | ⟨i, n⟩) := j <;> rfl

/-- A duty token's name. -/
def tokOf (x : Dev nD × (RJ ⊕ OJ)) : GSem nD τ sig × ℕ × Fin 5 := (kcell (mineR x.1 x.2).1, 0, (mineR x.1 x.2).2)
theorem tokOf_injective : Function.Injective tokOf := by
  rintro ⟨c, j⟩ ⟨c', j'⟩ h
  have h1 : (mineR c j).1 = (mineR c' j').1 := kcell_injective (congrArg (fun x => x.1) h)
  have h2 : (mineR c j).2 = (mineR c' j').2 := congrArg (fun x => x.2.2) h
  have hc : c = c' := by rw [← mineR_dev c j, ← mineR_dev c' j', h1]
  subst hc
  rw [← backJ_mineR c j, ← backJ_mineR c j', h1, h2]

/-- Every cell of the protocol, and every duty token. -/
def allCells : Finset (GSem nD τ sig) := Finset.univ.map ⟨kcell, kcell_injective⟩
@[inherit_doc allCells] def allToks : Finset (GSem nD τ sig × ℕ × Fin 5) := Finset.univ.map ⟨tokOf, tokOf_injective⟩

/-- A duty's token. -/
abbrev tokR (x : (Dev nD × CK) × Fin 5) : sProp 𝕄 := dutyTok ER (kcell x.1) 0 x.2
/-- The tokens of device `c`'s cells, as minted. -/
def toks (c : Dev nD) : sProp 𝕄 := bigSep Finset.univ fun j : RJ ⊕ OJ => tokR (mineR c j)
/-- The tokens of the duties that device `c` pays. -/
def payToks (c : Dev nD) : sProp 𝕄 :=
  iprop((bigSep Finset.univ fun j : RJ => tokR (payR c j)) ∗ bigSep Finset.univ fun j : OJ => tokR (ownR c j))

theorem toks_around : (bigSep Finset.univ fun c : Dev nD => toks (F := F) c) = bigSep Finset.univ fun c : Dev nD => payToks c := by
  unfold toks payToks
  rw [bigSep_sep', ← deal (fun x => tokR (F := F) x), ← bigSep_sep']
  exact bigSep_congr fun c _ => bigSep_univ_sum _

/-! ## The credit -/

/-- What device `d` pays in all, and what device `c` is paid in all. -/
def tally1 (x : (Dev nD × CK) × Fin 5) : CellTallies nD τ sig ℕ := tallyAt (kcell x.1) 0 (amtK x.1.2)
/-- What device `c` is paid, cell by cell. -/
def credL (c : Dev nD) : List (Pay nD τ sig) :=
  [(kcell (c, .bar), 0, 5), (kcell (c, .ex), 0, 5)]
    ++ [(c, .rs (zp c 0)), (c, .rs (zp c 1)), (c, .rs (zp c 2)), (c, .ag (gk c 1)), (c, .ag (gk c 2)), (c, .ag (gk c 3)),
      (c, .rb 0 (gk c 0)), (c, .rb 0 (gk c 1)), (c, .rb 0 (gk c 2)), (c, .rb 0 (gk c 3)),
      (c, .rb 1 (gk c 0)), (c, .rb 1 (gk c 1)), (c, .rb 1 (gk c 2)), (c, .rb 1 (gk c 3)),
      (c, .rb 2 (gk c 0)), (c, .rb 2 (gk c 1)), (c, .rb 2 (gk c 2)), (c, .rb 2 (gk c 3)),
      (c, .rb 3 (gk c 0)), (c, .rb 3 (gk c 1)), (c, .rb 3 (gk c 2)), (c, .rb 3 (gk c 3))].map payOf

theorem five (g : GSem nD τ sig) : tallyAt g 0 1 + (tallyAt g 0 1 + (tallyAt g 0 1 + (tallyAt g 0 1 + tallyAt g 0 1))) = (tallyAt g 0 5 : CellTallies nD τ sig ℕ) := by
  simp only [tallyAt_add]

theorem sum_RJ {M : Type} [AddCommMonoid M] (f : RJ → M) : ∑ j, f j
    = (f (.inl 0) + (f (.inl 1) + (f (.inl 2) + (f (.inl 3) + f (.inl 4)))))
      + ((f (.inr (.inl 0)) + (f (.inr (.inl 1)) + (f (.inr (.inl 2)) + (f (.inr (.inl 3)) + f (.inr (.inl 4))))))
      + ((f (.inr (.inr (.inl 0))) + (f (.inr (.inr (.inl 1))) + f (.inr (.inr (.inl 2)))))
      + ((f (.inr (.inr (.inr (.inl 0)))) + (f (.inr (.inr (.inr (.inl 1)))) + f (.inr (.inr (.inr (.inl 2))))))
      + ∑ i : Fin 4, ∑ n : Fin 4, f (.inr (.inr (.inr (.inr (i, n)))))))) := by
  simp only [Fintype.sum_sum_type, Fintype.sum_prod_type]
  rw [Fin.sum_univ_five, Fin.sum_univ_five, Fin.sum_univ_three, Fin.sum_univ_three]
  simp only [add_assoc]

theorem tallyL_dues (d : Dev nD) : tallyL (dl d 0) = ∑ j : RJ, tally1 (payR d j) := by
  rw [sum_RJ]
  simp only [Fin.sum_univ_four]
  simp only [dl, duesK, List.drop_zero, List.map, tallyL, payR, tally1, Pay.tally, payOf, add_zero,
    show ((0 : Fin 4).val % 2 = 0) = True from by simp, show ((1 : Fin 4).val % 2 = 0) = False from by simp,
    show ((2 : Fin 4).val % 2 = 0) = True from by simp, show ((3 : Fin 4).val % 2 = 0) = False from by simp, if_true, if_false]
  abel

theorem tallyL_cred (c : Dev nD) : tallyL (credL c) = ∑ j : RJ, tally1 (recR c j) := by
  rw [sum_RJ]
  simp only [Fin.sum_univ_four]
  have hb : ∀ j, tally1 (recR c (.inl j)) = tallyAt (kcell (c, .bar)) 0 1 := fun j => rfl
  have he : ∀ j, tally1 (recR c (.inr (.inl j))) = tallyAt (kcell (c, .ex)) 0 1 := fun j => rfl
  simp only [hb, he, five]
  simp only [credL, List.map, List.cons_append, List.nil_append, tallyL, recR, tally1, Pay.tally, payOf, add_zero,
    show (0 : Fin 3).succ = (1 : Fin 4) from rfl, show (1 : Fin 3).succ = (2 : Fin 4) from rfl, show (2 : Fin 3).succ = (3 : Fin 4) from rfl]
  abel

/-- All that is paid is all that is received. -/
theorem sum_dues : (∑ d : Dev nD, tallyL (dl d 0)) = ∑ c : Dev nD, tallyL (credL c) := by
  simp only [tallyL_dues, tallyL_cred]
  rw [← Fintype.sum_prod_type' (fun d j => tally1 (payR d j)), ← Fintype.sum_prod_type' (fun c j => tally1 (recR c j))]
  exact Fintype.sum_equiv flipE _ _ fun x => by rw [payR_flip]; rfl

theorem credL_dev (c : Dev nD) : ∀ x ∈ credL c, x.1.1 = (c.tc : Thread nD τ) := by
  intro x hx
  simp only [credL, List.map, List.cons_append, List.nil_append, List.mem_cons, List.not_mem_nil, or_false] at hx
  rcases hx with rfl | hx
  · rfl
  repeat' (rcases hx with rfl | hx; · rfl)

/-- The launch credit, cell by cell. -/
theorem launch_creds (c : Dev nD) : (Pipeline.launchCred (fun d => tallyL (dl d 0)) c : sProp 𝕄) = bigSepL (credL c) fun x => cred x.tally := by
  rw [Pipeline.launchCred_of_sum (fun d => tallyL (dl d 0)) (fun d => tallyL (credL d)) sum_dues (fun d g h => ?_) c, cred_tallyL]
  obtain ⟨i, hi⟩ : ∃ i, tallyL (credL d) g i ≠ 0 := by
    by_contra hn; push Not at hn; exact h (Finsupp.ext hn)
  obtain ⟨x, hx, rfl, -⟩ := tallyL_pos (Nat.pos_of_ne_zero hi)
  exact credL_dev d x hx

end Cert.EmbedProof

end
-- ==== Proof.Ends.lean ====
/-
The two ends of a device's run: what it starts from comes to `atStart`, and from `atEnd` every buffer is whole again and every
semaphore counter is the device's, at zero.
-/
module

public import proofs.«01_k».proof.Proof.Body
public import proofs.«01_k».proof.Proof.Deal

@[expose] public section

set_option maxRecDepth 8000

noncomputable section

namespace Cert.EmbedProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

open Idealize.ShloMosaic.TalkSites (tallyL)

variable (m : (ℓ : Loc nD τ sig) → Buf (Elt F) ℓ) (K : Dev nD × CK → ℕ)

/-! ## The cells of a device, one by one -/

/-- The cells of device `c`. -/
def ckL (c : Dev nD) : List CK :=
  [.bar, .ex, .rs (zOf c), .rs (zp c 0), .rs (zp c 1), .rs (zp c 2), .ag (zOf c), .ag (gk c 1), .ag (gk c 2), .ag (gk c 3), .rb 0 (gk c 0), .rb 0 (gk c 1), .rb 0 (gk c 2), .rb 0 (gk c 3), .rb 1 (gk c 0), .rb 1 (gk c 1), .rb 1 (gk c 2), .rb 1 (gk c 3), .rb 2 (gk c 0), .rb 2 (gk c 1), .rb 2 (gk c 2), .rb 2 (gk c 3), .rb 3 (gk c 0), .rb 3 (gk c 1), .rb 3 (gk c 2), .rb 3 (gk c 3), .ss 0, .ss 1, .ss 2, .sa 0, .sa 1, .sa 2, .sb 0 (gk c 0), .sb 0 (gk c 1), .sb 0 (gk c 2), .sb 0 (gk c 3), .sb 1 (gk c 0), .sb 1 (gk c 1), .sb 1 (gk c 2), .sb 1 (gk c 3), .sb 2 (gk c 0), .sb 2 (gk c 1), .sb 2 (gk c 2), .sb 2 (gk c 3), .sb 3 (gk c 0), .sb 3 (gk c 1), .sb 3 (gk c 2), .sb 3 (gk c 3)]
theorem ckL_nodup (c : Dev nD) : (ckL c).Nodup := by revert c; decide
theorem ckL_mem (c : Dev nD) (k : CK) : k ∈ ckL c := by revert c k; decide

theorem bigSep_CK (c : Dev nD) (Φ : CK → sProp 𝕄) : bigSep Finset.univ Φ = iprop(
    Φ .bar ∗ Φ .ex ∗ Φ (.rs (zOf c)) ∗ Φ (.rs (zp c 0)) ∗ Φ (.rs (zp c 1)) ∗ Φ (.rs (zp c 2)) ∗ Φ (.ag (zOf c)) ∗ Φ (.ag (gk c 1)) ∗
    Φ (.ag (gk c 2)) ∗ Φ (.ag (gk c 3)) ∗ Φ (.rb 0 (gk c 0)) ∗ Φ (.rb 0 (gk c 1)) ∗ Φ (.rb 0 (gk c 2)) ∗ Φ (.rb 0 (gk c 3)) ∗
    Φ (.rb 1 (gk c 0)) ∗ Φ (.rb 1 (gk c 1)) ∗ Φ (.rb 1 (gk c 2)) ∗ Φ (.rb 1 (gk c 3)) ∗ Φ (.rb 2 (gk c 0)) ∗ Φ (.rb 2 (gk c 1)) ∗
    Φ (.rb 2 (gk c 2)) ∗ Φ (.rb 2 (gk c 3)) ∗ Φ (.rb 3 (gk c 0)) ∗ Φ (.rb 3 (gk c 1)) ∗ Φ (.rb 3 (gk c 2)) ∗ Φ (.rb 3 (gk c 3)) ∗
    Φ (.ss 0) ∗ Φ (.ss 1) ∗ Φ (.ss 2) ∗ Φ (.sa 0) ∗ Φ (.sa 1) ∗ Φ (.sa 2) ∗ Φ (.sb 0 (gk c 0)) ∗ Φ (.sb 0 (gk c 1)) ∗ Φ (.sb 0 (gk c 2)) ∗
    Φ (.sb 0 (gk c 3)) ∗ Φ (.sb 1 (gk c 0)) ∗ Φ (.sb 1 (gk c 1)) ∗ Φ (.sb 1 (gk c 2)) ∗ Φ (.sb 1 (gk c 3)) ∗ Φ (.sb 2 (gk c 0)) ∗
    Φ (.sb 2 (gk c 1)) ∗ Φ (.sb 2 (gk c 2)) ∗ Φ (.sb 2 (gk c 3)) ∗ Φ (.sb 3 (gk c 0)) ∗ Φ (.sb 3 (gk c 1)) ∗ Φ (.sb 3 (gk c 2)) ∗
    Φ (.sb 3 (gk c 3))) :=
  bigSep_univ_eq_bigSepL (ckL c) (by ext k; simp only [Finset.mem_univ, List.mem_toFinset, ckL_mem]) (ckL_nodup c) Φ

theorem bigSep5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
theorem bigSep44 (Φ : Fin 4 × Fin 4 → sProp 𝕄) : bigSep Finset.univ Φ = iprop(
    Φ (0, 0) ∗ Φ (0, 1) ∗ Φ (0, 2) ∗ Φ (0, 3) ∗ Φ (1, 0) ∗ Φ (1, 1) ∗ Φ (1, 2) ∗ Φ (1, 3) ∗ Φ (2, 0) ∗ Φ (2, 1) ∗ Φ (2, 2) ∗ Φ (2, 3) ∗
    Φ (3, 0) ∗ Φ (3, 1) ∗ Φ (3, 2) ∗ Φ (3, 3)) :=
  bigSep_univ_eq_bigSepL [(0, 0), (0, 1), (0, 2), (0, 3), (1, 0), (1, 1), (1, 2), (1, 3), (2, 0), (2, 1), (2, 2), (2, 3), (3, 0), (3, 1), (3, 2), (3, 3)] (by decide) (by decide) Φ

/-- The tokens a device pays with, one by one. -/
theorem payToks_eq (c : Dev nD) : payToks (F := F) c = iprop(
    ((dutyTok ER (kcell (tgt c 0, .bar)) 0 (rev 0) ∗ dutyTok ER (kcell (tgt c 1, .bar)) 0 (rev 1) ∗ dutyTok ER (kcell (tgt c 2, .bar)) 0 (rev 2) ∗ dutyTok ER (kcell (tgt c 3, .bar)) 0 (rev 3) ∗ dutyTok ER (kcell (tgt c 4, .bar)) 0 (rev 4)) ∗
      (dutyTok ER (kcell (tgt c 0, .ex)) 0 (rev 0) ∗ dutyTok ER (kcell (tgt c 1, .ex)) 0 (rev 1) ∗ dutyTok ER (kcell (tgt c 2, .ex)) 0 (rev 2) ∗ dutyTok ER (kcell (tgt c 3, .ex)) 0 (rev 3) ∗ dutyTok ER (kcell (tgt c 4, .ex)) 0 (rev 4)) ∗
      (dutyTok ER (kcell (pd c 0, .rs (zOf c))) 0 0 ∗ dutyTok ER (kcell (pd c 1, .rs (zOf c))) 0 0 ∗ dutyTok ER (kcell (pd c 2, .rs (zOf c))) 0 0) ∗
      (dutyTok ER (kcell (pd c 0, .ag (zOf c))) 0 0 ∗ dutyTok ER (kcell (pd c 1, .ag (zOf c))) 0 0 ∗ dutyTok ER (kcell (pd c 2, .ag (zOf c))) 0 0) ∗
      (dutyTok ER (kcell (rt c, .rb 0 (gk c 0))) 0 0 ∗ dutyTok ER (kcell (rt c, .rb 0 (gk c 1))) 0 0 ∗ dutyTok ER (kcell (rt c, .rb 0 (gk c 2))) 0 0 ∗ dutyTok ER (kcell (rt c, .rb 0 (gk c 3))) 0 0 ∗ dutyTok ER (kcell (lf c, .rb 1 (gk c 0))) 0 0 ∗ dutyTok ER (kcell (lf c, .rb 1 (gk c 1))) 0 0 ∗ dutyTok ER (kcell (lf c, .rb 1 (gk c 2))) 0 0 ∗ dutyTok ER (kcell (lf c, .rb 1 (gk c 3))) 0 0 ∗ dutyTok ER (kcell (rt c, .rb 2 (gk c 0))) 0 0 ∗ dutyTok ER (kcell (rt c, .rb 2 (gk c 1))) 0 0 ∗ dutyTok ER (kcell (rt c, .rb 2 (gk c 2))) 0 0 ∗ dutyTok ER (kcell (rt c, .rb 2 (gk c 3))) 0 0 ∗ dutyTok ER (kcell (lf c, .rb 3 (gk c 0))) 0 0 ∗ dutyTok ER (kcell (lf c, .rb 3 (gk c 1))) 0 0 ∗ dutyTok ER (kcell (lf c, .rb 3 (gk c 2))) 0 0 ∗ dutyTok ER (kcell (lf c, .rb 3 (gk c 3))) 0 0))
    ∗ (dutyTok ER (kcell (c, .ss 0)) 0 0 ∗ dutyTok ER (kcell (c, .ss 1)) 0 0 ∗ dutyTok ER (kcell (c, .ss 2)) 0 0) ∗
      (dutyTok ER (kcell (c, .sa 0)) 0 0 ∗ dutyTok ER (kcell (c, .sa 1)) 0 0 ∗ dutyTok ER (kcell (c, .sa 2)) 0 0) ∗
      (dutyTok ER (kcell (c, .sb 0 (gk c 0))) 0 0 ∗ dutyTok ER (kcell (c, .sb 0 (gk c 1))) 0 0 ∗ dutyTok ER (kcell (c, .sb 0 (gk c 2))) 0 0 ∗ dutyTok ER (kcell (c, .sb 0 (gk c 3))) 0 0 ∗ dutyTok ER (kcell (c, .sb 1 (gk c 0))) 0 0 ∗ dutyTok ER (kcell (c, .sb 1 (gk c 1))) 0 0 ∗ dutyTok ER (kcell (c, .sb 1 (gk c 2))) 0 0 ∗ dutyTok ER (kcell (c, .sb 1 (gk c 3))) 0 0 ∗ dutyTok ER (kcell (c, .sb 2 (gk c 0))) 0 0 ∗ dutyTok ER (kcell (c, .sb 2 (gk c 1))) 0 0 ∗ dutyTok ER (kcell (c, .sb 2 (gk c 2))) 0 0 ∗ dutyTok ER (kcell (c, .sb 2 (gk c 3))) 0 0 ∗ dutyTok ER (kcell (c, .sb 3 (gk c 0))) 0 0 ∗ dutyTok ER (kcell (c, .sb 3 (gk c 1))) 0 0 ∗ dutyTok ER (kcell (c, .sb 3 (gk c 2))) 0 0 ∗ dutyTok ER (kcell (c, .sb 3 (gk c 3))) 0 0)) := by
  unfold payToks
  rw [bigSep_univ_sum, bigSep_univ_sum, bigSep_univ_sum, bigSep_univ_sum, bigSep_univ_sum, bigSep_univ_sum]
  rw [bigSep5, bigSep5, bigSep3, bigSep3, bigSep3, bigSep3, bigSep44, bigSep44]
  rfl

/-- The credit a device starts with, cell by cell. -/
theorem creds_eq (c : Dev nD) : (Pipeline.launchCred (fun d => tallyL (dl d 0)) c : sProp 𝕄) = iprop(
    cred (tallyAt (kcell (c, .bar)) 0 (expK .bar)) ∗ cred (tallyAt (kcell (c, .ex)) 0 (expK .ex)) ∗
    cred (tallyAt (kcell (c, .rs (zp c 0))) 0 (expK (.rs (zp c 0)))) ∗ cred (tallyAt (kcell (c, .rs (zp c 1))) 0 (expK (.rs (zp c 1)))) ∗
    cred (tallyAt (kcell (c, .rs (zp c 2))) 0 (expK (.rs (zp c 2)))) ∗ cred (tallyAt (kcell (c, .ag (gk c 1))) 0 (expK (.ag (gk c 1)))) ∗
    cred (tallyAt (kcell (c, .ag (gk c 2))) 0 (expK (.ag (gk c 2)))) ∗ cred (tallyAt (kcell (c, .ag (gk c 3))) 0 (expK (.ag (gk c 3)))) ∗
    cred (tallyAt (kcell (c, .rb 0 (gk c 0))) 0 (expK (.rb 0 (gk c 0)))) ∗
    cred (tallyAt (kcell (c, .rb 0 (gk c 1))) 0 (expK (.rb 0 (gk c 1)))) ∗
    cred (tallyAt (kcell (c, .rb 0 (gk c 2))) 0 (expK (.rb 0 (gk c 2)))) ∗
    cred (tallyAt (kcell (c, .rb 0 (gk c 3))) 0 (expK (.rb 0 (gk c 3)))) ∗
    cred (tallyAt (kcell (c, .rb 1 (gk c 0))) 0 (expK (.rb 1 (gk c 0)))) ∗
    cred (tallyAt (kcell (c, .rb 1 (gk c 1))) 0 (expK (.rb 1 (gk c 1)))) ∗
    cred (tallyAt (kcell (c, .rb 1 (gk c 2))) 0 (expK (.rb 1 (gk c 2)))) ∗
    cred (tallyAt (kcell (c, .rb 1 (gk c 3))) 0 (expK (.rb 1 (gk c 3)))) ∗
    cred (tallyAt (kcell (c, .rb 2 (gk c 0))) 0 (expK (.rb 2 (gk c 0)))) ∗
    cred (tallyAt (kcell (c, .rb 2 (gk c 1))) 0 (expK (.rb 2 (gk c 1)))) ∗
    cred (tallyAt (kcell (c, .rb 2 (gk c 2))) 0 (expK (.rb 2 (gk c 2)))) ∗
    cred (tallyAt (kcell (c, .rb 2 (gk c 3))) 0 (expK (.rb 2 (gk c 3)))) ∗
    cred (tallyAt (kcell (c, .rb 3 (gk c 0))) 0 (expK (.rb 3 (gk c 0)))) ∗
    cred (tallyAt (kcell (c, .rb 3 (gk c 1))) 0 (expK (.rb 3 (gk c 1)))) ∗
    cred (tallyAt (kcell (c, .rb 3 (gk c 2))) 0 (expK (.rb 3 (gk c 2)))) ∗
    cred (tallyAt (kcell (c, .rb 3 (gk c 3))) 0 (expK (.rb 3 (gk c 3))))) := by
  rw [launch_creds]; rfl

/-- The positions, the tokens and the credit of a device, sorted for the body. -/
theorem start_ghost (c : Dev nD) : iprop((bigSep Finset.univ fun k : CK => atPos ER (kcell (c, k)) 0 ∅ 0) ∗ payToks (F := F) c ∗ Pipeline.launchCred (fun d => tallyL (dl d 0)) c)
    ⊢ (iprop(
      dutyTok ER (kcell (tgt c 0, .bar)) 0 (rev 0) ∗ dutyTok ER (kcell (tgt c 1, .bar)) 0 (rev 1) ∗
      dutyTok ER (kcell (tgt c 2, .bar)) 0 (rev 2) ∗ dutyTok ER (kcell (tgt c 3, .bar)) 0 (rev 3) ∗
      dutyTok ER (kcell (tgt c 4, .bar)) 0 (rev 4) ∗ dutyTok ER (kcell (tgt c 0, .ex)) 0 (rev 0) ∗
      dutyTok ER (kcell (tgt c 1, .ex)) 0 (rev 1) ∗ dutyTok ER (kcell (tgt c 2, .ex)) 0 (rev 2) ∗
      dutyTok ER (kcell (tgt c 3, .ex)) 0 (rev 3) ∗ dutyTok ER (kcell (tgt c 4, .ex)) 0 (rev 4) ∗ Wt (F := F) c .bar ∗ Wt (F := F) c .ex ∗
      Wt (F := F) c (.rs (zp c 0)) ∗ Wt (F := F) c (.rs (zp c 1)) ∗ Wt (F := F) c (.rs (zp c 2)) ∗ Wt (F := F) c (.ag (gk c 1)) ∗
      Wt (F := F) c (.ag (gk c 2)) ∗ Wt (F := F) c (.ag (gk c 3)) ∗ Wt (F := F) c (.rb 0 (gk c 0)) ∗ Wt (F := F) c (.rb 0 (gk c 1)) ∗
      Wt (F := F) c (.rb 0 (gk c 2)) ∗ Wt (F := F) c (.rb 0 (gk c 3)) ∗ Wt (F := F) c (.rb 1 (gk c 0)) ∗ Wt (F := F) c (.rb 1 (gk c 1)) ∗
      Wt (F := F) c (.rb 1 (gk c 2)) ∗ Wt (F := F) c (.rb 1 (gk c 3)) ∗ Wt (F := F) c (.rb 2 (gk c 0)) ∗ Wt (F := F) c (.rb 2 (gk c 1)) ∗
      Wt (F := F) c (.rb 2 (gk c 2)) ∗ Wt (F := F) c (.rb 2 (gk c 3)) ∗ Wt (F := F) c (.rb 3 (gk c 0)) ∗ Wt (F := F) c (.rb 3 (gk c 1)) ∗
      Wt (F := F) c (.rb 3 (gk c 2)) ∗ Wt (F := F) c (.rb 3 (gk c 3)) ∗ Snd (F := F) c (.ss 0) (pd c 0) (.rs (zOf c)) ∗
      Snd (F := F) c (.ss 1) (pd c 1) (.rs (zOf c)) ∗ Snd (F := F) c (.ss 2) (pd c 2) (.rs (zOf c)) ∗
      Snd (F := F) c (.sa 0) (pd c 0) (.ag (zOf c)) ∗ Snd (F := F) c (.sa 1) (pd c 1) (.ag (zOf c)) ∗
      Snd (F := F) c (.sa 2) (pd c 2) (.ag (zOf c)) ∗ Snd (F := F) c (.sb 0 (gk c 0)) (rt c) (.rb 0 (gk c 0)) ∗
      Snd (F := F) c (.sb 0 (gk c 1)) (rt c) (.rb 0 (gk c 1)) ∗ Snd (F := F) c (.sb 0 (gk c 2)) (rt c) (.rb 0 (gk c 2)) ∗
      Snd (F := F) c (.sb 0 (gk c 3)) (rt c) (.rb 0 (gk c 3)) ∗ Snd (F := F) c (.sb 1 (gk c 0)) (lf c) (.rb 1 (gk c 0)) ∗
      Snd (F := F) c (.sb 1 (gk c 1)) (lf c) (.rb 1 (gk c 1)) ∗ Snd (F := F) c (.sb 1 (gk c 2)) (lf c) (.rb 1 (gk c 2)) ∗
      Snd (F := F) c (.sb 1 (gk c 3)) (lf c) (.rb 1 (gk c 3)) ∗ Snd (F := F) c (.sb 2 (gk c 0)) (rt c) (.rb 2 (gk c 0)) ∗
      Snd (F := F) c (.sb 2 (gk c 1)) (rt c) (.rb 2 (gk c 1)) ∗ Snd (F := F) c (.sb 2 (gk c 2)) (rt c) (.rb 2 (gk c 2)) ∗
      Snd (F := F) c (.sb 2 (gk c 3)) (rt c) (.rb 2 (gk c 3)) ∗ Snd (F := F) c (.sb 3 (gk c 0)) (lf c) (.rb 3 (gk c 0)) ∗
      Snd (F := F) c (.sb 3 (gk c 1)) (lf c) (.rb 3 (gk c 1)) ∗ Snd (F := F) c (.sb 3 (gk c 2)) (lf c) (.rb 3 (gk c 2)) ∗
      Snd (F := F) c (.sb 3 (gk c 3)) (lf c) (.rb 3 (gk c 3))) : sProp 𝕄) := by
  rw [bigSep_CK c, payToks_eq, creds_eq]
  iintro ⟨⟨Abar, Aex, Ars_z, Ars_p0, Ars_p1, Ars_p2, Aag_z, Aag_g1, Aag_g2, Aag_g3, Arb0_g0, Arb0_g1, Arb0_g2, Arb0_g3, Arb1_g0, Arb1_g1, Arb1_g2, Arb1_g3, Arb2_g0, Arb2_g1, Arb2_g2, Arb2_g3, Arb3_g0, Arb3_g1, Arb3_g2, Arb3_g3, Ass0, Ass1, Ass2, Asa0, Asa1, Asa2, Asb0_g0, Asb0_g1, Asb0_g2, Asb0_g3, Asb1_g0, Asb1_g1, Asb1_g2, Asb1_g3, Asb2_g0, Asb2_g1, Asb2_g2, Asb2_g3, Asb3_g0, Asb3_g1, Asb3_g2, Asb3_g3⟩, ⟨⟨⟨TB0, TB1, TB2, TB3, TB4⟩, ⟨TE0, TE1, TE2, TE3, TE4⟩, ⟨Trs0, Trs1, Trs2⟩, ⟨Tag0, Tag1, Tag2⟩, ⟨Trb00, Trb01, Trb02, Trb03, Trb10, Trb11, Trb12, Trb13, Trb20, Trb21, Trb22, Trb23, Trb30, Trb31, Trb32, Trb33⟩⟩, ⟨Tss0, Tss1, Tss2⟩, ⟨Tsa0, Tsa1, Tsa2⟩, ⟨Tsb00, Tsb01, Tsb02, Tsb03, Tsb10, Tsb11, Tsb12, Tsb13, Tsb20, Tsb21, Tsb22, Tsb23, Tsb30, Tsb31, Tsb32, Tsb33⟩⟩, Cbar, Cex, Crs_p0, Crs_p1, Crs_p2, Cag_g1, Cag_g2, Cag_g3, Crb0_g0, Crb0_g1, Crb0_g2, Crb0_g3, Crb1_g0, Crb1_g1, Crb1_g2, Crb1_g3, Crb2_g0, Crb2_g1, Crb2_g2, Crb2_g3, Crb3_g0, Crb3_g1, Crb3_g2, Crb3_g3⟩
  isplitl [TB0]; · iexact TB0
  isplitl [TB1]; · iexact TB1
  isplitl [TB2]; · iexact TB2
  isplitl [TB3]; · iexact TB3
  isplitl [TB4]; · iexact TB4
  isplitl [TE0]; · iexact TE0
  isplitl [TE1]; · iexact TE1
  isplitl [TE2]; · iexact TE2
  isplitl [TE3]; · iexact TE3
  isplitl [TE4]; · iexact TE4
  isplitl [Cbar Abar]
  · unfold Wt
    isplitl [Cbar]; · iexact Cbar
    iexact Abar
  isplitl [Cex Aex]
  · unfold Wt
    isplitl [Cex]; · iexact Cex
    iexact Aex
  isplitl [Crs_p0 Ars_p0]
  · unfold Wt
    isplitl [Crs_p0]; · iexact Crs_p0
    iexact Ars_p0
  isplitl [Crs_p1 Ars_p1]
  · unfold Wt
    isplitl [Crs_p1]; · iexact Crs_p1
    iexact Ars_p1
  isplitl [Crs_p2 Ars_p2]
  · unfold Wt
    isplitl [Crs_p2]; · iexact Crs_p2
    iexact Ars_p2
  isplitl [Cag_g1 Aag_g1]
  · unfold Wt
    isplitl [Cag_g1]; · iexact Cag_g1
    iexact Aag_g1
  isplitl [Cag_g2 Aag_g2]
  · unfold Wt
    isplitl [Cag_g2]; · iexact Cag_g2
    iexact Aag_g2
  isplitl [Cag_g3 Aag_g3]
  · unfold Wt
    isplitl [Cag_g3]; · iexact Cag_g3
    iexact Aag_g3
  isplitl [Crb0_g0 Arb0_g0]
  · unfold Wt
    isplitl [Crb0_g0]; · iexact Crb0_g0
    iexact Arb0_g0
  isplitl [Crb0_g1 Arb0_g1]
  · unfold Wt
    isplitl [Crb0_g1]; · iexact Crb0_g1
    iexact Arb0_g1
  isplitl [Crb0_g2 Arb0_g2]
  · unfold Wt
    isplitl [Crb0_g2]; · iexact Crb0_g2
    iexact Arb0_g2
  isplitl [Crb0_g3 Arb0_g3]
  · unfold Wt
    isplitl [Crb0_g3]; · iexact Crb0_g3
    iexact Arb0_g3
  isplitl [Crb1_g0 Arb1_g0]
  · unfold Wt
    isplitl [Crb1_g0]; · iexact Crb1_g0
    iexact Arb1_g0
  isplitl [Crb1_g1 Arb1_g1]
  · unfold Wt
    isplitl [Crb1_g1]; · iexact Crb1_g1
    iexact Arb1_g1
  isplitl [Crb1_g2 Arb1_g2]
  · unfold Wt
    isplitl [Crb1_g2]; · iexact Crb1_g2
    iexact Arb1_g2
  isplitl [Crb1_g3 Arb1_g3]
  · unfold Wt
    isplitl [Crb1_g3]; · iexact Crb1_g3
    iexact Arb1_g3
  isplitl [Crb2_g0 Arb2_g0]
  · unfold Wt
    isplitl [Crb2_g0]; · iexact Crb2_g0
    iexact Arb2_g0
  isplitl [Crb2_g1 Arb2_g1]
  · unfold Wt
    isplitl [Crb2_g1]; · iexact Crb2_g1
    iexact Arb2_g1
  isplitl [Crb2_g2 Arb2_g2]
  · unfold Wt
    isplitl [Crb2_g2]; · iexact Crb2_g2
    iexact Arb2_g2
  isplitl [Crb2_g3 Arb2_g3]
  · unfold Wt
    isplitl [Crb2_g3]; · iexact Crb2_g3
    iexact Arb2_g3
  isplitl [Crb3_g0 Arb3_g0]
  · unfold Wt
    isplitl [Crb3_g0]; · iexact Crb3_g0
    iexact Arb3_g0
  isplitl [Crb3_g1 Arb3_g1]
  · unfold Wt
    isplitl [Crb3_g1]; · iexact Crb3_g1
    iexact Arb3_g1
  isplitl [Crb3_g2 Arb3_g2]
  · unfold Wt
    isplitl [Crb3_g2]; · iexact Crb3_g2
    iexact Arb3_g2
  isplitl [Crb3_g3 Arb3_g3]
  · unfold Wt
    isplitl [Crb3_g3]; · iexact Crb3_g3
    iexact Arb3_g3
  isplitl [Tss0 Ass0 Trs0]
  · unfold Snd
    isplitl [Tss0]; · iexact Tss0
    isplitl [Ass0]; · iexact Ass0
    iexact Trs0
  isplitl [Tss1 Ass1 Trs1]
  · unfold Snd
    isplitl [Tss1]; · iexact Tss1
    isplitl [Ass1]; · iexact Ass1
    iexact Trs1
  isplitl [Tss2 Ass2 Trs2]
  · unfold Snd
    isplitl [Tss2]; · iexact Tss2
    isplitl [Ass2]; · iexact Ass2
    iexact Trs2
  isplitl [Tsa0 Asa0 Tag0]
  · unfold Snd
    isplitl [Tsa0]; · iexact Tsa0
    isplitl [Asa0]; · iexact Asa0
    iexact Tag0
  isplitl [Tsa1 Asa1 Tag1]
  · unfold Snd
    isplitl [Tsa1]; · iexact Tsa1
    isplitl [Asa1]; · iexact Asa1
    iexact Tag1
  isplitl [Tsa2 Asa2 Tag2]
  · unfold Snd
    isplitl [Tsa2]; · iexact Tsa2
    isplitl [Asa2]; · iexact Asa2
    iexact Tag2
  isplitl [Tsb00 Asb0_g0 Trb00]
  · unfold Snd
    isplitl [Tsb00]; · iexact Tsb00
    isplitl [Asb0_g0]; · iexact Asb0_g0
    iexact Trb00
  isplitl [Tsb01 Asb0_g1 Trb01]
  · unfold Snd
    isplitl [Tsb01]; · iexact Tsb01
    isplitl [Asb0_g1]; · iexact Asb0_g1
    iexact Trb01
  isplitl [Tsb02 Asb0_g2 Trb02]
  · unfold Snd
    isplitl [Tsb02]; · iexact Tsb02
    isplitl [Asb0_g2]; · iexact Asb0_g2
    iexact Trb02
  isplitl [Tsb03 Asb0_g3 Trb03]
  · unfold Snd
    isplitl [Tsb03]; · iexact Tsb03
    isplitl [Asb0_g3]; · iexact Asb0_g3
    iexact Trb03
  isplitl [Tsb10 Asb1_g0 Trb10]
  · unfold Snd
    isplitl [Tsb10]; · iexact Tsb10
    isplitl [Asb1_g0]; · iexact Asb1_g0
    iexact Trb10
  isplitl [Tsb11 Asb1_g1 Trb11]
  · unfold Snd
    isplitl [Tsb11]; · iexact Tsb11
    isplitl [Asb1_g1]; · iexact Asb1_g1
    iexact Trb11
  isplitl [Tsb12 Asb1_g2 Trb12]
  · unfold Snd
    isplitl [Tsb12]; · iexact Tsb12
    isplitl [Asb1_g2]; · iexact Asb1_g2
    iexact Trb12
  isplitl [Tsb13 Asb1_g3 Trb13]
  · unfold Snd
    isplitl [Tsb13]; · iexact Tsb13
    isplitl [Asb1_g3]; · iexact Asb1_g3
    iexact Trb13
  isplitl [Tsb20 Asb2_g0 Trb20]
  · unfold Snd
    isplitl [Tsb20]; · iexact Tsb20
    isplitl [Asb2_g0]; · iexact Asb2_g0
    iexact Trb20
  isplitl [Tsb21 Asb2_g1 Trb21]
  · unfold Snd
    isplitl [Tsb21]; · iexact Tsb21
    isplitl [Asb2_g1]; · iexact Asb2_g1
    iexact Trb21
  isplitl [Tsb22 Asb2_g2 Trb22]
  · unfold Snd
    isplitl [Tsb22]; · iexact Tsb22
    isplitl [Asb2_g2]; · iexact Asb2_g2
    iexact Trb22
  isplitl [Tsb23 Asb2_g3 Trb23]
  · unfold Snd
    isplitl [Tsb23]; · iexact Tsb23
    isplitl [Asb2_g3]; · iexact Asb2_g3
    iexact Trb23
  isplitl [Tsb30 Asb3_g0 Trb30]
  · unfold Snd
    isplitl [Tsb30]; · iexact Tsb30
    isplitl [Asb3_g0]; · iexact Asb3_g0
    iexact Trb30
  isplitl [Tsb31 Asb3_g1 Trb31]
  · unfold Snd
    isplitl [Tsb31]; · iexact Tsb31
    isplitl [Asb3_g1]; · iexact Asb3_g1
    iexact Trb31
  isplitl [Tsb32 Asb3_g2 Trb32]
  · unfold Snd
    isplitl [Tsb32]; · iexact Tsb32
    isplitl [Asb3_g2]; · iexact Asb3_g2
    iexact Trb32
  unfold Snd
  isplitl [Tsb33]; · iexact Tsb33
  isplitl [Asb3_g3]; · iexact Asb3_g3
  iexact Trb33

/-- A device's scratch buffers, whole. -/
def bufs (c : Dev nD) : sProp 𝕄 :=
  iprop((∃ f, xAt (F := F) c Finset.univ fullShare f) ∗ (∃ f, aAt (F := F) c Finset.univ fullShare f) ∗ (∃ f, rAt (F := F) c Finset.univ fullShare f) ∗ (∃ f, l0At (F := F) c Finset.univ fullShare f) ∗ (∃ f, r0At (F := F) c Finset.univ fullShare f) ∗ (∃ f, l1At (F := F) c Finset.univ fullShare f) ∗ (∃ f, r1At (F := F) c Finset.univ fullShare f))

/-- The scratch buffers, cut into the pieces the body moves. -/
theorem start_bufs (c : Dev nD) : bufs (F := F) c ⊢ (iprop((∃ f, xAt (F := F) c Finset.univ fullShare f) ∗ (∃ f, aAt (F := F) c (segA (zOf c)) fullShare f)
    ∗ hndZ (F := F) c (zp c 0) ∗ hndZ (F := F) c (zp c 1) ∗ hndZ (F := F) c (zp c 2) ∗ hndL (F := F) c ∗ hndR (F := F) c ∗ (∃ f, rAt (F := F) c (slotR (zOf c)) fullShare f)) : sProp 𝕄) := by
  unfold bufs
  iintro ⟨HX, HA, HR, HL0, HR0, HL1, HR1⟩
  ihave HA := (pieces4' (ℓ := (c : Thread nD τ).loc cc0_scratch2) (coverA' c).1 (coverA' c).2.1 (coverA' c).2.2.1 (coverA' c).2.2.2 fullShare) $$ HA
  icases HA with ⟨HA0_, HA1_, HA2_, HA3_⟩
  ihave HR := (pieces4' (ℓ := (c : Thread nD τ).loc cc0_scratch3) (coverR c).1 (coverR c).2.1 (coverR c).2.2.1 (coverR c).2.2.2 fullShare) $$ HR
  icases HR with ⟨HR0_, HR1_, HR2_, HR3_⟩
  ihave HL0 := (pieces4' (ℓ := (c : Thread nD τ).loc cc0_scratch8) (coverA c).1 (coverA c).2.1 (coverA c).2.2.1 (coverA c).2.2.2 fullShare) $$ HL0
  icases HL0 with ⟨HL00_, HL01_, HL02_, HL03_⟩
  ihave HR0 := (pieces4' (ℓ := (c : Thread nD τ).loc cc0_scratch9) (coverA c).1 (coverA c).2.1 (coverA c).2.2.1 (coverA c).2.2.2 fullShare) $$ HR0
  icases HR0 with ⟨HR00_, HR01_, HR02_, HR03_⟩
  ihave HL1 := (pieces4' (ℓ := (c : Thread nD τ).loc cc0_scratch10) (coverB c).1 (coverB c).2.1 (coverB c).2.2.1 (coverB c).2.2.2 fullShare) $$ HL1
  icases HL1 with ⟨HL10_, HL11_, HL12_, HL13_⟩
  ihave HR1 := (pieces4' (ℓ := (c : Thread nD τ).loc cc0_scratch11) (coverB c).1 (coverB c).2.1 (coverB c).2.2.1 (coverB c).2.2.2 fullShare) $$ HR1
  icases HR1 with ⟨HR10_, HR11_, HR12_, HR13_⟩
  isplitl [HX]; · iexact HX
  isplitl [HA0_]; · iexact HA0_
  isplitl [HR1_ HA1_]
  · unfold hndZ
    isplitl [HR1_]; · iexact HR1_
    iexact HA1_
  isplitl [HR2_ HA2_]
  · unfold hndZ
    isplitl [HR2_]; · iexact HR2_
    iexact HA2_
  isplitl [HR3_ HA3_]
  · unfold hndZ
    isplitl [HR3_]; · iexact HR3_
    iexact HA3_
  isplitl [HL00_ HL01_ HL02_ HL03_ HL10_ HL11_ HL12_ HL13_]
  · unfold hndL
    isplitl [HL00_ HL01_ HL02_ HL03_]
    · isplitl [HL00_]; · iexact HL00_
      isplitl [HL01_]; · iexact HL01_
      isplitl [HL02_]; · iexact HL02_
      iexact HL03_
    · isplitl [HL10_]; · iexact HL10_
      isplitl [HL11_]; · iexact HL11_
      isplitl [HL12_]; · iexact HL12_
      iexact HL13_
  isplitl [HR00_ HR01_ HR02_ HR03_ HR10_ HR11_ HR12_ HR13_]
  · unfold hndR
    isplitl [HR00_ HR01_ HR02_ HR03_]
    · isplitl [HR00_]; · iexact HR00_
      isplitl [HR01_]; · iexact HR01_
      isplitl [HR02_]; · iexact HR02_
      iexact HR03_
    · isplitl [HR10_]; · iexact HR10_
      isplitl [HR11_]; · iexact HR11_
      isplitl [HR12_]; · iexact HR12_
      iexact HR13_
  iexact HR0_

/-- From what a device holds at the start of its kernel to the body's start; the cells and the slot that nothing uses aside. -/
theorem start_run (c : Dev nD) : iprop((bigSep Finset.univ fun k : CK => atPos ER (kcell (c, k)) 0 ∅ 0) ∗ payToks (F := F) c ∗ Pipeline.launchCred (fun d => tallyL (dl d 0)) c
      ∗ bufs (F := F) c ∗ slotsFrom m c 0 ∗ idsAt m c ∗ Ow (F := F) c 0 ∗ Out m c 0)
    ⊢ (iprop(atStart m c ∗ ∃ f, rAt (F := F) c (slotR (zOf c)) fullShare f) : sProp 𝕄) := by
  unfold atStart
  iintro ⟨HA, HT, HC, HB, HS, HI, HO, Ho⟩
  ihave HG := (start_ghost c) $$ [HA HT HC]
  · isplitl [HA]; · iexact HA
    isplitl [HT]; · iexact HT
    iexact HC
  ihave HB := (start_bufs c) $$ HB
  icases HG with ⟨TB0, TB1, TB2, TB3, TB4, TE0, TE1, TE2, TE3, TE4, Wbar, Wex, Wrs_p0, Wrs_p1, Wrs_p2, Wag_g1, Wag_g2, Wag_g3, Wrb0_g0, Wrb0_g1, Wrb0_g2, Wrb0_g3, Wrb1_g0, Wrb1_g1, Wrb1_g2, Wrb1_g3, Wrb2_g0, Wrb2_g1, Wrb2_g2, Wrb2_g3, Wrb3_g0, Wrb3_g1, Wrb3_g2, Wrb3_g3, Sss0, Sss1, Sss2, Ssa0, Ssa1, Ssa2, Ssb0_g0, Ssb0_g1, Ssb0_g2, Ssb0_g3, Ssb1_g0, Ssb1_g1, Ssb1_g2, Ssb1_g3, Ssb2_g0, Ssb2_g1, Ssb2_g2, Ssb2_g3, Ssb3_g0, Ssb3_g1, Ssb3_g2, Ssb3_g3⟩
  icases HB with ⟨Xu, A0, hZ0, hZ1, hZ2, hL, hR, Rz⟩
  isplitr [Rz]
  · isplitl [Xu]; · iexact Xu
    isplitl [A0]; · iexact A0
    isplitl [hZ0]; · iexact hZ0
    isplitl [hZ1]; · iexact hZ1
    isplitl [hZ2]; · iexact hZ2
    isplitl [hL]; · iexact hL
    isplitl [hR]; · iexact hR
    isplitl [TB0]; · iexact TB0
    isplitl [TB1]; · iexact TB1
    isplitl [TB2]; · iexact TB2
    isplitl [TB3]; · iexact TB3
    isplitl [TB4]; · iexact TB4
    isplitl [TE0]; · iexact TE0
    isplitl [TE1]; · iexact TE1
    isplitl [TE2]; · iexact TE2
    isplitl [TE3]; · iexact TE3
    isplitl [TE4]; · iexact TE4
    isplitl [Wbar]; · iexact Wbar
    isplitl [Wex]; · iexact Wex
    isplitl [Wrs_p0]; · iexact Wrs_p0
    isplitl [Wrs_p1]; · iexact Wrs_p1
    isplitl [Wrs_p2]; · iexact Wrs_p2
    isplitl [Wag_g1]; · iexact Wag_g1
    isplitl [Wag_g2]; · iexact Wag_g2
    isplitl [Wag_g3]; · iexact Wag_g3
    isplitl [Wrb0_g0]; · iexact Wrb0_g0
    isplitl [Wrb0_g1]; · iexact Wrb0_g1
    isplitl [Wrb0_g2]; · iexact Wrb0_g2
    isplitl [Wrb0_g3]; · iexact Wrb0_g3
    isplitl [Wrb1_g0]; · iexact Wrb1_g0
    isplitl [Wrb1_g1]; · iexact Wrb1_g1
    isplitl [Wrb1_g2]; · iexact Wrb1_g2
    isplitl [Wrb1_g3]; · iexact Wrb1_g3
    isplitl [Wrb2_g0]; · iexact Wrb2_g0
    isplitl [Wrb2_g1]; · iexact Wrb2_g1
    isplitl [Wrb2_g2]; · iexact Wrb2_g2
    isplitl [Wrb2_g3]; · iexact Wrb2_g3
    isplitl [Wrb3_g0]; · iexact Wrb3_g0
    isplitl [Wrb3_g1]; · iexact Wrb3_g1
    isplitl [Wrb3_g2]; · iexact Wrb3_g2
    isplitl [Wrb3_g3]; · iexact Wrb3_g3
    isplitl [Sss0]; · iexact Sss0
    isplitl [Sss1]; · iexact Sss1
    isplitl [Sss2]; · iexact Sss2
    isplitl [Ssa0]; · iexact Ssa0
    isplitl [Ssa1]; · iexact Ssa1
    isplitl [Ssa2]; · iexact Ssa2
    isplitl [Ssb0_g0]; · iexact Ssb0_g0
    isplitl [Ssb0_g1]; · iexact Ssb0_g1
    isplitl [Ssb0_g2]; · iexact Ssb0_g2
    isplitl [Ssb0_g3]; · iexact Ssb0_g3
    isplitl [Ssb1_g0]; · iexact Ssb1_g0
    isplitl [Ssb1_g1]; · iexact Ssb1_g1
    isplitl [Ssb1_g2]; · iexact Ssb1_g2
    isplitl [Ssb1_g3]; · iexact Ssb1_g3
    isplitl [Ssb2_g0]; · iexact Ssb2_g0
    isplitl [Ssb2_g1]; · iexact Ssb2_g1
    isplitl [Ssb2_g2]; · iexact Ssb2_g2
    isplitl [Ssb2_g3]; · iexact Ssb2_g3
    isplitl [Ssb3_g0]; · iexact Ssb3_g0
    isplitl [Ssb3_g1]; · iexact Ssb3_g1
    isplitl [Ssb3_g2]; · iexact Ssb3_g2
    isplitl [Ssb3_g3]; · iexact Ssb3_g3
    isplitl [HS]; · iexact HS
    isplitl [HI]; · iexact HI
    isplitl [HO]; · iexact HO
    iexact Ho
  iexact Rz

/-! ## The buffers whole again -/

theorem join_x (c : Dev nD) (f : S512x1024.Idx → F .f32) : iprop(xAt c (segA (zOf c)) fullShare f ∗ xAt c (segA (pk c 2)) fullShare f ∗ xAt c (segA (pk c 1)) fullShare f ∗ xAt c (segA (pk c 0)) fullShare f)
    ⊢ (iprop(∃ f, xAt c Finset.univ fullShare f) : sProp 𝕄) := join4 (ℓ := (c : Thread nD τ).loc cc0_scratch0) (coverA c).1 (coverA c).2.1 (coverA c).2.2.1 (coverA c).2.2.2 fullShare f f f f
theorem join_r (c : Dev nD) (f0 f1 f2 f3 : S4x128x1024.Idx → F .f32) : iprop(rAt c (slotR (zOf c)) fullShare f0 ∗ rAt c (slotR (zp c 0)) fullShare f1 ∗ rAt c (slotR (zp c 1)) fullShare f2 ∗ rAt c (slotR (zp c 2)) fullShare f3)
    ⊢ (iprop(∃ f, rAt c Finset.univ fullShare f) : sProp 𝕄) := join4 (ℓ := (c : Thread nD τ).loc cc0_scratch3) (coverR c).1 (coverR c).2.1 (coverR c).2.2.1 (coverR c).2.2.2 fullShare f0 f1 f2 f3
theorem join_a (c : Dev nD) (f : S512x1024.Idx → F .f32) : iprop(aAt c (segA (gk c 0)) fullShare f ∗ aAt c (segA (gk c 1)) fullShare f ∗ aAt c (segA (gk c 2)) fullShare f ∗ aAt c (segA (gk c 3)) fullShare f)
    ⊢ (iprop(∃ f, aAt c Finset.univ fullShare f) : sProp 𝕄) := join4 (ℓ := (c : Thread nD τ).loc cc0_scratch2) (coverA c).1 (coverA c).2.1 (coverA c).2.2.1 (coverA c).2.2.2 fullShare f f f f
theorem join_l0 (c : Dev nD) (f : S512x1024.Idx → F .f32) : iprop(l0At c (segA (gk c 0)) fullShare f ∗ l0At c (segA (gk c 1)) fullShare f ∗ l0At c (segA (gk c 2)) fullShare f ∗ l0At c (segA (gk c 3)) fullShare f)
    ⊢ (iprop(∃ f, l0At c Finset.univ fullShare f) : sProp 𝕄) := join4 (ℓ := (c : Thread nD τ).loc cc0_scratch8) (coverA c).1 (coverA c).2.1 (coverA c).2.2.1 (coverA c).2.2.2 fullShare f f f f
theorem join_r0 (c : Dev nD) (f : S512x1024.Idx → F .f32) : iprop(r0At c (segA (gk c 0)) fullShare f ∗ r0At c (segA (gk c 1)) fullShare f ∗ r0At c (segA (gk c 2)) fullShare f ∗ r0At c (segA (gk c 3)) fullShare f)
    ⊢ (iprop(∃ f, r0At c Finset.univ fullShare f) : sProp 𝕄) := join4 (ℓ := (c : Thread nD τ).loc cc0_scratch9) (coverA c).1 (coverA c).2.1 (coverA c).2.2.1 (coverA c).2.2.2 fullShare f f f f
theorem join_l1 (c : Dev nD) (f : S256x1024.Idx → F .f32) : iprop(l1At c (segB (gk c 0)) fullShare f ∗ l1At c (segB (gk c 1)) fullShare f ∗ l1At c (segB (gk c 2)) fullShare f ∗ l1At c (segB (gk c 3)) fullShare f)
    ⊢ (iprop(∃ f, l1At c Finset.univ fullShare f) : sProp 𝕄) := join4 (ℓ := (c : Thread nD τ).loc cc0_scratch10) (coverB c).1 (coverB c).2.1 (coverB c).2.2.1 (coverB c).2.2.2 fullShare f f f f
theorem join_r1 (c : Dev nD) (f : S256x1024.Idx → F .f32) : iprop(r1At c (segB (gk c 0)) fullShare f ∗ r1At c (segB (gk c 1)) fullShare f ∗ r1At c (segB (gk c 2)) fullShare f ∗ r1At c (segB (gk c 3)) fullShare f)
    ⊢ (iprop(∃ f, r1At c Finset.univ fullShare f) : sProp 𝕄) := join4 (ℓ := (c : Thread nD τ).loc cc0_scratch11) (coverB c).1 (coverB c).2.1 (coverB c).2.2.1 (coverB c).2.2.2 fullShare f f f f
theorem halves_l0 (c : Dev nD) (g : Fin 4) (f : S512x1024.Idx → F .f32) : iprop(l0At c (segA g) fullShare.right f ∗ l0At c (halfA g 0) fullShare.left f ∗ l0At c (halfA g 1) fullShare.left f)
    ⊢ (l0At c (segA g) fullShare f : sProp 𝕄) := (shareHalves (ℓ := (c : Thread nD τ).loc cc0_scratch8) (segA_halves g) (halfA_disj g) f).2
theorem halves_r0 (c : Dev nD) (g : Fin 4) (f : S512x1024.Idx → F .f32) : iprop(r0At c (segA g) fullShare.right f ∗ r0At c (halfA g 0) fullShare.left f ∗ r0At c (halfA g 1) fullShare.left f)
    ⊢ (r0At c (segA g) fullShare f : sProp 𝕄) := (shareHalves (ℓ := (c : Thread nD τ).loc cc0_scratch9) (segA_halves g) (halfA_disj g) f).2
theorem shares_a (c : Dev nD) (g : Fin 4) (f : S512x1024.Idx → F .f32) : iprop(aAt c (segA g) qR f ∗ aAt c (segA g) qL f ∗ aAt c (segA g) fullShare.right f)
    ⊢ (aAt c (segA g) fullShare f : sProp 𝕄) := (share3 (ℓ := (c : Thread nD τ).loc cc0_scratch2) (segA g) f).2
theorem shares_a0 (c : Dev nD) (f : S512x1024.Idx → F .f32) : iprop(aAt c (segA (gk c 0)) qR f ∗ aAt c (segA (gk c 0)) qL f ∗ aAt c (segA (zOf c)) (qZ 0) f ∗ aAt c (segA (zOf c)) (qZ 1) f
      ∗ aAt c (segA (zOf c)) (qZ 2) f ∗ aAt c (segA (gk c 0)) fullShare.right.right.right f)
    ⊢ (aAt c (segA (gk c 0)) fullShare f : sProp 𝕄) := (share6 (ℓ := (c : Thread nD τ).loc cc0_scratch2) (segA (zOf c)) f).2

/-- The sixteen slots of the gather, back: their counters at zero. -/
theorem slots_sems (c : Dev nD) : slotsFrom m c 0 ⊢ (bigSep Finset.univ fun j : Fin 16 => semVal ((c : Thread nD τ), .dma (gsem j)) 0 : sProp 𝕄) := by
  unfold slotsFrom Slot
  exact bigSep_mono fun j _ => by rw [if_pos (Nat.zero_le _)]; exact sep_and.trans and_elimL
/-- The sixteen slots of the gather, from the counters and the shares of the table. -/
theorem slots_intro (c : Dev nD) : iprop((bigSep Finset.univ fun j : Fin 16 => semVal ((c : Thread nD τ), .dma (gsem j)) 0)
      ∗ bigSep Finset.univ fun j : Fin 16 => eAt m c Finset.univ (Transfers.shareTok fullShare 16 j)) ⊢ (slotsFrom m c 0 : sProp 𝕄) := by
  unfold slotsFrom Slot
  rw [← bigSep_sep']
  exact bigSep_mono fun j _ => by rw [if_pos (Nat.zero_le _)]; exact BI.Entails.refl _

/-- From the body's end, with what was aside: every counter at zero, every scratch buffer whole, the result stored. -/
theorem finish_run (c : Dev nD) : iprop(atEnd m c ∗ (∃ f, rAt (F := F) c (slotR (zOf c)) fullShare f) ∗ Dn (F := F) c (.rs (zOf c)) ∗ Dn (F := F) c (.ag (zOf c)))
    ⊢ (iprop((bigSep Finset.univ fun k : CK => Dn (F := F) c k) ∗ (bigSep Finset.univ fun j : Fin 16 => semVal ((c : Thread nD τ), .dma (gsem j)) 0)
        ∗ bufs (F := F) c ∗ idsAt m c ∗ oAt c (outV m c) ∗ Ow (F := F) c 32) : sProp 𝕄) := by
  rw [bigSep_CK c]
  unfold atEnd bufs
  iintro ⟨⟨Dbar, P1, P2, Drs_p0, Drs_p1, Drs_p2, P6, P7, P8, P9, P10, Dag_g1, P12, Dag_g2, P14, Dag_g3, P16, P17, Drb0_g0, P19, Drb1_g0, P21, P22, P23, Drb0_g1, P25, Drb1_g1, P27, P28, P29, Drb0_g2, P31, Drb1_g2, P33, P34, P35, Drb0_g3, P37, Drb1_g3, P39, P40, Drb2_g0, Drb3_g0, P43, P44, Drb2_g1, Drb3_g1, P47, P48, Drb2_g2, Drb3_g2, P51, P52, Drb2_g3, Drb3_g3, P55, P56, P57, P58, Dss0, P60, Dss1, P62, Dss2, P64, Dsa0, P66, Dsa1, P68, Dsa2, P70, Dsb0_g0, P72, Dsb1_g0, P74, Dsb0_g1, P76, Dsb1_g1, P78, Dsb0_g2, P80, Dsb1_g2, P82, Dsb0_g3, P84, Dsb1_g3, P86, Dsb2_g0, P88, Dsb3_g0, P90, Dsb2_g1, P92, Dsb3_g1, P94, Dsb2_g2, P96, Dsb3_g2, P98, Dsb2_g3, P100, Dsb3_g3, Dex, P103⟩, ⟨%fz, Rz⟩, Drs_z, Dag_z⟩
  ihave HX := (join_x c _) $$ [P6 P62 P60 P58]
  · isplitl [P6]; · iexact P6
    isplitl [P62]; · iexact P62
    isplitl [P60]; · iexact P60
    iexact P58
  ihave HA0 := (shares_a0 c _) $$ [P70 P72 P64 P66 P68 P10]
  · isplitl [P70]; · iexact P70
    isplitl [P72]; · iexact P72
    isplitl [P64]; · iexact P64
    isplitl [P66]; · iexact P66
    isplitl [P68]; · iexact P68
    iexact P10
  ihave HA1 := (shares_a c (gk c 1) _) $$ [P74 P76 P12]
  · isplitl [P74]; · iexact P74
    isplitl [P76]; · iexact P76
    iexact P12
  ihave HA2 := (shares_a c (gk c 2) _) $$ [P78 P80 P14]
  · isplitl [P78]; · iexact P78
    isplitl [P80]; · iexact P80
    iexact P14
  ihave HA3 := (shares_a c (gk c 3) _) $$ [P82 P84 P16]
  · isplitl [P82]; · iexact P82
    isplitl [P84]; · iexact P84
    iexact P16
  ihave HA := (join_a c _) $$ [HA0 HA1 HA2 HA3]
  · isplitl [HA0]; · iexact HA0
    isplitl [HA1]; · iexact HA1
    isplitl [HA2]; · iexact HA2
    iexact HA3
  ihave HR := (join_r c fz _ _ _) $$ [Rz P7 P8 P9]
  · isplitl [Rz]; · iexact Rz
    isplitl [P7]; · iexact P7
    isplitl [P8]; · iexact P8
    iexact P9
  ihave Hl00 := (halves_l0 c (gk c 0) _) $$ [P21 P86 P17]
  · isplitl [P21]; · iexact P21
    isplitl [P86]; · iexact P86
    iexact P17
  ihave Hl01 := (halves_l0 c (gk c 1) _) $$ [P27 P90 P23]
  · isplitl [P27]; · iexact P27
    isplitl [P90]; · iexact P90
    iexact P23
  ihave Hl02 := (halves_l0 c (gk c 2) _) $$ [P33 P94 P29]
  · isplitl [P33]; · iexact P33
    isplitl [P94]; · iexact P94
    iexact P29
  ihave Hl03 := (halves_l0 c (gk c 3) _) $$ [P39 P98 P35]
  · isplitl [P39]; · iexact P39
    isplitl [P98]; · iexact P98
    iexact P35
  ihave Hl0 := (join_l0 c _) $$ [Hl00 Hl01 Hl02 Hl03]
  · isplitl [Hl00]; · iexact Hl00
    isplitl [Hl01]; · iexact Hl01
    isplitl [Hl02]; · iexact Hl02
    iexact Hl03
  ihave Hr00 := (halves_r0 c (gk c 0) _) $$ [P22 P19 P88]
  · isplitl [P22]; · iexact P22
    isplitl [P19]; · iexact P19
    iexact P88
  ihave Hr01 := (halves_r0 c (gk c 1) _) $$ [P28 P25 P92]
  · isplitl [P28]; · iexact P28
    isplitl [P25]; · iexact P25
    iexact P92
  ihave Hr02 := (halves_r0 c (gk c 2) _) $$ [P34 P31 P96]
  · isplitl [P34]; · iexact P34
    isplitl [P31]; · iexact P31
    iexact P96
  ihave Hr03 := (halves_r0 c (gk c 3) _) $$ [P40 P37 P100]
  · isplitl [P40]; · iexact P40
    isplitl [P37]; · iexact P37
    iexact P100
  ihave Hr0 := (join_r0 c _) $$ [Hr00 Hr01 Hr02 Hr03]
  · isplitl [Hr00]; · iexact Hr00
    isplitl [Hr01]; · iexact Hr01
    isplitl [Hr02]; · iexact Hr02
    iexact Hr03
  ihave Hl1 := (join_l1 c _) $$ [P43 P47 P51 P55]
  · isplitl [P43]; · iexact P43
    isplitl [P47]; · iexact P47
    isplitl [P51]; · iexact P51
    iexact P55
  ihave Hr1 := (join_r1 c _) $$ [P44 P48 P52 P56]
  · isplitl [P44]; · iexact P44
    isplitl [P48]; · iexact P48
    isplitl [P52]; · iexact P52
    iexact P56
  ihave HS := (slots_sems m c) $$ P1
  ihave Ho := (out_done (m := m) (c := c)) $$ P57
  isplitl [Dbar Dex Drs_z Drs_p0 Drs_p1 Drs_p2 Dag_z Dag_g1 Dag_g2 Dag_g3 Drb0_g0 Drb0_g1 Drb0_g2 Drb0_g3 Drb1_g0 Drb1_g1 Drb1_g2 Drb1_g3 Drb2_g0 Drb2_g1 Drb2_g2 Drb2_g3 Drb3_g0 Drb3_g1 Drb3_g2 Drb3_g3 Dss0 Dss1 Dss2 Dsa0 Dsa1 Dsa2 Dsb0_g0 Dsb0_g1 Dsb0_g2 Dsb0_g3 Dsb1_g0 Dsb1_g1 Dsb1_g2 Dsb1_g3 Dsb2_g0 Dsb2_g1 Dsb2_g2 Dsb2_g3 Dsb3_g0 Dsb3_g1 Dsb3_g2 Dsb3_g3]
  · isplitl [Dbar]; · iexact Dbar
    isplitl [Dex]; · iexact Dex
    isplitl [Drs_z]; · iexact Drs_z
    isplitl [Drs_p0]; · iexact Drs_p0
    isplitl [Drs_p1]; · iexact Drs_p1
    isplitl [Drs_p2]; · iexact Drs_p2
    isplitl [Dag_z]; · iexact Dag_z
    isplitl [Dag_g1]; · iexact Dag_g1
    isplitl [Dag_g2]; · iexact Dag_g2
    isplitl [Dag_g3]; · iexact Dag_g3
    isplitl [Drb0_g0]; · iexact Drb0_g0
    isplitl [Drb0_g1]; · iexact Drb0_g1
    isplitl [Drb0_g2]; · iexact Drb0_g2
    isplitl [Drb0_g3]; · iexact Drb0_g3
    isplitl [Drb1_g0]; · iexact Drb1_g0
    isplitl [Drb1_g1]; · iexact Drb1_g1
    isplitl [Drb1_g2]; · iexact Drb1_g2
    isplitl [Drb1_g3]; · iexact Drb1_g3
    isplitl [Drb2_g0]; · iexact Drb2_g0
    isplitl [Drb2_g1]; · iexact Drb2_g1
    isplitl [Drb2_g2]; · iexact Drb2_g2
    isplitl [Drb2_g3]; · iexact Drb2_g3
    isplitl [Drb3_g0]; · iexact Drb3_g0
    isplitl [Drb3_g1]; · iexact Drb3_g1
    isplitl [Drb3_g2]; · iexact Drb3_g2
    isplitl [Drb3_g3]; · iexact Drb3_g3
    isplitl [Dss0]; · iexact Dss0
    isplitl [Dss1]; · iexact Dss1
    isplitl [Dss2]; · iexact Dss2
    isplitl [Dsa0]; · iexact Dsa0
    isplitl [Dsa1]; · iexact Dsa1
    isplitl [Dsa2]; · iexact Dsa2
    isplitl [Dsb0_g0]; · iexact Dsb0_g0
    isplitl [Dsb0_g1]; · iexact Dsb0_g1
    isplitl [Dsb0_g2]; · iexact Dsb0_g2
    isplitl [Dsb0_g3]; · iexact Dsb0_g3
    isplitl [Dsb1_g0]; · iexact Dsb1_g0
    isplitl [Dsb1_g1]; · iexact Dsb1_g1
    isplitl [Dsb1_g2]; · iexact Dsb1_g2
    isplitl [Dsb1_g3]; · iexact Dsb1_g3
    isplitl [Dsb2_g0]; · iexact Dsb2_g0
    isplitl [Dsb2_g1]; · iexact Dsb2_g1
    isplitl [Dsb2_g2]; · iexact Dsb2_g2
    isplitl [Dsb2_g3]; · iexact Dsb2_g3
    isplitl [Dsb3_g0]; · iexact Dsb3_g0
    isplitl [Dsb3_g1]; · iexact Dsb3_g1
    isplitl [Dsb3_g2]; · iexact Dsb3_g2
    iexact Dsb3_g3
  isplitl [HS]; · iexact HS
  isplitl [HX HA HR Hl0 Hr0 Hl1 Hr1]
  · isplitl [HX]; · iexact HX
    isplitl [HA]; · iexact HA
    isplitl [HR]; · iexact HR
    isplitl [Hl0]; · iexact Hl0
    isplitl [Hr0]; · iexact Hr0
    isplitl [Hl1]; · iexact Hl1
    iexact Hr1
  isplitl [P2]; · iexact P2
  isplitl [Ho]; · iexact Ho
  iexact P103

end Cert.EmbedProof

end
-- ==== Proof.Launch.lean ====
/-
The launch: the cells' records made, the tokens and the credit dealt, each device's body run, and the whole mesh's run.
-/
module

public import proofs.«01_k».proof.Proof.Ends
public import proofs.«01_k».proof.Proof.Gen.KernelIdeal.Points
public import Idealize.ShloMosaic.Lib.Pipeline.CollectiveSegs

@[expose] public section

set_option maxRecDepth 8000

noncomputable section

namespace Cert.EmbedProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.TalkSites (tallyL)

variable {F : FTy → Type} [FloatOps F]

local notation "𝕄" => MT nD τ sig ℕ (Elt F) ℕ UU ℕ

variable (m : (ℓ : Loc nD τ sig) → Buf (Elt F) ℓ) (ρ : Dev nD → PrngReg)

/-! ## The kernel's own semaphores -/

/-- The kernel's own semaphores: every cell's but the barrier's, and the gather's sixteen. -/
abbrev OK : Type := {k : CK // k ≠ CK.bar} ⊕ Fin 16
@[inherit_doc OK] def osem : OK → SemLoc sig
  | .inl k => csem k.1
  | .inr j => .dma (gsem j)

theorem csem_scoped : ∀ k : CK, k ≠ .bar → (csem k).isScoped .tc = true := by decide
theorem csem_stage : ∀ (k : CK) w s, csem k ≠ .dma ((spec0 w).sem s) := by
  intro k w s; fin_cases w <;> fin_cases s <;> revert k <;> decide
theorem gsem_stage : ∀ (j : Fin 16) w s, (SemLoc.dma (gsem j) : SemLoc sig) ≠ .dma ((spec0 w).sem s) := by
  intro j w s; fin_cases w <;> fin_cases s <;> revert j <;> decide

theorem ownSemFacts : Pipeline.OwnSemFacts cfg0.spec osem where
  isScoped := by
    rintro (k | j)
    · exact csem_scoped k.1 k.2
    · revert j; decide
  inj := by
    rintro (k | j) (k' | j') h
    · exact congrArg _ (Subtype.ext (csem_inj h))
    · exact absurd h.symm (gsem_ne_csem _ _)
    · exact absurd h (gsem_ne_csem _ _)
    · have h' : gsem j = gsem j' := by injection h
      have : j = j' := Fin.ext (by have := congrArg Fin.val h'; simpa [gsem] using this)
      rw [this]
  disj := by
    rintro (k | j) w s
    · exact csem_stage k.1 w s
    · exact gsem_stage j w s

theorem unscopedSems0_eq (c : Dev nD) : (unscopedSems0 c : sProp 𝕄) = Dn (F := F) c .bar := by
  unfold unscopedSems0; rw [bigSep_eq_bigSepL_of_eq [SemLoc.reg barS] (by decide) (by decide)]; rfl

/-- All the semaphores a device's kernel has: its cells and the gather's sixteen. -/
def sems (c : Dev nD) : sProp 𝕄 :=
  iprop((bigSep Finset.univ fun k : CK => Dn (F := F) c k) ∗ bigSep Finset.univ fun j : Fin 16 => semVal ((c : Thread nD τ), .dma (gsem j)) 0)

theorem sems_eq (c : Dev nD) : iprop(Pipeline.ownSems0 (Ix := ℕ) (Name := ℕ) (U := UU) (Lvl := ℕ) (Val := Elt F) (τ := τ) osem c ∗ unscopedSems0 c) ⊣⊢ (sems (F := F) c) := by
  have hO : Pipeline.ownSems0 (Ix := ℕ) (Name := ℕ) (U := UU) (Lvl := ℕ) (Val := Elt F) (τ := τ) osem c
      = iprop((bigSep (Finset.univ.erase CK.bar) fun k : CK => Dn (F := F) c k) ∗ bigSep Finset.univ fun j : Fin 16 => (semVal ((c : Thread nD τ), .dma (gsem j)) 0 : sProp 𝕄)) := by
    unfold Pipeline.ownSems0
    rw [bigSep_univ_sum, ← bigSep_subtype_ne]
    rfl
  rw [hO, unscopedSems0_eq]
  unfold sems
  have hE : (bigSep Finset.univ fun k : CK => Dn (F := F) c k) = iprop(Dn (F := F) c .bar ∗ bigSep (Finset.univ.erase CK.bar) fun k : CK => Dn (F := F) c k) :=
    bigSep_erase (Finset.mem_univ CK.bar)
  rw [hE]
  constructor
  · iintro ⟨⟨H1, H2⟩, H3⟩
    isplitr [H2]
    · isplitl [H3]; · iexact H3
      iexact H1
    iexact H2
  · iintro ⟨⟨H3, H1⟩, H2⟩
    isplitr [H3]
    · isplitl [H1]; · iexact H1
      iexact H2
    iexact H3

/-! ## The records, made -/

/-- What the launch deals device `c`: its cells' states and positions, and its cells' tokens. -/
def G (c : Dev nD) : sProp 𝕄 :=
  iprop((bigSep Finset.univ fun k : CK => roundState ER (sched m) (kcell (c, k)) 0)
    ∗ (bigSep Finset.univ fun k : CK => atPos ER (kcell (c, k)) 0 ∅ 0) ∗ (bigSep Finset.univ fun k : CK => reached ER (kcell (c, k)) 0) ∗ toks c)

theorem fund : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CK => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

theorem unused_eq (c : Dev nD) : (Finset.univ.filter fun k : CK => ¬ Used (c, k)) = {.rs (zOf c), .ag (zOf c)} := by
  ext k
  simp only [Finset.mem_filter, Finset.mem_univ, true_and, Finset.mem_insert, Finset.mem_singleton]
  cases k <;> simp [Used, eq_comm]

/-- The two cells of a device that nothing pays, and its gather's counters. -/
def spare (c : Dev nD) : sProp 𝕄 :=
  iprop((Dn (F := F) c (.rs (zOf c)) ∗ Dn (F := F) c (.ag (zOf c))) ∗ bigSep Finset.univ fun j : Fin 16 => semVal ((c : Thread nD τ), .dma (gsem j)) 0)

/-- The positions, the tokens to pay with and the unused semaphores of a device. -/
def lin (c : Dev nD) : sProp 𝕄 :=
  iprop((bigSep Finset.univ fun k : CK => atPos ER (kcell (c, k)) 0 ∅ 0) ∗ payToks (F := F) c ∗ spare (F := F) c)

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k : CK => if Used (c, k) then iprop(∃ κ : ℕ, cellInv ER (sched m) κ (kcell (c, k))) else iprop(emp))
          ∗ (bigSep Finset.univ fun k : CK => atPos ER (kcell (c, k)) 0 ∅ 0) ∗ (bigSep Finset.univ fun k : CK => reached ER (kcell (c, k)) 0) ∗ toks (F := F) c ∗ spare (F := F) c) := by
  unfold G
  iintro ⟨Hos, Hus, Hst, Hat, Hr, Htok⟩
  ihave Hv := (sems_eq (F := F) c).1 $$ [Hos Hus]
  · isplitl [Hos] <;> iassumption
  unfold sems
  icases Hv with ⟨Hv, Hg⟩
  ihave Hv := (show (bigSep Finset.univ fun k : CK => Dn (F := F) c k) ⊢ iprop((bigSep (Finset.univ.filter fun k : CK => Used (c, k)) fun k : CK => Dn (F := F) c k)
      ∗ bigSep (Finset.univ.filter fun k : CK => ¬ Used (c, k)) fun k : CK => Dn (F := F) c k) from Entails.of_eq (bigSep_filter_split Finset.univ (fun k : CK => Used (c, k)))) $$ Hv
  icases Hv with ⟨Hv, Hu⟩
  ihave Hst := (show (bigSep Finset.univ fun k : CK => (roundState ER (sched m) (kcell (c, k)) 0 : sProp 𝕄)) ⊢ bigSep (Finset.univ.filter fun k : CK => Used (c, k)) fun k : CK => roundState ER (sched m) (kcell (c, k)) 0
    from bigSep_subset (Finset.filter_subset (fun k : CK => Used (c, k)) Finset.univ)) $$ Hst
  imod (show iprop((bigSep (Finset.univ.filter fun k : CK => Used (c, k)) fun k : CK => Dn (F := F) c k)
        ∗ bigSep (Finset.univ.filter fun k : CK => Used (c, k)) fun k : CK => roundState ER (sched m) (kcell (c, k)) 0)
      ⊢ (|={Set.univ}=> bigSep (Finset.univ.filter fun k : CK => Used (c, k)) fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  ihave Hinv := (show (bigSep (Finset.univ.filter fun k : CK => Used (c, k)) fun k => (iprop(∃ κ : ℕ, cellInv ER (sched m) κ (kcell (c, k))) : sProp 𝕄))
      ⊢ bigSep Finset.univ fun k : CK => if Used (c, k) then iprop(∃ κ : ℕ, cellInv ER (sched m) κ (kcell (c, k))) else iprop(emp) from Entails.of_eq (bigSep_filter _ _ _)) $$ Hinv
  isplitl [Hinv]; · iexact Hinv
  isplitl [Hat]; · iexact Hat
  isplitl [Hr]; · iexact Hr
  isplitl [Htok]; · iexact Htok
  unfold spare
  isplitl [Hu]
  · iapply (show (bigSep (Finset.univ.filter fun k : CK => ¬ Used (c, k)) fun k : CK => Dn (F := F) c k) ⊢ iprop(Dn (F := F) c (.rs (zOf c)) ∗ Dn (F := F) c (.ag (zOf c))) from by
      rw [unused_eq, bigSep_insert (by simp), bigSep_singleton]
      exact BI.Entails.refl _)
    iexact Hu
  iexact Hg

/-- The records but for the levels. -/
def recs (K : Dev nD × CK → ℕ) : sProp 𝕄 :=
  iprop((bigSep (Finset.univ.filter Used) fun ck : Dev nD × CK => cellInv ER (sched m) (K ck) (kcell ck))
    ∗ bigSep Finset.univ fun ck : Dev nD × CK => reached ER (kcell ck) 0)
instance recs_persistent (K : Dev nD × CK → ℕ) : BI.Persistent (recs m K) := by unfold recs; infer_instance

/-- What the global step leaves device `c`. -/
def G' (c : Dev nD) : sProp 𝕄 := iprop(∃ K, recs m K ∗ lin (F := F) c)

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CK => if Used (c, k) then iprop(∃ κ : ℕ, cellInv ER (sched m) κ (kcell (c, k))) else iprop(emp))
          ∗ (bigSep Finset.univ fun k : CK => atPos ER (kcell (c, k)) 0 ∅ 0) ∗ (bigSep Finset.univ fun k : CK => reached ER (kcell (c, k)) 0) ∗ toks (F := F) c ∗ spare (F := F) c) : sProp 𝕄)
      ⊢ bigSep Finset.univ (G' m) := by
  have hF : (bigSep Finset.univ fun ck : Dev nD × CK => if Used ck then iprop(∃ κ : ℕ, cellInv ER (sched m) κ (kcell ck)) else (iprop(emp) : sProp 𝕄))
      = bigSep (Finset.univ.filter Used) fun ck : Dev nD × CK => iprop(∃ κ : ℕ, cellInv ER (sched m) κ (kcell ck)) := (bigSep_filter _ _ _).symm
  rw [bigSep_sep', bigSep_sep', bigSep_sep', bigSep_sep',
    ← bigSep_univ_prod (fun ck : Dev nD × CK => if Used ck then iprop(∃ κ : ℕ, cellInv ER (sched m) κ (kcell ck)) else (iprop(emp) : sProp 𝕄)),
    ← bigSep_univ_prod (fun ck : Dev nD × CK => (reached ER (kcell ck) 0 : sProp 𝕄)), hF, toks_around]
  iintro ⟨HI, Hat, #HR, Htk, Hsp⟩
  ihave HK := (BI.bigSep_exists_pi (Finset.univ.filter Used) (fun (ck : Dev nD × CK) (κ : ℕ) => (cellInv ER (sched m) κ (kcell ck) : sProp 𝕄))) $$ HI
  icases HK with ⟨%K, #HI⟩
  iapply (with_persistent (R := recs m K) (Φ := lin (F := F)) fun c _ => show _ ⊢ G' m c from by
    unfold G'; iintro ⟨#H, Hl⟩; iexists K; isplitr; · iexact H
    iexact Hl)
  isplitr
  · unfold recs; isplitl; · iexact HI
    iexact HR
  · unfold lin
    rw [bigSep_sep', bigSep_sep']
    isplitl [Hat]; · iexact Hat
    isplitl [Htk]; · iexact Htk
    iexact Hsp

theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The kernel's proof data -/

/-- What device `c` owes at the start. -/
abbrev O₀ (c : Dev nD) : CellTallies nD τ sig ℕ := tallyL (dl c 0)

/-- What device `c`'s kernel starts with. -/
def start (c : Dev nD) : sProp 𝕄 :=
  iprop((∃ K, records m K) ∗ lin (F := F) c ∗ Pipeline.launchCred O₀ c ∗ bigSep Finset.univ fun j : Fin 16 => eAt m c Finset.univ (Transfers.shareTok fullShare 16 j))

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => idsV m c
    | ⟨1, _⟩ => outV m c
  Φ t := match t with
    | ⟨0, _⟩ => iprop(start m c ∗ bufs (F := F) c)
    | ⟨_ + 1, _⟩ => iprop(sems (F := F) c ∗ bufs (F := F) c)
  q _ := fullShare
  owed t := match t with
    | ⟨0, _⟩ => O₀ c
    | ⟨_ + 1, _⟩ => 0

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer, holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((start m c ∗ bufs (F := F) c) ∗ (dats m ρ 0 c).owesAt 0 t0_0.castSucc
    ∗ (∃ d, stg c cc0_stg0_0 ((dats m ρ 0 c).before (0 : Fin 2) t0_0 d))
    ∗ (∃ d, stg c cc0_stg1_0 ((dats m ρ 0 c).before (1 : Fin 2) t0_0 d)))
def bodyPost (c : Dev nD) : sProp 𝕄 :=
  iprop((sems (F := F) c ∗ bufs (F := F) c) ∗ (dats m ρ 0 c).owesAt 0 t0_0.succ ∗ stg c cc0_stg0_0 (idsV m c) ∗ stg c cc0_stg1_0 (outV m c))

/-- The body, from what the launch holds to what it takes back. -/
theorem sound_body {c : Dev nD} {h0 h1 h2 h3 h5 h6 h11 h12 h13 h14} :
    bodyPre m ρ c ⊢ wpc c (cc0_body (F := F) (Memref.whole cc0_stg0_0) h0 (Memref.whole main_arg1) h1 (Memref.whole cc0_stg1_0) h2 (Memref.whole cc0_scratch0) h3 cc0_scratch1 (Memref.whole cc0_scratch2) h5 (Memref.whole cc0_scratch3) h6 cc0_scratch4 cc0_scratch5 cc0_scratch6 cc0_scratch7 (Memref.whole cc0_scratch8) h11 (Memref.whole cc0_scratch9) h12 (Memref.whole cc0_scratch10) h13 (Memref.whole cc0_scratch11) h14 cc0_scratch12 cc0_scratch13 cc0_scoped0) (fun _ => bodyPost m ρ c) := by
  unfold bodyPre start
  iintro ⟨⟨⟨⟨%K, HK⟩, Hl, Hc, He⟩, Hb⟩, Ho, ⟨%d0, %g0, %hg0, Hi⟩, ⟨%d1, %g1, %hg1, Hout⟩⟩
  have hx : g0 = idsV m c := by rw [hg0]; unfold Dat.before; rw [if_pos (fetch0_0 t0_0)]; rfl
  subst hx
  unfold Dat.owesAt Pipeline.owesWithin
  icases Ho with ⟨%W, %hW, HO⟩
  unfold lin spare
  icases Hl with ⟨Hat, Htk, ⟨Hu1, Hu2⟩, Hg⟩
  ihave HS := (slots_intro m c) $$ [Hg He]
  · isplitl [Hg]; · iexact Hg
    iexact He
  ihave Hout := (out_init (m := m) (c := c)) $$ [Hout]
  · iexists g1; iexact Hout
  ihave H := (start_run m c) $$ [Hat Htk Hc Hb HS Hi HO Hout]
  · isplitl [Hat]; · iexact Hat
    isplitl [Htk]; · iexact Htk
    isplitl [Hc]; · iexact Hc
    isplitl [Hb]; · iexact Hb
    isplitl [HS]; · iexact HS
    isplitl [Hi]; · iexact Hi
    isplitl [HO]; · unfold Ow; iexists W; iexact HO
    iexact Hout
  icases H with ⟨Hs, Hz⟩
  iapply (wp_wand_r _ _ _ (Q := fun _ => atEnd m c))
  isplitl [HK Hs]
  · iapply (body_run m K)
    isplitl [HK]; · iexact HK
    iexact Hs
  iintro %u He
  ihave H := (finish_run m c) $$ [He Hz Hu1 Hu2]
  · isplitl [He]; · iexact He
    isplitl [Hz]; · iexact Hz
    isplitl [Hu1]; · iexact Hu1
    iexact Hu2
  icases H with ⟨HC, HG, HB, HI, Hout, HO⟩
  unfold bodyPost sems Dat.owesAt Pipeline.owesWithin
  isplitl [HC HG HB]
  · isplitl [HC HG]
    · isplitl [HC]; · iexact HC
      iexact HG
    iexact HB
  isplitl [HO]
  · unfold Ow
    icases HO with ⟨%W', HO⟩
    iexists W'
    isplitr; · ipureintro; exact fun _ _ => Or.inl trivial
    iexact HO
  isplitl [HI]
  · iexists _; isplitr; · (ipureintro; rfl)
    iexact HI
  iexists _; isplitr; · (ipureintro; rfl)
  iexact Hout

theorem body_obligation (c : Dev nD) : BodyObligation (dats (F := F) m ρ 0 c) (defs₀ (F := F)) 𝒱₀ 0 Set.univ := fun t => by
  rw [fin_N0 t]
  rw [bigSep_W0, bigSep_W0]
  simp only [owns_whole_eq]
  exact sound_body m ρ

/-! ## The run -/

theorem share_eq (c : Dev nD) (w : Fin cfg0.W) : (dats m ρ 0 c).share w = fullShare := by unfold Dat.share; split <;> rfl

/-- The share of the table that is not lent to the gather's copies. -/
def rest (c : Dev nD) : sProp 𝕄 := eAt m c Finset.univ (Transfers.shareDrop fullShare 16)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ rest m c) := by
  rw [Pipeline.unscopedRestP_none, unscopedRest0_eq]
  unfold G' start rest
  iintro ⟨Hr, #Hlev, Hcr, -, ⟨%K, HK, Hl⟩⟩
  ihave Hr := (Transfers.pointsTo_toks_split (ℓ := (c : Thread nD τ).loc main_arg1) (S := Finset.univ) fullShare 16) $$ Hr
  icases Hr with ⟨Hr, Ht⟩
  imodintro
  isplitr [Hr]
  · isplitl [HK]
    · iexists K; unfold records recs
      icases HK with ⟨HK1, HK2⟩
      isplitl [HK1]; · iexact HK1
      isplitl [HK2]; · iexact HK2
      iexact Hlev
    isplitl [Hl]; · iexact Hl
    isplitl [Hcr]; · iexact Hcr
    iexact Ht
  · iexact Hr

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ bufs (F := F) c) from rfl, scopedRest0_eq]
  unfold bufs
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(sems (F := F) c ∗ bufs (F := F) c) from rfl, scopedRest0_eq]
  unfold bufs
  iintro ⟨Hs, Hr⟩
  ihave Hs := (sems_eq (F := F) c).2 $$ Hs
  icases Hs with ⟨Ho, Hu⟩
  isplitl [Hu]; · iexact Hu
  isplitl [Ho]; · iexact Ho
  iexact Hr

theorem lv_stage (c : Dev nD) (w : Fin cfg0.W) (s) : lv ((c : Thread nD τ), .dma ((cfg0.spec w).sem s)) 0 ≤ 0 := by
  fin_cases w <;> fin_cases s <;> (revert c; decide)

theorem waits (c : Dev nD) : (levAts L lv : sProp 𝕄) ⊢ Pipeline.cellsWaits cfgs (dats m ρ) 0 0 c :=
  Pipeline.cellsWaits_intro cfgs (dats m ρ) 0 0 c fun w s t => by
    rcases t with ⟨_ | _, ht⟩
    · exact mayWait_dl c _ 0 0 (lv_stage c w s) (by decide)
    · show _ ⊢ MayWait _ _ _ 0
      rw [MayWait_zero]; iintro -; iempintro

def u₀ : UU := (initOf (Pipeline.cells cfgs cellOf_inj) (Pipeline.launchToks cfgs cellOf_inj), (initOf allCells allToks, 1))

/-- The windows' arrays after the run. -/
def finalA (c : Dev nD) (w : Fin cfg0.W) : Buf (Elt F) ((cfg0.win w).arr.view.loc (c : Thread nD τ)) := (dats m ρ 0 c).arrAt w cfg0.N

/-- From any memory with zero counters, for any float values: every weakly fair execution of the sixteen kernels terminates,
    without a fault; each window's array ends at `finalA`, the table as it began, every counter at zero. -/
theorem run_main : θ_run defs (onTc (τ := τ) (main (F := F))) (s₀ m ρ) (fun r =>
    (∀ c : Dev nD, (∀ w : Fin cfg0.W, r.2.mem ((cfg0.win w).arr.view.loc (c : Thread nD τ)) = finalA m ρ c w)
      ∧ r.2.mem ((c : Thread nD τ).loc main_arg1) = m ((c : Thread nD τ).loc main_arg1)) ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave HX := (show BI.own (embR (initOf allCells allToks, (1 : Counters))) ⊢ (BI.own (ER (initOf allCells allToks)) : sProp 𝕄) from BI.Entails.refl _) $$ HX
      imod (fund m) $$ HX with HG
      imodintro
      isplitl [HP]; · iexact HP
      iexact HG)
    (hglob := glob m)
    (hA := fun _ _ => rfl) (hpf := fun _ k => k.elim0)
    (X := start m) (Y := fun c => unscopedSems0 c) (Z := rest m)
    (hX := start_intro m ρ) (hin := phi0_intro m ρ) (hout := phi1_exit m ρ)
    (QY := fun c s => s.mem ((c : Thread nD τ).loc main_arg1) = m ((c : Thread nD τ).loc main_arg1)
      ∧ ∀ sm : SemLoc sig, sm.isScoped .tc = false → s.sem ((c.tc : Thread nD τ), sm) = 0)
    (hY := fun c s' => by
      iintro ⟨Hu, Hr, HSI⟩
      ihave H := (show iprop(rest m c ∗ SI s') ⊢ iprop(⌜s'.mem.mem ((c : Thread nD τ).loc main_arg1) = m ((c : Thread nD τ).loc main_arg1)⌝ ∗ SI s') from by
        have h := pointsTo_read_all (Val := Elt F) (Ix := ℕ) (Name := ℕ) (U := UU) (Lvl := ℕ) (Finset.univ : Finset (Fin 1)) (fun _ => (c : Thread nD τ).loc main_arg1) (fun _ => embV m c) s' (Transfers.shareDrop fullShare 16)
        rw [bigSep_eq_bigSepL_of_eq [(0 : Fin 1)] (by decide) (by decide)] at h
        iintro ⟨Hr, HS⟩
        unfold rest
        ihave H := (show iprop(eAt m c Finset.univ (Transfers.shareDrop fullShare 16) ∗ SI s') ⊢ _ from h) $$ [Hr HS]
        · isplitl [Hr]; · iexact Hr
          iexact HS
        icases H with ⟨%he, HS⟩
        isplitr; · ipureintro; exact he 0 (Finset.mem_univ _)
        iexact HS) $$ [Hr HSI]
      · isplitl [Hr]; · iexact Hr
        iexact HSI
      icases H with ⟨%he, HSI⟩
      imod (Pipeline.unscopedSems0_read (X := unscopedSems0 c) (c := c) fupd_intro s') $$ [Hu HSI] with ⟨%hs, HSI⟩
      · isplitl [Hu] <;> iassumption
      imodintro
      isplitr; · ipureintro; exact ⟨he, hs⟩
      iexact HSI)
    (hQ := fun _ h hs => ⟨fun c => ⟨fun w => (h c).1 w, (h c).2.2.1⟩, sem_eq_zero hs fun c => (h c).2.2.2⟩)

/-- The token numbers' array after the run holds what it held. -/
theorem finalA_ids (c : Dev nD) : finalA m ρ c (0 : Fin 2) = (s₀ m ρ).mem (win0_0.arr.view.loc (c : Thread nD τ)) :=
  (dats (F := F) m ρ 0 c).arrAt_in (0 : Fin 2) rfl _

end Cert.EmbedProof

end
-- ==== Proof.Values.lean ====
/-
What the result array holds after the run: the result window's one block is the whole array, so it holds what the body left
in its staging buffer; and the token numbers' window, likewise, is the whole argument.
-/
module

public import proofs.«01_k».proof.Proof.Launch

@[expose] public section

set_option maxRecDepth 8000

noncomputable section

namespace Cert.EmbedProof

open Cert.KernelIdeal Cert.KernelIdeal.Gen
open Idealize.ShloMosaic
open Idealize.ShloMosaic.TcCoe
open Idealize.SL.Sem

variable {F : FTy → Type} [FloatOps F]
variable (m : (ℓ : Loc nD τ sig) → Buf (Elt F) ℓ) (ρ : Dev nD → PrngReg)

/-- The staged token numbers are the argument. -/
theorem idsV_eq (c : Dev nD) : idsV m c = m ((c : Thread nD τ).loc main_arg0) := by
  have hz : (fun a => (win0_0.index (0 : Fin 1)) a * main_arg0.ty.shape.size a) = fun _ => 0 :=
    funext fun a => by fin_cases a; decide
  exact Memref.read_access_unit_zero (Elt F) main_arg0 hz (fun a => by fin_cases a; decide) _

/-- The result array after the run. -/
theorem finalA_out (c : Dev nD) : finalA m ρ c (1 : Fin 2) = outV m c :=
  (dats (F := F) m ρ 0 c).arrAt_eq_of_after_last (1 : Fin 2) (0 : Fin 1)
    ⟨flush0_1 _, fun t _ => Fin.ext (by have := t.isLt; change t.val < 1 at this; show t.val = 0; omega), fun a => by fin_cases a <;> exact ⟨rfl, rfl⟩⟩ (outV m c) (fun j => rfl)

/-- The run, read at the result and the arguments. -/
theorem run_values : θ_run defs (onTc (τ := τ) (main (F := F))) (s₀ m ρ) (fun r =>
    (∀ c : Dev nD, r.2.mem ((c : Thread nD τ).loc main_v1) = outV m c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => ⟨((h.1 c).1 (1 : Fin 2)).trans (finalA_out m ρ c), ((h.1 c).1 (0 : Fin 2)).trans (finalA_ids m ρ c), (h.1 c).2⟩, h.2⟩)
    (run_main m ρ)

end Cert.EmbedProof

end
-- ==== Proof.Same.lean ====
/-
The printed program and the one read in exact arithmetic have the same text, so at the same float values they are the same program.
-/
module

public import proofs.«01_k».proof.Proof.Gen.Kernel
public import proofs.«01_k».proof.Proof.Gen.KernelIdeal

@[expose] public section

set_option maxRecDepth 8000
set_option maxHeartbeats 4000000

noncomputable section

namespace Cert.Proof

open Idealize.ShloMosaic Idealize.ShloMosaic.TcCoe

variable {F : FTy → Type} [FloatOps F]

/-- The two bodies are one. -/
theorem body_eq : @Cert.Kernel.cc0_body F _ _ = @Cert.KernelIdeal.cc0_body F _ _ := rfl

/-- So are the tables of bodies, -/
theorem bodies_eq : Cert.Kernel.defs₀ (F := F) = Cert.KernelIdeal.defs₀ (F := F) := by
  unfold Cert.Kernel.defs₀ Cert.KernelIdeal.defs₀
  refine congrArg (Defs.onTc (nD := Cert.Kernel.nD) (τ := Cert.Kernel.τ) (sig := Cert.Kernel.sig) (Val := Elt F) (Λ := Cert.Kernel.Λ₀)) (funext fun ℓ => funext fun a => ?_)
  match ℓ, a with
  | ⟨0, _⟩, (t, s) => dsimp only; rw [body_eq]
  | ⟨_ + 1, h⟩, _ => exact absurd h (Nat.not_lt.2 (Nat.le_add_left _ _))

/-- with the pipeline's region, -/
theorem defs_eq : Cert.Kernel.defs (F := F) = Cert.KernelIdeal.defs (F := F) :=
  congrArg (Pipeline.defs (Cert.KernelIdeal.pcfgs (F := F))) bodies_eq

/-- and the programs. -/
theorem main_eq : Cert.Kernel.main (F := F) = Cert.KernelIdeal.main (F := F) := rfl

end Cert.Proof

end
-- ==== Proof.Lookup.lean ====
/-
The kernel's result is the lookup. If every token number is in the table, each row of a gathered quarter is owned by exactly
one device of a column: the one at the `z` whose block the token's row lies in. The other three hold zeros there, so the sum
over the column is the table's row.
-/
module

public import proofs.«01_k».proof.Proof.Contents
public import Idealize.ShloMosaic.Lib.ValueIdx
public import Idealize.ShloMosaic.Lib.Pointwise
public import Idealize.ShloMosaic.Lib.StableHlo.Predicate

@[expose] public section

set_option maxRecDepth 8000

noncomputable section

namespace Cert.EmbedLookup

open Cert.KernelIdeal Cert.KernelIdeal.Gen Cert.EmbedProof
open Idealize.ShloMosaic
open Idealize.ShloMosaic.ValueIdx hiding ix0 ix1 ix2 ix3 ix4 ix5
open Idealize.ShloMosaic.TcCoe

/-! ## Which device owns a row -/

/-- The first row of device `c`'s block, as the kernel computes it. -/
theorem base_eq (c : Dev nD) :
    Scalar.muli (Scalar.remsi (Scalar.divsi (Dev.word c) 1#32) 4#32) 16384#32 = BitVec.ofNat 32 (16384 * (zOf c).val) := by
  revert c; decide

/-- The row of a token, from the first row of the block. -/
theorem off_eq (c : Dev nD) (w : BitVec 32) : k0_off10 c w 0 = (w - BitVec.ofNat 32 (16384 * (zOf c).val)).toNat := by
  rw [← base_eq]; rfl

/-- Where the token is in the table, device `c` owns its row exactly if its block is the row's. -/
theorem own_iff (c : Dev nD) (w : BitVec 32) (hw : w.toNat < 65536) : Own c w ↔ w.toNat / 16384 = (zOf c).val := by
  have hz := (zOf c).isLt
  have hr : Own c w ↔ Scalar.cmpi .ne (Scalar.extui (Scalar.andi (Scalar.cmpi .sge (w - BitVec.ofNat 32 (16384 * (zOf c).val)) (0#32))
      (Scalar.cmpi .slt (w - BitVec.ofNat 32 (16384 * (zOf c).val)) (16384#32)))) (0#32) = (1#1 : BitVec 1) := by
    rw [← base_eq]; rfl
  constructor
  · intro h
    have := own_lt c w h
    rw [off_eq, BitVec.toNat_sub, BitVec.toNat_ofNat] at this
    omega
  · intro h
    have hv : (w - BitVec.ofNat 32 (16384 * (zOf c).val)).toNat < 16384 := by
      rw [BitVec.toNat_sub, BitVec.toNat_ofNat]; omega
    rw [hr]
    generalize w - BitVec.ofNat 32 (16384 * (zOf c).val) = v at hv
    have e1 : (Scalar.cmpi .sge v (0#32) : BitVec 1) = 1#1 := (Idealize.ShloMosaic.StableHlo.Predicate.sge_iff_toNat (by omega) (by decide)).mpr (by simp)
    have e2 : (Scalar.cmpi .slt v (16384#32) : BitVec 1) = 1#1 := (Idealize.ShloMosaic.StableHlo.Predicate.slt_iff_toNat (by omega) (by decide)).mpr (by simpa using hv)
    rw [e1, e2]; decide

/-- and its row of the block is what is left of the token's row. -/
theorem locOf_eq (c : Dev nD) (w : BitVec 32) (h : w.toNat / 16384 = (zOf c).val) : (locOf c w).val = w.toNat % 16384 := by
  have hz := (zOf c).isLt
  show k0_off10 c w 0 % 16384 = _
  rw [off_eq, BitVec.toNat_sub, BitVec.toNat_ofNat]
  omega

/-! ## The values, in exact arithmetic -/

section

variable (m : (ℓ : Loc nD τ sig) → Buf (Elt Ideal) ℓ)

/-- The stored zeros are zero. -/
theorem pay1_eq (i : S512x1024.Idx) : (k0_pay1 (F := Ideal) i : EReal) = 0 := by
  unfold k0_pay1; pointwise

/-- The kernel's sum of four, at an element. -/
theorem pay2_eq (x : Vec Ideal S128x1024 .f32) (y1 y2 y3 : Vec Ideal S1x128x1024 .f32) (a : Fin 128) (b : Fin 1024) :
    (k0_pay2 (F := Ideal) x y1 y2 y3 (ixS a b) : EReal) = ((x (ixS a b) + y1 (ValueIdx.ix3 (0 : Fin 1) a b)) + y2 (ValueIdx.ix3 (0 : Fin 1) a b)) + y3 (ValueIdx.ix3 (0 : Fin 1) a b) := by
  unfold k0_pay2; pointwise; rfl

variable (w : S2048.Idx → BitVec 32) (E : (⟨2, ![65536, 1024]⟩ : Shape).Idx → EReal)

/-- Every device's token numbers are `w`, and its block of the table is its rows of `E`. -/
structure Shared : Prop where
  ids : ∀ c, idsV m c = w
  emb : ∀ c (a : Fin 16384) (b : Fin 1024), (embV m c (ixE a b) : EReal) = E (ValueIdx.ix2 (⟨16384 * (zOf c).val + a.val, by omega⟩ : Fin 65536) b)
  lt : ∀ i, (w i).toNat < 65536

variable {m w E} (H : Shared m w E)
include H

/-- Row `r` of the lookup. -/
def rowOf (r : Fin 2048) (b : Fin 1024) : EReal := E (ValueIdx.ix2 (⟨(w (ixI r)).toNat, H.lt _⟩ : Fin 65536) b)

/-- A gathered quarter at an element: the table's, on the owner; zero elsewhere. -/
theorem XV_eq (c : Dev nD) (t : Fin 512) (b : Fin 1024) (r : Fin 2048) (hr : r.val = 512 * (rOf c).val + t.val) :
    (XV m c (ix512 t b) : EReal) = if (w (ixI r)).toNat / 16384 = (zOf c).val then rowOf H r b else 0 := by
  have ht : tokW m c t = w (ixI r) := by
    unfold tokW; rw [H.ids]; congr 2; exact Fin.ext hr.symm
  show (if Own c (tokW m c t) then embV m c (ixE (locOf c (tokW m c t)) b) else k0_pay1 (F := Ideal) (ix512 t b) : EReal) = _
  rw [ht]
  have hlt := H.lt (ixI r)
  by_cases h : (w (ixI r)).toNat / 16384 = (zOf c).val
  · rw [if_pos ((own_iff c _ hlt).mpr h), if_pos h, H.emb]
    unfold rowOf; congr 2; apply Fin.ext
    show 16384 * (zOf c).val + (locOf c (w (ixI r))).val = (w (ixI r)).toNat
    rw [locOf_eq c _ h]; omega
  · rw [if_neg (fun h' => h ((own_iff c _ hlt).mp h')), if_neg h, pay1_eq]

/-- The summed quarter at an element: the table's. -/
theorem accV_eq (c : Dev nD) (t : Fin 512) (b : Fin 1024) (r : Fin 2048) (hr : r.val = 512 * (rOf c).val + t.val) :
    (accV m c (ix512 t b) : EReal) = rowOf H r b := by
  have hg : t.val / 128 < 4 := by omega
  obtain ⟨d, hd⟩ : ∃ d, d = zAt c ⟨t.val / 128, hg⟩ := ⟨_, rfl⟩
  have hz : (zOf d).val = t.val / 128 := by rw [hd, zOf_zAt]
  have hrd : rOf d = rOf c := by rw [hd, rOf_zAt]
  have e1 : accV m c (ix512 t b) = accSeg m d (ixS ⟨t.val % 128, Nat.mod_lt _ (by decide)⟩ b) := by rw [hd]; rfl
  have hix : ∀ (q : Fin 512), q.val = 128 * (zOf d).val + t.val % 128 → ix512 q b = ix512 t b := fun q hq => by
    congr 1; apply Fin.ext; omega
  have hx : xOwn m d (ixS ⟨t.val % 128, Nat.mod_lt _ (by decide)⟩ b) = XV m d (ix512 t b) := by
    rw [← hix ⟨128 * (zOf d).val + t.val % 128, by omega⟩ rfl]; rfl
  have hs : ∀ g : Fin 4, rsAt m d g (ValueIdx.ix3 (0 : Fin 1) (⟨t.val % 128, Nat.mod_lt _ (by decide)⟩ : Fin 128) b) = XV m (zAt d g) (ix512 t b) := fun g => by
    rw [← hix ⟨128 * (zOf d).val + t.val % 128, by omega⟩ rfl]; rfl
  rw [e1]
  unfold accSeg
  rw [pay2_eq, hx, hs, hs, hs, XV_eq H d t b r (by rw [hrd]; exact hr), XV_eq H _ t b r (by rw [rOf_zAt, hrd]; exact hr),
    XV_eq H _ t b r (by rw [rOf_zAt, hrd]; exact hr), XV_eq H _ t b r (by rw [rOf_zAt, hrd]; exact hr), zOf_zAt, zOf_zAt, zOf_zAt]
  have hlt := H.lt (ixI r)
  have ho : (w (ixI r)).toNat / 16384 < 4 := by omega
  generalize (w (ixI r)).toNat / 16384 = o at ho
  generalize rowOf H r b = e
  have h4 : ∀ z : Fin 4, ∀ o : Fin 4, (o = z ∧ o ≠ z + 1 ∧ o ≠ z + 2 ∧ o ≠ z + 3) ∨ (o ≠ z ∧ o = z + 1 ∧ o ≠ z + 2 ∧ o ≠ z + 3)
      ∨ (o ≠ z ∧ o ≠ z + 1 ∧ o = z + 2 ∧ o ≠ z + 3) ∨ (o ≠ z ∧ o ≠ z + 1 ∧ o ≠ z + 2 ∧ o = z + 3) := by decide
  have hif : ∀ z : Fin 4, (if o = z.val then e else 0) = if (⟨o, ho⟩ : Fin 4) = z then e else 0 := fun z => by simp only [Fin.ext_iff]
  show (((if o = (zOf d).val then e else 0) + if o = (zOf d + 1).val then e else 0) + if o = (zOf d + 2).val then e else 0) + (if o = (zOf d + 3).val then e else 0) = e
  rw [hif, hif, hif, hif]
  rcases h4 (zOf d) ⟨o, ho⟩ with ⟨h0, h1, h2, h3⟩ | ⟨h0, h1, h2, h3⟩ | ⟨h0, h1, h2, h3⟩ | ⟨h0, h1, h2, h3⟩
  · rw [if_pos h0, if_neg h1, if_neg h2, if_neg h3]; simp only [add_zero]
  · rw [if_neg h0, if_pos h1, if_neg h2, if_neg h3]; simp only [zero_add, add_zero]
  · rw [if_neg h0, if_neg h1, if_pos h2, if_neg h3]; simp only [zero_add, add_zero]
  · rw [if_neg h0, if_neg h1, if_neg h2, if_pos h3]; simp only [zero_add]

/-- Every device's result is the lookup. -/
theorem outV_eq (c : Dev nD) (r : Fin 2048) (b : Fin 1024) : (outV m c (ValueIdx.ix2 r b) : EReal) = rowOf H r b := by
  refine accV_eq H (devAt ⟨r.val / 512, by omega⟩ (zOf c)) ⟨r.val % 512, Nat.mod_lt _ (by decide)⟩ b r ?_
  rw [rOf_devAt]
  show r.val = 512 * (r.val / 512) + r.val % 512
  omega

end

end Cert.EmbedLookup

end
-- ==== Proof.Ref.lean ====
/-
The reference: the table's rows that the token numbers name. Its run, and its result at an element where the token number is in
the table: the row itself.
-/
module

public import proofs.«01_k».proof.Proof.Gen.ReferenceIdeal
public import Idealize.ShloMosaic.Lib.Claim
public import Idealize.ShloMosaic.Lib.ValueIdx
public import Idealize.ShloMosaic.Lib.Pointwise
public import Idealize.ShloMosaic.Lib.Routing.Ops
public import Idealize.ShloMosaic.Lib.StableHlo.Predicate

@[expose] public section

set_option maxRecDepth 8000

noncomputable section

namespace Cert.EmbedRef

open Cert.ReferenceIdeal Cert.ReferenceIdeal.Gen
open Idealize.ShloMosaic
open Idealize.ShloMosaic.ValueIdx hiding ix0 ix1 ix2 ix3 ix4 ix5
open Idealize.ShloMosaic.TcCoe
open Idealize.SL.Sem

variable {F : FTy → Type} [FloatOps F]

/-- The token numbers as the reference reads them: a negative one counts from the table's end. -/
def wrapped (w : IVec S2048 32) : IVec S2048 32 :=
  select (cmpi .slt w (broadcastInDim S2048 ![] bcast_S_S2048 (constantI S_ 32 0#32))) (addi w (broadcastInDim S2048 ![] bcast_S_S2048 (constantI S_ 32 65536#32))) w

/-- The reference's result. -/
def refOut (w : IVec S2048 32) (E : FVec F S65536x1024 .f32) : FVec F S2048x1024 .f32 :=
  Host.gather gather_S65536x1024_S2048x1_S2048x1024_1_0_n_n_0_1_11024 E (broadcastInDim S2048x1 ![0] bcast_S2048_S2048x1_0 (wrapped w))

/-- The reference's run: the result is `refOut` of the arguments, which it keeps. -/
theorem run_main (m : (ℓ : Loc nD τ sig) → Buf (Elt F) ℓ) (g : Dev nD → PrngReg) :
    θ_run (defs (F := F)) (onTc (τ := τ) (main (F := F))) ⟨m, fun _ => 0, g⟩ (fun r => ∀ c : Dev nD,
      r.2.mem ((c.tc : Thread nD τ).loc main_v6) = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  hlo_run
  all_goals rfl

/-- Where the token number is in the table, the result's row is the table's row. -/
theorem refOut_eq (w : IVec S2048 32) (E : FVec F S65536x1024 .f32) (r : Fin 2048) (b : Fin 1024) (h : (w (ValueIdx.ix1 r)).toNat < 65536) :
    refOut w E (ValueIdx.ix2 r b) = E (ValueIdx.ix2 (⟨(w (ValueIdx.ix1 r)).toNat, h⟩ : Fin 65536) b) := by
  refine Routing.gather_row (nb := 65536) (B := 1024) (n := 2048) _ rfl rfl rfl rfl rfl E _ r b ⟨(w (ValueIdx.ix1 r)).toNat, h⟩ ?_ (by decide)
  have e : broadcastInDim S2048x1 ![0] bcast_S2048_S2048x1_0 (wrapped w) (ValueIdx.ix2 r (0 : Fin 1)) = wrapped w (ValueIdx.ix1 r) := by pointwise; rfl
  rw [e]
  have hn : IntOp.cmpi .slt (w (ValueIdx.ix1 r)) 0#32 ≠ 1#1 := fun hc => by
    have := (Idealize.ShloMosaic.StableHlo.Predicate.slt_iff_toNat (by omega) (by decide)).mp hc
    simp at this
  have e2 : wrapped w (ValueIdx.ix1 r) = w (ValueIdx.ix1 r) := by
    show (if IntOp.cmpi .slt (w (ValueIdx.ix1 r)) 0#32 = 1#1 then _ else _) = _
    exact if_neg hn
  rw [e2]; simp

end Cert.EmbedRef

end
-- ==== Proof.lean ====
/-
Version v09: the vocabulary-sharded embedding lookup on the 2 × 2 × 4 mesh, sixteen devices. One run of the kernel, at a symbolic
device and for any float values (Proof/Launch.lean, read at the arrays in Proof/Values.lean), gives the frames of the printed and of
the exact program and the kernel's half of `algebraic`; Proof/Ref.lean is the reference's run; Proof/Lookup.lean is the
mathematics: every device's result is the table's rows that the token numbers name.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_table_KernelIdeal
public import proofs.«01_k».proof.Proof.Gen.Pre_in_table_ReferenceIdeal
public import proofs.«01_k».proof.Proof.Values
public import proofs.«01_k».proof.Proof.Same
public import proofs.«01_k».proof.Proof.Lookup
public import proofs.«01_k».proof.Proof.Ref
public import Idealize.ShloMosaic.Lib.ReduceAll
public import Idealize.ShloMosaic.Lib.Quiescent

@[expose] public section

set_option maxRecDepth 8000

noncomputable section

namespace Cert.Proof

open Idealize.ShloMosaic Idealize.ShloMosaic.TcCoe Idealize.SL.Sem
open Cert.EmbedProof (run_values)

/-! ## The frames -/

/-- The printed program's frame: from any memory, every run of the sixteen devices ends without a fault, its arguments as they
    were and every semaphore at zero. -/
theorem frame_kernel : Cert.quiescent_Kernel := fun m ρ _ => by
  rw [defs_eq, main_eq]
  exact (θ_run Cert.KernelIdeal.defs _ _).mono (fun _ h => ⟨fun c => (h.1 c).2, h.2⟩) (run_values (F := Bits) m ρ)

/-- The exact program's frame. -/
theorem frame_ideal : Cert.quiescent_KernelIdeal := fun m ρ _ =>
  (θ_run Cert.KernelIdeal.defs _ _).mono (fun _ h => ⟨fun c => (h.1 c).2, h.2⟩) (run_values (F := Ideal) m ρ)

/-- The reference's frame: it has no semaphore. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.EmbedRef.run_main (F := Ideal) m ρ)

/-! ## The value -/

section

variable (m : (ℓ : Loc Cert.KernelIdeal.nD Cert.KernelIdeal.τ Cert.KernelIdeal.sig) → Buf (Elt Ideal) ℓ)

/-- The precondition, read at a token: its number is in the table. -/
theorem tok_lt (hpre : Cert.Pre_KernelIdeal_in_table_KernelIdeal m) (c : Dev Cert.KernelIdeal.nD) (i : Cert.KernelIdeal.S2048.Idx) :
    (show BitVec 32 from m ((c.tc : Thread Cert.KernelIdeal.nD Cert.KernelIdeal.τ).loc Cert.KernelIdeal.main_arg0) i).toNat < 65536 := by
  have h := congrFun (hpre c) (fun a => a.elim0)
  dsimp only [Cert.Pre_in_table_KernelIdeal.fn] at h
  have h' := Host.reduce_andi_all _ _ _ _ _ h i
  generalize hv : (show BitVec 32 from m ((c.tc : Thread Cert.KernelIdeal.nD Cert.KernelIdeal.τ).loc Cert.KernelIdeal.main_arg0) i) = v
  have h2 : IntOp.andi (IntOp.cmpi .sge v 0#32) (IntOp.cmpi .slt v 65536#32) = 1#1 := by rw [← hv]; exact h'
  obtain ⟨ha, hb⟩ := IntOp.andi_eq_one.mp h2
  have h0 : 0 ≤ v.toInt := by
    have := (StableHlo.Predicate.ofBool_eq_one_iff _).mp ha
    simpa using BitVec.sle_iff_toInt_le.mp this
  have h1 : v.toInt < 65536 := by
    have := (StableHlo.Predicate.ofBool_eq_one_iff _).mp hb
    simpa using BitVec.slt_iff_toInt_lt.mp this
  rw [BitVec.toInt_eq_toNat_cond] at h0 h1
  split at h0 <;> omega

variable (m' : (ℓ : Loc Cert.ReferenceIdeal.nD Cert.ReferenceIdeal.τ Cert.ReferenceIdeal.sig) → Buf (Elt Ideal) ℓ)

/-- The reference's arguments. -/
abbrev refIds : IVec Cert.ReferenceIdeal.S2048 32 := m' (((0 : Dev Cert.ReferenceIdeal.nD).tc : Thread Cert.ReferenceIdeal.nD Cert.ReferenceIdeal.τ).loc Cert.ReferenceIdeal.main_arg0)
@[inherit_doc refIds] abbrev refTable : FVec Ideal Cert.ReferenceIdeal.S65536x1024 .f32 := m' (((0 : Dev Cert.ReferenceIdeal.nD).tc : Thread Cert.ReferenceIdeal.nD Cert.ReferenceIdeal.τ).loc Cert.ReferenceIdeal.main_arg1)

/-- The block of the table that a device holds: the one of its `z`. -/
theorem block_row (c : Dev Cert.KernelIdeal.nD) : ((Layout.meshBlock [2, 2, 4] ![[2], []] c) (0 : Fin 2)).val = (Cert.EmbedProof.zOf c).val := by
  revert c; decide
@[inherit_doc block_row] theorem block_col (c : Dev Cert.KernelIdeal.nD) : ((Layout.meshBlock [2, 2, 4] ![[2], []] c) (1 : Fin 2)).val = 0 := by
  revert c; decide

/-- On every device the kernel's result is the reference's. -/
theorem value (hpre : Cert.Pre_KernelIdeal_in_table_KernelIdeal m)
    (hag : ∀ c : Dev Cert.KernelIdeal.nD,
      m ((c.tc : Thread Cert.KernelIdeal.nD Cert.KernelIdeal.τ).loc Cert.KernelIdeal.main_arg0) = refIds m'
      ∧ m ((c.tc : Thread Cert.KernelIdeal.nD Cert.KernelIdeal.τ).loc Cert.KernelIdeal.main_arg1) = Layout.blockN ⟨2, ![16384, 1024]⟩ ⟨2, ![65536, 1024]⟩ (Layout.meshBlock [2, 2, 4] ![[2], []] c) (refTable m'))
    (c : Dev Cert.KernelIdeal.nD) : Cert.EmbedProof.outV m c = Cert.EmbedRef.refOut (F := Ideal) (refIds m') (refTable m') := by
  have H : Cert.EmbedLookup.Shared m (refIds m') (refTable m') :=
    { ids := fun d => (Cert.EmbedProof.idsV_eq m d).trans (hag d).1
      emb := fun d a b => by
        refine (congrFun (hag d).2 (Cert.EmbedProof.ixE a b)).trans ?_
        refine congrArg (refTable m') (funext fun x => Fin.ext ?_)
        match x with
        | ⟨0, _⟩ =>
          show ((Layout.meshBlock [2, 2, 4] ![[2], []] d) (0 : Fin 2)).val * 16384 + a.val = 16384 * (Cert.EmbedProof.zOf d).val + a.val
          rw [block_row]; omega
        | ⟨1, _⟩ =>
          show ((Layout.meshBlock [2, 2, 4] ![[2], []] d) (1 : Fin 2)).val * 1024 + b.val = b.val
          rw [block_col]; omega
      lt := fun i => by rw [← (hag 0).1]; exact tok_lt m hpre 0 i }
  funext i
  obtain ⟨r, b, rfl⟩ : ∃ (r : Fin 2048) (b : Fin 1024), i = ValueIdx.ix2 r b := ⟨i 0, i 1, ValueIdx.eq_ix2 i⟩
  refine (Cert.EmbedLookup.outV_eq H c r b).trans ?_
  have e : Cert.EmbedProof.ixI r = ValueIdx.ix1 r := funext fun x => by match x with | ⟨0, _⟩ => rfl
  refine Eq.trans ?_ (Cert.EmbedRef.refOut_eq (F := Ideal) (refIds m') (refTable m') r b (H.lt _)).symm
  refine congrArg (fun q => refTable m' (ValueIdx.ix2 q b)) (Fin.ext ?_)
  show (refIds m' (Cert.EmbedProof.ixI r)).toNat = (refIds m' (ValueIdx.ix1 r)).toNat
  rw [e]

end

/-- In exact arithmetic, from memories that agree on the arguments and hold token numbers in the table, the kernel leaves the
    reference's result on every device. -/
theorem algebraic : Cert.algebraic_KernelIdeal_ReferenceIdeal_pre_in_table_KernelIdeal := fun m g m' g' hpre hag =>
  ⟨Cert.EmbedRef.refOut (F := Ideal) (refIds m') (refTable m'),
    (θ_run Cert.KernelIdeal.defs _ _).mono (fun _ h c => ⟨((h.1 c).1).trans (value m m' hpre hag c), (h.1 c).2⟩) (run_values (F := Ideal) m g),
    (θ_run Cert.ReferenceIdeal.defs _ _).mono (fun _ h => h 0) (Cert.EmbedRef.run_main (F := Ideal) m' g')⟩

/-- The certificate's claims. -/
theorem claim : Cert.Claim := ⟨Cert.Kernel.Gen.facts, Cert.KernelIdeal.Gen.facts, Cert.ReferenceIdeal.Gen.facts, Cert.Pre_in_table_KernelIdeal.Gen.facts, Cert.Pre_in_table_ReferenceIdeal.Gen.facts,
  frame_kernel, frame_ideal, fun m g _ => frame_ideal m g trivial, frame_ref, fun m g _ => frame_ref m g trivial, trivial, algebraic⟩

end Cert.Proof

end
